-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ones_lane [hPre_ones_lane : Cert.Pre_ones_lane.Facts] (m : (ℓ : Loc Cert.KernelIdeal.nD Cert.KernelIdeal.τ Cert.KernelIdeal.sig) → Buf (Elt Ideal) ℓ) : Prop :=
  ∀ c : Dev Cert.KernelIdeal.nD,
    (Cert.Pre_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ones_lane [hPre_ones_lane : Cert.Pre_ones_lane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scores [hPre_finite_scores : Cert.Pre_finite_scores.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scores [hPre_finite_scores : Cert.Pre_finite_scores.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_zero_lanes [hPre_zero_lanes : Cert.Pre_zero_lanes.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_zero_lanes.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_zero_lanes [hPre_zero_lanes : Cert.Pre_zero_lanes.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_zero_lanes.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ones_lane [hKernelIdeal : Cert.KernelIdeal.Facts] [hPre_ones_lane : Cert.Pre_ones_lane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ones_lane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ones_lane [hReferenceIdeal : Cert.ReferenceIdeal.Facts] [hPre_ones_lane : Cert.Pre_ones_lane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ones_lane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_scores [hKernel4Ideal : Cert.Kernel4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scores m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_scores [hReference4Ideal : Cert.Reference4Ideal.Facts] [hPre_finite_scores : Cert.Pre_finite_scores.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scores m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_zero_lanes [hKernel5Ideal : Cert.Kernel5Ideal.Facts] [hPre_zero_lanes : Cert.Pre_zero_lanes.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_zero_lanes m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_zero_lanes [hReference5Ideal : Cert.Reference5Ideal.Facts] [hPre_zero_lanes : Cert.Pre_zero_lanes.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_zero_lanes m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_ones_lane [hKernelIdeal : Cert.KernelIdeal.Facts] [hReferenceIdeal : Cert.ReferenceIdeal.Facts] [hPre_ones_lane : Cert.Pre_ones_lane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ones_lane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)) (v4 : (c : Dev Cert.Kernel2Ideal.nD) → Buf (Elt Ideal) ((c.tc : Thread Cert.Kernel2Ideal.nD Cert.Kernel2Ideal.τ).loc Cert.Kernel2Ideal.main_v1_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_v1_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_v34) = v3 c
          ∧ r.2.mem ((c.tc : Thread Cert.Reference2Ideal.nD Cert.Reference2Ideal.τ).loc Cert.Reference2Ideal.main_v35) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite_scores [hKernel4Ideal : Cert.Kernel4Ideal.Facts] [hReference4Ideal : Cert.Reference4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scores m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "inv_head" .f32 0x3C2AAAAB#32 ((1 / 96 : ℝ) : EReal)

def algebraic_Kernel5Ideal_Reference5Ideal_pre_zero_lanes [hKernel5Ideal : Cert.Kernel5Ideal.Facts] [hReference5Ideal : Cert.Reference5Ideal.Facts] [hPre_zero_lanes : Cert.Pre_zero_lanes.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_zero_lanes m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v29_0)) (v1 : (c : Dev Cert.Kernel5Ideal.nD) → Buf (Elt Ideal) ((c.tc : Thread Cert.Kernel5Ideal.nD Cert.Kernel5Ideal.τ).loc Cert.Kernel5Ideal.main_v29_1)) (v2 : (c : Dev Cert.Kernel5Ideal.nD) → Buf (Elt Ideal) ((c.tc : Thread Cert.Kernel5Ideal.nD Cert.Kernel5Ideal.τ).loc Cert.Kernel5Ideal.main_v29_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29_0) = v0 c
          ∧ r.2.mem ((c.tc : Thread Cert.Kernel5Ideal.nD Cert.Kernel5Ideal.τ).loc Cert.Kernel5Ideal.main_v29_1) = v1 c
          ∧ r.2.mem ((c.tc : Thread Cert.Kernel5Ideal.nD Cert.Kernel5Ideal.τ).loc Cert.Kernel5Ideal.main_v29_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v115) = v0 c
          ∧ r.2.mem ((c.tc : Thread Cert.Reference5Ideal.nD Cert.Reference5Ideal.τ).loc Cert.Reference5Ideal.main_v118) = v1 c
          ∧ r.2.mem ((c.tc : Thread Cert.Reference5Ideal.nD Cert.Reference5Ideal.τ).loc Cert.Reference5Ideal.main_v121) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_ones_lane : Cert.Pre_ones_lane.Facts) (hPre_finite_scores : Cert.Pre_finite_scores.Facts) (hPre_zero_lanes : Cert.Pre_zero_lanes.Facts),
    quiescent_Kernel (hKernel := hKernel)
    ∧ quiescent_KernelIdeal (hKernelIdeal := hKernelIdeal)
    ∧ quiescent_KernelIdeal_pre_ones_lane (hKernelIdeal := hKernelIdeal) (hPre_ones_lane := hPre_ones_lane)
    ∧ quiescent_ReferenceIdeal (hReferenceIdeal := hReferenceIdeal)
    ∧ quiescent_ReferenceIdeal_pre_ones_lane (hReferenceIdeal := hReferenceIdeal) (hPre_ones_lane := hPre_ones_lane)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_scores (hKernel4Ideal := hKernel4Ideal) (hPre_finite_scores := hPre_finite_scores)
    ∧ quiescent_Reference4Ideal (hReference4Ideal := hReference4Ideal)
    ∧ quiescent_Reference4Ideal_pre_finite_scores (hReference4Ideal := hReference4Ideal) (hPre_finite_scores := hPre_finite_scores)
    ∧ quiescent_Kernel5 (hKernel5 := hKernel5)
    ∧ quiescent_Kernel5Ideal (hKernel5Ideal := hKernel5Ideal)
    ∧ quiescent_Kernel5Ideal_pre_zero_lanes (hKernel5Ideal := hKernel5Ideal) (hPre_zero_lanes := hPre_zero_lanes)
    ∧ quiescent_Reference5Ideal (hReference5Ideal := hReference5Ideal)
    ∧ quiescent_Reference5Ideal_pre_zero_lanes (hReference5Ideal := hReference5Ideal) (hPre_zero_lanes := hPre_zero_lanes)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_ones_lane (hKernelIdeal := hKernelIdeal) (hReferenceIdeal := hReferenceIdeal) (hPre_ones_lane := hPre_ones_lane)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_scores (hKernel4Ideal := hKernel4Ideal) (hReference4Ideal := hReference4Ideal) (hPre_finite_scores := hPre_finite_scores)
    ∧ preserves_Kernel5_Kernel5Ideal
    ∧ algebraic_Kernel5Ideal_Reference5Ideal_pre_zero_lanes (hKernel5Ideal := hKernel5Ideal) (hReference5Ideal := hReference5Ideal) (hPre_zero_lanes := hPre_zero_lanes)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S32768x1024 : Shape := ⟨2, ![32768, 1024]⟩
abbrev S1024x1024 : Shape := ⟨2, ![1024, 1024]⟩
abbrev S8x2x128x64 : Shape := ⟨4, ![8, 2, 128, 64]⟩
abbrev S_ : Shape := ⟨0, ![]⟩

class Facts : Prop where
  bcast_S_S32768x1024 : S_.BroadcastsInDim S32768x1024 (![] : Fin 0 → Fin S32768x1024.rank)
  bcast_S_S1024x1024 : S_.BroadcastsInDim S1024x1024 (![] : Fin 0 → Fin S1024x1024.rank)
  bcast_S_S8x2x128x64 : S_.BroadcastsInDim S8x2x128x64 (![] : Fin 0 → Fin S8x2x128x64.rank)

variable [Facts]

def fn {F : FTy → Type} [FloatOps F] (main_arg0 : FVec F S32768x1024 .f32) (main_arg1 : FVec F S1024x1024 .f32) (main_arg2 : FVec F S8x2x128x64 .f32) : IVec S32768x1024 1 × IVec S1024x1024 1 × IVec S8x2x128x64 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8x2x128x64 .f32 := Host.absf main_arg2
  let main_cst_1 : FVec F S_ .f32 := constant S_ .f32 0x7F800000#32
  let main_v7 : FVec F S8x2x128x64 .f32 := broadcastInDim S8x2x128x64 ![] bcast_S_S8x2x128x64 main_cst_1
  let main_v8 : IVec S8x2x128x64 1 := cmpf .olt main_v6 main_v7
  (main_v2, main_v5, main_v8)
-- ==== Pre_ones_lane.lean ====
abbrev S8x4096x1024 : Shape := ⟨3, ![8, 4096, 1024]⟩
abbrev S8x256x1024 : Shape := ⟨3, ![8, 256, 1024]⟩
abbrev S_ : Shape := ⟨0, ![]⟩
abbrev S8x256x8 : Shape := ⟨3, ![8, 256, 8]⟩
abbrev S8x4096x8 : Shape := ⟨3, ![8, 4096, 8]⟩

class Facts : Prop where
  bcast_S_S8x4096x1024 : S_.BroadcastsInDim S8x4096x1024 (![] : Fin 0 → Fin S8x4096x1024.rank)
  bcast_S_S8x256x1024 : S_.BroadcastsInDim S8x256x1024 (![] : Fin 0 → Fin S8x256x1024.rank)
  slicesBy_S8x256x1024_S8x256x8_0s1_0s1_64s128 : S8x256x1024.SlicesBy (![0, 0, 64] : Fin 3 → Nat) ![1, 1, 128] S8x256x8
  bcast_S_S8x256x8 : S_.BroadcastsInDim S8x256x8 (![] : Fin 0 → Fin S8x256x8.rank)
  slicesBy_S8x4096x1024_S8x4096x8_0s1_0s1_64s128 : S8x4096x1024.SlicesBy (![0, 0, 64] : Fin 3 → Nat) ![1, 1, 128] S8x4096x8
  bcast_S_S8x4096x8 : S_.BroadcastsInDim S8x4096x8 (![] : Fin 0 → Fin S8x4096x8.rank)

variable [Facts]

def fn {F : FTy → Type} [FloatOps F] (main_arg0 : FVec F S8x4096x1024 .bf16) (main_arg1 : FVec F S8x256x1024 .bf16) (main_arg2 : FVec F S8x256x1024 .bf16) (main_arg3 : FVec F S8x4096x1024 .bf16) (main_arg4 : FVec F S8x4096x1024 .bf16) : IVec S8x4096x1024 1 × IVec S8x256x1024 1 × IVec S8x4096x1024 1 × IVec S8x256x8 1 × IVec S8x4096x8 1 :=
  let main_v0 : FVec F S8x4096x1024 .bf16 := Host.absf main_arg0
  let main_cst : FVec F S_ .bf16 := constant S_ .bf16 0x7F80#16
  let main_v1 : FVec F S8x4096x1024 .bf16 := broadcastInDim S8x4096x1024 ![] bcast_S_S8x4096x1024 main_cst
  let main_v2 : IVec S8x4096x1024 1 := cmpf .olt main_v0 main_v1
  let main_v3 : FVec F S8x256x1024 .bf16 := Host.absf main_arg1
  let main_cst_0 : FVec F S_ .bf16 := constant S_ .bf16 0x7F80#16
  let main_v4 : FVec F S8x256x1024 .bf16 := broadcastInDim S8x256x1024 ![] bcast_S_S8x256x1024 main_cst_0
  let main_v5 : IVec S8x256x1024 1 := cmpf .olt main_v3 main_v4
  let main_v6 : FVec F S8x4096x1024 .bf16 := Host.absf main_arg3
  let main_cst_1 : FVec F S_ .bf16 := constant S_ .bf16 0x7F80#16
  let main_v7 : FVec F S8x4096x1024 .bf16 := broadcastInDim S8x4096x1024 ![] bcast_S_S8x4096x1024 main_cst_1
  let main_v8 : IVec S8x4096x1024 1 := cmpf .olt main_v6 main_v7
  let main_v9 : FVec F S8x256x8 .bf16 := (Host.slice S8x256x8 ![0, 0, 64] ![1, 1, 128] · slicesBy_S8x256x1024_S8x256x8_0s1_0s1_64s128) main_arg2
  let main_cst_2 : FVec F S_ .bf16 := constant S_ .bf16 0x3F80#16
  let main_v10 : FVec F S8x256x8 .bf16 := broadcastInDim S8x256x8 ![] bcast_S_S8x256x8 main_cst_2
  let main_v11 : IVec S8x256x8 1 := cmpf .oeq main_v9 main_v10
  let main_v12 : FVec F S8x4096x8 .bf16 := (Host.slice S8x4096x8 ![0, 0, 64] ![1, 1, 128] · slicesBy_S8x4096x1024_S8x4096x8_0s1_0s1_64s128) main_arg4
  let main_cst_3 : FVec F S_ .bf16 := constant S_ .bf16 0x3F80#16
  let main_v13 : FVec F S8x4096x8 .bf16 := broadcastInDim S8x4096x8 ![] bcast_S_S8x4096x8 main_cst_3
  let main_v14 : IVec S8x4096x8 1 := cmpf .oeq main_v12 main_v13
  (main_v2, main_v5, main_v8, main_v11, main_v14)
-- ==== Pre_zero_lanes.lean ====
abbrev S8x4096x256 : Shape := ⟨3, ![8, 4096, 256]⟩
abbrev S4096x32 : Shape := ⟨2, ![4096, 32]⟩
abbrev S128 : Shape := ⟨1, ![128]⟩
abbrev S128x1024 : Shape := ⟨2, ![128, 1024]⟩
abbrev S256 : Shape := ⟨1, ![256]⟩
abbrev S256x768 : Shape := ⟨2, ![256, 768]⟩
abbrev S96 : Shape := ⟨1, ![96]⟩
abbrev S8x4096x96 : Shape := ⟨3, ![8, 4096, 96]⟩
abbrev S_ : Shape := ⟨0, ![]⟩

class Facts : Prop where
  slices_S8x4096x256_S8x4096x96_0_0_160 : S8x4096x256.Slices ![0, 0, 160] S8x4096x96
  bcast_S_S8x4096x96 : S_.BroadcastsInDim S8x4096x96 (![] : Fin 0 → Fin S8x4096x96.rank)

variable [Facts]

def fn {F : FTy → Type} [FloatOps F] (main_arg0 : FVec F S8x4096x256 .f32) (main_arg1 : FVec F S8x4096x256 .f32) (main_arg2 : FVec F S4096x32 .f32) (main_arg3 : FVec F S4096x32 .f32) (main_arg4 : FVec F S128 .f32) (main_arg5 : FVec F S128x1024 .f32) (main_arg6 : FVec F S256 .f32) (main_arg7 : FVec F S256x768 .f32) (main_arg8 : FVec F S96 .f32) (main_arg9 : FVec F S96 .f32) : IVec S8x4096x96 1 :=
  let main_v0 : FVec F S8x4096x96 .f32 := (extractStridedSlice S8x4096x96 ![0, 0, 160] · slices_S8x4096x256_S8x4096x96_0_0_160) main_arg0
  let main_cst : FVec F S_ .f32 := constant S_ .f32 0x00000000#32
  let main_v1 : FVec F S8x4096x96 .f32 := broadcastInDim S8x4096x96 ![] bcast_S_S8x4096x96 main_cst
  let main_v2 : IVec S8x4096x96 1 := cmpf .oeq main_v0 main_v1
  main_v2
-- ==== Kernel.lean ====
abbrev S8x4096x1024 : Shape := ⟨3, ![8, 4096, 1024]⟩
abbrev S8x256x1024 : Shape := ⟨3, ![8, 256, 1024]⟩
abbrev S1x256x1024 : Shape := ⟨3, ![1, 256, 1024]⟩
abbrev S1x4096x1024 : Shape := ⟨3, ![1, 4096, 1024]⟩
abbrev S1x256x128 : Shape := ⟨3, ![1, 256, 128]⟩
abbrev S256x128 : Shape := ⟨2, ![256, 128]⟩
abbrev S256x1 : Shape := ⟨2, ![256, 1]⟩
abbrev S256x256 : Shape := ⟨2, ![256, 256]⟩
abbrev S256 : Shape := ⟨1, ![256]⟩
abbrev S1x512x128 : Shape := ⟨3, ![1, 512, 128]⟩
abbrev S512x128 : Shape := ⟨2, ![512, 128]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S8x4096x1024, .bf16⟩
  | .hbm, ⟨1, _⟩ => ⟨S8x256x1024, .bf16⟩
  | .hbm, ⟨2, _⟩ => ⟨S8x256x1024, .bf16⟩
  | .hbm, ⟨3, _⟩ => ⟨S8x4096x1024, .bf16⟩
  | .hbm, ⟨4, _⟩ => ⟨S8x4096x1024, .bf16⟩
  | .hbm, ⟨5, _⟩ => ⟨S8x4096x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x4096x1024, .bf16⟩
  | .local _ .vmem, ⟨7, _⟩ => ⟨S1x4096x1024, .bf16⟩
  | .local _ .vmem, ⟨8, _⟩ => ⟨S1x4096x1024, .bf16⟩
  | .local _ .vmem, ⟨9, _⟩ => ⟨S1x4096x1024, .bf16⟩
  | .local _ .vmem, ⟨10, _⟩ => ⟨S1x256x1024, .f32⟩
  | .local _ .vmem, ⟨11, _⟩ => ⟨S1x256x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  let c256_i32 : BitVec 32 := 256#32
  let v16 : BitVec 32 := Scalar.muli c0_i32 c256_i32
  v16
def k0_off1 : Fin 3 → Nat :=
  let c0_15 : Index := 0#32
  let c0_i32 : BitVec 32 := 0#32
  let c256_i32 : BitVec 32 := 256#32
  let v16 : BitVec 32 := Scalar.muli c0_i32 c256_i32
  let v17 : BitVec 32 := v16
  let v18 : Index := Scalar.indexCast v17
  let c0_16 : Index := 0#32
  ![0, v18.toNat, 0]
def k0_off2 : Fin 3 → Nat :=
  let c0_22 : Index := 0#32
  let c0_i32 : BitVec 32 := 0#32
  let c256_i32 : BitVec 32 := 256#32
  let v16 : BitVec 32 := Scalar.muli c0_i32 c256_i32
  let v17 : BitVec 32 := v16
  let v38 : Index := Scalar.indexCast v17
  let c128_23 : Index := 128#32
  ![0, v38.toNat, 128]
def k0_off3 : Fin 3 → Nat :=
  let c0_29 : Index := 0#32
  let c0_i32 : BitVec 32 := 0#32
  let c256_i32 : BitVec 32 := 256#32
  let v16 : BitVec 32 := Scalar.muli c0_i32 c256_i32
  let v17 : BitVec 32 := v16
  let v58 : Index := Scalar.indexCast v17
  let c256_30 : Index := 256#32
  ![0, v58.toNat, 256]
def k0_off4 : Fin 3 → Nat :=
  let c0_36 : Index := 0#32
  let c0_i32 : BitVec 32 := 0#32
  let c256_i32 : BitVec 32 := 256#32
  let v16 : BitVec 32 := Scalar.muli c0_i32 c256_i32
  let v17 : BitVec 32 := v16
  let v78 : Index := Scalar.indexCast v17
  let c384_37 : Index := 384#32
  ![0, v78.toNat, 384]
@[reducible] def k0_t1_loop : Scf.Loop 32 :=
  let c0_i32_43 : BitVec 32 := 0#32
  let c8_i32 : BitVec 32 := 8#32
  let v98 : BitVec 32 := Scalar.addi c0_i32_43 c8_i32
  let c1_i32_44 : BitVec 32 := 1#32
  ⟨c0_i32_43, v98, c1_i32_44⟩
def k0_mult2 (k0_t1 : Fin k0_t1_loop.trips) : BitVec 32 :=
  let c0_i32_43 : BitVec 32 := 0#32
  let c1_i32_44 : BitVec 32 := 1#32
  let arg8 : BitVec 32 := Scf.iv c0_i32_43 c1_i32_44 k0_t1
  let c512_i32 : BitVec 32 := 512#32
  let v248 : BitVec 32 := Scalar.muli arg8 c512_i32
  v248
def k0_off5 (k0_t1 : Fin k0_t1_loop.trips) : Fin 3 → Nat :=
  let c0_121 : Index := 0#32
  let c0_i32_43 : BitVec 32 := 0#32
  let c1_i32_44 : BitVec 32 := 1#32
  let arg8 : BitVec 32 := Scf.iv c0_i32_43 c1_i32_44 k0_t1
  let c512_i32 : BitVec 32 := 512#32
  let v248 : BitVec 32 := Scalar.muli arg8 c512_i32
  let v249 : BitVec 32 := v248
  let v250 : Index := Scalar.indexCast v249
  let c0_122 : Index := 0#32
  ![0, v250.toNat, 0]
def k0_off6 (k0_t1 : Fin k0_t1_loop.trips) : Fin 3 → Nat :=
  let c0_128 : Index := 0#32
  let c0_i32_43 : BitVec 32 := 0#32
  let c1_i32_44 : BitVec 32 := 1#32
  let arg8 : BitVec 32 := Scf.iv c0_i32_43 c1_i32_44 k0_t1
  let c512_i32 : BitVec 32 := 512#32
  let v248 : BitVec 32 := Scalar.muli arg8 c512_i32
  let v249 : BitVec 32 := v248
  let v270 : Index := Scalar.indexCast v249
  let c128_129 : Index := 128#32
  ![0, v270.toNat, 128]
def k0_off7 (k0_t1 : Fin k0_t1_loop.trips) : Fin 3 → Nat :=
  let c0_135 : Index := 0#32
  let c0_i32_43 : BitVec 32 := 0#32
  let c1_i32_44 : BitVec 32 := 1#32
  let arg8 : BitVec 32 := Scf.iv c0_i32_43 c1_i32_44 k0_t1
  let c512_i32 : BitVec 32 := 512#32
  let v248 : BitVec 32 := Scalar.muli arg8 c512_i32
  let v249 : BitVec 32 := v248
  let v290 : Index := Scalar.indexCast v249
  let c256_136 : Index := 256#32
  ![0, v290.toNat, 256]
def k0_off8 (k0_t1 : Fin k0_t1_loop.trips) : Fin 3 → Nat :=
  let c0_142 : Index := 0#32
  let c0_i32_43 : BitVec 32 := 0#32
  let c1_i32_44 : BitVec 32 := 1#32
  let arg8 : BitVec 32 := Scf.iv c0_i32_43 c1_i32_44 k0_t1
  let c512_i32 : BitVec 32 := 512#32
  let v248 : BitVec 32 := Scalar.muli arg8 c512_i32
  let v249 : BitVec 32 := v248
  let v310 : Index := Scalar.indexCast v249
  let c384_143 : Index := 384#32
  ![0, v310.toNat, 384]
def k0_mult3 : BitVec 32 :=
  let c0_i32_74 : BitVec 32 := 0#32
  let c256_i32_75 : BitVec 32 := 256#32
  let v140 : BitVec 32 := Scalar.muli c0_i32_74 c256_i32_75
  v140
def k0_off9 : Fin 3 → Nat :=
  let c0_76 : Index := 0#32
  let c0_i32_74 : BitVec 32 := 0#32
  let c256_i32_75 : BitVec 32 := 256#32
  let v140 : BitVec 32 := Scalar.muli c0_i32_74 c256_i32_75
  let v141 : BitVec 32 := v140
  let v142 : Index := Scalar.indexCast v141
  let c512_77 : Index := 512#32
  ![0, v142.toNat, 512]
def k0_off10 : Fin 3 → Nat :=
  let c0_83 : Index := 0#32
  let c0_i32_74 : BitVec 32 := 0#32
  let c256_i32_75 : BitVec 32 := 256#32
  let v140 : BitVec 32 := Scalar.muli c0_i32_74 c256_i32_75
  let v141 : BitVec 32 := v140
  let v162 : Index := Scalar.indexCast v141
  let c640_84 : Index := 640#32
  ![0, v162.toNat, 640]
def k0_off11 : Fin 3 → Nat :=
  let c0_90 : Index := 0#32
  let c0_i32_74 : BitVec 32 := 0#32
  let c256_i32_75 : BitVec 32 := 256#32
  let v140 : BitVec 32 := Scalar.muli c0_i32_74 c256_i32_75
  let v141 : BitVec 32 := v140
  let v182 : Index := Scalar.indexCast v141
  let c768_91 : Index := 768#32
  ![0, v182.toNat, 768]
def k0_off12 : Fin 3 → Nat :=
  let c0_97 : Index := 0#32
  let c0_i32_74 : BitVec 32 := 0#32
  let c256_i32_75 : BitVec 32 := 256#32
  let v140 : BitVec 32 := Scalar.muli c0_i32_74 c256_i32_75
  let v141 : BitVec 32 := v140
  let v202 : Index := Scalar.indexCast v141
  let c896_98 : Index := 896#32
  ![0, v202.toNat, 896]
@[reducible] def k0_t2_loop : Scf.Loop 32 :=
  let c0_i32_105 : BitVec 32 := 0#32
  let c8_i32_106 : BitVec 32 := 8#32
  let v222 : BitVec 32 := Scalar.addi c0_i32_105 c8_i32_106
  let c1_i32_107 : BitVec 32 := 1#32
  ⟨c0_i32_105, v222, c1_i32_107⟩
def k0_mult4 (k0_t2 : Fin k0_t2_loop.trips) : BitVec 32 :=
  let c0_i32_105 : BitVec 32 := 0#32
  let c1_i32_107 : BitVec 32 := 1#32
  let arg8 : BitVec 32 := Scf.iv c0_i32_105 c1_i32_107 k0_t2
  let c512_i32 : BitVec 32 := 512#32
  let v248 : BitVec 32 := Scalar.muli arg8 c512_i32
  v248
def k0_off13 (k0_t2 : Fin k0_t2_loop.trips) : Fin 3 → Nat :=
  let c0_121 : Index := 0#32
  let c0_i32_105 : BitVec 32 := 0#32
  let c1_i32_107 : BitVec 32 := 1#32
  let arg8 : BitVec 32 := Scf.iv c0_i32_105 c1_i32_107 k0_t2
  let c512_i32 : BitVec 32 := 512#32
  let v248 : BitVec 32 := Scalar.muli arg8 c512_i32
  let v249 : BitVec 32 := v248
  let v250 : Index := Scalar.indexCast v249
  let c512_122 : Index := 512#32
  ![0, v250.toNat, 512]
def k0_off14 (k0_t2 : Fin k0_t2_loop.trips) : Fin 3 → Nat :=
  let c0_128 : Index := 0#32
  let c0_i32_105 : BitVec 32 := 0#32
  let c1_i32_107 : BitVec 32 := 1#32
  let arg8 : BitVec 32 := Scf.iv c0_i32_105 c1_i32_107 k0_t2
  let c512_i32 : BitVec 32 := 512#32
  let v248 : BitVec 32 := Scalar.muli arg8 c512_i32
  let v249 : BitVec 32 := v248
  let v270 : Index := Scalar.indexCast v249
  let c640_129 : Index := 640#32
  ![0, v270.toNat, 640]
def k0_off15 (k0_t2 : Fin k0_t2_loop.trips) : Fin 3 → Nat :=
  let c0_135 : Index := 0#32
  let c0_i32_105 : BitVec 32 := 0#32
  let c1_i32_107 : BitVec 32 := 1#32
  let arg8 : BitVec 32 := Scf.iv c0_i32_105 c1_i32_107 k0_t2
  let c512_i32 : BitVec 32 := 512#32
  let v248 : BitVec 32 := Scalar.muli arg8 c512_i32
  let v249 : BitVec 32 := v248
  let v290 : Index := Scalar.indexCast v249
  let c768_136 : Index := 768#32
  ![0, v290.toNat, 768]
def k0_off16 (k0_t2 : Fin k0_t2_loop.trips) : Fin 3 → Nat :=
  let c0_142 : Index := 0#32
  let c0_i32_105 : BitVec 32 := 0#32
  let c1_i32_107 : BitVec 32 := 1#32
  let arg8 : BitVec 32 := Scf.iv c0_i32_105 c1_i32_107 k0_t2
  let c512_i32 : BitVec 32 := 512#32
  let v248 : BitVec 32 := Scalar.muli arg8 c512_i32
  let v249 : BitVec 32 := v248
  let v310 : Index := Scalar.indexCast v249
  let c896_143 : Index := 896#32
  ![0, v310.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x1024 : Shape := ⟨3, ![8, 4096, 1024]⟩
abbrev S8x256x1024 : Shape := ⟨3, ![8, 256, 1024]⟩
abbrev S8x256x8x128 : Shape := ⟨4, ![8, 256, 8, 128]⟩
abbrev S8x4096x8x128 : Shape := ⟨4, ![8, 4096, 8, 128]⟩
abbrev S8x4352x8x128 : Shape := ⟨4, ![8, 4352, 8, 128]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x256x1024, .bf16⟩
  | .hbm, ⟨2, _⟩ => ⟨S8x256x1024, .bf16⟩
  | .hbm, ⟨3, _⟩ => ⟨S8x4096x1024, .bf16⟩
  | .hbm, ⟨4, _⟩ => ⟨S8x4096x1024, .bf16⟩
  | .hbm, ⟨5, _⟩ => ⟨S8x256x1024, .f32⟩
  | .hbm, ⟨6, _⟩ => ⟨S8x256x8x128, .f32⟩
  | .hbm, ⟨7, _⟩ => ⟨S8x4096x1024, .f32⟩
  | .hbm, ⟨8, _⟩ => ⟨S8x4096x8x128, .f32⟩
  | .hbm, ⟨9, _⟩ => ⟨S8x4352x8x128, .f32⟩
  | .hbm, ⟨10, _⟩ => ⟨S8x256x1024, .f32⟩
  | .hbm, ⟨11, _⟩ => ⟨S8x256x8x128, .f32⟩
  | .hbm, ⟨12, _⟩ => ⟨S8x4096x1024, .f32⟩
  | .hbm, ⟨13, _⟩ => ⟨S8x4096x8x128, .f32⟩
  | .hbm, ⟨14, _⟩ => ⟨S8x4352x8x128, .f32⟩
  | .hbm, ⟨15, _⟩ => ⟨S8x4096x1024, .f32⟩
  | .hbm, ⟨16, _⟩ => ⟨S8x4096x8x128, .f32⟩
  | .hbm, ⟨17, _⟩ => ⟨S8x8x4096x4352, .f32⟩
  | .hbm, ⟨18, _⟩ => ⟨S_, .f32⟩
  | .hbm, ⟨19, _⟩ => ⟨S8x8x4096, .f32⟩
  | .hbm, ⟨20, _⟩ => ⟨S_, .f32⟩
  | .hbm, ⟨21, _⟩ => ⟨S8x8x4096, .f32⟩
  | .hbm, ⟨22, _⟩ => ⟨S8x8x4096, .f32⟩
  | .hbm, ⟨23, _⟩ => ⟨S8x8x4096x1, .f32⟩
  | .hbm, ⟨24, _⟩ => ⟨S8x8x4096x4352, .f32⟩
  | .hbm, ⟨25, _⟩ => ⟨S8x8x4096x4352, .f32⟩
  | .hbm, ⟨26, _⟩ => ⟨S8x8x4096x4352, .f32⟩
  | .hbm, ⟨27, _⟩ => ⟨S_, .f32⟩
  | .hbm, ⟨28, _⟩ => ⟨S8x8x4096, .f32⟩
  | .hbm, ⟨29, _⟩ => ⟨S8x8x4096x1, .f32⟩
  | .hbm, ⟨30, _⟩ => ⟨S8x8x4096x4352, .f32⟩
  | .hbm, ⟨31, _⟩ => ⟨S8x8x4096x4352, .f32⟩
  | .hbm, ⟨32, _⟩ => ⟨S8x8x128x4096, .f32⟩
  | .hbm, ⟨33, _⟩ => ⟨S8x4096x8x128, .f32⟩
  | .hbm, ⟨34, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel2.lean ====
abbrev S8x4096x1024 : Shape := ⟨3, ![8, 4096, 1024]⟩
abbrev S16x1x6144 : Shape := ⟨3, ![16, 1, 6144]⟩
abbrev S1024 : Shape := ⟨1, ![1024]⟩
abbrev S1024x4352 : Shape := ⟨2, ![1024, 4352]⟩
abbrev S1x1024 : Shape := ⟨2, ![1, 1024]⟩
abbrev S8x4096x256 : Shape := ⟨3, ![8, 4096, 256]⟩
abbrev S8x4096x512 : Shape := ⟨3, ![8, 4096, 512]⟩
abbrev S8x4096x3072 : Shape := ⟨3, ![8, 4096, 3072]⟩
abbrev S1x256x1024 : Shape := ⟨3, ![1, 256, 1024]⟩
abbrev S1x1x6144 : Shape := ⟨3, ![1, 1, 6144]⟩
abbrev S1x256x256 : Shape := ⟨3, ![1, 256, 256]⟩
abbrev S1x256x512 : Shape := ⟨3, ![1, 256, 512]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x256 : Shape := ⟨2, ![1024, 256]⟩
abbrev S256x256 : Shape := ⟨2, ![256, 256]⟩
abbrev S1024x512 : Shape := ⟨2, ![1024, 512]⟩
abbrev S256x512 : Shape := ⟨2, ![256, 512]⟩
abbrev S1024x1024 : Shape := ⟨2, ![1024, 1024]⟩

abbrev nBuf : Space → Nat
  | .hbm => 10
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S16x1x6144, .f32⟩
  | .hbm, ⟨2, _⟩ => ⟨S1024, .f32⟩
  | .hbm, ⟨3, _⟩ => ⟨S1024x4352, .bf16⟩
  | .hbm, ⟨4, _⟩ => ⟨S1x1024, .f32⟩
  | .hbm, ⟨5, _⟩ => ⟨S8x4096x256, .f32⟩
  | .hbm, ⟨6, _⟩ => ⟨S8x4096x256, .f32⟩
  | .hbm, ⟨7, _⟩ => ⟨S8x4096x256, .f32⟩
  | .hbm, ⟨8, _⟩ => ⟨S8x4096x512, .f32⟩
  | .hbm, ⟨9, _⟩ => ⟨S8x4096x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x4352, .bf16⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x512, .f32⟩
  | .local _ .vmem, ⟨13, _⟩ => ⟨S1x256x512, .f32⟩
  | .local _ .vmem, ⟨14, _⟩ => ⟨S1x256x3072, .f32⟩
  | .local _ .vmem, ⟨15, _⟩ => ⟨S1x256x3072, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4352 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x4096x1024 : Shape := ⟨3, ![8, 4096, 1024]⟩
abbrev S16x1x6144 : Shape := ⟨3, ![16, 1, 6144]⟩
abbrev S1024 : Shape := ⟨1, ![1024]⟩
abbrev S1024x4352 : Shape := ⟨2, ![1024, 4352]⟩
abbrev S8x1x6144 : Shape := ⟨3, ![8, 1, 6144]⟩
abbrev S8x6144 : Shape := ⟨2, ![8, 6144]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x4352 : Shape := ⟨3, ![8, 4096, 4352]⟩
abbrev S8x4096x256 : Shape := ⟨3, ![8, 4096, 256]⟩
abbrev S8x4096x512 : Shape := ⟨3, ![8, 4096, 512]⟩
abbrev S8x4096x3072 : Shape := ⟨3, ![8, 4096, 3072]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1x6144, .f32⟩
  | .hbm, ⟨2, _⟩ => ⟨S1024, .f32⟩
  | .hbm, ⟨3, _⟩ => ⟨S1024x4352, .bf16⟩
  | .hbm, ⟨4, _⟩ => ⟨S8x1x6144, .f32⟩
  | .hbm, ⟨5, _⟩ => ⟨S8x6144, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S1024x4352, .f32⟩
  | .hbm, ⟨38, _⟩ => ⟨S8x4096x4352, .f32⟩
  | .hbm, ⟨39, _⟩ => ⟨S8x4096x256, .f32⟩
  | .hbm, ⟨40, _⟩ => ⟨S8x4096x256, .f32⟩
  | .hbm, ⟨41, _⟩ => ⟨S8x4096x256, .f32⟩
  | .hbm, ⟨42, _⟩ => ⟨S8x4096x512, .f32⟩
  | .hbm, ⟨43, _⟩ => ⟨S8x4096x3072, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x256 : Shape := ⟨3, ![8, 4096, 256]⟩
abbrev S8x4096x3072 : Shape := ⟨3, ![8, 4096, 3072]⟩
abbrev S16x1x6144 : Shape := ⟨3, ![16, 1, 6144]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1x256x1024 : Shape := ⟨3, ![1, 256, 1024]⟩
abbrev S1x256x256 : Shape := ⟨3, ![1, 256, 256]⟩
abbrev S1x256x3072 : Shape := ⟨3, ![1, 256, 3072]⟩
abbrev S1x1x6144 : Shape := ⟨3, ![1, 1, 6144]⟩
abbrev S256x256 : Shape := ⟨2, ![256, 256]⟩
abbrev S1x1x1024 : Shape := ⟨3, ![1, 1, 1024]⟩
abbrev S256 : Shape := ⟨1, ![256]⟩
abbrev S256x1 : Shape := ⟨2, ![256, 1]⟩

abbrev nBuf : Space → Nat
  | .hbm => 14
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x3072, .f32⟩
  | .hbm, ⟨4, _⟩ => ⟨S8x4096x1024, .f32⟩
  | .hbm, ⟨5, _⟩ => ⟨S16x1x6144, .f32⟩
  | .hbm, ⟨6, _⟩ => ⟨S1024, .f32⟩
  | .hbm, ⟨7, _⟩ => ⟨S1024x1024, .bf16⟩
  | .hbm, ⟨8, _⟩ => ⟨S256x1024, .bf16⟩
  | .hbm, ⟨9, _⟩ => ⟨S256x1024, .bf16⟩
  | .hbm, ⟨10, _⟩ => ⟨S1024x1024, .bf16⟩
  | .hbm, ⟨11, _⟩ => ⟨S1x1024, .f32⟩
  | .hbm, ⟨12, _⟩ => ⟨S8x4096x1024, .f32⟩
  | .hbm, ⟨13, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x3072, .f32⟩
  | .local _ .vmem, ⟨7, _⟩ => ⟨S1x256x3072, .f32⟩
  | .local _ .vmem, ⟨8, _⟩ => ⟨S1x256x1024, .f32⟩
  | .local _ .vmem, ⟨9, _⟩ => ⟨S1x256x1024, .f32⟩
  | .local _ .vmem, ⟨10, _⟩ => ⟨S1x1x6144, .f32⟩
  | .local _ .vmem, ⟨11, _⟩ => ⟨S1x1x6144, .f32⟩
  | .local _ .vmem, ⟨12, _⟩ => ⟨S1x1024, .f32⟩
  | .local _ .vmem, ⟨13, _⟩ => ⟨S1024x1024, .bf16⟩
  | .local _ .vmem, ⟨14, _⟩ => ⟨S256x1024, .bf16⟩
  | .local _ .vmem, ⟨15, _⟩ => ⟨S256x1024, .bf16⟩
  | .local _ .vmem, ⟨16, _⟩ => ⟨S1024x1024, .bf16⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x4096x1024 : Shape := ⟨3, ![8, 4096, 1024]⟩
abbrev S8x4096x256 : Shape := ⟨3, ![8, 4096, 256]⟩
abbrev S8x4096x3072 : Shape := ⟨3, ![8, 4096, 3072]⟩
abbrev S16x1x6144 : Shape := ⟨3, ![16, 1, 6144]⟩
abbrev S1024 : Shape := ⟨1, ![1024]⟩
abbrev S1024x1024 : Shape := ⟨2, ![1024, 1024]⟩
abbrev S256x1024 : Shape := ⟨2, ![256, 1024]⟩
abbrev S8x1x6144 : Shape := ⟨3, ![8, 1, 6144]⟩
abbrev S8x6144 : Shape := ⟨2, ![8, 6144]⟩
abbrev S8x1024 : Shape := ⟨2, ![8, 1024]⟩
abbrev S_ : Shape := ⟨0, ![]⟩
abbrev S8x4096x3x1024 : Shape := ⟨4, ![8, 4096, 3, 1024]⟩
abbrev S8x4096x1x1024 : Shape := ⟨4, ![8, 4096, 1, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x3072, .f32⟩
  | .hbm, ⟨4, _⟩ => ⟨S8x4096x1024, .f32⟩
  | .hbm, ⟨5, _⟩ => ⟨S16x1x6144, .f32⟩
  | .hbm, ⟨6, _⟩ => ⟨S1024, .f32⟩
  | .hbm, ⟨7, _⟩ => ⟨S1024x1024, .bf16⟩
  | .hbm, ⟨8, _⟩ => ⟨S256x1024, .bf16⟩
  | .hbm, ⟨9, _⟩ => ⟨S256x1024, .bf16⟩
  | .hbm, ⟨10, _⟩ => ⟨S1024x1024, .bf16⟩
  | .hbm, ⟨11, _⟩ => ⟨S8x1x6144, .f32⟩
  | .hbm, ⟨12, _⟩ => ⟨S8x6144, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x4096x3072, .f32⟩
  | .hbm, ⟨20, _⟩ => ⟨S8x4096x3072, .f32⟩
  | .hbm, ⟨21, _⟩ => ⟨S_, .f32⟩
  | .hbm, ⟨22, _⟩ => ⟨S8x4096x3072, .f32⟩
  | .hbm, ⟨23, _⟩ => ⟨S8x4096x3072, .f32⟩
  | .hbm, ⟨24, _⟩ => ⟨S_, .f32⟩
  | .hbm, ⟨25, _⟩ => ⟨S8x4096x3072, .f32⟩
  | .hbm, ⟨26, _⟩ => ⟨S8x4096x3072, .f32⟩
  | .hbm, ⟨27, _⟩ => ⟨S8x4096x3x1024, .f32⟩
  | .hbm, ⟨28, _⟩ => ⟨S8x4096x1x1024, .f32⟩
  | .hbm, ⟨29, _⟩ => ⟨S8x4096x1024, .f32⟩
  | .hbm, ⟨30, _⟩ => ⟨S1024x1024, .f32⟩
  | .hbm, ⟨31, _⟩ => ⟨S8x4096x1024, .f32⟩
  | .hbm, ⟨32, _⟩ => ⟨S8x4096x1024, .f32⟩
  | .hbm, ⟨33, _⟩ => ⟨S8x4096x1x1024, .f32⟩
  | .hbm, ⟨34, _⟩ => ⟨S8x4096x1024, .f32⟩
  | .hbm, ⟨35, _⟩ => ⟨S256x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1x1024, .f32⟩
  | .hbm, ⟨40, _⟩ => ⟨S8x4096x1024, .f32⟩
  | .hbm, ⟨41, _⟩ => ⟨S256x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x1x1024, .f32⟩
  | .hbm, ⟨46, _⟩ => ⟨S1024x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x1, .f32⟩
  | .hbm, ⟨62, _⟩ => ⟨S8x4096x1024, .f32⟩
  | .hbm, ⟨63, _⟩ => ⟨S8x4096x1024, .f32⟩
  | .hbm, ⟨64, _⟩ => ⟨S1x1x1024, .f32⟩
  | .hbm, ⟨65, _⟩ => ⟨S8x4096x1024, .f32⟩
  | .hbm, ⟨66, _⟩ => ⟨S8x4096x1024, .f32⟩
  | .hbm, ⟨67, _⟩ => ⟨S8x1x1024, .f32⟩
  | .hbm, ⟨68, _⟩ => ⟨S_, .f32⟩
  | .hbm, ⟨69, _⟩ => ⟨S8x1x1024, .f32⟩
  | .hbm, ⟨70, _⟩ => ⟨S8x1x1024, .f32⟩
  | .hbm, ⟨71, _⟩ => ⟨S8x4096x1024, .f32⟩
  | .hbm, ⟨72, _⟩ => ⟨S8x4096x1024, .f32⟩
  | .hbm, ⟨73, _⟩ => ⟨S8x1x1024, .f32⟩
  | .hbm, ⟨74, _⟩ => ⟨S8x4096x1024, .f32⟩
  | .hbm, ⟨75, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_1 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel4.lean ====
abbrev S32768x1024 : Shape := ⟨2, ![32768, 1024]⟩
abbrev S1024x1024 : Shape := ⟨2, ![1024, 1024]⟩
abbrev S8x2x128x64 : Shape := ⟨4, ![8, 2, 128, 64]⟩
abbrev S16x128x64 : Shape := ⟨3, ![16, 128, 64]⟩
abbrev S8x16x32768 : Shape := ⟨3, ![8, 16, 32768]⟩
abbrev S256x1024 : Shape := ⟨2, ![256, 1024]⟩
abbrev S8x16x256 : Shape := ⟨3, ![8, 16, 256]⟩
abbrev S1024x256 : Shape := ⟨2, ![1024, 256]⟩
abbrev S1x128x64 : Shape := ⟨3, ![1, 128, 64]⟩
abbrev S128x64 : Shape := ⟨2, ![128, 64]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S16x128 : Shape := ⟨2, ![16, 128]⟩
abbrev S112x128 : Shape := ⟨2, ![112, 128]⟩
abbrev S1x16x128 : Shape := ⟨3, ![1, 16, 128]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S8x2x128x64, .f32⟩
  | .hbm, ⟨3, _⟩ => ⟨S1024x1024, .f32⟩
  | .hbm, ⟨4, _⟩ => ⟨S16x128x64, .f32⟩
  | .hbm, ⟨5, _⟩ => ⟨S1024x1024, .bf16⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S8x16x32768, .i32⟩
  | .hbm, ⟨10, _⟩ => ⟨S8x16x32768, .i32⟩
  | .hbm, ⟨11, _⟩ => ⟨S8x16x32768, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S16x128x64, .f32⟩
  | .local _ .vmem, ⟨5, _⟩ => ⟨S8x16x256, .i32⟩
  | .local _ .vmem, ⟨6, _⟩ => ⟨S8x16x256, .i32⟩
  | .local _ .vmem, ⟨7, _⟩ => ⟨S8x16x256, .i32⟩
  | .local _ .vmem, ⟨8, _⟩ => ⟨S8x16x256, .i32⟩
  | .local _ .vmem, ⟨9, _⟩ => ⟨S8x16x256, .f32⟩
  | .local _ .vmem, ⟨10, _⟩ => ⟨S8x16x256, .f32⟩
  | .local _ .vmem, ⟨11, _⟩ => ⟨S1024x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v19 : BitVec 32 := Scalar.addi c0_i32 c8_i32
  let c1_i32 : BitVec 32 := 1#32
  ⟨c0_i32, v19, c1_i32⟩
def k0_mult1 (k0_t1 : Fin k0_t1_loop.trips) : BitVec 32 :=
  let c2_i32 : BitVec 32 := 2#32
  let c0_i32 : BitVec 32 := 0#32
  let c1_i32 : BitVec 32 := 1#32
  let arg9 : BitVec 32 := Scf.iv c0_i32 c1_i32 k0_t1
  let v20 : BitVec 32 := Scalar.muli c2_i32 arg9
  let c0_i32_12 : BitVec 32 := 0#32
  let v21 : BitVec 32 := Scalar.addi v20 c0_i32_12
  let c64_i32 : BitVec 32 := 64#32
  let v22 : BitVec 32 := Scalar.muli v21 c64_i32
  v22
def k0_off1 (k0_t1 : Fin k0_t1_loop.trips) (c0_i32_14 : BitVec 32) : Fin 3 → Nat :=
  let c2_i32_13 : BitVec 32 := 2#32
  let c0_i32 : BitVec 32 := 0#32
  let c1_i32 : BitVec 32 := 1#32
  let arg9 : BitVec 32 := Scf.iv c0_i32 c1_i32 k0_t1
  let v24 : BitVec 32 := Scalar.muli c2_i32_13 arg9
  let v25 : BitVec 32 := Scalar.addi v24 c0_i32_14
  let v26 : Index := Scalar.indexCast v25
  let c0_15 : Index := 0#32
  let c0_16 : Index := 0#32
  ![v26.toNat, 0, 0]
def k0_off2 (k0_t1 : Fin k0_t1_loop.trips) (c0_i32_12 : BitVec 32) : Fin 2 → Nat :=
  let c2_i32 : BitVec 32 := 2#32
  let c0_i32 : BitVec 32 := 0#32
  let c1_i32 : BitVec 32 := 1#32
  let arg9 : BitVec 32 := Scf.iv c0_i32 c1_i32 k0_t1
  let v20 : BitVec 32 := Scalar.muli c2_i32 arg9
  let v21 : BitVec 32 := Scalar.addi v20 c0_i32_12
  let c64_i32 : BitVec 32 := 64#32
  let v22 : BitVec 32 := Scalar.muli v21 c64_i32
  let v23 : BitVec 32 := v22
  let v29 : Index := Scalar.indexCast v23
  let c0_17 : Index := 0#32
  ![v29.toNat, 0]
def k0_mult2 (k0_t1 : Fin k0_t1_loop.trips) : BitVec 32 :=
  let c2_i32_81 : BitVec 32 := 2#32
  let c0_i32 : BitVec 32 := 0#32
  let c1_i32 : BitVec 32 := 1#32
  let arg9 : BitVec 32 := Scf.iv c0_i32 c1_i32 k0_t1
  let v223 : BitVec 32 := Scalar.muli c2_i32_81 arg9
  let c1_i32_82 : BitVec 32 := 1#32
  let v224 : BitVec 32 := Scalar.addi v223 c1_i32_82
  let c64_i32_83 : BitVec 32 := 64#32
  let v225 : BitVec 32 := Scalar.muli v224 c64_i32_83
  v225
def k0_off3 (k0_t1 : Fin k0_t1_loop.trips) : Fin 3 → Nat :=
  let c0_i32 : BitVec 32 := 0#32
  let c1_i32 : BitVec 32 := 1#32
  let arg9 : BitVec 32 := Scf.iv c0_i32 c1_i32 k0_t1
  let v853 : Index := Scalar.indexCast arg9
  let c0_278 : Index := 0#32
  let c0_279 : Index := 0#32
  ![v853.toNat, 0, 0]
def k0_mult3 (k0_t1 : Fin k0_t1_loop.trips) : BitVec 32 :=
  let c2_i32_287 : BitVec 32 := 2#32
  let c0_i32 : BitVec 32 := 0#32
  let c1_i32 : BitVec 32 := 1#32
  let arg9 : BitVec 32 := Scf.iv c0_i32 c1_i32 k0_t1
  let v873 : BitVec 32 := Scalar.muli c2_i32_287 arg9
  let c0_i32_288 : BitVec 32 := 0#32
  let v874 : BitVec 32 := Scalar.addi v873 c0_i32_288
  let c64_i32_289 : BitVec 32 := 64#32
  let v875 : BitVec 32 := Scalar.muli v874 c64_i32_289
  v875
def k0_off4 (k0_t1 : Fin k0_t1_loop.trips) (c0_i32_288 : BitVec 32) : Fin 2 → Nat :=
  let c2_i32_287 : BitVec 32 := 2#32
  let c0_i32 : BitVec 32 := 0#32
  let c1_i32 : BitVec 32 := 1#32
  let arg9 : BitVec 32 := Scf.iv c0_i32 c1_i32 k0_t1
  let v873 : BitVec 32 := Scalar.muli c2_i32_287 arg9
  let v874 : BitVec 32 := Scalar.addi v873 c0_i32_288
  let c64_i32_289 : BitVec 32 := 64#32
  let v875 : BitVec 32 := Scalar.muli v874 c64_i32_289
  let v876 : BitVec 32 := v875
  let v882 : Index := Scalar.indexCast v876
  let c128 : Index := 128#32
  ![v882.toNat, 128]
def k0_mult4 (k0_t1 : Fin k0_t1_loop.trips) : BitVec 32 :=
  let c2_i32_358 : BitVec 32 := 2#32
  let c0_i32 : BitVec 32 := 0#32
  let c1_i32 : BitVec 32 := 1#32
  let arg9 : BitVec 32 := Scf.iv c0_i32 c1_i32 k0_t1
  let v1076 : BitVec 32 := Scalar.muli c2_i32_358 arg9
  let c1_i32_359 : BitVec 32 := 1#32
  let v1077 : BitVec 32 := Scalar.addi v1076 c1_i32_359
  let c64_i32_360 : BitVec 32 := 64#32
  let v1078 : BitVec 32 := Scalar.muli v1077 c64_i32_360
  v1078
def k0_off5 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1706 : Index := Scalar.indexCast arg9
  let c0_562 : Index := 0#32
  let c128_563 : Index := 128#32
  ![v1706.toNat, 0, 128]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x16x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x1024 : Shape := ⟨2, ![32768, 1024]⟩
abbrev S1024x1024 : Shape := ⟨2, ![1024, 1024]⟩
abbrev S8x2x128x64 : Shape := ⟨4, ![8, 2, 128, 64]⟩
abbrev S32768x8x2x64 : Shape := ⟨4, ![32768, 8, 2, 64]⟩
abbrev S8x2x32768x128 : Shape := ⟨4, ![8, 2, 32768, 128]⟩
abbrev S8x2x32768x16 : Shape := ⟨4, ![8, 2, 32768, 16]⟩
abbrev S8x1x32768x16 : Shape := ⟨4, ![8, 1, 32768, 16]⟩
abbrev S8x32768x16 : Shape := ⟨3, ![8, 32768, 16]⟩
abbrev S8x32768x16x1 : Shape := ⟨4, ![8, 32768, 16, 1]⟩
abbrev S8x32768x1x16 : Shape := ⟨4, ![8, 32768, 1, 16]⟩
abbrev S8x32768x16x16 : Shape := ⟨4, ![8, 32768, 16, 16]⟩
abbrev S8x32768x256 : Shape := ⟨3, ![8, 32768, 256]⟩
abbrev S_ : Shape := ⟨0, ![]⟩
abbrev S1 : Shape := ⟨1, ![1]⟩
abbrev S1x1x1x1 : Shape := ⟨4, ![1, 1, 1, 1]⟩
abbrev S8x32768 : Shape := ⟨2, ![8, 32768]⟩
abbrev S8x32768x1 : Shape := ⟨3, ![8, 32768, 1]⟩
abbrev S8x16x32768 : Shape := ⟨3, ![8, 16, 32768]⟩

abbrev nBuf : Space → Nat
  | .hbm => 78
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S8x2x128x64, .f32⟩
  | .hbm, ⟨3, _⟩ => ⟨S32768x1024, .f32⟩
  | .hbm, ⟨4, _⟩ => ⟨S32768x8x2x64, .f32⟩
  | .hbm, ⟨5, _⟩ => ⟨S8x2x32768x128, .f32⟩
  | .hbm, ⟨6, _⟩ => ⟨S8x2x32768x16, .f32⟩
  | .hbm, ⟨7, _⟩ => ⟨S8x2x32768x16, .i32⟩
  | .hbm, ⟨8, _⟩ => ⟨S8x1x32768x16, .f32⟩
  | .hbm, ⟨9, _⟩ => ⟨S8x32768x16, .f32⟩
  | .hbm, ⟨10, _⟩ => ⟨S8x32768x16x1, .f32⟩
  | .hbm, ⟨11, _⟩ => ⟨S8x1x32768x16, .f32⟩
  | .hbm, ⟨12, _⟩ => ⟨S8x32768x16, .f32⟩
  | .hbm, ⟨13, _⟩ => ⟨S8x32768x1x16, .f32⟩
  | .hbm, ⟨14, _⟩ => ⟨S8x32768x16x16, .f32⟩
  | .hbm, ⟨15, _⟩ => ⟨S8x32768x16x16, .f32⟩
  | .hbm, ⟨16, _⟩ => ⟨S8x32768x16x16, .f32⟩
  | .hbm, ⟨17, _⟩ => ⟨S8x32768x256, .f32⟩
  | .hbm, ⟨18, _⟩ => ⟨S8x1x32768x16, .i32⟩
  | .hbm, ⟨19, _⟩ => ⟨S8x32768x16, .i32⟩
  | .hbm, ⟨20, _⟩ => ⟨S8x32768x16x1, .i32⟩
  | .hbm, ⟨21, _⟩ => ⟨S_, .i32⟩
  | .hbm, ⟨22, _⟩ => ⟨S8x32768x16x1, .i32⟩
  | .hbm, ⟨23, _⟩ => ⟨S8x32768x16x1, .i32⟩
  | .hbm, ⟨24, _⟩ => ⟨S8x1x32768x16, .i32⟩
  | .hbm, ⟨25, _⟩ => ⟨S8x32768x16, .i32⟩
  | .hbm, ⟨26, _⟩ => ⟨S8x32768x1x16, .i32⟩
  | .hbm, ⟨27, _⟩ => ⟨S8x32768x16x16, .i32⟩
  | .hbm, ⟨28, _⟩ => ⟨S8x32768x16x16, .i32⟩
  | .hbm, ⟨29, _⟩ => ⟨S8x32768x16x16, .i32⟩
  | .hbm, ⟨30, _⟩ => ⟨S8x32768x256, .i32⟩
  | .hbm, ⟨31, _⟩ => ⟨S8x32768x16, .f32⟩
  | .hbm, ⟨32, _⟩ => ⟨S8x32768x16, .i32⟩
  | .hbm, ⟨33, _⟩ => ⟨S_, .i32⟩
  | .hbm, ⟨34, _⟩ => ⟨S8x32768x16, .i32⟩
  | .hbm, ⟨35, _⟩ => ⟨S8x32768x16, .i1⟩
  | .hbm, ⟨36, _⟩ => ⟨S_, .i32⟩
  | .hbm, ⟨37, _⟩ => ⟨S8x32768x16, .i32⟩
  | .hbm, ⟨38, _⟩ => ⟨S8x32768x16, .i32⟩
  | .hbm, ⟨39, _⟩ => ⟨S8x32768x16, .i32⟩
  | .hbm, ⟨40, _⟩ => ⟨S8x32768x16x1, .i32⟩
  | .hbm, ⟨41, _⟩ => ⟨S1, .i32⟩
  | .hbm, ⟨42, _⟩ => ⟨S_, .i32⟩
  | .hbm, ⟨43, _⟩ => ⟨S8x32768x16x1, .i32⟩
  | .hbm, ⟨44, _⟩ => ⟨S8x32768x16x1, .i1⟩
  | .hbm, ⟨45, _⟩ => ⟨S1x1x1x1, .i32⟩
  | .hbm, ⟨46, _⟩ => ⟨S8x32768x16x1, .i32⟩
  | .hbm, ⟨47, _⟩ => ⟨S8x32768x16x1, .i1⟩
  | .hbm, ⟨48, _⟩ => ⟨S8x32768x16x1, .i1⟩
  | .hbm, ⟨49, _⟩ => ⟨S_, .i1⟩
  | .hbm, ⟨50, _⟩ => ⟨S8x32768x16, .i1⟩
  | .hbm, ⟨51, _⟩ => ⟨S8x32768x16, .i32⟩
  | .hbm, ⟨52, _⟩ => ⟨S_, .i32⟩
  | .hbm, ⟨53, _⟩ => ⟨S8x32768x16, .i32⟩
  | .hbm, ⟨54, _⟩ => ⟨S8x32768x16, .i32⟩
  | .hbm, ⟨55, _⟩ => ⟨S_, .f32⟩
  | .hbm, ⟨56, _⟩ => ⟨S8x32768, .f32⟩
  | .hbm, ⟨57, _⟩ => ⟨S_, .f32⟩
  | .hbm, ⟨58, _⟩ => ⟨S8x32768, .f32⟩
  | .hbm, ⟨59, _⟩ => ⟨S8x32768, .f32⟩
  | .hbm, ⟨60, _⟩ => ⟨S8x32768x1, .f32⟩
  | .hbm, ⟨61, _⟩ => ⟨S8x32768x16, .f32⟩
  | .hbm, ⟨62, _⟩ => ⟨S8x32768x16, .f32⟩
  | .hbm, ⟨63, _⟩ => ⟨S8x32768x16, .f32⟩
  | .hbm, ⟨64, _⟩ => ⟨S_, .f32⟩
  | .hbm, ⟨65, _⟩ => ⟨S8x32768, .f32⟩
  | .hbm, ⟨66, _⟩ => ⟨S8x32768x1, .f32⟩
  | .hbm, ⟨67, _⟩ => ⟨S8x32768x16, .f32⟩
  | .hbm, ⟨68, _⟩ => ⟨S8x32768x16, .f32⟩
  | .hbm, ⟨69, _⟩ => ⟨S8x16x32768, .i32⟩
  | .hbm, ⟨70, _⟩ => ⟨S_, .i32⟩
  | .hbm, ⟨71, _⟩ => ⟨S8x32768x16, .i32⟩
  | .hbm, ⟨72, _⟩ => ⟨S8x32768x16, .i32⟩
  | .hbm, ⟨73, _⟩ => ⟨S_, .i32⟩
  | .hbm, ⟨74, _⟩ => ⟨S8x32768x16, .i32⟩
  | .hbm, ⟨75, _⟩ => ⟨S8x32768x16, .i32⟩
  | .hbm, ⟨76, _⟩ => ⟨S8x16x32768, .i32⟩
  | .hbm, ⟨77, _⟩ => ⟨S8x16x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_values : Ref sig .tc := ⟨.hbm, 6, rfl⟩
abbrev main_indices : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_values_0 : Ref sig .tc := ⟨.hbm, 31, rfl⟩
abbrev main_indices_1 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_c_4 : Ref sig .tc := ⟨.hbm, 52, rfl⟩
abbrev main_call0_v14 : Ref sig .tc := ⟨.hbm, 53, rfl⟩
abbrev main_v25 : Ref sig .tc := ⟨.hbm, 54, rfl⟩
abbrev main_cst : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_3 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_4 : Ref sig .tc := ⟨.hbm, 70, rfl⟩
abbrev main_v38 : Ref sig .tc := ⟨.hbm, 71, rfl⟩
abbrev main_v39 : Ref sig .tc := ⟨.hbm, 72, rfl⟩
abbrev main_c_5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩

abbrev nD : Nat := 1
abbrev τ : Topo := Topo.v7x

variable {F : FTy → Type} [FloatOps F]
-- ==== Kernel5.lean ====
abbrev S8x4096x256 : Shape := ⟨3, ![8, 4096, 256]⟩
abbrev S4096x32 : Shape := ⟨2, ![4096, 32]⟩
abbrev S128 : Shape := ⟨1, ![128]⟩
abbrev S128x1024 : Shape := ⟨2, ![128, 1024]⟩
abbrev S256 : Shape := ⟨1, ![256]⟩
abbrev S256x768 : Shape := ⟨2, ![256, 768]⟩
abbrev S96 : Shape := ⟨1, ![96]⟩
abbrev S32 : Shape := ⟨1, ![32]⟩
abbrev S_ : Shape := ⟨0, ![]⟩
abbrev S4096x128 : Shape := ⟨2, ![4096, 128]⟩
abbrev S128x8x128 : Shape := ⟨3, ![128, 8, 128]⟩
abbrev S1x128 : Shape := ⟨2, ![1, 128]⟩
abbrev S1x256 : Shape := ⟨2, ![1, 256]⟩
abbrev S128x8x64 : Shape := ⟨3, ![128, 8, 64]⟩
abbrev S128x512 : Shape := ⟨2, ![128, 512]⟩
abbrev S256x8x96 : Shape := ⟨3, ![256, 8, 96]⟩
abbrev S256x8x128 : Shape := ⟨3, ![256, 8, 128]⟩
abbrev S256x1024 : Shape := ⟨2, ![256, 1024]⟩
abbrev S8x4096x1024 : Shape := ⟨3, ![8, 4096, 1024]⟩
abbrev S1x256x256 : Shape := ⟨3, ![1, 256, 256]⟩
abbrev S256x128 : Shape := ⟨2, ![256, 128]⟩
abbrev S1x256x1024 : Shape := ⟨3, ![1, 256, 1024]⟩
abbrev S256x256 : Shape := ⟨2, ![256, 256]⟩
abbrev S256x1 : Shape := ⟨2, ![256, 1]⟩
abbrev S1x1024 : Shape := ⟨2, ![1, 1024]⟩
abbrev S1x256x128 : Shape := ⟨3, ![1, 256, 128]⟩

abbrev nBuf : Space → Nat
  | .hbm => 67
  | .vmem => 23
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S4096x32, .f32⟩
  | .hbm, ⟨3, _⟩ => ⟨S4096x32, .f32⟩
  | .hbm, ⟨4, _⟩ => ⟨S128, .f32⟩
  | .hbm, ⟨5, _⟩ => ⟨S128x1024, .f32⟩
  | .hbm, ⟨6, _⟩ => ⟨S256, .f32⟩
  | .hbm, ⟨7, _⟩ => ⟨S256x768, .f32⟩
  | .hbm, ⟨8, _⟩ => ⟨S96, .f32⟩
  | .hbm, ⟨9, _⟩ => ⟨S96, .f32⟩
  | .hbm, ⟨10, _⟩ => ⟨S32, .i1⟩
  | .hbm, ⟨11, _⟩ => ⟨S_, .f32⟩
  | .hbm, ⟨12, _⟩ => ⟨S_, .f32⟩
  | .hbm, ⟨13, _⟩ => ⟨S4096x128, .f32⟩
  | .hbm, ⟨14, _⟩ => ⟨S4096x32, .f32⟩
  | .hbm, ⟨15, _⟩ => ⟨S_, .f32⟩
  | .hbm, ⟨16, _⟩ => ⟨S_, .f32⟩
  | .hbm, ⟨17, _⟩ => ⟨S4096x32, .i1⟩
  | .hbm, ⟨18, _⟩ => ⟨S4096x32, .f32⟩
  | .hbm, ⟨19, _⟩ => ⟨S4096x32, .f32⟩
  | .hbm, ⟨20, _⟩ => ⟨S_, .f32⟩
  | .hbm, ⟨21, _⟩ => ⟨S_, .f32⟩
  | .hbm, ⟨22, _⟩ => ⟨S4096x128, .f32⟩
  | .hbm, ⟨23, _⟩ => ⟨S_, .f32⟩
  | .hbm, ⟨24, _⟩ => ⟨S_, .f32⟩
  | .hbm, ⟨25, _⟩ => ⟨S4096x32, .i1⟩
  | .hbm, ⟨26, _⟩ => ⟨S4096x32, .f32⟩
  | .hbm, ⟨27, _⟩ => ⟨S4096x32, .f32⟩
  | .hbm, ⟨28, _⟩ => ⟨S_, .f32⟩
  | .hbm, ⟨29, _⟩ => ⟨S_, .f32⟩
  | .hbm, ⟨30, _⟩ => ⟨S4096x128, .f32⟩
  | .hbm, ⟨31, _⟩ => ⟨S128x8x128, .f32⟩
  | .hbm, ⟨32, _⟩ => ⟨S1x128, .f32⟩
  | .hbm, ⟨33, _⟩ => ⟨S1x256, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S128x8x64, .f32⟩
  | .hbm, ⟨43, _⟩ => ⟨S128x512, .f32⟩
  | .hbm, ⟨44, _⟩ => ⟨S128x8x64, .f32⟩
  | .hbm, ⟨45, _⟩ => ⟨S_, .i32⟩
  | .hbm, ⟨46, _⟩ => ⟨S_, .f32⟩
  | .hbm, ⟨47, _⟩ => ⟨S128x8x128, .f32⟩
  | .hbm, ⟨48, _⟩ => ⟨S128x1024, .f32⟩
  | .hbm, ⟨49, _⟩ => ⟨S128x1024, .bf16⟩
  | .hbm, ⟨50, _⟩ => ⟨S128x8x64, .f32⟩
  | .hbm, ⟨51, _⟩ => ⟨S128x512, .f32⟩
  | .hbm, ⟨52, _⟩ => ⟨S128x8x64, .f32⟩
  | .hbm, ⟨53, _⟩ => ⟨S_, .i32⟩
  | .hbm, ⟨54, _⟩ => ⟨S_, .f32⟩
  | .hbm, ⟨55, _⟩ => ⟨S128x8x128, .f32⟩
  | .hbm, ⟨56, _⟩ => ⟨S128x1024, .f32⟩
  | .hbm, ⟨57, _⟩ => ⟨S128x1024, .bf16⟩
  | .hbm, ⟨58, _⟩ => ⟨S256x8x96, .f32⟩
  | .hbm, ⟨59, _⟩ => ⟨S_, .i32⟩
  | .hbm, ⟨60, _⟩ => ⟨S_, .f32⟩
  | .hbm, ⟨61, _⟩ => ⟨S256x8x128, .f32⟩
  | .hbm, ⟨62, _⟩ => ⟨S256x1024, .f32⟩
  | .hbm, ⟨63, _⟩ => ⟨S256x1024, .bf16⟩
  | .hbm, ⟨64, _⟩ => ⟨S8x4096x1024, .bf16⟩
  | .hbm, ⟨65, _⟩ => ⟨S8x4096x1024, .bf16⟩
  | .hbm, ⟨66, _⟩ => ⟨S8x4096x1024, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x256, .f32⟩
  | .local _ .vmem, ⟨12, _⟩ => ⟨S1x128, .f32⟩
  | .local _ .vmem, ⟨13, _⟩ => ⟨S1x128, .f32⟩
  | .local _ .vmem, ⟨14, _⟩ => ⟨S128x1024, .bf16⟩
  | .local _ .vmem, ⟨15, _⟩ => ⟨S128x1024, .bf16⟩
  | .local _ .vmem, ⟨16, _⟩ => ⟨S256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_cst : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v2 : Ref sig .tc := ⟨.hbm, 19, rfl⟩
abbrev main_cst_1 : Ref sig .tc := ⟨.hbm, 20, rfl⟩
abbrev main_call2_v0 : Ref sig .tc := ⟨.hbm, 21, rfl⟩
abbrev main_v3 : Ref sig .tc := ⟨.hbm, 22, rfl⟩
abbrev main_cst_2 : Ref sig .tc := ⟨.hbm, 23, rfl⟩
abbrev main_call3_v0 : Ref sig .tc := ⟨.hbm, 24, rfl⟩
abbrev main_call3_v1 : Ref sig .tc := ⟨.hbm, 25, rfl⟩
abbrev main_call3_v2 : Ref sig .tc := ⟨.hbm, 26, rfl⟩
abbrev main_v4 : Ref sig .tc := ⟨.hbm, 27, rfl⟩
abbrev main_cst_3 : Ref sig .tc := ⟨.hbm, 28, rfl⟩
abbrev main_call4_v0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_4 : Ref sig .tc := ⟨.hbm, 34, rfl⟩
abbrev main_call5_v0 : Ref sig .tc := ⟨.hbm, 35, rfl⟩
abbrev main_v9 : Ref sig .tc := ⟨.hbm, 36, rfl⟩
abbrev main_v10 : Ref sig .tc := ⟨.hbm, 37, rfl⟩
abbrev main_c_5 : Ref sig .tc := ⟨.hbm, 38, rfl⟩
abbrev main_call6_v0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_6 : Ref sig .tc := ⟨.hbm, 45, rfl⟩
abbrev main_call7_v0 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_7 : Ref sig .tc := ⟨.hbm, 53, rfl⟩
abbrev main_call8_v0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_8 : Ref sig .tc := ⟨.hbm, 59, rfl⟩
abbrev main_call9_v0 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29_0 : Ref sig .tc := ⟨.hbm, 64, rfl⟩
abbrev main_v29_1 : Ref sig .tc := ⟨.hbm, 65, rfl⟩
abbrev main_v29_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel5Ideal.lean ====
variable {F : FTy → Type} [FloatOps F] [Named F]
def κ : String → Option EReal := fun
  | "inv_head" => some ((1 / 96 : ℝ) : EReal)
  | _ => none
-- ==== Reference5Ideal.lean ====
abbrev S8x4096x256 : Shape := ⟨3, ![8, 4096, 256]⟩
abbrev S4096x32 : Shape := ⟨2, ![4096, 32]⟩
abbrev S128 : Shape := ⟨1, ![128]⟩
abbrev S128x1024 : Shape := ⟨2, ![128, 1024]⟩
abbrev S256 : Shape := ⟨1, ![256]⟩
abbrev S256x768 : Shape := ⟨2, ![256, 768]⟩
abbrev S96 : Shape := ⟨1, ![96]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩
abbrev S8x4096x768 : Shape := ⟨3, ![8, 4096, 768]⟩
abbrev S8x4096x8x96 : Shape := ⟨4, ![8, 4096, 8, 96]⟩
abbrev S8x4096x8 : Shape := ⟨3, ![8, 4096, 8]⟩
abbrev S8x4096x8x1 : Shape := ⟨4, ![8, 4096, 8, 1]⟩
abbrev S1x1x1x96 : Shape := ⟨4, ![1, 1, 1, 96]⟩
abbrev S8x4096x8x64 : Shape := ⟨4, ![8, 4096, 8, 64]⟩
abbrev S8x4096x8x16 : Shape := ⟨4, ![8, 4096, 8, 16]⟩
abbrev S8x4096x8x8 : Shape := ⟨4, ![8, 4096, 8, 8]⟩
abbrev S8x4096x8x32 : Shape := ⟨4, ![8, 4096, 8, 32]⟩
abbrev S4096x1x32 : Shape := ⟨3, ![4096, 1, 32]⟩
abbrev S1x4096x1x32 : Shape := ⟨4, ![1, 4096, 1, 32]⟩
abbrev S8x4096x128 : Shape := ⟨3, ![8, 4096, 128]⟩
abbrev S1x1x128 : Shape := ⟨3, ![1, 1, 128]⟩
abbrev S8x4096x1024 : Shape := ⟨3, ![8, 4096, 1024]⟩
abbrev S8x4096x8x128 : Shape := ⟨4, ![8, 4096, 8, 128]⟩
abbrev S8x4096x32 : Shape := ⟨3, ![8, 4096, 32]⟩
abbrev S8x4096x1x32 : Shape := ⟨4, ![8, 4096, 1, 32]⟩
abbrev S8x4096x8x65 : Shape := ⟨4, ![8, 4096, 8, 65]⟩

abbrev nBuf : Space → Nat
  | .hbm => 152
  | .vmem => 0
  | .smem => 0
  | _ => 0

abbrev hbmTy0_0 (i : Nat) : BufTy := match i % 128 with
  | 0 => ⟨S8x4096x256, .f32⟩
  | 1 => ⟨S8x4096x256, .f32⟩
  | 2 => ⟨S4096x32, .f32⟩
  | 3 => ⟨S4096x32, .f32⟩
  | 4 => ⟨S128, .f32⟩
  | 5 => ⟨S128x1024, .f32⟩
  | 6 => ⟨S256, .f32⟩
  | 7 => ⟨S256x768, .f32⟩
  | 8 => ⟨S96, .f32⟩
  | 9 => ⟨S96, .f32⟩
  | 10 => ⟨S8x4096x256, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x256, .f32⟩
  | 22 => ⟨S8x4096x256, .f32⟩
  | 23 => ⟨S1x1x256, .f32⟩
  | 24 => ⟨S8x4096x256, .f32⟩
  | 25 => ⟨S8x4096x256, .f32⟩
  | 26 => ⟨S8x4096x768, .f32⟩
  | 27 => ⟨S8x4096x8x96, .f32⟩
  | 28 => ⟨S8x4096x8x96, .f32⟩
  | 29 => ⟨S_, .f32⟩
  | 30 => ⟨S8x4096x8, .f32⟩
  | 31 => ⟨S8x4096x8x1, .f32⟩
  | 32 => ⟨S_, .f32⟩
  | 33 => ⟨S8x4096x8x1, .f32⟩
  | 34 => ⟨S8x4096x8x1, .f32⟩
  | 35 => ⟨S_, .f32⟩
  | 36 => ⟨S8x4096x8x1, .f32⟩
  | 37 => ⟨S8x4096x8x1, .f32⟩
  | 38 => ⟨S8x4096x8x1, .f32⟩
  | 39 => ⟨S8x4096x8x96, .f32⟩
  | 40 => ⟨S8x4096x8x96, .f32⟩
  | 41 => ⟨S1x1x1x96, .f32⟩
  | 42 => ⟨S8x4096x8x96, .f32⟩
  | 43 => ⟨S8x4096x8x96, .f32⟩
  | 44 => ⟨S8x4096x8x64, .f32⟩
  | 45 => ⟨S8x4096x8x16, .f32⟩
  | 46 => ⟨S8x4096x8x16, .f32⟩
  | 47 => ⟨S8x4096x8x8, .f32⟩
  | 48 => ⟨S8x4096x8x8, .f32⟩
  | 49 => ⟨S8x4096x8x8, .f32⟩
  | 50 => ⟨S8x4096x8x16, .f32⟩
  | 51 => ⟨S8x4096x8x8, .f32⟩
  | 52 => ⟨S8x4096x8x8, .f32⟩
  | 53 => ⟨S8x4096x8x8, .f32⟩
  | 54 => ⟨S8x4096x8x16, .f32⟩
  | 55 => ⟨S8x4096x8x32, .f32⟩
  | 56 => ⟨S8x4096x8x32, .f32⟩
  | 57 => ⟨S4096x1x32, .f32⟩
  | 58 => ⟨S1x4096x1x32, .f32⟩
  | 59 => ⟨S8x4096x8x32, .f32⟩
  | 60 => ⟨S8x4096x8x32, .f32⟩
  | 61 => ⟨S4096x1x32, .f32⟩
  | 62 => ⟨S1x4096x1x32, .f32⟩
  | 63 => ⟨S8x4096x8x32, .f32⟩
  | 64 => ⟨S8x4096x8x32, .f32⟩
  | 65 => ⟨S8x4096x8x32, .f32⟩
  | 66 => ⟨S8x4096x8x96, .f32⟩
  | 67 => ⟨S8x4096x128, .f32⟩
  | 68 => ⟨S8x4096x128, .f32⟩
  | 69 => ⟨S_, .f32⟩
  | 70 => ⟨S8x4096, .f32⟩
  | 71 => ⟨S8x4096x1, .f32⟩
  | 72 => ⟨S_, .f32⟩
  | 73 => ⟨S8x4096x1, .f32⟩
  | 74 => ⟨S8x4096x1, .f32⟩
  | 75 => ⟨S_, .f32⟩
  | 76 => ⟨S8x4096x1, .f32⟩
  | 77 => ⟨S8x4096x1, .f32⟩
  | 78 => ⟨S8x4096x1, .f32⟩
  | 79 => ⟨S8x4096x128, .f32⟩
  | 80 => ⟨S8x4096x128, .f32⟩
  | 81 => ⟨S1x1x128, .f32⟩
  | 82 => ⟨S8x4096x128, .f32⟩
  | 83 => ⟨S8x4096x128, .f32⟩
  | 84 => ⟨S8x4096x1024, .f32⟩
  | 85 => ⟨S8x4096x8x128, .f32⟩
  | 86 => ⟨S8x4096x32, .f32⟩
  | 87 => ⟨S8x4096x1x32, .f32⟩
  | 88 => ⟨S8x4096x8x32, .f32⟩
  | 89 => ⟨S8x4096x8x64, .f32⟩
  | 90 => ⟨S8x4096x8x96, .f32⟩
  | 91 => ⟨S8x4096x8x96, .f32⟩
  | 92 => ⟨S_, .f32⟩
  | 93 => ⟨S8x4096x8, .f32⟩
  | 94 => ⟨S8x4096x8x1, .f32⟩
  | 95 => ⟨S_, .f32⟩
  | 96 => ⟨S8x4096x8x1, .f32⟩
  | 97 => ⟨S8x4096x8x1, .f32⟩
  | 98 => ⟨S_, .f32⟩
  | 99 => ⟨S8x4096x8x1, .f32⟩
  | 100 => ⟨S8x4096x8x1, .f32⟩
  | 101 => ⟨S8x4096x8x1, .f32⟩
  | 102 => ⟨S8x4096x8x96, .f32⟩
  | 103 => ⟨S8x4096x8x96, .f32⟩
  | 104 => ⟨S1x1x1x96, .f32⟩
  | 105 => ⟨S8x4096x8x96, .f32⟩
  | 106 => ⟨S8x4096x8x96, .f32⟩
  | 107 => ⟨S8x4096x8x64, .f32⟩
  | 108 => ⟨S8x4096x8x16, .f32⟩
  | 109 => ⟨S8x4096x8x16, .f32⟩
  | 110 => ⟨S8x4096x8x8, .f32⟩
  | 111 => ⟨S8x4096x8x8, .f32⟩
  | 112 => ⟨S8x4096x8x8, .f32⟩
  | 113 => ⟨S8x4096x8x16, .f32⟩
  | 114 => ⟨S8x4096x8x8, .f32⟩
  | 115 => ⟨S8x4096x8x8, .f32⟩
  | 116 => ⟨S8x4096x8x8, .f32⟩
  | 117 => ⟨S8x4096x8x16, .f32⟩
  | 118 => ⟨S8x4096x8x32, .f32⟩
  | 119 => ⟨S8x4096x8x32, .f32⟩
  | 120 => ⟨S4096x1x32, .f32⟩
  | 121 => ⟨S1x4096x1x32, .f32⟩
  | 122 => ⟨S8x4096x8x32, .f32⟩
  | 123 => ⟨S8x4096x8x32, .f32⟩
  | 124 => ⟨S4096x1x32, .f32⟩
  | 125 => ⟨S1x4096x1x32, .f32⟩
  | 126 => ⟨S8x4096x8x32, .f32⟩
  | 127 => ⟨S8x4096x8x32, .f32⟩
  | _ => ⟨S8x4096x256, .f32⟩

abbrev hbmTy0_1 (i : Nat) : BufTy := match i % 128 with
  | 0 => ⟨S8x4096x8x32, .f32⟩
  | 1 => ⟨S8x4096x8x96, .f32⟩
  | 2 => ⟨S8x4096x8x64, .f32⟩
  | 3 => ⟨S_, .f32⟩
  | 4 => ⟨S8x4096x8x1, .f32⟩
  | 5 => ⟨S8x4096x8x65, .f32⟩
  | 6 => ⟨S_, .f32⟩
  | 7 => ⟨S8x4096x8x96, .f32⟩
  | 8 => ⟨S8x4096x8x96, .f32⟩
  | 9 => ⟨S_, .i32⟩
  | 10 => ⟨S_, .f32⟩
  | 11 => ⟨S8x4096x8x128, .f32⟩
  | 12 => ⟨S8x4096x1024, .f32⟩
  | 13 => ⟨S8x4096x1024, .bf16⟩
  | 14 => ⟨S_, .i32⟩
  | 15 => ⟨S_, .f32⟩
  | 16 => ⟨S8x4096x8x128, .f32⟩
  | 17 => ⟨S8x4096x1024, .f32⟩
  | 18 => ⟨S8x4096x1024, .bf16⟩
  | 19 => ⟨S_, .i32⟩
  | 20 => ⟨S_, .f32⟩
  | 21 => ⟨S8x4096x8x128, .f32⟩
  | 22 => ⟨S8x4096x1024, .f32⟩
  | 23 => ⟨S8x4096x1024, .bf16⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_8 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_11 : Ref sig .tc := ⟨.hbm, 131, rfl⟩
abbrev main_v109 : Ref sig .tc := ⟨.hbm, 132, rfl⟩
abbrev main_v110 : Ref sig .tc := ⟨.hbm, 133, rfl⟩
abbrev main_cst_12 : Ref sig .tc := ⟨.hbm, 134, rfl⟩
abbrev main_v111 : Ref sig .tc := ⟨.hbm, 135, rfl⟩
abbrev main_v112 : Ref sig .tc := ⟨.hbm, 136, rfl⟩
abbrev main_c : Ref sig .tc := ⟨.hbm, 137, rfl⟩
abbrev main_call0_v0 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_c_13 : Ref sig .tc := ⟨.hbm, 142, rfl⟩
abbrev main_call1_v0 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_c_14 : Ref sig .tc := ⟨.hbm, 147, rfl⟩
abbrev main_call2_v0 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩

abbrev nD : Nat := 1
abbrev τ : Topo := Topo.v7x

variable {F : FTy → Type} [FloatOps F]
-- ==== Kernel6.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x512 : Shape := ⟨3, ![1, 1024, 512]⟩
abbrev S1x1x512 : Shape := ⟨3, ![1, 1, 512]⟩
abbrev S1x16x512 : Shape := ⟨3, ![1, 16, 512]⟩
abbrev S1024x512 : Shape := ⟨2, ![1024, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x6144x16, .f32⟩
  | .hbm, ⟨13, _⟩ => ⟨S2x16x6144, .f32⟩
  | .hbm, ⟨14, _⟩ => ⟨S2x1x6144, .f32⟩
  | .hbm, ⟨15, _⟩ => ⟨S2x16x6144, .f32⟩
  | .hbm, ⟨16, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel7.lean ====
abbrev S8x256x256 : Shape := ⟨3, ![8, 256, 256]⟩
abbrev S256x256 : Shape := ⟨2, ![256, 256]⟩
abbrev S64x64 : Shape := ⟨2, ![64, 64]⟩
abbrev S4x4 : Shape := ⟨2, ![4, 4]⟩
abbrev S_ : Shape := ⟨0, ![]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S1x256x256 : Shape := ⟨3, ![1, 256, 256]⟩

abbrev nBuf : Space → Nat
  | .hbm => 25
  | .vmem => 8
  | .smem => 0
  | _ => 0

abbrev bufTy : (tb : Table) → Fin (tcTables nBuf tb) → BufTy
  | .hbm, ⟨0, _⟩ => ⟨S8x256x256, .f32⟩
  | .hbm, ⟨1, _⟩ => ⟨S256x256, .f32⟩
  | .hbm, ⟨2, _⟩ => ⟨S256x256, .f32⟩
  | .hbm, ⟨3, _⟩ => ⟨S64x64, .f32⟩
  | .hbm, ⟨4, _⟩ => ⟨S64x64, .f32⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S4x1x4x1, .f32⟩
  | .hbm, ⟨13, _⟩ => ⟨S1x64x1x64, .f32⟩
  | .hbm, ⟨14, _⟩ => ⟨S4x64x4x64, .f32⟩
  | .hbm, ⟨15, _⟩ => ⟨S4x64x4x64, .f32⟩
  | .hbm, ⟨16, _⟩ => ⟨S4x64x4x64, .f32⟩
  | .hbm, ⟨17, _⟩ => ⟨S256x256, .f32⟩
  | .hbm, ⟨18, _⟩ => ⟨S4x1x4x1, .f32⟩
  | .hbm, ⟨19, _⟩ => ⟨S1x64x1x64, .f32⟩
  | .hbm, ⟨20, _⟩ => ⟨S4x64x4x64, .f32⟩
  | .hbm, ⟨21, _⟩ => ⟨S4x64x4x64, .f32⟩
  | .hbm, ⟨22, _⟩ => ⟨S4x64x4x64, .f32⟩
  | .hbm, ⟨23, _⟩ => ⟨S256x256, .f32⟩
  | .hbm, ⟨24, _⟩ => ⟨S8x256x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x256x256, .f32⟩
  | .local _ .vmem, ⟨7, _⟩ => ⟨S1x256x256, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8x256x256 : Shape := ⟨3, ![8, 256, 256]⟩
abbrev S256x256 : Shape := ⟨2, ![256, 256]⟩
abbrev S64x64 : Shape := ⟨2, ![64, 64]⟩
abbrev S8x256x4x64 : Shape := ⟨4, ![8, 256, 4, 64]⟩
abbrev S8x4x64x256 : Shape := ⟨4, ![8, 4, 64, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S256x256, .f32⟩
  | .hbm, ⟨2, _⟩ => ⟨S256x256, .f32⟩
  | .hbm, ⟨3, _⟩ => ⟨S64x64, .f32⟩
  | .hbm, ⟨4, _⟩ => ⟨S64x64, .f32⟩
  | .hbm, ⟨5, _⟩ => ⟨S8x256x4x64, .f32⟩
  | .hbm, ⟨6, _⟩ => ⟨S8x4x64x256, .f32⟩
  | .hbm, ⟨7, _⟩ => ⟨S8x256x4x64, .f32⟩
  | .hbm, ⟨8, _⟩ => ⟨S8x4x64x256, .f32⟩
  | .hbm, ⟨9, _⟩ => ⟨S8x256x4x64, .f32⟩
  | .hbm, ⟨10, _⟩ => ⟨S8x256x4x64, .f32⟩
  | .hbm, ⟨11, _⟩ => ⟨S8x256x4x64, .f32⟩
  | .hbm, ⟨12, _⟩ => ⟨S8x256x4x64, .f32⟩
  | .hbm, ⟨13, _⟩ => ⟨S8x256x4x64, .f32⟩
  | .hbm, ⟨14, _⟩ => ⟨S_, .f32⟩
  | .hbm, ⟨15, _⟩ => ⟨S8x256x4x64, .f32⟩
  | .hbm, ⟨16, _⟩ => ⟨S8x256x4x64, .f32⟩
  | .hbm, ⟨17, _⟩ => ⟨S8x256x256, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.Flash.lean ====
/-
  The arithmetic of attention over the extended reals, without any program: a softmax-weighted mean over the first `n`
  keys, the same sum weighted relative to an arbitrary real level, the step from one level to another while more keys
  are taken in, and the quotient that forgets the level.
-/
module

public import Idealize.ShloMosaic.PureOps.Ideal.Laws

@[expose] public section

noncomputable section

open Idealize.ShloMosaic

namespace Cert.Proof.Flash

/-- A nonnegative real factor moves into a finite sum of extended reals. -/
theorem coe_mul_sum {ι : Type} (t : Finset ι) (a : ℝ) (ha : 0 ≤ a) (f : ι → EReal) :
    (a : EReal) * ∑ k ∈ t, f k = ∑ k ∈ t, (a : EReal) * f k := by
  classical
  induction t using Finset.induction_on with
  | empty => simp
  | insert k t hk ih =>
    rw [Finset.sum_insert hk, Finset.sum_insert hk,
      EReal.left_distrib_of_nonneg_of_ne_top (EReal.coe_nonneg.mpr ha) (EReal.coe_ne_top a), ih]

/-- A finite sum of reals, read as an extended real. -/
theorem sum_coe {ι : Type} (t : Finset ι) (f : ι → ℝ) :
    ∑ k ∈ t, ((f k : ℝ) : EReal) = ((∑ k ∈ t, f k : ℝ) : EReal) := by
  classical
  induction t using Finset.induction_on with
  | empty => simp
  | insert k t hk ih => rw [Finset.sum_insert hk, Finset.sum_insert hk, ih, EReal.coe_add]

/-- The first `n` keys' values weighted by the exponential of their score relative to the level `m`. -/
def part (n : ℕ) (m : ℝ) (s : ℕ → ℝ) (v : ℕ → EReal) : EReal :=
  ∑ k ∈ Finset.range n, ((Real.exp (s k - m) : ℝ) : EReal) * v k

/-- Attention at one query: the first `n` keys' values weighted by the softmax of the scores. -/
def att (n : ℕ) (s : ℕ → ℝ) (v : ℕ → EReal) : EReal :=
  ∑ k ∈ Finset.range n, ((Real.exp (s k) / ∑ i ∈ Finset.range n, Real.exp (s i) : ℝ) : EReal) * v k

/-- No key: the sum is zero at every level. -/
theorem part_zero (m : ℝ) (s : ℕ → ℝ) (v : ℕ → EReal) : part 0 m s v = 0 := by simp [part]

/-- Raising the level from `m` to `m'` and taking in `c` further keys. -/
theorem part_add (n c : ℕ) (m m' : ℝ) (s : ℕ → ℝ) (v : ℕ → EReal) :
    ((Real.exp (m - m') : ℝ) : EReal) * part n m s v
      + ∑ k : Fin c, ((Real.exp (s (n + k) - m') : ℝ) : EReal) * v (n + k) = part (n + c) m' s v := by
  unfold part
  rw [Finset.sum_range_add, coe_mul_sum _ _ (Real.exp_pos _).le]
  refine congrArg₂ (· + ·) (Finset.sum_congr rfl fun k _ => ?_)
    (Finset.sum_range fun x => ((Real.exp (s (n + x) - m') : ℝ) : EReal) * v (n + x)).symm
  rw [← mul_assoc, ← EReal.coe_mul, ← Real.exp_add]
  congr 3
  ring

/-- The values all one: the sum of the weights, a positive real. -/
theorem part_one (n : ℕ) (m : ℝ) (s : ℕ → ℝ) (v : ℕ → EReal) (hv : ∀ k < n, v k = 1) :
    part n m s v = ((∑ k ∈ Finset.range n, Real.exp (s k - m) : ℝ) : EReal) := by
  unfold part
  rw [← sum_coe]
  exact Finset.sum_congr rfl fun k hk => by rw [hv k (Finset.mem_range.mp hk), mul_one]

/-- The weight of one key over the sum of the weights does not depend on the level. -/
theorem weight_level (n : ℕ) (m : ℝ) (s : ℕ → ℝ) (k : ℕ) :
    Real.exp (s k - m) * (1 / ∑ i ∈ Finset.range n, Real.exp (s i - m))
      = Real.exp (s k) / ∑ i ∈ Finset.range n, Real.exp (s i) := by
  simp only [Real.exp_sub]
  rw [← Finset.sum_div, div_mul_div_comm, mul_one]
  field_simp

/-- The sum of the weights of at least one key is not zero. -/
theorem sum_exp_ne_zero (n : ℕ) (hn : 0 < n) (m : ℝ) (s : ℕ → ℝ) :
    (∑ i ∈ Finset.range n, Real.exp (s i - m)) ≠ 0 :=
  (Finset.sum_pos (fun i _ => Real.exp_pos _) ⟨0, Finset.mem_range.mpr hn⟩).ne'

/-- The weighted sum over the sum of the weights is the attention, whatever the level. -/
theorem part_div (n : ℕ) (hn : 0 < n) (m : ℝ) (s : ℕ → ℝ) (v w : ℕ → EReal) (hw : ∀ k < n, w k = 1) :
    Ideal.div (part n m s v) (part n m s w) = att n s v := by
  have hnn : 0 ≤ 1 / ∑ i ∈ Finset.range n, Real.exp (s i - m) :=
    one_div_nonneg.mpr (Finset.sum_nonneg fun i _ => (Real.exp_pos _).le)
  rw [part_one n m s w hw, Ideal.div_coe (sum_exp_ne_zero n hn m s), mul_comm]
  unfold part att
  rw [coe_mul_sum _ _ hnn]
  refine Finset.sum_congr rfl fun k _ => ?_
  rw [← mul_assoc, ← EReal.coe_mul, mul_comm (1 / _) (Real.exp _), weight_level]

/-- The softmax as written out (exponentials relative to a real level, each divided by their sum) weights the values
    to the same attention. -/
theorem softmax_eq (n : ℕ) (hn : 0 < n) (m : ℝ) (s : ℕ → ℝ) (v : ℕ → EReal) :
    ∑ k ∈ Finset.range n, v k * Ideal.div ((Real.exp (s k - m) : ℝ) : EReal)
      ((∑ i ∈ Finset.range n, Real.exp (s i - m) : ℝ) : EReal) = att n s v := by
  unfold att
  refine Finset.sum_congr rfl fun k _ => ?_
  rw [Ideal.div_coe (sum_exp_ne_zero n hn m s), ← EReal.coe_mul, weight_level, mul_comm]

/-- The greatest of a real and finitely many reals is real. -/
theorem max_fold_real {ι : Type} (t : Finset ι) (a : ℝ) (f : ι → EReal) (hf : ∀ k, ∃ r : ℝ, f k = (r : EReal)) :
    ∃ r : ℝ, max (a : EReal) (t.fold max ⊥ f) = (r : EReal) := by
  classical
  induction t using Finset.induction_on with
  | empty => exact ⟨a, by simp⟩
  | insert k t hk ih =>
    obtain ⟨r, hr⟩ := ih
    obtain ⟨x, hx⟩ := hf k
    refine ⟨max x r, ?_⟩
    rw [Finset.fold_insert hk, max_left_comm, hr, hx]
    exact (EReal.coe_strictMono.monotone.map_max).symm

/-- A sum of products of reals is real. -/
theorem sum_mul_real {ι : Type} (t : Finset ι) (f g : ι → EReal) (hf : ∀ k, ∃ r : ℝ, f k = (r : EReal))
    (hg : ∀ k, ∃ r : ℝ, g k = (r : EReal)) : ∃ r : ℝ, ∑ k ∈ t, f k * g k = (r : EReal) := by
  choose a ha using hf
  choose b hb using hg
  refine ⟨∑ k ∈ t, a k * b k, ?_⟩
  rw [← sum_coe]
  exact Finset.sum_congr rfl fun k _ => by rw [ha, hb, EReal.coe_mul]

end Cert.Proof.Flash

end
-- ==== Proof.Block.lean ====
/-
  One query block's arithmetic, head by head: the state a head carries (a level and a weighted sum per query row), the
  step that takes in 512 or 256 further keys, the start, and the closing quotient.
-/
module

public import proofs.«01_k».proof.Proof.Flash
public import proofs.«01_k».proof.Proof.Gen.KernelIdeal.Skeleton
public import Idealize.ShloMosaic.Lib.Pointwise

@[expose] public section

noncomputable section

open Idealize.ShloMosaic Idealize.ShloMosaic.TcCoe
open Cert.KernelIdeal Cert.KernelIdeal.Gen

namespace Cert.Proof.Block

/-- What a head carries after its first `n` keys: each row's level is a real, and each row's sums are the values
    weighted relative to that level (`s` the scores, `v` the values, both by key number). -/
def Carries (n : ℕ) (s : Fin 256 → ℕ → ℝ) (v : ℕ → Fin 128 → EReal) (M : FVec Ideal S256x1 .f32)
    (A : FVec Ideal S256x128 .f32) : Prop :=
  ∀ r : Fin 256, ∃ m : ℝ, M (ix2 r 0) = (m : EReal) ∧ ∀ j : Fin 128, A (ix2 r j) = Flash.part n m (s r) fun k => v k j

/-- The word the levels start from is a real. -/
theorem start_real : ∃ m : ℝ, Ideal.ofBits .f32 0xF149F2CA#32 = (m : EReal) := by
  refine ⟨-(13234890 * 2 ^ 76), ?_⟩
  rw [EReal.coe_neg, EReal.coe_mul, EReal.coe_pow]
  simp [Ideal.ofBits, Ideal.ieee]

/-- The word a row's maximum starts from is minus infinity. -/
theorem negInf : Ideal.ofBits .f32 0xFF800000#32 = ⊥ := by
  simp [Ideal.ofBits, Ideal.ieee]

/-- A head starts with no key taken in. -/
theorem carries_start (s : Fin 256 → ℕ → ℝ) (v : ℕ → Fin 128 → EReal) :
    Carries 0 s v (k0_pay21 (F := Ideal)) (k0_pay22 (F := Ideal)) := by
  intro r
  obtain ⟨m, hm⟩ := start_real
  refine ⟨m, hm, fun j => ?_⟩
  rw [Flash.part_zero]
  exact Ideal.ofBits_zero_f32

/-- The step a row makes, in extended reals: the new level is the greater of the old one and the scores met, and the
    sums are carried to it with the new keys added. -/
theorem row_step {c : ℕ} (n : ℕ) (s : ℕ → ℝ) (v : ℕ → Fin 128 → EReal) (m : ℝ) (S : Fin c → EReal)
    (hS : ∀ k, S k = ((s (n + k) : ℝ) : EReal)) (A : Fin 128 → EReal)
    (hA : ∀ j, A j = Flash.part n m s fun k => v k j) :
    ∃ m' : ℝ, max (m : EReal) (Finset.univ.fold max ⊥ S) = (m' : EReal) ∧ ∀ j : Fin 128,
      Ideal.exp ((m : EReal) - (m' : EReal)) * A j + ∑ k : Fin c, Ideal.exp (S k - (m' : EReal)) * v (n + k) j
        = Flash.part (n + c) m' s fun k => v k j := by
  obtain ⟨m', hm'⟩ := Flash.max_fold_real Finset.univ m S fun k => ⟨_, hS k⟩
  refine ⟨m', hm', fun j => ?_⟩
  rw [hA, ← Flash.part_add n c m m' s fun k => v k j, ← EReal.coe_sub]
  refine congrArg₂ (· + ·) rfl (Finset.sum_congr rfl fun k _ => ?_)
  rw [hS, ← EReal.coe_sub]
  rfl

/-! ## A chunk of 512 keys -/

theorem score512 (Q : FVec Ideal S256x128 .bf16) (K : Vec Ideal S1x512x128 .bf16) (r : Fin 256) (c : Fin 512) :
    k0_pay5 Q K (ix2 r c) = ∑ d : Fin 128, Q (ix2 r d) * K (ix3 0 c d) := by
  pointwise [k0_pay5]

theorem level512 (Q : FVec Ideal S256x128 .bf16) (K : Vec Ideal S1x512x128 .bf16) (M : FVec Ideal S256x1 .f32)
    (r : Fin 256) : k0_pay6 Q M K (ix2 r 0)
      = max (M (ix2 r 0)) (Finset.univ.fold max ⊥ fun c : Fin 512 => k0_pay5 Q K (ix2 r c)) := by
  rw [← negInf]
  pointwise [k0_pay6]

theorem sums512 (Q : FVec Ideal S256x128 .bf16) (K V : Vec Ideal S1x512x128 .bf16) (M : FVec Ideal S256x1 .f32)
    (A : FVec Ideal S256x128 .f32) (r : Fin 256) (j : Fin 128) : k0_pay7 Q M A K V (ix2 r j)
      = Ideal.exp (M (ix2 r 0) - k0_pay6 Q M K (ix2 r 0)) * A (ix2 r j)
        + ∑ c : Fin 512, Ideal.exp (k0_pay5 Q K (ix2 r c) - k0_pay6 Q M K (ix2 r 0)) * V (ix3 0 c j) := by
  pointwise [k0_pay7]

/-- Taking in the 512 keys `n, …, n + 511`. -/
theorem carries_512 (n : ℕ) (s : Fin 256 → ℕ → ℝ) (v : ℕ → Fin 128 → EReal) (Q : FVec Ideal S256x128 .bf16)
    (K V : Vec Ideal S1x512x128 .bf16) (M : FVec Ideal S256x1 .f32) (A : FVec Ideal S256x128 .f32)
    (hK : ∀ (r : Fin 256) (c : Fin 512), ∑ d : Fin 128, Q (ix2 r d) * K (ix3 0 c d) = ((s r (n + c) : ℝ) : EReal))
    (hV : ∀ (c : Fin 512) (j : Fin 128), V (ix3 0 c j) = v (n + c) j) (h : Carries n s v M A) :
    Carries (n + 512) s v (k0_pay6 Q M K) (k0_pay7 Q M A K V) := by
  intro r
  obtain ⟨m, hm, hA⟩ := h r
  obtain ⟨m', hm', hs⟩ := row_step n (s r) v m (fun c : Fin 512 => k0_pay5 Q K (ix2 r c))
    (fun c => (score512 Q K r c).trans (hK r c)) (fun j => A (ix2 r j)) hA
  have hl : k0_pay6 Q M K (ix2 r 0) = (m' : EReal) := by rw [level512, hm, hm']
  refine ⟨m', hl, fun j => ?_⟩
  rw [sums512, hl, hm, ← hs j]
  exact congrArg₂ (· + ·) rfl (Finset.sum_congr rfl fun c _ => by rw [hV])

/-! ## The 256 context keys -/

theorem score256 (Q : FVec Ideal S256x128 .bf16) (K : Vec Ideal S1x256x128 .bf16) (r c : Fin 256) :
    k0_pay34 Q K (ix2 r c) = ∑ d : Fin 128, Q (ix2 r d) * K (ix3 0 c d) := by
  pointwise [k0_pay34]

theorem level256 (Q : FVec Ideal S256x128 .bf16) (K : Vec Ideal S1x256x128 .bf16) (M : FVec Ideal S256x1 .f32)
    (r : Fin 256) : k0_pay35 Q M K (ix2 r 0)
      = max (M (ix2 r 0)) (Finset.univ.fold max ⊥ fun c : Fin 256 => k0_pay34 Q K (ix2 r c)) := by
  rw [← negInf]
  pointwise [k0_pay35]

theorem sums256 (Q : FVec Ideal S256x128 .bf16) (K V : Vec Ideal S1x256x128 .bf16) (M : FVec Ideal S256x1 .f32)
    (A : FVec Ideal S256x128 .f32) (r : Fin 256) (j : Fin 128) : k0_pay36 Q M A K V (ix2 r j)
      = Ideal.exp (M (ix2 r 0) - k0_pay35 Q M K (ix2 r 0)) * A (ix2 r j)
        + ∑ c : Fin 256, Ideal.exp (k0_pay34 Q K (ix2 r c) - k0_pay35 Q M K (ix2 r 0)) * V (ix3 0 c j) := by
  pointwise [k0_pay36]

/-- Taking in the 256 keys `n, …, n + 255`. -/
theorem carries_256 (n : ℕ) (s : Fin 256 → ℕ → ℝ) (v : ℕ → Fin 128 → EReal) (Q : FVec Ideal S256x128 .bf16)
    (K V : Vec Ideal S1x256x128 .bf16) (M : FVec Ideal S256x1 .f32) (A : FVec Ideal S256x128 .f32)
    (hK : ∀ r c : Fin 256, ∑ d : Fin 128, Q (ix2 r d) * K (ix3 0 c d) = ((s r (n + c) : ℝ) : EReal))
    (hV : ∀ (c : Fin 256) (j : Fin 128), V (ix3 0 c j) = v (n + c) j) (h : Carries n s v M A) :
    Carries (n + 256) s v (k0_pay35 Q M K) (k0_pay36 Q M A K V) := by
  intro r
  obtain ⟨m, hm, hA⟩ := h r
  obtain ⟨m', hm', hs⟩ := row_step n (s r) v m (fun c : Fin 256 => k0_pay34 Q K (ix2 r c))
    (fun c => (score256 Q K r c).trans (hK r c)) (fun j => A (ix2 r j)) hA
  have hl : k0_pay35 Q M K (ix2 r 0) = (m' : EReal) := by rw [level256, hm, hm']
  refine ⟨m', hl, fun j => ?_⟩
  rw [sums256, hl, hm, ← hs j]
  exact congrArg₂ (· + ·) rfl (Finset.sum_congr rfl fun c _ => by rw [hV])

/-! ## The quotient -/

theorem quotient (A : FVec Ideal S256x128 .f32) (r : Fin 256) (j : Fin 128) :
    k0_pay52 A (ix3 0 r j) = Ideal.div (A (ix2 r j)) (A (ix2 r 64)) := by
  pointwise [k0_pay52]

/-- After `n` keys, lane 64 of the values being one, the quotient is the attention over those keys. -/
theorem quotient_eq (n : ℕ) (hn : 0 < n) (s : Fin 256 → ℕ → ℝ) (v : ℕ → Fin 128 → EReal) (M : FVec Ideal S256x1 .f32)
    (A : FVec Ideal S256x128 .f32) (h : Carries n s v M A) (h1 : ∀ k < n, v k 64 = 1) (r : Fin 256) (j : Fin 128) :
    k0_pay52 A (ix3 0 r j) = Flash.att n (s r) fun k => v k j := by
  obtain ⟨m, -, hA⟩ := h r
  rw [quotient, hA j, hA 64, Flash.part_div n hn m (s r) _ _ h1]

end Cert.Proof.Block

end
-- ==== Proof.Loop.lean ====
/-
  A trip of the kernel's loops takes 512 more keys into each of its four heads, so after the eight trips every head has
  taken in all 4352 keys.
-/
module

public import proofs.«01_k».proof.Proof.Block
public import proofs.«01_k».proof.Proof.Gen.KernelIdeal.Loops
public import Idealize.ShloMosaic.Lib.Pipeline.Value
public import Idealize.ShloMosaic.Lib.Pipeline.ValueKit.Tiles

@[expose] public section

noncomputable section

open Idealize.ShloMosaic Idealize.ShloMosaic.TcCoe
open Cert.KernelIdeal Cert.KernelIdeal.Gen

namespace Cert.Proof.Loop

open Block

/-- What head number `o / 128` of a block is: its 128 lanes start at lane `o`; `s` are the scores of the block's query
    rows `x0` against the context keys `x1`, then the latent keys `x3`; `v` are the values, `x2` then `x4`. -/
structure Head (o : ℕ) (ho : o + 128 ≤ 1024) (x0 x1 x2 : Vec Ideal S1x256x1024 .bf16)
    (x3 x4 : Vec Ideal S1x4096x1024 .bf16) (s : Fin 256 → ℕ → ℝ) (v : ℕ → Fin 128 → EReal) : Prop where
  contextScore : ∀ r c : Fin 256, ∑ d : Fin 128, x0 (ix3 0 r ⟨o + d, by omega⟩) * x1 (ix3 0 c ⟨o + d, by omega⟩)
    = ((s r c : ℝ) : EReal)
  contextValue : ∀ (c : Fin 256) (j : Fin 128), x2 (ix3 0 c ⟨o + j, by omega⟩) = v c j
  latentScore : ∀ (r : Fin 256) (c : Fin 4096),
    ∑ d : Fin 128, x0 (ix3 0 r ⟨o + d, by omega⟩) * x3 (ix3 0 c ⟨o + d, by omega⟩) = ((s r (256 + c) : ℝ) : EReal)
  latentValue : ∀ (c : Fin 4096) (j : Fin 128), x4 (ix3 0 c ⟨o + j, by omega⟩) = v (256 + c) j

/-- A 512-row, 128-lane load of a latent block, at an index. -/
theorem load_512 (m : Memref sig .tc .vmem S1x4096x1024 .bf16) (hm : m.IsWhole) (x : Vec Ideal S1x4096x1024 .bf16)
    (k o : ℕ) (hk : k < 8) (ho : o + 128 ≤ 1024) (off : Fin 3 → ℕ) (e : off = ![0, 512 * k, o]) (inb) (c : Fin 512)
    (d : Fin 128) :
    View.readAt (Elt Ideal) m.view (Rect.unit (s := S1x4096x1024) off S1x512x128.size inb).toLoadRect (hm.unread x)
        (ix3 0 c d) = x (ix3 0 ⟨512 * k + c, by omega⟩ ⟨o + d, by omega⟩) := by
  subst e
  rw [View.readAt_eq_ld, hm.read_unread]
  exact View.ld_unit_apply_of x _ _ inb _ _ fun a => by
    fin_cases a <;> first | rfl | simp [ix3]

/-- A 256-row, 128-lane load of a query or context block, at an index. -/
theorem load_256 (m : Memref sig .tc .vmem S1x256x1024 .bf16) (hm : m.IsWhole) (x : Vec Ideal S1x256x1024 .bf16)
    (o : ℕ) (ho : o + 128 ≤ 1024) (off : Fin 3 → ℕ) (e : off = ![0, 0, o]) (inb) (c : Fin 256) (d : Fin 128) :
    View.readAt (Elt Ideal) m.view (Rect.unit (s := S1x256x1024) off S1x256x128.size inb).toLoadRect (hm.unread x)
        (ix3 0 c d) = x (ix3 0 c ⟨o + d, by omega⟩) := by
  subst e
  rw [View.readAt_eq_ld, hm.read_unread]
  exact View.ld_unit_apply_of x _ _ inb _ _ fun a => by
    fin_cases a <;> first | rfl | simp [ix3]

/-- A query slice loses its leading axis of length one. -/
theorem query_slice (q : Vec Ideal S1x256x128 .bf16) (r : Fin 256) (d : Fin 128) :
    k0_pay17 q (ix2 r d) = q (ix3 0 r d) := by
  pointwise [k0_pay17]

section
variable {o : ℕ} {ho : o + 128 ≤ 1024} {x0 x1 x2 : Vec Ideal S1x256x1024 .bf16}
  {x3 x4 : Vec Ideal S1x4096x1024 .bf16} {s : Fin 256 → ℕ → ℝ} {v : ℕ → Fin 128 → EReal}

/-- The context step of a head: after it the head has taken in 256 keys. -/
theorem head_256 (H : Head o ho x0 x1 x2 x3 x4 s v) (Q : FVec Ideal S256x128 .bf16)
    (hQ : ∀ (r : Fin 256) (d : Fin 128), Q (ix2 r d) = x0 (ix3 0 r ⟨o + d, by omega⟩))
    (K V : Vec Ideal S1x256x128 .bf16)
    (hK : ∀ (c : Fin 256) (d : Fin 128), K (ix3 0 c d) = x1 (ix3 0 c ⟨o + d, by omega⟩))
    (hV : ∀ (c : Fin 256) (d : Fin 128), V (ix3 0 c d) = x2 (ix3 0 c ⟨o + d, by omega⟩)) :
    Carries 256 s v (k0_pay35 Q k0_pay21 K) (k0_pay36 Q k0_pay21 k0_pay22 K V) := by
  have := carries_256 0 s v Q K V k0_pay21 k0_pay22
    (fun r c => by
      rw [Nat.zero_add, ← H.contextScore r c]
      exact Finset.sum_congr rfl fun d _ => by rw [hQ, hK])
    (fun c j => by rw [Nat.zero_add, ← H.contextValue c j, hV]) (carries_start s v)
  exact this

/-- One trip's step of a head: from `256 + 512 k` keys to 512 more. -/
theorem head_512 (H : Head o ho x0 x1 x2 x3 x4 s v) (k : ℕ) (hk : k < 8) (Q : FVec Ideal S256x128 .bf16)
    (hQ : ∀ (r : Fin 256) (d : Fin 128), Q (ix2 r d) = x0 (ix3 0 r ⟨o + d, by omega⟩))
    (K V : Vec Ideal S1x512x128 .bf16)
    (hK : ∀ (c : Fin 512) (d : Fin 128), K (ix3 0 c d) = x3 (ix3 0 ⟨512 * k + c, by omega⟩ ⟨o + d, by omega⟩))
    (hV : ∀ (c : Fin 512) (d : Fin 128), V (ix3 0 c d) = x4 (ix3 0 ⟨512 * k + c, by omega⟩ ⟨o + d, by omega⟩))
    (M : FVec Ideal S256x1 .f32) (A : FVec Ideal S256x128 .f32) (h : Carries (256 + 512 * k) s v M A) :
    Carries (256 + 512 * (k + 1)) s v (k0_pay6 Q M K) (k0_pay7 Q M A K V) := by
  have := carries_512 (256 + 512 * k) s v Q K V M A
    (fun r c => by
      have e := H.latentScore r ⟨512 * k + c, by omega⟩
      rw [Nat.add_assoc, ← e]
      exact Finset.sum_congr rfl fun d _ => by rw [hQ, hK])
    (fun c j => by
      have e := H.latentValue ⟨512 * k + c, by omega⟩ j
      rw [Nat.add_assoc, ← e, hV]) h
  exact this

end

/-- The four heads one loop carries, at lanes `o`, `o + 128`, `o + 256`, `o + 384`, after `n` keys. -/
def Four (n : ℕ) (s : ℕ → Fin 256 → ℕ → ℝ) (v : ℕ → ℕ → Fin 128 → EReal) (o : ℕ)
    (acc : FVec Ideal S256x1 .f32 × FVec Ideal S256x128 .f32 × FVec Ideal S256x1 .f32 × FVec Ideal S256x128 .f32 × FVec Ideal S256x1 .f32 × FVec Ideal S256x128 .f32 × FVec Ideal S256x1 .f32 × FVec Ideal S256x128 .f32) : Prop :=
  Carries n (s o) (v o) acc.1 acc.2.1 ∧ Carries n (s (o + 128)) (v (o + 128)) acc.2.2.1 acc.2.2.2.1
    ∧ Carries n (s (o + 256)) (v (o + 256)) acc.2.2.2.2.1 acc.2.2.2.2.2.1
    ∧ Carries n (s (o + 384)) (v (o + 384)) acc.2.2.2.2.2.2.1 acc.2.2.2.2.2.2.2

section
variable {n : ℕ} {s : ℕ → Fin 256 → ℕ → ℝ} {v : ℕ → ℕ → Fin 128 → EReal} {o : ℕ}
  {acc : FVec Ideal S256x1 .f32 × FVec Ideal S256x128 .f32 × FVec Ideal S256x1 .f32 × FVec Ideal S256x128 .f32 × FVec Ideal S256x1 .f32 × FVec Ideal S256x128 .f32 × FVec Ideal S256x1 .f32 × FVec Ideal S256x128 .f32}

theorem Four.first (h : Four n s v o acc) : Carries n (s o) (v o) acc.1 acc.2.1 := h.1

theorem Four.second (h : Four n s v o acc) : Carries n (s (o + 128)) (v (o + 128)) acc.2.2.1 acc.2.2.2.1 := h.2.1

theorem Four.third (h : Four n s v o acc) :
    Carries n (s (o + 256)) (v (o + 256)) acc.2.2.2.2.1 acc.2.2.2.2.2.1 := h.2.2.1

theorem Four.fourth (h : Four n s v o acc) :
    Carries n (s (o + 384)) (v (o + 384)) acc.2.2.2.2.2.2.1 acc.2.2.2.2.2.2.2 := h.2.2.2

end

/-! ## Loop 1: heads at lanes 0, 128, 256, 384 -/

theorem off5_eq : ∀ k : Fin k0_t1_loop.trips, k0_off5 k = ![0, 512 * k.val, 0] := by decide +kernel
theorem off6_eq : ∀ k : Fin k0_t1_loop.trips, k0_off6 k = ![0, 512 * k.val, 128] := by decide +kernel
theorem off7_eq : ∀ k : Fin k0_t1_loop.trips, k0_off7 k = ![0, 512 * k.val, 256] := by decide +kernel
theorem off8_eq : ∀ k : Fin k0_t1_loop.trips, k0_off8 k = ![0, 512 * k.val, 384] := by decide +kernel

/-- One trip of loop 1 takes 512 keys into each of its heads. -/
theorem trip1 (𝒱 : Variants) (c : Dev nD) (bd : Option 𝒱.V) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x4096x1024 .bf16) (harg5 : arg5.IsWhole) (arg6 : Memref sig .tc .vmem S1x4096x1024 .bf16) (harg6 : arg6.IsWhole) (arg7 : Memref sig .tc .vmem S1x256x1024 .f32) (harg7 : arg7.IsWhole) (v1 : FVec Ideal S256x128 .bf16) (v3 : FVec Ideal S256x128 .bf16) (v5 : FVec Ideal S256x128 .bf16) (v7 : FVec Ideal S256x128 .bf16) (v14 : FVec Ideal S256x1 .f32) (v15 : FVec Ideal S256x128 .f32) (v17 : BitVec 32) (v27 : FVec Ideal S256x1 .f32) (v37 : FVec Ideal S256x128 .f32) (v47 : FVec Ideal S256x1 .f32) (v57 : FVec Ideal S256x128 .f32) (v63 : FVec Ideal S256x128 .bf16) (v67 : FVec Ideal S256x1 .f32) (v71 : FVec Ideal S256x256 .bf16) (v75 : FVec Ideal S256x128 .f32)
    (x0 x1 x2 : Vec Ideal S1x256x1024 .bf16) (x3 x4 : Vec Ideal S1x4096x1024 .bf16) (s : ℕ → Fin 256 → ℕ → ℝ)
    (v : ℕ → ℕ → Fin 128 → EReal)
    (H0 : Head 0 (by omega) x0 x1 x2 x3 x4 (s 0) (v 0))
    (hQ0 : ∀ (r : Fin 256) (d : Fin 128), v1 (ix2 r d) = x0 (ix3 0 r ⟨0 + d, by omega⟩))
    (H1 : Head 128 (by omega) x0 x1 x2 x3 x4 (s 128) (v 128))
    (hQ1 : ∀ (r : Fin 256) (d : Fin 128), v3 (ix2 r d) = x0 (ix3 0 r ⟨128 + d, by omega⟩))
    (H2 : Head 256 (by omega) x0 x1 x2 x3 x4 (s 256) (v 256))
    (hQ2 : ∀ (r : Fin 256) (d : Fin 128), v5 (ix2 r d) = x0 (ix3 0 r ⟨256 + d, by omega⟩))
    (H3 : Head 384 (by omega) x0 x1 x2 x3 x4 (s 384) (v 384))
    (hQ3 : ∀ (r : Fin 256) (d : Fin 128), v7 (ix2 r d) = x0 (ix3 0 r ⟨384 + d, by omega⟩))
    (k : Fin k0_t1_loop.trips) (acc) (h : Four (256 + 512 * k.val) s v 0 acc) :
    Four (256 + 512 * (k.val + 1)) s v 0
      (tripR_k0_t1 (F := Ideal) 𝒱 c bd i arg2 harg2 arg3 harg3 arg4 harg4 arg5 harg5 arg6 harg6 arg7 harg7 v1 v3 v5 v7 v14 v15 v17 v27 v37 v47 v57 v63 v67 v71 v75 (harg5.unread x3) (harg6.unread x4) k acc) := by
  obtain ⟨h0, h1, h2, h3⟩ := h
  have hk8 : k.val < 8 := Nat.lt_of_lt_of_le k.isLt k0_t1_abs.2.1
  unfold tripR_k0_t1 trip_k0_t1
  dsimp only
  refine ⟨?_, ?_, ?_, ?_⟩
  · exact head_512 H0 k hk8 v1 hQ0 _ _
      (fun c d => load_512 arg5 harg5 x3 k 0 hk8 (by omega) _ (off5_eq k) _ c d)
      (fun c d => load_512 arg6 harg6 x4 k 0 hk8 (by omega) _ (off5_eq k) _ c d) _ _ h0
  · exact head_512 H1 k hk8 v3 hQ1 _ _
      (fun c d => load_512 arg5 harg5 x3 k 128 hk8 (by omega) _ (off6_eq k) _ c d)
      (fun c d => load_512 arg6 harg6 x4 k 128 hk8 (by omega) _ (off6_eq k) _ c d) _ _ h1
  · exact head_512 H2 k hk8 v5 hQ2 _ _
      (fun c d => load_512 arg5 harg5 x3 k 256 hk8 (by omega) _ (off7_eq k) _ c d)
      (fun c d => load_512 arg6 harg6 x4 k 256 hk8 (by omega) _ (off7_eq k) _ c d) _ _ h2
  · exact head_512 H3 k hk8 v7 hQ3 _ _
      (fun c d => load_512 arg5 harg5 x3 k 384 hk8 (by omega) _ (off8_eq k) _ c d)
      (fun c d => load_512 arg6 harg6 x4 k 384 hk8 (by omega) _ (off8_eq k) _ c d) _ _ h3

/-- After `k` trips each head of loop 1 has taken in `256 + 512 k` keys, if it started with the context's 256. -/
theorem trips1 (𝒱 : Variants) (c : Dev nD) (bd : Option 𝒱.V) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x4096x1024 .bf16) (harg5 : arg5.IsWhole) (arg6 : Memref sig .tc .vmem S1x4096x1024 .bf16) (harg6 : arg6.IsWhole) (arg7 : Memref sig .tc .vmem S1x256x1024 .f32) (harg7 : arg7.IsWhole) (v1 : FVec Ideal S256x128 .bf16) (v3 : FVec Ideal S256x128 .bf16) (v5 : FVec Ideal S256x128 .bf16) (v7 : FVec Ideal S256x128 .bf16) (v14 : FVec Ideal S256x1 .f32) (v15 : FVec Ideal S256x128 .f32) (v17 : BitVec 32) (v27 : FVec Ideal S256x1 .f32) (v37 : FVec Ideal S256x128 .f32) (v47 : FVec Ideal S256x1 .f32) (v57 : FVec Ideal S256x128 .f32) (v63 : FVec Ideal S256x128 .bf16) (v67 : FVec Ideal S256x1 .f32) (v71 : FVec Ideal S256x256 .bf16) (v75 : FVec Ideal S256x128 .f32)
    (x0 x1 x2 : Vec Ideal S1x256x1024 .bf16) (x3 x4 : Vec Ideal S1x4096x1024 .bf16) (s : ℕ → Fin 256 → ℕ → ℝ)
    (v : ℕ → ℕ → Fin 128 → EReal)
    (H0 : Head 0 (by omega) x0 x1 x2 x3 x4 (s 0) (v 0))
    (hQ0 : ∀ (r : Fin 256) (d : Fin 128), v1 (ix2 r d) = x0 (ix3 0 r ⟨0 + d, by omega⟩))
    (H1 : Head 128 (by omega) x0 x1 x2 x3 x4 (s 128) (v 128))
    (hQ1 : ∀ (r : Fin 256) (d : Fin 128), v3 (ix2 r d) = x0 (ix3 0 r ⟨128 + d, by omega⟩))
    (H2 : Head 256 (by omega) x0 x1 x2 x3 x4 (s 256) (v 256))
    (hQ2 : ∀ (r : Fin 256) (d : Fin 128), v5 (ix2 r d) = x0 (ix3 0 r ⟨256 + d, by omega⟩))
    (H3 : Head 384 (by omega) x0 x1 x2 x3 x4 (s 384) (v 384))
    (hQ3 : ∀ (r : Fin 256) (d : Fin 128), v7 (ix2 r d) = x0 (ix3 0 r ⟨384 + d, by omega⟩))
    (init) (h : Four 256 s v 0 init) :
    ∀ k : ℕ, k ≤ k0_t1_loop.trips → Four (256 + 512 * k) s v 0
      (st_k0_t1 (F := Ideal) 𝒱 c bd i arg2 harg2 arg3 harg3 arg4 harg4 arg5 harg5 arg6 harg6 arg7 harg7 v1 v3 v5 v7 v14 v15 v17 v27 v37 v47 v57 v63 v67 v71 v75 (harg5.unread x3) (harg6.unread x4) init k)
  | 0, _ => h
  | k + 1, hk => by
    have e := st_k0_t1_succ (F := Ideal) 𝒱 c bd i arg2 harg2 arg3 harg3 arg4 harg4 arg5 harg5 arg6 harg6 arg7 harg7 v1 v3 v5 v7 v14 v15 v17 v27 v37 v47 v57 v63 v67 v71 v75 (harg5.unread x3) (harg6.unread x4) init ⟨k, hk⟩
    rw [e]
    exact trip1 𝒱 c bd i arg2 harg2 arg3 harg3 arg4 harg4 arg5 harg5 arg6 harg6 arg7 harg7 v1 v3 v5 v7 v14 v15 v17 v27 v37 v47 v57 v63 v67 v71 v75 x0 x1 x2 x3 x4 s v H0 hQ0 H1 hQ1 H2 hQ2 H3 hQ3 ⟨k, hk⟩ _
      (trips1 𝒱 c bd i arg2 harg2 arg3 harg3 arg4 harg4 arg5 harg5 arg6 harg6 arg7 harg7 v1 v3 v5 v7 v14 v15 v17 v27 v37 v47 v57 v63 v67 v71 v75 x0 x1 x2 x3 x4 s v H0 hQ0 H1 hQ1 H2 hQ2 H3 hQ3 init h k (by omega))

/-- After all the trips each head of loop 1 has taken in all 4352 keys. -/
theorem done1 (𝒱 : Variants) (c : Dev nD) (bd : Option 𝒱.V) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x4096x1024 .bf16) (harg5 : arg5.IsWhole) (arg6 : Memref sig .tc .vmem S1x4096x1024 .bf16) (harg6 : arg6.IsWhole) (arg7 : Memref sig .tc .vmem S1x256x1024 .f32) (harg7 : arg7.IsWhole) (v1 : FVec Ideal S256x128 .bf16) (v3 : FVec Ideal S256x128 .bf16) (v5 : FVec Ideal S256x128 .bf16) (v7 : FVec Ideal S256x128 .bf16) (v14 : FVec Ideal S256x1 .f32) (v15 : FVec Ideal S256x128 .f32) (v17 : BitVec 32) (v27 : FVec Ideal S256x1 .f32) (v37 : FVec Ideal S256x128 .f32) (v47 : FVec Ideal S256x1 .f32) (v57 : FVec Ideal S256x128 .f32) (v63 : FVec Ideal S256x128 .bf16) (v67 : FVec Ideal S256x1 .f32) (v71 : FVec Ideal S256x256 .bf16) (v75 : FVec Ideal S256x128 .f32)
    (x0 x1 x2 : Vec Ideal S1x256x1024 .bf16) (x3 x4 : Vec Ideal S1x4096x1024 .bf16) (s : ℕ → Fin 256 → ℕ → ℝ)
    (v : ℕ → ℕ → Fin 128 → EReal)
    (H0 : Head 0 (by omega) x0 x1 x2 x3 x4 (s 0) (v 0))
    (hQ0 : ∀ (r : Fin 256) (d : Fin 128), v1 (ix2 r d) = x0 (ix3 0 r ⟨0 + d, by omega⟩))
    (H1 : Head 128 (by omega) x0 x1 x2 x3 x4 (s 128) (v 128))
    (hQ1 : ∀ (r : Fin 256) (d : Fin 128), v3 (ix2 r d) = x0 (ix3 0 r ⟨128 + d, by omega⟩))
    (H2 : Head 256 (by omega) x0 x1 x2 x3 x4 (s 256) (v 256))
    (hQ2 : ∀ (r : Fin 256) (d : Fin 128), v5 (ix2 r d) = x0 (ix3 0 r ⟨256 + d, by omega⟩))
    (H3 : Head 384 (by omega) x0 x1 x2 x3 x4 (s 384) (v 384))
    (hQ3 : ∀ (r : Fin 256) (d : Fin 128), v7 (ix2 r d) = x0 (ix3 0 r ⟨384 + d, by omega⟩))
    (init) (h : Four 256 s v 0 init) :
    Four 4352 s v 0 (st_k0_t1 (F := Ideal) 𝒱 c bd i arg2 harg2 arg3 harg3 arg4 harg4 arg5 harg5 arg6 harg6 arg7 harg7 v1 v3 v5 v7 v14 v15 v17 v27 v37 v47 v57 v63 v67 v71 v75 (harg5.unread x3) (harg6.unread x4) init k0_t1_loop.trips) := by
  have e : k0_t1_loop.trips = 8 := by decide +kernel
  have := trips1 𝒱 c bd i arg2 harg2 arg3 harg3 arg4 harg4 arg5 harg5 arg6 harg6 arg7 harg7 v1 v3 v5 v7 v14 v15 v17 v27 v37 v47 v57 v63 v67 v71 v75 x0 x1 x2 x3 x4 s v H0 hQ0 H1 hQ1 H2 hQ2 H3 hQ3 init h
    k0_t1_loop.trips le_rfl
  rwa [show 256 + 512 * k0_t1_loop.trips = 4352 by rw [e]] at this

/-! ## Loop 2: heads at lanes 512, 640, 768, 896 -/

theorem off13_eq : ∀ k : Fin k0_t2_loop.trips, k0_off13 k = ![0, 512 * k.val, 512] := by decide +kernel
theorem off14_eq : ∀ k : Fin k0_t2_loop.trips, k0_off14 k = ![0, 512 * k.val, 640] := by decide +kernel
theorem off15_eq : ∀ k : Fin k0_t2_loop.trips, k0_off15 k = ![0, 512 * k.val, 768] := by decide +kernel
theorem off16_eq : ∀ k : Fin k0_t2_loop.trips, k0_off16 k = ![0, 512 * k.val, 896] := by decide +kernel

/-- One trip of loop 2 takes 512 keys into each of its heads. -/
theorem trip2 (𝒱 : Variants) (c : Dev nD) (bd : Option 𝒱.V) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x4096x1024 .bf16) (harg5 : arg5.IsWhole) (arg6 : Memref sig .tc .vmem S1x4096x1024 .bf16) (harg6 : arg6.IsWhole) (arg7 : Memref sig .tc .vmem S1x256x1024 .f32) (harg7 : arg7.IsWhole) (v125 : FVec Ideal S256x128 .bf16) (v127 : FVec Ideal S256x128 .bf16) (v129 : FVec Ideal S256x128 .bf16) (v131 : FVec Ideal S256x128 .bf16) (v136 : FVec Ideal S256x1 .f32) (v137 : FVec Ideal S256x128 .f32) (v138 : FVec Ideal S256x1 .f32) (v139 : FVec Ideal S256x128 .f32) (v141 : BitVec 32) (v151 : FVec Ideal S256x1 .f32) (v161 : FVec Ideal S256x128 .f32) (v171 : FVec Ideal S256x1 .f32) (v181 : FVec Ideal S256x128 .f32) (v184 : FVec Ideal S256x128 .bf16) (v186 : Vec Ideal S1x256x128 .bf16)
    (x0 x1 x2 : Vec Ideal S1x256x1024 .bf16) (x3 x4 : Vec Ideal S1x4096x1024 .bf16) (s : ℕ → Fin 256 → ℕ → ℝ)
    (v : ℕ → ℕ → Fin 128 → EReal)
    (H0 : Head 512 (by omega) x0 x1 x2 x3 x4 (s 512) (v 512))
    (hQ0 : ∀ (r : Fin 256) (d : Fin 128), v125 (ix2 r d) = x0 (ix3 0 r ⟨512 + d, by omega⟩))
    (H1 : Head 640 (by omega) x0 x1 x2 x3 x4 (s 640) (v 640))
    (hQ1 : ∀ (r : Fin 256) (d : Fin 128), v127 (ix2 r d) = x0 (ix3 0 r ⟨640 + d, by omega⟩))
    (H2 : Head 768 (by omega) x0 x1 x2 x3 x4 (s 768) (v 768))
    (hQ2 : ∀ (r : Fin 256) (d : Fin 128), v129 (ix2 r d) = x0 (ix3 0 r ⟨768 + d, by omega⟩))
    (H3 : Head 896 (by omega) x0 x1 x2 x3 x4 (s 896) (v 896))
    (hQ3 : ∀ (r : Fin 256) (d : Fin 128), v131 (ix2 r d) = x0 (ix3 0 r ⟨896 + d, by omega⟩))
    (k : Fin k0_t2_loop.trips) (acc) (h : Four (256 + 512 * k.val) s v 512 acc) :
    Four (256 + 512 * (k.val + 1)) s v 512
      (tripR_k0_t2 (F := Ideal) 𝒱 c bd i arg2 harg2 arg3 harg3 arg4 harg4 arg5 harg5 arg6 harg6 arg7 harg7 v125 v127 v129 v131 v136 v137 v138 v139 v141 v151 v161 v171 v181 v184 v186 (harg5.unread x3) (harg6.unread x4) k acc) := by
  obtain ⟨h0, h1, h2, h3⟩ := h
  have hk8 : k.val < 8 := Nat.lt_of_lt_of_le k.isLt k0_t2_abs.2.1
  unfold tripR_k0_t2 trip_k0_t2
  dsimp only
  refine ⟨?_, ?_, ?_, ?_⟩
  · exact head_512 H0 k hk8 v125 hQ0 _ _
      (fun c d => load_512 arg5 harg5 x3 k 512 hk8 (by omega) _ (off13_eq k) _ c d)
      (fun c d => load_512 arg6 harg6 x4 k 512 hk8 (by omega) _ (off13_eq k) _ c d) _ _ h0
  · exact head_512 H1 k hk8 v127 hQ1 _ _
      (fun c d => load_512 arg5 harg5 x3 k 640 hk8 (by omega) _ (off14_eq k) _ c d)
      (fun c d => load_512 arg6 harg6 x4 k 640 hk8 (by omega) _ (off14_eq k) _ c d) _ _ h1
  · exact head_512 H2 k hk8 v129 hQ2 _ _
      (fun c d => load_512 arg5 harg5 x3 k 768 hk8 (by omega) _ (off15_eq k) _ c d)
      (fun c d => load_512 arg6 harg6 x4 k 768 hk8 (by omega) _ (off15_eq k) _ c d) _ _ h2
  · exact head_512 H3 k hk8 v131 hQ3 _ _
      (fun c d => load_512 arg5 harg5 x3 k 896 hk8 (by omega) _ (off16_eq k) _ c d)
      (fun c d => load_512 arg6 harg6 x4 k 896 hk8 (by omega) _ (off16_eq k) _ c d) _ _ h3

/-- After `k` trips each head of loop 2 has taken in `256 + 512 k` keys, if it started with the context's 256. -/
theorem trips2 (𝒱 : Variants) (c : Dev nD) (bd : Option 𝒱.V) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x4096x1024 .bf16) (harg5 : arg5.IsWhole) (arg6 : Memref sig .tc .vmem S1x4096x1024 .bf16) (harg6 : arg6.IsWhole) (arg7 : Memref sig .tc .vmem S1x256x1024 .f32) (harg7 : arg7.IsWhole) (v125 : FVec Ideal S256x128 .bf16) (v127 : FVec Ideal S256x128 .bf16) (v129 : FVec Ideal S256x128 .bf16) (v131 : FVec Ideal S256x128 .bf16) (v136 : FVec Ideal S256x1 .f32) (v137 : FVec Ideal S256x128 .f32) (v138 : FVec Ideal S256x1 .f32) (v139 : FVec Ideal S256x128 .f32) (v141 : BitVec 32) (v151 : FVec Ideal S256x1 .f32) (v161 : FVec Ideal S256x128 .f32) (v171 : FVec Ideal S256x1 .f32) (v181 : FVec Ideal S256x128 .f32) (v184 : FVec Ideal S256x128 .bf16) (v186 : Vec Ideal S1x256x128 .bf16)
    (x0 x1 x2 : Vec Ideal S1x256x1024 .bf16) (x3 x4 : Vec Ideal S1x4096x1024 .bf16) (s : ℕ → Fin 256 → ℕ → ℝ)
    (v : ℕ → ℕ → Fin 128 → EReal)
    (H0 : Head 512 (by omega) x0 x1 x2 x3 x4 (s 512) (v 512))
    (hQ0 : ∀ (r : Fin 256) (d : Fin 128), v125 (ix2 r d) = x0 (ix3 0 r ⟨512 + d, by omega⟩))
    (H1 : Head 640 (by omega) x0 x1 x2 x3 x4 (s 640) (v 640))
    (hQ1 : ∀ (r : Fin 256) (d : Fin 128), v127 (ix2 r d) = x0 (ix3 0 r ⟨640 + d, by omega⟩))
    (H2 : Head 768 (by omega) x0 x1 x2 x3 x4 (s 768) (v 768))
    (hQ2 : ∀ (r : Fin 256) (d : Fin 128), v129 (ix2 r d) = x0 (ix3 0 r ⟨768 + d, by omega⟩))
    (H3 : Head 896 (by omega) x0 x1 x2 x3 x4 (s 896) (v 896))
    (hQ3 : ∀ (r : Fin 256) (d : Fin 128), v131 (ix2 r d) = x0 (ix3 0 r ⟨896 + d, by omega⟩))
    (init) (h : Four 256 s v 512 init) :
    ∀ k : ℕ, k ≤ k0_t2_loop.trips → Four (256 + 512 * k) s v 512
      (st_k0_t2 (F := Ideal) 𝒱 c bd i arg2 harg2 arg3 harg3 arg4 harg4 arg5 harg5 arg6 harg6 arg7 harg7 v125 v127 v129 v131 v136 v137 v138 v139 v141 v151 v161 v171 v181 v184 v186 (harg5.unread x3) (harg6.unread x4) init k)
  | 0, _ => h
  | k + 1, hk => by
    have e := st_k0_t2_succ (F := Ideal) 𝒱 c bd i arg2 harg2 arg3 harg3 arg4 harg4 arg5 harg5 arg6 harg6 arg7 harg7 v125 v127 v129 v131 v136 v137 v138 v139 v141 v151 v161 v171 v181 v184 v186 (harg5.unread x3) (harg6.unread x4) init ⟨k, hk⟩
    rw [e]
    exact trip2 𝒱 c bd i arg2 harg2 arg3 harg3 arg4 harg4 arg5 harg5 arg6 harg6 arg7 harg7 v125 v127 v129 v131 v136 v137 v138 v139 v141 v151 v161 v171 v181 v184 v186 x0 x1 x2 x3 x4 s v H0 hQ0 H1 hQ1 H2 hQ2 H3 hQ3 ⟨k, hk⟩ _
      (trips2 𝒱 c bd i arg2 harg2 arg3 harg3 arg4 harg4 arg5 harg5 arg6 harg6 arg7 harg7 v125 v127 v129 v131 v136 v137 v138 v139 v141 v151 v161 v171 v181 v184 v186 x0 x1 x2 x3 x4 s v H0 hQ0 H1 hQ1 H2 hQ2 H3 hQ3 init h k (by omega))

/-- After all the trips each head of loop 2 has taken in all 4352 keys. -/
theorem done2 (𝒱 : Variants) (c : Dev nD) (bd : Option 𝒱.V) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x4096x1024 .bf16) (harg5 : arg5.IsWhole) (arg6 : Memref sig .tc .vmem S1x4096x1024 .bf16) (harg6 : arg6.IsWhole) (arg7 : Memref sig .tc .vmem S1x256x1024 .f32) (harg7 : arg7.IsWhole) (v125 : FVec Ideal S256x128 .bf16) (v127 : FVec Ideal S256x128 .bf16) (v129 : FVec Ideal S256x128 .bf16) (v131 : FVec Ideal S256x128 .bf16) (v136 : FVec Ideal S256x1 .f32) (v137 : FVec Ideal S256x128 .f32) (v138 : FVec Ideal S256x1 .f32) (v139 : FVec Ideal S256x128 .f32) (v141 : BitVec 32) (v151 : FVec Ideal S256x1 .f32) (v161 : FVec Ideal S256x128 .f32) (v171 : FVec Ideal S256x1 .f32) (v181 : FVec Ideal S256x128 .f32) (v184 : FVec Ideal S256x128 .bf16) (v186 : Vec Ideal S1x256x128 .bf16)
    (x0 x1 x2 : Vec Ideal S1x256x1024 .bf16) (x3 x4 : Vec Ideal S1x4096x1024 .bf16) (s : ℕ → Fin 256 → ℕ → ℝ)
    (v : ℕ → ℕ → Fin 128 → EReal)
    (H0 : Head 512 (by omega) x0 x1 x2 x3 x4 (s 512) (v 512))
    (hQ0 : ∀ (r : Fin 256) (d : Fin 128), v125 (ix2 r d) = x0 (ix3 0 r ⟨512 + d, by omega⟩))
    (H1 : Head 640 (by omega) x0 x1 x2 x3 x4 (s 640) (v 640))
    (hQ1 : ∀ (r : Fin 256) (d : Fin 128), v127 (ix2 r d) = x0 (ix3 0 r ⟨640 + d, by omega⟩))
    (H2 : Head 768 (by omega) x0 x1 x2 x3 x4 (s 768) (v 768))
    (hQ2 : ∀ (r : Fin 256) (d : Fin 128), v129 (ix2 r d) = x0 (ix3 0 r ⟨768 + d, by omega⟩))
    (H3 : Head 896 (by omega) x0 x1 x2 x3 x4 (s 896) (v 896))
    (hQ3 : ∀ (r : Fin 256) (d : Fin 128), v131 (ix2 r d) = x0 (ix3 0 r ⟨896 + d, by omega⟩))
    (init) (h : Four 256 s v 512 init) :
    Four 4352 s v 512 (st_k0_t2 (F := Ideal) 𝒱 c bd i arg2 harg2 arg3 harg3 arg4 harg4 arg5 harg5 arg6 harg6 arg7 harg7 v125 v127 v129 v131 v136 v137 v138 v139 v141 v151 v161 v171 v181 v184 v186 (harg5.unread x3) (harg6.unread x4) init k0_t2_loop.trips) := by
  have e : k0_t2_loop.trips = 8 := by decide +kernel
  have := trips2 𝒱 c bd i arg2 harg2 arg3 harg3 arg4 harg4 arg5 harg5 arg6 harg6 arg7 harg7 v125 v127 v129 v131 v136 v137 v138 v139 v141 v151 v161 v171 v181 v184 v186 x0 x1 x2 x3 x4 s v H0 hQ0 H1 hQ1 H2 hQ2 H3 hQ3 init h
    k0_t2_loop.trips le_rfl
  rwa [show 256 + 512 * k0_t2_loop.trips = 4352 by rw [e]] at this

end Cert.Proof.Loop

end
-- ==== Proof.Out.lean ====
/-
  What the kernel leaves in one block of the result: every head's attention of the block's 256 query rows.
-/
module

public import proofs.«01_k».proof.Proof.Loop
public import proofs.«01_k».proof.Proof.Gen.KernelIdeal.Frame

@[expose] public section

noncomputable section

open Idealize.ShloMosaic Idealize.ShloMosaic.TcCoe
open Cert.KernelIdeal Cert.KernelIdeal.Gen

namespace Cert.Proof.Out

open Block Loop

/-- A block of the result: at row `y 1` and lane `y 2`, the attention of that row in the lane's head. -/
def block (s : ℕ → Fin 256 → ℕ → ℝ) (v : ℕ → ℕ → Fin 128 → EReal) (y : S1x256x1024.Idx) : EReal :=
  Flash.att 4352 (s (128 * ((y 2).val / 128)) (y 1)) fun k =>
    v (128 * ((y 2).val / 128)) k ⟨(y 2).val % 128, Nat.mod_lt _ (by omega)⟩

/-- The block in the lanes of the head at lane `128 h`. -/
theorem block_at (s : ℕ → Fin 256 → ℕ → ℝ) (v : ℕ → ℕ → Fin 128 → EReal) (h o : ℕ) (ho : o = 128 * h)
    (off : Fin 3 → ℕ) (e : off = ![0, 0, o]) (inb) (x : S1x256x128.Idx) :
    block s v ((Rect.unit (s := S1x256x1024) off S1x256x128.size inb).emb x)
      = Flash.att 4352 (s o (x 1)) fun k => v o k (x 2) := by
  subst e
  have h1 : (Rect.unit (s := S1x256x1024) ![0, 0, o] S1x256x128.size inb).emb x 1 = x 1 :=
    Fin.ext ((Rect.idx_unit_val _ _ inb x 1).trans (Nat.zero_add _))
  have h2 : ((Rect.unit (s := S1x256x1024) ![0, 0, o] S1x256x128.size inb).emb x 2).val = o + (x 2).val :=
    Rect.idx_unit_val _ _ inb x 2
  have hx : (x 2).val < 128 := (x 2).isLt
  have hd : 128 * (((Rect.unit (s := S1x256x1024) ![0, 0, o] S1x256x128.size inb).emb x 2).val / 128) = o := by omega
  have hm : ((Rect.unit (s := S1x256x1024) ![0, 0, o] S1x256x128.size inb).emb x 2).val % 128 = (x 2).val := by omega
  unfold block
  simp only [hd, hm]
  rw [h1]
  rfl

/-- The quotient a head stores, over its whole 256 by 128 piece. -/
theorem piece (s : Fin 256 → ℕ → ℝ) (v : ℕ → Fin 128 → EReal) (M : FVec Ideal S256x1 .f32)
    (A : FVec Ideal S256x128 .f32) (h : Carries 4352 s v M A) (h1 : ∀ k < 4352, v k 64 = 1) (x : S1x256x128.Idx) :
    k0_pay52 A x = Flash.att 4352 (s (x 1)) fun k => v k (x 2) := by
  have e := quotient_eq 4352 (by omega) s v M A h h1 (x 1) (x 2)
  rw [← e]
  exact congrArg _ (funext fun a => by fin_cases a <;> first | rfl | exact Subsingleton.elim (α := Fin 1) _ _)

theorem piece0 (s : Fin 256 → ℕ → ℝ) (v : ℕ → Fin 128 → EReal) (M : FVec Ideal S256x1 .f32)
    (A : FVec Ideal S256x128 .f32) (h : Carries 4352 s v M A) (h1 : ∀ k < 4352, v k 64 = 1) (x : S1x256x128.Idx) :
    k0_pay52 A x = Flash.att 4352 (s (x 1)) fun k => v k (x 2) := piece s v M A h h1 x

theorem piece1 (s : Fin 256 → ℕ → ℝ) (v : ℕ → Fin 128 → EReal) (M : FVec Ideal S256x1 .f32)
    (A : FVec Ideal S256x128 .f32) (h : Carries 4352 s v M A) (h1 : ∀ k < 4352, v k 64 = 1) (x : S1x256x128.Idx) :
    k0_pay53 A x = Flash.att 4352 (s (x 1)) fun k => v k (x 2) := piece s v M A h h1 x

theorem piece2 (s : Fin 256 → ℕ → ℝ) (v : ℕ → Fin 128 → EReal) (M : FVec Ideal S256x1 .f32)
    (A : FVec Ideal S256x128 .f32) (h : Carries 4352 s v M A) (h1 : ∀ k < 4352, v k 64 = 1) (x : S1x256x128.Idx) :
    k0_pay55 (k0_pay54 A) x = Flash.att 4352 (s (x 1)) fun k => v k (x 2) := piece s v M A h h1 x

theorem piece3 (s : Fin 256 → ℕ → ℝ) (v : ℕ → Fin 128 → EReal) (M : FVec Ideal S256x1 .f32)
    (A : FVec Ideal S256x128 .f32) (h : Carries 4352 s v M A) (h1 : ∀ k < 4352, v k 64 = 1) (x : S1x256x128.Idx) :
    k0_pay56 A x = Flash.att 4352 (s (x 1)) fun k => v k (x 2) := piece s v M A h h1 x

theorem piece4 (s : Fin 256 → ℕ → ℝ) (v : ℕ → Fin 128 → EReal) (M : FVec Ideal S256x1 .f32)
    (A : FVec Ideal S256x128 .f32) (h : Carries 4352 s v M A) (h1 : ∀ k < 4352, v k 64 = 1) (x : S1x256x128.Idx) :
    k0_pay1 (k0_pay88 A) x = Flash.att 4352 (s (x 1)) fun k => v k (x 2) := piece s v M A h h1 x

theorem piece5 (s : Fin 256 → ℕ → ℝ) (v : ℕ → Fin 128 → EReal) (M : FVec Ideal S256x1 .f32)
    (A : FVec Ideal S256x128 .f32) (h : Carries 4352 s v M A) (h1 : ∀ k < 4352, v k 64 = 1) (x : S1x256x128.Idx) :
    k0_pay2 A x = Flash.att 4352 (s (x 1)) fun k => v k (x 2) := piece s v M A h h1 x

theorem piece6 (s : Fin 256 → ℕ → ℝ) (v : ℕ → Fin 128 → EReal) (M : FVec Ideal S256x1 .f32)
    (A : FVec Ideal S256x128 .f32) (h : Carries 4352 s v M A) (h1 : ∀ k < 4352, v k 64 = 1) (x : S1x256x128.Idx) :
    k0_pay3 A x = Flash.att 4352 (s (x 1)) fun k => v k (x 2) := piece s v M A h h1 x

theorem piece7 (s : Fin 256 → ℕ → ℝ) (v : ℕ → Fin 128 → EReal) (M : FVec Ideal S256x1 .f32)
    (A : FVec Ideal S256x128 .f32) (h : Carries 4352 s v M A) (h1 : ∀ k < 4352, v k 64 = 1) (x : S1x256x128.Idx) :
    k0_pay4 A x = Flash.att 4352 (s (x 1)) fun k => v k (x 2) := piece s v M A h h1 x

theorem query0 (q : Vec Ideal S1x256x128 .bf16) (r : Fin 256) (d : Fin 128) :
    k0_pay17 q (ix2 r d) = q (ix3 0 r d) := query_slice q r d

theorem query1 (q : Vec Ideal S1x256x128 .bf16) (r : Fin 256) (d : Fin 128) :
    k0_pay18 q (ix2 r d) = q (ix3 0 r d) := query_slice q r d

theorem query2 (q : Vec Ideal S1x256x128 .bf16) (r : Fin 256) (d : Fin 128) :
    k0_pay19 q (ix2 r d) = q (ix3 0 r d) := query_slice q r d

theorem query3 (q : Vec Ideal S1x256x128 .bf16) (r : Fin 256) (d : Fin 128) :
    k0_pay20 q (ix2 r d) = q (ix3 0 r d) := query_slice q r d

theorem query4 (q : Vec Ideal S1x256x128 .bf16) (r : Fin 256) (d : Fin 128) :
    k0_pay57 q (ix2 r d) = q (ix3 0 r d) := query_slice q r d

theorem query5 (q : Vec Ideal S1x256x128 .bf16) (r : Fin 256) (d : Fin 128) :
    k0_pay58 q (ix2 r d) = q (ix3 0 r d) := query_slice q r d

theorem query6 (q : Vec Ideal S1x256x128 .bf16) (r : Fin 256) (d : Fin 128) :
    k0_pay59 q (ix2 r d) = q (ix3 0 r d) := query_slice q r d

theorem query7 (q : Vec Ideal S1x256x128 .bf16) (r : Fin 256) (d : Fin 128) :
    k0_pay60 q (ix2 r d) = q (ix3 0 r d) := query_slice q r d

section
variable {x0 x1 x2 : Vec Ideal S1x256x1024 .bf16}
  {x3 x4 : Vec Ideal S1x4096x1024 .bf16} {s : Fin 256 → ℕ → ℝ} {v : ℕ → Fin 128 → EReal}

/-- The head at lane 0 after the context. -/
theorem start0 (H : Head 0 (by omega) x0 x1 x2 x3 x4 s v) (q K V : Vec Ideal S1x256x128 .bf16)
    (hQ : ∀ (r : Fin 256) (d : Fin 128), q (ix3 0 r d) = x0 (ix3 0 r ⟨0 + d, by omega⟩))
    (hK : ∀ (c : Fin 256) (d : Fin 128), K (ix3 0 c d) = x1 (ix3 0 c ⟨0 + d, by omega⟩))
    (hV : ∀ (c : Fin 256) (d : Fin 128), V (ix3 0 c d) = x2 (ix3 0 c ⟨0 + d, by omega⟩)) :
    Carries 256 s v (k0_pay31 q K) (k0_pay33 k0_pay21 k0_pay22 (k0_pay29 V) (k0_pay31 q K) (k0_pay32 q K)) :=
  head_256 H (k0_pay17 q) (fun r d => (query_slice q r d).trans (hQ r d)) K V hK hV

/-- The head at lane 128 after the context. -/
theorem start1 (H : Head 128 (by omega) x0 x1 x2 x3 x4 s v) (q K V : Vec Ideal S1x256x128 .bf16)
    (hQ : ∀ (r : Fin 256) (d : Fin 128), q (ix3 0 r d) = x0 (ix3 0 r ⟨128 + d, by omega⟩))
    (hK : ∀ (c : Fin 256) (d : Fin 128), K (ix3 0 c d) = x1 (ix3 0 c ⟨128 + d, by omega⟩))
    (hV : ∀ (c : Fin 256) (d : Fin 128), V (ix3 0 c d) = x2 (ix3 0 c ⟨128 + d, by omega⟩)) :
    Carries 256 s v (k0_pay35 (k0_pay18 q) k0_pay23 K) (k0_pay36 (k0_pay18 q) k0_pay23 k0_pay24 K V) :=
  head_256 H (k0_pay17 q) (fun r d => (query_slice q r d).trans (hQ r d)) K V hK hV

/-- The head at lane 256 after the context. -/
theorem start2 (H : Head 256 (by omega) x0 x1 x2 x3 x4 s v) (q K V : Vec Ideal S1x256x128 .bf16)
    (hQ : ∀ (r : Fin 256) (d : Fin 128), q (ix3 0 r d) = x0 (ix3 0 r ⟨256 + d, by omega⟩))
    (hK : ∀ (c : Fin 256) (d : Fin 128), K (ix3 0 c d) = x1 (ix3 0 c ⟨256 + d, by omega⟩))
    (hV : ∀ (c : Fin 256) (d : Fin 128), V (ix3 0 c d) = x2 (ix3 0 c ⟨256 + d, by omega⟩)) :
    Carries 256 s v (k0_pay39 (k0_pay19 q) k0_pay25 K) (k0_pay42 (k0_pay37 V) (k0_pay40 (k0_pay19 q) k0_pay25 K) (k0_pay41 (k0_pay19 q) k0_pay25 k0_pay26 K)) :=
  head_256 H (k0_pay17 q) (fun r d => (query_slice q r d).trans (hQ r d)) K V hK hV

/-- The head at lane 384 after the context. -/
theorem start3 (H : Head 384 (by omega) x0 x1 x2 x3 x4 s v) (q K V : Vec Ideal S1x256x128 .bf16)
    (hQ : ∀ (r : Fin 256) (d : Fin 128), q (ix3 0 r d) = x0 (ix3 0 r ⟨384 + d, by omega⟩))
    (hK : ∀ (c : Fin 256) (d : Fin 128), K (ix3 0 c d) = x1 (ix3 0 c ⟨384 + d, by omega⟩))
    (hV : ∀ (c : Fin 256) (d : Fin 128), V (ix3 0 c d) = x2 (ix3 0 c ⟨384 + d, by omega⟩)) :
    Carries 256 s v (k0_pay44 (k0_pay20 q) k0_pay27 K) (k0_pay45 (k0_pay20 q) k0_pay27 k0_pay28 K V) :=
  head_256 H (k0_pay17 q) (fun r d => (query_slice q r d).trans (hQ r d)) K V hK hV

/-- The head at lane 512 after the context. -/
theorem start4 (H : Head 512 (by omega) x0 x1 x2 x3 x4 s v) (q K V : Vec Ideal S1x256x128 .bf16)
    (hQ : ∀ (r : Fin 256) (d : Fin 128), q (ix3 0 r d) = x0 (ix3 0 r ⟨512 + d, by omega⟩))
    (hK : ∀ (c : Fin 256) (d : Fin 128), K (ix3 0 c d) = x1 (ix3 0 c ⟨512 + d, by omega⟩))
    (hV : ∀ (c : Fin 256) (d : Fin 128), V (ix3 0 c d) = x2 (ix3 0 c ⟨512 + d, by omega⟩)) :
    Carries 256 s v (k0_pay70 (k0_pay57 q) k0_pay61 K) (k0_pay71 (k0_pay57 q) k0_pay61 k0_pay62 K V) :=
  head_256 H (k0_pay17 q) (fun r d => (query_slice q r d).trans (hQ r d)) K V hK hV

/-- The head at lane 640 after the context. -/
theorem start5 (H : Head 640 (by omega) x0 x1 x2 x3 x4 s v) (q K V : Vec Ideal S1x256x128 .bf16)
    (hQ : ∀ (r : Fin 256) (d : Fin 128), q (ix3 0 r d) = x0 (ix3 0 r ⟨640 + d, by omega⟩))
    (hK : ∀ (c : Fin 256) (d : Fin 128), K (ix3 0 c d) = x1 (ix3 0 c ⟨640 + d, by omega⟩))
    (hV : ∀ (c : Fin 256) (d : Fin 128), V (ix3 0 c d) = x2 (ix3 0 c ⟨640 + d, by omega⟩)) :
    Carries 256 s v (k0_pay73 (k0_pay58 q) k0_pay63 K) (k0_pay74 (k0_pay58 q) k0_pay63 k0_pay64 K V) :=
  head_256 H (k0_pay17 q) (fun r d => (query_slice q r d).trans (hQ r d)) K V hK hV

/-- The head at lane 768 after the context. -/
theorem start6 (H : Head 768 (by omega) x0 x1 x2 x3 x4 s v) (q K V : Vec Ideal S1x256x128 .bf16)
    (hQ : ∀ (r : Fin 256) (d : Fin 128), q (ix3 0 r d) = x0 (ix3 0 r ⟨768 + d, by omega⟩))
    (hK : ∀ (c : Fin 256) (d : Fin 128), K (ix3 0 c d) = x1 (ix3 0 c ⟨768 + d, by omega⟩))
    (hV : ∀ (c : Fin 256) (d : Fin 128), V (ix3 0 c d) = x2 (ix3 0 c ⟨768 + d, by omega⟩)) :
    Carries 256 s v (k0_pay77 (k0_pay59 q) k0_pay65 (k0_pay75 K)) (k0_pay78 (k0_pay59 q) k0_pay65 k0_pay66 (k0_pay75 K) V) :=
  head_256 H (k0_pay17 q) (fun r d => (query_slice q r d).trans (hQ r d)) K V hK hV

/-- The head at lane 896 after the context. -/
theorem start7 (H : Head 896 (by omega) x0 x1 x2 x3 x4 s v) (q K V : Vec Ideal S1x256x128 .bf16)
    (hQ : ∀ (r : Fin 256) (d : Fin 128), q (ix3 0 r d) = x0 (ix3 0 r ⟨896 + d, by omega⟩))
    (hK : ∀ (c : Fin 256) (d : Fin 128), K (ix3 0 c d) = x1 (ix3 0 c ⟨896 + d, by omega⟩))
    (hV : ∀ (c : Fin 256) (d : Fin 128), V (ix3 0 c d) = x2 (ix3 0 c ⟨896 + d, by omega⟩)) :
    Carries 256 s v (k0_pay80 (k0_pay60 q) k0_pay67 K) (k0_pay81 (k0_pay60 q) k0_pay67 k0_pay68 K V) :=
  head_256 H (k0_pay17 q) (fun r d => (query_slice q r d).trans (hQ r d)) K V hK hV

end

/-- The eight pieces the body stores, from the two loops' results. -/
theorem pieces (s : ℕ → Fin 256 → ℕ → ℝ) (v : ℕ → ℕ → Fin 128 → EReal) (h1 : ∀ h < 8, ∀ k < 4352, v (128 * h) k 64 = 1)
    (acc1 acc2 : FVec Ideal S256x1 .f32 × FVec Ideal S256x128 .f32 × FVec Ideal S256x1 .f32 × FVec Ideal S256x128 .f32 × FVec Ideal S256x1 .f32 × FVec Ideal S256x128 .f32 × FVec Ideal S256x1 .f32 × FVec Ideal S256x128 .f32)
    (f1 : Four 4352 s v 0 acc1) (f2 : Four 4352 s v 512 acc2) :
    ∀ p ∈ ([⟨Rect.unit (s := S1x256x1024) ![0, 0, 896] S1x256x128.size inb_S1x256x1024_S1x256x128_0_0_896, k0_pay4 acc2.2.2.2.2.2.2.2⟩,
      ⟨Rect.unit (s := S1x256x1024) ![0, 0, 768] S1x256x128.size inb_S1x256x1024_S1x256x128_0_0_768, k0_pay3 acc2.2.2.2.2.2.1⟩,
      ⟨Rect.unit (s := S1x256x1024) ![0, 0, 640] S1x256x128.size inb_S1x256x1024_S1x256x128_0_0_640, k0_pay2 acc2.2.2.2.1⟩,
      ⟨Rect.unit (s := S1x256x1024) ![0, 0, 512] S1x256x128.size inb_S1x256x1024_S1x256x128_0_0_512, k0_pay1 (k0_pay88 acc2.2.1)⟩,
      ⟨Rect.unit (s := S1x256x1024) ![0, 0, 384] S1x256x128.size inb_S1x256x1024_S1x256x128_0_0_384, k0_pay56 acc1.2.2.2.2.2.2.2⟩,
      ⟨Rect.unit (s := S1x256x1024) ![0, 0, 256] S1x256x128.size inb_S1x256x1024_S1x256x128_0_0_256, k0_pay55 (k0_pay54 acc1.2.2.2.2.2.1)⟩,
      ⟨Rect.unit (s := S1x256x1024) ![0, 0, 128] S1x256x128.size inb_S1x256x1024_S1x256x128_0_0_128, k0_pay53 acc1.2.2.2.1⟩,
      ⟨Rect.unit (s := S1x256x1024) ![0, 0, 0] S1x256x128.size inb_S1x256x1024_S1x256x128_0_0_0, k0_pay52 acc1.2.1⟩] : List (View.Piece (Elt Ideal) S1x256x1024 .f32)),
      ∀ x : p.1.shape.Idx, p.2 x = block s v (p.1.emb x) := by
  intro p hp
  simp only [List.mem_cons, List.not_mem_nil, or_false] at hp
  rcases hp with rfl | rfl | rfl | rfl | rfl | rfl | rfl | rfl
  · intro x
    exact (piece7 _ _ _ _ f2.fourth (h1 7 (by omega)) x).trans (block_at s v 7 896 rfl _ rfl inb_S1x256x1024_S1x256x128_0_0_896 x).symm
  · intro x
    exact (piece6 _ _ _ _ f2.third (h1 6 (by omega)) x).trans (block_at s v 6 768 rfl _ rfl inb_S1x256x1024_S1x256x128_0_0_768 x).symm
  · intro x
    exact (piece5 _ _ _ _ f2.second (h1 5 (by omega)) x).trans (block_at s v 5 640 rfl _ rfl inb_S1x256x1024_S1x256x128_0_0_640 x).symm
  · intro x
    exact (piece4 _ _ _ _ f2.first (h1 4 (by omega)) x).trans (block_at s v 4 512 rfl _ rfl inb_S1x256x1024_S1x256x128_0_0_512 x).symm
  · intro x
    exact (piece3 _ _ _ _ f1.fourth (h1 3 (by omega)) x).trans (block_at s v 3 384 rfl _ rfl inb_S1x256x1024_S1x256x128_0_0_384 x).symm
  · intro x
    exact (piece2 _ _ _ _ f1.third (h1 2 (by omega)) x).trans (block_at s v 2 256 rfl _ rfl inb_S1x256x1024_S1x256x128_0_0_256 x).symm
  · intro x
    exact (piece1 _ _ _ _ f1.second (h1 1 (by omega)) x).trans (block_at s v 1 128 rfl _ rfl inb_S1x256x1024_S1x256x128_0_0_128 x).symm
  · intro x
    exact (piece0 _ _ _ _ f1.first (h1 0 (by omega)) x).trans (block_at s v 0 0 rfl _ rfl inb_S1x256x1024_S1x256x128_0_0_0 x).symm

theorem off1_eq : k0_off1 = ![0, 0, 0] := by decide +kernel
theorem off2_eq : k0_off2 = ![0, 0, 128] := by decide +kernel
theorem off3_eq : k0_off3 = ![0, 0, 256] := by decide +kernel
theorem off4_eq : k0_off4 = ![0, 0, 384] := by decide +kernel
theorem off9_eq : k0_off9 = ![0, 0, 512] := by decide +kernel
theorem off10_eq : k0_off10 = ![0, 0, 640] := by decide +kernel
theorem off11_eq : k0_off11 = ![0, 0, 768] := by decide +kernel
theorem off12_eq : k0_off12 = ![0, 0, 896] := by decide +kernel

/-- The block the body leaves, given its five input blocks and what each head's scores and values are. -/
theorem out_eq (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x4096x1024 .bf16) (harg5 : arg5.IsWhole) (arg6 : Memref sig .tc .vmem S1x4096x1024 .bf16) (harg6 : arg6.IsWhole) (arg7 : Memref sig .tc .vmem S1x256x1024 .f32) (harg7 : arg7.IsWhole)
    (x0 x1 x2 : Vec Ideal S1x256x1024 .bf16) (x3 x4 : Vec Ideal S1x4096x1024 .bf16)
    (s : ℕ → Fin 256 → ℕ → ℝ) (v : ℕ → ℕ → Fin 128 → EReal)
    (H0 : Head 0 (by omega) x0 x1 x2 x3 x4 (s 0) (v 0))
    (H128 : Head 128 (by omega) x0 x1 x2 x3 x4 (s 128) (v 128))
    (H256 : Head 256 (by omega) x0 x1 x2 x3 x4 (s 256) (v 256))
    (H384 : Head 384 (by omega) x0 x1 x2 x3 x4 (s 384) (v 384))
    (H512 : Head 512 (by omega) x0 x1 x2 x3 x4 (s 512) (v 512))
    (H640 : Head 640 (by omega) x0 x1 x2 x3 x4 (s 640) (v 640))
    (H768 : Head 768 (by omega) x0 x1 x2 x3 x4 (s 768) (v 768))
    (H896 : Head 896 (by omega) x0 x1 x2 x3 x4 (s 896) (v 896))
    (h1 : ∀ h < 8, ∀ k < 4352, v (128 * h) k 64 = 1) (y : S1x256x1024.Idx) :
    out0_A_5 c i arg2 harg2 arg3 harg3 arg4 harg4 arg5 harg5 arg6 harg6 arg7 harg7 x0 x1 x2 x3 x4 y = block s v y := by
  unfold out0_A_5
  rw [View.read_writes_eq_canon _ _ _ (cover0_A_5 c i arg2 harg2 arg3 harg3 arg4 harg4 arg5 harg5 arg6 harg6 arg7 harg7 x0 x1 x2 x3 x4)]
  have hc := cover0_A_5 c i arg2 harg2 arg3 harg3 arg4 harg4 arg5 harg5 arg6 harg6 arg7 harg7 x0 x1 x2 x3 x4 y
  refine View.canon_apply_of_pieces (block s v) _ ?_ y hc
  clear hc
  unfold kernelRun0_A
  dsimp only
  refine pieces s v h1 _ _ ?_ ?_
  · refine done1 _ _ _ _ arg2 harg2 arg3 harg3 arg4 harg4 arg5 harg5 arg6 harg6 arg7 harg7 _ _ _ _ _ _ _ _ _ _ _ _ _ _ _ x0 x1 x2 x3 x4 s v
      H0 ?_ H128 ?_ H256 ?_ H384 ?_ _ ⟨?_, ?_, ?_, ?_⟩
    · exact fun r d => (query0 _ r d).trans (load_256 arg2 harg2 x0 0 (by omega) _ rfl _ r d)
    · exact fun r d => (query1 _ r d).trans (load_256 arg2 harg2 x0 128 (by omega) _ rfl _ r d)
    · exact fun r d => (query2 _ r d).trans (load_256 arg2 harg2 x0 256 (by omega) _ rfl _ r d)
    · exact fun r d => (query3 _ r d).trans (load_256 arg2 harg2 x0 384 (by omega) _ rfl _ r d)
    · exact start0 H0 _ _ _ (fun r d => load_256 arg2 harg2 x0 0 (by omega) _ rfl _ r d)
        (fun r d => load_256 arg3 harg3 x1 0 (by omega) _ off1_eq _ r d)
        (fun r d => load_256 arg4 harg4 x2 0 (by omega) _ off1_eq _ r d)
    · exact start1 H128 _ _ _ (fun r d => load_256 arg2 harg2 x0 128 (by omega) _ rfl _ r d)
        (fun r d => load_256 arg3 harg3 x1 128 (by omega) _ off2_eq _ r d)
        (fun r d => load_256 arg4 harg4 x2 128 (by omega) _ off2_eq _ r d)
    · exact start2 H256 _ _ _ (fun r d => load_256 arg2 harg2 x0 256 (by omega) _ rfl _ r d)
        (fun r d => load_256 arg3 harg3 x1 256 (by omega) _ off3_eq _ r d)
        (fun r d => load_256 arg4 harg4 x2 256 (by omega) _ off3_eq _ r d)
    · exact start3 H384 _ _ _ (fun r d => load_256 arg2 harg2 x0 384 (by omega) _ rfl _ r d)
        (fun r d => load_256 arg3 harg3 x1 384 (by omega) _ off4_eq _ r d)
        (fun r d => load_256 arg4 harg4 x2 384 (by omega) _ off4_eq _ r d)
  · refine done2 _ _ _ _ arg2 harg2 arg3 harg3 arg4 harg4 arg5 harg5 arg6 harg6 arg7 harg7 _ _ _ _ _ _ _ _ _ _ _ _ _ _ _ x0 x1 x2 x3 x4 s v
      H512 ?_ H640 ?_ H768 ?_ H896 ?_ _ ⟨?_, ?_, ?_, ?_⟩
    · exact fun r d => (query4 _ r d).trans (load_256 arg2 harg2 x0 512 (by omega) _ rfl _ r d)
    · exact fun r d => (query5 _ r d).trans (load_256 arg2 harg2 x0 640 (by omega) _ rfl _ r d)
    · exact fun r d => (query6 _ r d).trans (load_256 arg2 harg2 x0 768 (by omega) _ rfl _ r d)
    · exact fun r d => (query7 _ r d).trans (load_256 arg2 harg2 x0 896 (by omega) _ rfl _ r d)
    · exact start4 H512 _ _ _ (fun r d => load_256 arg2 harg2 x0 512 (by omega) _ rfl _ r d)
        (fun r d => load_256 arg3 harg3 x1 512 (by omega) _ off9_eq _ r d)
        (fun r d => load_256 arg4 harg4 x2 512 (by omega) _ off9_eq _ r d)
    · exact start5 H640 _ _ _ (fun r d => load_256 arg2 harg2 x0 640 (by omega) _ rfl _ r d)
        (fun r d => load_256 arg3 harg3 x1 640 (by omega) _ off10_eq _ r d)
        (fun r d => load_256 arg4 harg4 x2 640 (by omega) _ off10_eq _ r d)
    · exact start6 H768 _ _ _ (fun r d => load_256 arg2 harg2 x0 768 (by omega) _ rfl _ r d)
        (fun r d => load_256 arg3 harg3 x1 768 (by omega) _ off11_eq _ r d)
        (fun r d => load_256 arg4 harg4 x2 768 (by omega) _ off11_eq _ r d)
    · exact start7 H896 _ _ _ (fun r d => load_256 arg2 harg2 x0 896 (by omega) _ rfl _ r d)
        (fun r d => load_256 arg3 harg3 x1 896 (by omega) _ off12_eq _ r d)
        (fun r d => load_256 arg4 harg4 x2 896 (by omega) _ off12_eq _ r d)

end Cert.Proof.Out

end
-- ==== Proof.Spec.lean ====
/-
  The attention as one function of the five arrays: the scores of a query row against the 4352 keys of its head, and the
  weighted mean of the values.
-/
module

public import proofs.«01_k».proof.Proof.Flash
public import Idealize.ShloMosaic.Lib.Pointwise

@[expose] public section

noncomputable section

open Idealize.ShloMosaic

namespace Cert.Proof.Spec

/-- Eight batches of 4096 latent rows of 1024 lanes. -/
abbrev Latent : Type := FVec Ideal ⟨3, ![8, 4096, 1024]⟩ .bf16

/-- Eight batches of 256 context rows of 1024 lanes. -/
abbrev Context : Type := FVec Ideal ⟨3, ![8, 256, 1024]⟩ .bf16

/-- Row `k` of the context rows followed by the latent rows. -/
def row (xc : Context) (xl : Latent) (b : Fin 8) (k : ℕ) (l : Fin 1024) : EReal :=
  if h : k < 256 then xc (ix3 b ⟨k, h⟩ l) else if h' : k < 4352 then xl (ix3 b ⟨k - 256, by omega⟩ l) else 0

/-- Lane `d` of the head that starts at lane `o`. -/
def lane (o : ℕ) (d : Fin 128) : Fin 1024 := ⟨(o + d) % 1024, Nat.mod_lt _ (by omega)⟩

/-- The score of query row `p` against key `k`. -/
def score (q : Latent) (kc : Context) (kl : Latent) (b : Fin 8) (o : ℕ) (p : Fin 4096) (k : ℕ) : EReal :=
  ∑ d : Fin 128, q (ix3 b p (lane o d)) * row kc kl b k (lane o d)

/-- The attention at batch `b`, row `p`, lane `l`. -/
def attention (q : Latent) (kc vc : Context) (kl vl : Latent) (b : Fin 8) (p : Fin 4096) (l : Fin 1024) : EReal :=
  Flash.att 4352 (fun k => (score q kc kl b (128 * (l.val / 128)) p k).toReal) fun k =>
    row vc vl b k (lane (128 * (l.val / 128)) ⟨l.val % 128, Nat.mod_lt _ (by omega)⟩)

/-- What the claim asks of the arrays. -/
structure Asked (q : Latent) (kc vc : Context) (kl vl : Latent) : Prop where
  query : ∀ i, ∃ r : ℝ, q i = (r : EReal)
  contextKey : ∀ i, ∃ r : ℝ, kc i = (r : EReal)
  latentKey : ∀ i, ∃ r : ℝ, kl i = (r : EReal)
  contextOne : ∀ (b : Fin 8) (k : Fin 256) (h : Fin 8), vc (ix3 b k (lane (128 * h) 64)) = 1
  latentOne : ∀ (b : Fin 8) (k : Fin 4096) (h : Fin 8), vl (ix3 b k (lane (128 * h) 64)) = 1

theorem lane_eq (o : ℕ) (ho : o + 128 ≤ 1024) (d : Fin 128) : lane o d = ⟨o + d, by omega⟩ :=
  Fin.ext (Nat.mod_eq_of_lt (by omega))

theorem lane_self (l : Fin 1024) : lane (128 * (l.val / 128)) ⟨l.val % 128, Nat.mod_lt _ (by omega)⟩ = l := by
  have := l.isLt
  refine Fin.ext ?_
  show (128 * (l.val / 128) + l.val % 128) % 1024 = l.val
  omega

theorem row_context (xc : Context) (xl : Latent) (b : Fin 8) (k : Fin 256) (l : Fin 1024) :
    row xc xl b k l = xc (ix3 b k l) := dif_pos k.isLt

theorem row_latent (xc : Context) (xl : Latent) (b : Fin 8) (k : Fin 4096) (l : Fin 1024) :
    row xc xl b (256 + k) l = xl (ix3 b k l) := by
  unfold row
  rw [dif_neg (by omega), dif_pos (by omega)]
  congr 2
  exact Fin.ext (by simp)

section
variable {q : Latent} {kc vc : Context} {kl vl : Latent}

theorem Asked.key (A : Asked q kc vc kl vl) (b : Fin 8) (k : ℕ) (l : Fin 1024) :
    ∃ r : ℝ, row kc kl b k l = (r : EReal) := by
  unfold row
  split
  · exact A.contextKey _
  · split
    · exact A.latentKey _
    · exact ⟨0, rfl⟩

/-- Every score is a real. -/
theorem Asked.score (A : Asked q kc vc kl vl) (b : Fin 8) (o : ℕ) (p : Fin 4096) (k : ℕ) :
    Spec.score q kc kl b o p k = (((Spec.score q kc kl b o p k).toReal : ℝ) : EReal) := by
  obtain ⟨r, hr⟩ := Flash.sum_mul_real Finset.univ (fun d : Fin 128 => q (ix3 b p (lane o d)))
    (fun d => row kc kl b k (lane o d)) (fun d => A.query _) fun d => A.key b k _
  have e : Spec.score q kc kl b o p k = (r : EReal) := hr
  rw [e]
  rfl

/-- Lane 64 of every head of the values is one. -/
theorem Asked.one (A : Asked q kc vc kl vl) (b : Fin 8) (h : Fin 8) (k : ℕ) (hk : k < 4352) :
    row vc vl b k (lane (128 * h) 64) = 1 := by
  unfold row
  split
  · exact A.contextOne _ _ _
  · exact A.latentOne _ _ _

end

end Cert.Proof.Spec

end
-- ==== Proof.Array.lean ====
/-
  The kernel's result array: the grid's 128 points each leave one block of it, so every element is the attention of the
  argument arrays at its index.
-/
module

public import proofs.«01_k».proof.Proof.Out
public import proofs.«01_k».proof.Proof.Spec
public import proofs.«01_k».proof.Proof.Gen.KernelIdeal.Value

@[expose] public section

noncomputable section

open Idealize.ShloMosaic Idealize.ShloMosaic.TcCoe
open Cert.KernelIdeal Cert.KernelIdeal.Gen

namespace Cert.Proof.Array

open Spec

/-- For batch `b` and query block `n` there is a grid point whose windows are that batch's blocks. -/
theorem point : ∀ (b : Fin 8) (n : Fin 16), ∃ t : Fin cfg0.N,
    (win0_0.index t (0 : Fin 3) = b.val ∧ win0_0.index t (1 : Fin 3) = n.val ∧ win0_0.index t (2 : Fin 3) = 0)
    ∧ (win0_1.index t (0 : Fin 3) = b.val ∧ win0_1.index t (1 : Fin 3) = 0 ∧ win0_1.index t (2 : Fin 3) = 0)
    ∧ (win0_2.index t (0 : Fin 3) = b.val ∧ win0_2.index t (1 : Fin 3) = 0 ∧ win0_2.index t (2 : Fin 3) = 0)
    ∧ (win0_3.index t (0 : Fin 3) = b.val ∧ win0_3.index t (1 : Fin 3) = 0 ∧ win0_3.index t (2 : Fin 3) = 0)
    ∧ (win0_4.index t (0 : Fin 3) = b.val ∧ win0_4.index t (1 : Fin 3) = 0 ∧ win0_4.index t (2 : Fin 3) = 0)
    ∧ (win0_5.index t (0 : Fin 3) = b.val ∧ win0_5.index t (1 : Fin 3) = n.val ∧ win0_5.index t (2 : Fin 3) = 0) :=
  (by decide +kernel : ∀ (b : Fin 8) (n : Fin 16), ∃ t : Fin grid0.N, _)

variable (m : (ℓ : Loc nD τ sig) → Buf (Elt Ideal) ℓ) (c : Dev nD)

/-- The five argument arrays. -/
abbrev q : Latent := m ((c : Thread nD τ).loc main_arg0)
abbrev kc : Context := m ((c : Thread nD τ).loc main_arg1)
abbrev vc : Context := m ((c : Thread nD τ).loc main_arg2)
abbrev kl : Latent := m ((c : Thread nD τ).loc main_arg3)
abbrev vl : Latent := m ((c : Thread nD τ).loc main_arg4)

section blocks
variable (t : Fin cfg0.N) (b : Fin 8) (n : Fin 16)

theorem block0 (h : win0_0.index t (0 : Fin 3) = b.val ∧ win0_0.index t (1 : Fin 3) = n.val ∧ win0_0.index t (2 : Fin 3) = 0)
    (r : Fin 256) (l : Fin 1024) :
    (iblk m c 0 t : Vec Ideal S1x256x1024 .bf16) (ix3 0 r l) = q m c (ix3 b ⟨256 * n + r, by omega⟩ l) := by
  obtain ⟨h0, h1, h2⟩ := h
  show V m c main_arg0 (((cfg0.win 0).blk t).view.emb (ix3 (0 : Fin 1) r l)) = _
  rw [V_main_arg0]
  refine congrArg (q m c) (funext fun a => Fin.ext ?_)
  match a with
  | ⟨0, _⟩ => show win0_0.index t (0 : Fin 3) * 1 + 1 * 0 = b.val; omega
  | ⟨1, _⟩ => show win0_0.index t (1 : Fin 3) * 256 + 1 * r.val = 256 * n.val + r.val; omega
  | ⟨2, _⟩ => show win0_0.index t (2 : Fin 3) * 1024 + 1 * l.val = l.val; omega

theorem block1 (h : win0_1.index t (0 : Fin 3) = b.val ∧ win0_1.index t (1 : Fin 3) = 0 ∧ win0_1.index t (2 : Fin 3) = 0)
    (r : Fin 256) (l : Fin 1024) :
    (iblk m c 1 t : Vec Ideal S1x256x1024 .bf16) (ix3 0 r l) = kc m c (ix3 b r l) := by
  obtain ⟨h0, h1, h2⟩ := h
  show V m c main_arg1 (((cfg0.win 1).blk t).view.emb (ix3 (0 : Fin 1) r l)) = _
  rw [V_main_arg1]
  refine congrArg (kc m c) (funext fun a => Fin.ext ?_)
  match a with
  | ⟨0, _⟩ => show win0_1.index t (0 : Fin 3) * 1 + 1 * 0 = b.val; omega
  | ⟨1, _⟩ => show win0_1.index t (1 : Fin 3) * 256 + 1 * r.val = r.val; omega
  | ⟨2, _⟩ => show win0_1.index t (2 : Fin 3) * 1024 + 1 * l.val = l.val; omega

theorem block2 (h : win0_2.index t (0 : Fin 3) = b.val ∧ win0_2.index t (1 : Fin 3) = 0 ∧ win0_2.index t (2 : Fin 3) = 0)
    (r : Fin 256) (l : Fin 1024) :
    (iblk m c 2 t : Vec Ideal S1x256x1024 .bf16) (ix3 0 r l) = vc m c (ix3 b r l) := by
  obtain ⟨h0, h1, h2⟩ := h
  show V m c main_arg2 (((cfg0.win 2).blk t).view.emb (ix3 (0 : Fin 1) r l)) = _
  rw [V_main_arg2]
  refine congrArg (vc m c) (funext fun a => Fin.ext ?_)
  match a with
  | ⟨0, _⟩ => show win0_2.index t (0 : Fin 3) * 1 + 1 * 0 = b.val; omega
  | ⟨1, _⟩ => show win0_2.index t (1 : Fin 3) * 256 + 1 * r.val = r.val; omega
  | ⟨2, _⟩ => show win0_2.index t (2 : Fin 3) * 1024 + 1 * l.val = l.val; omega

theorem block3 (h : win0_3.index t (0 : Fin 3) = b.val ∧ win0_3.index t (1 : Fin 3) = 0 ∧ win0_3.index t (2 : Fin 3) = 0)
    (r : Fin 4096) (l : Fin 1024) :
    (iblk m c 3 t : Vec Ideal S1x4096x1024 .bf16) (ix3 0 r l) = kl m c (ix3 b r l) := by
  obtain ⟨h0, h1, h2⟩ := h
  show V m c main_arg3 (((cfg0.win 3).blk t).view.emb (ix3 (0 : Fin 1) r l)) = _
  rw [V_main_arg3]
  refine congrArg (kl m c) (funext fun a => Fin.ext ?_)
  match a with
  | ⟨0, _⟩ => show win0_3.index t (0 : Fin 3) * 1 + 1 * 0 = b.val; omega
  | ⟨1, _⟩ => show win0_3.index t (1 : Fin 3) * 4096 + 1 * r.val = r.val; omega
  | ⟨2, _⟩ => show win0_3.index t (2 : Fin 3) * 1024 + 1 * l.val = l.val; omega

theorem block4 (h : win0_4.index t (0 : Fin 3) = b.val ∧ win0_4.index t (1 : Fin 3) = 0 ∧ win0_4.index t (2 : Fin 3) = 0)
    (r : Fin 4096) (l : Fin 1024) :
    (iblk m c 4 t : Vec Ideal S1x4096x1024 .bf16) (ix3 0 r l) = vl m c (ix3 b r l) := by
  obtain ⟨h0, h1, h2⟩ := h
  show V m c main_arg4 (((cfg0.win 4).blk t).view.emb (ix3 (0 : Fin 1) r l)) = _
  rw [V_main_arg4]
  refine congrArg (vl m c) (funext fun a => Fin.ext ?_)
  match a with
  | ⟨0, _⟩ => show win0_4.index t (0 : Fin 3) * 1 + 1 * 0 = b.val; omega
  | ⟨1, _⟩ => show win0_4.index t (1 : Fin 3) * 4096 + 1 * r.val = r.val; omega
  | ⟨2, _⟩ => show win0_4.index t (2 : Fin 3) * 1024 + 1 * l.val = l.val; omega

/-- The index of the result array a point's block places `(0, r, l)` at. -/
theorem place5 (h : win0_5.index t (0 : Fin 3) = b.val ∧ win0_5.index t (1 : Fin 3) = n.val ∧ win0_5.index t (2 : Fin 3) = 0)
    (r : Fin 256) (l : Fin 1024) :
    ((cfg0.win 5).blk t).view.emb (ix3 (0 : Fin 1) r l) = (ix3 b (⟨256 * n + r, by omega⟩ : Fin 4096) l : S8x4096x1024.Idx) := by
  obtain ⟨h0, h1, h2⟩ := h
  refine funext fun a => Fin.ext ?_
  match a with
  | ⟨0, _⟩ => show win0_5.index t (0 : Fin 3) * 1 + 1 * 0 = b.val; omega
  | ⟨1, _⟩ => show win0_5.index t (1 : Fin 3) * 256 + 1 * r.val = 256 * n.val + r.val; omega
  | ⟨2, _⟩ => show win0_5.index t (2 : Fin 3) * 1024 + 1 * l.val = l.val; omega

end blocks

/-- At a point, the head at lane `o` is that batch's head of the argument arrays. -/
theorem head (A : Asked (q m c) (kc m c) (vc m c) (kl m c) (vl m c)) (b : Fin 8) (n : Fin 16) (o : ℕ)
    (ho : o + 128 ≤ 1024) (x0 x1 x2 : Vec Ideal S1x256x1024 .bf16) (x3 x4 : Vec Ideal S1x4096x1024 .bf16)
    (e0 : ∀ (r : Fin 256) (l : Fin 1024), x0 (ix3 0 r l) = q m c (ix3 b ⟨256 * n + r, by omega⟩ l))
    (e1 : ∀ (r : Fin 256) (l : Fin 1024), x1 (ix3 0 r l) = kc m c (ix3 b r l))
    (e2 : ∀ (r : Fin 256) (l : Fin 1024), x2 (ix3 0 r l) = vc m c (ix3 b r l))
    (e3 : ∀ (r : Fin 4096) (l : Fin 1024), x3 (ix3 0 r l) = kl m c (ix3 b r l))
    (e4 : ∀ (r : Fin 4096) (l : Fin 1024), x4 (ix3 0 r l) = vl m c (ix3 b r l)) :
    Loop.Head o ho x0 x1 x2 x3 x4
      (fun r k => (score (q m c) (kc m c) (kl m c) b o ⟨256 * n + r, by omega⟩ k).toReal)
      (fun k j => row (vc m c) (vl m c) b k (lane o j)) where
  contextScore r k := by
    rw [← A.score]
    exact Finset.sum_congr rfl fun d _ => by rw [e0, e1, lane_eq o ho, row_context]
  contextValue k j := by rw [e2, lane_eq o ho, row_context]
  latentScore r k := by
    rw [← A.score]
    exact Finset.sum_congr rfl fun d _ => by rw [e0, e3, lane_eq o ho, row_latent]
  latentValue k j := by rw [e4, lane_eq o ho, row_latent]

/-- The result array after the run, at an index. -/
theorem result (A : Asked (q m c) (kc m c) (vc m c) (kl m c) (vl m c)) (b : Fin 8) (p : Fin 4096) (l : Fin 1024) :
    ((dats m 0 c).arrAt 5 cfg0.N : FVec Ideal S8x4096x1024 .f32) (ix3 b p l)
      = attention (q m c) (kc m c) (vc m c) (kl m c) (vl m c) b p l := by
  obtain ⟨t, h0, h1, h2, h3, h4, h5⟩ := point b ⟨p.val / 256, by omega⟩
  have B := congrFun (Cert.KernelIdeal.Value.blocks5 m c t (flush0_5 t)) (ix3 (0 : Fin 1) (⟨p.val % 256, Nat.mod_lt _ (by omega)⟩ : Fin 256) l)
  rw [Cert.KernelIdeal.Value.flushed5_A] at B
  have B' : (dats m 0 c).arrAt 5 cfg0.N (((cfg0.win 5).blk t).view.emb (ix3 (0 : Fin 1) (⟨p.val % 256, Nat.mod_lt _ (by omega)⟩ : Fin 256) l))
    = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (ix3 (0 : Fin 1) (⟨p.val % 256, Nat.mod_lt _ (by omega)⟩ : Fin 256) l) := B
  rw [place5 t b _ h5] at B'
  have hp : (⟨256 * (p.val / 256) + p.val % 256, by omega⟩ : Fin 4096) = p := Fin.ext (by simp; omega)
  have H := fun o ho => head m c A b ⟨p.val / 256, by omega⟩ o ho _ _ _ _ _ (block0 m c t b _ h0) (block1 m c t b h1)
    (block2 m c t b h2) (block3 m c t b h3) (block4 m c t b h4)
  have E := Out.out_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)
    (fun o r k => (score (q m c) (kc m c) (kl m c) b o ⟨256 * (p.val / 256) + r, by omega⟩ k).toReal)
    (fun o k j => row (vc m c) (vl m c) b k (lane o j))
    (H 0 _) (H 128 _) (H 256 _) (H 384 _) (H 512 _) (H 640 _) (H 768 _) (H 896 _)
    (fun h hh k hk => A.one b ⟨h, hh⟩ k hk) (ix3 (0 : Fin 1) (⟨p.val % 256, Nat.mod_lt _ (by omega)⟩ : Fin 256) l)
  have F := B'.trans E
  have G : Out.block (fun o r k => (score (q m c) (kc m c) (kl m c) b o ⟨256 * (p.val / 256) + r, by omega⟩ k).toReal)
      (fun o k j => row (vc m c) (vl m c) b k (lane o j)) (ix3 (0 : Fin 1) (⟨p.val % 256, Nat.mod_lt _ (by omega)⟩ : Fin 256) l)
      = attention (q m c) (kc m c) (vc m c) (kl m c) (vl m c) b ⟨256 * (p.val / 256) + p.val % 256, by omega⟩ l := rfl
  rw [G] at F
  rw [hp] at F
  exact F

end Cert.Proof.Array

end
-- ==== Proof.Pre.lean ====
/-
  The precondition read off its predicate: the queries and keys are reals, and lane 64 of every head of the values is one.
-/
module

public import proofs.«01_k».proof.Defs
public import proofs.«01_k».proof.Proof.Array

@[expose] public section

noncomputable section

open Idealize.ShloMosaic

namespace Cert.Proof.Pre

open Cert.Proof.Spec

/-- The shape facts the predicate's operations take. -/
theorem facts : Cert.Pre_ones_lane.Facts where
  bcast_S_S8x4096x1024 := by decide
  bcast_S_S8x256x1024 := by decide
  slicesBy_S8x256x1024_S8x256x8_0s1_0s1_64s128 := by decide
  bcast_S_S8x256x8 := by decide
  slicesBy_S8x4096x1024_S8x4096x8_0s1_0s1_64s128 := by decide
  bcast_S_S8x4096x8 := by decide

/-- A value whose absolute value is below +∞ is a real. -/
theorem finite (x : EReal) (h : FloatOps.cmpf (F := Ideal) (φ := .bf16) .olt (max x (-x)) (Ideal.ofBits .bf16 0x7F80#16) = 1#1) :
    ∃ r : ℝ, x = (r : EReal) := by
  have w : Ideal.ofBits .bf16 0x7F80#16 = ⊤ := by simp [Ideal.ofBits, Ideal.ieee]
  rw [Ideal.cmpf_def, w] at h
  induction x using EReal.rec with
  | bot => simp [Ideal.cmp] at h
  | coe r => exact ⟨r, rfl⟩
  | top => simp [Ideal.cmp] at h

/-- A value equal to the word of one is one. -/
theorem one (x : EReal) (h : FloatOps.cmpf (F := Ideal) (φ := .bf16) .oeq x (Ideal.ofBits .bf16 0x3F80#16) = 1#1) : x = 1 := by
  have w : Ideal.ofBits .bf16 0x3F80#16 = 1 := by
    simp [Ideal.ofBits, Ideal.ieee]
    rw [← EReal.coe_mul]
    norm_num
  rw [Ideal.cmpf_def, w] at h
  by_contra hx
  simp [Ideal.cmp, hx] at h

/-- What the predicate gives of the kernel's arrays. -/
theorem asked (m : (ℓ : Loc KernelIdeal.nD KernelIdeal.τ KernelIdeal.sig) → Buf (Elt Ideal) ℓ)
    (h : Cert.Pre_KernelIdeal_ones_lane (hPre_ones_lane := facts) m) (c : Dev KernelIdeal.nD) :
    Asked (Array.q m c) (Array.kc m c) (Array.vc m c) (Array.kl m c) (Array.vl m c) := by
  obtain ⟨h0, h1, h2, h3, h4⟩ := h c
  refine ⟨fun i => finite _ (congrFun h0 i), fun i => finite _ (congrFun h1 i), fun i => finite _ (congrFun h2 i),
    fun b k t => ?_, fun b k t => ?_⟩
  · refine Eq.trans (congrArg _ (funext fun a => Fin.ext ?_)) (one _ (congrFun h3 (ix3 b k t)))
    have ht := t.isLt
    match a with
    | ⟨0, _⟩ => show b.val = 0 + 1 * b.val; omega
    | ⟨1, _⟩ => show k.val = 0 + 1 * k.val; omega
    | ⟨2, _⟩ => show (128 * t.val + 64) % 1024 = 64 + 128 * t.val; omega
  · refine Eq.trans (congrArg _ (funext fun a => Fin.ext ?_)) (one _ (congrFun h4 (ix3 b k t)))
    have ht := t.isLt
    match a with
    | ⟨0, _⟩ => show b.val = 0 + 1 * b.val; omega
    | ⟨1, _⟩ => show k.val = 0 + 1 * k.val; omega
    | ⟨2, _⟩ => show (128 * t.val + 64) % 1024 = 64 + 128 * t.val; omega

end Cert.Proof.Pre

end
-- ==== Proof.Ref.lean ====
/-
  The reference's array at (b, p, l) is the attention there: its scores, its maximum, its exponentials and their sum, and
  the weighted sum of the values, one stage each.
-/
module

public import proofs.«01_k».proof.Proof.Spec
public import proofs.«01_k».proof.Proof.Gen.ReferenceIdeal.Read
public import Idealize.ShloMosaic.Lib.Pipeline.Value

@[expose] public section

noncomputable section

open Idealize.ShloMosaic Cert.ReferenceIdeal Cert.ReferenceIdeal.Read

namespace Cert.Proof.Ref

open Cert.Proof.Spec

/-- The greatest of finitely many reals, at least one, is real. -/
theorem fold_real (f : Fin 4352 → EReal) (hf : ∀ k, ∃ r : ℝ, f k = (r : EReal)) :
    ∃ r : ℝ, max ⊥ ((Finset.univ : Finset (Fin 4352)).fold max ⊥ f) = (r : EReal) := by
  classical
  obtain ⟨x, hx⟩ := hf 0
  obtain ⟨r, hr⟩ := Flash.max_fold_real (Finset.univ.erase 0) x f hf
  refine ⟨r, ?_⟩
  rw [max_eq_right bot_le, ← Finset.insert_erase (Finset.mem_univ (0 : Fin 4352)),
    Finset.fold_insert (Finset.notMem_erase _ _), hx]
  exact hr

/-- The context rows split into heads. -/
theorem context_apply (x : Context) (b : Fin 8) (k : Fin 256) (h : Fin 8) (d : Fin 128) :
    val_main_v1 (F := Ideal) x (ix4 b k h d) = x (ix3 b k (lane (128 * h) d)) := by
  rw [val_main_v1_apply, val_main_v0_apply]
  have hb := b.isLt; have hk := k.isLt; have hh := h.isLt; have hd := d.isLt
  show x _ = x _
  refine congrArg x (funext fun a => Fin.ext ?_)
  match a with
  | ⟨0, _⟩ =>
    show (((b.val * 256 + k.val) * 8 + h.val) * 128 + d.val) / 262144 = b.val
    omega
  | ⟨1, _⟩ =>
    show (((b.val * 256 + k.val) * 8 + h.val) * 128 + d.val) / 1024 % 256 = k.val
    omega
  | ⟨2, _⟩ =>
    show (((b.val * 256 + k.val) * 8 + h.val) * 128 + d.val) % 1024 = (128 * h.val + d.val) % 1024
    omega

/-- The latent rows split into heads. -/
theorem latent_apply (x : Latent) (b : Fin 8) (k : Fin 4096) (h : Fin 8) (d : Fin 128) :
    val_main_v3 (F := Ideal) x (ix4 b k h d) = x (ix3 b k (lane (128 * h) d)) := by
  rw [val_main_v3_apply, val_main_v2_apply]
  have hb := b.isLt; have hk := k.isLt; have hh := h.isLt; have hd := d.isLt
  show x _ = x _
  refine congrArg x (funext fun a => Fin.ext ?_)
  match a with
  | ⟨0, _⟩ =>
    show (((b.val * 4096 + k.val) * 8 + h.val) * 128 + d.val) / 4194304 = b.val
    omega
  | ⟨1, _⟩ =>
    show (((b.val * 4096 + k.val) * 8 + h.val) * 128 + d.val) / 1024 % 4096 = k.val
    omega
  | ⟨2, _⟩ =>
    show (((b.val * 4096 + k.val) * 8 + h.val) * 128 + d.val) % 1024 = (128 * h.val + d.val) % 1024
    omega

/-- The queries split into heads. -/
theorem query_apply (x : Latent) (b : Fin 8) (p : Fin 4096) (h : Fin 8) (d : Fin 128) :
    val_main_v11 (F := Ideal) x (ix4 b p h d) = x (ix3 b p (lane (128 * h) d)) := latent_apply x b p h d

/-- The keys: the context rows, then the latent rows. -/
theorem key_apply (xc : Context) (xl : Latent) (b : Fin 8) (k : Fin 4352) (h : Fin 8) (d : Fin 128) :
    val_main_v4 (F := Ideal) xc xl (ix4 b k h d) = row xc xl b k (lane (128 * h) d) := by
  unfold val_main_v4
  by_cases hk : k.val < 256
  · refine (concatenate_pair_apply_left (s₁ := S8x256x8x128) (s₂ := S8x4096x8x128) 1 _ _ _ (ix4 b k h d) rfl (ix4 b (⟨k.val, hk⟩ : Fin 256) h d) fun a => ?_).trans ?_
    · match a with
      | ⟨0, _⟩ => rfl
      | ⟨1, _⟩ => rfl
      | ⟨2, _⟩ => rfl
      | ⟨3, _⟩ => rfl
    · rw [context_apply]
      exact (row_context xc xl b ⟨k.val, hk⟩ _).symm
  · have hk' := k.isLt
    refine (concatenate_pair_apply_right (s₁ := S8x256x8x128) (s₂ := S8x4096x8x128) 1 _ _ _ (ix4 b k h d) rfl rfl
      (ix4 b (⟨k.val - 256, by omega⟩ : Fin 4096) h d) (fun a ha => ?_) ?_).trans ?_
    · match a, ha with
      | ⟨0, _⟩, _ => rfl
      | ⟨1, _⟩, ha => exact absurd rfl ha
      | ⟨2, _⟩, _ => rfl
      | ⟨3, _⟩, _ => rfl
    · show k.val - 256 + 256 = k.val
      omega
    · rw [latent_apply]
      have e := row_latent xc xl b (⟨k.val - 256, by omega⟩ : Fin 4096) (lane (128 * h) d)
      rw [show 256 + (k.val - 256) = k.val by omega] at e
      exact e.symm

/-- The values: the context rows, then the latent rows. -/
theorem value_apply (xc : Context) (xl : Latent) (b : Fin 8) (k : Fin 4352) (h : Fin 8) (d : Fin 128) :
    val_main_v9 (F := Ideal) xc xl (ix4 b k h d) = row xc xl b k (lane (128 * h) d) := key_apply xc xl b k h d

section
variable {q : Latent} {kc vc : Context} {kl vl : Latent}

/-- The scores. -/
theorem score_apply (b h : Fin 8) (p : Fin 4096) (k : Fin 4352) :
    val_main_v12 (F := Ideal) q kc kl (ix4 b h p k) = score q kc kl b (128 * h) p k := by
  rw [val_main_v12_apply]
  refine Finset.sum_congr rfl fun d _ => ?_
  refine congrArg₂ (· * ·) (Eq.trans (congrArg _ ?_) (query_apply q b p h d))
    (Eq.trans (congrArg _ ?_) (key_apply kc kl b k h d))
  all_goals
    funext a
    match a with
    | ⟨0, _⟩ => rfl
    | ⟨1, _⟩ => rfl
    | ⟨2, _⟩ => rfl
    | ⟨3, _⟩ => rfl

/-- The maximum a row's scores are shifted by is real. -/
theorem shift_real (A : Asked q kc vc kl vl) (b h : Fin 8) (p : Fin 4096) :
    ∃ m : ℝ, val_main_v15 (F := Ideal) q kc kl (ix3 b h p) = (m : EReal) := by
  have hR : S8x8x4096x4352.Reduces [3] S8x8x4096 := by decide
  have e : (fun k : Fin 4352 => val_main_v12 (F := Ideal) q kc kl (ix4 b h p k))
      = val_main_v12 (F := Ideal) q kc kl ∘ hR.lift (ix3 b h p) := by
    refine funext fun k => congrArg _ (funext fun a => ?_)
    match a with
    | ⟨0, _⟩ => rfl
    | ⟨1, _⟩ => rfl
    | ⟨2, _⟩ => rfl
    | ⟨3, _⟩ => rfl
  have z : (FloatOps.ofBits (F := Ideal) .f32 0xFF800000#32) = (⊥ : EReal) := by
    show Ideal.ofBits .f32 0xFF800000#32 = ⊥
    simp [Ideal.ofBits, Ideal.ieee]
  obtain ⟨m, hm⟩ := fold_real (fun k => val_main_v12 (F := Ideal) q kc kl (ix4 b h p k))
    (fun k => by rw [score_apply]; exact ⟨_, A.score b _ p k⟩)
  rw [e] at hm
  refine ⟨m, Eq.trans ?_ hm⟩
  rw [val_main_v15_apply, val_main_v14_apply, val_main_cst_0_apply]
  unfold val_main_v13
  rw [Host.reduce_eq_fold_single (FloatOps.maximumf (F := Ideal) (φ := .f32)) _ _
    Gen.reducesTo_S8x8x4096x4352_S8x8x4096_d3 hR, val_main_cst_apply, z]
  rfl

/-- The exponential of a shifted score. -/
theorem exp_apply (A : Asked q kc vc kl vl) (b h : Fin 8) (p : Fin 4096) (m : ℝ)
    (hm : val_main_v15 (F := Ideal) q kc kl (ix3 b h p) = (m : EReal)) (k : Fin 4352) :
    val_main_v19 (F := Ideal) q kc kl (ix4 b h p k)
      = ((Real.exp ((score q kc kl b (128 * h) p k).toReal - m) : ℝ) : EReal) := by
  rw [val_main_v19_apply, val_main_v18_apply, val_main_v17_apply, val_main_v16_apply,
    (score_apply b h p k).trans (A.score b _ p k)]
  have e : val_main_v15 (F := Ideal) q kc kl (idx_main_v16 (idx_main_v17 (ix4 b h p k))) = (m : EReal) := by
    rw [← hm]
    refine congrArg _ (funext fun a => ?_)
    match a with
    | ⟨0, _⟩ => rfl
    | ⟨1, _⟩ => rfl
    | ⟨2, _⟩ => rfl
  rw [e]
  rw [Ideal.hostUnary_exp_def, Ideal.subf_def, ← EReal.coe_sub]
  rfl

/-- The weight of a key: its exponential over the row's sum of them. -/
theorem weight_apply (A : Asked q kc vc kl vl) (b h : Fin 8) (p : Fin 4096) (m : ℝ)
    (hm : val_main_v15 (F := Ideal) q kc kl (ix3 b h p) = (m : EReal)) (k : Fin 4352) :
    val_main_v23 (F := Ideal) q kc kl (ix4 b h p k)
      = Ideal.div ((Real.exp ((score q kc kl b (128 * h) p k).toReal - m) : ℝ) : EReal)
          ((∑ i ∈ Finset.range 4352, Real.exp ((score q kc kl b (128 * h) p i).toReal - m) : ℝ) : EReal) := by
  rw [val_main_v23_apply, val_main_v22_apply, val_main_v21_apply, val_main_v20_apply, exp_apply A b h p m hm]
  rw [Ideal.hostDivf_def]
  refine congrArg (Ideal.div _) ?_
  rw [val_main_cst_1_apply]
  have z : (FloatOps.ofBits (F := Ideal) .f32 0x00000000#32) = (0 : EReal) := Ideal.ofBits_zero_f32
  rw [z, zero_add, Finset.sum_range, ← Flash.sum_coe]
  refine Finset.sum_congr rfl fun i _ => ?_
  rw [← exp_apply A b h p m hm i]
  refine congrArg _ (funext fun a => ?_)
  match a with
  | ⟨0, _⟩ => rfl
  | ⟨1, _⟩ => rfl
  | ⟨2, _⟩ => rfl
  | ⟨3, _⟩ => rfl

/-- The weighted sum of the values of a head. -/
theorem mean_apply (A : Asked q kc vc kl vl) (b h : Fin 8) (d : Fin 128) (p : Fin 4096) :
    val_main_v24 (F := Ideal) q kc vc kl vl (ix4 b h d p)
      = Flash.att 4352 (fun k => (score q kc kl b (128 * h) p k).toReal) fun k => row vc vl b k (lane (128 * h) d) := by
  obtain ⟨m, hm⟩ := shift_real A b h p
  rw [val_main_v24_apply, ← Flash.softmax_eq 4352 (by omega) m, Finset.sum_range]
  refine Finset.sum_congr rfl fun k _ => ?_
  rw [← weight_apply A b h p m hm k, ← value_apply vc vl b k h d]
  refine congrArg₂ (· * ·) (congrArg _ ?_) (congrArg _ ?_)
  all_goals
    funext a
    match a with
    | ⟨0, _⟩ => rfl
    | ⟨1, _⟩ => rfl
    | ⟨2, _⟩ => rfl
    | ⟨3, _⟩ => rfl

/-- The reference's array is the attention. -/
theorem result (A : Asked q kc vc kl vl) (b : Fin 8) (p : Fin 4096) (l : Fin 1024) :
    val_main_v26 (F := Ideal) q kc vc kl vl (ix3 b p l) = attention q kc vc kl vl b p l := by
  have hb := b.isLt; have hp := p.isLt; have hl := l.isLt
  rw [val_main_v26_apply, val_main_v25_apply]
  refine Eq.trans (congrArg _ ?_)
    (mean_apply A b (⟨l.val / 128, by omega⟩ : Fin 8) (⟨l.val % 128, by omega⟩ : Fin 128) p)
  funext a
  refine Fin.ext ?_
  match a with
  | ⟨0, _⟩ =>
    show ((b.val * 4096 + p.val) * 1024 + l.val) / 4194304 = b.val
    omega
  | ⟨1, _⟩ =>
    show ((b.val * 4096 + p.val) * 1024 + l.val) / 128 % 8 = l.val / 128
    omega
  | ⟨2, _⟩ =>
    show ((b.val * 4096 + p.val) * 1024 + l.val) % 128 = l.val % 128
    omega
  | ⟨3, _⟩ =>
    show ((b.val * 4096 + p.val) * 1024 + l.val) / 1024 % 4096 = p.val
    omega

end

end Cert.Proof.Ref

end
-- ==== Proof.Attention.lean ====
/-
  The claims about the attention call: the frames, and the equality of the kernel's array with the reference's.
-/
module

public import proofs.«01_k».proof.Proof.Pre
public import proofs.«01_k».proof.Proof.Ref
public import proofs.«01_k».proof.Proof.Gen.Kernel.Frame
public import proofs.«01_k».proof.Proof.Gen.KernelIdeal.Frame
public import proofs.«01_k».proof.Proof.Gen.ReferenceIdeal.Run

@[expose] public section

noncomputable section

open Idealize.ShloMosaic Idealize.SL.Sem

namespace Cert.Proof.Attention

/-- The reference runs, leaves its arguments, and ends quiescent. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's array and the reference's are equal, element by element. -/
theorem algebraic : Cert.algebraic_KernelIdeal_ReferenceIdeal_pre_ones_lane (hPre_ones_lane := Pre.facts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [Cert.ReferenceIdeal.Read.val_main_v26_eq, e0, e1, e2, e3, e4]
  have A := Pre.asked m hpre c
  refine funext fun i => ?_
  rw [show i = ix3 (i 0) (i 1) (i 2) from (ix3_eta i).symm]
  exact (Ref.result A (i 0) (i 1) (i 2)).trans (Array.result m c A (i 0) (i 1) (i 2)).symm

end Cert.Proof.Attention

end
-- ==== Proof.Norm.lean ====
/-
  The normalization of one row and its modulation, in extended reals: what the input projection and the merge both apply.
-/
module

public import Idealize.ShloMosaic.Lib.Pointwise
public import Idealize.ShloMosaic.Lib.Pipeline.Value

@[expose] public section

noncomputable section

open Idealize.ShloMosaic

namespace Cert.Proof.Norm

/-- The reciprocal root of a row's mean square, the mean taken with the given sum of squares. -/
def root (q : EReal) : EReal :=
  Ideal.rsqrt (q * Ideal.ofBits .f32 0x3A800000#32 + Ideal.ofBits .f32 0x358637BD#32)

/-- A row over its root mean square, times the gain, times one more than the scale, plus the shift, at lane `k`. -/
def modulated (x g scale shift : Fin 1024 → EReal) (k : Fin 1024) : EReal :=
  x k * root (∑ j : Fin 1024, x j * x j) * g k * (Ideal.ofBits .f32 0x3F800000#32 + scale k) + shift k

/-- Dividing by 1024 is multiplying by its reciprocal. -/
theorem div_1024 (q : EReal) :
    Ideal.div q (Ideal.ofBits .f32 0x44800000#32) = q * Ideal.ofBits .f32 0x3A800000#32 := by
  have h : Ideal.ofBits .f32 0x44800000#32 = ((1024 : ℝ) : EReal) := by
    simp [Ideal.ofBits, Ideal.ieee]
    rw [← EReal.coe_mul]; norm_num
  have h' : Ideal.ofBits .f32 0x3A800000#32 = ((1024⁻¹ : ℝ) : EReal) := by
    simp [Ideal.ofBits, Ideal.ieee]
    rw [← EReal.coe_mul]; norm_num
  rw [h, h', Ideal.div, if_neg (by norm_num)]
  rfl

end Cert.Proof.Norm

end
-- ==== Proof.InBlock.lean ====
/-
  One block of the input projection: the block's 256 rows, each normalized and modulated, times the columns of the weight.
-/
module

public import proofs.«01_k».proof.Proof.Norm
public import proofs.«01_k».proof.Proof.Gen.Kernel2Ideal.Frame
public import Idealize.ShloMosaic.Lib.Pipeline.ValueKit

@[expose] public section

noncomputable section

open Idealize.ShloMosaic Idealize.ShloMosaic.TcCoe
open Cert.Kernel2Ideal Cert.Kernel2Ideal.Gen

namespace Cert.Proof.InBlock

/-- The modulated row, from the row, the gain, the scale and the shift. -/
theorem row (x : Vec Ideal S1x256x1024 .f32) (g : Vec Ideal S1x1024 .f32) (a s : Vec Ideal S1x1x1024 .f32)
    (r : Fin 256) (k : Fin 1024) :
    k0_pay2 x g a s (ix2 r k) = Norm.modulated (fun k => x (ix3 0 r k)) (fun k => g (ix2 0 k)) (fun k => a (ix3 0 0 k))
      (fun k => s (ix3 0 0 k)) k := by
  unfold Norm.modulated Norm.root
  pointwise [k0_pay2]

theorem product4 (h : FVec Ideal S256x1024 .bf16) (w : Vec Ideal S1024x256 .bf16) (r : Fin 256) (j : Fin 256) :
    k0_pay4 h w (constant S256x256 .f32 0x00000000#32) (ix3 0 r j) = ∑ k : Fin 1024, h (ix2 r k) * w (ix2 k j) := by
  pointwise [k0_pay4]

theorem product6 (h : FVec Ideal S256x1024 .bf16) (w : Vec Ideal S1024x512 .bf16) (r : Fin 256) (j : Fin 512) :
    k0_pay6 h w (ix3 0 r j) = ∑ k : Fin 1024, h (ix2 r k) * w (ix2 k j) := by
  pointwise [k0_pay6]

theorem product7 (h : FVec Ideal S256x1024 .bf16) (w : Vec Ideal S1024x1024 .bf16) (r : Fin 256) (j : Fin 1024) :
    k0_pay7 h w (ix3 0 r j) = ∑ k : Fin 1024, h (ix2 r k) * w (ix2 k j) := by
  pointwise [k0_pay7]

/-- The columns of the weight from `o` on. -/
theorem columns (n o : ℕ) (x : Vec Ideal S1024x4352 .bf16) (ho : o + n ≤ 4352) (inb) (k : Fin 1024) (j : Fin n) :
    View.ld x (Rect.unit (s := S1024x4352) ![0, o] ![1024, n] inb) (ix2 k j) = x (ix2 k ⟨o + j, by omega⟩) :=
  View.ld_unit_apply_of x _ _ inb _ _ fun a => by
    fin_cases a <;> first | rfl | simp [ix2]

/-- The lanes of the modulation from `o` on. -/
theorem lanes (o : ℕ) (x : Vec Ideal S1x1x6144 .f32) (ho : o + 1024 ≤ 6144) (inb) (k : Fin 1024) :
    View.ld x (Rect.unit (s := S1x1x6144) ![0, 0, o] S1x1x1024.size inb) (ix3 0 0 k) = x (ix3 0 0 ⟨o + k, by omega⟩) :=
  View.ld_unit_apply_of x _ _ inb _ _ fun a => by
    fin_cases a <;> first | rfl | simp [ix3]

section
variable (x0 : Vec Ideal S1x256x1024 .f32) (x1 : Vec Ideal S1x1x6144 .f32) (x2 : Vec Ideal S1x1024 .f32)
  (x3 : Vec Ideal S1024x4352 .bf16)

/-- The block's row `r`, modulated. -/
def h (r : Fin 256) (k : Fin 1024) : EReal :=
  Norm.modulated (fun k => x0 (ix3 0 r k)) (fun k => x2 (ix2 0 k)) (fun k => x1 (ix3 0 0 ⟨1024 + k, by omega⟩))
    (fun k => x1 (ix3 0 0 ⟨0 + k, by omega⟩)) k

theorem row_eq (r : Fin 256) (k : Fin 1024) : k0_pay9 x0 x1 x2 x3 (ix2 r k) = h x0 x1 x2 r k := by
  unfold k0_pay9 h
  rw [row, View.ld_unit_lit inb_S1x256x1024_S1x256x1024_0_0_0 _ (by decide),
    View.ld_unit_lit inb_S1x1024_S1x1024_0_0 _ (by decide)]
  have e1 : (fun k : Fin 1024 => View.ld x1 r0_2 (ix3 0 0 k)) = fun k : Fin 1024 => x1 (ix3 0 0 ⟨1024 + k, by omega⟩) :=
    funext fun k => lanes 1024 x1 (by omega) _ k
  have e3 : (fun k : Fin 1024 => View.ld x1 r0_3 (ix3 0 0 k)) = fun k : Fin 1024 => x1 (ix3 0 0 ⟨0 + k, by omega⟩) :=
    funext fun k => lanes 0 x1 (by omega) _ k
  rw [e1, e3]

/-- The projection of the block's row `r` at column `j` of the weight. -/
def z (r : Fin 256) (j : Fin 4352) : EReal := ∑ k : Fin 1024, h x0 x1 x2 r k * x3 (ix2 k j)

theorem out4 (r : Fin 256) (j : Fin 256) : out0_4 x0 x1 x2 x3 (ix3 0 r j) = z x0 x1 x2 x3 r ⟨0 + j, by omega⟩ := by
  unfold out0_4
  rw [View.canon_cons_unit_lit inb_S1x256x256_S1x256x256_0_0_0 _ _ (by decide)]
  refine (product4 (k0_pay9 x0 x1 x2 x3) _ r j).trans (Finset.sum_congr rfl fun k _ => ?_)
  exact congrArg₂ (· * ·) (row_eq x0 x1 x2 x3 r k) (columns 256 0 x3 (by omega) _ k j)

theorem out5 (r : Fin 256) (j : Fin 256) : out0_5 x0 x1 x2 x3 (ix3 0 r j) = z x0 x1 x2 x3 r ⟨256 + j, by omega⟩ := by
  unfold out0_5
  rw [View.canon_cons_unit_lit inb_S1x256x256_S1x256x256_0_0_0 _ _ (by decide)]
  refine (product4 (k0_pay9 x0 x1 x2 x3) _ r j).trans (Finset.sum_congr rfl fun k _ => ?_)
  exact congrArg₂ (· * ·) (row_eq x0 x1 x2 x3 r k) (columns 256 256 x3 (by omega) _ k j)

theorem out6 (r : Fin 256) (j : Fin 256) : out0_6 x0 x1 x2 x3 (ix3 0 r j) = z x0 x1 x2 x3 r ⟨512 + j, by omega⟩ := by
  unfold out0_6
  rw [View.canon_cons_unit_lit inb_S1x256x256_S1x256x256_0_0_0 _ _ (by decide)]
  refine (product4 (k0_pay9 x0 x1 x2 x3) _ r j).trans (Finset.sum_congr rfl fun k _ => ?_)
  exact congrArg₂ (· * ·) (row_eq x0 x1 x2 x3 r k) (columns 256 512 x3 (by omega) _ k j)

theorem out7 (r : Fin 256) (j : Fin 512) : out0_7 x0 x1 x2 x3 (ix3 0 r j) = z x0 x1 x2 x3 r ⟨768 + j, by omega⟩ := by
  unfold out0_7
  rw [View.canon_cons_unit_lit inb_S1x256x512_S1x256x512_0_0_0 _ _ (by decide)]
  refine (product6 (k0_pay9 x0 x1 x2 x3) _ r j).trans (Finset.sum_congr rfl fun k _ => ?_)
  exact congrArg₂ (· * ·) (row_eq x0 x1 x2 x3 r k) (columns 512 768 x3 (by omega) _ k j)

/-- The block of the last result, by index. -/
def lastBlock (y : S1x256x3072.Idx) : Elt Ideal .f32 :=
  z x0 x1 x2 x3 (y 1) ⟨1280 + (y 2).val, by have : (y 2).val < 3072 := (y 2).isLt; omega⟩

/-- A third of the last result: the product with 1024 columns from `c` on lies at the lanes from `o` on. -/
theorem third (o c : ℕ) (hc : c = 1280 + o) (ho : o + 1024 ≤ 3072) (inb inb') (x : S1x256x1024.Idx) :
    k0_pay7 (k0_pay9 x0 x1 x2 x3) (View.ld x3 (Rect.unit (s := S1024x4352) ![0, c] ![1024, 1024] inb')) x
      = lastBlock x0 x1 x2 x3 ((Rect.unit (s := S1x256x3072) ![0, 0, o] S1x256x1024.size inb).emb x) := by
  subst hc
  have hx : x = ix3 (0 : Fin 1) (x 1) (x 2) := by
    refine funext fun a => ?_
    fin_cases a
    · exact Subsingleton.elim (α := Fin 1) _ _
    · rfl
    · rfl
  have h1 : (Rect.unit (s := S1x256x3072) ![0, 0, o] S1x256x1024.size inb).emb x 1 = x 1 :=
    Fin.ext ((Rect.idx_unit_val _ _ inb x 1).trans (Nat.zero_add _))
  have h2 : ((Rect.unit (s := S1x256x3072) ![0, 0, o] S1x256x1024.size inb).emb x 2).val = o + (x 2).val :=
    Rect.idx_unit_val _ _ inb x 2
  have hl : (x 2).val < 1024 := (x 2).isLt
  refine (congrArg _ hx).trans ((product7 (k0_pay9 x0 x1 x2 x3) _ (x 1) (x 2)).trans ?_)
  show _ = z x0 x1 x2 x3 _ _
  refine Eq.trans (b := z x0 x1 x2 x3 (x 1) ⟨1280 + o + (x 2).val, by omega⟩) ?_ ?_
  · refine Finset.sum_congr rfl fun k _ => ?_
    exact congrArg₂ (· * ·) (row_eq x0 x1 x2 x3 (x 1) k) (columns 1024 (1280 + o) x3 (by omega) inb' k (x 2))
  · refine congrArg₂ (z x0 x1 x2 x3) h1.symm (Fin.ext ?_)
    show 1280 + o + (x 2).val = 1280 + _
    rw [h2, Nat.add_assoc]

theorem out8 (r : Fin 256) (j : Fin 3072) : out0_8 x0 x1 x2 x3 (ix3 0 r j) = z x0 x1 x2 x3 r ⟨1280 + j, by omega⟩ := by
  unfold out0_8
  refine View.canon_apply_of_pieces (Val := Elt Ideal) (e := .f32) (lastBlock x0 x1 x2 x3) _ ?_ (ix3 0 r j) (cover0_8 _ _ _ (ix3 0 r j))
  intro p hp
  simp only [List.mem_cons, List.not_mem_nil, or_false] at hp
  rcases hp with rfl | rfl | rfl
  · exact fun x => third x0 x1 x2 x3 2048 3328 rfl (by omega) inb_S1x256x3072_S1x256x1024_0_0_2048 inb_S1024x4352_S1024x1024_0_3328 x
  · exact fun x => third x0 x1 x2 x3 1024 2304 rfl (by omega) inb_S1x256x3072_S1x256x1024_0_0_1024 inb_S1024x4352_S1024x1024_0_2304 x
  · exact fun x => third x0 x1 x2 x3 0 1280 rfl (by omega) inb_S1x256x3072_S1x256x1024_0_0_0 inb_S1024x4352_S1024x1024_0_1280 x

end

end Cert.Proof.InBlock

end
-- ==== Proof.InArray.lean ====
/-
  The input projection's five arrays: the grid's 128 points each leave one block of each, so every element is the projection
  of its row at its column.
-/
module

public import proofs.«01_k».proof.Proof.InBlock
public import proofs.«01_k».proof.Proof.Gen.Kernel2Ideal.Value

@[expose] public section

noncomputable section

open Idealize.ShloMosaic Idealize.ShloMosaic.TcCoe
open Cert.Kernel2Ideal Cert.Kernel2Ideal.Gen

namespace Cert.Proof.InArray

/-- The projection of row `p` of batch `b` at column `j` of the weight. -/
def projection (x : FVec Ideal ⟨3, ![8, 4096, 1024]⟩ .f32) (mods : FVec Ideal ⟨3, ![16, 1, 6144]⟩ .f32)
    (g : FVec Ideal ⟨1, ![1024]⟩ .f32) (w : FVec Ideal ⟨2, ![1024, 4352]⟩ .bf16) (b : Fin 8) (p : Fin 4096) (j : Fin 4352) : EReal :=
  ∑ k : Fin 1024, Norm.modulated (fun k => x (ix3 b p k)) (fun k => g (ix1 k))
    (fun k => mods (ix3 ⟨b.val, by omega⟩ 0 ⟨1024 + k, by omega⟩)) (fun k => mods (ix3 ⟨b.val, by omega⟩ 0 ⟨0 + k, by omega⟩)) k
      * w (ix2 k j)

/-- For batch `b` and row block `n` there is a grid point whose windows are that batch's blocks. -/
theorem point : ∀ (b : Fin 8) (n : Fin 16), ∃ t : Fin cfg0.N,
    (win0_0.index t (0 : Fin 3) = b.val ∧ win0_0.index t (1 : Fin 3) = n.val ∧ win0_0.index t (2 : Fin 3) = 0)
    ∧ (win0_1.index t (0 : Fin 3) = b.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = b.val ∧ win0_4.index t (1 : Fin 3) = n.val ∧ win0_4.index t (2 : Fin 3) = 0)
    ∧ (win0_5.index t (0 : Fin 3) = b.val ∧ win0_5.index t (1 : Fin 3) = n.val ∧ win0_5.index t (2 : Fin 3) = 0)
    ∧ (win0_6.index t (0 : Fin 3) = b.val ∧ win0_6.index t (1 : Fin 3) = n.val ∧ win0_6.index t (2 : Fin 3) = 0)
    ∧ (win0_7.index t (0 : Fin 3) = b.val ∧ win0_7.index t (1 : Fin 3) = n.val ∧ win0_7.index t (2 : Fin 3) = 0)
    ∧ (win0_8.index t (0 : Fin 3) = b.val ∧ win0_8.index t (1 : Fin 3) = n.val ∧ win0_8.index t (2 : Fin 3) = 0) :=
  (by decide +kernel : ∀ (b : Fin 8) (n : Fin 16), ∃ t : Fin grid0.N, _)

variable (m : (ℓ : Loc nD τ sig) → Buf (Elt Ideal) ℓ) (c : Dev nD)

/-- The four argument arrays. -/
abbrev x : FVec Ideal ⟨3, ![8, 4096, 1024]⟩ .f32 := m ((c : Thread nD τ).loc main_arg0)
abbrev mods : FVec Ideal ⟨3, ![16, 1, 6144]⟩ .f32 := m ((c : Thread nD τ).loc main_arg1)
abbrev g : FVec Ideal ⟨1, ![1024]⟩ .f32 := m ((c : Thread nD τ).loc main_arg2)
abbrev w : FVec Ideal ⟨2, ![1024, 4352]⟩ .bf16 := m ((c : Thread nD τ).loc main_arg3)

/-- The gain as the region finds it: the argument as one row. -/
theorem gain (k : Fin 1024) : (V m c main_v0 : Vec Ideal S1x1024 .f32) (ix2 0 k) = g m c (ix1 k) := by
  have e : (V m c main_v0 : Vec Ideal S1x1024 .f32)
      = shapeCast S1x1024 (m ((c : Thread nD τ).loc main_arg2) : Vec Ideal S1024 .f32) shapeCasts_S1024_S1x1024 := by
    unfold V hostOps0
    after_results
    rfl
  rw [e]
  pointwise

section blocks
variable (t : Fin cfg0.N) (b : Fin 8) (n : Fin 16)

theorem block0 (h : win0_0.index t (0 : Fin 3) = b.val ∧ win0_0.index t (1 : Fin 3) = n.val ∧ win0_0.index t (2 : Fin 3) = 0)
    (r : Fin 256) (l : Fin 1024) :
    (iblk m c 0 t : Vec Ideal S1x256x1024 .f32) (ix3 0 r l) = x m c (ix3 b ⟨256 * n + r, by omega⟩ l) := by
  obtain ⟨h0, h1, h2⟩ := h
  show V m c main_arg0 (((cfg0.win 0).blk t).view.emb (ix3 (0 : Fin 1) r l)) = _
  rw [V_main_arg0]
  refine congrArg (x m c) (funext fun a => Fin.ext ?_)
  match a with
  | ⟨0, _⟩ => show win0_0.index t (0 : Fin 3) * 1 + 1 * 0 = b.val; omega
  | ⟨1, _⟩ => show win0_0.index t (1 : Fin 3) * 256 + 1 * r.val = 256 * n.val + r.val; omega
  | ⟨2, _⟩ => show win0_0.index t (2 : Fin 3) * 1024 + 1 * l.val = l.val; omega

theorem block1 (h : win0_1.index t (0 : Fin 3) = b.val ∧ win0_1.index t (1 : Fin 3) = 0 ∧ win0_1.index t (2 : Fin 3) = 0)
    (l : Fin 6144) :
    (iblk m c 1 t : Vec Ideal S1x1x6144 .f32) (ix3 0 0 l) = mods m c (ix3 ⟨b.val, by omega⟩ 0 l) := by
  obtain ⟨h0, h1, h2⟩ := h
  show V m c main_arg1 (((cfg0.win 1).blk t).view.emb (ix3 (0 : Fin 1) (0 : Fin 1) l)) = _
  rw [V_main_arg1]
  refine congrArg (mods m c) (funext fun a => Fin.ext ?_)
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 6144 + 1 * l.val = l.val; omega

theorem block2 (h : win0_2.index t (0 : Fin 2) = 0 ∧ win0_2.index t (1 : Fin 2) = 0) (l : Fin 1024) :
    (iblk m c 2 t : Vec Ideal S1x1024 .f32) (ix2 0 l) = g m c (ix1 l) := by
  obtain ⟨h0, h1⟩ := h
  refine Eq.trans ?_ (gain m c l)
  show V m c main_v0 (((cfg0.win 2).blk t).view.emb (ix2 (0 : Fin 1) l)) = _
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 1024 + 1 * l.val = l.val; omega

theorem block3 (h : win0_3.index t (0 : Fin 2) = 0 ∧ win0_3.index t (1 : Fin 2) = 0) (k : Fin 1024) (j : Fin 4352) :
    (iblk m c 3 t : Vec Ideal S1024x4352 .bf16) (ix2 k j) = w m c (ix2 k j) := by
  obtain ⟨h0, h1⟩ := h
  show V m c main_arg3 (((cfg0.win 3).blk t).view.emb (ix2 k j)) = _
  rw [V_main_arg3]
  refine congrArg (w m c) (funext fun a => Fin.ext ?_)
  match a with
  | ⟨0, _⟩ => show win0_3.index t (0 : Fin 2) * 1024 + 1 * k.val = k.val; omega
  | ⟨1, _⟩ => show win0_3.index t (1 : Fin 2) * 4352 + 1 * j.val = j.val; omega

/-- The index of array 4 a point's block places `(0, r, l)` at. -/
theorem place4 (h : win0_4.index t (0 : Fin 3) = b.val ∧ win0_4.index t (1 : Fin 3) = n.val ∧ win0_4.index t (2 : Fin 3) = 0)
    (r : Fin 256) (l : Fin 256) :
    ((cfg0.win 4).blk t).view.emb (ix3 (0 : Fin 1) r l) = (ix3 b (⟨256 * n + r, by omega⟩ : Fin 4096) l : S8x4096x256.Idx) := by
  obtain ⟨h0, h1, h2⟩ := h
  refine funext fun a => Fin.ext ?_
  match a with
  | ⟨0, _⟩ => show win0_4.index t (0 : Fin 3) * 1 + 1 * 0 = b.val; omega
  | ⟨1, _⟩ => show win0_4.index t (1 : Fin 3) * 256 + 1 * r.val = 256 * n.val + r.val; omega
  | ⟨2, _⟩ => show win0_4.index t (2 : Fin 3) * 256 + 1 * l.val = l.val; omega

/-- The index of array 5 a point's block places `(0, r, l)` at. -/
theorem place5 (h : win0_5.index t (0 : Fin 3) = b.val ∧ win0_5.index t (1 : Fin 3) = n.val ∧ win0_5.index t (2 : Fin 3) = 0)
    (r : Fin 256) (l : Fin 256) :
    ((cfg0.win 5).blk t).view.emb (ix3 (0 : Fin 1) r l) = (ix3 b (⟨256 * n + r, by omega⟩ : Fin 4096) l : S8x4096x256.Idx) := by
  obtain ⟨h0, h1, h2⟩ := h
  refine funext fun a => Fin.ext ?_
  match a with
  | ⟨0, _⟩ => show win0_5.index t (0 : Fin 3) * 1 + 1 * 0 = b.val; omega
  | ⟨1, _⟩ => show win0_5.index t (1 : Fin 3) * 256 + 1 * r.val = 256 * n.val + r.val; omega
  | ⟨2, _⟩ => show win0_5.index t (2 : Fin 3) * 256 + 1 * l.val = l.val; omega

/-- The index of array 6 a point's block places `(0, r, l)` at. -/
theorem place6 (h : win0_6.index t (0 : Fin 3) = b.val ∧ win0_6.index t (1 : Fin 3) = n.val ∧ win0_6.index t (2 : Fin 3) = 0)
    (r : Fin 256) (l : Fin 256) :
    ((cfg0.win 6).blk t).view.emb (ix3 (0 : Fin 1) r l) = (ix3 b (⟨256 * n + r, by omega⟩ : Fin 4096) l : S8x4096x256.Idx) := by
  obtain ⟨h0, h1, h2⟩ := h
  refine funext fun a => Fin.ext ?_
  match a with
  | ⟨0, _⟩ => show win0_6.index t (0 : Fin 3) * 1 + 1 * 0 = b.val; omega
  | ⟨1, _⟩ => show win0_6.index t (1 : Fin 3) * 256 + 1 * r.val = 256 * n.val + r.val; omega
  | ⟨2, _⟩ => show win0_6.index t (2 : Fin 3) * 256 + 1 * l.val = l.val; omega

/-- The index of array 7 a point's block places `(0, r, l)` at. -/
theorem place7 (h : win0_7.index t (0 : Fin 3) = b.val ∧ win0_7.index t (1 : Fin 3) = n.val ∧ win0_7.index t (2 : Fin 3) = 0)
    (r : Fin 256) (l : Fin 512) :
    ((cfg0.win 7).blk t).view.emb (ix3 (0 : Fin 1) r l) = (ix3 b (⟨256 * n + r, by omega⟩ : Fin 4096) l : S8x4096x512.Idx) := by
  obtain ⟨h0, h1, h2⟩ := h
  refine funext fun a => Fin.ext ?_
  match a with
  | ⟨0, _⟩ => show win0_7.index t (0 : Fin 3) * 1 + 1 * 0 = b.val; omega
  | ⟨1, _⟩ => show win0_7.index t (1 : Fin 3) * 256 + 1 * r.val = 256 * n.val + r.val; omega
  | ⟨2, _⟩ => show win0_7.index t (2 : Fin 3) * 512 + 1 * l.val = l.val; omega

/-- The index of array 8 a point's block places `(0, r, l)` at. -/
theorem place8 (h : win0_8.index t (0 : Fin 3) = b.val ∧ win0_8.index t (1 : Fin 3) = n.val ∧ win0_8.index t (2 : Fin 3) = 0)
    (r : Fin 256) (l : Fin 3072) :
    ((cfg0.win 8).blk t).view.emb (ix3 (0 : Fin 1) r l) = (ix3 b (⟨256 * n + r, by omega⟩ : Fin 4096) l : S8x4096x3072.Idx) := by
  obtain ⟨h0, h1, h2⟩ := h
  refine funext fun a => Fin.ext ?_
  match a with
  | ⟨0, _⟩ => show win0_8.index t (0 : Fin 3) * 1 + 1 * 0 = b.val; omega
  | ⟨1, _⟩ => show win0_8.index t (1 : Fin 3) * 256 + 1 * r.val = 256 * n.val + r.val; omega
  | ⟨2, _⟩ => show win0_8.index t (2 : Fin 3) * 3072 + 1 * l.val = l.val; omega

/-- At a point, a block's projection is that of the argument arrays. -/
theorem z_eq (h0 : win0_0.index t (0 : Fin 3) = b.val ∧ win0_0.index t (1 : Fin 3) = n.val ∧ win0_0.index t (2 : Fin 3) = 0)
    (h1 : win0_1.index t (0 : Fin 3) = b.val ∧ win0_1.index t (1 : Fin 3) = 0 ∧ win0_1.index t (2 : Fin 3) = 0)
    (h2 : win0_2.index t (0 : Fin 2) = 0 ∧ win0_2.index t (1 : Fin 2) = 0)
    (h3 : win0_3.index t (0 : Fin 2) = 0 ∧ win0_3.index t (1 : Fin 2) = 0) (r : Fin 256) (j : Fin 4352) :
    InBlock.z (iblk m c 0 t) (iblk m c 1 t) (iblk m c 2 t) (iblk m c 3 t) r j
      = projection (x m c) (mods m c) (g m c) (w m c) b ⟨256 * n + r, by omega⟩ j := by
  unfold InBlock.z InBlock.h projection
  refine Finset.sum_congr rfl fun k _ => congrArg₂ (· * ·) ?_ (block3 m c t h3 k j)
  have e0 := funext fun k => block0 m c t b n h0 r k
  have e1 := fun o (ho : o + 1024 ≤ 6144) => funext fun k : Fin 1024 => block1 m c t b h1 ⟨o + k, by omega⟩
  have e2 := funext fun k => block2 m c t h2 k
  exact congrFun (congr (congr (congr (congrArg Norm.modulated e0) e2) (e1 1024 (by omega))) (e1 0 (by omega))) k

end blocks

/-- Array 4 after the run, at an index. -/
theorem result4 (b : Fin 8) (p : Fin 4096) (l : Fin 256) :
    ((dats m 0 c).arrAt 4 cfg0.N : FVec Ideal S8x4096x256 .f32) (ix3 b p l)
      = projection (x m c) (mods m c) (g m c) (w m c) b p ⟨0 + l, by omega⟩ := by
  obtain ⟨t, h0, h1, h2, h3, h4, h5, h6, h7, h8⟩ := point b ⟨p.val / 256, by omega⟩
  have B := congrFun (Cert.Kernel2Ideal.Value.blocks4 m c t (flush0_4 t)) (ix3 (0 : Fin 1) (⟨p.val % 256, Nat.mod_lt _ (by omega)⟩ : Fin 256) l)
  rw [Cert.Kernel2Ideal.Value.flushed4] at B
  have B' : (dats m 0 c).arrAt 4 cfg0.N (((cfg0.win 4).blk t).view.emb (ix3 (0 : Fin 1) (⟨p.val % 256, Nat.mod_lt _ (by omega)⟩ : Fin 256) l))
    = out0_4 (iblk m c 0 t) (iblk m c 1 t) (iblk m c 2 t) (iblk m c 3 t) (ix3 (0 : Fin 1) (⟨p.val % 256, Nat.mod_lt _ (by omega)⟩ : Fin 256) l) := B
  rw [place4 t b _ h4] at B'
  have hp : (⟨256 * (p.val / 256) + p.val % 256, by omega⟩ : Fin 4096) = p := Fin.ext (by simp; omega)
  have F := (B'.trans (InBlock.out4 _ _ _ _ _ l)).trans (z_eq m c t b _ h0 h1 h2 h3 _ _)
  simp only [hp] at F
  exact F

/-- Array 5 after the run, at an index. -/
theorem result5 (b : Fin 8) (p : Fin 4096) (l : Fin 256) :
    ((dats m 0 c).arrAt 5 cfg0.N : FVec Ideal S8x4096x256 .f32) (ix3 b p l)
      = projection (x m c) (mods m c) (g m c) (w m c) b p ⟨256 + l, by omega⟩ := by
  obtain ⟨t, h0, h1, h2, h3, h4, h5, h6, h7, h8⟩ := point b ⟨p.val / 256, by omega⟩
  have B := congrFun (Cert.Kernel2Ideal.Value.blocks5 m c t (flush0_5 t)) (ix3 (0 : Fin 1) (⟨p.val % 256, Nat.mod_lt _ (by omega)⟩ : Fin 256) l)
  rw [Cert.Kernel2Ideal.Value.flushed5] at B
  have B' : (dats m 0 c).arrAt 5 cfg0.N (((cfg0.win 5).blk t).view.emb (ix3 (0 : Fin 1) (⟨p.val % 256, Nat.mod_lt _ (by omega)⟩ : Fin 256) l))
    = out0_5 (iblk m c 0 t) (iblk m c 1 t) (iblk m c 2 t) (iblk m c 3 t) (ix3 (0 : Fin 1) (⟨p.val % 256, Nat.mod_lt _ (by omega)⟩ : Fin 256) l) := B
  rw [place5 t b _ h5] at B'
  have hp : (⟨256 * (p.val / 256) + p.val % 256, by omega⟩ : Fin 4096) = p := Fin.ext (by simp; omega)
  have F := (B'.trans (InBlock.out5 _ _ _ _ _ l)).trans (z_eq m c t b _ h0 h1 h2 h3 _ _)
  simp only [hp] at F
  exact F

/-- Array 6 after the run, at an index. -/
theorem result6 (b : Fin 8) (p : Fin 4096) (l : Fin 256) :
    ((dats m 0 c).arrAt 6 cfg0.N : FVec Ideal S8x4096x256 .f32) (ix3 b p l)
      = projection (x m c) (mods m c) (g m c) (w m c) b p ⟨512 + l, by omega⟩ := by
  obtain ⟨t, h0, h1, h2, h3, h4, h5, h6, h7, h8⟩ := point b ⟨p.val / 256, by omega⟩
  have B := congrFun (Cert.Kernel2Ideal.Value.blocks6 m c t (flush0_6 t)) (ix3 (0 : Fin 1) (⟨p.val % 256, Nat.mod_lt _ (by omega)⟩ : Fin 256) l)
  rw [Cert.Kernel2Ideal.Value.flushed6] at B
  have B' : (dats m 0 c).arrAt 6 cfg0.N (((cfg0.win 6).blk t).view.emb (ix3 (0 : Fin 1) (⟨p.val % 256, Nat.mod_lt _ (by omega)⟩ : Fin 256) l))
    = out0_6 (iblk m c 0 t) (iblk m c 1 t) (iblk m c 2 t) (iblk m c 3 t) (ix3 (0 : Fin 1) (⟨p.val % 256, Nat.mod_lt _ (by omega)⟩ : Fin 256) l) := B
  rw [place6 t b _ h6] at B'
  have hp : (⟨256 * (p.val / 256) + p.val % 256, by omega⟩ : Fin 4096) = p := Fin.ext (by simp; omega)
  have F := (B'.trans (InBlock.out6 _ _ _ _ _ l)).trans (z_eq m c t b _ h0 h1 h2 h3 _ _)
  simp only [hp] at F
  exact F

/-- Array 7 after the run, at an index. -/
theorem result7 (b : Fin 8) (p : Fin 4096) (l : Fin 512) :
    ((dats m 0 c).arrAt 7 cfg0.N : FVec Ideal S8x4096x512 .f32) (ix3 b p l)
      = projection (x m c) (mods m c) (g m c) (w m c) b p ⟨768 + l, by omega⟩ := by
  obtain ⟨t, h0, h1, h2, h3, h4, h5, h6, h7, h8⟩ := point b ⟨p.val / 256, by omega⟩
  have B := congrFun (Cert.Kernel2Ideal.Value.blocks7 m c t (flush0_7 t)) (ix3 (0 : Fin 1) (⟨p.val % 256, Nat.mod_lt _ (by omega)⟩ : Fin 256) l)
  rw [Cert.Kernel2Ideal.Value.flushed7] at B
  have B' : (dats m 0 c).arrAt 7 cfg0.N (((cfg0.win 7).blk t).view.emb (ix3 (0 : Fin 1) (⟨p.val % 256, Nat.mod_lt _ (by omega)⟩ : Fin 256) l))
    = out0_7 (iblk m c 0 t) (iblk m c 1 t) (iblk m c 2 t) (iblk m c 3 t) (ix3 (0 : Fin 1) (⟨p.val % 256, Nat.mod_lt _ (by omega)⟩ : Fin 256) l) := B
  rw [place7 t b _ h7] at B'
  have hp : (⟨256 * (p.val / 256) + p.val % 256, by omega⟩ : Fin 4096) = p := Fin.ext (by simp; omega)
  have F := (B'.trans (InBlock.out7 _ _ _ _ _ l)).trans (z_eq m c t b _ h0 h1 h2 h3 _ _)
  simp only [hp] at F
  exact F

/-- Array 8 after the run, at an index. -/
theorem result8 (b : Fin 8) (p : Fin 4096) (l : Fin 3072) :
    ((dats m 0 c).arrAt 8 cfg0.N : FVec Ideal S8x4096x3072 .f32) (ix3 b p l)
      = projection (x m c) (mods m c) (g m c) (w m c) b p ⟨1280 + l, by omega⟩ := by
  obtain ⟨t, h0, h1, h2, h3, h4, h5, h6, h7, h8⟩ := point b ⟨p.val / 256, by omega⟩
  have B := congrFun (Cert.Kernel2Ideal.Value.blocks8 m c t (flush0_8 t)) (ix3 (0 : Fin 1) (⟨p.val % 256, Nat.mod_lt _ (by omega)⟩ : Fin 256) l)
  rw [Cert.Kernel2Ideal.Value.flushed8] at B
  have B' : (dats m 0 c).arrAt 8 cfg0.N (((cfg0.win 8).blk t).view.emb (ix3 (0 : Fin 1) (⟨p.val % 256, Nat.mod_lt _ (by omega)⟩ : Fin 256) l))
    = out0_8 (iblk m c 0 t) (iblk m c 1 t) (iblk m c 2 t) (iblk m c 3 t) (ix3 (0 : Fin 1) (⟨p.val % 256, Nat.mod_lt _ (by omega)⟩ : Fin 256) l) := B
  rw [place8 t b _ h8] at B'
  have hp : (⟨256 * (p.val / 256) + p.val % 256, by omega⟩ : Fin 4096) = p := Fin.ext (by simp; omega)
  have F := (B'.trans (InBlock.out8 _ _ _ _ _ l)).trans (z_eq m c t b _ h0 h1 h2 h3 _ _)
  simp only [hp] at F
  exact F

end Cert.Proof.InArray

end
-- ==== Proof.InRef.lean ====
/-
  The reference's five arrays are the projection of each row at each column: the modulated row first, then the product and
  its five slices.
-/
module

public import proofs.«01_k».proof.Proof.InArray
public import proofs.«01_k».proof.Proof.Gen.Reference2Ideal.Read

@[expose] public section

noncomputable section

open Idealize.ShloMosaic Cert.Reference2Ideal Cert.Reference2Ideal.Read

namespace Cert.Proof.InRef

variable (x : FVec Ideal ⟨3, ![8, 4096, 1024]⟩ .f32) (mods : FVec Ideal ⟨3, ![16, 1, 6144]⟩ .f32)
  (g : FVec Ideal ⟨1, ![1024]⟩ .f32) (w : FVec Ideal ⟨2, ![1024, 4352]⟩ .bf16)

/-- The first eight rows of the modulation. -/
theorem mods_apply (b : Fin 8) (k : Fin 6144) (i : S8x6144.Idx) (h0 : (i 0).val = b.val) (h1 : (i 1).val = k.val) :
    val_main_v1 (F := Ideal) mods i = mods (ix3 ⟨b.val, by omega⟩ 0 k) := by
  rw [val_main_v1_apply, val_main_v0_apply]
  have hb := b.isLt; have hk := k.isLt
  refine congrArg mods (funext fun a => Fin.ext ?_)
  match a with
  | ⟨0, _⟩ => show ((i 0).val * 6144 + (i 1).val) / 6144 = b.val; omega
  | ⟨1, _⟩ => rfl
  | ⟨2, _⟩ => show ((i 0).val * 6144 + (i 1).val) % 6144 = k.val; omega

/-- A row's reciprocal root of its mean square. -/
theorem root_apply (b : Fin 8) (p : Fin 4096) (i : S8x4096x1.Idx) (h0 : (i 0).val = b.val) (h1 : (i 1).val = p.val) :
    val_main_v15 (F := Ideal) x i = Norm.root (∑ j : Fin 1024, x (ix3 b p j) * x (ix3 b p j)) := by
  rw [val_main_v15_apply, val_main_v14_apply, val_main_v12_apply, val_main_v10_apply, val_main_v9_apply,
    val_main_v11_apply, val_main_v13_apply, val_main_cst_apply, val_main_cst_0_apply, val_main_cst_1_apply]
  rw [Ideal.hostUnary_rsqrt_def, Ideal.hostDivf_def, Ideal.addf_def]
  unfold Norm.root
  rw [← Norm.div_1024]
  have e : FloatOps.ofBits (F := Ideal) .f32 0x00000000#32
        + ∑ k : Fin 1024, val_main_v8 (F := Ideal) x (idx_main_v9 (idx_main_v10 i) k)
      = ∑ j : Fin 1024, x (ix3 b p j) * x (ix3 b p j) := by
    refine (congrArg (· + _) Ideal.ofBits_zero_f32).trans ((zero_add _).trans (Finset.sum_congr rfl fun k _ => ?_))
    have hx : idx_main_v9 (idx_main_v10 i) k = ix3 b p k := funext fun a => Fin.ext (by
      match a with
      | ⟨0, _⟩ => exact h0
      | ⟨1, _⟩ => exact h1
      | ⟨2, _⟩ => rfl)
    rw [val_main_v8_apply, hx]
    rfl
  rw [e]
  rfl

/-- The modulated row. -/
theorem row_apply (b : Fin 8) (p : Fin 4096) (k : Fin 1024) :
    val_main_v28 (F := Ideal) x mods g (ix3 b p k) = Norm.modulated (fun k => x (ix3 b p k)) (fun k => g (ix1 k))
      (fun k => mods (ix3 ⟨b.val, by omega⟩ 0 ⟨1024 + k, by omega⟩)) (fun k => mods (ix3 ⟨b.val, by omega⟩ 0 ⟨0 + k, by omega⟩)) k := by
  rw [val_main_v28_apply, val_main_v25_apply, val_main_v20_apply, val_main_v17_apply, val_main_v16_apply,
    root_apply x b p _ rfl rfl, val_main_v19_apply, val_main_v18_apply, val_main_v24_apply, val_main_v23_apply,
    val_main_v22_apply, val_main_cst_2_apply, val_main_v21_apply, val_main_v3_apply,
    mods_apply mods b ⟨1024 + k, by omega⟩ _ rfl rfl, val_main_v27_apply, val_main_v26_apply, val_main_v2_apply,
    mods_apply mods b ⟨0 + k, by omega⟩ _ rfl (by show k.val = 0 + k.val; omega)]
  have hg : idx_main_v18 (idx_main_v19 (ix3 b p k)) = ix1 k := funext fun a => Fin.ext (by
    match a with
    | ⟨0, _⟩ => rfl)
  rw [hg]
  rfl

/-- The product at column `j`. -/
theorem product_apply (b : Fin 8) (p : Fin 4096) (j : Fin 4352) (i : S8x4096x4352.Idx) (h0 : (i 0).val = b.val)
    (h1 : (i 1).val = p.val) (h2 : (i 2).val = j.val) :
    val_main_v30 (F := Ideal) x mods g w i = InArray.projection x mods g w b p j := by
  rw [val_main_v30_apply]
  refine Finset.sum_congr rfl fun k _ => ?_
  have hl : lidx_main_v30 i k = ix3 b p k := funext fun a => Fin.ext (by
    match a with
    | ⟨0, _⟩ => exact h0
    | ⟨1, _⟩ => exact h1
    | ⟨2, _⟩ => rfl)
  have hr : ridx_main_v30 i k = ix2 k j := funext fun a => Fin.ext (by
    match a with
    | ⟨0, _⟩ => rfl
    | ⟨1, _⟩ => exact h2)
  rw [hl, hr, row_apply, val_main_v29_apply]
  rfl

theorem result0 (b : Fin 8) (p : Fin 4096) (l : Fin 256) :
    val_main_v31 (F := Ideal) x mods g w (ix3 b p l) = InArray.projection x mods g w b p ⟨0 + l, by omega⟩ := by
  rw [val_main_v31_apply]
  exact product_apply x mods g w b p _ _ rfl rfl (by show l.val = 0 + l.val; omega)

theorem result1 (b : Fin 8) (p : Fin 4096) (l : Fin 256) :
    val_main_v32 (F := Ideal) x mods g w (ix3 b p l) = InArray.projection x mods g w b p ⟨256 + l, by omega⟩ := by
  rw [val_main_v32_apply]
  exact product_apply x mods g w b p _ _ rfl rfl rfl

theorem result2 (b : Fin 8) (p : Fin 4096) (l : Fin 256) :
    val_main_v33 (F := Ideal) x mods g w (ix3 b p l) = InArray.projection x mods g w b p ⟨512 + l, by omega⟩ := by
  rw [val_main_v33_apply]
  exact product_apply x mods g w b p _ _ rfl rfl rfl

theorem result3 (b : Fin 8) (p : Fin 4096) (l : Fin 512) :
    val_main_v34 (F := Ideal) x mods g w (ix3 b p l) = InArray.projection x mods g w b p ⟨768 + l, by omega⟩ := by
  rw [val_main_v34_apply]
  exact product_apply x mods g w b p _ _ rfl rfl rfl

theorem result4 (b : Fin 8) (p : Fin 4096) (l : Fin 3072) :
    val_main_v35 (F := Ideal) x mods g w (ix3 b p l) = InArray.projection x mods g w b p ⟨1280 + l, by omega⟩ := by
  rw [val_main_v35_apply]
  exact product_apply x mods g w b p _ _ rfl rfl rfl

end Cert.Proof.InRef

end
-- ==== Proof.Inproj.lean ====
/-
  The claims about the input projection: the reference's frame, and the equality of the five arrays.
-/
module

public import proofs.«01_k».proof.Defs
public import proofs.«01_k».proof.Proof.InRef
public import proofs.«01_k».proof.Proof.Gen.Reference2Ideal.Run
public import Idealize.ShloMosaic.Adequacy
public import Idealize.ShloMosaic.Init

@[expose] public section

noncomputable section

open Idealize.ShloMosaic Idealize.SL.Sem

namespace Cert.Proof.Inproj

/-- The reference runs, leaves its arguments, and ends quiescent. -/
theorem frame_reference : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- The kernel's five arrays and the reference's are equal, element by element. -/
theorem algebraic : Cert.algebraic_Kernel2Ideal_Reference2Ideal := by
  intro m ρ m' ρ' _ hagree
  refine ⟨_, _, _, _, _, Cert.Kernel2Ideal.Value.run_blocks (F := Ideal) m ρ, ?_⟩
  refine (θ_run Cert.Reference2Ideal.defs _ _).mono (fun _ h c => ⟨(h c).1.trans ?_, (h c).2.1.trans ?_,
    (h c).2.2.1.trans ?_, (h c).2.2.2.1.trans ?_, (h c).2.2.2.2.1.trans ?_, (h c).2.2.2.2.2⟩)
    (Cert.Reference2Ideal.Value.run (F := Ideal) m' ρ')
  all_goals obtain ⟨e0, e1, e2, e3⟩ := hagree c
  · rw [Cert.Reference2Ideal.Read.val_main_v31_eq, e0, e1, e2, e3]
    refine funext fun i => ?_
    rw [show i = ix3 (i 0) (i 1) (i 2) from (ix3_eta i).symm]
    exact (InRef.result0 _ _ _ _ (i 0) (i 1) (i 2)).trans (InArray.result4 m c (i 0) (i 1) (i 2)).symm
  · rw [Cert.Reference2Ideal.Read.val_main_v32_eq, e0, e1, e2, e3]
    refine funext fun i => ?_
    rw [show i = ix3 (i 0) (i 1) (i 2) from (ix3_eta i).symm]
    exact (InRef.result1 _ _ _ _ (i 0) (i 1) (i 2)).trans (InArray.result5 m c (i 0) (i 1) (i 2)).symm
  · rw [Cert.Reference2Ideal.Read.val_main_v33_eq, e0, e1, e2, e3]
    refine funext fun i => ?_
    rw [show i = ix3 (i 0) (i 1) (i 2) from (ix3_eta i).symm]
    exact (InRef.result2 _ _ _ _ (i 0) (i 1) (i 2)).trans (InArray.result6 m c (i 0) (i 1) (i 2)).symm
  · rw [Cert.Reference2Ideal.Read.val_main_v34_eq, e0, e1, e2, e3]
    refine funext fun i => ?_
    rw [show i = ix3 (i 0) (i 1) (i 2) from (ix3_eta i).symm]
    exact (InRef.result3 _ _ _ _ (i 0) (i 1) (i 2)).trans (InArray.result7 m c (i 0) (i 1) (i 2)).symm
  · rw [Cert.Reference2Ideal.Read.val_main_v35_eq, e0, e1, e2, e3]
    refine funext fun i => ?_
    rw [show i = ix3 (i 0) (i 1) (i 2) from (ix3_eta i).symm]
    exact (InRef.result4 _ _ _ _ (i 0) (i 1) (i 2)).trans (InArray.result8 m c (i 0) (i 1) (i 2)).symm

end Cert.Proof.Inproj

end
-- ==== Proof.MergeBlock.lean ====
/-
  One block of the merge: the three branches' products weighted by the logistic of their gates, the output product added to
  the residual, and that row normalized and modulated.
-/
module

public import proofs.«01_k».proof.Proof.Norm
public import proofs.«01_k».proof.Proof.Gen.Kernel3Ideal.Frame
public import Idealize.ShloMosaic.Lib.Pipeline.ValueKit

@[expose] public section

noncomputable section

open Idealize.ShloMosaic Idealize.ShloMosaic.TcCoe
open Cert.Kernel3Ideal Cert.Kernel3Ideal.Gen

namespace Cert.Proof.MergeBlock

/-- The gated sum of the three branches at column `k`: the gates' row `z`, the branches' rows `a`, `f`, `c` and weights. -/
def mix (z : Fin 3072 → EReal) (a : Fin 1024 → EReal) (f c : Fin 256 → EReal) (wa : Fin 1024 → Fin 1024 → EReal)
    (wf wc : Fin 256 → Fin 1024 → EReal) (k : Fin 1024) : EReal :=
  Ideal.logistic (z ⟨0 + k, by omega⟩) * (∑ i, a i * wa i k) + Ideal.logistic (z ⟨1024 + k, by omega⟩) * (∑ i, f i * wf i k)
    + Ideal.logistic (z ⟨2048 + k, by omega⟩) * (∑ i, c i * wc i k)

/-- The residual row plus the gated output product. -/
def residual (x gate u : Fin 1024 → EReal) (wo : Fin 1024 → Fin 1024 → EReal) (j : Fin 1024) : EReal :=
  x j + gate j * ∑ k, u k * wo k j

theorem mixed (v0 v3 : Vec Ideal S1x256x1024 .f32) (v6 : Vec Ideal S1024x1024 .bf16) (v9 : Vec Ideal S1x256x1024 .f32)
    (v12 : Vec Ideal S1x256x256 .f32) (v15 : Vec Ideal S256x1024 .bf16) (v19 : Vec Ideal S1x256x1024 .f32)
    (v22 : Vec Ideal S1x256x256 .f32) (v25 : Vec Ideal S256x1024 .bf16) (r : Fin 256) (k : Fin 1024) :
    k0_pay2 v0 v3 v6 v9 v12 v15 v19 v22 v25 (ix2 r k)
      = Ideal.logistic (v0 (ix3 0 r k)) * (∑ i : Fin 1024, v3 (ix3 0 r i) * v6 (ix2 i k))
        + Ideal.logistic (v9 (ix3 0 r k)) * (∑ i : Fin 256, v12 (ix3 0 r i) * v15 (ix2 i k))
        + Ideal.logistic (v19 (ix3 0 r k)) * (∑ i : Fin 256, v22 (ix3 0 r i) * v25 (ix2 i k)) := by
  pointwise [k0_pay2]

theorem residual_eq (u : FVec Ideal S256x1024 .bf16) (wo : Vec Ideal S1024x1024 .bf16) (x : Vec Ideal S1x256x1024 .f32)
    (gate : Vec Ideal S1x1x1024 .f32) (r : Fin 256) (j : Fin 1024) :
    k0_pay3 u wo x gate (ix2 r j) = residual (fun j => x (ix3 0 r j)) (fun j => gate (ix3 0 0 j)) (fun k => u (ix2 r k))
      (fun k j => wo (ix2 k j)) j := by
  unfold residual
  pointwise [k0_pay3]

theorem residual_block (u : FVec Ideal S256x1024 .bf16) (wo : Vec Ideal S1024x1024 .bf16) (x : Vec Ideal S1x256x1024 .f32)
    (gate : Vec Ideal S1x1x1024 .f32) (r : Fin 256) (j : Fin 1024) :
    k0_pay4 u wo x gate (ix3 0 r j) = k0_pay3 u wo x gate (ix2 r j) := by
  pointwise [k0_pay4]

theorem norm_block (v : FVec Ideal S256x1024 .f32) (r : Fin 256) (j : Fin 1024) :
    k0_pay1 v (ix3 0 r j) = v (ix2 r j) := by
  pointwise [k0_pay1]

theorem normed (u : FVec Ideal S256x1024 .bf16) (wo : Vec Ideal S1024x1024 .bf16) (x : Vec Ideal S1x256x1024 .f32)
    (gate : Vec Ideal S1x1x1024 .f32) (g : Vec Ideal S1x1024 .f32) (a s : Vec Ideal S1x1x1024 .f32) (r : Fin 256) (j : Fin 1024) :
    k0_pay5 u wo x gate g a s (ix2 r j) = Norm.modulated (fun k => k0_pay3 u wo x gate (ix2 r k)) (fun k => g (ix2 0 k))
      (fun k => a (ix3 0 0 k)) (fun k => s (ix3 0 0 k)) j := by
  unfold Norm.modulated Norm.root k0_pay5
  generalize k0_pay3 u wo x gate = q
  pointwise

/-- The lanes of the gates from `o` on. -/
theorem gates (o : ℕ) (x : Vec Ideal S1x256x3072 .f32) (ho : o + 1024 ≤ 3072) (inb) (r : Fin 256) (k : Fin 1024) :
    View.ld x (Rect.unit (s := S1x256x3072) ![0, 0, o] S1x256x1024.size inb) (ix3 0 r k) = x (ix3 0 r ⟨o + k, by omega⟩) :=
  View.ld_unit_apply_of x _ _ inb _ _ fun a => by
    fin_cases a <;> first | rfl | simp [ix3]

/-- The lanes of the modulation from `o` on. -/
theorem lanes (o : ℕ) (x : Vec Ideal S1x1x6144 .f32) (ho : o + 1024 ≤ 6144) (inb) (k : Fin 1024) :
    View.ld x (Rect.unit (s := S1x1x6144) ![0, 0, o] S1x1x1024.size inb) (ix3 0 0 k) = x (ix3 0 0 ⟨o + k, by omega⟩) :=
  View.ld_unit_apply_of x _ _ inb _ _ fun a => by
    fin_cases a <;> first | rfl | simp [ix3]

section
variable (x0 : Vec Ideal S1x256x1024 .f32) (x1 x2 : Vec Ideal S1x256x256 .f32) (x3 : Vec Ideal S1x256x3072 .f32)
  (x4 : Vec Ideal S1x256x1024 .f32) (x5 : Vec Ideal S1x1x6144 .f32) (x6 : Vec Ideal S1x1024 .f32)
  (x7 : Vec Ideal S1024x1024 .bf16) (x8 x9 : Vec Ideal S256x1024 .bf16) (x10 : Vec Ideal S1024x1024 .bf16)

/-- The block's row `r` of the gated sum. -/
def u (r : Fin 256) (k : Fin 1024) : EReal :=
  mix (fun l => x3 (ix3 0 r l)) (fun i => x0 (ix3 0 r i)) (fun i => x1 (ix3 0 r i)) (fun i => x2 (ix3 0 r i))
    (fun i k => x7 (ix2 i k)) (fun i k => x8 (ix2 i k)) (fun i k => x9 (ix2 i k)) k

/-- The block's row `r` after the output product. -/
def y (r : Fin 256) (j : Fin 1024) : EReal :=
  residual (fun j => x4 (ix3 0 r j)) (fun j => x5 (ix3 0 0 ⟨2048 + j, by omega⟩)) (u x0 x1 x2 x3 x7 x8 x9 r)
    (fun k j => x10 (ix2 k j)) j

/-- The block's row `r` normalized and modulated. -/
def n (r : Fin 256) (j : Fin 1024) : EReal :=
  Norm.modulated (y x0 x1 x2 x3 x4 x5 x7 x8 x9 x10 r) (fun k => x6 (ix2 0 k)) (fun k => x5 (ix3 0 0 ⟨4096 + k, by omega⟩))
    (fun k => x5 (ix3 0 0 ⟨3072 + k, by omega⟩)) j

theorem u_eq (r : Fin 256) (k : Fin 1024) :
    k0_pay6 x0 x1 x2 x3 x4 x5 x6 x7 x8 x9 x10 (ix2 r k) = u x0 x1 x2 x3 x7 x8 x9 r k := by
  unfold k0_pay6 u mix
  rw [mixed, View.ld_unit_lit inb_S1x256x1024_S1x256x1024_0_0_0 _ (by decide),
    View.ld_unit_lit inb_S1024x1024_S1024x1024_0_0 _ (by decide),
    View.ld_unit_lit inb_S1x256x256_S1x256x256_0_0_0 x1 (by decide), View.ld_unit_lit inb_S1x256x256_S1x256x256_0_0_0 x2 (by decide),
    View.ld_unit_lit inb_S256x1024_S256x1024_0_0 x8 (by decide), View.ld_unit_lit inb_S256x1024_S256x1024_0_0 x9 (by decide),
    gates 0 x3 (by omega), gates 1024 x3 (by omega), gates 2048 x3 (by omega)]

theorem y_eq (r : Fin 256) (j : Fin 1024) :
    k0_pay3 (k0_pay6 x0 x1 x2 x3 x4 x5 x6 x7 x8 x9 x10) (View.ld x10 r0_2) (View.ld x4 r0_1) (View.ld x5 r0_7) (ix2 r j)
      = y x0 x1 x2 x3 x4 x5 x7 x8 x9 x10 r j := by
  unfold y
  rw [residual_eq, View.ld_unit_lit inb_S1x256x1024_S1x256x1024_0_0_0 x4 (by decide),
    View.ld_unit_lit inb_S1024x1024_S1024x1024_0_0 x10 (by decide)]
  have e5 : (fun k : Fin 1024 => View.ld x5 r0_7 (ix3 0 0 k)) = fun k : Fin 1024 => x5 (ix3 0 0 ⟨2048 + k, by omega⟩) :=
    funext fun k => lanes 2048 x5 (by omega) _ k
  have eu : (fun k => k0_pay6 x0 x1 x2 x3 x4 x5 x6 x7 x8 x9 x10 (ix2 r k)) = u x0 x1 x2 x3 x7 x8 x9 r :=
    funext fun k => u_eq x0 x1 x2 x3 x4 x5 x6 x7 x8 x9 x10 r k
  rw [e5, eu]

theorem out11 (r : Fin 256) (j : Fin 1024) :
    out0_11 x0 x1 x2 x3 x4 x5 x6 x7 x8 x9 x10 (ix3 0 r j) = y x0 x1 x2 x3 x4 x5 x7 x8 x9 x10 r j := by
  unfold out0_11
  rw [View.canon_cons_unit_lit inb_S1x256x1024_S1x256x1024_0_0_0 _ _ (by decide)]
  exact (residual_block _ _ _ _ r j).trans (y_eq x0 x1 x2 x3 x4 x5 x6 x7 x8 x9 x10 r j)

theorem out12 (r : Fin 256) (j : Fin 1024) :
    out0_12 x0 x1 x2 x3 x4 x5 x6 x7 x8 x9 x10 (ix3 0 r j) = n x0 x1 x2 x3 x4 x5 x6 x7 x8 x9 x10 r j := by
  unfold out0_12
  rw [View.canon_cons_unit_lit inb_S1x256x1024_S1x256x1024_0_0_0 _ _ (by decide)]
  refine (norm_block _ r j).trans ((normed _ _ _ _ _ _ _ r j).trans ?_)
  unfold n
  rw [View.ld_unit_lit inb_S1x1024_S1x1024_0_0 x6 (by decide)]
  have e9 : (fun k : Fin 1024 => View.ld x5 r0_9 (ix3 0 0 k)) = fun k : Fin 1024 => x5 (ix3 0 0 ⟨4096 + k, by omega⟩) :=
    funext fun k => lanes 4096 x5 (by omega) _ k
  have e10 : (fun k : Fin 1024 => View.ld x5 r0_10 (ix3 0 0 k)) = fun k : Fin 1024 => x5 (ix3 0 0 ⟨3072 + k, by omega⟩) :=
    funext fun k => lanes 3072 x5 (by omega) _ k
  have ey : (fun k => k0_pay3 (k0_pay6 x0 x1 x2 x3 x4 x5 x6 x7 x8 x9 x10) (View.ld x10 r0_2) (View.ld x4 r0_1) (View.ld x5 r0_7) (ix2 r k))
      = y x0 x1 x2 x3 x4 x5 x7 x8 x9 x10 r :=
    funext fun k => y_eq x0 x1 x2 x3 x4 x5 x6 x7 x8 x9 x10 r k
  rw [e9, e10, ey]

end

end Cert.Proof.MergeBlock

end
-- ==== Proof.MergeArray.lean ====
/-
  The merge's two arrays: the grid's 128 points each leave one block of each, so every element is the residual of its row,
  and that row's modulated norm.
-/
module

public import proofs.«01_k».proof.Proof.MergeBlock
public import proofs.«01_k».proof.Proof.Gen.Kernel3Ideal.Value

@[expose] public section

set_option synthInstance.maxSize 4096
set_option synthInstance.maxHeartbeats 400000

noncomputable section

open Idealize.ShloMosaic Idealize.ShloMosaic.TcCoe
open Cert.Kernel3Ideal Cert.Kernel3Ideal.Gen

namespace Cert.Proof.MergeArray

section spec
variable (a : FVec Ideal ⟨3, ![8, 4096, 1024]⟩ .f32) (f c : FVec Ideal ⟨3, ![8, 4096, 256]⟩ .f32)
  (z : FVec Ideal ⟨3, ![8, 4096, 3072]⟩ .f32) (x : FVec Ideal ⟨3, ![8, 4096, 1024]⟩ .f32)
  (mods : FVec Ideal ⟨3, ![16, 1, 6144]⟩ .f32) (g : FVec Ideal ⟨1, ![1024]⟩ .f32)
  (wa : FVec Ideal ⟨2, ![1024, 1024]⟩ .bf16) (wf wc : FVec Ideal ⟨2, ![256, 1024]⟩ .bf16)
  (wo : FVec Ideal ⟨2, ![1024, 1024]⟩ .bf16) (b : Fin 8) (p : Fin 4096)

/-- Row `p` of batch `b` of the gated sum. -/
def mixed (k : Fin 1024) : EReal :=
  MergeBlock.mix (fun l => z (ix3 b p l)) (fun i => a (ix3 b p i)) (fun i => f (ix3 b p i)) (fun i => c (ix3 b p i))
    (fun i k => wa (ix2 i k)) (fun i k => wf (ix2 i k)) (fun i k => wc (ix2 i k)) k

/-- Row `p` of batch `b` after the output product. -/
def merged (j : Fin 1024) : EReal :=
  MergeBlock.residual (fun j => x (ix3 b p j)) (fun j => mods (ix3 ⟨b.val, by omega⟩ 0 ⟨2048 + j, by omega⟩))
    (mixed a f c z wa wf wc b p) (fun k j => wo (ix2 k j)) j

/-- Row `p` of batch `b` normalized and modulated. -/
def normed (j : Fin 1024) : EReal :=
  Norm.modulated (merged a f c z x mods wa wf wc wo b p) (fun k => g (ix1 k))
    (fun k => mods (ix3 ⟨b.val, by omega⟩ 0 ⟨4096 + k, by omega⟩)) (fun k => mods (ix3 ⟨b.val, by omega⟩ 0 ⟨3072 + k, by omega⟩)) j

end spec

/-- For batch `b` and row block `n` there is a grid point whose windows are that batch's blocks. -/
theorem point : ∀ (b : Fin 8) (n : Fin 16), ∃ t : Fin cfg0.N,
    (win0_0.index t (0 : Fin 3) = b.val ∧ win0_0.index t (1 : Fin 3) = n.val ∧ win0_0.index t (2 : Fin 3) = 0)
    ∧ (win0_1.index t (0 : Fin 3) = b.val ∧ win0_1.index t (1 : Fin 3) = n.val ∧ win0_1.index t (2 : Fin 3) = 0)
    ∧ (win0_2.index t (0 : Fin 3) = b.val ∧ win0_2.index t (1 : Fin 3) = n.val ∧ win0_2.index t (2 : Fin 3) = 0)
    ∧ (win0_3.index t (0 : Fin 3) = b.val ∧ win0_3.index t (1 : Fin 3) = n.val ∧ win0_3.index t (2 : Fin 3) = 0)
    ∧ (win0_4.index t (0 : Fin 3) = b.val ∧ win0_4.index t (1 : Fin 3) = n.val ∧ win0_4.index t (2 : Fin 3) = 0)
    ∧ (win0_5.index t (0 : Fin 3) = b.val ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 3) = b.val ∧ win0_11.index t (1 : Fin 3) = n.val ∧ win0_11.index t (2 : Fin 3) = 0)
    ∧ (win0_12.index t (0 : Fin 3) = b.val ∧ win0_12.index t (1 : Fin 3) = n.val ∧ win0_12.index t (2 : Fin 3) = 0) :=
  (by decide +kernel : ∀ (b : Fin 8) (n : Fin 16), ∃ t : Fin grid0.N, _)

variable (m : (ℓ : Loc nD τ sig) → Buf (Elt Ideal) ℓ) (c : Dev nD)

/-- The argument arrays. -/
abbrev a : FVec Ideal ⟨3, ![8, 4096, 1024]⟩ .f32 := m ((c : Thread nD τ).loc main_arg0)
abbrev f : FVec Ideal ⟨3, ![8, 4096, 256]⟩ .f32 := m ((c : Thread nD τ).loc main_arg1)
abbrev cv : FVec Ideal ⟨3, ![8, 4096, 256]⟩ .f32 := m ((c : Thread nD τ).loc main_arg2)
abbrev z : FVec Ideal ⟨3, ![8, 4096, 3072]⟩ .f32 := m ((c : Thread nD τ).loc main_arg3)
abbrev x : FVec Ideal ⟨3, ![8, 4096, 1024]⟩ .f32 := m ((c : Thread nD τ).loc main_arg4)
abbrev mods : FVec Ideal ⟨3, ![16, 1, 6144]⟩ .f32 := m ((c : Thread nD τ).loc main_arg5)
abbrev g : FVec Ideal ⟨1, ![1024]⟩ .f32 := m ((c : Thread nD τ).loc main_arg6)
abbrev wa : FVec Ideal ⟨2, ![1024, 1024]⟩ .bf16 := m ((c : Thread nD τ).loc main_arg7)
abbrev wf : FVec Ideal ⟨2, ![256, 1024]⟩ .bf16 := m ((c : Thread nD τ).loc main_arg8)
abbrev wc : FVec Ideal ⟨2, ![256, 1024]⟩ .bf16 := m ((c : Thread nD τ).loc main_arg9)
abbrev wo : FVec Ideal ⟨2, ![1024, 1024]⟩ .bf16 := m ((c : Thread nD τ).loc main_arg10)

/-- The gain as the region finds it: the argument as one row. -/
theorem gain (k : Fin 1024) : (V m c main_v0 : Vec Ideal S1x1024 .f32) (ix2 0 k) = g m c (ix1 k) := by
  have e : (V m c main_v0 : Vec Ideal S1x1024 .f32)
      = shapeCast S1x1024 (m ((c : Thread nD τ).loc main_arg6) : Vec Ideal S1024 .f32) shapeCasts_S1024_S1x1024 := by
    unfold V hostOps0
    after_results
    rfl
  rw [e]
  pointwise

section blocks
variable (t : Fin cfg0.N) (b : Fin 8) (n : Fin 16)

theorem block0 (h : win0_0.index t (0 : Fin 3) = b.val ∧ win0_0.index t (1 : Fin 3) = n.val ∧ win0_0.index t (2 : Fin 3) = 0)
    (r : Fin 256) (l : Fin 1024) :
    (iblk m c 0 t : Vec Ideal S1x256x1024 .f32) (ix3 0 r l) = a m c (ix3 b ⟨256 * n + r, by omega⟩ l) := by
  obtain ⟨h0, h1, h2⟩ := h
  show V m c main_arg0 (((cfg0.win 0).blk t).view.emb (ix3 (0 : Fin 1) r l)) = _
  rw [V_main_arg0]
  refine congrArg (a m c) (funext fun a => Fin.ext ?_)
  match a with
  | ⟨0, _⟩ => show win0_0.index t (0 : Fin 3) * 1 + 1 * 0 = b.val; omega
  | ⟨1, _⟩ => show win0_0.index t (1 : Fin 3) * 256 + 1 * r.val = 256 * n.val + r.val; omega
  | ⟨2, _⟩ => show win0_0.index t (2 : Fin 3) * 1024 + 1 * l.val = l.val; omega

theorem block1 (h : win0_1.index t (0 : Fin 3) = b.val ∧ win0_1.index t (1 : Fin 3) = n.val ∧ win0_1.index t (2 : Fin 3) = 0)
    (r : Fin 256) (l : Fin 256) :
    (iblk m c 1 t : Vec Ideal S1x256x256 .f32) (ix3 0 r l) = f m c (ix3 b ⟨256 * n + r, by omega⟩ l) := by
  obtain ⟨h0, h1, h2⟩ := h
  show V m c main_arg1 (((cfg0.win 1).blk t).view.emb (ix3 (0 : Fin 1) r l)) = _
  rw [V_main_arg1]
  refine congrArg (f m c) (funext fun a => Fin.ext ?_)
  match a with
  | ⟨0, _⟩ => show win0_1.index t (0 : Fin 3) * 1 + 1 * 0 = b.val; omega
  | ⟨1, _⟩ => show win0_1.index t (1 : Fin 3) * 256 + 1 * r.val = 256 * n.val + r.val; omega
  | ⟨2, _⟩ => show win0_1.index t (2 : Fin 3) * 256 + 1 * l.val = l.val; omega

theorem block2 (h : win0_2.index t (0 : Fin 3) = b.val ∧ win0_2.index t (1 : Fin 3) = n.val ∧ win0_2.index t (2 : Fin 3) = 0)
    (r : Fin 256) (l : Fin 256) :
    (iblk m c 2 t : Vec Ideal S1x256x256 .f32) (ix3 0 r l) = cv m c (ix3 b ⟨256 * n + r, by omega⟩ l) := by
  obtain ⟨h0, h1, h2⟩ := h
  show V m c main_arg2 (((cfg0.win 2).blk t).view.emb (ix3 (0 : Fin 1) r l)) = _
  rw [V_main_arg2]
  refine congrArg (cv m c) (funext fun a => Fin.ext ?_)
  match a with
  | ⟨0, _⟩ => show win0_2.index t (0 : Fin 3) * 1 + 1 * 0 = b.val; omega
  | ⟨1, _⟩ => show win0_2.index t (1 : Fin 3) * 256 + 1 * r.val = 256 * n.val + r.val; omega
  | ⟨2, _⟩ => show win0_2.index t (2 : Fin 3) * 256 + 1 * l.val = l.val; omega

theorem block3 (h : win0_3.index t (0 : Fin 3) = b.val ∧ win0_3.index t (1 : Fin 3) = n.val ∧ win0_3.index t (2 : Fin 3) = 0)
    (r : Fin 256) (l : Fin 3072) :
    (iblk m c 3 t : Vec Ideal S1x256x3072 .f32) (ix3 0 r l) = z m c (ix3 b ⟨256 * n + r, by omega⟩ l) := by
  obtain ⟨h0, h1, h2⟩ := h
  show V m c main_arg3 (((cfg0.win 3).blk t).view.emb (ix3 (0 : Fin 1) r l)) = _
  rw [V_main_arg3]
  refine congrArg (z m c) (funext fun a => Fin.ext ?_)
  match a with
  | ⟨0, _⟩ => show win0_3.index t (0 : Fin 3) * 1 + 1 * 0 = b.val; omega
  | ⟨1, _⟩ => show win0_3.index t (1 : Fin 3) * 256 + 1 * r.val = 256 * n.val + r.val; omega
  | ⟨2, _⟩ => show win0_3.index t (2 : Fin 3) * 3072 + 1 * l.val = l.val; omega

theorem block4 (h : win0_4.index t (0 : Fin 3) = b.val ∧ win0_4.index t (1 : Fin 3) = n.val ∧ win0_4.index t (2 : Fin 3) = 0)
    (r : Fin 256) (l : Fin 1024) :
    (iblk m c 4 t : Vec Ideal S1x256x1024 .f32) (ix3 0 r l) = x m c (ix3 b ⟨256 * n + r, by omega⟩ l) := by
  obtain ⟨h0, h1, h2⟩ := h
  show V m c main_arg4 (((cfg0.win 4).blk t).view.emb (ix3 (0 : Fin 1) r l)) = _
  rw [V_main_arg4]
  refine congrArg (x m c) (funext fun a => Fin.ext ?_)
  match a with
  | ⟨0, _⟩ => show win0_4.index t (0 : Fin 3) * 1 + 1 * 0 = b.val; omega
  | ⟨1, _⟩ => show win0_4.index t (1 : Fin 3) * 256 + 1 * r.val = 256 * n.val + r.val; omega
  | ⟨2, _⟩ => show win0_4.index t (2 : Fin 3) * 1024 + 1 * l.val = l.val; omega

theorem block5 (h : win0_5.index t (0 : Fin 3) = b.val ∧ win0_5.index t (1 : Fin 3) = 0 ∧ win0_5.index t (2 : Fin 3) = 0)
    (l : Fin 6144) :
    (iblk m c 5 t : Vec Ideal S1x1x6144 .f32) (ix3 0 0 l) = mods m c (ix3 ⟨b.val, by omega⟩ 0 l) := by
  obtain ⟨h0, h1, h2⟩ := h
  show V m c main_arg5 (((cfg0.win 5).blk t).view.emb (ix3 (0 : Fin 1) (0 : Fin 1) l)) = _
  rw [V_main_arg5]
  refine congrArg (mods m c) (funext fun a => Fin.ext ?_)
  match a with
  | ⟨0, _⟩ => show win0_5.index t (0 : Fin 3) * 1 + 1 * 0 = b.val; omega
  | ⟨1, _⟩ => show win0_5.index t (1 : Fin 3) * 1 + 1 * 0 = 0; omega
  | ⟨2, _⟩ => show win0_5.index t (2 : Fin 3) * 6144 + 1 * l.val = l.val; omega

theorem block6 (h : win0_6.index t (0 : Fin 2) = 0 ∧ win0_6.index t (1 : Fin 2) = 0) (l : Fin 1024) :
    (iblk m c 6 t : Vec Ideal S1x1024 .f32) (ix2 0 l) = g m c (ix1 l) := by
  obtain ⟨h0, h1⟩ := h
  refine Eq.trans ?_ (gain m c l)
  show V m c main_v0 (((cfg0.win 6).blk t).view.emb (ix2 (0 : Fin 1) l)) = _
  refine congrArg (V m c main_v0) (funext fun a => Fin.ext ?_)
  match a with
  | ⟨0, _⟩ => show win0_6.index t (0 : Fin 2) * 1 + 1 * 0 = 0; omega
  | ⟨1, _⟩ => show win0_6.index t (1 : Fin 2) * 1024 + 1 * l.val = l.val; omega

theorem block7 (h : win0_7.index t (0 : Fin 2) = 0 ∧ win0_7.index t (1 : Fin 2) = 0) (k : Fin 1024) (j : Fin 1024) :
    (iblk m c 7 t : Vec Ideal S1024x1024 .bf16) (ix2 k j) = wa m c (ix2 k j) := by
  obtain ⟨h0, h1⟩ := h
  show V m c main_arg7 (((cfg0.win 7).blk t).view.emb (ix2 k j)) = _
  rw [V_main_arg7]
  refine congrArg (wa m c) (funext fun a => Fin.ext ?_)
  match a with
  | ⟨0, _⟩ => show win0_7.index t (0 : Fin 2) * 1024 + 1 * k.val = k.val; omega
  | ⟨1, _⟩ => show win0_7.index t (1 : Fin 2) * 1024 + 1 * j.val = j.val; omega

theorem block8 (h : win0_8.index t (0 : Fin 2) = 0 ∧ win0_8.index t (1 : Fin 2) = 0) (k : Fin 256) (j : Fin 1024) :
    (iblk m c 8 t : Vec Ideal S256x1024 .bf16) (ix2 k j) = wf m c (ix2 k j) := by
  obtain ⟨h0, h1⟩ := h
  show V m c main_arg8 (((cfg0.win 8).blk t).view.emb (ix2 k j)) = _
  rw [V_main_arg8]
  refine congrArg (wf m c) (funext fun a => Fin.ext ?_)
  match a with
  | ⟨0, _⟩ => show win0_8.index t (0 : Fin 2) * 256 + 1 * k.val = k.val; omega
  | ⟨1, _⟩ => show win0_8.index t (1 : Fin 2) * 1024 + 1 * j.val = j.val; omega

theorem block9 (h : win0_9.index t (0 : Fin 2) = 0 ∧ win0_9.index t (1 : Fin 2) = 0) (k : Fin 256) (j : Fin 1024) :
    (iblk m c 9 t : Vec Ideal S256x1024 .bf16) (ix2 k j) = wc m c (ix2 k j) := by
  obtain ⟨h0, h1⟩ := h
  show V m c main_arg9 (((cfg0.win 9).blk t).view.emb (ix2 k j)) = _
  rw [V_main_arg9]
  refine congrArg (wc m c) (funext fun a => Fin.ext ?_)
  match a with
  | ⟨0, _⟩ => show win0_9.index t (0 : Fin 2) * 256 + 1 * k.val = k.val; omega
  | ⟨1, _⟩ => show win0_9.index t (1 : Fin 2) * 1024 + 1 * j.val = j.val; omega

theorem block10 (h : win0_10.index t (0 : Fin 2) = 0 ∧ win0_10.index t (1 : Fin 2) = 0) (k : Fin 1024) (j : Fin 1024) :
    (iblk m c 10 t : Vec Ideal S1024x1024 .bf16) (ix2 k j) = wo m c (ix2 k j) := by
  obtain ⟨h0, h1⟩ := h
  show V m c main_arg10 (((cfg0.win 10).blk t).view.emb (ix2 k j)) = _
  rw [V_main_arg10]
  refine congrArg (wo m c) (funext fun a => Fin.ext ?_)
  match a with
  | ⟨0, _⟩ => show win0_10.index t (0 : Fin 2) * 1024 + 1 * k.val = k.val; omega
  | ⟨1, _⟩ => show win0_10.index t (1 : Fin 2) * 1024 + 1 * j.val = j.val; omega

/-- The index of array 11 a point's block places `(0, r, l)` at. -/
theorem place11 (h : win0_11.index t (0 : Fin 3) = b.val ∧ win0_11.index t (1 : Fin 3) = n.val ∧ win0_11.index t (2 : Fin 3) = 0)
    (r : Fin 256) (l : Fin 1024) :
    ((cfg0.win 11).blk t).view.emb (ix3 (0 : Fin 1) r l) = (ix3 b (⟨256 * n + r, by omega⟩ : Fin 4096) l : S8x4096x1024.Idx) := by
  obtain ⟨h0, h1, h2⟩ := h
  refine funext fun a => Fin.ext ?_
  match a with
  | ⟨0, _⟩ => show win0_11.index t (0 : Fin 3) * 1 + 1 * 0 = b.val; omega
  | ⟨1, _⟩ => show win0_11.index t (1 : Fin 3) * 256 + 1 * r.val = 256 * n.val + r.val; omega
  | ⟨2, _⟩ => show win0_11.index t (2 : Fin 3) * 1024 + 1 * l.val = l.val; omega

/-- The index of array 12 a point's block places `(0, r, l)` at. -/
theorem place12 (h : win0_12.index t (0 : Fin 3) = b.val ∧ win0_12.index t (1 : Fin 3) = n.val ∧ win0_12.index t (2 : Fin 3) = 0)
    (r : Fin 256) (l : Fin 1024) :
    ((cfg0.win 12).blk t).view.emb (ix3 (0 : Fin 1) r l) = (ix3 b (⟨256 * n + r, by omega⟩ : Fin 4096) l : S8x4096x1024.Idx) := by
  obtain ⟨h0, h1, h2⟩ := h
  refine funext fun a => Fin.ext ?_
  match a with
  | ⟨0, _⟩ => show win0_12.index t (0 : Fin 3) * 1 + 1 * 0 = b.val; omega
  | ⟨1, _⟩ => show win0_12.index t (1 : Fin 3) * 256 + 1 * r.val = 256 * n.val + r.val; omega
  | ⟨2, _⟩ => show win0_12.index t (2 : Fin 3) * 1024 + 1 * l.val = l.val; omega

/-- At a point, a block's gated sum is that of the argument arrays. -/
theorem u_eq (h0 : win0_0.index t (0 : Fin 3) = b.val ∧ win0_0.index t (1 : Fin 3) = n.val ∧ win0_0.index t (2 : Fin 3) = 0)
    (h1 : win0_1.index t (0 : Fin 3) = b.val ∧ win0_1.index t (1 : Fin 3) = n.val ∧ win0_1.index t (2 : Fin 3) = 0)
    (h2 : win0_2.index t (0 : Fin 3) = b.val ∧ win0_2.index t (1 : Fin 3) = n.val ∧ win0_2.index t (2 : Fin 3) = 0)
    (h3 : win0_3.index t (0 : Fin 3) = b.val ∧ win0_3.index t (1 : Fin 3) = n.val ∧ win0_3.index t (2 : Fin 3) = 0)
    (h7 : win0_7.index t (0 : Fin 2) = 0 ∧ win0_7.index t (1 : Fin 2) = 0)
    (h8 : win0_8.index t (0 : Fin 2) = 0 ∧ win0_8.index t (1 : Fin 2) = 0)
    (h9 : win0_9.index t (0 : Fin 2) = 0 ∧ win0_9.index t (1 : Fin 2) = 0) (r : Fin 256) (k : Fin 1024) :
    MergeBlock.u (iblk m c 0 t) (iblk m c 1 t) (iblk m c 2 t) (iblk m c 3 t) (iblk m c 7 t) (iblk m c 8 t) (iblk m c 9 t) r k
      = mixed (a m c) (f m c) (cv m c) (z m c) (wa m c) (wf m c) (wc m c) b ⟨256 * n + r, by omega⟩ k := by
  unfold MergeBlock.u mixed
  have e0 := funext fun k => block0 m c t b n h0 r k
  have e1 := funext fun k => block1 m c t b n h1 r k
  have e2 := funext fun k => block2 m c t b n h2 r k
  have e3 := funext fun k => block3 m c t b n h3 r k
  have e7 := funext fun i => funext fun k => block7 m c t h7 i k
  have e8 := funext fun i => funext fun k => block8 m c t h8 i k
  have e9 := funext fun i => funext fun k => block9 m c t h9 i k
  exact congrFun (congr (congr (congr (congr (congr (congr (congrArg MergeBlock.mix e3) e0) e1) e2) e7) e8) e9) k

theorem y_eq (h0 : win0_0.index t (0 : Fin 3) = b.val ∧ win0_0.index t (1 : Fin 3) = n.val ∧ win0_0.index t (2 : Fin 3) = 0)
    (h1 : win0_1.index t (0 : Fin 3) = b.val ∧ win0_1.index t (1 : Fin 3) = n.val ∧ win0_1.index t (2 : Fin 3) = 0)
    (h2 : win0_2.index t (0 : Fin 3) = b.val ∧ win0_2.index t (1 : Fin 3) = n.val ∧ win0_2.index t (2 : Fin 3) = 0)
    (h3 : win0_3.index t (0 : Fin 3) = b.val ∧ win0_3.index t (1 : Fin 3) = n.val ∧ win0_3.index t (2 : Fin 3) = 0)
    (h4 : win0_4.index t (0 : Fin 3) = b.val ∧ win0_4.index t (1 : Fin 3) = n.val ∧ win0_4.index t (2 : Fin 3) = 0)
    (h5 : win0_5.index t (0 : Fin 3) = b.val ∧ win0_5.index t (1 : Fin 3) = 0 ∧ win0_5.index t (2 : Fin 3) = 0)
    (h7 : win0_7.index t (0 : Fin 2) = 0 ∧ win0_7.index t (1 : Fin 2) = 0)
    (h8 : win0_8.index t (0 : Fin 2) = 0 ∧ win0_8.index t (1 : Fin 2) = 0)
    (h9 : win0_9.index t (0 : Fin 2) = 0 ∧ win0_9.index t (1 : Fin 2) = 0)
    (h10 : win0_10.index t (0 : Fin 2) = 0 ∧ win0_10.index t (1 : Fin 2) = 0) (r : Fin 256) (j : Fin 1024) :
    MergeBlock.y (iblk m c 0 t) (iblk m c 1 t) (iblk m c 2 t) (iblk m c 3 t) (iblk m c 4 t) (iblk m c 5 t) (iblk m c 7 t) (iblk m c 8 t) (iblk m c 9 t) (iblk m c 10 t) r j
      = merged (a m c) (f m c) (cv m c) (z m c) (x m c) (mods m c) (wa m c) (wf m c) (wc m c) (wo m c) b ⟨256 * n + r, by omega⟩ j := by
  unfold MergeBlock.y merged
  have e4 := funext fun k => block4 m c t b n h4 r k
  have e5 := funext fun k : Fin 1024 => block5 m c t b h5 ⟨2048 + k, by omega⟩
  have eu := funext fun k => u_eq m c t b n h0 h1 h2 h3 h7 h8 h9 r k
  have e10 := funext fun i => funext fun k => block10 m c t h10 i k
  exact congrFun (congr (congr (congr (congrArg MergeBlock.residual e4) e5) eu) e10) j

theorem n_eq (h0 : win0_0.index t (0 : Fin 3) = b.val ∧ win0_0.index t (1 : Fin 3) = n.val ∧ win0_0.index t (2 : Fin 3) = 0)
    (h1 : win0_1.index t (0 : Fin 3) = b.val ∧ win0_1.index t (1 : Fin 3) = n.val ∧ win0_1.index t (2 : Fin 3) = 0)
    (h2 : win0_2.index t (0 : Fin 3) = b.val ∧ win0_2.index t (1 : Fin 3) = n.val ∧ win0_2.index t (2 : Fin 3) = 0)
    (h3 : win0_3.index t (0 : Fin 3) = b.val ∧ win0_3.index t (1 : Fin 3) = n.val ∧ win0_3.index t (2 : Fin 3) = 0)
    (h4 : win0_4.index t (0 : Fin 3) = b.val ∧ win0_4.index t (1 : Fin 3) = n.val ∧ win0_4.index t (2 : Fin 3) = 0)
    (h5 : win0_5.index t (0 : Fin 3) = b.val ∧ win0_5.index t (1 : Fin 3) = 0 ∧ win0_5.index t (2 : Fin 3) = 0)
    (h6 : win0_6.index t (0 : Fin 2) = 0 ∧ win0_6.index t (1 : Fin 2) = 0)
    (h7 : win0_7.index t (0 : Fin 2) = 0 ∧ win0_7.index t (1 : Fin 2) = 0)
    (h8 : win0_8.index t (0 : Fin 2) = 0 ∧ win0_8.index t (1 : Fin 2) = 0)
    (h9 : win0_9.index t (0 : Fin 2) = 0 ∧ win0_9.index t (1 : Fin 2) = 0)
    (h10 : win0_10.index t (0 : Fin 2) = 0 ∧ win0_10.index t (1 : Fin 2) = 0) (r : Fin 256) (j : Fin 1024) :
    MergeBlock.n (iblk m c 0 t) (iblk m c 1 t) (iblk m c 2 t) (iblk m c 3 t) (iblk m c 4 t) (iblk m c 5 t) (iblk m c 6 t) (iblk m c 7 t) (iblk m c 8 t) (iblk m c 9 t) (iblk m c 10 t) r j
      = normed (a m c) (f m c) (cv m c) (z m c) (x m c) (mods m c) (g m c) (wa m c) (wf m c) (wc m c) (wo m c) b ⟨256 * n + r, by omega⟩ j := by
  unfold MergeBlock.n normed
  have e6 := funext fun k => block6 m c t h6 k
  have e5 := fun o (ho : o + 1024 ≤ 6144) => funext fun k : Fin 1024 => block5 m c t b h5 ⟨o + k, by omega⟩
  have ey := funext fun k => y_eq m c t b n h0 h1 h2 h3 h4 h5 h7 h8 h9 h10 r k
  exact congrFun (congr (congr (congr (congrArg Norm.modulated ey) e6) (e5 4096 (by omega))) (e5 3072 (by omega))) j

end blocks

/-- Array 11 after the run, at an index. -/
theorem result11 (b : Fin 8) (p : Fin 4096) (l : Fin 1024) :
    ((dats m 0 c).arrAt 11 cfg0.N : FVec Ideal S8x4096x1024 .f32) (ix3 b p l)
      = merged (a m c) (f m c) (cv m c) (z m c) (x m c) (mods m c) (wa m c) (wf m c) (wc m c) (wo m c) b p l := by
  obtain ⟨t, h0, h1, h2, h3, h4, h5, h6, h7, h8, h9, h10, h11, h12⟩ := point b ⟨p.val / 256, by omega⟩
  have B := congrFun (Cert.Kernel3Ideal.Value.blocks11 m c t (flush0_11 t)) (ix3 (0 : Fin 1) (⟨p.val % 256, Nat.mod_lt _ (by omega)⟩ : Fin 256) l)
  rw [Cert.Kernel3Ideal.Value.flushed11] at B
  have B' : (dats m 0 c).arrAt 11 cfg0.N (((cfg0.win 11).blk t).view.emb (ix3 (0 : Fin 1) (⟨p.val % 256, Nat.mod_lt _ (by omega)⟩ : Fin 256) l))
    = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) (⟨p.val % 256, Nat.mod_lt _ (by omega)⟩ : Fin 256) l) := B
  rw [place11 t b _ h11] at B'
  have hp : (⟨256 * (p.val / 256) + p.val % 256, by omega⟩ : Fin 4096) = p := Fin.ext (by simp; omega)
  have F := (B'.trans (MergeBlock.out11 _ _ _ _ _ _ _ _ _ _ _ _ l)).trans (y_eq m c t b _ h0 h1 h2 h3 h4 h5 h7 h8 h9 h10 _ _)
  simp only [hp] at F
  exact F

/-- Array 12 after the run, at an index. -/
theorem result12 (b : Fin 8) (p : Fin 4096) (l : Fin 1024) :
    ((dats m 0 c).arrAt 12 cfg0.N : FVec Ideal S8x4096x1024 .f32) (ix3 b p l)
      = normed (a m c) (f m c) (cv m c) (z m c) (x m c) (mods m c) (g m c) (wa m c) (wf m c) (wc m c) (wo m c) b p l := by
  obtain ⟨t, h0, h1, h2, h3, h4, h5, h6, h7, h8, h9, h10, h11, h12⟩ := point b ⟨p.val / 256, by omega⟩
  have B := congrFun (Cert.Kernel3Ideal.Value.blocks12 m c t (flush0_12 t)) (ix3 (0 : Fin 1) (⟨p.val % 256, Nat.mod_lt _ (by omega)⟩ : Fin 256) l)
  rw [Cert.Kernel3Ideal.Value.flushed12] at B
  have B' : (dats m 0 c).arrAt 12 cfg0.N (((cfg0.win 12).blk t).view.emb (ix3 (0 : Fin 1) (⟨p.val % 256, Nat.mod_lt _ (by omega)⟩ : Fin 256) l))
    = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) (⟨p.val % 256, Nat.mod_lt _ (by omega)⟩ : Fin 256) l) := B
  rw [place12 t b _ h12] at B'
  have hp : (⟨256 * (p.val / 256) + p.val % 256, by omega⟩ : Fin 4096) = p := Fin.ext (by simp; omega)
  have F := (B'.trans (MergeBlock.out12 _ _ _ _ _ _ _ _ _ _ _ _ l)).trans (n_eq m c t b _ h0 h1 h2 h3 h4 h5 h6 h7 h8 h9 h10 _ _)
  simp only [hp] at F
  exact F

end Cert.Proof.MergeArray

end
-- ==== Proof.MergeRef.lean ====
/-
  The reference's two arrays are the merge's residual row and its modulated norm.
-/
module

public import proofs.«01_k».proof.Proof.MergeArray
public import proofs.«01_k».proof.Proof.Gen.Reference3Ideal.Read

@[expose] public section

noncomputable section

open Idealize.ShloMosaic Cert.Reference3Ideal Cert.Reference3Ideal.Read

namespace Cert.Proof.MergeRef

variable (a : FVec Ideal ⟨3, ![8, 4096, 1024]⟩ .f32) (f c : FVec Ideal ⟨3, ![8, 4096, 256]⟩ .f32)
  (z : FVec Ideal ⟨3, ![8, 4096, 3072]⟩ .f32) (x : FVec Ideal ⟨3, ![8, 4096, 1024]⟩ .f32)
  (mods : FVec Ideal ⟨3, ![16, 1, 6144]⟩ .f32) (g : FVec Ideal ⟨1, ![1024]⟩ .f32)
  (wa : FVec Ideal ⟨2, ![1024, 1024]⟩ .bf16) (wf wc : FVec Ideal ⟨2, ![256, 1024]⟩ .bf16)
  (wo : FVec Ideal ⟨2, ![1024, 1024]⟩ .bf16)

/-- The first eight rows of the modulation. -/
theorem mods_apply (b : Fin 8) (k : Fin 6144) (i : S8x6144.Idx) (h0 : (i 0).val = b.val) (h1 : (i 1).val = k.val) :
    val_main_v1 (F := Ideal) mods i = mods (ix3 ⟨b.val, by omega⟩ 0 k) := by
  rw [val_main_v1_apply, val_main_v0_apply]
  have hb := b.isLt; have hk := k.isLt
  refine congrArg mods (funext fun a => Fin.ext ?_)
  match a with
  | ⟨0, _⟩ => show ((i 0).val * 6144 + (i 1).val) / 6144 = b.val; omega
  | ⟨1, _⟩ => rfl
  | ⟨2, _⟩ => show ((i 0).val * 6144 + (i 1).val) % 6144 = k.val; omega

theorem one : FloatOps.ofBits (F := Ideal) .f32 0x3F800000#32 = (1 : EReal) := by
  simp [FloatOps.ofBits, Ideal.ofBits, Ideal.ieee]
  rw [← EReal.coe_mul]
  norm_num

/-- One over one plus the exponential of the negation is the logistic. -/
theorem logistic_apply (i : S8x4096x3072.Idx) : val_main_v13 (F := Ideal) z i = Ideal.logistic (z i) := by
  rw [val_main_v13_apply, val_main_v12_apply, val_main_cst_0_apply, val_main_v11_apply, val_main_v10_apply,
    val_main_cst_apply, val_main_v9_apply, val_main_v8_apply, one]
  rfl

/-- The gate `s` of three at row `p` and lane `k`. -/
theorem gate_apply (s : Fin 3) (b : Fin 8) (p : Fin 4096) (k : Fin 1024) (i : S8x4096x3x1024.Idx) (h0 : (i 0).val = b.val)
    (h1 : (i 1).val = p.val) (h2 : (i 2).val = s.val) (h3 : (i 3).val = k.val) :
    val_main_v14 (F := Ideal) z i = Ideal.logistic (z (ix3 b p ⟨1024 * s.val + k, by omega⟩)) := by
  rw [val_main_v14_apply, logistic_apply]
  have hb := b.isLt; have hp := p.isLt; have hs := s.isLt; have hk := k.isLt
  refine congrArg (fun i => Ideal.logistic (z i)) (funext fun a => Fin.ext ?_)
  match a with
  | ⟨0, _⟩ =>
    show ((((i 0).val * 4096 + (i 1).val) * 3 + (i 2).val) * 1024 + (i 3).val) / 12582912 = b.val
    rw [h0, h1, h2, h3]; omega
  | ⟨1, _⟩ =>
    show ((((i 0).val * 4096 + (i 1).val) * 3 + (i 2).val) * 1024 + (i 3).val) / 3072 % 4096 = p.val
    rw [h0, h1, h2, h3]; omega
  | ⟨2, _⟩ =>
    show ((((i 0).val * 4096 + (i 1).val) * 3 + (i 2).val) * 1024 + (i 3).val) % 3072 = 1024 * s.val + k.val
    rw [h0, h1, h2, h3]; omega

section
variable (b : Fin 8) (p : Fin 4096)

theorem batch (k : Fin 1024) : ((b.val * 4096 + p.val) * 1024 + k.val) / 4194304 = b.val := by
  have hb := b.isLt; have hp := p.isLt; have hk := k.isLt
  omega

theorem row (k : Fin 1024) : ((b.val * 4096 + p.val) * 1024 + k.val) / 1024 % 4096 = p.val := by
  have hb := b.isLt; have hp := p.isLt; have hk := k.isLt
  omega

theorem lane (k : Fin 1024) : ((b.val * 4096 + p.val) * 1024 + k.val) % 1024 = k.val := by
  have hb := b.isLt; have hp := p.isLt; have hk := k.isLt
  omega

theorem gate0 (k : Fin 1024) : val_main_v16 (F := Ideal) z (ix3 b p k) = Ideal.logistic (z (ix3 b p ⟨0 + k, by omega⟩)) := by
  rw [val_main_v16_apply, val_main_v15_apply]
  exact gate_apply z 0 b p k _ (batch b p k) (row b p k) rfl (lane b p k)

theorem gate1 (k : Fin 1024) : val_main_v21 (F := Ideal) z (ix3 b p k) = Ideal.logistic (z (ix3 b p ⟨1024 + k, by omega⟩)) := by
  rw [val_main_v21_apply, val_main_v20_apply]
  exact gate_apply z 1 b p k _ (batch b p k) (row b p k) rfl (lane b p k)

theorem gate2 (k : Fin 1024) : val_main_v27 (F := Ideal) z (ix3 b p k) = Ideal.logistic (z (ix3 b p ⟨2048 + k, by omega⟩)) := by
  rw [val_main_v27_apply, val_main_v26_apply]
  exact gate_apply z 2 b p k _ (batch b p k) (row b p k) rfl (lane b p k)

theorem product0 (k : Fin 1024) : val_main_v18 (F := Ideal) a wa (ix3 b p k) = ∑ i : Fin 1024, a (ix3 b p i) * wa (ix2 i k) := by
  rw [val_main_v18_apply]
  refine Finset.sum_congr rfl fun i _ => ?_
  have hl : lidx_main_v18 (ix3 b p k) i = ix3 b p i := funext fun a => Fin.ext (by
    match a with
    | ⟨0, _⟩ => rfl
    | ⟨1, _⟩ => rfl
    | ⟨2, _⟩ => rfl)
  have hr : ridx_main_v18 (ix3 b p k) i = ix2 i k := funext fun a => Fin.ext (by
    match a with
    | ⟨0, _⟩ => rfl
    | ⟨1, _⟩ => rfl)
  rw [hl, hr]
  rfl

theorem product1 (k : Fin 1024) : val_main_v23 (F := Ideal) f wf (ix3 b p k) = ∑ i : Fin 256, f (ix3 b p i) * wf (ix2 i k) := by
  rw [val_main_v23_apply]
  refine Finset.sum_congr rfl fun i _ => ?_
  have hl : lidx_main_v23 (ix3 b p k) i = ix3 b p i := funext fun a => Fin.ext (by
    match a with
    | ⟨0, _⟩ => rfl
    | ⟨1, _⟩ => rfl
    | ⟨2, _⟩ => rfl)
  have hr : ridx_main_v23 (ix3 b p k) i = ix2 i k := funext fun a => Fin.ext (by
    match a with
    | ⟨0, _⟩ => rfl
    | ⟨1, _⟩ => rfl)
  rw [hl, hr]
  rfl

theorem product2 (k : Fin 1024) : val_main_v29 (F := Ideal) c wc (ix3 b p k) = ∑ i : Fin 256, c (ix3 b p i) * wc (ix2 i k) := by
  rw [val_main_v29_apply]
  refine Finset.sum_congr rfl fun i _ => ?_
  have hl : lidx_main_v29 (ix3 b p k) i = ix3 b p i := funext fun a => Fin.ext (by
    match a with
    | ⟨0, _⟩ => rfl
    | ⟨1, _⟩ => rfl
    | ⟨2, _⟩ => rfl)
  have hr : ridx_main_v29 (ix3 b p k) i = ix2 i k := funext fun a => Fin.ext (by
    match a with
    | ⟨0, _⟩ => rfl
    | ⟨1, _⟩ => rfl)
  rw [hl, hr]
  rfl

/-- The gated sum. -/
theorem mixed_apply (k : Fin 1024) :
    val_main_v31 (F := Ideal) a f c z wa wf wc (ix3 b p k) = MergeArray.mixed a f c z wa wf wc b p k := by
  rw [val_main_v31_apply, val_main_v25_apply, val_main_v19_apply, val_main_v24_apply, val_main_v30_apply, gate0, gate1, gate2,
    product0, product1, product2]
  rfl

/-- The first result: the residual row. -/
theorem result0 (j : Fin 1024) :
    val_main_v37 (F := Ideal) a f c z x mods wa wf wc wo (ix3 b p j) = MergeArray.merged a f c z x mods wa wf wc wo b p j := by
  rw [val_main_v37_apply, val_main_v36_apply, val_main_v35_apply, val_main_v32_apply, val_main_v4_apply,
    mods_apply mods b ⟨2048 + j, by omega⟩ _ rfl rfl, val_main_v34_apply]
  have e : (∑ k : Fin 1024, val_main_v31 (F := Ideal) a f c z wa wf wc (lidx_main_v34 (ix3 b p j) k)
        * val_main_v33 (F := Ideal) wo (ridx_main_v34 (ix3 b p j) k))
      = ∑ k : Fin 1024, MergeArray.mixed a f c z wa wf wc b p k * wo (ix2 k j) := by
    refine Finset.sum_congr rfl fun k _ => ?_
    have hl : lidx_main_v34 (ix3 b p j) k = ix3 b p k := funext fun a => Fin.ext (by
      match a with
      | ⟨0, _⟩ => rfl
      | ⟨1, _⟩ => rfl
      | ⟨2, _⟩ => rfl)
    have hr : ridx_main_v34 (ix3 b p j) k = ix2 k j := funext fun a => Fin.ext (by
      match a with
      | ⟨0, _⟩ => rfl
      | ⟨1, _⟩ => rfl)
    rw [hl, hr, mixed_apply]
    rfl
  rw [e]
  rfl

/-- A row's reciprocal root of its mean square. -/
theorem root_apply (i : S8x4096x1.Idx) (h0 : (i 0).val = b.val) (h1 : (i 1).val = p.val) :
    val_main_v45 (F := Ideal) a f c z x mods wa wf wc wo i
      = Norm.root (∑ j : Fin 1024, MergeArray.merged a f c z x mods wa wf wc wo b p j * MergeArray.merged a f c z x mods wa wf wc wo b p j) := by
  rw [val_main_v45_apply, val_main_v44_apply, val_main_v42_apply, val_main_v40_apply, val_main_v39_apply,
    val_main_v41_apply, val_main_v43_apply, val_main_cst_1_apply, val_main_cst_2_apply, val_main_cst_3_apply]
  rw [Ideal.hostUnary_rsqrt_def, Ideal.hostDivf_def, Ideal.addf_def]
  unfold Norm.root
  rw [← Norm.div_1024]
  have e : FloatOps.ofBits (F := Ideal) .f32 0x00000000#32
        + ∑ k : Fin 1024, val_main_v38 (F := Ideal) a f c z x mods wa wf wc wo (idx_main_v39 (idx_main_v40 i) k)
      = ∑ j : Fin 1024, MergeArray.merged a f c z x mods wa wf wc wo b p j * MergeArray.merged a f c z x mods wa wf wc wo b p j := by
    refine (congrArg (· + _) Ideal.ofBits_zero_f32).trans ((zero_add _).trans (Finset.sum_congr rfl fun k _ => ?_))
    have hx : idx_main_v39 (idx_main_v40 i) k = ix3 b p k := funext fun a => Fin.ext (by
      match a with
      | ⟨0, _⟩ => exact h0
      | ⟨1, _⟩ => exact h1
      | ⟨2, _⟩ => rfl)
    rw [val_main_v38_apply, hx, result0]
    rfl
  rw [e]
  rfl

/-- The second result: the residual row normalized and modulated. -/
theorem result1 (j : Fin 1024) :
    val_main_v58 (F := Ideal) a f c z x mods g wa wf wc wo (ix3 b p j) = MergeArray.normed a f c z x mods g wa wf wc wo b p j := by
  rw [val_main_v58_apply, val_main_v55_apply, val_main_v50_apply, val_main_v47_apply, val_main_v46_apply, result0,
    root_apply a f c z x mods wa wf wc wo b p _ rfl rfl, val_main_v49_apply, val_main_v48_apply, val_main_v54_apply,
    val_main_v53_apply, val_main_v52_apply, val_main_cst_4_apply, val_main_v51_apply, val_main_v6_apply,
    mods_apply mods b ⟨4096 + j, by omega⟩ _ rfl rfl, val_main_v57_apply, val_main_v56_apply, val_main_v5_apply,
    mods_apply mods b ⟨3072 + j, by omega⟩ _ rfl rfl]
  have hg : idx_main_v48 (idx_main_v49 (ix3 b p j)) = ix1 j := funext fun a => Fin.ext (by
    match a with
    | ⟨0, _⟩ => rfl)
  rw [hg]
  rfl

end

end Cert.Proof.MergeRef

end
-- ==== Proof.Merge.lean ====
/-
  The claims about the merge: the reference's frame, and the equality of the two arrays.
-/
module

public import proofs.«01_k».proof.Defs
public import proofs.«01_k».proof.Proof.MergeRef
public import proofs.«01_k».proof.Proof.Gen.Reference3Ideal.Run
public import Idealize.ShloMosaic.Adequacy
public import Idealize.ShloMosaic.Init

@[expose] public section

noncomputable section

open Idealize.ShloMosaic Idealize.SL.Sem

namespace Cert.Proof.Merge

/-- The reference runs, leaves its arguments, and ends quiescent. -/
theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The kernel's two arrays and the reference's are equal, element by element. -/
theorem algebraic : Cert.algebraic_Kernel3Ideal_Reference3Ideal := by
  intro m ρ m' ρ' _ hagree
  refine ⟨_, _, Cert.Kernel3Ideal.Value.run_blocks (F := Ideal) m ρ, ?_⟩
  refine (θ_run Cert.Reference3Ideal.defs _ _).mono (fun _ h c => ⟨(h c).1.trans ?_, (h c).2.1.trans ?_, (h c).2.2⟩)
    (Cert.Reference3Ideal.Value.run (F := Ideal) m' ρ')
  all_goals obtain ⟨e0, e1, e2, e3, e4, e5, e6, e7, e8, e9, e10⟩ := hagree c
  · rw [Cert.Reference3Ideal.Read.val_main_v37_eq, e0, e1, e2, e3, e4, e5, e7, e8, e9, e10]
    refine funext fun i => ?_
    rw [show i = ix3 (i 0) (i 1) (i 2) from (ix3_eta i).symm]
    exact (MergeRef.result0 _ _ _ _ _ _ _ _ _ _ (i 0) (i 1) (i 2)).trans (MergeArray.result11 m c (i 0) (i 1) (i 2)).symm
  · rw [Cert.Reference3Ideal.Read.val_main_v58_eq, e0, e1, e2, e3, e4, e5, e6, e7, e8, e9, e10]
    refine funext fun i => ?_
    rw [show i = ix3 (i 0) (i 1) (i 2) from (ix3_eta i).symm]
    exact (MergeRef.result1 _ _ _ _ _ _ _ _ _ _ _ (i 0) (i 1) (i 2)).trans (MergeArray.result12 m c (i 0) (i 1) (i 2)).symm

end Cert.Proof.Merge

end
-- ==== Proof.Top.lean ====
/-
  The steps of the selection of sixteen out of a column, and of the sixteen best pairs, as functions of the scores.
-/
module

public import proofs.«01_k».proof.Proof.Gen.Kernel4Ideal.Skeleton
public import Idealize.ShloMosaic.Lib.Pointwise

@[expose] public section

noncomputable section

open Idealize.ShloMosaic Idealize.ShloMosaic.TcCoe
open Cert.Kernel4Ideal Cert.Kernel4Ideal.Gen

namespace Cert.Proof.Top

namespace Rows

/-- The row number of every entry. -/
def key : IVec S128x128 32 := iota .tc S128x128 32 [0] iota_S128x128_d0_w32

/-- The largest entry of each column. -/
def rm (s : FVec Ideal S128x128 .f32) : FVec Ideal S128 .f32 :=
  multiReduction .maximumf [0] S128 s 0xFF800000#32 reduces_S128x128_S128 (.inl rfl) rfl

/-- … as a row. -/
def mx (s : FVec Ideal S128x128 .f32) : FVec Ideal S1x128 .f32 := shapeCast S1x128 (rm s) shapeCasts_S128_S1x128

/-- … in every row. -/
def bx (s : FVec Ideal S128x128 .f32) : FVec Ideal S128x128 .f32 := broadcastTo S128x128 (mx s) broadcasts_S1x128_S128x128

/-- Which entries are the largest of their column. -/
def gt (s : FVec Ideal S128x128 .f32) : IVec S128x128 1 := cmpf .oeq s (bx s)

/-- Their keys, and a large number elsewhere. -/
def sl (s : FVec Ideal S128x128 .f32) : IVec S128x128 32 := select (gt s) key (broadcast S128x128 1073741824#32)

/-- The least key among the largest entries of each column. -/
def rn (s : FVec Ideal S128x128 .f32) : IVec S128 32 :=
  multiReductionI .minsi [0] S128 (sl s) 2147483647#32 reduces_S128x128_S128 rfl

/-- … as a row. -/
def ix (s : FVec Ideal S128x128 .f32) : IVec S1x128 32 := shapeCast S1x128 (rn s) shapeCasts_S128_S1x128

/-- … in every row. -/
def bi (s : FVec Ideal S128x128 .f32) : IVec S128x128 32 := broadcastTo S128x128 (ix s) broadcasts_S1x128_S128x128

/-- Which entries carry that key. -/
def em (s : FVec Ideal S128x128 .f32) : IVec S128x128 1 := cmpi .eq key (bi s)

/-- The entries with those taken out. -/
def nx (s : FVec Ideal S128x128 .f32) : FVec Ideal S128x128 .f32 :=
  select (em s) (broadcast S128x128 (Scalar.ofBits (F := Ideal) .f32 0xFF800000#32)) s

/-- The entries after `n` rounds. -/
def st (s : FVec Ideal S128x128 .f32) : ℕ → FVec Ideal S128x128 .f32
  | 0 => s
  | n + 1 => nx (st s n)

/-- The sixteen values taken, in order. -/
def tv (s : FVec Ideal S128x128 .f32) : FVec Ideal S16x128 .f32 :=
  concatenate S16x128 0 [⟨S1x128, mx (st s 0)⟩, ⟨S1x128, mx (st s 1)⟩, ⟨S1x128, mx (st s 2)⟩, ⟨S1x128, mx (st s 3)⟩, ⟨S1x128, mx (st s 4)⟩, ⟨S1x128, mx (st s 5)⟩, ⟨S1x128, mx (st s 6)⟩, ⟨S1x128, mx (st s 7)⟩, ⟨S1x128, mx (st s 8)⟩, ⟨S1x128, mx (st s 9)⟩, ⟨S1x128, mx (st s 10)⟩, ⟨S1x128, mx (st s 11)⟩, ⟨S1x128, mx (st s 12)⟩, ⟨S1x128, mx (st s 13)⟩, ⟨S1x128, mx (st s 14)⟩, ⟨S1x128, mx (st s 15)⟩] concatenates_S1x128_S1x128_S1x128_S1x128_S1x128_S1x128_S1x128_S1x128_S1x128_S1x128_S1x128_S1x128_S1x128_S1x128_S1x128_S1x128_S16x128_d0

/-- Their keys, in order. -/
def ti (s : FVec Ideal S128x128 .f32) : IVec S16x128 32 :=
  concatenate S16x128 0 [⟨S1x128, ix (st s 0)⟩, ⟨S1x128, ix (st s 1)⟩, ⟨S1x128, ix (st s 2)⟩, ⟨S1x128, ix (st s 3)⟩, ⟨S1x128, ix (st s 4)⟩, ⟨S1x128, ix (st s 5)⟩, ⟨S1x128, ix (st s 6)⟩, ⟨S1x128, ix (st s 7)⟩, ⟨S1x128, ix (st s 8)⟩, ⟨S1x128, ix (st s 9)⟩, ⟨S1x128, ix (st s 10)⟩, ⟨S1x128, ix (st s 11)⟩, ⟨S1x128, ix (st s 12)⟩, ⟨S1x128, ix (st s 13)⟩, ⟨S1x128, ix (st s 14)⟩, ⟨S1x128, ix (st s 15)⟩] concatenates_S1x128_S1x128_S1x128_S1x128_S1x128_S1x128_S1x128_S1x128_S1x128_S1x128_S1x128_S1x128_S1x128_S1x128_S1x128_S1x128_S16x128_d0

end Rows

/-- The row number of every entry of a sixteen-row array. -/
def rank : IVec S16x128 32 := iota .tc S16x128 32 [0] iota_S16x128_d0_w32

/-- Candidate values whose first rank is 0. -/
def cs0 (x y : FVec Ideal S16x128 .f32) : FVec Ideal S16x128 .f32 :=
  select (cmpi .slt rank (broadcast S16x128 16#32)) (addf (broadcastTo S16x128 (extractStridedSlice S1x128 ![0, 0] x slices_S16x128_o0_0_S1x128) broadcasts_S1x128_S16x128) y) (broadcast S16x128 (Scalar.ofBits (F := Ideal) .f32 0xFF800000#32))

/-- Their keys. -/
def ck0 : IVec S16x128 32 := addi (broadcast S16x128 0#32) rank

/-- Their expert numbers. -/
def ci0 (x y : IVec S16x128 32) : IVec S16x128 32 :=
  addi (broadcastTo S16x128 (muli (extractStridedSlice S1x128 ![0, 0] x slices_S16x128_o0_0_S1x128) (broadcast S1x128 128#32)) broadcasts_S1x128_S16x128) y

/-- Candidate values whose first rank is 1. -/
def cs1 (x y : FVec Ideal S16x128 .f32) : FVec Ideal S16x128 .f32 :=
  select (cmpi .slt rank (broadcast S16x128 8#32)) (addf (broadcastTo S16x128 (extractStridedSlice S1x128 ![1, 0] x slices_S16x128_o1_0_S1x128) broadcasts_S1x128_S16x128) y) (broadcast S16x128 (Scalar.ofBits (F := Ideal) .f32 0xFF800000#32))

/-- Their keys. -/
def ck1 : IVec S16x128 32 := addi (broadcast S16x128 16#32) rank

/-- Their expert numbers. -/
def ci1 (x y : IVec S16x128 32) : IVec S16x128 32 :=
  addi (broadcastTo S16x128 (muli (extractStridedSlice S1x128 ![1, 0] x slices_S16x128_o1_0_S1x128) (broadcast S1x128 128#32)) broadcasts_S1x128_S16x128) y

/-- Candidate values whose first rank is 2. -/
def cs2 (x y : FVec Ideal S16x128 .f32) : FVec Ideal S16x128 .f32 :=
  select (cmpi .slt rank (broadcast S16x128 5#32)) (addf (broadcastTo S16x128 (extractStridedSlice S1x128 ![2, 0] x slices_S16x128_o2_0_S1x128) broadcasts_S1x128_S16x128) y) (broadcast S16x128 (Scalar.ofBits (F := Ideal) .f32 0xFF800000#32))

/-- Their keys. -/
def ck2 : IVec S16x128 32 := addi (broadcast S16x128 32#32) rank

/-- Their expert numbers. -/
def ci2 (x y : IVec S16x128 32) : IVec S16x128 32 :=
  addi (broadcastTo S16x128 (muli (extractStridedSlice S1x128 ![2, 0] x slices_S16x128_o2_0_S1x128) (broadcast S1x128 128#32)) broadcasts_S1x128_S16x128) y

/-- Candidate values whose first rank is 3. -/
def cs3 (x y : FVec Ideal S16x128 .f32) : FVec Ideal S16x128 .f32 :=
  select (cmpi .slt rank (broadcast S16x128 4#32)) (addf (broadcastTo S16x128 (extractStridedSlice S1x128 ![3, 0] x slices_S16x128_o3_0_S1x128) broadcasts_S1x128_S16x128) y) (broadcast S16x128 (Scalar.ofBits (F := Ideal) .f32 0xFF800000#32))

/-- Their keys. -/
def ck3 : IVec S16x128 32 := addi (broadcast S16x128 48#32) rank

/-- Their expert numbers. -/
def ci3 (x y : IVec S16x128 32) : IVec S16x128 32 :=
  addi (broadcastTo S16x128 (muli (extractStridedSlice S1x128 ![3, 0] x slices_S16x128_o3_0_S1x128) (broadcast S1x128 128#32)) broadcasts_S1x128_S16x128) y

/-- Candidate values whose second rank is 0 and whose first rank is at least four. -/
def cs4 (x y : FVec Ideal S16x128 .f32) : FVec Ideal S16x128 .f32 :=
  select (cmpi .slt (select (cmpi .sge rank (broadcast S16x128 4#32)) rank (broadcast S16x128 16#32)) (broadcast S16x128 16#32)) (addf x (broadcastTo S16x128 (extractStridedSlice S1x128 ![0, 0] y slices_S16x128_o0_0_S1x128) broadcasts_S1x128_S16x128)) (broadcast S16x128 (Scalar.ofBits (F := Ideal) .f32 0xFF800000#32))

/-- Their keys. -/
def ck4 : IVec S16x128 32 := addi (muli rank (broadcast S16x128 16#32)) (broadcast S16x128 0#32)

/-- Their expert numbers. -/
def ci4 (x y : IVec S16x128 32) : IVec S16x128 32 :=
  addi (muli x (broadcast S16x128 128#32)) (broadcastTo S16x128 (extractStridedSlice S1x128 ![0, 0] y slices_S16x128_o0_0_S1x128) broadcasts_S1x128_S16x128)

/-- Candidate values whose second rank is 1 and whose first rank is at least four. -/
def cs5 (x y : FVec Ideal S16x128 .f32) : FVec Ideal S16x128 .f32 :=
  select (cmpi .slt (select (cmpi .sge rank (broadcast S16x128 4#32)) rank (broadcast S16x128 16#32)) (broadcast S16x128 8#32)) (addf x (broadcastTo S16x128 (extractStridedSlice S1x128 ![1, 0] y slices_S16x128_o1_0_S1x128) broadcasts_S1x128_S16x128)) (broadcast S16x128 (Scalar.ofBits (F := Ideal) .f32 0xFF800000#32))

/-- Their keys. -/
def ck5 : IVec S16x128 32 := addi (muli rank (broadcast S16x128 16#32)) (broadcast S16x128 1#32)

/-- Their expert numbers. -/
def ci5 (x y : IVec S16x128 32) : IVec S16x128 32 :=
  addi (muli x (broadcast S16x128 128#32)) (broadcastTo S16x128 (extractStridedSlice S1x128 ![1, 0] y slices_S16x128_o1_0_S1x128) broadcasts_S1x128_S16x128)

/-- Candidate values whose second rank is 2 and whose first rank is at least four. -/
def cs6 (x y : FVec Ideal S16x128 .f32) : FVec Ideal S16x128 .f32 :=
  select (cmpi .slt (select (cmpi .sge rank (broadcast S16x128 4#32)) rank (broadcast S16x128 16#32)) (broadcast S16x128 5#32)) (addf x (broadcastTo S16x128 (extractStridedSlice S1x128 ![2, 0] y slices_S16x128_o2_0_S1x128) broadcasts_S1x128_S16x128)) (broadcast S16x128 (Scalar.ofBits (F := Ideal) .f32 0xFF800000#32))

/-- Their keys. -/
def ck6 : IVec S16x128 32 := addi (muli rank (broadcast S16x128 16#32)) (broadcast S16x128 2#32)

/-- Their expert numbers. -/
def ci6 (x y : IVec S16x128 32) : IVec S16x128 32 :=
  addi (muli x (broadcast S16x128 128#32)) (broadcastTo S16x128 (extractStridedSlice S1x128 ![2, 0] y slices_S16x128_o2_0_S1x128) broadcasts_S1x128_S16x128)

namespace Cand

/-- The key of every candidate: sixteen times its first rank plus its second. -/
def key : IVec S112x128 32 := concatenate S112x128 0 [⟨S16x128, ck0⟩, ⟨S16x128, ck1⟩, ⟨S16x128, ck2⟩, ⟨S16x128, ck3⟩, ⟨S16x128, ck4⟩, ⟨S16x128, ck5⟩, ⟨S16x128, ck6⟩] concatenates_S16x128_S16x128_S16x128_S16x128_S16x128_S16x128_S16x128_S112x128_d0

/-- The largest entry of each column. -/
def rm (s : FVec Ideal S112x128 .f32) : FVec Ideal S128 .f32 :=
  multiReduction .maximumf [0] S128 s 0xFF800000#32 reduces_S112x128_S128 (.inl rfl) rfl

/-- … as a row. -/
def mx (s : FVec Ideal S112x128 .f32) : FVec Ideal S1x128 .f32 := shapeCast S1x128 (rm s) shapeCasts_S128_S1x128

/-- … in every row. -/
def bx (s : FVec Ideal S112x128 .f32) : FVec Ideal S112x128 .f32 := broadcastTo S112x128 (mx s) broadcasts_S1x128_S112x128

/-- Which entries are the largest of their column. -/
def gt (s : FVec Ideal S112x128 .f32) : IVec S112x128 1 := cmpf .oeq s (bx s)

/-- Their keys, and a large number elsewhere. -/
def sl (s : FVec Ideal S112x128 .f32) : IVec S112x128 32 := select (gt s) key (broadcast S112x128 1073741824#32)

/-- The least key among the largest entries of each column. -/
def rn (s : FVec Ideal S112x128 .f32) : IVec S128 32 :=
  multiReductionI .minsi [0] S128 (sl s) 2147483647#32 reduces_S112x128_S128 rfl

/-- … as a row. -/
def ix (s : FVec Ideal S112x128 .f32) : IVec S1x128 32 := shapeCast S1x128 (rn s) shapeCasts_S128_S1x128

/-- … in every row. -/
def bi (s : FVec Ideal S112x128 .f32) : IVec S112x128 32 := broadcastTo S112x128 (ix s) broadcasts_S1x128_S112x128

/-- Which entries carry that key. -/
def em (s : FVec Ideal S112x128 .f32) : IVec S112x128 1 := cmpi .eq key (bi s)

/-- The entries with those taken out. -/
def nx (s : FVec Ideal S112x128 .f32) : FVec Ideal S112x128 .f32 :=
  select (em s) (broadcast S112x128 (Scalar.ofBits (F := Ideal) .f32 0xFF800000#32)) s

/-- The entries after `n` rounds. -/
def st (s : FVec Ideal S112x128 .f32) : ℕ → FVec Ideal S112x128 .f32
  | 0 => s
  | n + 1 => nx (st s n)

/-- The sixteen values taken, in order. -/
def tv (s : FVec Ideal S112x128 .f32) : FVec Ideal S16x128 .f32 :=
  concatenate S16x128 0 [⟨S1x128, mx (st s 0)⟩, ⟨S1x128, mx (st s 1)⟩, ⟨S1x128, mx (st s 2)⟩, ⟨S1x128, mx (st s 3)⟩, ⟨S1x128, mx (st s 4)⟩, ⟨S1x128, mx (st s 5)⟩, ⟨S1x128, mx (st s 6)⟩, ⟨S1x128, mx (st s 7)⟩, ⟨S1x128, mx (st s 8)⟩, ⟨S1x128, mx (st s 9)⟩, ⟨S1x128, mx (st s 10)⟩, ⟨S1x128, mx (st s 11)⟩, ⟨S1x128, mx (st s 12)⟩, ⟨S1x128, mx (st s 13)⟩, ⟨S1x128, mx (st s 14)⟩, ⟨S1x128, mx (st s 15)⟩] concatenates_S1x128_S1x128_S1x128_S1x128_S1x128_S1x128_S1x128_S1x128_S1x128_S1x128_S1x128_S1x128_S1x128_S1x128_S1x128_S1x128_S16x128_d0

/-- Their keys, in order. -/
def ti (s : FVec Ideal S112x128 .f32) : IVec S16x128 32 :=
  concatenate S16x128 0 [⟨S1x128, ix (st s 0)⟩, ⟨S1x128, ix (st s 1)⟩, ⟨S1x128, ix (st s 2)⟩, ⟨S1x128, ix (st s 3)⟩, ⟨S1x128, ix (st s 4)⟩, ⟨S1x128, ix (st s 5)⟩, ⟨S1x128, ix (st s 6)⟩, ⟨S1x128, ix (st s 7)⟩, ⟨S1x128, ix (st s 8)⟩, ⟨S1x128, ix (st s 9)⟩, ⟨S1x128, ix (st s 10)⟩, ⟨S1x128, ix (st s 11)⟩, ⟨S1x128, ix (st s 12)⟩, ⟨S1x128, ix (st s 13)⟩, ⟨S1x128, ix (st s 14)⟩, ⟨S1x128, ix (st s 15)⟩] concatenates_S1x128_S1x128_S1x128_S1x128_S1x128_S1x128_S1x128_S1x128_S1x128_S1x128_S1x128_S1x128_S1x128_S1x128_S1x128_S1x128_S16x128_d0

end Cand

/-- The candidates' keys. -/
def flat : IVec S112x128 32 := Cand.key

/-- The candidates' values. -/
def cand (s1 s2 : FVec Ideal S128x128 .f32) : FVec Ideal S112x128 .f32 :=
  concatenate S112x128 0 [⟨S16x128, cs0 (Rows.tv s1) (Rows.tv s2)⟩, ⟨S16x128, cs1 (Rows.tv s1) (Rows.tv s2)⟩, ⟨S16x128, cs2 (Rows.tv s1) (Rows.tv s2)⟩, ⟨S16x128, cs3 (Rows.tv s1) (Rows.tv s2)⟩, ⟨S16x128, cs4 (Rows.tv s1) (Rows.tv s2)⟩, ⟨S16x128, cs5 (Rows.tv s1) (Rows.tv s2)⟩, ⟨S16x128, cs6 (Rows.tv s1) (Rows.tv s2)⟩] concatenates_S16x128_S16x128_S16x128_S16x128_S16x128_S16x128_S16x128_S112x128_d0

/-- The candidates' expert numbers. -/
def cid (s1 s2 : FVec Ideal S128x128 .f32) : IVec S112x128 32 :=
  concatenate S112x128 0 [⟨S16x128, ci0 (Rows.ti s1) (Rows.ti s2)⟩, ⟨S16x128, ci1 (Rows.ti s1) (Rows.ti s2)⟩, ⟨S16x128, ci2 (Rows.ti s1) (Rows.ti s2)⟩, ⟨S16x128, ci3 (Rows.ti s1) (Rows.ti s2)⟩, ⟨S16x128, ci4 (Rows.ti s1) (Rows.ti s2)⟩, ⟨S16x128, ci5 (Rows.ti s1) (Rows.ti s2)⟩, ⟨S16x128, ci6 (Rows.ti s1) (Rows.ti s2)⟩] concatenates_S16x128_S16x128_S16x128_S16x128_S16x128_S16x128_S16x128_S112x128_d0

/-- The fourth condition of the second half of the candidates. -/
def ok5 : IVec S16x128 1 :=
  cmpi .slt (select (cmpi .sge rank (broadcast S16x128 4#32)) rank (broadcast S16x128 16#32)) (broadcast S16x128 8#32)

namespace Pick

/-- A row of keys, in every candidate row. -/
def row (p : IVec S1x128 32) : IVec S112x128 32 := broadcastTo S112x128 p broadcasts_S1x128_S112x128

/-- Row 0 of the chosen keys, in every candidate row. -/
def bp0 (p : IVec S16x128 32) : IVec S112x128 32 :=
  row (extractStridedSlice S1x128 ![0, 0] p slices_S16x128_o0_0_S1x128)

/-- Row 1 of the chosen keys, in every candidate row. -/
def bp1 (p : IVec S16x128 32) : IVec S112x128 32 :=
  row (extractStridedSlice S1x128 ![1, 0] p slices_S16x128_o1_0_S1x128)

/-- Row 2 of the chosen keys, in every candidate row. -/
def bp2 (p : IVec S16x128 32) : IVec S112x128 32 :=
  row (extractStridedSlice S1x128 ![2, 0] p slices_S16x128_o2_0_S1x128)

/-- Row 3 of the chosen keys, in every candidate row. -/
def bp3 (p : IVec S16x128 32) : IVec S112x128 32 :=
  row (extractStridedSlice S1x128 ![3, 0] p slices_S16x128_o3_0_S1x128)

/-- Row 4 of the chosen keys, in every candidate row. -/
def bp4 (p : IVec S16x128 32) : IVec S112x128 32 :=
  row (extractStridedSlice S1x128 ![4, 0] p slices_S16x128_o4_0_S1x128)

/-- Row 5 of the chosen keys, in every candidate row. -/
def bp5 (p : IVec S16x128 32) : IVec S112x128 32 :=
  row (extractStridedSlice S1x128 ![5, 0] p slices_S16x128_o5_0_S1x128)

/-- Row 6 of the chosen keys, in every candidate row. -/
def bp6 (p : IVec S16x128 32) : IVec S112x128 32 :=
  row (extractStridedSlice S1x128 ![6, 0] p slices_S16x128_o6_0_S1x128)

/-- Row 7 of the chosen keys, in every candidate row. -/
def bp7 (p : IVec S16x128 32) : IVec S112x128 32 :=
  row (extractStridedSlice S1x128 ![7, 0] p slices_S16x128_o7_0_S1x128)

/-- Row 8 of the chosen keys, in every candidate row. -/
def bp8 (p : IVec S16x128 32) : IVec S112x128 32 :=
  row (extractStridedSlice S1x128 ![8, 0] p slices_S16x128_o8_0_S1x128)

/-- Row 9 of the chosen keys, in every candidate row. -/
def bp9 (p : IVec S16x128 32) : IVec S112x128 32 :=
  row (extractStridedSlice S1x128 ![9, 0] p slices_S16x128_o9_0_S1x128)

/-- Row 10 of the chosen keys, in every candidate row. -/
def bp10 (p : IVec S16x128 32) : IVec S112x128 32 :=
  row (extractStridedSlice S1x128 ![10, 0] p slices_S16x128_o10_0_S1x128)

/-- Row 11 of the chosen keys, in every candidate row. -/
def bp11 (p : IVec S16x128 32) : IVec S112x128 32 :=
  row (extractStridedSlice S1x128 ![11, 0] p slices_S16x128_o11_0_S1x128)

/-- Row 12 of the chosen keys, in every candidate row. -/
def bp12 (p : IVec S16x128 32) : IVec S112x128 32 :=
  row (extractStridedSlice S1x128 ![12, 0] p slices_S16x128_o12_0_S1x128)

/-- Row 13 of the chosen keys, in every candidate row. -/
def bp13 (p : IVec S16x128 32) : IVec S112x128 32 :=
  row (extractStridedSlice S1x128 ![13, 0] p slices_S16x128_o13_0_S1x128)

/-- Row 14 of the chosen keys, in every candidate row. -/
def bp14 (p : IVec S16x128 32) : IVec S112x128 32 :=
  row (extractStridedSlice S1x128 ![14, 0] p slices_S16x128_o14_0_S1x128)

/-- Row 15 of the chosen keys, in every candidate row. -/
def bp15 (p : IVec S16x128 32) : IVec S112x128 32 :=
  row (extractStridedSlice S1x128 ![15, 0] p slices_S16x128_o15_0_S1x128)

/-- The expert number of the candidates with the given keys. -/
def pk (c : IVec S112x128 32) (b : IVec S112x128 32) : IVec S1x128 32 :=
  shapeCast S1x128 (multiReductionI .maxsi [0] S128 (select (cmpi .eq flat b) c (broadcast S112x128 4294967295#32)) 2147483648#32 reduces_S112x128_S128 rfl) shapeCasts_S128_S1x128

end Pick

/-- The sixteen expert numbers. -/
def eids (s1 s2 : FVec Ideal S128x128 .f32) : IVec S16x128 32 :=
  concatenate S16x128 0 [⟨S1x128, Pick.pk (cid s1 s2) (Pick.bp0 (Cand.ti (cand s1 s2)))⟩, ⟨S1x128, Pick.pk (cid s1 s2) (Pick.bp1 (Cand.ti (cand s1 s2)))⟩, ⟨S1x128, Pick.pk (cid s1 s2) (Pick.bp2 (Cand.ti (cand s1 s2)))⟩, ⟨S1x128, Pick.pk (cid s1 s2) (Pick.bp3 (Cand.ti (cand s1 s2)))⟩, ⟨S1x128, Pick.pk (cid s1 s2) (Pick.bp4 (Cand.ti (cand s1 s2)))⟩, ⟨S1x128, Pick.pk (cid s1 s2) (Pick.bp5 (Cand.ti (cand s1 s2)))⟩, ⟨S1x128, Pick.pk (cid s1 s2) (Pick.bp6 (Cand.ti (cand s1 s2)))⟩, ⟨S1x128, Pick.pk (cid s1 s2) (Pick.bp7 (Cand.ti (cand s1 s2)))⟩, ⟨S1x128, Pick.pk (cid s1 s2) (Pick.bp8 (Cand.ti (cand s1 s2)))⟩, ⟨S1x128, Pick.pk (cid s1 s2) (Pick.bp9 (Cand.ti (cand s1 s2)))⟩, ⟨S1x128, Pick.pk (cid s1 s2) (Pick.bp10 (Cand.ti (cand s1 s2)))⟩, ⟨S1x128, Pick.pk (cid s1 s2) (Pick.bp11 (Cand.ti (cand s1 s2)))⟩, ⟨S1x128, Pick.pk (cid s1 s2) (Pick.bp12 (Cand.ti (cand s1 s2)))⟩, ⟨S1x128, Pick.pk (cid s1 s2) (Pick.bp13 (Cand.ti (cand s1 s2)))⟩, ⟨S1x128, Pick.pk (cid s1 s2) (Pick.bp14 (Cand.ti (cand s1 s2)))⟩, ⟨S1x128, Pick.pk (cid s1 s2) (Pick.bp15 (Cand.ti (cand s1 s2)))⟩] concatenates_S1x128_S1x128_S1x128_S1x128_S1x128_S1x128_S1x128_S1x128_S1x128_S1x128_S1x128_S1x128_S1x128_S1x128_S1x128_S1x128_S16x128_d0

/-- The exponentials of the sixteen values, less the first. -/
def exps (b : FVec Ideal S16x128 .f32) : FVec Ideal S16x128 .f32 :=
  exp (subf b (broadcastTo S16x128 (extractStridedSlice S1x128 ![0, 0] b slices_S16x128_o0_0_S1x128) broadcasts_S1x128_S16x128))

/-- The sixteen gates of sixteen values. -/
def gate (b : FVec Ideal S16x128 .f32) : FVec Ideal S16x128 .f32 :=
  divf (exps b) (broadcastTo S16x128 (shapeCast S1x128 (multiReduction .add [0] S128 (exps b) 0x00000000#32 reduces_S16x128_S128 (.inl rfl) rfl) shapeCasts_S128_S1x128) broadcasts_S1x128_S16x128)

/-- The sixteen gates. -/
def gates (s1 s2 : FVec Ideal S128x128 .f32) : FVec Ideal S16x128 .f32 := gate (Cand.tv (cand s1 s2))

/-- The row offset of an expert: eight rows for every two. -/
def offs (e : IVec S16x128 32) : IVec S16x128 32 :=
  muli (shrsi e (broadcast S16x128 1#32)) (broadcast S16x128 8#32)

/-- A leading axis of length one. -/
def lift (e : IVec S16x128 32) : IVec S1x16x128 32 := shapeCast S1x16x128 e shapeCasts_S16x128_S1x16x128

/-- A leading axis of length one. -/
def liftf (e : FVec Ideal S16x128 .f32) : FVec Ideal S1x16x128 .f32 := shapeCast S1x16x128 e shapeCasts_S16x128_S1x16x128

end Cert.Proof.Top
-- ==== Proof.Order.lean ====
/-
  The order of the best entries: greater first, and equal entries by position. What a list of the first entries of an
  order is, that there is only one, and that the best sums of two descending lists lie under a hyperbola.
-/
module

public import Idealize.ShloMosaic.Lib.SortFacts
public import Mathlib.Data.EReal.Operations

@[expose] public section

noncomputable section

open Idealize.ShloMosaic

namespace Cert.Proof.Order

/-- Position `i` comes before position `j`: its value is greater, or the same and `i` is the smaller. -/
def Before (V : ℕ → EReal) (i j : ℕ) : Prop := V j < V i ∨ (V i = V j ∧ i < j)

theorem Before.trans {V : ℕ → EReal} {i j k : ℕ} (h : Before V i j) (h' : Before V j k) : Before V i k := by
  rcases h with h | ⟨h, l⟩ <;> rcases h' with h' | ⟨h', l'⟩
  · exact .inl (h'.trans h)
  · exact .inl (h' ▸ h)
  · exact .inl (h ▸ h')
  · exact .inr ⟨h.trans h', l.trans l'⟩

theorem Before.asymm {V : ℕ → EReal} {i j : ℕ} (h : Before V i j) (h' : Before V j i) : False := by
  rcases h.trans h' with h | ⟨_, h⟩
  · exact lt_irrefl _ h
  · exact lt_irrefl _ h

/-- `p` lists the first `k` positions among those of `L`, in order. -/
def Picks (V : ℕ → EReal) (L : ℕ → Prop) (k : ℕ) (p : ℕ → ℕ) : Prop :=
  ∀ t < k, L (p t) ∧ (∀ u < t, p u ≠ p t) ∧ ∀ j, L j → (∀ u < t, p u ≠ j) → j = p t ∨ Before V (p t) j

/-- Two lists of the first positions agree. -/
theorem Picks.unique {V : ℕ → EReal} {L : ℕ → Prop} {k : ℕ} {p q : ℕ → ℕ} (hp : Picks V L k p) (hq : Picks V L k q) :
    ∀ t < k, p t = q t := by
  intro t
  induction t using Nat.strong_induction_on with
  | _ t ih =>
    intro ht
    obtain ⟨p1, p2, p3⟩ := hp t ht
    obtain ⟨q1, q2, q3⟩ := hq t ht
    rcases q3 (p t) p1 (fun u hu => (ih u hu (hu.trans ht)) ▸ p2 u hu) with h | h
    · exact h
    · rcases p3 (q t) q1 (fun u hu => (ih u hu (hu.trans ht)).symm ▸ q2 u hu) with h' | h'
      · exact h'.symm
      · exact (h.asymm h').elim

/-- The listed values descend. -/
theorem Picks.le {V : ℕ → EReal} {L : ℕ → Prop} {k : ℕ} {p : ℕ → ℕ} (hp : Picks V L k p) {u t : ℕ} (hut : u ≤ t) (ht : t < k) :
    V (p t) ≤ V (p u) := by
  rcases Nat.eq_or_lt_of_le hut with rfl | hut
  · exact le_rfl
  · obtain ⟨p1, p2, p3⟩ := hp u (hut.trans ht)
    obtain ⟨q1, q2, q3⟩ := hp t ht
    rcases p3 (p t) q1 (fun w hw => q2 w (hw.trans hut)) with h | h
    · rw [h]
    · rcases h with h | ⟨h, _⟩
      · exact h.le
      · exact h.ge

/-- Fewer than sixteen positions leave out one of any set of sixteen. -/
theorem left (t : ℕ) (ht : t < 16) (S : Finset ℕ) (hS : 16 ≤ S.card) (p : ℕ → ℕ) : ∃ j ∈ S, ∀ u < t, p u ≠ j := by
  have hc : ((Finset.range t).image p).card < S.card :=
    lt_of_le_of_lt Finset.card_image_le (by rw [Finset.card_range]; omega)
  obtain ⟨j, hj, hn⟩ := Finset.exists_mem_notMem_of_card_lt_card hc
  exact ⟨j, hj, fun u hu e => hn (Finset.mem_image.mpr ⟨u, Finset.mem_range.mpr hu, e⟩)⟩

/-- Taking the largest entry out, the one of the least key first, lists the first keys in order. -/
theorem extract {n : ℕ} {V : ℕ → EReal} {L : ℕ → Prop} (key : Fin n → ℕ) (w : ℕ → Fin n → EReal) (m : ℕ → EReal) (i : ℕ → ℕ)
    (h0 : ∀ r, w 0 r = ⊥ ∨ (L (key r) ∧ w 0 r = V (key r)))
    (hL : ∀ j, L j → ∃ r, key r = j ∧ w 0 r = V j)
    (hV : ∀ j, L j → V j ≠ ⊥) (h16 : ∀ j < 16, L j)
    (hm : ∀ t r, w t r ≤ m t)
    (hi : ∀ t r, w t r = m t → i t ≤ key r) (hi' : ∀ t, ∃ r, w t r = m t ∧ key r = i t)
    (hw : ∀ t r, w (t + 1) r = if key r = i t then ⊥ else w t r) :
    Picks V L 16 i ∧ ∀ t < 16, m t = V (i t) := by
  have inv : ∀ t r, ((∃ u < t, i u = key r) → w t r = ⊥) ∧ ((∀ u < t, i u ≠ key r) → w t r = w 0 r) := by
    intro t
    induction t with
    | zero => exact fun r => ⟨fun ⟨u, hu, _⟩ => (Nat.not_lt_zero u hu).elim, fun _ => rfl⟩
    | succ t ih =>
      intro r
      rw [hw]
      refine ⟨fun ⟨u, hu, e⟩ => ?_, fun h => ?_⟩
      · by_cases hk : key r = i t
        · rw [if_pos hk]
        · rw [if_neg hk]
          refine (ih r).1 ⟨u, ?_, e⟩
          rcases Nat.lt_succ_iff_lt_or_eq.mp hu with h | rfl
          · exact h
          · exact (hk e.symm).elim
      · rw [if_neg fun e => h t (Nat.lt_succ_self t) e.symm]
        exact (ih r).2 fun u hu => h u (hu.trans (Nat.lt_succ_self t))
  have main : ∀ t < 16, (L (i t) ∧ (∀ u < t, i u ≠ i t) ∧ ∀ j, L j → (∀ u < t, i u ≠ j) → j = i t ∨ Before V (i t) j)
      ∧ m t = V (i t) := by
    intro t ht
    obtain ⟨j, hj, hn⟩ := left t ht (Finset.range 16) (by rw [Finset.card_range]) i
    have hlive : ∀ j, L j → (∀ u < t, i u ≠ j) → ∃ r, key r = j ∧ w t r = V j := by
      intro j hj hn
      obtain ⟨r, hr, hwr⟩ := hL j hj
      exact ⟨r, hr, ((inv t r).2 (hr.symm ▸ hn)).trans hwr⟩
    have hjL := h16 j (Finset.mem_range.mp hj)
    obtain ⟨r, hr, hwr⟩ := hlive j hjL hn
    have hmne : m t ≠ ⊥ := fun e => hV j hjL (le_bot_iff.mp (hwr ▸ e ▸ hm t r))
    obtain ⟨r', hr', hk'⟩ := hi' t
    have hun : ∀ u < t, i u ≠ key r' := fun u hu e => hmne (hr' ▸ (inv t r').1 ⟨u, hu, e⟩)
    have h0' := (inv t r').2 hun
    have hLV : L (key r') ∧ w 0 r' = V (key r') := by
      rcases h0 r' with h | h
      · exact (hmne (hr' ▸ h0'.trans h)).elim
      · exact h
    have hmV : m t = V (i t) := by rw [← hk', ← hLV.2, ← h0', hr']
    refine ⟨⟨hk' ▸ hLV.1, fun u hu => hk' ▸ hun u hu, fun k hk hkn => ?_⟩, hmV⟩
    obtain ⟨r2, hr2, hw2⟩ := hlive k hk hkn
    have hle : V k ≤ V (i t) := by rw [← hw2, ← hmV]; exact hm t r2
    rcases lt_or_eq_of_le hle with h | h
    · exact .inr (.inl h)
    · have := hi t r2 (by rw [hw2, hmV, h])
      rw [hr2] at this
      rcases Nat.eq_or_lt_of_le this with e | e
      · exact .inl e.symm
      · exact .inr (.inr ⟨h.symm, e⟩)
  exact ⟨fun t ht => (main t ht).1, fun t ht => (main t ht).2⟩

/-- The pairs of ranks under the hyperbola, numbered by sixteen times the first rank plus the second. -/
def Under (j : ℕ) : Prop := j < 256 ∧ (j / 16 + 1) * (j % 16 + 1) ≤ 16

instance (j : ℕ) : Decidable (Under j) := inferInstanceAs (Decidable (_ ∧ _))

/-- A pair not under the hyperbola has sixteen pairs under it that are nowhere later. -/
theorem under_count : ∀ j < 256, ¬ Under j →
    16 ≤ ((Finset.range 256).filter fun i => Under i ∧ i / 16 ≤ j / 16 ∧ i % 16 ≤ j % 16).card := by
  decide +kernel

/-- The first sixteen sums of two descending lists, among those under the hyperbola, are the first among all. -/
theorem widen {a b : ℕ → EReal} {p : ℕ → ℕ} (ha : ∀ u t, u ≤ t → t < 16 → a t ≤ a u) (hb : ∀ u t, u ≤ t → t < 16 → b t ≤ b u)
    (h : Picks (fun j => a (j / 16) + b (j % 16)) Under 16 p) :
    Picks (fun j => a (j / 16) + b (j % 16)) (· < 256) 16 p := by
  intro t ht
  obtain ⟨h1, h2, h3⟩ := h t ht
  refine ⟨h1.1, h2, fun j hj hn => ?_⟩
  by_cases hu : Under j
  · exact h3 j hu hn
  · obtain ⟨i, hi, hin⟩ := left t ht _ (under_count j hj hu) p
    obtain ⟨_, hiu, hi1, hi2⟩ := Finset.mem_filter.mp hi
    have hne : i ≠ j := fun e => hu (e ▸ hiu)
    have hB : Before (fun j => a (j / 16) + b (j % 16)) i j := by
      have hle : a (j / 16) + b (j % 16) ≤ a (i / 16) + b (i % 16) :=
        add_le_add (ha _ _ hi1 (by omega)) (hb _ _ hi2 (by omega))
      rcases lt_or_eq_of_le hle with h | h
      · exact .inl h
      · exact .inr ⟨h.symm, by omega⟩
    rcases h3 i hiu hin with e | e
    · exact .inr (e ▸ hB)
    · exact .inr (e.trans hB)

section Sorting

variable {n : ℕ} (V : ℕ → EReal)

theorem insert_before (R : Fin n → Fin n → Bool) (hR : ∀ x y, R x y = true ↔ V y.val < V x.val) (x : Fin n) (l : List (Fin n))
    (hl : l.Pairwise fun y z => Before V y.val z.val) (hx : ∀ y ∈ l, x < y) :
    (insertBefore R x l).Pairwise fun y z => Before V y.val z.val := by
  induction l with
  | nil => exact List.pairwise_singleton _ _
  | cons y l ih =>
    rw [List.pairwise_cons] at hl
    unfold insertBefore
    by_cases h : R y x = true
    · rw [if_pos h, List.pairwise_cons]
      refine ⟨fun z hz => ?_, ih hl.2 fun z hz => hx z (List.mem_cons_of_mem _ hz)⟩
      rcases List.mem_cons.mp ((perm_insertBefore R x l).mem_iff.mp hz) with rfl | hz
      · exact .inl ((hR _ _).mp h)
      · exact hl.1 z hz
    · rw [if_neg h, List.pairwise_cons]
      have hxy : Before V x.val y.val := by
        have hle : V y.val ≤ V x.val := not_lt.mp fun e => h ((hR _ _).mpr e)
        rcases lt_or_eq_of_le hle with e | e
        · exact .inl e
        · exact .inr ⟨e.symm, hx y List.mem_cons_self⟩
      refine ⟨fun z hz => ?_, List.pairwise_cons.mpr hl⟩
      rcases List.mem_cons.mp hz with rfl | hz
      · exact hxy
      · exact hxy.trans (hl.1 z hz)

theorem sort_before (R : Fin n → Fin n → Bool) (hR : ∀ x y, R x y = true ↔ V y.val < V x.val) (l : List (Fin n))
    (hl : l.Pairwise (· < ·)) : (stableSort R l).Pairwise fun y z => Before V y.val z.val := by
  induction l with
  | nil => exact List.Pairwise.nil
  | cons x l ih =>
    rw [List.pairwise_cons] at hl
    unfold stableSort
    exact insert_before V R hR x _ (ih hl.2) fun y hy => hl.1 y ((perm_stableSort R l).mem_iff.mp hy)

/-- A stable sort, greater first, lists the first positions in order. -/
theorem sorted_picks (R : Fin n → Fin n → Bool) (hR : ∀ x y, R x y = true ↔ V y.val < V x.val) (p : ℕ → ℕ)
    (hp : ∀ t : Fin n, p t.val = (sortedFrom R t).val) (k : ℕ) (hk : k ≤ n) : Picks V (· < n) k p := by
  intro t ht
  have htn : t < n := ht.trans_le hk
  refine ⟨?_, fun u hu e => ?_, fun j hj hn => ?_⟩
  · rw [hp ⟨t, htn⟩]; exact Fin.isLt _
  · rw [hp ⟨t, htn⟩, hp ⟨u, hu.trans htn⟩] at e
    exact hu.ne (Fin.mk.inj_iff.mp (sortedFrom_injective R (Fin.ext e)))
  · obtain ⟨s, hs⟩ := sortedFrom_surjective R ⟨j, hj⟩
    have hsj : p s.val = j := by rw [hp s, hs]
    have hts : t ≤ s.val := not_lt.mp fun h => hn s.val h hsj
    rcases Nat.eq_or_lt_of_le hts with e | e
    · exact .inl (by rw [← hsj, e])
    · right
      have hpw := sort_before V R hR (List.finRange n) (List.pairwise_lt_finRange n)
      have := List.pairwise_iff_get.mp hpw (Fin.cast (length_sortPositions n R).symm ⟨t, htn⟩)
        (Fin.cast (length_sortPositions n R).symm s) e
      rw [hp ⟨t, htn⟩, ← hsj, hp s]
      exact this

end Sorting

end Cert.Proof.Order
-- ==== Proof.Column.lean ====
/-
  One column of the selection: the rounds list the first sixteen rows in order, for a plain column and for the candidates.
-/
module

public import proofs.«01_k».proof.Proof.Top
public import proofs.«01_k».proof.Proof.Order
public import Idealize.ShloMosaic.Lib.SortNet.Extract

@[expose] public section

noncomputable section

open Idealize.ShloMosaic Idealize.ShloMosaic.TcCoe
open Cert.Kernel4Ideal Cert.Kernel4Ideal.Gen
open Cert.Proof.Order

namespace Cert.Proof.Top

/-- The word of minus infinity. -/
theorem bottom : Ideal.ofBits FTy.f32 4286578688#32 = ⊥ := by
  simp [Ideal.ofBits, Ideal.ieee]

/-- A choice by equality of words. -/
theorem select_eq {α : Type} (a b : BitVec 32) (x y : α) :
    Scalar.select (IntOp.cmpi CmpIPredicate.eq a b) x y = if a = b then x else y := by
  unfold Scalar.select IntOp.cmpi
  by_cases h : a = b
  · simp [h]
  · have : (a == b) = false := beq_eq_false_iff_ne.mpr h
    simp [h, this]

section Fold

variable {n : ℕ}

/-- The signed minimum of words that are not negative. -/
theorem minsi_nat (a b : BitVec 32) (ha : a.toNat < 2147483648) (hb : b.toNat < 2147483648) :
    IntOp.minsi a b = if a.toNat < b.toNat then a else b := by
  have : a.slt b = decide (a.toNat < b.toNat) := by
    rw [BitVec.slt, BitVec.toInt_eq_toNat_of_lt (by omega), BitVec.toInt_eq_toNat_of_lt (by omega)]
    simp
  unfold IntOp.minsi
  rw [this]
  by_cases h : a.toNat < b.toNat <;> simp [h]

/-- A fold of the signed minimum from the largest word, over words that are not negative. -/
theorem fold_min (s : Finset (Fin n)) (f : Fin n → BitVec 32) (hf : ∀ r, (f r).toNat < 2147483648) :
    (s.fold IntOp.minsi 2147483647#32 f).toNat < 2147483648 ∧ (∀ r ∈ s, (s.fold IntOp.minsi 2147483647#32 f).toNat ≤ (f r).toNat)
      ∧ (s.fold IntOp.minsi 2147483647#32 f = 2147483647#32 ∨ ∃ r ∈ s, s.fold IntOp.minsi 2147483647#32 f = f r) := by
  classical
  induction s using Finset.induction_on with
  | empty => exact ⟨by simp, fun r hr => absurd hr (Finset.notMem_empty r), .inl (by simp)⟩
  | insert a s ha ih =>
    obtain ⟨h1, h2, h3⟩ := ih
    rw [Finset.fold_insert ha]
    rw [minsi_nat _ _ (hf a) h1]
    by_cases h : (f a).toNat < (s.fold IntOp.minsi 2147483647#32 f).toNat
    · rw [if_pos h]
      refine ⟨hf a, fun r hr => ?_, .inr ⟨a, Finset.mem_insert_self a s, rfl⟩⟩
      rcases Finset.mem_insert.mp hr with rfl | hr
      · exact le_rfl
      · exact h.le.trans (h2 r hr)
    · rw [if_neg h]
      refine ⟨h1, fun r hr => ?_, ?_⟩
      · rcases Finset.mem_insert.mp hr with rfl | hr
        · exact not_lt.mp h
        · exact h2 r hr
      · rcases h3 with h3 | ⟨r, hr, h3⟩
        · exact .inl h3
        · exact .inr ⟨r, Finset.mem_insert_of_mem hr, h3⟩

/-- A fold of the maximum from the bottom bounds the entries and is one of them. -/
theorem fold_max (r0 : Fin n) (w : Fin n → EReal) :
    (∀ r, w r ≤ Finset.univ.fold max ⊥ w) ∧ ∃ r, w r = Finset.univ.fold max ⊥ w := by
  have hle : ∀ r, w r ≤ Finset.univ.fold max ⊥ w := fun r => (Finset.le_fold_max (w r)).mpr (.inr ⟨r, Finset.mem_univ r, le_rfl⟩)
  refine ⟨hle, ?_⟩
  have := (Finset.le_fold_max (s := Finset.univ) (f := w) (b := ⊥) (Finset.univ.fold max ⊥ w)).mp le_rfl
  rcases this with h | ⟨r, _, h⟩
  · exact ⟨r0, le_antisymm (hle r0) (h.trans bot_le)⟩
  · exact ⟨r, le_antisymm (hle r) h⟩

/-- The least key among the largest entries. -/
theorem least (r0 : Fin n) (key : Fin n → BitVec 32) (hkey : ∀ r, (key r).toNat < 256) (w : Fin n → EReal) (m : EReal)
    (hm : m = Finset.univ.fold max ⊥ w) (i : BitVec 32)
    (hi : i = Finset.univ.fold IntOp.minsi 2147483647#32 fun r => if w r = m then key r else 1073741824#32) :
    (∀ r, w r ≤ m) ∧ (∀ r, w r = m → i.toNat ≤ (key r).toNat) ∧ ∃ r, w r = m ∧ key r = i := by
  obtain ⟨h1, r1, hr1⟩ := fold_max r0 w
  rw [← hm] at h1 hr1
  obtain ⟨_, g2, g3⟩ := fold_min Finset.univ (fun r => if w r = m then key r else 1073741824#32) fun r => by
    have := hkey r
    split_ifs
    · omega
    · decide
  rw [← hi] at g2 g3
  have g2' : ∀ r, w r = m → i.toNat ≤ (key r).toNat := fun r hr => by
    have := g2 r (Finset.mem_univ r)
    rwa [if_pos hr] at this
  refine ⟨h1, g2', ?_⟩
  have hsmall : i.toNat < 256 := (g2' r1 hr1).trans_lt (hkey r1)
  rcases g3 with g3 | ⟨r, _, g3⟩
  · rw [g3] at hsmall; exact absurd hsmall (by decide)
  · by_cases h : w r = m
    · rw [if_pos h] at g3
      exact ⟨r, h, g3.symm⟩
    · rw [if_neg h] at g3
      rw [g3] at hsmall; exact absurd hsmall (by decide)

end Fold

section Plain

variable (s : FVec Ideal S128x128 .f32) (l : Fin 128)

theorem rows_mx : Rows.mx s (ix2 (0 : Fin 1) l) = Finset.univ.fold max ⊥ fun r : Fin 128 => s (ix2 r l) := by
  rw [← bottom]
  unfold Rows.mx Rows.rm
  pointwise

theorem rows_ix : Rows.ix s (ix2 (0 : Fin 1) l) = Finset.univ.fold IntOp.minsi 2147483647#32
    fun r : Fin 128 => if s (ix2 r l) = Rows.mx s (ix2 (0 : Fin 1) l) then BitVec.ofNat 32 r.val else 1073741824#32 := by
  unfold Rows.ix Rows.rn Rows.sl Rows.gt Rows.bx Rows.key
  pointwise

theorem rows_nx (r : Fin 128) : Rows.nx s (ix2 r l) = if BitVec.ofNat 32 r.val = Rows.ix s (ix2 (0 : Fin 1) l) then ⊥ else s (ix2 r l) := by
  rw [← bottom, ← select_eq]
  unfold Rows.nx Rows.em Rows.bi Rows.key
  pointwise

theorem rows_tv (t : Fin 16) : Rows.tv s (ix2 t l) = Rows.mx (Rows.st s t.val) (ix2 (0 : Fin 1) l) := by
  unfold Rows.tv
  obtain ⟨t, ht⟩ := t
  interval_cases t <;> pointwise

theorem rows_ti (t : Fin 16) : Rows.ti s (ix2 t l) = Rows.ix (Rows.st s t.val) (ix2 (0 : Fin 1) l) := by
  unfold Rows.ti
  obtain ⟨t, ht⟩ := t
  interval_cases t <;> pointwise

theorem toNat_row (r : Fin 128) : (BitVec.ofNat 32 r.val).toNat = r.val := by
  rw [BitVec.toNat_ofNat]; have := r.isLt; omega

/-- The rows taken from a column of finite entries: the first sixteen in order, with their values. -/
theorem rows_picks (V : ℕ → EReal) (hs : ∀ r : Fin 128, s (ix2 r l) = V r.val) (hV : ∀ r, V r ≠ ⊥) :
    Picks V (· < 128) 16 (fun t => (Rows.ix (Rows.st s t) (ix2 (0 : Fin 1) l)).toNat)
      ∧ ∀ t < 16, Rows.mx (Rows.st s t) (ix2 (0 : Fin 1) l) = V (Rows.ix (Rows.st s t) (ix2 (0 : Fin 1) l)).toNat := by
  have H := fun t => least (0 : Fin 128) (fun r => BitVec.ofNat 32 r.val) (fun r => by rw [toNat_row]; have := r.isLt; omega)
    (fun r => Rows.st s t (ix2 r l)) _ (rows_mx (Rows.st s t) l) _ (rows_ix (Rows.st s t) l)
  refine extract (fun r : Fin 128 => r.val) (fun t r => Rows.st s t (ix2 r l)) (fun t => Rows.mx (Rows.st s t) (ix2 (0 : Fin 1) l)) _
    (fun r => .inr ⟨r.isLt, hs r⟩) (fun j hj => ⟨⟨j, hj⟩, rfl, hs ⟨j, hj⟩⟩) (fun j _ => hV j) (fun j hj => by omega)
    (fun t => (H t).1) (fun t r hr => ?_) (fun t => ?_) (fun t r => ?_)
  · have := (H t).2.1 r hr
    rwa [toNat_row] at this
  · obtain ⟨r, h1, h2⟩ := (H t).2.2
    exact ⟨r, h1, by rw [← h2, toNat_row]⟩
  · refine (rows_nx (Rows.st s t) l r).trans ?_
    refine if_congr ?_ rfl rfl
    constructor
    · exact fun h => (toNat_row r).symm.trans (congrArg BitVec.toNat h)
    · exact fun h => BitVec.eq_of_toNat_eq ((toNat_row r).trans h)

end Plain

end Cert.Proof.Top
-- ==== Proof.CandColumn.lean ====
/-
  One column of the candidates: what each row holds, and the sixteen best sums of the two lists.
-/
module

public import proofs.«01_k».proof.Proof.Column

@[expose] public section

noncomputable section

open Idealize.ShloMosaic Idealize.ShloMosaic.TcCoe
open Cert.Kernel4Ideal Cert.Kernel4Ideal.Gen
open Cert.Proof.Order

namespace Cert.Proof.Top

/-- The first rank of a candidate row. -/
def ra (r : Fin 112) : Fin 16 := if r.val < 64 then ⟨r.val / 16, by omega⟩ else ⟨r.val % 16, by omega⟩

/-- The second rank of a candidate row. -/
def rb (r : Fin 112) : Fin 16 := if r.val < 64 then ⟨r.val % 16, by omega⟩ else ⟨r.val / 16 - 4, by omega⟩

/-- The key of a candidate row. -/
def kn (r : Fin 112) : ℕ := (ra r).val * 16 + (rb r).val

/-- The rows that count: the pairs under the hyperbola, once each. -/
def Good (r : Fin 112) : Prop := ((ra r).val + 1) * ((rb r).val + 1) ≤ 16 ∧ (r.val < 64 ∨ 4 ≤ (ra r).val)

instance (r : Fin 112) : Decidable (Good r) := inferInstanceAs (Decidable (_ ∧ _))

theorem kn_lt (r : Fin 112) : kn r < 256 := by
  unfold kn; have := (ra r).isLt; have := (rb r).isLt; omega

theorem kn_div (r : Fin 112) : kn r / 16 = (ra r).val := by
  unfold kn; have := (rb r).isLt; omega

theorem kn_mod (r : Fin 112) : kn r % 16 = (rb r).val := by
  unfold kn; have := (rb r).isLt; omega

theorem good_under : ∀ r, Good r → Under (kn r) := by decide +kernel

theorem under_good : ∀ j < 256, Under j → ∃ r, kn r = j ∧ Good r := by decide +kernel

theorem under_first : ∀ j < 16, Under j := by decide +kernel

section Rows

variable (l : Fin 128)

/-- Row `q` of piece `g` of the candidates. -/
def rowOf (g : Fin 7) (q : Fin 16) : Fin 112 := ⟨g.val * 16 + q.val, by omega⟩

theorem rowOf_surj (r : Fin 112) : ∃ g q, r = rowOf g q :=
  ⟨⟨r.val / 16, by omega⟩, ⟨r.val % 16, by omega⟩, Fin.ext (by show r.val = r.val / 16 * 16 + r.val % 16; omega)⟩

/-- Seven pieces of sixteen rows, one under the other. -/
theorem seven {α : Type} (c0 c1 c2 c3 c4 c5 c6 : S16x128.Idx → α) (g : Fin 7) (q : Fin 16) :
    concatenate S112x128 0 [⟨S16x128, c0⟩, ⟨S16x128, c1⟩, ⟨S16x128, c2⟩, ⟨S16x128, c3⟩, ⟨S16x128, c4⟩, ⟨S16x128, c5⟩, ⟨S16x128, c6⟩]
      concatenates_S16x128_S16x128_S16x128_S16x128_S16x128_S16x128_S16x128_S112x128_d0 (ix2 (rowOf g q) l)
    = (![c0, c1, c2, c3, c4, c5, c6] g) (ix2 q l) := by
  have e : ∀ (n : ℕ) (h : n < 16), n = q.val → (⟨n, h⟩ : Fin 16) = q := fun n h e => Fin.ext e
  pointwise
  obtain ⟨g, hg⟩ := g
  have hq := q.isLt
  interval_cases g <;> (unfold rowOf; dsimp only; split_ifs <;> first | omega | (rw [e _ _ (by omega)]; rfl))

theorem key_apply : ∀ r : Fin 112, Cand.key (ix2 r l) = BitVec.ofNat 32 (kn r) := by
  intro r
  obtain ⟨g, q, rfl⟩ := rowOf_surj r
  unfold Cand.key
  rw [seven]
  unfold ck0 ck1 ck2 ck3 ck4 ck5 ck6 rank
  obtain ⟨g, hg⟩ := g
  interval_cases g <;> (revert q; dsimp only; intro q; first | (show addi _ _ (ix2 q l) = _); pointwise; revert q; decide +kernel)

theorem ranks_low : ∀ (g : Fin 7) (q : Fin 16) (h : g.val < 4), ra (rowOf g q) = ⟨g.val, by omega⟩ ∧ rb (rowOf g q) = q := by
  decide +kernel

theorem ranks_high : ∀ (g : Fin 7) (q : Fin 16), 4 ≤ g.val → ra (rowOf g q) = q ∧ rb (rowOf g q) = ⟨g.val - 4, by omega⟩ := by
  decide +kernel

/-- The candidates of two lists, by row. -/
theorem pieces_apply (x y : FVec Ideal S16x128 .f32) (r : Fin 112) :
    concatenate S112x128 0 [⟨S16x128, cs0 x y⟩, ⟨S16x128, cs1 x y⟩, ⟨S16x128, cs2 x y⟩, ⟨S16x128, cs3 x y⟩, ⟨S16x128, cs4 x y⟩, ⟨S16x128, cs5 x y⟩, ⟨S16x128, cs6 x y⟩]
      concatenates_S16x128_S16x128_S16x128_S16x128_S16x128_S16x128_S16x128_S112x128_d0 (ix2 r l)
    = if Good r then x (ix2 (ra r) l) + y (ix2 (rb r) l) else ⊥ := by
  obtain ⟨g, q, rfl⟩ := rowOf_surj r
  rw [seven]
  obtain ⟨q, hq⟩ := q
  obtain ⟨g, hg⟩ := g
  unfold cs0 cs1 cs2 cs3 cs4 cs5 cs6 rank
  rw [← bottom]
  interval_cases g <;> (show select _ _ _ (ix2 _ l) = _; pointwise; refine if_congr ?_ ?_ rfl) <;>
    first
      | (revert q; decide +kernel)
      | (rw [(ranks_low _ ⟨q, hq⟩ (by decide)).1, (ranks_low _ ⟨q, hq⟩ (by decide)).2]; rfl)
      | (rw [(ranks_high _ ⟨q, hq⟩ (by decide)).1, (ranks_high _ ⟨q, hq⟩ (by decide)).2]; rfl)

/-- The candidates' expert numbers, by row. -/
theorem numbers_apply (x y : IVec S16x128 32) (r : Fin 112) :
    concatenate S112x128 0 [⟨S16x128, ci0 x y⟩, ⟨S16x128, ci1 x y⟩, ⟨S16x128, ci2 x y⟩, ⟨S16x128, ci3 x y⟩, ⟨S16x128, ci4 x y⟩, ⟨S16x128, ci5 x y⟩, ⟨S16x128, ci6 x y⟩]
      concatenates_S16x128_S16x128_S16x128_S16x128_S16x128_S16x128_S16x128_S112x128_d0 (ix2 r l)
    = IntOp.addi (IntOp.muli (x (ix2 (ra r) l)) 128#32) (y (ix2 (rb r) l)) := by
  obtain ⟨g, q, rfl⟩ := rowOf_surj r
  rw [seven]
  obtain ⟨q, hq⟩ := q
  obtain ⟨g, hg⟩ := g
  unfold ci0 ci1 ci2 ci3 ci4 ci5 ci6
  interval_cases g <;> (show addi _ _ (ix2 _ l) = _; pointwise) <;>
    first
      | (rw [(ranks_low _ ⟨q, hq⟩ (by decide)).1, (ranks_low _ ⟨q, hq⟩ (by decide)).2]; rfl)
      | (rw [(ranks_high _ ⟨q, hq⟩ (by decide)).1, (ranks_high _ ⟨q, hq⟩ (by decide)).2]; rfl)

end Rows

section Cands

variable (s : FVec Ideal S112x128 .f32) (l : Fin 128)

theorem cand_mx : Cand.mx s (ix2 (0 : Fin 1) l) = Finset.univ.fold max ⊥ fun r : Fin 112 => s (ix2 r l) := by
  rw [← bottom]
  unfold Cand.mx Cand.rm
  pointwise

theorem cand_ix : Cand.ix s (ix2 (0 : Fin 1) l) = Finset.univ.fold IntOp.minsi 2147483647#32
    fun r : Fin 112 => if s (ix2 r l) = Cand.mx s (ix2 (0 : Fin 1) l) then Cand.key (ix2 r l) else 1073741824#32 := by
  unfold Cand.ix Cand.rn Cand.sl Cand.gt Cand.bx
  pointwise

theorem cand_nx (r : Fin 112) : Cand.nx s (ix2 r l) = if Cand.key (ix2 r l) = Cand.ix s (ix2 (0 : Fin 1) l) then ⊥ else s (ix2 r l) := by
  rw [← bottom, ← select_eq]
  unfold Cand.nx Cand.em Cand.bi
  pointwise

theorem cand_tv (t : Fin 16) : Cand.tv s (ix2 t l) = Cand.mx (Cand.st s t.val) (ix2 (0 : Fin 1) l) := by
  unfold Cand.tv
  obtain ⟨t, ht⟩ := t
  interval_cases t <;> pointwise

theorem cand_ti (t : Fin 16) : Cand.ti s (ix2 t l) = Cand.ix (Cand.st s t.val) (ix2 (0 : Fin 1) l) := by
  unfold Cand.ti
  obtain ⟨t, ht⟩ := t
  interval_cases t <;> pointwise

theorem toNat_key (r : Fin 112) : (Cand.key (ix2 r l)).toNat = kn r := by
  rw [key_apply, BitVec.toNat_ofNat]; have := kn_lt r; omega

/-- The keys taken from a column of candidates: the first sixteen under the hyperbola in order, with their values. -/
theorem cand_picks (V : ℕ → EReal) (hs : ∀ r : Fin 112, s (ix2 r l) = if Good r then V (kn r) else ⊥) (hV : ∀ j < 256, V j ≠ ⊥) :
    Picks V Under 16 (fun t => (Cand.ix (Cand.st s t) (ix2 (0 : Fin 1) l)).toNat)
      ∧ ∀ t < 16, Cand.mx (Cand.st s t) (ix2 (0 : Fin 1) l) = V (Cand.ix (Cand.st s t) (ix2 (0 : Fin 1) l)).toNat := by
  have H := fun t => least (0 : Fin 112) (fun r => Cand.key (ix2 r l)) (fun r => by rw [toNat_key]; exact kn_lt r)
    (fun r => Cand.st s t (ix2 r l)) _ (cand_mx (Cand.st s t) l) _ (cand_ix (Cand.st s t) l)
  refine extract kn (fun t r => Cand.st s t (ix2 r l)) (fun t => Cand.mx (Cand.st s t) (ix2 (0 : Fin 1) l)) _
    (fun r => ?_) (fun j hj => ?_) (fun j hj => hV j hj.1) under_first
    (fun t => (H t).1) (fun t r hr => ?_) (fun t => ?_) (fun t r => ?_)
  · show s (ix2 r l) = ⊥ ∨ _
    by_cases h : Good r
    · exact .inr ⟨good_under r h, (hs r).trans (if_pos h)⟩
    · exact .inl ((hs r).trans (if_neg h))
  · obtain ⟨r, h1, h2⟩ := under_good j hj.1 hj
    exact ⟨r, h1, (hs r).trans ((if_pos h2).trans (congrArg V h1))⟩
  · have := (H t).2.1 r hr
    rwa [toNat_key] at this
  · obtain ⟨r, h1, h2⟩ := (H t).2.2
    exact ⟨r, h1, by rw [← h2, toNat_key]⟩
  · refine (cand_nx (Cand.st s t) l r).trans ?_
    refine if_congr ?_ rfl rfl
    constructor
    · exact fun h => (toNat_key l r).symm.trans (congrArg BitVec.toNat h)
    · exact fun h => BitVec.eq_of_toNat_eq ((toNat_key l r).trans h)

/-- The expert number found for a key that some row carries. -/
theorem pk_apply (c : IVec S112x128 32) (b : IVec S112x128 32) (k : BitVec 32) (hb : ∀ r, b (ix2 r l) = k) (d : BitVec 32)
    (hd : d.toNat < 2147483648) (r0 : Fin 112) (h0 : Cand.key (ix2 r0 l) = k)
    (hc : ∀ r, Cand.key (ix2 r l) = k → c (ix2 r l) = d) : Pick.pk c b (ix2 (0 : Fin 1) l) = d := by
  have e : Pick.pk c b (ix2 (0 : Fin 1) l)
      = Finset.univ.fold IntOp.maxsi 2147483648#32 fun r : Fin 112 => if Cand.key (ix2 r l) = k then d else 4294967295#32 := by
    have : Pick.pk c b (ix2 (0 : Fin 1) l) = Finset.univ.fold IntOp.maxsi 2147483648#32
        fun r : Fin 112 => if Cand.key (ix2 r l) = b (ix2 r l) then c (ix2 r l) else 4294967295#32 := by
      simp only [← select_eq]
      unfold Pick.pk flat
      pointwise
    refine this.trans (congrArg (fun f => Finset.fold IntOp.maxsi 2147483648#32 f Finset.univ) (funext fun r => ?_))
    rw [hb r]
    by_cases h : Cand.key (ix2 r l) = k
    · rw [if_pos h, if_pos h, hc r h]
    · rw [if_neg h, if_neg h]
  rw [e]
  obtain ⟨_, h2, h3⟩ := SortNet.fold_maxsi_spec (fun r : Fin 112 => if Cand.key (ix2 r l) = k then d else 4294967295#32)
    Finset.univ 2147483648#32
  have h2 := h2 r0 (Finset.mem_univ r0)
  simp only [h0, if_true] at h2
  have hdi : d.toInt = d.toNat := BitVec.toInt_eq_toNat_of_lt (by omega)
  rcases h3 with h3 | ⟨r, _, h3⟩
  · rw [h3] at h2
    have : (2147483648#32 : BitVec 32).toInt = -2147483648 := by decide
    omega
  · by_cases h : Cand.key (ix2 r l) = k
    · rw [h3, if_pos h]
    · rw [h3, if_neg h] at h2
      have : (4294967295#32 : BitVec 32).toInt = -1 := by decide
      omega

end Cands

end Cert.Proof.Top
-- ==== Proof.Best.lean ====
/-
  The sixteen best pairs of two lists of values, as the mathematics says them: the first positions of a stable order,
  greater first; and that a column of the kernel's selection holds their numbers and gates.
-/
module

public import proofs.«01_k».proof.Proof.CandColumn

@[expose] public section

noncomputable section

open Idealize.ShloMosaic Idealize.ShloMosaic.TcCoe
open Cert.Kernel4Ideal Cert.Kernel4Ideal.Gen
open Cert.Proof.Order

namespace Cert.Proof.Best

/-- Position `t` of the values `V` below `n`, sorted, greater first and equal values by position. -/
def top (n : ℕ) (V : ℕ → EReal) (t : ℕ) : ℕ :=
  if h : t < n then (sortedFrom (n := n) (fun x y => @decide (V y.val < V x.val) (Classical.dec _)) ⟨t, h⟩).val else 0

theorem top_picks (n : ℕ) (V : ℕ → EReal) (k : ℕ) (hk : k ≤ n) : Picks V (· < n) k (top n V) :=
  sorted_picks V _ (fun x y => @decide_eq_true_iff _ (Classical.dec _)) _
    (fun t => by unfold top; rw [dif_pos t.isLt]) k hk

theorem top_lt (n : ℕ) (V : ℕ → EReal) (t : ℕ) (ht : t < n) : top n V t < n := by
  unfold top; rw [dif_pos ht]; exact Fin.isLt _

/-- The sum of pair `j`: first rank `j / 16`, second rank `j % 16`. -/
def pair (V1 V2 : ℕ → EReal) (j : ℕ) : EReal := V1 (top 128 V1 (j / 16)) + V2 (top 128 V2 (j % 16))

/-- The place of the `t`-th best pair. -/
def pos (V1 V2 : ℕ → EReal) (t : ℕ) : ℕ := top 256 (pair V1 V2) t

/-- Its sum. -/
def best (V1 V2 : ℕ → EReal) (t : ℕ) : EReal := pair V1 V2 (pos V1 V2 t)

/-- The expert number of pair `j`. -/
def numOf (V1 V2 : ℕ → EReal) (j : ℕ) : ℕ := top 128 V1 (j / 16) * 128 + top 128 V2 (j % 16)

/-- The expert number of the `t`-th best pair. -/
def num (V1 V2 : ℕ → EReal) (t : ℕ) : ℕ := numOf V1 V2 (pos V1 V2 t)

/-- The gate of the `t`-th best pair. -/
def wt (V1 V2 : ℕ → EReal) (t : ℕ) : EReal :=
  Ideal.div (Ideal.exp (best V1 V2 t - best V1 V2 0)) (∑ u : Fin 16, Ideal.exp (best V1 V2 u.val - best V1 V2 0))

open Top

section
variable (s1 s2 : FVec Ideal S128x128 .f32) (l : Fin 128) (V1 V2 : ℕ → EReal)

theorem rows_top (s : FVec Ideal S128x128 .f32) (V : ℕ → EReal) (hs : ∀ r : Fin 128, s (ix2 r l) = V r.val) (hV : ∀ r, V r ≠ ⊥) (t : Fin 16) :
    Rows.tv s (ix2 t l) = V (top 128 V t.val) ∧ (Rows.ti s (ix2 t l)).toNat = top 128 V t.val := by
  obtain ⟨h1, h2⟩ := rows_picks s l V hs hV
  have h3 := h1.unique (top_picks 128 V 16 (by omega)) t.val t.isLt
  rw [rows_tv, rows_ti]
  exact ⟨(h2 t.val t.isLt).trans (congrArg V h3), h3⟩

variable (h1 : ∀ r : Fin 128, s1 (ix2 r l) = V1 r.val) (h2 : ∀ r : Fin 128, s2 (ix2 r l) = V2 r.val)
  (f1 : ∀ r, ∃ x : ℝ, V1 r = (x : EReal)) (f2 : ∀ r, ∃ x : ℝ, V2 r = (x : EReal))

include f1 f2 in
theorem pair_ne (j : ℕ) : pair V1 V2 j ≠ ⊥ := by
  obtain ⟨x, hx⟩ := f1 (top 128 V1 (j / 16))
  obtain ⟨y, hy⟩ := f2 (top 128 V2 (j % 16))
  unfold pair
  rw [hx, hy, ← EReal.coe_add]
  exact EReal.coe_ne_bot _

include f1 in
theorem ne_bot (r : ℕ) : V1 r ≠ ⊥ := by
  obtain ⟨x, hx⟩ := f1 r
  rw [hx]; exact EReal.coe_ne_bot _

include h1 h2 f1 f2 in
theorem cand_row (r : Fin 112) : cand s1 s2 (ix2 r l) = if Good r then pair V1 V2 (kn r) else ⊥ := by
  unfold cand
  rw [pieces_apply]
  refine if_congr Iff.rfl ?_ rfl
  rw [(rows_top l s1 V1 h1 (ne_bot V1 f1) _).1, (rows_top l s2 V2 h2 (ne_bot V2 f2) _).1]
  unfold pair
  rw [kn_div, kn_mod]

include h1 h2 f1 f2 in
theorem cand_top (t : Fin 16) :
    Cand.tv (cand s1 s2) (ix2 t l) = best V1 V2 t.val ∧ (Cand.ti (cand s1 s2) (ix2 t l)).toNat = pos V1 V2 t.val := by
  obtain ⟨g1, g2⟩ := cand_picks (cand s1 s2) l (pair V1 V2) (cand_row s1 s2 l V1 V2 h1 h2 f1 f2) (fun j _ => pair_ne V1 V2 f1 f2 j)
  have g3 := (widen (a := fun j => V1 (top 128 V1 j)) (b := fun j => V2 (top 128 V2 j))
    (fun u t hu ht => (top_picks 128 V1 16 (by omega)).le hu ht) (fun u t hu ht => (top_picks 128 V2 16 (by omega)).le hu ht) g1).unique
    (top_picks 256 (pair V1 V2) 16 (by omega)) t.val t.isLt
  rw [cand_tv, cand_ti]
  exact ⟨(g2 t.val t.isLt).trans (congrArg (pair V1 V2) g3), g3⟩

theorem numOf_lt (j : ℕ) (hj : j < 256) : numOf V1 V2 j < 16384 := by
  have h1 := top_lt 128 V1 (j / 16) (by omega)
  have h2 := top_lt 128 V2 (j % 16) (by omega)
  unfold numOf; omega

theorem pos_lt (t : Fin 16) : pos V1 V2 t.val < 256 := top_lt 256 _ _ (by omega)

include h1 h2 f1 f2 in
theorem cid_row (r : Fin 112) : cid s1 s2 (ix2 r l) = BitVec.ofNat 32 (numOf V1 V2 (kn r)) := by
  unfold cid
  rw [numbers_apply]
  have e1 := (rows_top l s1 V1 h1 (ne_bot V1 f1) (ra r)).2
  have e2 := (rows_top l s2 V2 h2 (ne_bot V2 f2) (rb r)).2
  have b1 := top_lt 128 V1 (ra r).val (by omega)
  have b2 := top_lt 128 V2 (rb r).val (by omega)
  apply BitVec.eq_of_toNat_eq
  unfold numOf IntOp.addi IntOp.muli
  rw [kn_div, kn_mod, BitVec.toNat_add, BitVec.toNat_mul, e1, e2, BitVec.toNat_ofNat, BitVec.toNat_ofNat]
  omega

include h1 h2 f1 f2 in
theorem pick_row (b : IVec S112x128 32) (t : Fin 16) (hb : ∀ r, b (ix2 r l) = Cand.ti (cand s1 s2) (ix2 t l)) :
    Pick.pk (cid s1 s2) b (ix2 (0 : Fin 1) l) = BitVec.ofNat 32 (num V1 V2 t.val) := by
  have ht := (cand_top s1 s2 l V1 V2 h1 h2 f1 f2 t).2
  have hu : Under (pos V1 V2 t.val) := by
    have g1 := (cand_picks (cand s1 s2) l (pair V1 V2) (cand_row s1 s2 l V1 V2 h1 h2 f1 f2) (fun j _ => pair_ne V1 V2 f1 f2 j)).1 t.val t.isLt
    rw [← ht, cand_ti]; exact g1.1
  obtain ⟨r0, hr0, _⟩ := under_good _ (pos_lt V1 V2 t) hu
  have hn := numOf_lt V1 V2 _ (pos_lt V1 V2 t)
  refine pk_apply l (cid s1 s2) b _ hb _ ?_ r0 ?_ fun r hr => ?_
  · rw [BitVec.toNat_ofNat]; unfold num; omega
  · exact BitVec.eq_of_toNat_eq ((toNat_key l r0).trans (hr0.trans ht.symm))
  · rw [cid_row s1 s2 l V1 V2 h1 h2 f1 f2 r]
    have : kn r = pos V1 V2 t.val := by rw [← ht, ← hr, toNat_key]
    rw [this]; rfl

include h1 h2 f1 f2 in
/-- A column of the expert numbers. -/
theorem eids_apply (t : Fin 16) : eids s1 s2 (ix2 t l) = BitVec.ofNat 32 (num V1 V2 t.val) := by
  have P := fun b hb => pick_row s1 s2 l V1 V2 h1 h2 f1 f2 b t hb
  unfold eids
  obtain ⟨t, ht⟩ := t
  interval_cases t
  all_goals
    pointwise
    refine P _ fun r => ?_
    pointwise [Pick.bp0, Pick.bp1, Pick.bp2, Pick.bp3, Pick.bp4, Pick.bp5, Pick.bp6, Pick.bp7, Pick.bp8, Pick.bp9, Pick.bp10, Pick.bp11, Pick.bp12, Pick.bp13, Pick.bp14, Pick.bp15, Pick.row]

include h1 h2 f1 f2 in
/-- A column of the gates. -/
theorem gates_apply (t : Fin 16) : gates s1 s2 (ix2 t l) = wt V1 V2 t.val := by
  have B := fun t => (cand_top s1 s2 l V1 V2 h1 h2 f1 f2 t).1
  unfold gates gate exps wt
  pointwise
  simp only [B]
  rfl

end

end Cert.Proof.Best
-- ==== Proof.ScoreTop.lean ====
/-
  The host's top-k read at an index: entry `t` of a row is its value at the `t`-th position of the row's order, and its
  index that position.
-/
module

public import proofs.«01_k».proof.Proof.Best
public import proofs.«01_k».proof.Proof.Gen.Reference4Ideal.Read

@[expose] public section

noncomputable section

open Idealize.ShloMosaic Idealize.ShloMosaic.TcCoe
open Cert.Reference4Ideal Cert.Reference4Ideal.Gen

namespace Cert.Proof.ScoreTop

open Best

/-- A stable sort by "greater" lists the positions of the order. -/
theorem sort_top {n : ℕ} (f : Fin n → EReal) (V : ℕ → EReal) (hV : ∀ r : Fin n, f r = V r.val)
    (R : Fin n → Fin n → Bool) (hR : ∀ x y, R x y = true ↔ f y < f x) (t : Fin n) :
    (sortedFrom R t).val = top n V t.val := by
  have e : R = fun x y => @decide (V y.val < V x.val) (Classical.dec _) := by
    funext x y
    rw [Bool.eq_iff_iff, hR, @decide_eq_true_iff _ (Classical.dec _), hV, hV]
  unfold top
  rw [dif_pos t.isLt, ← e]

/-- The host's comparison of two values. -/
theorem gt_iff (a b : EReal) : ((FloatOps.cmpfTotal (F := Ideal) (φ := .f32) .gt a b : BitVec 1) == 1#1) = true ↔ b < a := by
  rw [Ideal.cmpfTotal_def]
  simp only [Ideal.cmp, CmpDirection.ordered]
  by_cases h : b < a <;> simp [h]

theorem along4 (hd : 3 < S8x2x32768x128.rank) (g : Fin 8) (p : Fin 2) (c : Fin 32768) (u k : Fin 128) :
    ((ix4 g p c u : S8x2x32768x128.Idx).along ⟨3, hd⟩ k) = (ix4 g p c k : S8x2x32768x128.Idx) := by
  funext a
  match a with
  | ⟨0, _⟩ => rfl
  | ⟨1, _⟩ => rfl
  | ⟨2, _⟩ => rfl
  | ⟨3, _⟩ => rfl

theorem along3 (hd : 2 < S8x32768x256.rank) (g : Fin 8) (c : Fin 32768) (u k : Fin 256) :
    ((ix3 g c u : S8x32768x256.Idx).along ⟨2, hd⟩ k) = (ix3 g c k : S8x32768x256.Idx) := by
  funext a
  match a with
  | ⟨0, _⟩ => rfl
  | ⟨1, _⟩ => rfl
  | ⟨2, _⟩ => rfl

section four
variable (x : FVec Ideal S8x2x32768x128 .f32) (g : Fin 8) (p : Fin 2) (c : Fin 32768) (t : Fin 16)

/-- Entry `t` of a row whose values are `V`. -/
theorem order4 (V : ℕ → EReal) (hV : ∀ r : Fin 128, x (ix4 g p c r) = V r.val) : ∃ s : Fin 128, s.val = top 128 V t.val
    ∧ (Host.topK S8x2x32768x16 3 (FloatOps.cmpfTotal .gt) x sliceFits_S8x2x32768x128_S8x2x32768x16).1 (ix4 g p c t) = x (ix4 g p c s)
    ∧ (Host.topK S8x2x32768x16 3 (FloatOps.cmpfTotal .gt) x sliceFits_S8x2x32768x128_S8x2x32768x16).2 (ix4 g p c t) = BitVec.ofNat 32 s.val := by
  have hd : 3 < S8x2x32768x128.rank := by decide
  have hs : sortedFrom (n := 128) (fun k k' => (FloatOps.cmpfTotal (F := Ideal) (φ := .f32) .gt (x ((ix4 g p c (⟨t.val, by omega⟩ : Fin 128) : S8x2x32768x128.Idx).along ⟨3, hd⟩ k)) (x ((ix4 g p c (⟨t.val, by omega⟩ : Fin 128) : S8x2x32768x128.Idx).along ⟨3, hd⟩ k')) : BitVec 1) == 1#1) ⟨t.val, by omega⟩ = sortedFrom (n := 128) (fun k k' => (FloatOps.cmpfTotal (F := Ideal) (φ := .f32) .gt (x (ix4 g p c k)) (x (ix4 g p c k')) : BitVec 1) == 1#1) ⟨t.val, by omega⟩ := by
    refine congrArg (fun R => sortedFrom (n := 128) R ⟨t.val, by omega⟩) (funext fun k => funext fun k' => ?_)
    rw [along4 hd g p c _ k, along4 hd g p c _ k']
  have hq : (sortedFrom (n := 128) (fun k k' => (FloatOps.cmpfTotal (F := Ideal) (φ := .f32) .gt (x (ix4 g p c k)) (x (ix4 g p c k')) : BitVec 1) == 1#1) ⟨t.val, by omega⟩).val = top 128 V t.val :=
    sort_top (fun r : Fin 128 => x (ix4 g p c r)) V hV _ (fun _ _ => gt_iff _ _) ⟨t.val, by omega⟩
  revert hs hq
  generalize sortedFrom (n := 128) (fun k k' => (FloatOps.cmpfTotal (F := Ideal) (φ := .f32) .gt (x (ix4 g p c k)) (x (ix4 g p c k')) : BitVec 1) == 1#1) ⟨t.val, by omega⟩ = q
  intro hs hq
  refine ⟨q, hq, ?_, ?_⟩
  · have e : (Host.topK S8x2x32768x16 3 (FloatOps.cmpfTotal .gt) x sliceFits_S8x2x32768x128_S8x2x32768x16).1
        = extractStridedSlice S8x2x32768x16 (fun _ => 0) (fun j : S8x2x32768x128.Idx => x (j.along ⟨3, hd⟩ (sortedFrom (fun k k' => (FloatOps.cmpfTotal (F := Ideal) (φ := .f32) .gt (x (j.along ⟨3, hd⟩ k)) (x (j.along ⟨3, hd⟩ k')) : BitVec 1) == 1#1) (j ⟨3, hd⟩)))) sliceFits_S8x2x32768x128_S8x2x32768x16 := rfl
    rw [e]
    refine (extractStridedSlice_apply _ _ _ _ (ix4 g p c (⟨t.val, by omega⟩ : Fin 128) : S8x2x32768x128.Idx) (fun a => match a with
      | ⟨0, _⟩ => by show g.val = 0 + g.val; omega
      | ⟨1, _⟩ => by show p.val = 0 + p.val; omega
      | ⟨2, _⟩ => by show c.val = 0 + c.val; omega
      | ⟨3, _⟩ => by show t.val = 0 + t.val; omega)).trans ?_
    exact (congrArg (fun s : Fin 128 => x ((ix4 g p c (⟨t.val, by omega⟩ : Fin 128) : S8x2x32768x128.Idx).along ⟨3, hd⟩ s)) hs).trans (congrArg x (along4 hd g p c _ _))
  · have e : (Host.topK S8x2x32768x16 3 (FloatOps.cmpfTotal .gt) x sliceFits_S8x2x32768x128_S8x2x32768x16).2
        = extractStridedSlice S8x2x32768x16 (fun _ => 0) (fun j : S8x2x32768x128.Idx => (fun i => if hd : 3 < S8x2x32768x128.rank then iotaInDim S8x2x32768x128 32 ⟨3, hd⟩ i else 0#32 : IVec S8x2x32768x128 32) (j.along ⟨3, hd⟩ (sortedFrom (fun k k' => (FloatOps.cmpfTotal (F := Ideal) (φ := .f32) .gt (x (j.along ⟨3, hd⟩ k)) (x (j.along ⟨3, hd⟩ k')) : BitVec 1) == 1#1) (j ⟨3, hd⟩)))) sliceFits_S8x2x32768x128_S8x2x32768x16 := rfl
    rw [e]
    refine (extractStridedSlice_apply _ _ _ _ (ix4 g p c (⟨t.val, by omega⟩ : Fin 128) : S8x2x32768x128.Idx) (fun a => match a with
      | ⟨0, _⟩ => by show g.val = 0 + g.val; omega
      | ⟨1, _⟩ => by show p.val = 0 + p.val; omega
      | ⟨2, _⟩ => by show c.val = 0 + c.val; omega
      | ⟨3, _⟩ => by show t.val = 0 + t.val; omega)).trans ?_
    exact (congrArg (fun s : Fin 128 => (fun i => if hd : 3 < S8x2x32768x128.rank then iotaInDim S8x2x32768x128 32 ⟨3, hd⟩ i else 0#32 : IVec S8x2x32768x128 32) ((ix4 g p c (⟨t.val, by omega⟩ : Fin 128) : S8x2x32768x128.Idx).along ⟨3, hd⟩ s)) hs).trans (congrArg (fun i => if hd : 3 < S8x2x32768x128.rank then iotaInDim S8x2x32768x128 32 ⟨3, hd⟩ i else 0#32 : IVec S8x2x32768x128 32) (along4 hd g p c _ _))

end four

section three
variable (x : FVec Ideal S8x32768x256 .f32) (g : Fin 8) (c : Fin 32768) (t : Fin 16)

/-- Entry `t` of a row whose values are `V`. -/
theorem order3 (V : ℕ → EReal) (hV : ∀ r : Fin 256, x (ix3 g c r) = V r.val) : ∃ s : Fin 256, s.val = top 256 V t.val
    ∧ (Host.topK S8x32768x16 2 (FloatOps.cmpfTotal .gt) x sliceFits_S8x32768x256_S8x32768x16).1 (ix3 g c t) = x (ix3 g c s)
    ∧ (Host.topK S8x32768x16 2 (FloatOps.cmpfTotal .gt) x sliceFits_S8x32768x256_S8x32768x16).2 (ix3 g c t) = BitVec.ofNat 32 s.val := by
  have hd : 2 < S8x32768x256.rank := by decide
  have hs : sortedFrom (n := 256) (fun k k' => (FloatOps.cmpfTotal (F := Ideal) (φ := .f32) .gt (x ((ix3 g c (⟨t.val, by omega⟩ : Fin 256) : S8x32768x256.Idx).along ⟨2, hd⟩ k)) (x ((ix3 g c (⟨t.val, by omega⟩ : Fin 256) : S8x32768x256.Idx).along ⟨2, hd⟩ k')) : BitVec 1) == 1#1) ⟨t.val, by omega⟩ = sortedFrom (n := 256) (fun k k' => (FloatOps.cmpfTotal (F := Ideal) (φ := .f32) .gt (x (ix3 g c k)) (x (ix3 g c k')) : BitVec 1) == 1#1) ⟨t.val, by omega⟩ := by
    refine congrArg (fun R => sortedFrom (n := 256) R ⟨t.val, by omega⟩) (funext fun k => funext fun k' => ?_)
    rw [along3 hd g c _ k, along3 hd g c _ k']
  have hq : (sortedFrom (n := 256) (fun k k' => (FloatOps.cmpfTotal (F := Ideal) (φ := .f32) .gt (x (ix3 g c k)) (x (ix3 g c k')) : BitVec 1) == 1#1) ⟨t.val, by omega⟩).val = top 256 V t.val :=
    sort_top (fun r : Fin 256 => x (ix3 g c r)) V hV _ (fun _ _ => gt_iff _ _) ⟨t.val, by omega⟩
  revert hs hq
  generalize sortedFrom (n := 256) (fun k k' => (FloatOps.cmpfTotal (F := Ideal) (φ := .f32) .gt (x (ix3 g c k)) (x (ix3 g c k')) : BitVec 1) == 1#1) ⟨t.val, by omega⟩ = q
  intro hs hq
  refine ⟨q, hq, ?_, ?_⟩
  · have e : (Host.topK S8x32768x16 2 (FloatOps.cmpfTotal .gt) x sliceFits_S8x32768x256_S8x32768x16).1
        = extractStridedSlice S8x32768x16 (fun _ => 0) (fun j : S8x32768x256.Idx => x (j.along ⟨2, hd⟩ (sortedFrom (fun k k' => (FloatOps.cmpfTotal (F := Ideal) (φ := .f32) .gt (x (j.along ⟨2, hd⟩ k)) (x (j.along ⟨2, hd⟩ k')) : BitVec 1) == 1#1) (j ⟨2, hd⟩)))) sliceFits_S8x32768x256_S8x32768x16 := rfl
    rw [e]
    refine (extractStridedSlice_apply _ _ _ _ (ix3 g c (⟨t.val, by omega⟩ : Fin 256) : S8x32768x256.Idx) (fun a => match a with
      | ⟨0, _⟩ => by show g.val = 0 + g.val; omega
      | ⟨1, _⟩ => by show c.val = 0 + c.val; omega
      | ⟨2, _⟩ => by show t.val = 0 + t.val; omega)).trans ?_
    exact (congrArg (fun s : Fin 256 => x ((ix3 g c (⟨t.val, by omega⟩ : Fin 256) : S8x32768x256.Idx).along ⟨2, hd⟩ s)) hs).trans (congrArg x (along3 hd g c _ _))
  · have e : (Host.topK S8x32768x16 2 (FloatOps.cmpfTotal .gt) x sliceFits_S8x32768x256_S8x32768x16).2
        = extractStridedSlice S8x32768x16 (fun _ => 0) (fun j : S8x32768x256.Idx => (fun i => if hd : 2 < S8x32768x256.rank then iotaInDim S8x32768x256 32 ⟨2, hd⟩ i else 0#32 : IVec S8x32768x256 32) (j.along ⟨2, hd⟩ (sortedFrom (fun k k' => (FloatOps.cmpfTotal (F := Ideal) (φ := .f32) .gt (x (j.along ⟨2, hd⟩ k)) (x (j.along ⟨2, hd⟩ k')) : BitVec 1) == 1#1) (j ⟨2, hd⟩)))) sliceFits_S8x32768x256_S8x32768x16 := rfl
    rw [e]
    refine (extractStridedSlice_apply _ _ _ _ (ix3 g c (⟨t.val, by omega⟩ : Fin 256) : S8x32768x256.Idx) (fun a => match a with
      | ⟨0, _⟩ => by show g.val = 0 + g.val; omega
      | ⟨1, _⟩ => by show c.val = 0 + c.val; omega
      | ⟨2, _⟩ => by show t.val = 0 + t.val; omega)).trans ?_
    exact (congrArg (fun s : Fin 256 => (fun i => if hd : 2 < S8x32768x256.rank then iotaInDim S8x32768x256 32 ⟨2, hd⟩ i else 0#32 : IVec S8x32768x256 32) ((ix3 g c (⟨t.val, by omega⟩ : Fin 256) : S8x32768x256.Idx).along ⟨2, hd⟩ s)) hs).trans (congrArg (fun i => if hd : 2 < S8x32768x256.rank then iotaInDim S8x32768x256 32 ⟨2, hd⟩ i else 0#32 : IVec S8x32768x256 32) (along3 hd g c _ _))

end three

end Cert.Proof.ScoreTop

end
-- ==== Proof.ScoreSpec.lean ====
/-
  The scores of the layer's experts, as arrays: a row's queries against a head's two key sets; of their sums the sixteen
  best, their expert numbers, row offsets and gates.
-/
module

public import proofs.«01_k».proof.Proof.Best

@[expose] public section

noncomputable section

open Idealize.ShloMosaic

namespace Cert.Proof.ScoreSpec

open Best

/-- A finite sum of reals is a real. -/
theorem real_sum {n : ℕ} (f : Fin n → EReal) (hf : ∀ i, ∃ x : ℝ, f i = (x : EReal)) : ∃ x : ℝ, ∑ i, f i = (x : EReal) := by
  choose g hg using hf
  refine ⟨∑ i, g i, ?_⟩
  rw [Finset.sum_congr rfl fun i _ => hg i]
  induction (Finset.univ : Finset (Fin n)) using Finset.induction_on with
  | empty => simp
  | insert a s ha ih => rw [Finset.sum_insert ha, Finset.sum_insert ha, ih, EReal.coe_add]

/-- A product of reals is a real. -/
theorem real_mul (a b : EReal) (ha : ∃ x : ℝ, a = (x : EReal)) (hb : ∃ x : ℝ, b = (x : EReal)) : ∃ x : ℝ, a * b = (x : EReal) := by
  obtain ⟨x, rfl⟩ := ha
  obtain ⟨y, rfl⟩ := hb
  exact ⟨x * y, (EReal.coe_mul x y).symm⟩

/-- A real less itself is zero. -/
theorem real_sub (a : EReal) (ha : ∃ x : ℝ, a = (x : EReal)) : a - a = 0 := by
  obtain ⟨x, rfl⟩ := ha
  rw [← EReal.coe_sub, sub_self]; rfl

variable (h : FVec Ideal ⟨2, ![32768, 1024]⟩ .f32) (w : FVec Ideal ⟨2, ![1024, 1024]⟩ .f32) (sk : FVec Ideal ⟨4, ![8, 2, 128, 64]⟩ .f32)

/-- Lane `n` of row `c`'s queries. -/
def query (c : Fin 32768) (n : Fin 1024) : EReal := ∑ x : Fin 1024, w (ix2 x n) * h (ix2 c x)

/-- The score of row `c` against key `r` of head `g`'s set `p`. -/
def score (g : Fin 8) (p : Fin 2) (c : Fin 32768) (r : ℕ) : EReal :=
  if hr : r < 128 then ∑ d : Fin 64, sk (ix4 g p ⟨r, hr⟩ d) * query h w c (⟨(2 * g.val + p.val) * 64 + d.val, by omega⟩ : Fin 1024) else 0

/-- The number of the `t`-th expert of head `g`, row `c`. -/
def eid (g : Fin 8) (t : Fin 16) (c : Fin 32768) : BitVec 32 := BitVec.ofNat 32 (num (score h w sk g 0 c) (score h w sk g 1 c) t.val)

/-- Its row offset. -/
def off (g : Fin 8) (t : Fin 16) (c : Fin 32768) : BitVec 32 := IntOp.muli (IntOp.shrsi .vector (eid h w sk g t c) 1#32) 8#32

/-- Its gate. -/
def gate (g : Fin 8) (t : Fin 16) (c : Fin 32768) : EReal := wt (score h w sk g 0 c) (score h w sk g 1 c) t.val

/-- The three arrays are real. -/
structure Real : Prop where
  rows : ∀ i, ∃ x : ℝ, h i = (x : EReal)
  weights : ∀ i, ∃ x : ℝ, w i = (x : EReal)
  keys : ∀ i, ∃ x : ℝ, sk i = (x : EReal)

theorem query_real (H : Real h w sk) (c : Fin 32768) (n : Fin 1024) : ∃ x : ℝ, query h w c n = (x : EReal) :=
  real_sum _ fun _ => real_mul _ _ (H.weights _) (H.rows _)

theorem score_real (H : Real h w sk) (g : Fin 8) (p : Fin 2) (c : Fin 32768) (r : ℕ) : ∃ x : ℝ, score h w sk g p c r = (x : EReal) := by
  unfold score
  split
  · exact real_sum _ fun _ => real_mul _ _ (H.keys _) (query_real h w sk H _ _)
  · exact ⟨0, rfl⟩

end Cert.Proof.ScoreSpec

end
-- ==== Proof.ScoreRef.lean ====
/-
  The score reference read at an index: its three arrays hold the numbers, row offsets and gates of the sixteen best pairs
  of every head and row.
-/
module

public import proofs.«01_k».proof.Proof.ScoreTop
public import proofs.«01_k».proof.Proof.ScoreSpec

@[expose] public section

noncomputable section

open Idealize.ShloMosaic Idealize.ShloMosaic.TcCoe
open Cert.Reference4Ideal Cert.Reference4Ideal.Gen Cert.Reference4Ideal.Read

namespace Cert.Proof.ScoreRef

open Best ScoreTop ScoreSpec

variable (h : FVec Ideal ⟨2, ![32768, 1024]⟩ .f32) (w : FVec Ideal ⟨2, ![1024, 1024]⟩ .f32) (sk : FVec Ideal ⟨4, ![8, 2, 128, 64]⟩ .f32)

/-- The queries. -/
theorem query_apply (c : Fin 32768) (n : Fin 1024) : val_main_v0 (F := Ideal) h w (ix2 c n) = query h w c n := by
  rw [val_main_v0_apply]
  unfold query
  refine Finset.sum_congr rfl fun x _ => (mul_comm _ _).trans (congrArg₂ (· * ·) (congrArg w ?_) (congrArg h ?_))
  all_goals
    funext a
    match a with
    | ⟨0, _⟩ => rfl
    | ⟨1, _⟩ => rfl

/-- The scores. -/
theorem score_apply (g : Fin 8) (p : Fin 2) (c : Fin 32768) (r : Fin 128) :
    val_main_v2 (F := Ideal) h w sk (ix4 g p c r) = score h w sk g p c r.val := by
  rw [val_main_v2_apply]
  unfold score
  rw [dif_pos r.isLt]
  refine Finset.sum_congr rfl fun d _ => (mul_comm _ _).trans (congrArg₂ (· * ·) (congrArg sk ?_) ?_)
  · funext a
    match a with
    | ⟨0, _⟩ => rfl
    | ⟨1, _⟩ => rfl
    | ⟨2, _⟩ => rfl
    | ⟨3, _⟩ => rfl
  · rw [val_main_v1_apply]
    refine (congrArg _ (funext fun a => Fin.ext ?_)).trans (query_apply h w c (⟨(2 * g.val + p.val) * 64 + d.val, by omega⟩ : Fin 1024))
    match a with
    | ⟨0, _⟩ => show (((c.val * 8 + g.val) * 2 + p.val) * 64 + d.val) / 1024 = c.val; omega
    | ⟨1, _⟩ => show (((c.val * 8 + g.val) * 2 + p.val) * 64 + d.val) % 1024 = (2 * g.val + p.val) * 64 + d.val; omega

/-- A set's best scores. -/
theorem values_apply (g : Fin 8) (p : Fin 2) (c : Fin 32768) (t : Fin 16) :
    val_main_values (F := Ideal) h w sk (ix4 g p c t) = score h w sk g p c (top 128 (score h w sk g p c) t.val) := by
  obtain ⟨s, hs, h1, _⟩ := order4 (val_main_v2 (F := Ideal) h w sk) g p c t _ (score_apply h w sk g p c)
  rw [← hs]
  exact h1.trans (score_apply h w sk g p c s)

/-- Their keys. -/
theorem indices_apply (g : Fin 8) (p : Fin 2) (c : Fin 32768) (t : Fin 16) :
    val_main_indices (F := Ideal) h w sk (ix4 g p c t) = BitVec.ofNat 32 (top 128 (score h w sk g p c) t.val) := by
  obtain ⟨s, hs, _, h2⟩ := order4 (val_main_v2 (F := Ideal) h w sk) g p c t _ (score_apply h w sk g p c)
  rw [← hs]
  exact h2

variable (g : Fin 8) (c : Fin 32768)

/-- The sum of pair `j`. -/
theorem pair_apply (j : Fin 256) : val_main_v12 (F := Ideal) h w sk (ix3 g c j) = pair (score h w sk g 0 c) (score h w sk g 1 c) j.val := by
  rw [val_main_v12_apply, val_main_v11_apply, val_main_v9_apply, val_main_v10_apply, val_main_v5_apply, val_main_v8_apply,
    val_main_v4_apply, val_main_v7_apply, val_main_v3_apply, val_main_v6_apply, Ideal.addf_def]
  unfold pair
  refine congrArg₂ (· + ·) ((congrArg _ ?_).trans (values_apply h w sk g 0 c (⟨j.val / 16, by omega⟩ : Fin 16)))
    ((congrArg _ ?_).trans (values_apply h w sk g 1 c (⟨j.val % 16, by omega⟩ : Fin 16)))
  · refine funext fun a => Fin.ext ?_
    match a with
    | ⟨0, _⟩ => simp; omega
    | ⟨1, _⟩ => rfl
    | ⟨2, _⟩ => simp; omega
    | ⟨3, _⟩ => simp; omega
  · refine funext fun a => Fin.ext ?_
    match a with
    | ⟨0, _⟩ => simp; omega
    | ⟨1, _⟩ => rfl
    | ⟨2, _⟩ => simp; omega
    | ⟨3, _⟩ => simp; omega

/-- The expert number of pair `j`. -/
theorem number_apply (j : Fin 256) :
    val_main_v24 (F := Ideal) h w sk (ix3 g c j) = BitVec.ofNat 32 (numOf (score h w sk g 0 c) (score h w sk g 1 c) j.val) := by
  rw [val_main_v24_apply, val_main_v23_apply, val_main_v21_apply, val_main_v22_apply, val_main_v17_apply, val_main_v20_apply,
    val_main_v15_apply, val_main_v14_apply, val_main_v19_apply, val_main_v13_apply, val_main_v18_apply, val_main_v16_apply, val_main_c_apply]
  have b1 := top_lt 128 (score h w sk g 0 c) (j.val / 16) (by omega)
  have b2 := top_lt 128 (score h w sk g 1 c) (j.val % 16) (by omega)
  refine (congrArg₂ (fun a b => IntOp.addi (IntOp.muli a 128#32) b) ((congrArg _ ?_).trans (indices_apply h w sk g 0 c (⟨j.val / 16, by omega⟩ : Fin 16)))
    ((congrArg _ ?_).trans (indices_apply h w sk g 1 c (⟨j.val % 16, by omega⟩ : Fin 16)))).trans ?_
  · refine funext fun a => Fin.ext ?_
    match a with
    | ⟨0, _⟩ => simp; omega
    | ⟨1, _⟩ => rfl
    | ⟨2, _⟩ => simp; omega
    | ⟨3, _⟩ => simp; omega
  · refine funext fun a => Fin.ext ?_
    match a with
    | ⟨0, _⟩ => simp; omega
    | ⟨1, _⟩ => rfl
    | ⟨2, _⟩ => simp; omega
    | ⟨3, _⟩ => simp; omega
  · apply BitVec.eq_of_toNat_eq
    unfold numOf IntOp.addi IntOp.muli
    rw [BitVec.toNat_add, BitVec.toNat_mul]
    simp only [BitVec.toNat_ofNat]
    omega

variable (t : Fin 16)

/-- The best sums. -/
theorem best_apply : val_main_values_0 (F := Ideal) h w sk (ix3 g c t) = best (score h w sk g 0 c) (score h w sk g 1 c) t.val := by
  obtain ⟨s, hs, h1, _⟩ := order3 (val_main_v12 (F := Ideal) h w sk) g c t _ (pair_apply h w sk g c)
  unfold best pos
  rw [← hs]
  exact h1.trans (pair_apply h w sk g c s)

/-- Their places. -/
theorem pos_apply : val_main_indices_1 (F := Ideal) h w sk (ix3 g c t) = BitVec.ofNat 32 (pos (score h w sk g 0 c) (score h w sk g 1 c) t.val) := by
  obtain ⟨s, hs, _, h2⟩ := order3 (val_main_v12 (F := Ideal) h w sk) g c t _ (pair_apply h w sk g c)
  unfold pos
  rw [← hs]
  exact h2

/-- An array read along its last axis at given places, one list of places for every pair of leading coordinates: the entry at
    the place, which is read as a signed number and held inside the axis. -/
theorem gather_apply (x : IVec S8x32768x256 32) (idx : IVec S8x32768x16x1 32) :
    Host.gather gather_S8x32768x256_S8x32768x16x1_S8x32768x16_n_2_01_01_2_3_111 x idx (ix3 g c t)
      = x (ix3 g c (⟨min (idx (ix4 g c t (0 : Fin 1))).toInt.toNat 255, by omega⟩ : Fin 256)) := by
  unfold Host.gather
  refine congrArg x (funext fun a => Fin.ext ?_)
  show (gather_S8x32768x256_S8x32768x16x1_S8x32768x16_n_2_01_01_2_3_111).start (ix3 g c t) idx a
    + (gather_S8x32768x256_S8x32768x16x1_S8x32768x16_n_2_01_01_2_3_111).batchCoord (ix3 g c t) a
    + (gather_S8x32768x256_S8x32768x16x1_S8x32768x16_n_2_01_01_2_3_111).offCoord (ix3 g c t) a = _
  have b0 : (0 : Fin 3) ∈ (gather_S8x32768x256_S8x32768x16x1_S8x32768x16_n_2_01_01_2_3_111).operandBatchingDims := List.mem_cons_self
  have b1 : (1 : Fin 3) ∈ (gather_S8x32768x256_S8x32768x16x1_S8x32768x16_n_2_01_01_2_3_111).operandBatchingDims :=
    List.mem_cons_of_mem _ (List.mem_singleton.mpr rfl)
  have s2 : (2 : Fin 3) ∈ (gather_S8x32768x256_S8x32768x16x1_S8x32768x16_n_2_01_01_2_3_111).startIndexMap := List.mem_singleton.mpr rfl
  have h3 : a = 0 ∨ a = 1 ∨ a = 2 := by
    match a with
    | ⟨0, _⟩ => exact .inl rfl
    | ⟨1, _⟩ => exact .inr (.inl rfl)
    | ⟨2, _⟩ => exact .inr (.inr rfl)
  rcases h3 with rfl | rfl | rfl
  · rw [GatherDims.start_batching _ _ _ _ b0, GatherDims.offCoord_eq_zero _ _ _ (fun q => ((GatherDims.mem_sKept _ _).mp q).2 b0)]
    simp only [Nat.zero_add, Nat.add_zero]
    unfold GatherDims.batchCoord
    rw [dif_pos b0]
    rfl
  · rw [GatherDims.start_batching _ _ _ _ b1, GatherDims.offCoord_eq_zero _ _ _ (fun q => ((GatherDims.mem_sKept _ _).mp q).2 b1)]
    simp only [Nat.zero_add, Nat.add_zero]
    unfold GatherDims.batchCoord
    rw [dif_pos b1]
    rfl
  · rw [GatherDims.batchCoord_eq_zero _ _ _ (by decide),
      GatherDims.offCoord_eq_zero _ _ _ (fun q => ((GatherDims.mem_sKept _ _).mp q).1 (List.mem_singleton.mpr rfl))]
    simp only [Nat.add_zero]
    unfold GatherDims.start
    rw [dif_pos s2]
    have e : (gather_S8x32768x256_S8x32768x16x1_S8x32768x16_n_2_01_01_2_3_111).siIdx (ix3 g c t)
        ⟨List.idxOf (2 : Fin 3) (gather_S8x32768x256_S8x32768x16x1_S8x32768x16_n_2_01_01_2_3_111).startIndexMap,
          List.idxOf_lt_length_iff.2 s2⟩ = ix4 g c t (0 : Fin 1) := by
      funext b; refine Fin.ext ?_
      match b with
      | ⟨0, _⟩ => rfl
      | ⟨1, _⟩ => rfl
      | ⟨2, _⟩ => rfl
      | ⟨3, _⟩ => rfl
    rw [e]
    rfl

theorem pos_lt : pos (score h w sk g 0 c) (score h w sk g 1 c) t.val < 256 := top_lt 256 _ t.val (by omega)

/-- The place is no negative one, so it is read as it stands. -/
theorem place_apply : val_main_call0_v4 (F := Ideal) h w sk (ix3 g c t) = BitVec.ofNat 32 (pos (score h w sk g 0 c) (score h w sk g 1 c) t.val) := by
  have hp := pos_lt h w sk g c t
  rw [val_main_call0_v4_apply, val_main_call0_v1_apply, val_main_call0_v0_apply, val_main_call0_c_apply, pos_apply]
  generalize pos (score h w sk g 0 c) (score h w sk g 1 c) t.val = p at hp
  have : IntOp.cmpi .slt (BitVec.ofNat 32 p) 0#32 = 0#1 := by
    have q : (BitVec.ofNat 32 p).slt 0#32 = false := by
      rw [BitVec.slt_eq_decide, BitVec.toInt_eq_toNat_of_lt (by simp; omega)]
      simp
      omega
    unfold IntOp.cmpi
    simp [q]
  rw [this]
  rfl

/-- The same place with a last axis of one entry. -/
theorem place1_apply (z : Fin 1) : val_main_call0_v5 (F := Ideal) h w sk (ix4 g c t z)
    = BitVec.ofNat 32 (pos (score h w sk g 0 c) (score h w sk g 1 c) t.val) := by
  rw [val_main_call0_v5_apply]
  refine (congrArg (val_main_call0_v4 (F := Ideal) h w sk) (funext fun a => Fin.ext ?_)).trans (place_apply h w sk g c t)
  have hz : z.val = 0 := by omega
  match a with
  | ⟨0, _⟩ => show (((g.val * 32768 + c.val) * 16 + t.val) * 1 + z.val) / 524288 = g.val; omega
  | ⟨1, _⟩ => show (((g.val * 32768 + c.val) * 16 + t.val) * 1 + z.val) / 16 % 32768 = c.val; omega
  | ⟨2, _⟩ => show (((g.val * 32768 + c.val) * 16 + t.val) * 1 + z.val) % 16 = t.val; omega

/-- It lies inside the axis. -/
theorem inside_apply (z : Fin 1) : val_main_call0_v11 (F := Ideal) h w sk (ix4 g c t z) = 1#1 := by
  have hp := pos_lt h w sk g c t
  rw [val_main_call0_v11_apply, val_main_call0_v7_apply, val_main_call0_v10_apply, val_main_call0_v6_apply, val_main_call0_v9_apply,
    val_main_call0_v8_apply, val_main_call0_c_1_apply, val_main_call0_c_2_apply, place1_apply]
  generalize pos (score h w sk g 0 c) (score h w sk g 1 c) t.val = p at hp
  have e : (BitVec.ofNat 32 p).toInt = p := by
    rw [BitVec.toInt_eq_toNat_of_lt (by simp; omega)]
    simp; omega
  have q : (0#32).sle (BitVec.ofNat 32 p) = true := by
    rw [BitVec.sle_eq_decide, e]
    simp
  have r : (BitVec.ofNat 32 p).sle 255#32 = true := by
    rw [BitVec.sle_eq_decide, e]
    simp; omega
  unfold IntOp.cmpi
  simp [q, r, IntOp.andi]

theorem lift4 (x : IVec S8x32768x16x1 1) (hR : S8x32768x16x1.Reduces [3] S8x32768x16) :
    x ∘ hR.lift (ix3 g c t) = fun k : Fin 1 => x (ix4 g c t k) := by
  refine funext fun k => congrArg x (funext fun a => ?_)
  match a with
  | ⟨0, _⟩ => rfl
  | ⟨1, _⟩ => rfl
  | ⟨2, _⟩ => rfl
  | ⟨3, _⟩ => rfl

theorem mask_apply : val_main_call0_v12 (F := Ideal) h w sk (ix3 g c t) = 1#1 := by
  have hR : S8x32768x16x1.Reduces [3] S8x32768x16 := by decide
  have hv := inside_apply h w sk g c t
  have e := lift4 g c t (val_main_call0_v11 (F := Ideal) h w sk) hR
  unfold val_main_call0_v12
  revert hv e
  generalize val_main_call0_v11 (F := Ideal) h w sk = y
  intro hv e
  rw [Host.reduce_eq_fold_single IntOp.andi _ _ reducesTo_S8x32768x16x1_S8x32768x16_d3 hR, val_main_call0_c_3_apply, e]
  show (Finset.univ : Finset (Fin 1)).fold IntOp.andi 1#1 (fun k : Fin 1 => y (ix4 g c t k)) = 1#1
  rw [show (fun k : Fin 1 => y (ix4 g c t k)) = fun _ => 1#1 from funext hv]
  rfl

/-- The number of the `t`-th best pair: of the row's 256 numbers the one at its place. -/
theorem eid_apply : val_main_v25 (F := Ideal) h w sk (ix3 g c t) = eid h w sk g t c := by
  have hp := pos_lt h w sk g c t
  rw [val_main_v25_apply, mask_apply]
  show val_main_call0_v13 (F := Ideal) h w sk (ix3 g c t) = _
  have hi := place1_apply h w sk g c t 0
  have hn := number_apply h w sk g c
  unfold val_main_call0_v13
  revert hi hn
  generalize val_main_call0_v5 (F := Ideal) h w sk = idx
  generalize val_main_v24 (F := Ideal) h w sk = x
  intro hi hn
  rw [gather_apply, hn]
  unfold eid num
  have e : (BitVec.ofNat 32 (pos (score h w sk g 0 c) (score h w sk g 1 c) t.val)).toInt.toNat = pos (score h w sk g 0 c) (score h w sk g 1 c) t.val := by
    rw [BitVec.toInt_eq_toNat_of_lt (by simp; omega)]
    simp; omega
  simp only [hi, e]
  rw [Nat.min_eq_left (by omega)]

/-- The row's shift: its greatest sum. -/
theorem shift_apply : val_main_v28 (F := Ideal) h w sk (ix2 g c) = best (score h w sk g 0 c) (score h w sk g 1 c) 0 := by
  have hR : S8x32768x16.Reduces [2] S8x32768 := by decide
  have z : (FloatOps.ofBits (F := Ideal) .f32 0xFF800000#32) = (⊥ : EReal) := by
    show Ideal.ofBits .f32 0xFF800000#32 = ⊥
    simp [Ideal.ofBits, Ideal.ieee]
  have e : val_main_values_0 (F := Ideal) h w sk ∘ hR.lift (ix2 g c) = fun k : Fin 16 => best (score h w sk g 0 c) (score h w sk g 1 c) k.val := by
    refine funext fun k => (congrArg _ (funext fun a => ?_)).trans (best_apply h w sk g c k)
    match a with
    | ⟨0, _⟩ => rfl
    | ⟨1, _⟩ => rfl
    | ⟨2, _⟩ => rfl
  have le : ∀ k : Fin 16, best (score h w sk g 0 c) (score h w sk g 1 c) k.val ≤ best (score h w sk g 0 c) (score h w sk g 1 c) 0 := fun k =>
    (top_picks 256 (pair (score h w sk g 0 c) (score h w sk g 1 c)) 16 (by omega)).le (Nat.zero_le _) k.isLt
  rw [val_main_v28_apply, val_main_v27_apply, val_main_cst_2_apply, z, Ideal.maximumf_def, max_eq_right bot_le]
  unfold val_main_v26
  rw [Host.reduce_eq_fold_single (FloatOps.maximumf (F := Ideal) (φ := .f32)) _ _ reducesTo_S8x32768x16_S8x32768_d2 hR, val_main_cst_apply, z, e]
  show (Finset.univ : Finset (Fin 16)).fold max ⊥ (fun k : Fin 16 => best (score h w sk g 0 c) (score h w sk g 1 c) k.val) = _
  refine le_antisymm ?_ ?_
  · exact Finset.fold_max_le _ |>.mpr ⟨bot_le, fun k _ => le k⟩
  · exact Finset.le_fold_max _ |>.mpr (.inr ⟨0, Finset.mem_univ _, le_rfl⟩)

theorem exp_apply : val_main_v32 (F := Ideal) h w sk (ix3 g c t)
    = Ideal.exp (best (score h w sk g 0 c) (score h w sk g 1 c) t.val - best (score h w sk g 0 c) (score h w sk g 1 c) 0) := by
  rw [val_main_v32_apply, val_main_v31_apply, val_main_v30_apply, val_main_v29_apply, best_apply, Ideal.hostUnary_exp_def, Ideal.subf_def]
  refine congrArg (fun a => Ideal.exp (best (score h w sk g 0 c) (score h w sk g 1 c) t.val - a)) ((congrArg (val_main_v28 (F := Ideal) h w sk) (funext fun a => ?_)).trans (shift_apply h w sk g c))
  match a with
  | ⟨0, _⟩ => rfl
  | ⟨1, _⟩ => rfl

/-- The gate. -/
theorem gate_apply : val_main_v36 (F := Ideal) h w sk (ix3 g c t) = gate h w sk g t c := by
  rw [val_main_v36_apply, val_main_v35_apply, val_main_v34_apply, val_main_v33_apply, exp_apply, Ideal.hostDivf_def]
  unfold gate wt
  refine congrArg (Ideal.div _) ?_
  rw [val_main_cst_3_apply, show (FloatOps.ofBits (F := Ideal) .f32 0x00000000#32 : EReal) = 0 from Ideal.ofBits_zero_f32, zero_add]
  refine Finset.sum_congr rfl fun u _ => (congrArg (val_main_v32 (F := Ideal) h w sk) (funext fun a => ?_)).trans (exp_apply h w sk g c u)
  match a with
  | ⟨0, _⟩ => rfl
  | ⟨1, _⟩ => rfl
  | ⟨2, _⟩ => rfl

theorem result0 : val_main_v37 (F := Ideal) h w sk (ix3 g t c) = eid h w sk g t c := by
  rw [val_main_v37_apply]
  refine (congrArg (val_main_v25 (F := Ideal) h w sk) (funext fun a => ?_)).trans (eid_apply h w sk g c t)
  match a with
  | ⟨0, _⟩ => rfl
  | ⟨1, _⟩ => rfl
  | ⟨2, _⟩ => rfl

theorem result1 : val_main_v42 (F := Ideal) h w sk (ix3 g t c) = off h w sk g t c := by
  rw [val_main_v42_apply, val_main_v41_apply, val_main_v39_apply, val_main_v38_apply, val_main_v40_apply, val_main_c_4_apply, val_main_c_5_apply]
  unfold off
  refine congrArg (fun a => IntOp.muli (IntOp.shrsi .host a 1#32) 8#32) ((congrArg (val_main_v25 (F := Ideal) h w sk) (funext fun a => ?_)).trans (eid_apply h w sk g c t))
  match a with
  | ⟨0, _⟩ => rfl
  | ⟨1, _⟩ => rfl
  | ⟨2, _⟩ => rfl

theorem result2 : val_main_v43 (F := Ideal) h w sk (ix3 g t c) = gate h w sk g t c := by
  rw [val_main_v43_apply]
  refine (congrArg (val_main_v36 (F := Ideal) h w sk) (funext fun a => ?_)).trans (gate_apply h w sk g c t)
  match a with
  | ⟨0, _⟩ => rfl
  | ⟨1, _⟩ => rfl
  | ⟨2, _⟩ => rfl

end Cert.Proof.ScoreRef

end
-- ==== Proof.TopFold.lean ====
/-
  Every value the selection computes is the named step of it that it stands for.
-/
module

public import proofs.«01_k».proof.Proof.Top

@[expose] public section

noncomputable section

open Idealize.ShloMosaic Idealize.ShloMosaic.TcCoe
open Cert.Kernel4Ideal Cert.Kernel4Ideal.Gen

namespace Cert.Proof.Top.Fold

open Top

section

variable (s1 s2 : FVec Ideal S128x128 .f32)

theorem pay2 : k0_pay2 (gates s1 s2) = (liftf (gates s1 s2)) := rfl

theorem pay4 (v27 : Vec Ideal S1x128x64 .f32) (v30 : Vec Ideal S64x128 .f32) : k0_pay4 v27 v30 = (Rows.mx (Rows.st (k0_pay3 v27 v30) 0)) := rfl

theorem pay5 (v27 : Vec Ideal S1x128x64 .f32) (v30 : Vec Ideal S64x128 .f32) : k0_pay5 v27 v30 = (Rows.ix (Rows.st (k0_pay3 v27 v30) 0)) := by
  unfold k0_pay5
  simp only [pay4]
  rfl

theorem pay6 (v27 : Vec Ideal S1x128x64 .f32) (v30 : Vec Ideal S64x128 .f32) : k0_pay6 v27 v30 = (Rows.st (k0_pay3 v27 v30) 1) := by
  unfold k0_pay6
  simp only [pay5]
  rfl

theorem pay7 (v27 : Vec Ideal S1x128x64 .f32) (v30 : Vec Ideal S64x128 .f32) : k0_pay7 v27 v30 = (Rows.mx (Rows.st (k0_pay3 v27 v30) 1)) := by
  unfold k0_pay7
  simp only [pay6]
  rfl

theorem pay8 (v27 : Vec Ideal S1x128x64 .f32) (v30 : Vec Ideal S64x128 .f32) : k0_pay8 v27 v30 = (Rows.ix (Rows.st (k0_pay3 v27 v30) 1)) := by
  unfold k0_pay8
  simp only [pay7, pay6]
  rfl

theorem pay9 (v27 : Vec Ideal S1x128x64 .f32) (v30 : Vec Ideal S64x128 .f32) : k0_pay9 v27 v30 = (Rows.st (k0_pay3 v27 v30) 2) := by
  unfold k0_pay9
  simp only [pay8, pay6]
  rfl

theorem pay10 (v27 : Vec Ideal S1x128x64 .f32) (v30 : Vec Ideal S64x128 .f32) : k0_pay10 v27 v30 = (Rows.mx (Rows.st (k0_pay3 v27 v30) 2)) := by
  unfold k0_pay10
  simp only [pay9]
  rfl

theorem pay11 (v27 : Vec Ideal S1x128x64 .f32) (v30 : Vec Ideal S64x128 .f32) : k0_pay11 v27 v30 = (Rows.gt (Rows.st (k0_pay3 v27 v30) 2)) := by
  unfold k0_pay11
  simp only [pay10, pay9]
  rfl

theorem pay12 : k0_pay12 Rows.key (Rows.gt (Rows.st s1 2)) = (Rows.ix (Rows.st s1 2)) := rfl

theorem pay13 : k0_pay13 Rows.key (Rows.st s1 2) (Rows.gt (Rows.st s1 2)) = (Rows.st s1 3) := by
  unfold k0_pay13
  simp only [pay12]
  rfl

theorem pay14 : k0_pay14 Rows.key (Rows.st s1 2) (Rows.gt (Rows.st s1 2)) = (Rows.mx (Rows.st s1 3)) := by
  unfold k0_pay14
  simp only [pay13]
  rfl

theorem pay15 : k0_pay15 Rows.key (Rows.st s1 2) (Rows.gt (Rows.st s1 2)) = (Rows.ix (Rows.st s1 3)) := by
  unfold k0_pay15
  simp only [pay14, pay13]
  rfl

theorem pay16 : k0_pay16 Rows.key (Rows.st s1 2) (Rows.gt (Rows.st s1 2)) = (Rows.st s1 4) := by
  unfold k0_pay16
  simp only [pay15, pay13]
  rfl

theorem pay17 : k0_pay17 Rows.key (Rows.st s1 2) (Rows.gt (Rows.st s1 2)) = (Rows.mx (Rows.st s1 4)) := by
  unfold k0_pay17
  simp only [pay16]
  rfl

theorem pay18 : k0_pay18 Rows.key (Rows.st s1 2) (Rows.gt (Rows.st s1 2)) = (Rows.ix (Rows.st s1 4)) := by
  unfold k0_pay18
  simp only [pay17, pay16]
  rfl

theorem pay19 : k0_pay19 Rows.key (Rows.st s1 2) (Rows.gt (Rows.st s1 2)) = (Rows.st s1 5) := by
  unfold k0_pay19
  simp only [pay18, pay16]
  rfl

theorem pay20 : k0_pay20 Rows.key (Rows.st s1 2) (Rows.gt (Rows.st s1 2)) = (Rows.mx (Rows.st s1 5)) := by
  unfold k0_pay20
  simp only [pay19]
  rfl

theorem pay21 : k0_pay21 Rows.key (Rows.st s1 2) (Rows.gt (Rows.st s1 2)) = (Rows.ix (Rows.st s1 5)) := by
  unfold k0_pay21
  simp only [pay20, pay19]
  rfl

theorem pay22 : k0_pay22 Rows.key (Rows.st s1 2) (Rows.gt (Rows.st s1 2)) = (Rows.st s1 6) := by
  unfold k0_pay22
  simp only [pay21, pay19]
  rfl

theorem pay23 : k0_pay23 (Rows.st s1 6) = (Rows.mx (Rows.st s1 6)) := rfl

theorem pay24 : k0_pay24 Rows.key (Rows.st s1 6) = (Rows.ix (Rows.st s1 6)) := by
  unfold k0_pay24
  simp only [pay23]
  rfl

theorem pay25 : k0_pay25 Rows.key (Rows.st s1 6) = (Rows.st s1 7) := by
  unfold k0_pay25
  simp only [pay24]
  rfl

theorem pay26 : k0_pay26 Rows.key (Rows.st s1 6) = (Rows.mx (Rows.st s1 7)) := by
  unfold k0_pay26
  simp only [pay25]
  rfl

theorem pay27 : k0_pay27 Rows.key (Rows.st s1 6) = (Rows.ix (Rows.st s1 7)) := by
  unfold k0_pay27
  simp only [pay26, pay25]
  rfl

theorem pay28 : k0_pay28 Rows.key (Rows.st s1 6) = (Rows.st s1 8) := by
  unfold k0_pay28
  simp only [pay27, pay25]
  rfl

theorem pay29 : k0_pay29 Rows.key (Rows.st s1 6) = (Rows.mx (Rows.st s1 8)) := by
  unfold k0_pay29
  simp only [pay28]
  rfl

theorem pay30 : k0_pay30 Rows.key (Rows.st s1 6) = (Rows.ix (Rows.st s1 8)) := by
  unfold k0_pay30
  simp only [pay29, pay28]
  rfl

theorem pay31 : k0_pay31 Rows.key (Rows.st s1 6) = (Rows.st s1 9) := by
  unfold k0_pay31
  simp only [pay30, pay28]
  rfl

theorem pay32 : k0_pay32 Rows.key (Rows.st s1 6) = (Rows.mx (Rows.st s1 9)) := by
  unfold k0_pay32
  simp only [pay31]
  rfl

theorem pay33 : k0_pay33 Rows.key (Rows.st s1 6) = (Rows.ix (Rows.st s1 9)) := by
  unfold k0_pay33
  simp only [pay32, pay31]
  rfl

theorem pay34 : k0_pay34 Rows.key (Rows.st s1 6) = (Rows.em (Rows.st s1 9)) := by
  unfold k0_pay34
  simp only [pay33]
  rfl

theorem pay35 : k0_pay35 (Rows.st s1 9) (Rows.em (Rows.st s1 9)) = (Rows.st s1 10) := rfl

theorem pay36 : k0_pay36 (Rows.st s1 9) (Rows.em (Rows.st s1 9)) = (Rows.mx (Rows.st s1 10)) := by
  unfold k0_pay36
  simp only [pay35]
  rfl

theorem pay37 : k0_pay37 Rows.key (Rows.st s1 9) (Rows.em (Rows.st s1 9)) = (Rows.ix (Rows.st s1 10)) := by
  unfold k0_pay37
  simp only [pay36, pay35]
  rfl

theorem pay38 : k0_pay38 Rows.key (Rows.st s1 9) (Rows.em (Rows.st s1 9)) = (Rows.st s1 11) := by
  unfold k0_pay38
  simp only [pay37, pay35]
  rfl

theorem pay39 : k0_pay39 Rows.key (Rows.st s1 9) (Rows.em (Rows.st s1 9)) = (Rows.mx (Rows.st s1 11)) := by
  unfold k0_pay39
  simp only [pay38]
  rfl

theorem pay40 : k0_pay40 Rows.key (Rows.st s1 9) (Rows.em (Rows.st s1 9)) = (Rows.ix (Rows.st s1 11)) := by
  unfold k0_pay40
  simp only [pay39, pay38]
  rfl

theorem pay41 : k0_pay41 Rows.key (Rows.st s1 9) (Rows.em (Rows.st s1 9)) = (Rows.st s1 12) := by
  unfold k0_pay41
  simp only [pay40, pay38]
  rfl

theorem pay42 : k0_pay42 Rows.key (Rows.st s1 9) (Rows.em (Rows.st s1 9)) = (Rows.mx (Rows.st s1 12)) := by
  unfold k0_pay42
  simp only [pay41]
  rfl

theorem pay43 : k0_pay43 Rows.key (Rows.st s1 9) (Rows.em (Rows.st s1 9)) = (Rows.ix (Rows.st s1 12)) := by
  unfold k0_pay43
  simp only [pay42, pay41]
  rfl

theorem pay44 : k0_pay44 Rows.key (Rows.st s1 9) (Rows.em (Rows.st s1 9)) = (Rows.st s1 13) := by
  unfold k0_pay44
  simp only [pay43, pay41]
  rfl

theorem pay45 : k0_pay45 Rows.key (Rows.st s1 9) (Rows.em (Rows.st s1 9)) = (Rows.mx (Rows.st s1 13)) := by
  unfold k0_pay45
  simp only [pay44]
  rfl

theorem pay46 : k0_pay46 Rows.key (Rows.st s1 9) (Rows.em (Rows.st s1 9)) = (Rows.sl (Rows.st s1 13)) := by
  unfold k0_pay46
  simp only [pay45, pay44]
  rfl

theorem pay47 : k0_pay47 (Rows.sl (Rows.st s1 13)) = (Rows.ix (Rows.st s1 13)) := rfl

theorem pay48 : k0_pay48 Rows.key (Rows.st s1 13) (Rows.sl (Rows.st s1 13)) = (Rows.st s1 14) := by
  unfold k0_pay48
  simp only [pay47]
  rfl

theorem pay49 : k0_pay49 Rows.key (Rows.st s1 13) (Rows.sl (Rows.st s1 13)) = (Rows.mx (Rows.st s1 14)) := by
  unfold k0_pay49
  simp only [pay48]
  rfl

theorem pay50 : k0_pay50 Rows.key (Rows.st s1 13) (Rows.sl (Rows.st s1 13)) = (Rows.ix (Rows.st s1 14)) := by
  unfold k0_pay50
  simp only [pay49, pay48]
  rfl

theorem pay51 : k0_pay51 Rows.key (Rows.st s1 13) (Rows.sl (Rows.st s1 13)) = (Rows.st s1 15) := by
  unfold k0_pay51
  simp only [pay50, pay48]
  rfl

theorem pay52 : k0_pay52 Rows.key (Rows.st s1 13) (Rows.sl (Rows.st s1 13)) = (Rows.mx (Rows.st s1 15)) := by
  unfold k0_pay52
  simp only [pay51]
  rfl

theorem pay53 : k0_pay53 Rows.key (Rows.mx (Rows.st s1 0)) (Rows.mx (Rows.st s1 1)) (Rows.mx (Rows.st s1 2)) (Rows.mx (Rows.st s1 3)) (Rows.mx (Rows.st s1 4)) (Rows.mx (Rows.st s1 5)) (Rows.mx (Rows.st s1 6)) (Rows.mx (Rows.st s1 7)) (Rows.mx (Rows.st s1 8)) (Rows.mx (Rows.st s1 9)) (Rows.mx (Rows.st s1 10)) (Rows.mx (Rows.st s1 11)) (Rows.mx (Rows.st s1 12)) (Rows.st s1 13) (Rows.mx (Rows.st s1 13)) (Rows.sl (Rows.st s1 13)) = (Rows.tv s1) := by
  unfold k0_pay53
  simp only [pay49, pay52]
  rfl

theorem pay54 : k0_pay54 Rows.key (Rows.ix (Rows.st s1 0)) (Rows.ix (Rows.st s1 1)) (Rows.ix (Rows.st s1 2)) (Rows.ix (Rows.st s1 3)) (Rows.ix (Rows.st s1 4)) (Rows.ix (Rows.st s1 5)) (Rows.ix (Rows.st s1 6)) (Rows.ix (Rows.st s1 7)) (Rows.ix (Rows.st s1 8)) (Rows.ix (Rows.st s1 9)) (Rows.ix (Rows.st s1 10)) (Rows.ix (Rows.st s1 11)) (Rows.ix (Rows.st s1 12)) (Rows.st s1 13) (Rows.sl (Rows.st s1 13)) = (Rows.ti s1) := by
  unfold k0_pay54
  simp only [pay52, pay51, pay47, pay50]
  rfl

theorem pay55 (v230 : Vec Ideal S1x128x64 .f32) (v233 : Vec Ideal S64x128 .f32) : k0_pay55 v230 v233 = (k0_pay3 v230 v233) := rfl

theorem pay56 (v230 : Vec Ideal S1x128x64 .f32) (v233 : Vec Ideal S64x128 .f32) : k0_pay56 v230 v233 = (Rows.rm (Rows.st (k0_pay3 v230 v233) 0)) := by
  unfold k0_pay56
  simp only [pay55]
  rfl

theorem pay57 : k0_pay57 (Rows.rm (Rows.st s2 0)) = (Rows.mx (Rows.st s2 0)) := rfl

theorem pay58 : k0_pay58 s2 Rows.key (Rows.rm (Rows.st s2 0)) = (Rows.ix (Rows.st s2 0)) := by
  unfold k0_pay58
  simp only [pay57]
  rfl

theorem pay59 : k0_pay59 s2 Rows.key (Rows.rm (Rows.st s2 0)) = (Rows.st s2 1) := by
  unfold k0_pay59
  simp only [pay58]
  rfl

theorem pay60 : k0_pay60 s2 Rows.key (Rows.rm (Rows.st s2 0)) = (Rows.mx (Rows.st s2 1)) := by
  unfold k0_pay60
  simp only [pay59]
  rfl

theorem pay61 : k0_pay61 s2 Rows.key (Rows.rm (Rows.st s2 0)) = (Rows.ix (Rows.st s2 1)) := by
  unfold k0_pay61
  simp only [pay60, pay59]
  rfl

theorem pay62 : k0_pay62 s2 Rows.key (Rows.rm (Rows.st s2 0)) = (Rows.st s2 2) := by
  unfold k0_pay62
  simp only [pay61, pay59]
  rfl

theorem pay63 : k0_pay63 s2 Rows.key (Rows.rm (Rows.st s2 0)) = (Rows.mx (Rows.st s2 2)) := by
  unfold k0_pay63
  simp only [pay62]
  rfl

theorem pay64 : k0_pay64 s2 Rows.key (Rows.rm (Rows.st s2 0)) = (Rows.ix (Rows.st s2 2)) := by
  unfold k0_pay64
  simp only [pay63, pay62]
  rfl

theorem pay65 : k0_pay65 s2 Rows.key (Rows.rm (Rows.st s2 0)) = (Rows.st s2 3) := by
  unfold k0_pay65
  simp only [pay64, pay62]
  rfl

theorem pay66 : k0_pay66 s2 Rows.key (Rows.rm (Rows.st s2 0)) = (Rows.mx (Rows.st s2 3)) := by
  unfold k0_pay66
  simp only [pay65]
  rfl

theorem pay67 : k0_pay67 s2 Rows.key (Rows.rm (Rows.st s2 0)) = (Rows.ix (Rows.st s2 3)) := by
  unfold k0_pay67
  simp only [pay66, pay65]
  rfl

theorem pay68 : k0_pay68 s2 Rows.key (Rows.rm (Rows.st s2 0)) = (Rows.em (Rows.st s2 3)) := by
  unfold k0_pay68
  simp only [pay67]
  rfl

theorem pay69 : k0_pay69 (Rows.st s2 3) (Rows.em (Rows.st s2 3)) (Scalar.ofBits (F := Ideal) .f32 0xFF800000#32) = (Rows.st s2 4) := rfl

theorem pay70 : k0_pay70 (Rows.st s2 3) (Rows.em (Rows.st s2 3)) (Scalar.ofBits (F := Ideal) .f32 0xFF800000#32) = (Rows.mx (Rows.st s2 4)) := by
  unfold k0_pay70
  simp only [pay69]
  rfl

theorem pay71 : k0_pay71 Rows.key (Rows.st s2 3) (Rows.em (Rows.st s2 3)) (Scalar.ofBits (F := Ideal) .f32 0xFF800000#32) = (Rows.ix (Rows.st s2 4)) := by
  unfold k0_pay71
  simp only [pay70, pay69]
  rfl

theorem pay72 : k0_pay72 Rows.key (Rows.st s2 3) (Rows.em (Rows.st s2 3)) (Scalar.ofBits (F := Ideal) .f32 0xFF800000#32) = (Rows.st s2 5) := by
  unfold k0_pay72
  simp only [pay71, pay69]
  rfl

theorem pay73 : k0_pay73 Rows.key (Rows.st s2 3) (Rows.em (Rows.st s2 3)) (Scalar.ofBits (F := Ideal) .f32 0xFF800000#32) = (Rows.mx (Rows.st s2 5)) := by
  unfold k0_pay73
  simp only [pay72]
  rfl

theorem pay74 : k0_pay74 Rows.key (Rows.st s2 3) (Rows.em (Rows.st s2 3)) (Scalar.ofBits (F := Ideal) .f32 0xFF800000#32) = (Rows.ix (Rows.st s2 5)) := by
  unfold k0_pay74
  simp only [pay73, pay72]
  rfl

theorem pay75 : k0_pay75 Rows.key (Rows.st s2 3) (Rows.em (Rows.st s2 3)) (Scalar.ofBits (F := Ideal) .f32 0xFF800000#32) = (Rows.st s2 6) := by
  unfold k0_pay75
  simp only [pay74, pay72]
  rfl

theorem pay76 : k0_pay76 Rows.key (Rows.st s2 3) (Rows.em (Rows.st s2 3)) (Scalar.ofBits (F := Ideal) .f32 0xFF800000#32) = (Rows.mx (Rows.st s2 6)) := by
  unfold k0_pay76
  simp only [pay75]
  rfl

theorem pay77 : k0_pay77 Rows.key (Rows.st s2 3) (Rows.em (Rows.st s2 3)) (Scalar.ofBits (F := Ideal) .f32 0xFF800000#32) = (Rows.ix (Rows.st s2 6)) := by
  unfold k0_pay77
  simp only [pay76, pay75]
  rfl

theorem pay78 : k0_pay78 Rows.key (Rows.st s2 3) (Rows.em (Rows.st s2 3)) (Scalar.ofBits (F := Ideal) .f32 0xFF800000#32) = (Rows.st s2 7) := by
  unfold k0_pay78
  simp only [pay77, pay75]
  rfl

theorem pay79 : k0_pay79 Rows.key (Rows.st s2 3) (Rows.em (Rows.st s2 3)) (Scalar.ofBits (F := Ideal) .f32 0xFF800000#32) = (Rows.mx (Rows.st s2 7)) := by
  unfold k0_pay79
  simp only [pay78]
  rfl

theorem pay80 : k0_pay80 Rows.key (Rows.st s2 3) (Rows.em (Rows.st s2 3)) (Scalar.ofBits (F := Ideal) .f32 0xFF800000#32) = (Rows.rn (Rows.st s2 7)) := by
  unfold k0_pay80
  simp only [pay79, pay78]
  rfl

theorem pay81 : k0_pay81 (Rows.rn (Rows.st s2 7)) = (Rows.ix (Rows.st s2 7)) := rfl

theorem pay82 : k0_pay82 Rows.key (Rows.st s2 7) (Rows.rn (Rows.st s2 7)) = (Rows.st s2 8) := by
  unfold k0_pay82
  simp only [pay81]
  rfl

theorem pay83 : k0_pay83 Rows.key (Rows.st s2 7) (Rows.rn (Rows.st s2 7)) = (Rows.mx (Rows.st s2 8)) := by
  unfold k0_pay83
  simp only [pay82]
  rfl

theorem pay84 : k0_pay84 Rows.key (Rows.st s2 7) (Rows.rn (Rows.st s2 7)) = (Rows.ix (Rows.st s2 8)) := by
  unfold k0_pay84
  simp only [pay83, pay82]
  rfl

theorem pay85 : k0_pay85 Rows.key (Rows.st s2 7) (Rows.rn (Rows.st s2 7)) = (Rows.st s2 9) := by
  unfold k0_pay85
  simp only [pay84, pay82]
  rfl

theorem pay86 : k0_pay86 Rows.key (Rows.st s2 7) (Rows.rn (Rows.st s2 7)) = (Rows.mx (Rows.st s2 9)) := by
  unfold k0_pay86
  simp only [pay85]
  rfl

theorem pay87 : k0_pay87 Rows.key (Rows.st s2 7) (Rows.rn (Rows.st s2 7)) = (Rows.ix (Rows.st s2 9)) := by
  unfold k0_pay87
  simp only [pay86, pay85]
  rfl

theorem pay88 : k0_pay88 Rows.key (Rows.st s2 7) (Rows.rn (Rows.st s2 7)) = (Rows.st s2 10) := by
  unfold k0_pay88
  simp only [pay87, pay85]
  rfl

theorem pay89 : k0_pay89 Rows.key (Rows.st s2 7) (Rows.rn (Rows.st s2 7)) = (Rows.mx (Rows.st s2 10)) := by
  unfold k0_pay89
  simp only [pay88]
  rfl

theorem pay90 : k0_pay90 Rows.key (Rows.st s2 7) (Rows.rn (Rows.st s2 7)) = (Rows.ix (Rows.st s2 10)) := by
  unfold k0_pay90
  simp only [pay89, pay88]
  rfl

theorem pay91 : k0_pay91 Rows.key (Rows.st s2 7) (Rows.rn (Rows.st s2 7)) = (Rows.st s2 11) := by
  unfold k0_pay91
  simp only [pay90, pay88]
  rfl

theorem pay92 : k0_pay92 Rows.key (Rows.st s2 7) (Rows.rn (Rows.st s2 7)) = (Rows.mx (Rows.st s2 11)) := by
  unfold k0_pay92
  simp only [pay91]
  rfl

theorem pay93 : k0_pay93 Rows.key (Rows.st s2 7) (Rows.rn (Rows.st s2 7)) = (Rows.gt (Rows.st s2 11)) := by
  unfold k0_pay93
  simp only [pay92, pay91]
  rfl

theorem pay94 : k0_pay94 Rows.key (Rows.gt (Rows.st s2 11)) 1073741824#32 = (Rows.ix (Rows.st s2 11)) := rfl

theorem pay95 : k0_pay95 Rows.key (Rows.st s2 11) (Rows.gt (Rows.st s2 11)) 1073741824#32 = (Rows.st s2 12) := by
  unfold k0_pay95
  simp only [pay94]
  rfl

theorem pay96 : k0_pay96 Rows.key (Rows.st s2 11) (Rows.gt (Rows.st s2 11)) 1073741824#32 = (Rows.mx (Rows.st s2 12)) := by
  unfold k0_pay96
  simp only [pay95]
  rfl

theorem pay97 : k0_pay97 Rows.key (Rows.st s2 11) (Rows.gt (Rows.st s2 11)) 1073741824#32 = (Rows.ix (Rows.st s2 12)) := by
  unfold k0_pay97
  simp only [pay96, pay95]
  rfl

theorem pay98 : k0_pay98 Rows.key (Rows.st s2 11) (Rows.gt (Rows.st s2 11)) 1073741824#32 = (Rows.st s2 13) := by
  unfold k0_pay98
  simp only [pay97, pay95]
  rfl

theorem pay99 : k0_pay99 Rows.key (Rows.st s2 11) (Rows.gt (Rows.st s2 11)) 1073741824#32 = (Rows.mx (Rows.st s2 13)) := by
  unfold k0_pay99
  simp only [pay98]
  rfl

theorem pay100 : k0_pay100 Rows.key (Rows.st s2 11) (Rows.gt (Rows.st s2 11)) 1073741824#32 = (Rows.ix (Rows.st s2 13)) := by
  unfold k0_pay100
  simp only [pay99, pay98]
  rfl

theorem pay101 : k0_pay101 Rows.key (Rows.st s2 11) (Rows.gt (Rows.st s2 11)) 1073741824#32 = (Rows.st s2 14) := by
  unfold k0_pay101
  simp only [pay100, pay98]
  rfl

theorem pay102 : k0_pay102 Rows.key (Rows.st s2 11) (Rows.gt (Rows.st s2 11)) 1073741824#32 = (Rows.mx (Rows.st s2 14)) := by
  unfold k0_pay102
  simp only [pay101]
  rfl

theorem pay103 : k0_pay103 Rows.key (Rows.st s2 11) (Rows.gt (Rows.st s2 11)) 1073741824#32 = (Rows.ix (Rows.st s2 14)) := by
  unfold k0_pay103
  simp only [pay102, pay101]
  rfl

theorem pay104 : k0_pay104 Rows.key (Rows.st s2 11) (Rows.gt (Rows.st s2 11)) 1073741824#32 = (Rows.st s2 15) := by
  unfold k0_pay104
  simp only [pay103, pay101]
  rfl

theorem pay105 : k0_pay105 Rows.key (Rows.st s2 11) (Rows.gt (Rows.st s2 11)) 1073741824#32 = (Rows.rm (Rows.st s2 15)) := by
  unfold k0_pay105
  simp only [pay104]
  rfl

theorem pay106 : k0_pay106 (Rows.rm (Rows.st s2 15)) = (Rows.mx (Rows.st s2 15)) := rfl

theorem pay107 : k0_pay107 (Rows.mx (Rows.st s2 0)) (Rows.mx (Rows.st s2 1)) (Rows.mx (Rows.st s2 2)) (Rows.mx (Rows.st s2 3)) (Rows.mx (Rows.st s2 4)) (Rows.mx (Rows.st s2 5)) (Rows.mx (Rows.st s2 6)) (Rows.mx (Rows.st s2 7)) (Rows.mx (Rows.st s2 8)) (Rows.mx (Rows.st s2 9)) (Rows.mx (Rows.st s2 10)) (Rows.mx (Rows.st s2 11)) (Rows.mx (Rows.st s2 12)) (Rows.mx (Rows.st s2 13)) (Rows.mx (Rows.st s2 14)) (Rows.rm (Rows.st s2 15)) = (Rows.tv s2) := by
  unfold k0_pay107
  simp only [pay106]
  rfl

theorem pay108 : k0_pay108 Rows.key (Rows.ix (Rows.st s2 0)) (Rows.ix (Rows.st s2 1)) (Rows.ix (Rows.st s2 2)) (Rows.ix (Rows.st s2 3)) (Rows.ix (Rows.st s2 4)) (Rows.ix (Rows.st s2 5)) (Rows.ix (Rows.st s2 6)) (Rows.ix (Rows.st s2 7)) (Rows.ix (Rows.st s2 8)) (Rows.ix (Rows.st s2 9)) (Rows.ix (Rows.st s2 10)) (Rows.ix (Rows.st s2 11)) (Rows.ix (Rows.st s2 12)) (Rows.ix (Rows.st s2 13)) (Rows.ix (Rows.st s2 14)) (Rows.st s2 15) (Rows.rm (Rows.st s2 15)) = (Rows.ti s2) := by
  unfold k0_pay108
  simp only [pay106]
  rfl

theorem pay109 : k0_pay109 (Rows.tv s1) (Rows.mx (Rows.st s2 0)) (Rows.mx (Rows.st s2 1)) (Rows.mx (Rows.st s2 2)) (Rows.mx (Rows.st s2 3)) (Rows.mx (Rows.st s2 4)) (Rows.mx (Rows.st s2 5)) (Rows.mx (Rows.st s2 6)) (Rows.mx (Rows.st s2 7)) (Rows.mx (Rows.st s2 8)) (Rows.mx (Rows.st s2 9)) (Rows.mx (Rows.st s2 10)) (Rows.mx (Rows.st s2 11)) (Rows.mx (Rows.st s2 12)) (Rows.mx (Rows.st s2 13)) (Rows.mx (Rows.st s2 14)) (Rows.rm (Rows.st s2 15)) = (cs0 (Rows.tv s1) (Rows.tv s2)) := by
  unfold k0_pay109
  simp only [pay107]
  rfl

theorem pay110 : k0_pay110 = ck0 := rfl

theorem pay111 : k0_pay111 (Rows.ti s1) Rows.key (Rows.ix (Rows.st s2 0)) (Rows.ix (Rows.st s2 1)) (Rows.ix (Rows.st s2 2)) (Rows.ix (Rows.st s2 3)) (Rows.ix (Rows.st s2 4)) (Rows.ix (Rows.st s2 5)) (Rows.ix (Rows.st s2 6)) (Rows.ix (Rows.st s2 7)) (Rows.ix (Rows.st s2 8)) (Rows.ix (Rows.st s2 9)) (Rows.ix (Rows.st s2 10)) (Rows.ix (Rows.st s2 11)) (Rows.ix (Rows.st s2 12)) (Rows.ix (Rows.st s2 13)) (Rows.ix (Rows.st s2 14)) (Rows.st s2 15) (Rows.rm (Rows.st s2 15)) = (ci0 (Rows.ti s1) (Rows.ti s2)) := by
  unfold k0_pay111
  simp only [pay108]
  rfl

theorem pay112 : k0_pay112 (Rows.tv s1) (Rows.mx (Rows.st s2 0)) (Rows.mx (Rows.st s2 1)) (Rows.mx (Rows.st s2 2)) (Rows.mx (Rows.st s2 3)) (Rows.mx (Rows.st s2 4)) (Rows.mx (Rows.st s2 5)) (Rows.mx (Rows.st s2 6)) (Rows.mx (Rows.st s2 7)) (Rows.mx (Rows.st s2 8)) (Rows.mx (Rows.st s2 9)) (Rows.mx (Rows.st s2 10)) (Rows.mx (Rows.st s2 11)) (Rows.mx (Rows.st s2 12)) (Rows.mx (Rows.st s2 13)) (Rows.mx (Rows.st s2 14)) (Rows.rm (Rows.st s2 15)) = (cs1 (Rows.tv s1) (Rows.tv s2)) := by
  unfold k0_pay112
  simp only [pay107]
  rfl

theorem pay113 : k0_pay113 = ck1 := rfl

theorem pay114 : k0_pay114 (Rows.ti s1) Rows.key (Rows.ix (Rows.st s2 0)) (Rows.ix (Rows.st s2 1)) (Rows.ix (Rows.st s2 2)) (Rows.ix (Rows.st s2 3)) (Rows.ix (Rows.st s2 4)) (Rows.ix (Rows.st s2 5)) (Rows.ix (Rows.st s2 6)) (Rows.ix (Rows.st s2 7)) (Rows.ix (Rows.st s2 8)) (Rows.ix (Rows.st s2 9)) (Rows.ix (Rows.st s2 10)) (Rows.ix (Rows.st s2 11)) (Rows.ix (Rows.st s2 12)) (Rows.ix (Rows.st s2 13)) (Rows.ix (Rows.st s2 14)) (Rows.st s2 15) (Rows.rm (Rows.st s2 15)) = (ci1 (Rows.ti s1) (Rows.ti s2)) := by
  unfold k0_pay114
  simp only [pay108]
  rfl

theorem pay115 : k0_pay115 (Rows.tv s1) (Rows.mx (Rows.st s2 0)) (Rows.mx (Rows.st s2 1)) (Rows.mx (Rows.st s2 2)) (Rows.mx (Rows.st s2 3)) (Rows.mx (Rows.st s2 4)) (Rows.mx (Rows.st s2 5)) (Rows.mx (Rows.st s2 6)) (Rows.mx (Rows.st s2 7)) (Rows.mx (Rows.st s2 8)) (Rows.mx (Rows.st s2 9)) (Rows.mx (Rows.st s2 10)) (Rows.mx (Rows.st s2 11)) (Rows.mx (Rows.st s2 12)) (Rows.mx (Rows.st s2 13)) (Rows.mx (Rows.st s2 14)) (Rows.rm (Rows.st s2 15)) = (cs2 (Rows.tv s1) (Rows.tv s2)) := by
  unfold k0_pay115
  simp only [pay107]
  rfl

theorem pay116 : k0_pay116 = ck2 := rfl

theorem pay117 : k0_pay117 (Rows.ti s1) (Rows.ti s2) = (ci2 (Rows.ti s1) (Rows.ti s2)) := rfl

theorem pay118 : k0_pay118 (Rows.tv s1) (Rows.tv s2) rank = (cs3 (Rows.tv s1) (Rows.tv s2)) := rfl

theorem pay119 : k0_pay119 rank = ck3 := rfl

theorem pay120 : k0_pay120 (Rows.ti s1) (Rows.ti s2) = (ci3 (Rows.ti s1) (Rows.ti s2)) := rfl

theorem pay121 : k0_pay121 (Rows.tv s1) (Rows.tv s2) rank = (cs4 (Rows.tv s1) (Rows.tv s2)) := rfl

theorem pay122 : k0_pay122 rank = ck4 := rfl

theorem pay123 : k0_pay123 (Rows.ti s1) (Rows.ti s2) = (ci4 (Rows.ti s1) (Rows.ti s2)) := rfl

theorem pay124 : k0_pay124 rank = ok5 := rfl

theorem pay125 : k0_pay125 (Rows.tv s1) (Rows.tv s2) rank (cs0 (Rows.tv s1) (Rows.tv s2)) (cs1 (Rows.tv s1) (Rows.tv s2)) (cs2 (Rows.tv s1) (Rows.tv s2)) (cs3 (Rows.tv s1) (Rows.tv s2)) (cs4 (Rows.tv s1) (Rows.tv s2)) ok5 = (cand s1 s2) := rfl

theorem pay126 : k0_pay126 rank ck0 ck1 ck2 ck3 ck4 = flat := rfl

theorem pay127 : k0_pay127 (Rows.ti s1) (Rows.ti s2) (ci0 (Rows.ti s1) (Rows.ti s2)) (ci1 (Rows.ti s1) (Rows.ti s2)) (ci2 (Rows.ti s1) (Rows.ti s2)) (ci3 (Rows.ti s1) (Rows.ti s2)) (ci4 (Rows.ti s1) (Rows.ti s2)) = (cid s1 s2) := rfl

theorem pay128 : k0_pay128 (Rows.tv s1) (Rows.tv s2) rank (cs0 (Rows.tv s1) (Rows.tv s2)) (cs1 (Rows.tv s1) (Rows.tv s2)) (cs2 (Rows.tv s1) (Rows.tv s2)) (cs3 (Rows.tv s1) (Rows.tv s2)) (cs4 (Rows.tv s1) (Rows.tv s2)) ok5 = (Cand.mx (Cand.st (cand s1 s2) 0)) := by
  unfold k0_pay128
  simp only [pay125]
  rfl

theorem pay129 : k0_pay129 (Rows.tv s1) (Rows.tv s2) rank (cs0 (Rows.tv s1) (Rows.tv s2)) ck0 (cs1 (Rows.tv s1) (Rows.tv s2)) ck1 (cs2 (Rows.tv s1) (Rows.tv s2)) ck2 (cs3 (Rows.tv s1) (Rows.tv s2)) ck3 (cs4 (Rows.tv s1) (Rows.tv s2)) ck4 ok5 = (Cand.ix (Cand.st (cand s1 s2) 0)) := by
  unfold k0_pay129
  simp only [pay128, pay125, pay126]
  rfl

theorem pay130 : k0_pay130 (Rows.tv s1) (Rows.tv s2) rank (cs0 (Rows.tv s1) (Rows.tv s2)) ck0 (cs1 (Rows.tv s1) (Rows.tv s2)) ck1 (cs2 (Rows.tv s1) (Rows.tv s2)) ck2 (cs3 (Rows.tv s1) (Rows.tv s2)) ck3 (cs4 (Rows.tv s1) (Rows.tv s2)) ck4 ok5 = (Cand.bi (Cand.st (cand s1 s2) 0)) := by
  unfold k0_pay130
  simp only [pay129]
  rfl

theorem pay131 : k0_pay131 (cand s1 s2) flat (Cand.bi (Cand.st (cand s1 s2) 0)) = (Cand.st (cand s1 s2) 1) := rfl

theorem pay132 : k0_pay132 (cand s1 s2) flat (Cand.bi (Cand.st (cand s1 s2) 0)) = (Cand.mx (Cand.st (cand s1 s2) 1)) := by
  unfold k0_pay132
  simp only [pay131]
  rfl

theorem pay133 : k0_pay133 (cand s1 s2) flat (Cand.bi (Cand.st (cand s1 s2) 0)) = (Cand.ix (Cand.st (cand s1 s2) 1)) := by
  unfold k0_pay133
  simp only [pay132, pay131]
  rfl

theorem pay134 : k0_pay134 (cand s1 s2) flat (Cand.bi (Cand.st (cand s1 s2) 0)) = (Cand.st (cand s1 s2) 2) := by
  unfold k0_pay134
  simp only [pay133, pay131]
  rfl

theorem pay135 : k0_pay135 (cand s1 s2) flat (Cand.bi (Cand.st (cand s1 s2) 0)) = (Cand.mx (Cand.st (cand s1 s2) 2)) := by
  unfold k0_pay135
  simp only [pay134]
  rfl

theorem pay136 : k0_pay136 (cand s1 s2) flat (Cand.bi (Cand.st (cand s1 s2) 0)) = (Cand.ix (Cand.st (cand s1 s2) 2)) := by
  unfold k0_pay136
  simp only [pay135, pay134]
  rfl

theorem pay137 : k0_pay137 (cand s1 s2) flat (Cand.bi (Cand.st (cand s1 s2) 0)) = (Cand.st (cand s1 s2) 3) := by
  unfold k0_pay137
  simp only [pay136, pay134]
  rfl

theorem pay138 : k0_pay138 (cand s1 s2) flat (Cand.bi (Cand.st (cand s1 s2) 0)) = (Cand.mx (Cand.st (cand s1 s2) 3)) := by
  unfold k0_pay138
  simp only [pay137]
  rfl

theorem pay139 : k0_pay139 (cand s1 s2) flat (Cand.bi (Cand.st (cand s1 s2) 0)) = (Cand.ix (Cand.st (cand s1 s2) 3)) := by
  unfold k0_pay139
  simp only [pay138, pay137]
  rfl

theorem pay140 : k0_pay140 (cand s1 s2) flat (Cand.bi (Cand.st (cand s1 s2) 0)) = (Cand.st (cand s1 s2) 4) := by
  unfold k0_pay140
  simp only [pay139, pay137]
  rfl

theorem pay141 : k0_pay141 (cand s1 s2) flat (Cand.bi (Cand.st (cand s1 s2) 0)) = (Cand.mx (Cand.st (cand s1 s2) 4)) := by
  unfold k0_pay141
  simp only [pay140]
  rfl

theorem pay142 : k0_pay142 (cand s1 s2) flat (Cand.bi (Cand.st (cand s1 s2) 0)) = (Cand.sl (Cand.st (cand s1 s2) 4)) := by
  unfold k0_pay142
  simp only [pay141, pay140]
  rfl

theorem pay143 : k0_pay143 (Cand.sl (Cand.st (cand s1 s2) 4)) = (Cand.ix (Cand.st (cand s1 s2) 4)) := rfl

theorem pay144 : k0_pay144 flat (Cand.st (cand s1 s2) 4) (Cand.sl (Cand.st (cand s1 s2) 4)) = (Cand.st (cand s1 s2) 5) := by
  unfold k0_pay144
  simp only [pay143]
  rfl

theorem pay145 : k0_pay145 flat (Cand.st (cand s1 s2) 4) (Cand.sl (Cand.st (cand s1 s2) 4)) = (Cand.mx (Cand.st (cand s1 s2) 5)) := by
  unfold k0_pay145
  simp only [pay144]
  rfl

theorem pay146 : k0_pay146 flat (Cand.st (cand s1 s2) 4) (Cand.sl (Cand.st (cand s1 s2) 4)) = (Cand.ix (Cand.st (cand s1 s2) 5)) := by
  unfold k0_pay146
  simp only [pay145, pay144]
  rfl

theorem pay147 : k0_pay147 flat (Cand.st (cand s1 s2) 4) (Cand.sl (Cand.st (cand s1 s2) 4)) = (Cand.st (cand s1 s2) 6) := by
  unfold k0_pay147
  simp only [pay146, pay144]
  rfl

theorem pay148 : k0_pay148 flat (Cand.st (cand s1 s2) 4) (Cand.sl (Cand.st (cand s1 s2) 4)) = (Cand.mx (Cand.st (cand s1 s2) 6)) := by
  unfold k0_pay148
  simp only [pay147]
  rfl

theorem pay149 : k0_pay149 flat (Cand.st (cand s1 s2) 4) (Cand.sl (Cand.st (cand s1 s2) 4)) = (Cand.ix (Cand.st (cand s1 s2) 6)) := by
  unfold k0_pay149
  simp only [pay148, pay147]
  rfl

theorem pay150 : k0_pay150 flat (Cand.st (cand s1 s2) 4) (Cand.sl (Cand.st (cand s1 s2) 4)) = (Cand.st (cand s1 s2) 7) := by
  unfold k0_pay150
  simp only [pay149, pay147]
  rfl

theorem pay151 : k0_pay151 flat (Cand.st (cand s1 s2) 4) (Cand.sl (Cand.st (cand s1 s2) 4)) = (Cand.mx (Cand.st (cand s1 s2) 7)) := by
  unfold k0_pay151
  simp only [pay150]
  rfl

theorem pay152 : k0_pay152 flat (Cand.st (cand s1 s2) 4) (Cand.sl (Cand.st (cand s1 s2) 4)) = (Cand.ix (Cand.st (cand s1 s2) 7)) := by
  unfold k0_pay152
  simp only [pay151, pay150]
  rfl

theorem pay153 : k0_pay153 flat (Cand.st (cand s1 s2) 4) (Cand.sl (Cand.st (cand s1 s2) 4)) = (Cand.st (cand s1 s2) 8) := by
  unfold k0_pay153
  simp only [pay152, pay150]
  rfl

theorem pay154 : k0_pay154 flat (Cand.st (cand s1 s2) 4) (Cand.sl (Cand.st (cand s1 s2) 4)) = (Cand.mx (Cand.st (cand s1 s2) 8)) := by
  unfold k0_pay154
  simp only [pay153]
  rfl

theorem pay155 : k0_pay155 flat (Cand.st (cand s1 s2) 4) (Cand.sl (Cand.st (cand s1 s2) 4)) = (Cand.bx (Cand.st (cand s1 s2) 8)) := by
  unfold k0_pay155
  simp only [pay154]
  rfl

theorem pay156 : k0_pay156 flat (Cand.st (cand s1 s2) 8) (Cand.bx (Cand.st (cand s1 s2) 8)) = (Cand.ix (Cand.st (cand s1 s2) 8)) := rfl

theorem pay157 : k0_pay157 flat (Cand.st (cand s1 s2) 8) (Cand.bx (Cand.st (cand s1 s2) 8)) = (Cand.st (cand s1 s2) 9) := by
  unfold k0_pay157
  simp only [pay156]
  rfl

theorem pay158 : k0_pay158 flat (Cand.st (cand s1 s2) 8) (Cand.bx (Cand.st (cand s1 s2) 8)) = (Cand.mx (Cand.st (cand s1 s2) 9)) := by
  unfold k0_pay158
  simp only [pay157]
  rfl

theorem pay159 : k0_pay159 flat (Cand.st (cand s1 s2) 8) (Cand.bx (Cand.st (cand s1 s2) 8)) = (Cand.ix (Cand.st (cand s1 s2) 9)) := by
  unfold k0_pay159
  simp only [pay158, pay157]
  rfl

theorem pay160 : k0_pay160 flat (Cand.st (cand s1 s2) 8) (Cand.bx (Cand.st (cand s1 s2) 8)) = (Cand.st (cand s1 s2) 10) := by
  unfold k0_pay160
  simp only [pay159, pay157]
  rfl

theorem pay161 : k0_pay161 flat (Cand.st (cand s1 s2) 8) (Cand.bx (Cand.st (cand s1 s2) 8)) = (Cand.mx (Cand.st (cand s1 s2) 10)) := by
  unfold k0_pay161
  simp only [pay160]
  rfl

theorem pay162 : k0_pay162 flat (Cand.st (cand s1 s2) 8) (Cand.bx (Cand.st (cand s1 s2) 8)) = (Cand.ix (Cand.st (cand s1 s2) 10)) := by
  unfold k0_pay162
  simp only [pay161, pay160]
  rfl

theorem pay163 : k0_pay163 flat (Cand.st (cand s1 s2) 8) (Cand.bx (Cand.st (cand s1 s2) 8)) = (Cand.st (cand s1 s2) 11) := by
  unfold k0_pay163
  simp only [pay162, pay160]
  rfl

theorem pay164 : k0_pay164 flat (Cand.st (cand s1 s2) 8) (Cand.bx (Cand.st (cand s1 s2) 8)) = (Cand.mx (Cand.st (cand s1 s2) 11)) := by
  unfold k0_pay164
  simp only [pay163]
  rfl

theorem pay165 : k0_pay165 flat (Cand.st (cand s1 s2) 8) (Cand.bx (Cand.st (cand s1 s2) 8)) = (Cand.ix (Cand.st (cand s1 s2) 11)) := by
  unfold k0_pay165
  simp only [pay164, pay163]
  rfl

theorem pay166 : k0_pay166 flat (Cand.st (cand s1 s2) 8) (Cand.bx (Cand.st (cand s1 s2) 8)) = (Cand.st (cand s1 s2) 12) := by
  unfold k0_pay166
  simp only [pay165, pay163]
  rfl

theorem pay167 : k0_pay167 (Cand.st (cand s1 s2) 12) = (Cand.mx (Cand.st (cand s1 s2) 12)) := rfl

theorem pay168 : k0_pay168 flat (Cand.st (cand s1 s2) 12) = (Cand.ix (Cand.st (cand s1 s2) 12)) := by
  unfold k0_pay168
  simp only [pay167]
  rfl

theorem pay169 : k0_pay169 flat (Cand.st (cand s1 s2) 12) = (Cand.st (cand s1 s2) 13) := by
  unfold k0_pay169
  simp only [pay168]
  rfl

theorem pay170 : k0_pay170 flat (Cand.st (cand s1 s2) 12) = (Cand.mx (Cand.st (cand s1 s2) 13)) := by
  unfold k0_pay170
  simp only [pay169]
  rfl

theorem pay171 : k0_pay171 flat (Cand.st (cand s1 s2) 12) = (Cand.ix (Cand.st (cand s1 s2) 13)) := by
  unfold k0_pay171
  simp only [pay170, pay169]
  rfl

theorem pay172 : k0_pay172 flat (Cand.st (cand s1 s2) 12) = (Cand.st (cand s1 s2) 14) := by
  unfold k0_pay172
  simp only [pay171, pay169]
  rfl

theorem pay173 : k0_pay173 flat (Cand.st (cand s1 s2) 12) = (Cand.mx (Cand.st (cand s1 s2) 14)) := by
  unfold k0_pay173
  simp only [pay172]
  rfl

theorem pay174 : k0_pay174 flat (Cand.st (cand s1 s2) 12) = (Cand.ix (Cand.st (cand s1 s2) 14)) := by
  unfold k0_pay174
  simp only [pay173, pay172]
  rfl

theorem pay175 : k0_pay175 flat (Cand.st (cand s1 s2) 12) = (Cand.st (cand s1 s2) 15) := by
  unfold k0_pay175
  simp only [pay174, pay172]
  rfl

theorem pay176 : k0_pay176 flat (Cand.st (cand s1 s2) 12) = (Cand.mx (Cand.st (cand s1 s2) 15)) := by
  unfold k0_pay176
  simp only [pay175]
  rfl

theorem pay177 : k0_pay177 flat (Cand.st (cand s1 s2) 12) = (Cand.ix (Cand.st (cand s1 s2) 15)) := by
  unfold k0_pay177
  simp only [pay176, pay175]
  rfl

theorem pay178 : k0_pay178 flat (Cand.mx (Cand.st (cand s1 s2) 0)) (Cand.mx (Cand.st (cand s1 s2) 1)) (Cand.mx (Cand.st (cand s1 s2) 2)) (Cand.mx (Cand.st (cand s1 s2) 3)) (Cand.mx (Cand.st (cand s1 s2) 4)) (Cand.mx (Cand.st (cand s1 s2) 5)) (Cand.mx (Cand.st (cand s1 s2) 6)) (Cand.mx (Cand.st (cand s1 s2) 7)) (Cand.mx (Cand.st (cand s1 s2) 8)) (Cand.mx (Cand.st (cand s1 s2) 9)) (Cand.mx (Cand.st (cand s1 s2) 10)) (Cand.mx (Cand.st (cand s1 s2) 11)) (Cand.st (cand s1 s2) 12) = (Cand.tv (cand s1 s2)) := by
  unfold k0_pay178
  simp only [pay167, pay170, pay173, pay176]
  rfl

theorem pay179 : k0_pay179 (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Cand.ti (cand s1 s2)) := rfl

theorem pay180 : k0_pay180 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp0 (Cand.ti (cand s1 s2)))) := by
  unfold k0_pay180
  simp only [pay179]
  rfl

theorem pay181 : k0_pay181 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp1 (Cand.ti (cand s1 s2)))) := by
  unfold k0_pay181
  simp only [pay179]
  rfl

theorem pay182 : k0_pay182 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp2 (Cand.ti (cand s1 s2)))) := by
  unfold k0_pay182
  simp only [pay179]
  rfl

theorem pay183 : k0_pay183 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp3 (Cand.ti (cand s1 s2)))) := by
  unfold k0_pay183
  simp only [pay179]
  rfl

theorem pay184 : k0_pay184 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp4 (Cand.ti (cand s1 s2)))) := by
  unfold k0_pay184
  simp only [pay179]
  rfl

theorem pay185 : k0_pay185 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp5 (Cand.ti (cand s1 s2)))) := by
  unfold k0_pay185
  simp only [pay179]
  rfl

theorem pay186 : k0_pay186 flat (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (cmpi .eq flat (Pick.bp6 (Cand.ti (cand s1 s2)))) := by
  unfold k0_pay186
  simp only [pay179]
  rfl

theorem pay187 : k0_pay187 = (broadcast S112x128 4294967295#32) := rfl

theorem pay188 : k0_pay188 (cid s1 s2) (cmpi .eq flat (Pick.bp6 (Cand.ti (cand s1 s2)))) (broadcast S112x128 4294967295#32) = (Pick.pk (cid s1 s2) (Pick.bp6 (Cand.ti (cand s1 s2)))) := rfl

theorem pay189 : k0_pay189 flat (cid s1 s2) (Cand.ti (cand s1 s2)) = (Pick.pk (cid s1 s2) (Pick.bp7 (Cand.ti (cand s1 s2)))) := rfl

theorem pay190 : k0_pay190 flat (cid s1 s2) (Cand.ti (cand s1 s2)) = (Pick.pk (cid s1 s2) (Pick.bp8 (Cand.ti (cand s1 s2)))) := rfl

theorem pay191 : k0_pay191 flat (cid s1 s2) (Cand.ti (cand s1 s2)) = (Pick.pk (cid s1 s2) (Pick.bp9 (Cand.ti (cand s1 s2)))) := rfl

theorem pay192 : k0_pay192 flat (cid s1 s2) (Cand.ti (cand s1 s2)) = (Pick.pk (cid s1 s2) (Pick.bp10 (Cand.ti (cand s1 s2)))) := rfl

theorem pay193 : k0_pay193 flat (cid s1 s2) (Cand.ti (cand s1 s2)) = (Pick.pk (cid s1 s2) (Pick.bp11 (Cand.ti (cand s1 s2)))) := rfl

theorem pay194 : k0_pay194 flat (cid s1 s2) (Cand.ti (cand s1 s2)) = (Pick.pk (cid s1 s2) (Pick.bp12 (Cand.ti (cand s1 s2)))) := rfl

theorem pay195 : k0_pay195 (Cand.ti (cand s1 s2)) = (Pick.bp13 (Cand.ti (cand s1 s2))) := rfl

theorem pay196 : k0_pay196 flat (cid s1 s2) (Cand.ti (cand s1 s2)) (Pick.pk (cid s1 s2) (Pick.bp0 (Cand.ti (cand s1 s2)))) (Pick.pk (cid s1 s2) (Pick.bp1 (Cand.ti (cand s1 s2)))) (Pick.pk (cid s1 s2) (Pick.bp2 (Cand.ti (cand s1 s2)))) (Pick.pk (cid s1 s2) (Pick.bp3 (Cand.ti (cand s1 s2)))) (Pick.pk (cid s1 s2) (Pick.bp4 (Cand.ti (cand s1 s2)))) (Pick.pk (cid s1 s2) (Pick.bp5 (Cand.ti (cand s1 s2)))) (Pick.pk (cid s1 s2) (Pick.bp6 (Cand.ti (cand s1 s2)))) (Pick.pk (cid s1 s2) (Pick.bp7 (Cand.ti (cand s1 s2)))) (Pick.pk (cid s1 s2) (Pick.bp8 (Cand.ti (cand s1 s2)))) (Pick.pk (cid s1 s2) (Pick.bp9 (Cand.ti (cand s1 s2)))) (Pick.pk (cid s1 s2) (Pick.bp10 (Cand.ti (cand s1 s2)))) (Pick.pk (cid s1 s2) (Pick.bp11 (Cand.ti (cand s1 s2)))) (Pick.pk (cid s1 s2) (Pick.bp12 (Cand.ti (cand s1 s2)))) (Pick.bp13 (Cand.ti (cand s1 s2))) = (eids s1 s2) := rfl

theorem pay197 : k0_pay197 flat (cid s1 s2) (Cand.ti (cand s1 s2)) (Pick.pk (cid s1 s2) (Pick.bp0 (Cand.ti (cand s1 s2)))) (Pick.pk (cid s1 s2) (Pick.bp1 (Cand.ti (cand s1 s2)))) (Pick.pk (cid s1 s2) (Pick.bp2 (Cand.ti (cand s1 s2)))) (Pick.pk (cid s1 s2) (Pick.bp3 (Cand.ti (cand s1 s2)))) (Pick.pk (cid s1 s2) (Pick.bp4 (Cand.ti (cand s1 s2)))) (Pick.pk (cid s1 s2) (Pick.bp5 (Cand.ti (cand s1 s2)))) (Pick.pk (cid s1 s2) (Pick.bp6 (Cand.ti (cand s1 s2)))) (Pick.pk (cid s1 s2) (Pick.bp7 (Cand.ti (cand s1 s2)))) (Pick.pk (cid s1 s2) (Pick.bp8 (Cand.ti (cand s1 s2)))) (Pick.pk (cid s1 s2) (Pick.bp9 (Cand.ti (cand s1 s2)))) (Pick.pk (cid s1 s2) (Pick.bp10 (Cand.ti (cand s1 s2)))) (Pick.pk (cid s1 s2) (Pick.bp11 (Cand.ti (cand s1 s2)))) (Pick.pk (cid s1 s2) (Pick.bp12 (Cand.ti (cand s1 s2)))) (Pick.bp13 (Cand.ti (cand s1 s2))) = (lift (eids s1 s2)) := by
  unfold k0_pay197
  simp only [pay196]
  rfl

theorem pay198 : k0_pay198 flat (cid s1 s2) (Cand.ti (cand s1 s2)) (Pick.pk (cid s1 s2) (Pick.bp0 (Cand.ti (cand s1 s2)))) (Pick.pk (cid s1 s2) (Pick.bp1 (Cand.ti (cand s1 s2)))) (Pick.pk (cid s1 s2) (Pick.bp2 (Cand.ti (cand s1 s2)))) (Pick.pk (cid s1 s2) (Pick.bp3 (Cand.ti (cand s1 s2)))) (Pick.pk (cid s1 s2) (Pick.bp4 (Cand.ti (cand s1 s2)))) (Pick.pk (cid s1 s2) (Pick.bp5 (Cand.ti (cand s1 s2)))) (Pick.pk (cid s1 s2) (Pick.bp6 (Cand.ti (cand s1 s2)))) (Pick.pk (cid s1 s2) (Pick.bp7 (Cand.ti (cand s1 s2)))) (Pick.pk (cid s1 s2) (Pick.bp8 (Cand.ti (cand s1 s2)))) (Pick.pk (cid s1 s2) (Pick.bp9 (Cand.ti (cand s1 s2)))) (Pick.pk (cid s1 s2) (Pick.bp10 (Cand.ti (cand s1 s2)))) (Pick.pk (cid s1 s2) (Pick.bp11 (Cand.ti (cand s1 s2)))) (Pick.pk (cid s1 s2) (Pick.bp12 (Cand.ti (cand s1 s2)))) (Pick.bp13 (Cand.ti (cand s1 s2))) = (lift (offs (eids s1 s2))) := by
  unfold k0_pay198
  simp only [pay196]
  rfl

theorem pay199 : k0_pay199 (Cand.tv (cand s1 s2)) = (gates s1 s2) := rfl

theorem pay200 : k0_pay200 (gates s1 s2) = (liftf (gates s1 s2)) := rfl

theorem pay201 (v880 : Vec Ideal S1x128x64 .f32) (v883 : Vec Ideal S64x128 .f32) : k0_pay201 v880 v883 = (k0_pay3 v880 v883) := rfl

theorem pay202 (v880 : Vec Ideal S1x128x64 .f32) (v883 : Vec Ideal S64x128 .f32) : k0_pay202 v880 v883 = (Rows.mx (Rows.st (k0_pay3 v880 v883) 0)) := by
  unfold k0_pay202
  simp only [pay201]
  rfl

theorem pay203 (v880 : Vec Ideal S1x128x64 .f32) (v883 : Vec Ideal S64x128 .f32) : k0_pay203 v880 v883 = (Rows.ix (Rows.st (k0_pay3 v880 v883) 0)) := by
  unfold k0_pay203
  simp only [pay202, pay201]
  rfl

theorem pay204 (v880 : Vec Ideal S1x128x64 .f32) (v883 : Vec Ideal S64x128 .f32) : k0_pay204 v880 v883 = (Rows.st (k0_pay3 v880 v883) 1) := by
  unfold k0_pay204
  simp only [pay203, pay201]
  rfl

theorem pay205 (v880 : Vec Ideal S1x128x64 .f32) (v883 : Vec Ideal S64x128 .f32) : k0_pay205 v880 v883 = (Rows.mx (Rows.st (k0_pay3 v880 v883) 1)) := by
  unfold k0_pay205
  simp only [pay204]
  rfl

theorem pay206 (v880 : Vec Ideal S1x128x64 .f32) (v883 : Vec Ideal S64x128 .f32) : k0_pay206 v880 v883 = (Rows.ix (Rows.st (k0_pay3 v880 v883) 1)) := by
  unfold k0_pay206
  simp only [pay205, pay204]
  rfl

theorem pay207 (v880 : Vec Ideal S1x128x64 .f32) (v883 : Vec Ideal S64x128 .f32) : k0_pay207 v880 v883 = (Rows.st (k0_pay3 v880 v883) 2) := by
  unfold k0_pay207
  simp only [pay206, pay204]
  rfl

theorem pay208 (v880 : Vec Ideal S1x128x64 .f32) (v883 : Vec Ideal S64x128 .f32) : k0_pay208 v880 v883 = (Rows.mx (Rows.st (k0_pay3 v880 v883) 2)) := by
  unfold k0_pay208
  simp only [pay207]
  rfl

theorem pay209 (v880 : Vec Ideal S1x128x64 .f32) (v883 : Vec Ideal S64x128 .f32) : k0_pay209 v880 v883 = (Rows.bx (Rows.st (k0_pay3 v880 v883) 2)) := by
  unfold k0_pay209
  simp only [pay208]
  rfl

theorem pay210 : k0_pay210 Rows.key (Rows.st s1 2) (Rows.bx (Rows.st s1 2)) = (Rows.ix (Rows.st s1 2)) := rfl

theorem pay211 : k0_pay211 Rows.key (Rows.st s1 2) (Rows.bx (Rows.st s1 2)) = (Rows.st s1 3) := by
  unfold k0_pay211
  simp only [pay210]
  rfl

theorem pay212 : k0_pay212 Rows.key (Rows.st s1 2) (Rows.bx (Rows.st s1 2)) = (Rows.mx (Rows.st s1 3)) := by
  unfold k0_pay212
  simp only [pay211]
  rfl

theorem pay213 : k0_pay213 Rows.key (Rows.st s1 2) (Rows.bx (Rows.st s1 2)) = (Rows.ix (Rows.st s1 3)) := by
  unfold k0_pay213
  simp only [pay212, pay211]
  rfl

theorem pay214 : k0_pay214 Rows.key (Rows.st s1 2) (Rows.bx (Rows.st s1 2)) = (Rows.st s1 4) := by
  unfold k0_pay214
  simp only [pay213, pay211]
  rfl

theorem pay215 : k0_pay215 Rows.key (Rows.st s1 2) (Rows.bx (Rows.st s1 2)) = (Rows.mx (Rows.st s1 4)) := by
  unfold k0_pay215
  simp only [pay214]
  rfl

theorem pay216 : k0_pay216 Rows.key (Rows.st s1 2) (Rows.bx (Rows.st s1 2)) = (Rows.ix (Rows.st s1 4)) := by
  unfold k0_pay216
  simp only [pay215, pay214]
  rfl

theorem pay217 : k0_pay217 Rows.key (Rows.st s1 2) (Rows.bx (Rows.st s1 2)) = (Rows.st s1 5) := by
  unfold k0_pay217
  simp only [pay216, pay214]
  rfl

theorem pay218 : k0_pay218 Rows.key (Rows.st s1 2) (Rows.bx (Rows.st s1 2)) = (Rows.mx (Rows.st s1 5)) := by
  unfold k0_pay218
  simp only [pay217]
  rfl

theorem pay219 : k0_pay219 Rows.key (Rows.st s1 2) (Rows.bx (Rows.st s1 2)) = (Rows.ix (Rows.st s1 5)) := by
  unfold k0_pay219
  simp only [pay218, pay217]
  rfl

theorem pay220 : k0_pay220 Rows.key (Rows.st s1 2) (Rows.bx (Rows.st s1 2)) = (Rows.st s1 6) := by
  unfold k0_pay220
  simp only [pay219, pay217]
  rfl

theorem pay221 : k0_pay221 (Rows.st s1 6) = (Rows.mx (Rows.st s1 6)) := rfl

theorem pay222 : k0_pay222 Rows.key (Rows.st s1 6) = (Rows.ix (Rows.st s1 6)) := by
  unfold k0_pay222
  simp only [pay221]
  rfl

theorem pay223 : k0_pay223 Rows.key (Rows.st s1 6) = (Rows.st s1 7) := by
  unfold k0_pay223
  simp only [pay222]
  rfl

theorem pay224 : k0_pay224 Rows.key (Rows.st s1 6) = (Rows.mx (Rows.st s1 7)) := by
  unfold k0_pay224
  simp only [pay223]
  rfl

theorem pay225 : k0_pay225 Rows.key (Rows.st s1 6) = (Rows.ix (Rows.st s1 7)) := by
  unfold k0_pay225
  simp only [pay224, pay223]
  rfl

theorem pay226 : k0_pay226 Rows.key (Rows.st s1 6) = (Rows.st s1 8) := by
  unfold k0_pay226
  simp only [pay225, pay223]
  rfl

theorem pay227 : k0_pay227 Rows.key (Rows.st s1 6) = (Rows.mx (Rows.st s1 8)) := by
  unfold k0_pay227
  simp only [pay226]
  rfl

theorem pay228 : k0_pay228 Rows.key (Rows.st s1 6) = (Rows.ix (Rows.st s1 8)) := by
  unfold k0_pay228
  simp only [pay227, pay226]
  rfl

theorem pay229 : k0_pay229 Rows.key (Rows.st s1 6) = (Rows.st s1 9) := by
  unfold k0_pay229
  simp only [pay228, pay226]
  rfl

theorem pay230 : k0_pay230 Rows.key (Rows.st s1 6) = (Rows.mx (Rows.st s1 9)) := by
  unfold k0_pay230
  simp only [pay229]
  rfl

theorem pay231 : k0_pay231 Rows.key (Rows.st s1 6) = (Rows.ix (Rows.st s1 9)) := by
  unfold k0_pay231
  simp only [pay230, pay229]
  rfl

theorem pay232 : k0_pay232 Rows.key (Rows.st s1 6) = (Rows.bi (Rows.st s1 9)) := by
  unfold k0_pay232
  simp only [pay231]
  rfl

theorem pay233 : k0_pay233 Rows.key (Rows.st s1 9) (Rows.bi (Rows.st s1 9)) = (Rows.st s1 10) := rfl

theorem pay234 : k0_pay234 Rows.key (Rows.st s1 9) (Rows.bi (Rows.st s1 9)) = (Rows.mx (Rows.st s1 10)) := by
  unfold k0_pay234
  simp only [pay233]
  rfl

theorem pay235 : k0_pay235 Rows.key (Rows.st s1 9) (Rows.bi (Rows.st s1 9)) = (Rows.ix (Rows.st s1 10)) := by
  unfold k0_pay235
  simp only [pay234, pay233]
  rfl

theorem pay236 : k0_pay236 Rows.key (Rows.st s1 9) (Rows.bi (Rows.st s1 9)) = (Rows.st s1 11) := by
  unfold k0_pay236
  simp only [pay235, pay233]
  rfl

theorem pay237 : k0_pay237 Rows.key (Rows.st s1 9) (Rows.bi (Rows.st s1 9)) = (Rows.mx (Rows.st s1 11)) := by
  unfold k0_pay237
  simp only [pay236]
  rfl

theorem pay238 : k0_pay238 Rows.key (Rows.st s1 9) (Rows.bi (Rows.st s1 9)) = (Rows.ix (Rows.st s1 11)) := by
  unfold k0_pay238
  simp only [pay237, pay236]
  rfl

theorem pay239 : k0_pay239 Rows.key (Rows.st s1 9) (Rows.bi (Rows.st s1 9)) = (Rows.st s1 12) := by
  unfold k0_pay239
  simp only [pay238, pay236]
  rfl

theorem pay240 : k0_pay240 Rows.key (Rows.st s1 9) (Rows.bi (Rows.st s1 9)) = (Rows.mx (Rows.st s1 12)) := by
  unfold k0_pay240
  simp only [pay239]
  rfl

theorem pay241 : k0_pay241 Rows.key (Rows.st s1 9) (Rows.bi (Rows.st s1 9)) = (Rows.ix (Rows.st s1 12)) := by
  unfold k0_pay241
  simp only [pay240, pay239]
  rfl

theorem pay242 : k0_pay242 Rows.key (Rows.st s1 9) (Rows.bi (Rows.st s1 9)) = (Rows.st s1 13) := by
  unfold k0_pay242
  simp only [pay241, pay239]
  rfl

theorem pay243 : k0_pay243 Rows.key (Rows.st s1 9) (Rows.bi (Rows.st s1 9)) = (Rows.mx (Rows.st s1 13)) := by
  unfold k0_pay243
  simp only [pay242]
  rfl

theorem pay244 : k0_pay244 Rows.key (Rows.st s1 9) (Rows.bi (Rows.st s1 9)) = (Rows.sl (Rows.st s1 13)) := by
  unfold k0_pay244
  simp only [pay243, pay242]
  rfl

theorem pay245 : k0_pay245 (Rows.sl (Rows.st s1 13)) = (Rows.ix (Rows.st s1 13)) := rfl

theorem pay246 : k0_pay246 Rows.key (Rows.st s1 13) (Rows.sl (Rows.st s1 13)) = (Rows.st s1 14) := by
  unfold k0_pay246
  simp only [pay245]
  rfl

theorem pay247 : k0_pay247 Rows.key (Rows.st s1 13) (Rows.sl (Rows.st s1 13)) = (Rows.mx (Rows.st s1 14)) := by
  unfold k0_pay247
  simp only [pay246]
  rfl

theorem pay248 : k0_pay248 Rows.key (Rows.st s1 13) (Rows.sl (Rows.st s1 13)) = (Rows.ix (Rows.st s1 14)) := by
  unfold k0_pay248
  simp only [pay247, pay246]
  rfl

theorem pay249 : k0_pay249 Rows.key (Rows.st s1 13) (Rows.sl (Rows.st s1 13)) = (Rows.st s1 15) := by
  unfold k0_pay249
  simp only [pay248, pay246]
  rfl

theorem pay250 : k0_pay250 Rows.key (Rows.st s1 13) (Rows.sl (Rows.st s1 13)) = (Rows.mx (Rows.st s1 15)) := by
  unfold k0_pay250
  simp only [pay249]
  rfl

theorem pay251 : k0_pay251 Rows.key (Rows.mx (Rows.st s1 0)) (Rows.mx (Rows.st s1 1)) (Rows.mx (Rows.st s1 2)) (Rows.mx (Rows.st s1 3)) (Rows.mx (Rows.st s1 4)) (Rows.mx (Rows.st s1 5)) (Rows.mx (Rows.st s1 6)) (Rows.mx (Rows.st s1 7)) (Rows.mx (Rows.st s1 8)) (Rows.mx (Rows.st s1 9)) (Rows.mx (Rows.st s1 10)) (Rows.mx (Rows.st s1 11)) (Rows.mx (Rows.st s1 12)) (Rows.st s1 13) (Rows.mx (Rows.st s1 13)) (Rows.sl (Rows.st s1 13)) = (Rows.tv s1) := by
  unfold k0_pay251
  simp only [pay247, pay250]
  rfl

theorem pay252 : k0_pay252 Rows.key (Rows.ix (Rows.st s1 0)) (Rows.ix (Rows.st s1 1)) (Rows.ix (Rows.st s1 2)) (Rows.ix (Rows.st s1 3)) (Rows.ix (Rows.st s1 4)) (Rows.ix (Rows.st s1 5)) (Rows.ix (Rows.st s1 6)) (Rows.ix (Rows.st s1 7)) (Rows.ix (Rows.st s1 8)) (Rows.ix (Rows.st s1 9)) (Rows.ix (Rows.st s1 10)) (Rows.ix (Rows.st s1 11)) (Rows.ix (Rows.st s1 12)) (Rows.st s1 13) (Rows.sl (Rows.st s1 13)) = (Rows.ti s1) := by
  unfold k0_pay252
  simp only [pay250, pay249, pay245, pay248]
  rfl

theorem pay253 (v1083 : Vec Ideal S1x128x64 .f32) (v1086 : Vec Ideal S64x128 .f32) : k0_pay253 v1083 v1086 = (k0_pay3 v1083 v1086) := rfl

theorem pay254 : k0_pay254 s2 = (Rows.mx (Rows.st s2 0)) := rfl

theorem pay255 : k0_pay255 s2 Rows.key = (Rows.ix (Rows.st s2 0)) := by
  unfold k0_pay255
  simp only [pay254]
  rfl

theorem pay256 : k0_pay256 s2 Rows.key = (Rows.st s2 1) := by
  unfold k0_pay256
  simp only [pay255]
  rfl

theorem pay257 : k0_pay257 s2 Rows.key = (Rows.mx (Rows.st s2 1)) := by
  unfold k0_pay257
  simp only [pay256]
  rfl

theorem pay258 : k0_pay258 s2 Rows.key = (Rows.ix (Rows.st s2 1)) := by
  unfold k0_pay258
  simp only [pay257, pay256]
  rfl

theorem pay259 : k0_pay259 s2 Rows.key = (Rows.st s2 2) := by
  unfold k0_pay259
  simp only [pay258, pay256]
  rfl

theorem pay260 : k0_pay260 s2 Rows.key = (Rows.mx (Rows.st s2 2)) := by
  unfold k0_pay260
  simp only [pay259]
  rfl

theorem pay261 : k0_pay261 s2 Rows.key = (Rows.ix (Rows.st s2 2)) := by
  unfold k0_pay261
  simp only [pay260, pay259]
  rfl

theorem pay262 : k0_pay262 s2 Rows.key = (Rows.st s2 3) := by
  unfold k0_pay262
  simp only [pay261, pay259]
  rfl

theorem pay263 : k0_pay263 s2 Rows.key = (Rows.mx (Rows.st s2 3)) := by
  unfold k0_pay263
  simp only [pay262]
  rfl

theorem pay264 : k0_pay264 s2 Rows.key = (Rows.ix (Rows.st s2 3)) := by
  unfold k0_pay264
  simp only [pay263, pay262]
  rfl

theorem pay265 : k0_pay265 s2 Rows.key = (Rows.em (Rows.st s2 3)) := by
  unfold k0_pay265
  simp only [pay264]
  rfl

theorem pay266 : k0_pay266 (Rows.st s2 3) (Rows.em (Rows.st s2 3)) = (Rows.st s2 4) := rfl

theorem pay267 : k0_pay267 (Rows.st s2 3) (Rows.em (Rows.st s2 3)) = (Rows.mx (Rows.st s2 4)) := by
  unfold k0_pay267
  simp only [pay266]
  rfl

theorem pay268 : k0_pay268 Rows.key (Rows.st s2 3) (Rows.em (Rows.st s2 3)) = (Rows.ix (Rows.st s2 4)) := by
  unfold k0_pay268
  simp only [pay267, pay266]
  rfl

theorem pay269 : k0_pay269 Rows.key (Rows.st s2 3) (Rows.em (Rows.st s2 3)) = (Rows.st s2 5) := by
  unfold k0_pay269
  simp only [pay268, pay266]
  rfl

theorem pay270 : k0_pay270 Rows.key (Rows.st s2 3) (Rows.em (Rows.st s2 3)) = (Rows.mx (Rows.st s2 5)) := by
  unfold k0_pay270
  simp only [pay269]
  rfl

theorem pay271 : k0_pay271 Rows.key (Rows.st s2 3) (Rows.em (Rows.st s2 3)) = (Rows.ix (Rows.st s2 5)) := by
  unfold k0_pay271
  simp only [pay270, pay269]
  rfl

theorem pay272 : k0_pay272 Rows.key (Rows.st s2 3) (Rows.em (Rows.st s2 3)) = (Rows.st s2 6) := by
  unfold k0_pay272
  simp only [pay271, pay269]
  rfl

theorem pay273 : k0_pay273 Rows.key (Rows.st s2 3) (Rows.em (Rows.st s2 3)) = (Rows.mx (Rows.st s2 6)) := by
  unfold k0_pay273
  simp only [pay272]
  rfl

theorem pay274 : k0_pay274 Rows.key (Rows.st s2 3) (Rows.em (Rows.st s2 3)) = (Rows.ix (Rows.st s2 6)) := by
  unfold k0_pay274
  simp only [pay273, pay272]
  rfl

theorem pay275 : k0_pay275 Rows.key (Rows.st s2 3) (Rows.em (Rows.st s2 3)) = (Rows.st s2 7) := by
  unfold k0_pay275
  simp only [pay274, pay272]
  rfl

theorem pay276 : k0_pay276 Rows.key (Rows.st s2 3) (Rows.em (Rows.st s2 3)) = (Rows.mx (Rows.st s2 7)) := by
  unfold k0_pay276
  simp only [pay275]
  rfl

theorem pay277 : k0_pay277 Rows.key (Rows.st s2 3) (Rows.em (Rows.st s2 3)) = (Rows.sl (Rows.st s2 7)) := by
  unfold k0_pay277
  simp only [pay276, pay275]
  rfl

theorem pay278 : k0_pay278 (Rows.sl (Rows.st s2 7)) = (Rows.ix (Rows.st s2 7)) := rfl

theorem pay279 : k0_pay279 Rows.key (Rows.st s2 7) (Rows.sl (Rows.st s2 7)) = (Rows.st s2 8) := by
  unfold k0_pay279
  simp only [pay278]
  rfl

theorem pay280 : k0_pay280 Rows.key (Rows.st s2 7) (Rows.sl (Rows.st s2 7)) = (Rows.mx (Rows.st s2 8)) := by
  unfold k0_pay280
  simp only [pay279]
  rfl

theorem pay281 : k0_pay281 Rows.key (Rows.st s2 7) (Rows.sl (Rows.st s2 7)) = (Rows.ix (Rows.st s2 8)) := by
  unfold k0_pay281
  simp only [pay280, pay279]
  rfl

theorem pay282 : k0_pay282 Rows.key (Rows.st s2 7) (Rows.sl (Rows.st s2 7)) = (Rows.st s2 9) := by
  unfold k0_pay282
  simp only [pay281, pay279]
  rfl

theorem pay283 : k0_pay283 Rows.key (Rows.st s2 7) (Rows.sl (Rows.st s2 7)) = (Rows.mx (Rows.st s2 9)) := by
  unfold k0_pay283
  simp only [pay282]
  rfl

theorem pay284 : k0_pay284 Rows.key (Rows.st s2 7) (Rows.sl (Rows.st s2 7)) = (Rows.ix (Rows.st s2 9)) := by
  unfold k0_pay284
  simp only [pay283, pay282]
  rfl

theorem pay285 : k0_pay285 Rows.key (Rows.st s2 7) (Rows.sl (Rows.st s2 7)) = (Rows.st s2 10) := by
  unfold k0_pay285
  simp only [pay284, pay282]
  rfl

theorem pay286 : k0_pay286 Rows.key (Rows.st s2 7) (Rows.sl (Rows.st s2 7)) = (Rows.mx (Rows.st s2 10)) := by
  unfold k0_pay286
  simp only [pay285]
  rfl

theorem pay287 : k0_pay287 Rows.key (Rows.st s2 7) (Rows.sl (Rows.st s2 7)) = (Rows.ix (Rows.st s2 10)) := by
  unfold k0_pay287
  simp only [pay286, pay285]
  rfl

theorem pay288 : k0_pay288 Rows.key (Rows.st s2 7) (Rows.sl (Rows.st s2 7)) = (Rows.st s2 11) := by
  unfold k0_pay288
  simp only [pay287, pay285]
  rfl

theorem pay289 : k0_pay289 Rows.key (Rows.st s2 7) (Rows.sl (Rows.st s2 7)) = (Rows.mx (Rows.st s2 11)) := by
  unfold k0_pay289
  simp only [pay288]
  rfl

theorem pay290 : k0_pay290 Rows.key (Rows.st s2 7) (Rows.sl (Rows.st s2 7)) = (Rows.gt (Rows.st s2 11)) := by
  unfold k0_pay290
  simp only [pay289, pay288]
  rfl

theorem pay291 : k0_pay291 Rows.key (Rows.gt (Rows.st s2 11)) = (Rows.ix (Rows.st s2 11)) := rfl

theorem pay292 : k0_pay292 Rows.key (Rows.st s2 11) (Rows.gt (Rows.st s2 11)) = (Rows.st s2 12) := by
  unfold k0_pay292
  simp only [pay291]
  rfl

theorem pay293 : k0_pay293 Rows.key (Rows.st s2 11) (Rows.gt (Rows.st s2 11)) = (Rows.mx (Rows.st s2 12)) := by
  unfold k0_pay293
  simp only [pay292]
  rfl

theorem pay294 : k0_pay294 Rows.key (Rows.st s2 11) (Rows.gt (Rows.st s2 11)) = (Rows.ix (Rows.st s2 12)) := by
  unfold k0_pay294
  simp only [pay293, pay292]
  rfl

theorem pay295 : k0_pay295 Rows.key (Rows.st s2 11) (Rows.gt (Rows.st s2 11)) = (Rows.st s2 13) := by
  unfold k0_pay295
  simp only [pay294, pay292]
  rfl

theorem pay296 : k0_pay296 Rows.key (Rows.st s2 11) (Rows.gt (Rows.st s2 11)) = (Rows.mx (Rows.st s2 13)) := by
  unfold k0_pay296
  simp only [pay295]
  rfl

theorem pay297 : k0_pay297 Rows.key (Rows.st s2 11) (Rows.gt (Rows.st s2 11)) = (Rows.ix (Rows.st s2 13)) := by
  unfold k0_pay297
  simp only [pay296, pay295]
  rfl

theorem pay298 : k0_pay298 Rows.key (Rows.st s2 11) (Rows.gt (Rows.st s2 11)) = (Rows.st s2 14) := by
  unfold k0_pay298
  simp only [pay297, pay295]
  rfl

theorem pay299 : k0_pay299 Rows.key (Rows.st s2 11) (Rows.gt (Rows.st s2 11)) = (Rows.mx (Rows.st s2 14)) := by
  unfold k0_pay299
  simp only [pay298]
  rfl

theorem pay300 : k0_pay300 Rows.key (Rows.st s2 11) (Rows.gt (Rows.st s2 11)) = (Rows.ix (Rows.st s2 14)) := by
  unfold k0_pay300
  simp only [pay299, pay298]
  rfl

theorem pay301 : k0_pay301 Rows.key (Rows.st s2 11) (Rows.gt (Rows.st s2 11)) = (Rows.st s2 15) := by
  unfold k0_pay301
  simp only [pay300, pay298]
  rfl

theorem pay302 : k0_pay302 (Rows.st s2 15) = (Rows.mx (Rows.st s2 15)) := rfl

theorem pay303 : k0_pay303 (Rows.mx (Rows.st s2 0)) (Rows.mx (Rows.st s2 1)) (Rows.mx (Rows.st s2 2)) (Rows.mx (Rows.st s2 3)) (Rows.mx (Rows.st s2 4)) (Rows.mx (Rows.st s2 5)) (Rows.mx (Rows.st s2 6)) (Rows.mx (Rows.st s2 7)) (Rows.mx (Rows.st s2 8)) (Rows.mx (Rows.st s2 9)) (Rows.mx (Rows.st s2 10)) (Rows.mx (Rows.st s2 11)) (Rows.mx (Rows.st s2 12)) (Rows.mx (Rows.st s2 13)) (Rows.mx (Rows.st s2 14)) (Rows.st s2 15) = (Rows.tv s2) := by
  unfold k0_pay303
  simp only [pay302]
  rfl

theorem pay304 : k0_pay304 Rows.key (Rows.ix (Rows.st s2 0)) (Rows.ix (Rows.st s2 1)) (Rows.ix (Rows.st s2 2)) (Rows.ix (Rows.st s2 3)) (Rows.ix (Rows.st s2 4)) (Rows.ix (Rows.st s2 5)) (Rows.ix (Rows.st s2 6)) (Rows.ix (Rows.st s2 7)) (Rows.ix (Rows.st s2 8)) (Rows.ix (Rows.st s2 9)) (Rows.ix (Rows.st s2 10)) (Rows.ix (Rows.st s2 11)) (Rows.ix (Rows.st s2 12)) (Rows.ix (Rows.st s2 13)) (Rows.ix (Rows.st s2 14)) (Rows.st s2 15) = (Rows.ti s2) := by
  unfold k0_pay304
  simp only [pay302]
  rfl

theorem pay305 : k0_pay305 (Rows.tv s1) (Rows.mx (Rows.st s2 0)) (Rows.mx (Rows.st s2 1)) (Rows.mx (Rows.st s2 2)) (Rows.mx (Rows.st s2 3)) (Rows.mx (Rows.st s2 4)) (Rows.mx (Rows.st s2 5)) (Rows.mx (Rows.st s2 6)) (Rows.mx (Rows.st s2 7)) (Rows.mx (Rows.st s2 8)) (Rows.mx (Rows.st s2 9)) (Rows.mx (Rows.st s2 10)) (Rows.mx (Rows.st s2 11)) (Rows.mx (Rows.st s2 12)) (Rows.mx (Rows.st s2 13)) (Rows.mx (Rows.st s2 14)) (Rows.st s2 15) = (cs0 (Rows.tv s1) (Rows.tv s2)) := by
  unfold k0_pay305
  simp only [pay303]
  rfl

theorem pay306 : k0_pay306 = ck0 := rfl

theorem pay307 : k0_pay307 (Rows.ti s1) Rows.key (Rows.ix (Rows.st s2 0)) (Rows.ix (Rows.st s2 1)) (Rows.ix (Rows.st s2 2)) (Rows.ix (Rows.st s2 3)) (Rows.ix (Rows.st s2 4)) (Rows.ix (Rows.st s2 5)) (Rows.ix (Rows.st s2 6)) (Rows.ix (Rows.st s2 7)) (Rows.ix (Rows.st s2 8)) (Rows.ix (Rows.st s2 9)) (Rows.ix (Rows.st s2 10)) (Rows.ix (Rows.st s2 11)) (Rows.ix (Rows.st s2 12)) (Rows.ix (Rows.st s2 13)) (Rows.ix (Rows.st s2 14)) (Rows.st s2 15) = (ci0 (Rows.ti s1) (Rows.ti s2)) := by
  unfold k0_pay307
  simp only [pay304]
  rfl

theorem pay308 : k0_pay308 (Rows.tv s1) (Rows.mx (Rows.st s2 0)) (Rows.mx (Rows.st s2 1)) (Rows.mx (Rows.st s2 2)) (Rows.mx (Rows.st s2 3)) (Rows.mx (Rows.st s2 4)) (Rows.mx (Rows.st s2 5)) (Rows.mx (Rows.st s2 6)) (Rows.mx (Rows.st s2 7)) (Rows.mx (Rows.st s2 8)) (Rows.mx (Rows.st s2 9)) (Rows.mx (Rows.st s2 10)) (Rows.mx (Rows.st s2 11)) (Rows.mx (Rows.st s2 12)) (Rows.mx (Rows.st s2 13)) (Rows.mx (Rows.st s2 14)) (Rows.st s2 15) = (cs1 (Rows.tv s1) (Rows.tv s2)) := by
  unfold k0_pay308
  simp only [pay303]
  rfl

theorem pay309 : k0_pay309 = ck1 := rfl

theorem pay310 : k0_pay310 (Rows.ti s1) Rows.key (Rows.ix (Rows.st s2 0)) (Rows.ix (Rows.st s2 1)) (Rows.ix (Rows.st s2 2)) (Rows.ix (Rows.st s2 3)) (Rows.ix (Rows.st s2 4)) (Rows.ix (Rows.st s2 5)) (Rows.ix (Rows.st s2 6)) (Rows.ix (Rows.st s2 7)) (Rows.ix (Rows.st s2 8)) (Rows.ix (Rows.st s2 9)) (Rows.ix (Rows.st s2 10)) (Rows.ix (Rows.st s2 11)) (Rows.ix (Rows.st s2 12)) (Rows.ix (Rows.st s2 13)) (Rows.ix (Rows.st s2 14)) (Rows.st s2 15) = (ci1 (Rows.ti s1) (Rows.ti s2)) := by
  unfold k0_pay310
  simp only [pay304]
  rfl

theorem pay311 : k0_pay311 (Rows.tv s1) (Rows.mx (Rows.st s2 0)) (Rows.mx (Rows.st s2 1)) (Rows.mx (Rows.st s2 2)) (Rows.mx (Rows.st s2 3)) (Rows.mx (Rows.st s2 4)) (Rows.mx (Rows.st s2 5)) (Rows.mx (Rows.st s2 6)) (Rows.mx (Rows.st s2 7)) (Rows.mx (Rows.st s2 8)) (Rows.mx (Rows.st s2 9)) (Rows.mx (Rows.st s2 10)) (Rows.mx (Rows.st s2 11)) (Rows.mx (Rows.st s2 12)) (Rows.mx (Rows.st s2 13)) (Rows.mx (Rows.st s2 14)) (Rows.st s2 15) = (cs2 (Rows.tv s1) (Rows.tv s2)) := by
  unfold k0_pay311
  simp only [pay303]
  rfl

theorem pay312 : k0_pay312 = (broadcast S16x128 32#32) := rfl

theorem pay313 : k0_pay313 rank (broadcast S16x128 32#32) = ck2 := rfl

theorem pay314 : k0_pay314 (Rows.ti s1) (Rows.ti s2) = (ci2 (Rows.ti s1) (Rows.ti s2)) := rfl

theorem pay315 : k0_pay315 (Rows.tv s1) (Rows.tv s2) rank = (cs3 (Rows.tv s1) (Rows.tv s2)) := rfl

theorem pay316 : k0_pay316 rank = ck3 := rfl

theorem pay317 : k0_pay317 (Rows.ti s1) (Rows.ti s2) = (ci3 (Rows.ti s1) (Rows.ti s2)) := rfl

theorem pay318 : k0_pay318 (Rows.tv s1) (Rows.tv s2) rank = (cs4 (Rows.tv s1) (Rows.tv s2)) := rfl

theorem pay319 : k0_pay319 rank = ck4 := rfl

theorem pay320 : k0_pay320 (Rows.ti s1) (Rows.ti s2) = (ci4 (Rows.ti s1) (Rows.ti s2)) := rfl

theorem pay321 : k0_pay321 rank = (select (cmpi .sge rank (broadcast S16x128 4#32)) rank (broadcast S16x128 16#32)) := rfl

theorem pay322 : k0_pay322 = (broadcast S16x128 8#32) := rfl

theorem pay323 : k0_pay323 (Rows.tv s1) (Rows.tv s2) rank (cs0 (Rows.tv s1) (Rows.tv s2)) (cs1 (Rows.tv s1) (Rows.tv s2)) (cs2 (Rows.tv s1) (Rows.tv s2)) (cs3 (Rows.tv s1) (Rows.tv s2)) (cs4 (Rows.tv s1) (Rows.tv s2)) (select (cmpi .sge rank (broadcast S16x128 4#32)) rank (broadcast S16x128 16#32)) (broadcast S16x128 8#32) = (cand s1 s2) := rfl

theorem pay324 : k0_pay324 rank ck0 ck1 ck2 ck3 ck4 = flat := rfl

theorem pay325 : k0_pay325 (Rows.ti s1) (Rows.ti s2) (ci0 (Rows.ti s1) (Rows.ti s2)) (ci1 (Rows.ti s1) (Rows.ti s2)) (ci2 (Rows.ti s1) (Rows.ti s2)) (ci3 (Rows.ti s1) (Rows.ti s2)) (ci4 (Rows.ti s1) (Rows.ti s2)) = (cid s1 s2) := rfl

theorem pay326 : k0_pay326 (Rows.tv s1) (Rows.tv s2) rank (cs0 (Rows.tv s1) (Rows.tv s2)) (cs1 (Rows.tv s1) (Rows.tv s2)) (cs2 (Rows.tv s1) (Rows.tv s2)) (cs3 (Rows.tv s1) (Rows.tv s2)) (cs4 (Rows.tv s1) (Rows.tv s2)) (select (cmpi .sge rank (broadcast S16x128 4#32)) rank (broadcast S16x128 16#32)) (broadcast S16x128 8#32) = (Cand.mx (Cand.st (cand s1 s2) 0)) := by
  unfold k0_pay326
  simp only [pay323]
  rfl

theorem pay327 : k0_pay327 (Rows.tv s1) (Rows.tv s2) rank (cs0 (Rows.tv s1) (Rows.tv s2)) ck0 (cs1 (Rows.tv s1) (Rows.tv s2)) ck1 (cs2 (Rows.tv s1) (Rows.tv s2)) ck2 (cs3 (Rows.tv s1) (Rows.tv s2)) ck3 (cs4 (Rows.tv s1) (Rows.tv s2)) ck4 (select (cmpi .sge rank (broadcast S16x128 4#32)) rank (broadcast S16x128 16#32)) (broadcast S16x128 8#32) = (Cand.ix (Cand.st (cand s1 s2) 0)) := by
  unfold k0_pay327
  simp only [pay326, pay323, pay324]
  rfl

theorem pay328 : k0_pay328 (cand s1 s2) flat (Cand.ix (Cand.st (cand s1 s2) 0)) = (Cand.st (cand s1 s2) 1) := rfl

theorem pay329 : k0_pay329 (cand s1 s2) flat (Cand.ix (Cand.st (cand s1 s2) 0)) = (Cand.mx (Cand.st (cand s1 s2) 1)) := by
  unfold k0_pay329
  simp only [pay328]
  rfl

theorem pay330 : k0_pay330 (cand s1 s2) flat (Cand.ix (Cand.st (cand s1 s2) 0)) = (Cand.ix (Cand.st (cand s1 s2) 1)) := by
  unfold k0_pay330
  simp only [pay329, pay328]
  rfl

theorem pay331 : k0_pay331 (cand s1 s2) flat (Cand.ix (Cand.st (cand s1 s2) 0)) = (Cand.st (cand s1 s2) 2) := by
  unfold k0_pay331
  simp only [pay330, pay328]
  rfl

theorem pay332 : k0_pay332 (cand s1 s2) flat (Cand.ix (Cand.st (cand s1 s2) 0)) = (Cand.mx (Cand.st (cand s1 s2) 2)) := by
  unfold k0_pay332
  simp only [pay331]
  rfl

theorem pay333 : k0_pay333 (cand s1 s2) flat (Cand.ix (Cand.st (cand s1 s2) 0)) = (Cand.ix (Cand.st (cand s1 s2) 2)) := by
  unfold k0_pay333
  simp only [pay332, pay331]
  rfl

theorem pay334 : k0_pay334 (cand s1 s2) flat (Cand.ix (Cand.st (cand s1 s2) 0)) = (Cand.st (cand s1 s2) 3) := by
  unfold k0_pay334
  simp only [pay333, pay331]
  rfl

theorem pay335 : k0_pay335 (cand s1 s2) flat (Cand.ix (Cand.st (cand s1 s2) 0)) = (Cand.mx (Cand.st (cand s1 s2) 3)) := by
  unfold k0_pay335
  simp only [pay334]
  rfl

theorem pay336 : k0_pay336 (cand s1 s2) flat (Cand.ix (Cand.st (cand s1 s2) 0)) = (Cand.ix (Cand.st (cand s1 s2) 3)) := by
  unfold k0_pay336
  simp only [pay335, pay334]
  rfl

theorem pay337 : k0_pay337 (cand s1 s2) flat (Cand.ix (Cand.st (cand s1 s2) 0)) = (Cand.st (cand s1 s2) 4) := by
  unfold k0_pay337
  simp only [pay336, pay334]
  rfl

theorem pay338 : k0_pay338 (cand s1 s2) flat (Cand.ix (Cand.st (cand s1 s2) 0)) = (Cand.mx (Cand.st (cand s1 s2) 4)) := by
  unfold k0_pay338
  simp only [pay337]
  rfl

theorem pay339 : k0_pay339 (cand s1 s2) flat (Cand.ix (Cand.st (cand s1 s2) 0)) = (Cand.gt (Cand.st (cand s1 s2) 4)) := by
  unfold k0_pay339
  simp only [pay338, pay337]
  rfl

theorem pay340 : k0_pay340 = (broadcast S112x128 1073741824#32) := rfl

theorem pay341 : k0_pay341 flat (Cand.gt (Cand.st (cand s1 s2) 4)) (broadcast S112x128 1073741824#32) = (Cand.ix (Cand.st (cand s1 s2) 4)) := rfl

theorem pay342 : k0_pay342 flat (Cand.st (cand s1 s2) 4) (Cand.gt (Cand.st (cand s1 s2) 4)) (broadcast S112x128 1073741824#32) = (Cand.st (cand s1 s2) 5) := by
  unfold k0_pay342
  simp only [pay341]
  rfl

theorem pay343 : k0_pay343 flat (Cand.st (cand s1 s2) 4) (Cand.gt (Cand.st (cand s1 s2) 4)) (broadcast S112x128 1073741824#32) = (Cand.mx (Cand.st (cand s1 s2) 5)) := by
  unfold k0_pay343
  simp only [pay342]
  rfl

theorem pay344 : k0_pay344 flat (Cand.st (cand s1 s2) 4) (Cand.gt (Cand.st (cand s1 s2) 4)) (broadcast S112x128 1073741824#32) = (Cand.ix (Cand.st (cand s1 s2) 5)) := by
  unfold k0_pay344
  simp only [pay343, pay342]
  rfl

theorem pay345 : k0_pay345 flat (Cand.st (cand s1 s2) 4) (Cand.gt (Cand.st (cand s1 s2) 4)) (broadcast S112x128 1073741824#32) = (Cand.st (cand s1 s2) 6) := by
  unfold k0_pay345
  simp only [pay344, pay342]
  rfl

theorem pay346 : k0_pay346 flat (Cand.st (cand s1 s2) 4) (Cand.gt (Cand.st (cand s1 s2) 4)) (broadcast S112x128 1073741824#32) = (Cand.mx (Cand.st (cand s1 s2) 6)) := by
  unfold k0_pay346
  simp only [pay345]
  rfl

theorem pay347 : k0_pay347 flat (Cand.st (cand s1 s2) 4) (Cand.gt (Cand.st (cand s1 s2) 4)) (broadcast S112x128 1073741824#32) = (Cand.ix (Cand.st (cand s1 s2) 6)) := by
  unfold k0_pay347
  simp only [pay346, pay345]
  rfl

theorem pay348 : k0_pay348 flat (Cand.st (cand s1 s2) 4) (Cand.gt (Cand.st (cand s1 s2) 4)) (broadcast S112x128 1073741824#32) = (Cand.st (cand s1 s2) 7) := by
  unfold k0_pay348
  simp only [pay347, pay345]
  rfl

theorem pay349 : k0_pay349 flat (Cand.st (cand s1 s2) 4) (Cand.gt (Cand.st (cand s1 s2) 4)) (broadcast S112x128 1073741824#32) = (Cand.mx (Cand.st (cand s1 s2) 7)) := by
  unfold k0_pay349
  simp only [pay348]
  rfl

theorem pay350 : k0_pay350 flat (Cand.st (cand s1 s2) 4) (Cand.gt (Cand.st (cand s1 s2) 4)) (broadcast S112x128 1073741824#32) = (Cand.ix (Cand.st (cand s1 s2) 7)) := by
  unfold k0_pay350
  simp only [pay349, pay348]
  rfl

theorem pay351 : k0_pay351 flat (Cand.st (cand s1 s2) 4) (Cand.gt (Cand.st (cand s1 s2) 4)) (broadcast S112x128 1073741824#32) = (Cand.st (cand s1 s2) 8) := by
  unfold k0_pay351
  simp only [pay350, pay348]
  rfl

theorem pay352 : k0_pay352 flat (Cand.st (cand s1 s2) 4) (Cand.gt (Cand.st (cand s1 s2) 4)) (broadcast S112x128 1073741824#32) = (Cand.mx (Cand.st (cand s1 s2) 8)) := by
  unfold k0_pay352
  simp only [pay351]
  rfl

theorem pay353 : k0_pay353 flat (Cand.st (cand s1 s2) 8) (Cand.mx (Cand.st (cand s1 s2) 8)) = (Cand.ix (Cand.st (cand s1 s2) 8)) := rfl

theorem pay354 : k0_pay354 flat (Cand.st (cand s1 s2) 8) (Cand.mx (Cand.st (cand s1 s2) 8)) = (Cand.st (cand s1 s2) 9) := by
  unfold k0_pay354
  simp only [pay353]
  rfl

theorem pay355 : k0_pay355 flat (Cand.st (cand s1 s2) 8) (Cand.mx (Cand.st (cand s1 s2) 8)) = (Cand.mx (Cand.st (cand s1 s2) 9)) := by
  unfold k0_pay355
  simp only [pay354]
  rfl

theorem pay356 : k0_pay356 flat (Cand.st (cand s1 s2) 8) (Cand.mx (Cand.st (cand s1 s2) 8)) = (Cand.ix (Cand.st (cand s1 s2) 9)) := by
  unfold k0_pay356
  simp only [pay355, pay354]
  rfl

theorem pay357 : k0_pay357 flat (Cand.st (cand s1 s2) 8) (Cand.mx (Cand.st (cand s1 s2) 8)) = (Cand.st (cand s1 s2) 10) := by
  unfold k0_pay357
  simp only [pay356, pay354]
  rfl

theorem pay358 : k0_pay358 flat (Cand.st (cand s1 s2) 8) (Cand.mx (Cand.st (cand s1 s2) 8)) = (Cand.mx (Cand.st (cand s1 s2) 10)) := by
  unfold k0_pay358
  simp only [pay357]
  rfl

theorem pay359 : k0_pay359 flat (Cand.st (cand s1 s2) 8) (Cand.mx (Cand.st (cand s1 s2) 8)) = (Cand.ix (Cand.st (cand s1 s2) 10)) := by
  unfold k0_pay359
  simp only [pay358, pay357]
  rfl

theorem pay360 : k0_pay360 flat (Cand.st (cand s1 s2) 8) (Cand.mx (Cand.st (cand s1 s2) 8)) = (Cand.st (cand s1 s2) 11) := by
  unfold k0_pay360
  simp only [pay359, pay357]
  rfl

theorem pay361 : k0_pay361 flat (Cand.st (cand s1 s2) 8) (Cand.mx (Cand.st (cand s1 s2) 8)) = (Cand.mx (Cand.st (cand s1 s2) 11)) := by
  unfold k0_pay361
  simp only [pay360]
  rfl

theorem pay362 : k0_pay362 flat (Cand.st (cand s1 s2) 8) (Cand.mx (Cand.st (cand s1 s2) 8)) = (Cand.ix (Cand.st (cand s1 s2) 11)) := by
  unfold k0_pay362
  simp only [pay361, pay360]
  rfl

theorem pay363 : k0_pay363 flat (Cand.st (cand s1 s2) 8) (Cand.mx (Cand.st (cand s1 s2) 8)) = (Cand.em (Cand.st (cand s1 s2) 11)) := by
  unfold k0_pay363
  simp only [pay362]
  rfl

theorem pay364 : k0_pay364 = (broadcast S112x128 (Scalar.ofBits (F := Ideal) .f32 0xFF800000#32)) := rfl

theorem pay365 : k0_pay365 (Cand.st (cand s1 s2) 11) (Cand.em (Cand.st (cand s1 s2) 11)) (broadcast S112x128 (Scalar.ofBits (F := Ideal) .f32 0xFF800000#32)) = (Cand.st (cand s1 s2) 12) := rfl

theorem pay366 : k0_pay366 (Cand.st (cand s1 s2) 11) (Cand.em (Cand.st (cand s1 s2) 11)) (broadcast S112x128 (Scalar.ofBits (F := Ideal) .f32 0xFF800000#32)) = (Cand.mx (Cand.st (cand s1 s2) 12)) := by
  unfold k0_pay366
  simp only [pay365]
  rfl

theorem pay367 : k0_pay367 flat (Cand.st (cand s1 s2) 11) (Cand.em (Cand.st (cand s1 s2) 11)) (broadcast S112x128 (Scalar.ofBits (F := Ideal) .f32 0xFF800000#32)) = (Cand.ix (Cand.st (cand s1 s2) 12)) := by
  unfold k0_pay367
  simp only [pay366, pay365]
  rfl

theorem pay368 : k0_pay368 flat (Cand.st (cand s1 s2) 11) (Cand.em (Cand.st (cand s1 s2) 11)) (broadcast S112x128 (Scalar.ofBits (F := Ideal) .f32 0xFF800000#32)) = (Cand.st (cand s1 s2) 13) := by
  unfold k0_pay368
  simp only [pay367, pay365]
  rfl

theorem pay369 : k0_pay369 flat (Cand.st (cand s1 s2) 11) (Cand.em (Cand.st (cand s1 s2) 11)) (broadcast S112x128 (Scalar.ofBits (F := Ideal) .f32 0xFF800000#32)) = (Cand.mx (Cand.st (cand s1 s2) 13)) := by
  unfold k0_pay369
  simp only [pay368]
  rfl

theorem pay370 : k0_pay370 flat (Cand.st (cand s1 s2) 11) (Cand.em (Cand.st (cand s1 s2) 11)) (broadcast S112x128 (Scalar.ofBits (F := Ideal) .f32 0xFF800000#32)) = (Cand.ix (Cand.st (cand s1 s2) 13)) := by
  unfold k0_pay370
  simp only [pay369, pay368]
  rfl

theorem pay371 : k0_pay371 flat (Cand.st (cand s1 s2) 11) (Cand.em (Cand.st (cand s1 s2) 11)) (broadcast S112x128 (Scalar.ofBits (F := Ideal) .f32 0xFF800000#32)) = (Cand.st (cand s1 s2) 14) := by
  unfold k0_pay371
  simp only [pay370, pay368]
  rfl

theorem pay372 : k0_pay372 flat (Cand.st (cand s1 s2) 11) (Cand.em (Cand.st (cand s1 s2) 11)) (broadcast S112x128 (Scalar.ofBits (F := Ideal) .f32 0xFF800000#32)) = (Cand.mx (Cand.st (cand s1 s2) 14)) := by
  unfold k0_pay372
  simp only [pay371]
  rfl

theorem pay373 : k0_pay373 flat (Cand.st (cand s1 s2) 11) (Cand.em (Cand.st (cand s1 s2) 11)) (broadcast S112x128 (Scalar.ofBits (F := Ideal) .f32 0xFF800000#32)) = (Cand.ix (Cand.st (cand s1 s2) 14)) := by
  unfold k0_pay373
  simp only [pay372, pay371]
  rfl

theorem pay374 : k0_pay374 flat (Cand.st (cand s1 s2) 11) (Cand.em (Cand.st (cand s1 s2) 11)) (broadcast S112x128 (Scalar.ofBits (F := Ideal) .f32 0xFF800000#32)) = (Cand.st (cand s1 s2) 15) := by
  unfold k0_pay374
  simp only [pay373, pay371]
  rfl

theorem pay375 : k0_pay375 flat (Cand.st (cand s1 s2) 11) (Cand.em (Cand.st (cand s1 s2) 11)) (broadcast S112x128 (Scalar.ofBits (F := Ideal) .f32 0xFF800000#32)) = (Cand.mx (Cand.st (cand s1 s2) 15)) := by
  unfold k0_pay375
  simp only [pay374]
  rfl

theorem pay376 : k0_pay376 flat (Cand.st (cand s1 s2) 11) (Cand.em (Cand.st (cand s1 s2) 11)) (broadcast S112x128 (Scalar.ofBits (F := Ideal) .f32 0xFF800000#32)) = (Cand.ix (Cand.st (cand s1 s2) 15)) := by
  unfold k0_pay376
  simp only [pay375, pay374]
  rfl

theorem pay377 : k0_pay377 (Cand.mx (Cand.st (cand s1 s2) 0)) (Cand.mx (Cand.st (cand s1 s2) 1)) (Cand.mx (Cand.st (cand s1 s2) 2)) (Cand.mx (Cand.st (cand s1 s2) 3)) (Cand.mx (Cand.st (cand s1 s2) 4)) (Cand.mx (Cand.st (cand s1 s2) 5)) (Cand.mx (Cand.st (cand s1 s2) 6)) (Cand.mx (Cand.st (cand s1 s2) 7)) (Cand.mx (Cand.st (cand s1 s2) 8)) (Cand.mx (Cand.st (cand s1 s2) 9)) (Cand.mx (Cand.st (cand s1 s2) 10)) (Cand.mx (Cand.st (cand s1 s2) 11)) (Cand.mx (Cand.st (cand s1 s2) 12)) (Cand.mx (Cand.st (cand s1 s2) 13)) (Cand.mx (Cand.st (cand s1 s2) 14)) (Cand.mx (Cand.st (cand s1 s2) 15)) = (Cand.tv (cand s1 s2)) := rfl

theorem pay378 : k0_pay378 (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Cand.ti (cand s1 s2)) := rfl

theorem pay379 : k0_pay379 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp0 (Cand.ti (cand s1 s2)))) := by
  unfold k0_pay379
  simp only [pay378]
  rfl

theorem pay380 : k0_pay380 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp1 (Cand.ti (cand s1 s2)))) := by
  unfold k0_pay380
  simp only [pay378]
  rfl

theorem pay381 : k0_pay381 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp2 (Cand.ti (cand s1 s2)))) := by
  unfold k0_pay381
  simp only [pay378]
  rfl

theorem pay382 : k0_pay382 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp3 (Cand.ti (cand s1 s2)))) := by
  unfold k0_pay382
  simp only [pay378]
  rfl

theorem pay383 : k0_pay383 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp4 (Cand.ti (cand s1 s2)))) := by
  unfold k0_pay383
  simp only [pay378]
  rfl

theorem pay384 : k0_pay384 flat (cid s1 s2) (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (Pick.pk (cid s1 s2) (Pick.bp5 (Cand.ti (cand s1 s2)))) := by
  unfold k0_pay384
  simp only [pay378]
  rfl

theorem pay385 : k0_pay385 flat (Cand.ix (Cand.st (cand s1 s2) 0)) (Cand.ix (Cand.st (cand s1 s2) 1)) (Cand.ix (Cand.st (cand s1 s2) 2)) (Cand.ix (Cand.st (cand s1 s2) 3)) (Cand.ix (Cand.st (cand s1 s2) 4)) (Cand.ix (Cand.st (cand s1 s2) 5)) (Cand.ix (Cand.st (cand s1 s2) 6)) (Cand.ix (Cand.st (cand s1 s2) 7)) (Cand.ix (Cand.st (cand s1 s2) 8)) (Cand.ix (Cand.st (cand s1 s2) 9)) (Cand.ix (Cand.st (cand s1 s2) 10)) (Cand.ix (Cand.st (cand s1 s2) 11)) (Cand.ix (Cand.st (cand s1 s2) 12)) (Cand.ix (Cand.st (cand s1 s2) 13)) (Cand.ix (Cand.st (cand s1 s2) 14)) (Cand.ix (Cand.st (cand s1 s2) 15)) = (cmpi .eq flat (Pick.bp6 (Cand.ti (cand s1 s2)))) := by
  unfold k0_pay385
  simp only [pay378]
  rfl

theorem pay386 : k0_pay386 (cid s1 s2) (cmpi .eq flat (Pick.bp6 (Cand.ti (cand s1 s2)))) 4294967295#32 = (Pick.pk (cid s1 s2) (Pick.bp6 (Cand.ti (cand s1 s2)))) := rfl

theorem pay387 : k0_pay387 flat (cid s1 s2) (Cand.ti (cand s1 s2)) = (Pick.pk (cid s1 s2) (Pick.bp7 (Cand.ti (cand s1 s2)))) := rfl

theorem pay388 : k0_pay388 flat (cid s1 s2) (Cand.ti (cand s1 s2)) = (Pick.pk (cid s1 s2) (Pick.bp8 (Cand.ti (cand s1 s2)))) := rfl

theorem pay389 : k0_pay389 flat (cid s1 s2) (Cand.ti (cand s1 s2)) = (Pick.pk (cid s1 s2) (Pick.bp9 (Cand.ti (cand s1 s2)))) := rfl

theorem pay390 : k0_pay390 flat (cid s1 s2) (Cand.ti (cand s1 s2)) = (Pick.pk (cid s1 s2) (Pick.bp10 (Cand.ti (cand s1 s2)))) := rfl

theorem pay391 : k0_pay391 flat (cid s1 s2) (Cand.ti (cand s1 s2)) = (Pick.pk (cid s1 s2) (Pick.bp11 (Cand.ti (cand s1 s2)))) := rfl

theorem pay392 : k0_pay392 flat (cid s1 s2) (Cand.ti (cand s1 s2)) = (Pick.pk (cid s1 s2) (Pick.bp12 (Cand.ti (cand s1 s2)))) := rfl

theorem pay393 : k0_pay393 (Cand.ti (cand s1 s2)) = (extractStridedSlice S1x128 ![13, 0] (Cand.ti (cand s1 s2)) slices_S16x128_o13_0_S1x128) := rfl

theorem pay394 : k0_pay394 flat (cid s1 s2) (Cand.ti (cand s1 s2)) (Pick.pk (cid s1 s2) (Pick.bp0 (Cand.ti (cand s1 s2)))) (Pick.pk (cid s1 s2) (Pick.bp1 (Cand.ti (cand s1 s2)))) (Pick.pk (cid s1 s2) (Pick.bp2 (Cand.ti (cand s1 s2)))) (Pick.pk (cid s1 s2) (Pick.bp3 (Cand.ti (cand s1 s2)))) (Pick.pk (cid s1 s2) (Pick.bp4 (Cand.ti (cand s1 s2)))) (Pick.pk (cid s1 s2) (Pick.bp5 (Cand.ti (cand s1 s2)))) (Pick.pk (cid s1 s2) (Pick.bp6 (Cand.ti (cand s1 s2)))) (Pick.pk (cid s1 s2) (Pick.bp7 (Cand.ti (cand s1 s2)))) (Pick.pk (cid s1 s2) (Pick.bp8 (Cand.ti (cand s1 s2)))) (Pick.pk (cid s1 s2) (Pick.bp9 (Cand.ti (cand s1 s2)))) (Pick.pk (cid s1 s2) (Pick.bp10 (Cand.ti (cand s1 s2)))) (Pick.pk (cid s1 s2) (Pick.bp11 (Cand.ti (cand s1 s2)))) (Pick.pk (cid s1 s2) (Pick.bp12 (Cand.ti (cand s1 s2)))) (extractStridedSlice S1x128 ![13, 0] (Cand.ti (cand s1 s2)) slices_S16x128_o13_0_S1x128) = (eids s1 s2) := rfl

theorem pay395 : k0_pay395 flat (cid s1 s2) (Cand.ti (cand s1 s2)) (Pick.pk (cid s1 s2) (Pick.bp0 (Cand.ti (cand s1 s2)))) (Pick.pk (cid s1 s2) (Pick.bp1 (Cand.ti (cand s1 s2)))) (Pick.pk (cid s1 s2) (Pick.bp2 (Cand.ti (cand s1 s2)))) (Pick.pk (cid s1 s2) (Pick.bp3 (Cand.ti (cand s1 s2)))) (Pick.pk (cid s1 s2) (Pick.bp4 (Cand.ti (cand s1 s2)))) (Pick.pk (cid s1 s2) (Pick.bp5 (Cand.ti (cand s1 s2)))) (Pick.pk (cid s1 s2) (Pick.bp6 (Cand.ti (cand s1 s2)))) (Pick.pk (cid s1 s2) (Pick.bp7 (Cand.ti (cand s1 s2)))) (Pick.pk (cid s1 s2) (Pick.bp8 (Cand.ti (cand s1 s2)))) (Pick.pk (cid s1 s2) (Pick.bp9 (Cand.ti (cand s1 s2)))) (Pick.pk (cid s1 s2) (Pick.bp10 (Cand.ti (cand s1 s2)))) (Pick.pk (cid s1 s2) (Pick.bp11 (Cand.ti (cand s1 s2)))) (Pick.pk (cid s1 s2) (Pick.bp12 (Cand.ti (cand s1 s2)))) (extractStridedSlice S1x128 ![13, 0] (Cand.ti (cand s1 s2)) slices_S16x128_o13_0_S1x128) = (lift (eids s1 s2)) := by
  unfold k0_pay395
  simp only [pay394]
  rfl

theorem pay396 : k0_pay396 flat (cid s1 s2) (Cand.ti (cand s1 s2)) (Pick.pk (cid s1 s2) (Pick.bp0 (Cand.ti (cand s1 s2)))) (Pick.pk (cid s1 s2) (Pick.bp1 (Cand.ti (cand s1 s2)))) (Pick.pk (cid s1 s2) (Pick.bp2 (Cand.ti (cand s1 s2)))) (Pick.pk (cid s1 s2) (Pick.bp3 (Cand.ti (cand s1 s2)))) (Pick.pk (cid s1 s2) (Pick.bp4 (Cand.ti (cand s1 s2)))) (Pick.pk (cid s1 s2) (Pick.bp5 (Cand.ti (cand s1 s2)))) (Pick.pk (cid s1 s2) (Pick.bp6 (Cand.ti (cand s1 s2)))) (Pick.pk (cid s1 s2) (Pick.bp7 (Cand.ti (cand s1 s2)))) (Pick.pk (cid s1 s2) (Pick.bp8 (Cand.ti (cand s1 s2)))) (Pick.pk (cid s1 s2) (Pick.bp9 (Cand.ti (cand s1 s2)))) (Pick.pk (cid s1 s2) (Pick.bp10 (Cand.ti (cand s1 s2)))) (Pick.pk (cid s1 s2) (Pick.bp11 (Cand.ti (cand s1 s2)))) (Pick.pk (cid s1 s2) (Pick.bp12 (Cand.ti (cand s1 s2)))) (extractStridedSlice S1x128 ![13, 0] (Cand.ti (cand s1 s2)) slices_S16x128_o13_0_S1x128) = (lift (offs (eids s1 s2))) := by
  unfold k0_pay396
  simp only [pay394]
  rfl

theorem pay397 : k0_pay397 (Cand.tv (cand s1 s2)) = (gates s1 s2) := rfl

end

end Cert.Proof.Top.Fold
-- ==== Proof.TopTrip.lean ====
/-
  What one trip of the loop over heads stores: for each half of the block's columns, the sixteen experts, offsets and
  gates of the head's two score arrays.
-/
module

public import proofs.«01_k».proof.Proof.TopFold
public import proofs.«01_k».proof.Proof.Gen.Kernel4Ideal.Loops

@[expose] public section

noncomputable section

open Idealize.ShloMosaic Idealize.ShloMosaic.TcCoe
open Cert.Kernel4Ideal Cert.Kernel4Ideal.Gen

namespace Cert.Proof.Top.Trip

open Top

variable (arg4 : Memref sig .tc .vmem S16x128x64 .f32) (arg8 : Memref sig .tc .vmem S1024x256 .f32)
  (X4 : BufTy.Contents (Elt Ideal) arg4.view.ty) (X8 : BufTy.Contents (Elt Ideal) arg8.view.ty) (k : Fin k0_t1_loop.trips)

/-- The scores of the head: first half, first key set. -/
def a1 : FVec Ideal S128x128 .f32 :=
  k0_pay3 (View.readAt (Elt Ideal) arg4.view (Rect.unit (s := S16x128x64) (k0_off1 k 0#32) S1x128x64.size (k0_off1_inb k 0)).toLoadRect X4)
    (View.readAt (Elt Ideal) arg8.view (Rect.unit (s := S1024x256) (k0_off2 k 0#32) S64x128.size (k0_off2_inb k 0)).toLoadRect X8)

/-- The scores of the head: first half, second key set. -/
def a2 : FVec Ideal S128x128 .f32 :=
  k0_pay3 (View.readAt (Elt Ideal) arg4.view (Rect.unit (s := S16x128x64) (k0_off1 k 1#32) S1x128x64.size (k0_off1_inb k 1)).toLoadRect X4)
    (View.readAt (Elt Ideal) arg8.view (Rect.unit (s := S1024x256) (k0_off2 k 1#32) S64x128.size (k0_off2_inb k 1)).toLoadRect X8)

/-- The scores of the head: second half, first key set. -/
def b1 : FVec Ideal S128x128 .f32 :=
  k0_pay3 (View.readAt (Elt Ideal) arg4.view (Rect.unit (s := S16x128x64) (k0_off1 k 0#32) S1x128x64.size (k0_off1_inb k 0)).toLoadRect X4)
    (View.readAt (Elt Ideal) arg8.view (Rect.unit (s := S1024x256) (k0_off4 k 0#32) S64x128.size (k0_off4_inb k 0)).toLoadRect X8)

/-- The scores of the head: second half, second key set. -/
def b2 : FVec Ideal S128x128 .f32 :=
  k0_pay3 (View.readAt (Elt Ideal) arg4.view (Rect.unit (s := S16x128x64) (k0_off1 k 1#32) S1x128x64.size (k0_off1_inb k 1)).toLoadRect X4)
    (View.readAt (Elt Ideal) arg8.view (Rect.unit (s := S1024x256) (k0_off4 k 1#32) S64x128.size (k0_off4_inb k 1)).toLoadRect X8)

theorem s426 : trip_k0_t1.sl.v426 = rank := rfl

theorem r : trip_k0_t1.sl.r arg4 arg8 X4 X8 k = (Rows.mx (Rows.st (a1 arg4 arg8 X4 X8 k) 0)) := Fold.pay4 _ _

theorem r_1 : trip_k0_t1.sl.r_1 arg4 arg8 X4 X8 k = (Rows.ix (Rows.st (a1 arg4 arg8 X4 X8 k) 0)) := Fold.pay5 _ _

theorem r_2 : trip_k0_t1.sl.r_2 arg4 arg8 X4 X8 k = (Rows.mx (Rows.st (a1 arg4 arg8 X4 X8 k) 1)) := Fold.pay7 _ _

theorem r_3 : trip_k0_t1.sl.r_3 arg4 arg8 X4 X8 k = (Rows.ix (Rows.st (a1 arg4 arg8 X4 X8 k) 1)) := Fold.pay8 _ _

theorem r_4 : trip_k0_t1.sl.r_4 arg4 arg8 X4 X8 k = (Rows.st (a1 arg4 arg8 X4 X8 k) 2) := Fold.pay9 _ _

theorem r_5 : trip_k0_t1.sl.r_5 arg4 arg8 X4 X8 k = (Rows.mx (Rows.st (a1 arg4 arg8 X4 X8 k) 2)) := Fold.pay10 _ _

theorem r_6 : trip_k0_t1.sl.r_6 arg4 arg8 X4 X8 k = (Rows.gt (Rows.st (a1 arg4 arg8 X4 X8 k) 2)) := Fold.pay11 _ _

theorem r_7 : trip_k0_t1.sl.r_7 arg4 arg8 X4 X8 k = (Rows.ix (Rows.st (a1 arg4 arg8 X4 X8 k) 2)) := by
  unfold trip_k0_t1.sl.r_7
  simp only [r_6]
  exact Fold.pay12 (a1 arg4 arg8 X4 X8 k)

theorem r_8 : trip_k0_t1.sl.r_8 arg4 arg8 X4 X8 k = (Rows.mx (Rows.st (a1 arg4 arg8 X4 X8 k) 3)) := by
  unfold trip_k0_t1.sl.r_8
  simp only [r_4, r_6]
  exact Fold.pay14 (a1 arg4 arg8 X4 X8 k)

theorem r_9 : trip_k0_t1.sl.r_9 arg4 arg8 X4 X8 k = (Rows.ix (Rows.st (a1 arg4 arg8 X4 X8 k) 3)) := by
  unfold trip_k0_t1.sl.r_9
  simp only [r_4, r_6]
  exact Fold.pay15 (a1 arg4 arg8 X4 X8 k)

theorem r_10 : trip_k0_t1.sl.r_10 arg4 arg8 X4 X8 k = (Rows.mx (Rows.st (a1 arg4 arg8 X4 X8 k) 4)) := by
  unfold trip_k0_t1.sl.r_10
  simp only [r_4, r_6]
  exact Fold.pay17 (a1 arg4 arg8 X4 X8 k)

theorem r_11 : trip_k0_t1.sl.r_11 arg4 arg8 X4 X8 k = (Rows.ix (Rows.st (a1 arg4 arg8 X4 X8 k) 4)) := by
  unfold trip_k0_t1.sl.r_11
  simp only [r_4, r_6]
  exact Fold.pay18 (a1 arg4 arg8 X4 X8 k)

theorem r_12 : trip_k0_t1.sl.r_12 arg4 arg8 X4 X8 k = (Rows.mx (Rows.st (a1 arg4 arg8 X4 X8 k) 5)) := by
  unfold trip_k0_t1.sl.r_12
  simp only [r_4, r_6]
  exact Fold.pay20 (a1 arg4 arg8 X4 X8 k)

theorem r_13 : trip_k0_t1.sl.r_13 arg4 arg8 X4 X8 k = (Rows.ix (Rows.st (a1 arg4 arg8 X4 X8 k) 5)) := by
  unfold trip_k0_t1.sl.r_13
  simp only [r_4, r_6]
  exact Fold.pay21 (a1 arg4 arg8 X4 X8 k)

theorem r_14 : trip_k0_t1.sl.r_14 arg4 arg8 X4 X8 k = (Rows.st (a1 arg4 arg8 X4 X8 k) 6) := by
  unfold trip_k0_t1.sl.r_14
  simp only [r_4, r_6]
  exact Fold.pay22 (a1 arg4 arg8 X4 X8 k)

theorem r_15 : trip_k0_t1.sl.r_15 arg4 arg8 X4 X8 k = (Rows.mx (Rows.st (a1 arg4 arg8 X4 X8 k) 6)) := by
  unfold trip_k0_t1.sl.r_15
  simp only [r_14]
  exact Fold.pay23 (a1 arg4 arg8 X4 X8 k)

theorem r_16 : trip_k0_t1.sl.r_16 arg4 arg8 X4 X8 k = (Rows.ix (Rows.st (a1 arg4 arg8 X4 X8 k) 6)) := by
  unfold trip_k0_t1.sl.r_16
  simp only [r_14]
  exact Fold.pay24 (a1 arg4 arg8 X4 X8 k)

theorem r_17 : trip_k0_t1.sl.r_17 arg4 arg8 X4 X8 k = (Rows.mx (Rows.st (a1 arg4 arg8 X4 X8 k) 7)) := by
  unfold trip_k0_t1.sl.r_17
  simp only [r_14]
  exact Fold.pay26 (a1 arg4 arg8 X4 X8 k)

theorem r_18 : trip_k0_t1.sl.r_18 arg4 arg8 X4 X8 k = (Rows.ix (Rows.st (a1 arg4 arg8 X4 X8 k) 7)) := by
  unfold trip_k0_t1.sl.r_18
  simp only [r_14]
  exact Fold.pay27 (a1 arg4 arg8 X4 X8 k)

theorem r_19 : trip_k0_t1.sl.r_19 arg4 arg8 X4 X8 k = (Rows.mx (Rows.st (a1 arg4 arg8 X4 X8 k) 8)) := by
  unfold trip_k0_t1.sl.r_19
  simp only [r_14]
  exact Fold.pay29 (a1 arg4 arg8 X4 X8 k)

theorem r_20 : trip_k0_t1.sl.r_20 arg4 arg8 X4 X8 k = (Rows.ix (Rows.st (a1 arg4 arg8 X4 X8 k) 8)) := by
  unfold trip_k0_t1.sl.r_20
  simp only [r_14]
  exact Fold.pay30 (a1 arg4 arg8 X4 X8 k)

theorem r_21 : trip_k0_t1.sl.r_21 arg4 arg8 X4 X8 k = (Rows.st (a1 arg4 arg8 X4 X8 k) 9) := by
  unfold trip_k0_t1.sl.r_21
  simp only [r_14]
  exact Fold.pay31 (a1 arg4 arg8 X4 X8 k)

theorem r_22 : trip_k0_t1.sl.r_22 arg4 arg8 X4 X8 k = (Rows.mx (Rows.st (a1 arg4 arg8 X4 X8 k) 9)) := by
  unfold trip_k0_t1.sl.r_22
  simp only [r_14]
  exact Fold.pay32 (a1 arg4 arg8 X4 X8 k)

theorem r_23 : trip_k0_t1.sl.r_23 arg4 arg8 X4 X8 k = (Rows.ix (Rows.st (a1 arg4 arg8 X4 X8 k) 9)) := by
  unfold trip_k0_t1.sl.r_23
  simp only [r_14]
  exact Fold.pay33 (a1 arg4 arg8 X4 X8 k)

theorem r_24 : trip_k0_t1.sl.r_24 arg4 arg8 X4 X8 k = (Rows.em (Rows.st (a1 arg4 arg8 X4 X8 k) 9)) := by
  unfold trip_k0_t1.sl.r_24
  simp only [r_14]
  exact Fold.pay34 (a1 arg4 arg8 X4 X8 k)

theorem r_25 : trip_k0_t1.sl.r_25 arg4 arg8 X4 X8 k = (Rows.mx (Rows.st (a1 arg4 arg8 X4 X8 k) 10)) := by
  unfold trip_k0_t1.sl.r_25
  simp only [r_21, r_24]
  exact Fold.pay36 (a1 arg4 arg8 X4 X8 k)

theorem r_26 : trip_k0_t1.sl.r_26 arg4 arg8 X4 X8 k = (Rows.ix (Rows.st (a1 arg4 arg8 X4 X8 k) 10)) := by
  unfold trip_k0_t1.sl.r_26
  simp only [r_21, r_24]
  exact Fold.pay37 (a1 arg4 arg8 X4 X8 k)

theorem r_27 : trip_k0_t1.sl.r_27 arg4 arg8 X4 X8 k = (Rows.mx (Rows.st (a1 arg4 arg8 X4 X8 k) 11)) := by
  unfold trip_k0_t1.sl.r_27
  simp only [r_21, r_24]
  exact Fold.pay39 (a1 arg4 arg8 X4 X8 k)

theorem r_28 : trip_k0_t1.sl.r_28 arg4 arg8 X4 X8 k = (Rows.ix (Rows.st (a1 arg4 arg8 X4 X8 k) 11)) := by
  unfold trip_k0_t1.sl.r_28
  simp only [r_21, r_24]
  exact Fold.pay40 (a1 arg4 arg8 X4 X8 k)

theorem r_29 : trip_k0_t1.sl.r_29 arg4 arg8 X4 X8 k = (Rows.mx (Rows.st (a1 arg4 arg8 X4 X8 k) 12)) := by
  unfold trip_k0_t1.sl.r_29
  simp only [r_21, r_24]
  exact Fold.pay42 (a1 arg4 arg8 X4 X8 k)

theorem r_30 : trip_k0_t1.sl.r_30 arg4 arg8 X4 X8 k = (Rows.ix (Rows.st (a1 arg4 arg8 X4 X8 k) 12)) := by
  unfold trip_k0_t1.sl.r_30
  simp only [r_21, r_24]
  exact Fold.pay43 (a1 arg4 arg8 X4 X8 k)

theorem r_31 : trip_k0_t1.sl.r_31 arg4 arg8 X4 X8 k = (Rows.st (a1 arg4 arg8 X4 X8 k) 13) := by
  unfold trip_k0_t1.sl.r_31
  simp only [r_21, r_24]
  exact Fold.pay44 (a1 arg4 arg8 X4 X8 k)

theorem r_32 : trip_k0_t1.sl.r_32 arg4 arg8 X4 X8 k = (Rows.mx (Rows.st (a1 arg4 arg8 X4 X8 k) 13)) := by
  unfold trip_k0_t1.sl.r_32
  simp only [r_21, r_24]
  exact Fold.pay45 (a1 arg4 arg8 X4 X8 k)

theorem r_33 : trip_k0_t1.sl.r_33 arg4 arg8 X4 X8 k = (Rows.sl (Rows.st (a1 arg4 arg8 X4 X8 k) 13)) := by
  unfold trip_k0_t1.sl.r_33
  simp only [r_21, r_24]
  exact Fold.pay46 (a1 arg4 arg8 X4 X8 k)

theorem r_34 : trip_k0_t1.sl.r_34 arg4 arg8 X4 X8 k = (Rows.tv (a1 arg4 arg8 X4 X8 k)) := by
  unfold trip_k0_t1.sl.r_34
  simp only [r, r_2, r_5, r_8, r_10, r_12, r_15, r_17, r_19, r_22, r_25, r_27, r_29, r_31, r_32, r_33]
  exact Fold.pay53 (a1 arg4 arg8 X4 X8 k)

theorem r_35 : trip_k0_t1.sl.r_35 arg4 arg8 X4 X8 k = (Rows.ti (a1 arg4 arg8 X4 X8 k)) := by
  unfold trip_k0_t1.sl.r_35
  simp only [r_1, r_3, r_7, r_9, r_11, r_13, r_16, r_18, r_20, r_23, r_26, r_28, r_30, r_31, r_33]
  exact Fold.pay54 (a1 arg4 arg8 X4 X8 k)

theorem r_36 : trip_k0_t1.sl.r_36 arg4 arg8 X4 X8 k = (a2 arg4 arg8 X4 X8 k) := Fold.pay55 _ _

theorem r_37 : trip_k0_t1.sl.r_37 arg4 arg8 X4 X8 k = (Rows.rm (Rows.st (a2 arg4 arg8 X4 X8 k) 0)) := Fold.pay56 _ _

theorem r_38 : trip_k0_t1.sl.r_38 arg4 arg8 X4 X8 k = (Rows.mx (Rows.st (a2 arg4 arg8 X4 X8 k) 0)) := by
  unfold trip_k0_t1.sl.r_38
  simp only [r_37]
  exact Fold.pay57 (a2 arg4 arg8 X4 X8 k)

theorem r_39 : trip_k0_t1.sl.r_39 arg4 arg8 X4 X8 k = (Rows.ix (Rows.st (a2 arg4 arg8 X4 X8 k) 0)) := by
  unfold trip_k0_t1.sl.r_39
  simp only [r_36, r_37]
  exact Fold.pay58 (a2 arg4 arg8 X4 X8 k)

theorem r_40 : trip_k0_t1.sl.r_40 arg4 arg8 X4 X8 k = (Rows.mx (Rows.st (a2 arg4 arg8 X4 X8 k) 1)) := by
  unfold trip_k0_t1.sl.r_40
  simp only [r_36, r_37]
  exact Fold.pay60 (a2 arg4 arg8 X4 X8 k)

theorem r_41 : trip_k0_t1.sl.r_41 arg4 arg8 X4 X8 k = (Rows.ix (Rows.st (a2 arg4 arg8 X4 X8 k) 1)) := by
  unfold trip_k0_t1.sl.r_41
  simp only [r_36, r_37]
  exact Fold.pay61 (a2 arg4 arg8 X4 X8 k)

theorem r_42 : trip_k0_t1.sl.r_42 arg4 arg8 X4 X8 k = (Rows.mx (Rows.st (a2 arg4 arg8 X4 X8 k) 2)) := by
  unfold trip_k0_t1.sl.r_42
  simp only [r_36, r_37]
  exact Fold.pay63 (a2 arg4 arg8 X4 X8 k)

theorem r_43 : trip_k0_t1.sl.r_43 arg4 arg8 X4 X8 k = (Rows.ix (Rows.st (a2 arg4 arg8 X4 X8 k) 2)) := by
  unfold trip_k0_t1.sl.r_43
  simp only [r_36, r_37]
  exact Fold.pay64 (a2 arg4 arg8 X4 X8 k)

theorem r_44 : trip_k0_t1.sl.r_44 arg4 arg8 X4 X8 k = (Rows.st (a2 arg4 arg8 X4 X8 k) 3) := by
  unfold trip_k0_t1.sl.r_44
  simp only [r_36, r_37]
  exact Fold.pay65 (a2 arg4 arg8 X4 X8 k)

theorem r_45 : trip_k0_t1.sl.r_45 arg4 arg8 X4 X8 k = (Rows.mx (Rows.st (a2 arg4 arg8 X4 X8 k) 3)) := by
  unfold trip_k0_t1.sl.r_45
  simp only [r_36, r_37]
  exact Fold.pay66 (a2 arg4 arg8 X4 X8 k)

theorem r_46 : trip_k0_t1.sl.r_46 arg4 arg8 X4 X8 k = (Rows.ix (Rows.st (a2 arg4 arg8 X4 X8 k) 3)) := by
  unfold trip_k0_t1.sl.r_46
  simp only [r_36, r_37]
  exact Fold.pay67 (a2 arg4 arg8 X4 X8 k)

theorem r_47 : trip_k0_t1.sl.r_47 arg4 arg8 X4 X8 k = (Rows.em (Rows.st (a2 arg4 arg8 X4 X8 k) 3)) := by
  unfold trip_k0_t1.sl.r_47
  simp only [r_36, r_37]
  exact Fold.pay68 (a2 arg4 arg8 X4 X8 k)

theorem r_48 : trip_k0_t1.sl.r_48 arg4 arg8 X4 X8 k = (Rows.mx (Rows.st (a2 arg4 arg8 X4 X8 k) 4)) := by
  unfold trip_k0_t1.sl.r_48
  simp only [r_44, r_47]
  exact Fold.pay70 (a2 arg4 arg8 X4 X8 k)

theorem r_49 : trip_k0_t1.sl.r_49 arg4 arg8 X4 X8 k = (Rows.ix (Rows.st (a2 arg4 arg8 X4 X8 k) 4)) := by
  unfold trip_k0_t1.sl.r_49
  simp only [r_44, r_47]
  exact Fold.pay71 (a2 arg4 arg8 X4 X8 k)

theorem r_50 : trip_k0_t1.sl.r_50 arg4 arg8 X4 X8 k = (Rows.mx (Rows.st (a2 arg4 arg8 X4 X8 k) 5)) := by
  unfold trip_k0_t1.sl.r_50
  simp only [r_44, r_47]
  exact Fold.pay73 (a2 arg4 arg8 X4 X8 k)

theorem r_51 : trip_k0_t1.sl.r_51 arg4 arg8 X4 X8 k = (Rows.ix (Rows.st (a2 arg4 arg8 X4 X8 k) 5)) := by
  unfold trip_k0_t1.sl.r_51
  simp only [r_44, r_47]
  exact Fold.pay74 (a2 arg4 arg8 X4 X8 k)

theorem r_52 : trip_k0_t1.sl.r_52 arg4 arg8 X4 X8 k = (Rows.mx (Rows.st (a2 arg4 arg8 X4 X8 k) 6)) := by
  unfold trip_k0_t1.sl.r_52
  simp only [r_44, r_47]
  exact Fold.pay76 (a2 arg4 arg8 X4 X8 k)

theorem r_53 : trip_k0_t1.sl.r_53 arg4 arg8 X4 X8 k = (Rows.ix (Rows.st (a2 arg4 arg8 X4 X8 k) 6)) := by
  unfold trip_k0_t1.sl.r_53
  simp only [r_44, r_47]
  exact Fold.pay77 (a2 arg4 arg8 X4 X8 k)

theorem r_54 : trip_k0_t1.sl.r_54 arg4 arg8 X4 X8 k = (Rows.st (a2 arg4 arg8 X4 X8 k) 7) := by
  unfold trip_k0_t1.sl.r_54
  simp only [r_44, r_47]
  exact Fold.pay78 (a2 arg4 arg8 X4 X8 k)

theorem r_55 : trip_k0_t1.sl.r_55 arg4 arg8 X4 X8 k = (Rows.mx (Rows.st (a2 arg4 arg8 X4 X8 k) 7)) := by
  unfold trip_k0_t1.sl.r_55
  simp only [r_44, r_47]
  exact Fold.pay79 (a2 arg4 arg8 X4 X8 k)

theorem r_56 : trip_k0_t1.sl.r_56 arg4 arg8 X4 X8 k = (Rows.rn (Rows.st (a2 arg4 arg8 X4 X8 k) 7)) := by
  unfold trip_k0_t1.sl.r_56
  simp only [r_44, r_47]
  exact Fold.pay80 (a2 arg4 arg8 X4 X8 k)

theorem r_57 : trip_k0_t1.sl.r_57 arg4 arg8 X4 X8 k = (Rows.ix (Rows.st (a2 arg4 arg8 X4 X8 k) 7)) := by
  unfold trip_k0_t1.sl.r_57
  simp only [r_56]
  exact Fold.pay81 (a2 arg4 arg8 X4 X8 k)

theorem r_58 : trip_k0_t1.sl.r_58 arg4 arg8 X4 X8 k = (Rows.mx (Rows.st (a2 arg4 arg8 X4 X8 k) 8)) := by
  unfold trip_k0_t1.sl.r_58
  simp only [r_54, r_56]
  exact Fold.pay83 (a2 arg4 arg8 X4 X8 k)

theorem r_59 : trip_k0_t1.sl.r_59 arg4 arg8 X4 X8 k = (Rows.ix (Rows.st (a2 arg4 arg8 X4 X8 k) 8)) := by
  unfold trip_k0_t1.sl.r_59
  simp only [r_54, r_56]
  exact Fold.pay84 (a2 arg4 arg8 X4 X8 k)

theorem r_60 : trip_k0_t1.sl.r_60 arg4 arg8 X4 X8 k = (Rows.mx (Rows.st (a2 arg4 arg8 X4 X8 k) 9)) := by
  unfold trip_k0_t1.sl.r_60
  simp only [r_54, r_56]
  exact Fold.pay86 (a2 arg4 arg8 X4 X8 k)

theorem r_61 : trip_k0_t1.sl.r_61 arg4 arg8 X4 X8 k = (Rows.ix (Rows.st (a2 arg4 arg8 X4 X8 k) 9)) := by
  unfold trip_k0_t1.sl.r_61
  simp only [r_54, r_56]
  exact Fold.pay87 (a2 arg4 arg8 X4 X8 k)

theorem r_62 : trip_k0_t1.sl.r_62 arg4 arg8 X4 X8 k = (Rows.mx (Rows.st (a2 arg4 arg8 X4 X8 k) 10)) := by
  unfold trip_k0_t1.sl.r_62
  simp only [r_54, r_56]
  exact Fold.pay89 (a2 arg4 arg8 X4 X8 k)

theorem r_63 : trip_k0_t1.sl.r_63 arg4 arg8 X4 X8 k = (Rows.ix (Rows.st (a2 arg4 arg8 X4 X8 k) 10)) := by
  unfold trip_k0_t1.sl.r_63
  simp only [r_54, r_56]
  exact Fold.pay90 (a2 arg4 arg8 X4 X8 k)

theorem r_64 : trip_k0_t1.sl.r_64 arg4 arg8 X4 X8 k = (Rows.st (a2 arg4 arg8 X4 X8 k) 11) := by
  unfold trip_k0_t1.sl.r_64
  simp only [r_54, r_56]
  exact Fold.pay91 (a2 arg4 arg8 X4 X8 k)

theorem r_65 : trip_k0_t1.sl.r_65 arg4 arg8 X4 X8 k = (Rows.mx (Rows.st (a2 arg4 arg8 X4 X8 k) 11)) := by
  unfold trip_k0_t1.sl.r_65
  simp only [r_54, r_56]
  exact Fold.pay92 (a2 arg4 arg8 X4 X8 k)

theorem r_66 : trip_k0_t1.sl.r_66 arg4 arg8 X4 X8 k = (Rows.gt (Rows.st (a2 arg4 arg8 X4 X8 k) 11)) := by
  unfold trip_k0_t1.sl.r_66
  simp only [r_54, r_56]
  exact Fold.pay93 (a2 arg4 arg8 X4 X8 k)

theorem r_67 : trip_k0_t1.sl.r_67 arg4 arg8 X4 X8 k = (Rows.ix (Rows.st (a2 arg4 arg8 X4 X8 k) 11)) := by
  unfold trip_k0_t1.sl.r_67
  simp only [r_66]
  exact Fold.pay94 (a2 arg4 arg8 X4 X8 k)

theorem r_68 : trip_k0_t1.sl.r_68 arg4 arg8 X4 X8 k = (Rows.mx (Rows.st (a2 arg4 arg8 X4 X8 k) 12)) := by
  unfold trip_k0_t1.sl.r_68
  simp only [r_64, r_66]
  exact Fold.pay96 (a2 arg4 arg8 X4 X8 k)

theorem r_69 : trip_k0_t1.sl.r_69 arg4 arg8 X4 X8 k = (Rows.ix (Rows.st (a2 arg4 arg8 X4 X8 k) 12)) := by
  unfold trip_k0_t1.sl.r_69
  simp only [r_64, r_66]
  exact Fold.pay97 (a2 arg4 arg8 X4 X8 k)

theorem r_70 : trip_k0_t1.sl.r_70 arg4 arg8 X4 X8 k = (Rows.mx (Rows.st (a2 arg4 arg8 X4 X8 k) 13)) := by
  unfold trip_k0_t1.sl.r_70
  simp only [r_64, r_66]
  exact Fold.pay99 (a2 arg4 arg8 X4 X8 k)

theorem r_71 : trip_k0_t1.sl.r_71 arg4 arg8 X4 X8 k = (Rows.ix (Rows.st (a2 arg4 arg8 X4 X8 k) 13)) := by
  unfold trip_k0_t1.sl.r_71
  simp only [r_64, r_66]
  exact Fold.pay100 (a2 arg4 arg8 X4 X8 k)

theorem r_72 : trip_k0_t1.sl.r_72 arg4 arg8 X4 X8 k = (Rows.mx (Rows.st (a2 arg4 arg8 X4 X8 k) 14)) := by
  unfold trip_k0_t1.sl.r_72
  simp only [r_64, r_66]
  exact Fold.pay102 (a2 arg4 arg8 X4 X8 k)

theorem r_73 : trip_k0_t1.sl.r_73 arg4 arg8 X4 X8 k = (Rows.ix (Rows.st (a2 arg4 arg8 X4 X8 k) 14)) := by
  unfold trip_k0_t1.sl.r_73
  simp only [r_64, r_66]
  exact Fold.pay103 (a2 arg4 arg8 X4 X8 k)

theorem r_74 : trip_k0_t1.sl.r_74 arg4 arg8 X4 X8 k = (Rows.st (a2 arg4 arg8 X4 X8 k) 15) := by
  unfold trip_k0_t1.sl.r_74
  simp only [r_64, r_66]
  exact Fold.pay104 (a2 arg4 arg8 X4 X8 k)

theorem r_75 : trip_k0_t1.sl.r_75 arg4 arg8 X4 X8 k = (Rows.rm (Rows.st (a2 arg4 arg8 X4 X8 k) 15)) := by
  unfold trip_k0_t1.sl.r_75
  simp only [r_64, r_66]
  exact Fold.pay105 (a2 arg4 arg8 X4 X8 k)

theorem r_76 : trip_k0_t1.sl.r_76 arg4 arg8 X4 X8 k = (Rows.tv (a2 arg4 arg8 X4 X8 k)) := by
  unfold trip_k0_t1.sl.r_76
  simp only [r_38, r_40, r_42, r_45, r_48, r_50, r_52, r_55, r_58, r_60, r_62, r_65, r_68, r_70, r_72, r_75]
  exact Fold.pay107 (a2 arg4 arg8 X4 X8 k)

theorem r_77 : trip_k0_t1.sl.r_77 arg4 arg8 X4 X8 k = (Rows.ti (a2 arg4 arg8 X4 X8 k)) := by
  unfold trip_k0_t1.sl.r_77
  simp only [r_39, r_41, r_43, r_46, r_49, r_51, r_53, r_57, r_59, r_61, r_63, r_67, r_69, r_71, r_73, r_74, r_75]
  exact Fold.pay108 (a2 arg4 arg8 X4 X8 k)

theorem r_78 : trip_k0_t1.sl.r_78 arg4 arg8 X4 X8 k = (cs0 (Rows.tv (a1 arg4 arg8 X4 X8 k)) (Rows.tv (a2 arg4 arg8 X4 X8 k))) := by
  unfold trip_k0_t1.sl.r_78
  simp only [r_34, r_38, r_40, r_42, r_45, r_48, r_50, r_52, r_55, r_58, r_60, r_62, r_65, r_68, r_70, r_72, r_75]
  exact Fold.pay109 (a1 arg4 arg8 X4 X8 k) (a2 arg4 arg8 X4 X8 k)

theorem r_79 : trip_k0_t1.sl.r_79 arg4 arg8 X4 X8 k = (ci0 (Rows.ti (a1 arg4 arg8 X4 X8 k)) (Rows.ti (a2 arg4 arg8 X4 X8 k))) := by
  unfold trip_k0_t1.sl.r_79
  simp only [r_35, r_39, r_41, r_43, r_46, r_49, r_51, r_53, r_57, r_59, r_61, r_63, r_67, r_69, r_71, r_73, r_74, r_75]
  exact Fold.pay111 (a1 arg4 arg8 X4 X8 k) (a2 arg4 arg8 X4 X8 k)

theorem r_80 : trip_k0_t1.sl.r_80 arg4 arg8 X4 X8 k = (cs1 (Rows.tv (a1 arg4 arg8 X4 X8 k)) (Rows.tv (a2 arg4 arg8 X4 X8 k))) := by
  unfold trip_k0_t1.sl.r_80
  simp only [r_34, r_38, r_40, r_42, r_45, r_48, r_50, r_52, r_55, r_58, r_60, r_62, r_65, r_68, r_70, r_72, r_75]
  exact Fold.pay112 (a1 arg4 arg8 X4 X8 k) (a2 arg4 arg8 X4 X8 k)

theorem r_81 : trip_k0_t1.sl.r_81 arg4 arg8 X4 X8 k = (ci1 (Rows.ti (a1 arg4 arg8 X4 X8 k)) (Rows.ti (a2 arg4 arg8 X4 X8 k))) := by
  unfold trip_k0_t1.sl.r_81
  simp only [r_35, r_39, r_41, r_43, r_46, r_49, r_51, r_53, r_57, r_59, r_61, r_63, r_67, r_69, r_71, r_73, r_74, r_75]
  exact Fold.pay114 (a1 arg4 arg8 X4 X8 k) (a2 arg4 arg8 X4 X8 k)

theorem r_82 : trip_k0_t1.sl.r_82 arg4 arg8 X4 X8 k = (cs2 (Rows.tv (a1 arg4 arg8 X4 X8 k)) (Rows.tv (a2 arg4 arg8 X4 X8 k))) := by
  unfold trip_k0_t1.sl.r_82
  simp only [r_34, r_38, r_40, r_42, r_45, r_48, r_50, r_52, r_55, r_58, r_60, r_62, r_65, r_68, r_70, r_72, r_75]
  exact Fold.pay115 (a1 arg4 arg8 X4 X8 k) (a2 arg4 arg8 X4 X8 k)

theorem r_83 : trip_k0_t1.sl.r_83 arg4 arg8 X4 X8 k = (ci2 (Rows.ti (a1 arg4 arg8 X4 X8 k)) (Rows.ti (a2 arg4 arg8 X4 X8 k))) := by
  unfold trip_k0_t1.sl.r_83
  simp only [r_35, r_77]
  exact Fold.pay117 (a1 arg4 arg8 X4 X8 k) (a2 arg4 arg8 X4 X8 k)

theorem r_84 : trip_k0_t1.sl.r_84 arg4 arg8 X4 X8 k = (cs3 (Rows.tv (a1 arg4 arg8 X4 X8 k)) (Rows.tv (a2 arg4 arg8 X4 X8 k))) := by
  unfold trip_k0_t1.sl.r_84
  simp only [r_34, r_76]
  exact Fold.pay118 (a1 arg4 arg8 X4 X8 k) (a2 arg4 arg8 X4 X8 k)

theorem r_85 : trip_k0_t1.sl.r_85 arg4 arg8 X4 X8 k = (ci3 (Rows.ti (a1 arg4 arg8 X4 X8 k)) (Rows.ti (a2 arg4 arg8 X4 X8 k))) := by
  unfold trip_k0_t1.sl.r_85
  simp only [r_35, r_77]
  exact Fold.pay120 (a1 arg4 arg8 X4 X8 k) (a2 arg4 arg8 X4 X8 k)

theorem r_86 : trip_k0_t1.sl.r_86 arg4 arg8 X4 X8 k = (cs4 (Rows.tv (a1 arg4 arg8 X4 X8 k)) (Rows.tv (a2 arg4 arg8 X4 X8 k))) := by
  unfold trip_k0_t1.sl.r_86
  simp only [r_34, r_76]
  exact Fold.pay121 (a1 arg4 arg8 X4 X8 k) (a2 arg4 arg8 X4 X8 k)

theorem r_87 : trip_k0_t1.sl.r_87 arg4 arg8 X4 X8 k = (ci4 (Rows.ti (a1 arg4 arg8 X4 X8 k)) (Rows.ti (a2 arg4 arg8 X4 X8 k))) := by
  unfold trip_k0_t1.sl.r_87
  simp only [r_35, r_77]
  exact Fold.pay123 (a1 arg4 arg8 X4 X8 k) (a2 arg4 arg8 X4 X8 k)

theorem r_88 : trip_k0_t1.sl.r_88 arg4 arg8 X4 X8 k = (cand (a1 arg4 arg8 X4 X8 k) (a2 arg4 arg8 X4 X8 k)) := by
  unfold trip_k0_t1.sl.r_88
  simp only [r_34, r_76, r_78, r_80, r_82, r_84, r_86, Fold.pay124, s426]
  exact Fold.pay125 (a1 arg4 arg8 X4 X8 k) (a2 arg4 arg8 X4 X8 k)

theorem r_89 : trip_k0_t1.sl.r_89 arg4 arg8 X4 X8 k = (cid (a1 arg4 arg8 X4 X8 k) (a2 arg4 arg8 X4 X8 k)) := by
  unfold trip_k0_t1.sl.r_89
  simp only [r_35, r_77, r_79, r_81, r_83, r_85, r_87]
  exact Fold.pay127 (a1 arg4 arg8 X4 X8 k) (a2 arg4 arg8 X4 X8 k)

theorem r_90 : trip_k0_t1.sl.r_90 arg4 arg8 X4 X8 k = (Cand.mx (Cand.st (cand (a1 arg4 arg8 X4 X8 k) (a2 arg4 arg8 X4 X8 k)) 0)) := by
  unfold trip_k0_t1.sl.r_90
  simp only [r_34, r_76, r_78, r_80, r_82, r_84, r_86, Fold.pay124, s426]
  exact Fold.pay128 (a1 arg4 arg8 X4 X8 k) (a2 arg4 arg8 X4 X8 k)

theorem r_91 : trip_k0_t1.sl.r_91 arg4 arg8 X4 X8 k = (Cand.ix (Cand.st (cand (a1 arg4 arg8 X4 X8 k) (a2 arg4 arg8 X4 X8 k)) 0)) := by
  unfold trip_k0_t1.sl.r_91
  simp only [r_34, r_76, r_78, r_80, r_82, r_84, r_86, Fold.pay110, Fold.pay113, Fold.pay116, Fold.pay119, Fold.pay122, Fold.pay124, s426]
  exact Fold.pay129 (a1 arg4 arg8 X4 X8 k) (a2 arg4 arg8 X4 X8 k)

theorem r_92 : trip_k0_t1.sl.r_92 arg4 arg8 X4 X8 k = (Cand.bi (Cand.st (cand (a1 arg4 arg8 X4 X8 k) (a2 arg4 arg8 X4 X8 k)) 0)) := by
  unfold trip_k0_t1.sl.r_92
  simp only [r_34, r_76, r_78, r_80, r_82, r_84, r_86, Fold.pay110, Fold.pay113, Fold.pay116, Fold.pay119, Fold.pay122, Fold.pay124, s426]
  exact Fold.pay130 (a1 arg4 arg8 X4 X8 k) (a2 arg4 arg8 X4 X8 k)

theorem r_93 : trip_k0_t1.sl.r_93 arg4 arg8 X4 X8 k = (Cand.mx (Cand.st (cand (a1 arg4 arg8 X4 X8 k) (a2 arg4 arg8 X4 X8 k)) 1)) := by
  unfold trip_k0_t1.sl.r_93
  simp only [r_88, r_92, Fold.pay126, Fold.pay110, Fold.pay113, Fold.pay116, Fold.pay119, Fold.pay122, s426]
  exact Fold.pay132 (a1 arg4 arg8 X4 X8 k) (a2 arg4 arg8 X4 X8 k)

theorem r_94 : trip_k0_t1.sl.r_94 arg4 arg8 X4 X8 k = (Cand.ix (Cand.st (cand (a1 arg4 arg8 X4 X8 k) (a2 arg4 arg8 X4 X8 k)) 1)) := by
  unfold trip_k0_t1.sl.r_94
  simp only [r_88, r_92, Fold.pay126, Fold.pay110, Fold.pay113, Fold.pay116, Fold.pay119, Fold.pay122, s426]
  exact Fold.pay133 (a1 arg4 arg8 X4 X8 k) (a2 arg4 arg8 X4 X8 k)

theorem r_95 : trip_k0_t1.sl.r_95 arg4 arg8 X4 X8 k = (Cand.mx (Cand.st (cand (a1 arg4 arg8 X4 X8 k) (a2 arg4 arg8 X4 X8 k)) 2)) := by
  unfold trip_k0_t1.sl.r_95
  simp only [r_88, r_92, Fold.pay126, Fold.pay110, Fold.pay113, Fold.pay116, Fold.pay119, Fold.pay122, s426]
  exact Fold.pay135 (a1 arg4 arg8 X4 X8 k) (a2 arg4 arg8 X4 X8 k)

theorem r_96 : trip_k0_t1.sl.r_96 arg4 arg8 X4 X8 k = (Cand.ix (Cand.st (cand (a1 arg4 arg8 X4 X8 k) (a2 arg4 arg8 X4 X8 k)) 2)) := by
  unfold trip_k0_t1.sl.r_96
  simp only [r_88, r_92, Fold.pay126, Fold.pay110, Fold.pay113, Fold.pay116, Fold.pay119, Fold.pay122, s426]
  exact Fold.pay136 (a1 arg4 arg8 X4 X8 k) (a2 arg4 arg8 X4 X8 k)

theorem r_97 : trip_k0_t1.sl.r_97 arg4 arg8 X4 X8 k = (Cand.mx (Cand.st (cand (a1 arg4 arg8 X4 X8 k) (a2 arg4 arg8 X4 X8 k)) 3)) := by
  unfold trip_k0_t1.sl.r_97
  simp only [r_88, r_92, Fold.pay126, Fold.pay110, Fold.pay113, Fold.pay116, Fold.pay119, Fold.pay122, s426]
  exact Fold.pay138 (a1 arg4 arg8 X4 X8 k) (a2 arg4 arg8 X4 X8 k)

theorem r_98 : trip_k0_t1.sl.r_98 arg4 arg8 X4 X8 k = (Cand.ix (Cand.st (cand (a1 arg4 arg8 X4 X8 k) (a2 arg4 arg8 X4 X8 k)) 3)) := by
  unfold trip_k0_t1.sl.r_98
  simp only [r_88, r_92, Fold.pay126, Fold.pay110, Fold.pay113, Fold.pay116, Fold.pay119, Fold.pay122, s426]
  exact Fold.pay139 (a1 arg4 arg8 X4 X8 k) (a2 arg4 arg8 X4 X8 k)

theorem r_99 : trip_k0_t1.sl.r_99 arg4 arg8 X4 X8 k = (Cand.st (cand (a1 arg4 arg8 X4 X8 k) (a2 arg4 arg8 X4 X8 k)) 4) := by
  unfold trip_k0_t1.sl.r_99
  simp only [r_88, r_92, Fold.pay126, Fold.pay110, Fold.pay113, Fold.pay116, Fold.pay119, Fold.pay122, s426]
  exact Fold.pay140 (a1 arg4 arg8 X4 X8 k) (a2 arg4 arg8 X4 X8 k)

theorem r_100 : trip_k0_t1.sl.r_100 arg4 arg8 X4 X8 k = (Cand.mx (Cand.st (cand (a1 arg4 arg8 X4 X8 k) (a2 arg4 arg8 X4 X8 k)) 4)) := by
  unfold trip_k0_t1.sl.r_100
  simp only [r_88, r_92, Fold.pay126, Fold.pay110, Fold.pay113, Fold.pay116, Fold.pay119, Fold.pay122, s426]
  exact Fold.pay141 (a1 arg4 arg8 X4 X8 k) (a2 arg4 arg8 X4 X8 k)

theorem r_101 : trip_k0_t1.sl.r_101 arg4 arg8 X4 X8 k = (Cand.sl (Cand.st (cand (a1 arg4 arg8 X4 X8 k) (a2 arg4 arg8 X4 X8 k)) 4)) := by
  unfold trip_k0_t1.sl.r_101
  simp only [r_88, r_92, Fold.pay126, Fold.pay110, Fold.pay113, Fold.pay116, Fold.pay119, Fold.pay122, s426]
  exact Fold.pay142 (a1 arg4 arg8 X4 X8 k) (a2 arg4 arg8 X4 X8 k)

theorem r_102 : trip_k0_t1.sl.r_102 arg4 arg8 X4 X8 k = (Cand.ix (Cand.st (cand (a1 arg4 arg8 X4 X8 k) (a2 arg4 arg8 X4 X8 k)) 4)) := by
  unfold trip_k0_t1.sl.r_102
  simp only [r_101]
  exact Fold.pay143 (a1 arg4 arg8 X4 X8 k) (a2 arg4 arg8 X4 X8 k)

theorem r_103 : trip_k0_t1.sl.r_103 arg4 arg8 X4 X8 k = (Cand.mx (Cand.st (cand (a1 arg4 arg8 X4 X8 k) (a2 arg4 arg8 X4 X8 k)) 5)) := by
  unfold trip_k0_t1.sl.r_103
  simp only [r_99, r_101, Fold.pay126, Fold.pay110, Fold.pay113, Fold.pay116, Fold.pay119, Fold.pay122, s426]
  exact Fold.pay145 (a1 arg4 arg8 X4 X8 k) (a2 arg4 arg8 X4 X8 k)

theorem r_104 : trip_k0_t1.sl.r_104 arg4 arg8 X4 X8 k = (Cand.ix (Cand.st (cand (a1 arg4 arg8 X4 X8 k) (a2 arg4 arg8 X4 X8 k)) 5)) := by
  unfold trip_k0_t1.sl.r_104
  simp only [r_99, r_101, Fold.pay126, Fold.pay110, Fold.pay113, Fold.pay116, Fold.pay119, Fold.pay122, s426]
  exact Fold.pay146 (a1 arg4 arg8 X4 X8 k) (a2 arg4 arg8 X4 X8 k)

theorem r_105 : trip_k0_t1.sl.r_105 arg4 arg8 X4 X8 k = (Cand.mx (Cand.st (cand (a1 arg4 arg8 X4 X8 k) (a2 arg4 arg8 X4 X8 k)) 6)) := by
  unfold trip_k0_t1.sl.r_105
  simp only [r_99, r_101, Fold.pay126, Fold.pay110, Fold.pay113, Fold.pay116, Fold.pay119, Fold.pay122, s426]
  exact Fold.pay148 (a1 arg4 arg8 X4 X8 k) (a2 arg4 arg8 X4 X8 k)

theorem r_106 : trip_k0_t1.sl.r_106 arg4 arg8 X4 X8 k = (Cand.ix (Cand.st (cand (a1 arg4 arg8 X4 X8 k) (a2 arg4 arg8 X4 X8 k)) 6)) := by
  unfold trip_k0_t1.sl.r_106
  simp only [r_99, r_101, Fold.pay126, Fold.pay110, Fold.pay113, Fold.pay116, Fold.pay119, Fold.pay122, s426]
  exact Fold.pay149 (a1 arg4 arg8 X4 X8 k) (a2 arg4 arg8 X4 X8 k)

theorem r_107 : trip_k0_t1.sl.r_107 arg4 arg8 X4 X8 k = (Cand.mx (Cand.st (cand (a1 arg4 arg8 X4 X8 k) (a2 arg4 arg8 X4 X8 k)) 7)) := by
  unfold trip_k0_t1.sl.r_107
  simp only [r_99, r_101, Fold.pay126, Fold.pay110, Fold.pay113, Fold.pay116, Fold.pay119, Fold.pay122, s426]
  exact Fold.pay151 (a1 arg4 arg8 X4 X8 k) (a2 arg4 arg8 X4 X8 k)

theorem r_108 : trip_k0_t1.sl.r_108 arg4 arg8 X4 X8 k = (Cand.ix (Cand.st (cand (a1 arg4 arg8 X4 X8 k) (a2 arg4 arg8 X4 X8 k)) 7)) := by
  unfold trip_k0_t1.sl.r_108
  simp only [r_99, r_101, Fold.pay126, Fold.pay110, Fold.pay113, Fold.pay116, Fold.pay119, Fold.pay122, s426]
  exact Fold.pay152 (a1 arg4 arg8 X4 X8 k) (a2 arg4 arg8 X4 X8 k)

theorem r_109 : trip_k0_t1.sl.r_109 arg4 arg8 X4 X8 k = (Cand.st (cand (a1 arg4 arg8 X4 X8 k) (a2 arg4 arg8 X4 X8 k)) 8) := by
  unfold trip_k0_t1.sl.r_109
  simp only [r_99, r_101, Fold.pay126, Fold.pay110, Fold.pay113, Fold.pay116, Fold.pay119, Fold.pay122, s426]
  exact Fold.pay153 (a1 arg4 arg8 X4 X8 k) (a2 arg4 arg8 X4 X8 k)

theorem r_110 : trip_k0_t1.sl.r_110 arg4 arg8 X4 X8 k = (Cand.mx (Cand.st (cand (a1 arg4 arg8 X4 X8 k) (a2 arg4 arg8 X4 X8 k)) 8)) := by
  unfold trip_k0_t1.sl.r_110
  simp only [r_99, r_101, Fold.pay126, Fold.pay110, Fold.pay113, Fold.pay116, Fold.pay119, Fold.pay122, s426]
  exact Fold.pay154 (a1 arg4 arg8 X4 X8 k) (a2 arg4 arg8 X4 X8 k)

theorem r_111 : trip_k0_t1.sl.r_111 arg4 arg8 X4 X8 k = (Cand.bx (Cand.st (cand (a1 arg4 arg8 X4 X8 k) (a2 arg4 arg8 X4 X8 k)) 8)) := by
  unfold trip_k0_t1.sl.r_111
  simp only [r_99, r_101, Fold.pay126, Fold.pay110, Fold.pay113, Fold.pay116, Fold.pay119, Fold.pay122, s426]
  exact Fold.pay155 (a1 arg4 arg8 X4 X8 k) (a2 arg4 arg8 X4 X8 k)

theorem r_112 : trip_k0_t1.sl.r_112 arg4 arg8 X4 X8 k = (Cand.ix (Cand.st (cand (a1 arg4 arg8 X4 X8 k) (a2 arg4 arg8 X4 X8 k)) 8)) := by
  unfold trip_k0_t1.sl.r_112
  simp only [r_109, r_111, Fold.pay126, Fold.pay110, Fold.pay113, Fold.pay116, Fold.pay119, Fold.pay122, s426]
  exact Fold.pay156 (a1 arg4 arg8 X4 X8 k) (a2 arg4 arg8 X4 X8 k)

theorem r_113 : trip_k0_t1.sl.r_113 arg4 arg8 X4 X8 k = (Cand.mx (Cand.st (cand (a1 arg4 arg8 X4 X8 k) (a2 arg4 arg8 X4 X8 k)) 9)) := by
  unfold trip_k0_t1.sl.r_113
  simp only [r_109, r_111, Fold.pay126, Fold.pay110, Fold.pay113, Fold.pay116, Fold.pay119, Fold.pay122, s426]
  exact Fold.pay158 (a1 arg4 arg8 X4 X8 k) (a2 arg4 arg8 X4 X8 k)

theorem r_114 : trip_k0_t1.sl.r_114 arg4 arg8 X4 X8 k = (Cand.ix (Cand.st (cand (a1 arg4 arg8 X4 X8 k) (a2 arg4 arg8 X4 X8 k)) 9)) := by
  unfold trip_k0_t1.sl.r_114
  simp only [r_109, r_111, Fold.pay126, Fold.pay110, Fold.pay113, Fold.pay116, Fold.pay119, Fold.pay122, s426]
  exact Fold.pay159 (a1 arg4 arg8 X4 X8 k) (a2 arg4 arg8 X4 X8 k)

theorem r_115 : trip_k0_t1.sl.r_115 arg4 arg8 X4 X8 k = (Cand.mx (Cand.st (cand (a1 arg4 arg8 X4 X8 k) (a2 arg4 arg8 X4 X8 k)) 10)) := by
  unfold trip_k0_t1.sl.r_115
  simp only [r_109, r_111, Fold.pay126, Fold.pay110, Fold.pay113, Fold.pay116, Fold.pay119, Fold.pay122, s426]
  exact Fold.pay161 (a1 arg4 arg8 X4 X8 k) (a2 arg4 arg8 X4 X8 k)

theorem r_116 : trip_k0_t1.sl.r_116 arg4 arg8 X4 X8 k = (Cand.ix (Cand.st (cand (a1 arg4 arg8 X4 X8 k) (a2 arg4 arg8 X4 X8 k)) 10)) := by
  unfold trip_k0_t1.sl.r_116
  simp only [r_109, r_111, Fold.pay126, Fold.pay110, Fold.pay113, Fold.pay116, Fold.pay119, Fold.pay122, s426]
  exact Fold.pay162 (a1 arg4 arg8 X4 X8 k) (a2 arg4 arg8 X4 X8 k)

theorem r_117 : trip_k0_t1.sl.r_117 arg4 arg8 X4 X8 k = (Cand.mx (Cand.st (cand (a1 arg4 arg8 X4 X8 k) (a2 arg4 arg8 X4 X8 k)) 11)) := by
  unfold trip_k0_t1.sl.r_117
  simp only [r_109, r_111, Fold.pay126, Fold.pay110, Fold.pay113, Fold.pay116, Fold.pay119, Fold.pay122, s426]
  exact Fold.pay164 (a1 arg4 arg8 X4 X8 k) (a2 arg4 arg8 X4 X8 k)

theorem r_118 : trip_k0_t1.sl.r_118 arg4 arg8 X4 X8 k = (Cand.ix (Cand.st (cand (a1 arg4 arg8 X4 X8 k) (a2 arg4 arg8 X4 X8 k)) 11)) := by
  unfold trip_k0_t1.sl.r_118
  simp only [r_109, r_111, Fold.pay126, Fold.pay110, Fold.pay113, Fold.pay116, Fold.pay119, Fold.pay122, s426]
  exact Fold.pay165 (a1 arg4 arg8 X4 X8 k) (a2 arg4 arg8 X4 X8 k)

theorem r_119 : trip_k0_t1.sl.r_119 arg4 arg8 X4 X8 k = (Cand.st (cand (a1 arg4 arg8 X4 X8 k) (a2 arg4 arg8 X4 X8 k)) 12) := by
  unfold trip_k0_t1.sl.r_119
  simp only [r_109, r_111, Fold.pay126, Fold.pay110, Fold.pay113, Fold.pay116, Fold.pay119, Fold.pay122, s426]
  exact Fold.pay166 (a1 arg4 arg8 X4 X8 k) (a2 arg4 arg8 X4 X8 k)

theorem r_120 : trip_k0_t1.sl.r_120 arg4 arg8 X4 X8 k = (Cand.ix (Cand.st (cand (a1 arg4 arg8 X4 X8 k) (a2 arg4 arg8 X4 X8 k)) 12)) := by
  unfold trip_k0_t1.sl.r_120
  simp only [r_119, Fold.pay126, Fold.pay110, Fold.pay113, Fold.pay116, Fold.pay119, Fold.pay122, s426]
  exact Fold.pay168 (a1 arg4 arg8 X4 X8 k) (a2 arg4 arg8 X4 X8 k)

theorem r_121 : trip_k0_t1.sl.r_121 arg4 arg8 X4 X8 k = (Cand.ix (Cand.st (cand (a1 arg4 arg8 X4 X8 k) (a2 arg4 arg8 X4 X8 k)) 13)) := by
  unfold trip_k0_t1.sl.r_121
  simp only [r_119, Fold.pay126, Fold.pay110, Fold.pay113, Fold.pay116, Fold.pay119, Fold.pay122, s426]
  exact Fold.pay171 (a1 arg4 arg8 X4 X8 k) (a2 arg4 arg8 X4 X8 k)

theorem r_122 : trip_k0_t1.sl.r_122 arg4 arg8 X4 X8 k = (Cand.ix (Cand.st (cand (a1 arg4 arg8 X4 X8 k) (a2 arg4 arg8 X4 X8 k)) 14)) := by
  unfold trip_k0_t1.sl.r_122
  simp only [r_119, Fold.pay126, Fold.pay110, Fold.pay113, Fold.pay116, Fold.pay119, Fold.pay122, s426]
  exact Fold.pay174 (a1 arg4 arg8 X4 X8 k) (a2 arg4 arg8 X4 X8 k)

theorem r_123 : trip_k0_t1.sl.r_123 arg4 arg8 X4 X8 k = (Cand.ix (Cand.st (cand (a1 arg4 arg8 X4 X8 k) (a2 arg4 arg8 X4 X8 k)) 15)) := by
  unfold trip_k0_t1.sl.r_123
  simp only [r_119, Fold.pay126, Fold.pay110, Fold.pay113, Fold.pay116, Fold.pay119, Fold.pay122, s426]
  exact Fold.pay177 (a1 arg4 arg8 X4 X8 k) (a2 arg4 arg8 X4 X8 k)

theorem r_124 : trip_k0_t1.sl.r_124 arg4 arg8 X4 X8 k = (Cand.tv (cand (a1 arg4 arg8 X4 X8 k) (a2 arg4 arg8 X4 X8 k))) := by
  unfold trip_k0_t1.sl.r_124
  simp only [r_90, r_93, r_95, r_97, r_100, r_103, r_105, r_107, r_110, r_113, r_115, r_117, r_119, Fold.pay126, Fold.pay110, Fold.pay113, Fold.pay116, Fold.pay119, Fold.pay122, s426]
  exact Fold.pay178 (a1 arg4 arg8 X4 X8 k) (a2 arg4 arg8 X4 X8 k)

theorem r_125 : trip_k0_t1.sl.r_125 arg4 arg8 X4 X8 k = (gates (a1 arg4 arg8 X4 X8 k) (a2 arg4 arg8 X4 X8 k)) := by
  unfold trip_k0_t1.sl.r_125
  simp only [r_124]
  exact Fold.pay199 (a1 arg4 arg8 X4 X8 k) (a2 arg4 arg8 X4 X8 k)

theorem r_126 : trip_k0_t1.sl.r_126 arg4 arg8 X4 X8 k = (Rows.mx (Rows.st (b1 arg4 arg8 X4 X8 k) 0)) := Fold.pay202 _ _

theorem r_127 : trip_k0_t1.sl.r_127 arg4 arg8 X4 X8 k = (Rows.ix (Rows.st (b1 arg4 arg8 X4 X8 k) 0)) := Fold.pay203 _ _

theorem r_128 : trip_k0_t1.sl.r_128 arg4 arg8 X4 X8 k = (Rows.mx (Rows.st (b1 arg4 arg8 X4 X8 k) 1)) := Fold.pay205 _ _

theorem r_129 : trip_k0_t1.sl.r_129 arg4 arg8 X4 X8 k = (Rows.ix (Rows.st (b1 arg4 arg8 X4 X8 k) 1)) := Fold.pay206 _ _

theorem r_130 : trip_k0_t1.sl.r_130 arg4 arg8 X4 X8 k = (Rows.st (b1 arg4 arg8 X4 X8 k) 2) := Fold.pay207 _ _

theorem r_131 : trip_k0_t1.sl.r_131 arg4 arg8 X4 X8 k = (Rows.mx (Rows.st (b1 arg4 arg8 X4 X8 k) 2)) := Fold.pay208 _ _

theorem r_132 : trip_k0_t1.sl.r_132 arg4 arg8 X4 X8 k = (Rows.bx (Rows.st (b1 arg4 arg8 X4 X8 k) 2)) := Fold.pay209 _ _

theorem r_133 : trip_k0_t1.sl.r_133 arg4 arg8 X4 X8 k = (Rows.ix (Rows.st (b1 arg4 arg8 X4 X8 k) 2)) := by
  unfold trip_k0_t1.sl.r_133
  simp only [r_130, r_132]
  exact Fold.pay210 (b1 arg4 arg8 X4 X8 k)

theorem r_134 : trip_k0_t1.sl.r_134 arg4 arg8 X4 X8 k = (Rows.mx (Rows.st (b1 arg4 arg8 X4 X8 k) 3)) := by
  unfold trip_k0_t1.sl.r_134
  simp only [r_130, r_132]
  exact Fold.pay212 (b1 arg4 arg8 X4 X8 k)

theorem r_135 : trip_k0_t1.sl.r_135 arg4 arg8 X4 X8 k = (Rows.ix (Rows.st (b1 arg4 arg8 X4 X8 k) 3)) := by
  unfold trip_k0_t1.sl.r_135
  simp only [r_130, r_132]
  exact Fold.pay213 (b1 arg4 arg8 X4 X8 k)

theorem r_136 : trip_k0_t1.sl.r_136 arg4 arg8 X4 X8 k = (Rows.mx (Rows.st (b1 arg4 arg8 X4 X8 k) 4)) := by
  unfold trip_k0_t1.sl.r_136
  simp only [r_130, r_132]
  exact Fold.pay215 (b1 arg4 arg8 X4 X8 k)

theorem r_137 : trip_k0_t1.sl.r_137 arg4 arg8 X4 X8 k = (Rows.ix (Rows.st (b1 arg4 arg8 X4 X8 k) 4)) := by
  unfold trip_k0_t1.sl.r_137
  simp only [r_130, r_132]
  exact Fold.pay216 (b1 arg4 arg8 X4 X8 k)

theorem r_138 : trip_k0_t1.sl.r_138 arg4 arg8 X4 X8 k = (Rows.mx (Rows.st (b1 arg4 arg8 X4 X8 k) 5)) := by
  unfold trip_k0_t1.sl.r_138
  simp only [r_130, r_132]
  exact Fold.pay218 (b1 arg4 arg8 X4 X8 k)

theorem r_139 : trip_k0_t1.sl.r_139 arg4 arg8 X4 X8 k = (Rows.ix (Rows.st (b1 arg4 arg8 X4 X8 k) 5)) := by
  unfold trip_k0_t1.sl.r_139
  simp only [r_130, r_132]
  exact Fold.pay219 (b1 arg4 arg8 X4 X8 k)

theorem r_140 : trip_k0_t1.sl.r_140 arg4 arg8 X4 X8 k = (Rows.st (b1 arg4 arg8 X4 X8 k) 6) := by
  unfold trip_k0_t1.sl.r_140
  simp only [r_130, r_132]
  exact Fold.pay220 (b1 arg4 arg8 X4 X8 k)

theorem r_141 : trip_k0_t1.sl.r_141 arg4 arg8 X4 X8 k = (Rows.mx (Rows.st (b1 arg4 arg8 X4 X8 k) 6)) := by
  unfold trip_k0_t1.sl.r_141
  simp only [r_140]
  exact Fold.pay221 (b1 arg4 arg8 X4 X8 k)

theorem r_142 : trip_k0_t1.sl.r_142 arg4 arg8 X4 X8 k = (Rows.ix (Rows.st (b1 arg4 arg8 X4 X8 k) 6)) := by
  unfold trip_k0_t1.sl.r_142
  simp only [r_140]
  exact Fold.pay222 (b1 arg4 arg8 X4 X8 k)

theorem r_143 : trip_k0_t1.sl.r_143 arg4 arg8 X4 X8 k = (Rows.mx (Rows.st (b1 arg4 arg8 X4 X8 k) 7)) := by
  unfold trip_k0_t1.sl.r_143
  simp only [r_140]
  exact Fold.pay224 (b1 arg4 arg8 X4 X8 k)

theorem r_144 : trip_k0_t1.sl.r_144 arg4 arg8 X4 X8 k = (Rows.ix (Rows.st (b1 arg4 arg8 X4 X8 k) 7)) := by
  unfold trip_k0_t1.sl.r_144
  simp only [r_140]
  exact Fold.pay225 (b1 arg4 arg8 X4 X8 k)

theorem r_145 : trip_k0_t1.sl.r_145 arg4 arg8 X4 X8 k = (Rows.mx (Rows.st (b1 arg4 arg8 X4 X8 k) 8)) := by
  unfold trip_k0_t1.sl.r_145
  simp only [r_140]
  exact Fold.pay227 (b1 arg4 arg8 X4 X8 k)

theorem r_146 : trip_k0_t1.sl.r_146 arg4 arg8 X4 X8 k = (Rows.ix (Rows.st (b1 arg4 arg8 X4 X8 k) 8)) := by
  unfold trip_k0_t1.sl.r_146
  simp only [r_140]
  exact Fold.pay228 (b1 arg4 arg8 X4 X8 k)

theorem r_147 : trip_k0_t1.sl.r_147 arg4 arg8 X4 X8 k = (Rows.st (b1 arg4 arg8 X4 X8 k) 9) := by
  unfold trip_k0_t1.sl.r_147
  simp only [r_140]
  exact Fold.pay229 (b1 arg4 arg8 X4 X8 k)

theorem r_148 : trip_k0_t1.sl.r_148 arg4 arg8 X4 X8 k = (Rows.mx (Rows.st (b1 arg4 arg8 X4 X8 k) 9)) := by
  unfold trip_k0_t1.sl.r_148
  simp only [r_140]
  exact Fold.pay230 (b1 arg4 arg8 X4 X8 k)

theorem r_149 : trip_k0_t1.sl.r_149 arg4 arg8 X4 X8 k = (Rows.ix (Rows.st (b1 arg4 arg8 X4 X8 k) 9)) := by
  unfold trip_k0_t1.sl.r_149
  simp only [r_140]
  exact Fold.pay231 (b1 arg4 arg8 X4 X8 k)

theorem r_150 : trip_k0_t1.sl.r_150 arg4 arg8 X4 X8 k = (Rows.bi (Rows.st (b1 arg4 arg8 X4 X8 k) 9)) := by
  unfold trip_k0_t1.sl.r_150
  simp only [r_140]
  exact Fold.pay232 (b1 arg4 arg8 X4 X8 k)

theorem r_151 : trip_k0_t1.sl.r_151 arg4 arg8 X4 X8 k = (Rows.mx (Rows.st (b1 arg4 arg8 X4 X8 k) 10)) := by
  unfold trip_k0_t1.sl.r_151
  simp only [r_147, r_150]
  exact Fold.pay234 (b1 arg4 arg8 X4 X8 k)

theorem r_152 : trip_k0_t1.sl.r_152 arg4 arg8 X4 X8 k = (Rows.ix (Rows.st (b1 arg4 arg8 X4 X8 k) 10)) := by
  unfold trip_k0_t1.sl.r_152
  simp only [r_147, r_150]
  exact Fold.pay235 (b1 arg4 arg8 X4 X8 k)

theorem r_153 : trip_k0_t1.sl.r_153 arg4 arg8 X4 X8 k = (Rows.mx (Rows.st (b1 arg4 arg8 X4 X8 k) 11)) := by
  unfold trip_k0_t1.sl.r_153
  simp only [r_147, r_150]
  exact Fold.pay237 (b1 arg4 arg8 X4 X8 k)

theorem r_154 : trip_k0_t1.sl.r_154 arg4 arg8 X4 X8 k = (Rows.ix (Rows.st (b1 arg4 arg8 X4 X8 k) 11)) := by
  unfold trip_k0_t1.sl.r_154
  simp only [r_147, r_150]
  exact Fold.pay238 (b1 arg4 arg8 X4 X8 k)

theorem r_155 : trip_k0_t1.sl.r_155 arg4 arg8 X4 X8 k = (Rows.mx (Rows.st (b1 arg4 arg8 X4 X8 k) 12)) := by
  unfold trip_k0_t1.sl.r_155
  simp only [r_147, r_150]
  exact Fold.pay240 (b1 arg4 arg8 X4 X8 k)

theorem r_156 : trip_k0_t1.sl.r_156 arg4 arg8 X4 X8 k = (Rows.ix (Rows.st (b1 arg4 arg8 X4 X8 k) 12)) := by
  unfold trip_k0_t1.sl.r_156
  simp only [r_147, r_150]
  exact Fold.pay241 (b1 arg4 arg8 X4 X8 k)

theorem r_157 : trip_k0_t1.sl.r_157 arg4 arg8 X4 X8 k = (Rows.st (b1 arg4 arg8 X4 X8 k) 13) := by
  unfold trip_k0_t1.sl.r_157
  simp only [r_147, r_150]
  exact Fold.pay242 (b1 arg4 arg8 X4 X8 k)

theorem r_158 : trip_k0_t1.sl.r_158 arg4 arg8 X4 X8 k = (Rows.mx (Rows.st (b1 arg4 arg8 X4 X8 k) 13)) := by
  unfold trip_k0_t1.sl.r_158
  simp only [r_147, r_150]
  exact Fold.pay243 (b1 arg4 arg8 X4 X8 k)

theorem r_159 : trip_k0_t1.sl.r_159 arg4 arg8 X4 X8 k = (Rows.sl (Rows.st (b1 arg4 arg8 X4 X8 k) 13)) := by
  unfold trip_k0_t1.sl.r_159
  simp only [r_147, r_150]
  exact Fold.pay244 (b1 arg4 arg8 X4 X8 k)

theorem r_160 : trip_k0_t1.sl.r_160 arg4 arg8 X4 X8 k = (Rows.tv (b1 arg4 arg8 X4 X8 k)) := by
  unfold trip_k0_t1.sl.r_160
  simp only [r_126, r_128, r_131, r_134, r_136, r_138, r_141, r_143, r_145, r_148, r_151, r_153, r_155, r_157, r_158, r_159]
  exact Fold.pay251 (b1 arg4 arg8 X4 X8 k)

theorem r_161 : trip_k0_t1.sl.r_161 arg4 arg8 X4 X8 k = (Rows.ti (b1 arg4 arg8 X4 X8 k)) := by
  unfold trip_k0_t1.sl.r_161
  simp only [r_127, r_129, r_133, r_135, r_137, r_139, r_142, r_144, r_146, r_149, r_152, r_154, r_156, r_157, r_159]
  exact Fold.pay252 (b1 arg4 arg8 X4 X8 k)

theorem r_162 : trip_k0_t1.sl.r_162 arg4 arg8 X4 X8 k = (b2 arg4 arg8 X4 X8 k) := Fold.pay253 _ _

theorem r_163 : trip_k0_t1.sl.r_163 arg4 arg8 X4 X8 k = (Rows.mx (Rows.st (b2 arg4 arg8 X4 X8 k) 0)) := by
  unfold trip_k0_t1.sl.r_163
  simp only [r_162]
  exact Fold.pay254 (b2 arg4 arg8 X4 X8 k)

theorem r_164 : trip_k0_t1.sl.r_164 arg4 arg8 X4 X8 k = (Rows.ix (Rows.st (b2 arg4 arg8 X4 X8 k) 0)) := by
  unfold trip_k0_t1.sl.r_164
  simp only [r_162]
  exact Fold.pay255 (b2 arg4 arg8 X4 X8 k)

theorem r_165 : trip_k0_t1.sl.r_165 arg4 arg8 X4 X8 k = (Rows.mx (Rows.st (b2 arg4 arg8 X4 X8 k) 1)) := by
  unfold trip_k0_t1.sl.r_165
  simp only [r_162]
  exact Fold.pay257 (b2 arg4 arg8 X4 X8 k)

theorem r_166 : trip_k0_t1.sl.r_166 arg4 arg8 X4 X8 k = (Rows.ix (Rows.st (b2 arg4 arg8 X4 X8 k) 1)) := by
  unfold trip_k0_t1.sl.r_166
  simp only [r_162]
  exact Fold.pay258 (b2 arg4 arg8 X4 X8 k)

theorem r_167 : trip_k0_t1.sl.r_167 arg4 arg8 X4 X8 k = (Rows.mx (Rows.st (b2 arg4 arg8 X4 X8 k) 2)) := by
  unfold trip_k0_t1.sl.r_167
  simp only [r_162]
  exact Fold.pay260 (b2 arg4 arg8 X4 X8 k)

theorem r_168 : trip_k0_t1.sl.r_168 arg4 arg8 X4 X8 k = (Rows.ix (Rows.st (b2 arg4 arg8 X4 X8 k) 2)) := by
  unfold trip_k0_t1.sl.r_168
  simp only [r_162]
  exact Fold.pay261 (b2 arg4 arg8 X4 X8 k)

theorem r_169 : trip_k0_t1.sl.r_169 arg4 arg8 X4 X8 k = (Rows.st (b2 arg4 arg8 X4 X8 k) 3) := by
  unfold trip_k0_t1.sl.r_169
  simp only [r_162]
  exact Fold.pay262 (b2 arg4 arg8 X4 X8 k)

theorem r_170 : trip_k0_t1.sl.r_170 arg4 arg8 X4 X8 k = (Rows.mx (Rows.st (b2 arg4 arg8 X4 X8 k) 3)) := by
  unfold trip_k0_t1.sl.r_170
  simp only [r_162]
  exact Fold.pay263 (b2 arg4 arg8 X4 X8 k)

theorem r_171 : trip_k0_t1.sl.r_171 arg4 arg8 X4 X8 k = (Rows.ix (Rows.st (b2 arg4 arg8 X4 X8 k) 3)) := by
  unfold trip_k0_t1.sl.r_171
  simp only [r_162]
  exact Fold.pay264 (b2 arg4 arg8 X4 X8 k)

theorem r_172 : trip_k0_t1.sl.r_172 arg4 arg8 X4 X8 k = (Rows.em (Rows.st (b2 arg4 arg8 X4 X8 k) 3)) := by
  unfold trip_k0_t1.sl.r_172
  simp only [r_162]
  exact Fold.pay265 (b2 arg4 arg8 X4 X8 k)

theorem r_173 : trip_k0_t1.sl.r_173 arg4 arg8 X4 X8 k = (Rows.mx (Rows.st (b2 arg4 arg8 X4 X8 k) 4)) := by
  unfold trip_k0_t1.sl.r_173
  simp only [r_169, r_172]
  exact Fold.pay267 (b2 arg4 arg8 X4 X8 k)

theorem r_174 : trip_k0_t1.sl.r_174 arg4 arg8 X4 X8 k = (Rows.ix (Rows.st (b2 arg4 arg8 X4 X8 k) 4)) := by
  unfold trip_k0_t1.sl.r_174
  simp only [r_169, r_172]
  exact Fold.pay268 (b2 arg4 arg8 X4 X8 k)

theorem r_175 : trip_k0_t1.sl.r_175 arg4 arg8 X4 X8 k = (Rows.mx (Rows.st (b2 arg4 arg8 X4 X8 k) 5)) := by
  unfold trip_k0_t1.sl.r_175
  simp only [r_169, r_172]
  exact Fold.pay270 (b2 arg4 arg8 X4 X8 k)

theorem r_176 : trip_k0_t1.sl.r_176 arg4 arg8 X4 X8 k = (Rows.ix (Rows.st (b2 arg4 arg8 X4 X8 k) 5)) := by
  unfold trip_k0_t1.sl.r_176
  simp only [r_169, r_172]
  exact Fold.pay271 (b2 arg4 arg8 X4 X8 k)

theorem r_177 : trip_k0_t1.sl.r_177 arg4 arg8 X4 X8 k = (Rows.mx (Rows.st (b2 arg4 arg8 X4 X8 k) 6)) := by
  unfold trip_k0_t1.sl.r_177
  simp only [r_169, r_172]
  exact Fold.pay273 (b2 arg4 arg8 X4 X8 k)

theorem r_178 : trip_k0_t1.sl.r_178 arg4 arg8 X4 X8 k = (Rows.ix (Rows.st (b2 arg4 arg8 X4 X8 k) 6)) := by
  unfold trip_k0_t1.sl.r_178
  simp only [r_169, r_172]
  exact Fold.pay274 (b2 arg4 arg8 X4 X8 k)

theorem r_179 : trip_k0_t1.sl.r_179 arg4 arg8 X4 X8 k = (Rows.st (b2 arg4 arg8 X4 X8 k) 7) := by
  unfold trip_k0_t1.sl.r_179
  simp only [r_169, r_172]
  exact Fold.pay275 (b2 arg4 arg8 X4 X8 k)

theorem r_180 : trip_k0_t1.sl.r_180 arg4 arg8 X4 X8 k = (Rows.mx (Rows.st (b2 arg4 arg8 X4 X8 k) 7)) := by
  unfold trip_k0_t1.sl.r_180
  simp only [r_169, r_172]
  exact Fold.pay276 (b2 arg4 arg8 X4 X8 k)

theorem r_181 : trip_k0_t1.sl.r_181 arg4 arg8 X4 X8 k = (Rows.sl (Rows.st (b2 arg4 arg8 X4 X8 k) 7)) := by
  unfold trip_k0_t1.sl.r_181
  simp only [r_169, r_172]
  exact Fold.pay277 (b2 arg4 arg8 X4 X8 k)

theorem r_182 : trip_k0_t1.sl.r_182 arg4 arg8 X4 X8 k = (Rows.ix (Rows.st (b2 arg4 arg8 X4 X8 k) 7)) := by
  unfold trip_k0_t1.sl.r_182
  simp only [r_181]
  exact Fold.pay278 (b2 arg4 arg8 X4 X8 k)

theorem r_183 : trip_k0_t1.sl.r_183 arg4 arg8 X4 X8 k = (Rows.mx (Rows.st (b2 arg4 arg8 X4 X8 k) 8)) := by
  unfold trip_k0_t1.sl.r_183
  simp only [r_179, r_181]
  exact Fold.pay280 (b2 arg4 arg8 X4 X8 k)

theorem r_184 : trip_k0_t1.sl.r_184 arg4 arg8 X4 X8 k = (Rows.ix (Rows.st (b2 arg4 arg8 X4 X8 k) 8)) := by
  unfold trip_k0_t1.sl.r_184
  simp only [r_179, r_181]
  exact Fold.pay281 (b2 arg4 arg8 X4 X8 k)

theorem r_185 : trip_k0_t1.sl.r_185 arg4 arg8 X4 X8 k = (Rows.mx (Rows.st (b2 arg4 arg8 X4 X8 k) 9)) := by
  unfold trip_k0_t1.sl.r_185
  simp only [r_179, r_181]
  exact Fold.pay283 (b2 arg4 arg8 X4 X8 k)

theorem r_186 : trip_k0_t1.sl.r_186 arg4 arg8 X4 X8 k = (Rows.ix (Rows.st (b2 arg4 arg8 X4 X8 k) 9)) := by
  unfold trip_k0_t1.sl.r_186
  simp only [r_179, r_181]
  exact Fold.pay284 (b2 arg4 arg8 X4 X8 k)

theorem r_187 : trip_k0_t1.sl.r_187 arg4 arg8 X4 X8 k = (Rows.mx (Rows.st (b2 arg4 arg8 X4 X8 k) 10)) := by
  unfold trip_k0_t1.sl.r_187
  simp only [r_179, r_181]
  exact Fold.pay286 (b2 arg4 arg8 X4 X8 k)

theorem r_188 : trip_k0_t1.sl.r_188 arg4 arg8 X4 X8 k = (Rows.ix (Rows.st (b2 arg4 arg8 X4 X8 k) 10)) := by
  unfold trip_k0_t1.sl.r_188
  simp only [r_179, r_181]
  exact Fold.pay287 (b2 arg4 arg8 X4 X8 k)

theorem r_189 : trip_k0_t1.sl.r_189 arg4 arg8 X4 X8 k = (Rows.st (b2 arg4 arg8 X4 X8 k) 11) := by
  unfold trip_k0_t1.sl.r_189
  simp only [r_179, r_181]
  exact Fold.pay288 (b2 arg4 arg8 X4 X8 k)

theorem r_190 : trip_k0_t1.sl.r_190 arg4 arg8 X4 X8 k = (Rows.mx (Rows.st (b2 arg4 arg8 X4 X8 k) 11)) := by
  unfold trip_k0_t1.sl.r_190
  simp only [r_179, r_181]
  exact Fold.pay289 (b2 arg4 arg8 X4 X8 k)

theorem r_191 : trip_k0_t1.sl.r_191 arg4 arg8 X4 X8 k = (Rows.gt (Rows.st (b2 arg4 arg8 X4 X8 k) 11)) := by
  unfold trip_k0_t1.sl.r_191
  simp only [r_179, r_181]
  exact Fold.pay290 (b2 arg4 arg8 X4 X8 k)

theorem r_192 : trip_k0_t1.sl.r_192 arg4 arg8 X4 X8 k = (Rows.ix (Rows.st (b2 arg4 arg8 X4 X8 k) 11)) := by
  unfold trip_k0_t1.sl.r_192
  simp only [r_191]
  exact Fold.pay291 (b2 arg4 arg8 X4 X8 k)

theorem r_193 : trip_k0_t1.sl.r_193 arg4 arg8 X4 X8 k = (Rows.mx (Rows.st (b2 arg4 arg8 X4 X8 k) 12)) := by
  unfold trip_k0_t1.sl.r_193
  simp only [r_189, r_191]
  exact Fold.pay293 (b2 arg4 arg8 X4 X8 k)

theorem r_194 : trip_k0_t1.sl.r_194 arg4 arg8 X4 X8 k = (Rows.ix (Rows.st (b2 arg4 arg8 X4 X8 k) 12)) := by
  unfold trip_k0_t1.sl.r_194
  simp only [r_189, r_191]
  exact Fold.pay294 (b2 arg4 arg8 X4 X8 k)

theorem r_195 : trip_k0_t1.sl.r_195 arg4 arg8 X4 X8 k = (Rows.mx (Rows.st (b2 arg4 arg8 X4 X8 k) 13)) := by
  unfold trip_k0_t1.sl.r_195
  simp only [r_189, r_191]
  exact Fold.pay296 (b2 arg4 arg8 X4 X8 k)

theorem r_196 : trip_k0_t1.sl.r_196 arg4 arg8 X4 X8 k = (Rows.ix (Rows.st (b2 arg4 arg8 X4 X8 k) 13)) := by
  unfold trip_k0_t1.sl.r_196
  simp only [r_189, r_191]
  exact Fold.pay297 (b2 arg4 arg8 X4 X8 k)

theorem r_197 : trip_k0_t1.sl.r_197 arg4 arg8 X4 X8 k = (Rows.mx (Rows.st (b2 arg4 arg8 X4 X8 k) 14)) := by
  unfold trip_k0_t1.sl.r_197
  simp only [r_189, r_191]
  exact Fold.pay299 (b2 arg4 arg8 X4 X8 k)

theorem r_198 : trip_k0_t1.sl.r_198 arg4 arg8 X4 X8 k = (Rows.ix (Rows.st (b2 arg4 arg8 X4 X8 k) 14)) := by
  unfold trip_k0_t1.sl.r_198
  simp only [r_189, r_191]
  exact Fold.pay300 (b2 arg4 arg8 X4 X8 k)

theorem r_199 : trip_k0_t1.sl.r_199 arg4 arg8 X4 X8 k = (Rows.st (b2 arg4 arg8 X4 X8 k) 15) := by
  unfold trip_k0_t1.sl.r_199
  simp only [r_189, r_191]
  exact Fold.pay301 (b2 arg4 arg8 X4 X8 k)

theorem r_200 : trip_k0_t1.sl.r_200 arg4 arg8 X4 X8 k = (Rows.tv (b2 arg4 arg8 X4 X8 k)) := by
  unfold trip_k0_t1.sl.r_200
  simp only [r_163, r_165, r_167, r_170, r_173, r_175, r_177, r_180, r_183, r_185, r_187, r_190, r_193, r_195, r_197, r_199]
  exact Fold.pay303 (b2 arg4 arg8 X4 X8 k)

theorem r_201 : trip_k0_t1.sl.r_201 arg4 arg8 X4 X8 k = (Rows.ti (b2 arg4 arg8 X4 X8 k)) := by
  unfold trip_k0_t1.sl.r_201
  simp only [r_164, r_166, r_168, r_171, r_174, r_176, r_178, r_182, r_184, r_186, r_188, r_192, r_194, r_196, r_198, r_199]
  exact Fold.pay304 (b2 arg4 arg8 X4 X8 k)

theorem r_202 : trip_k0_t1.sl.r_202 arg4 arg8 X4 X8 k = (cs0 (Rows.tv (b1 arg4 arg8 X4 X8 k)) (Rows.tv (b2 arg4 arg8 X4 X8 k))) := by
  unfold trip_k0_t1.sl.r_202
  simp only [r_160, r_163, r_165, r_167, r_170, r_173, r_175, r_177, r_180, r_183, r_185, r_187, r_190, r_193, r_195, r_197, r_199]
  exact Fold.pay305 (b1 arg4 arg8 X4 X8 k) (b2 arg4 arg8 X4 X8 k)

theorem r_203 : trip_k0_t1.sl.r_203 arg4 arg8 X4 X8 k = (ci0 (Rows.ti (b1 arg4 arg8 X4 X8 k)) (Rows.ti (b2 arg4 arg8 X4 X8 k))) := by
  unfold trip_k0_t1.sl.r_203
  simp only [r_161, r_164, r_166, r_168, r_171, r_174, r_176, r_178, r_182, r_184, r_186, r_188, r_192, r_194, r_196, r_198, r_199]
  exact Fold.pay307 (b1 arg4 arg8 X4 X8 k) (b2 arg4 arg8 X4 X8 k)

theorem r_204 : trip_k0_t1.sl.r_204 arg4 arg8 X4 X8 k = (cs1 (Rows.tv (b1 arg4 arg8 X4 X8 k)) (Rows.tv (b2 arg4 arg8 X4 X8 k))) := by
  unfold trip_k0_t1.sl.r_204
  simp only [r_160, r_163, r_165, r_167, r_170, r_173, r_175, r_177, r_180, r_183, r_185, r_187, r_190, r_193, r_195, r_197, r_199]
  exact Fold.pay308 (b1 arg4 arg8 X4 X8 k) (b2 arg4 arg8 X4 X8 k)

theorem r_205 : trip_k0_t1.sl.r_205 arg4 arg8 X4 X8 k = (ci1 (Rows.ti (b1 arg4 arg8 X4 X8 k)) (Rows.ti (b2 arg4 arg8 X4 X8 k))) := by
  unfold trip_k0_t1.sl.r_205
  simp only [r_161, r_164, r_166, r_168, r_171, r_174, r_176, r_178, r_182, r_184, r_186, r_188, r_192, r_194, r_196, r_198, r_199]
  exact Fold.pay310 (b1 arg4 arg8 X4 X8 k) (b2 arg4 arg8 X4 X8 k)

theorem r_206 : trip_k0_t1.sl.r_206 arg4 arg8 X4 X8 k = (cs2 (Rows.tv (b1 arg4 arg8 X4 X8 k)) (Rows.tv (b2 arg4 arg8 X4 X8 k))) := by
  unfold trip_k0_t1.sl.r_206
  simp only [r_160, r_163, r_165, r_167, r_170, r_173, r_175, r_177, r_180, r_183, r_185, r_187, r_190, r_193, r_195, r_197, r_199]
  exact Fold.pay311 (b1 arg4 arg8 X4 X8 k) (b2 arg4 arg8 X4 X8 k)

theorem r_207 : trip_k0_t1.sl.r_207 arg4 arg8 X4 X8 k = (ci2 (Rows.ti (b1 arg4 arg8 X4 X8 k)) (Rows.ti (b2 arg4 arg8 X4 X8 k))) := by
  unfold trip_k0_t1.sl.r_207
  simp only [r_161, r_201]
  exact Fold.pay314 (b1 arg4 arg8 X4 X8 k) (b2 arg4 arg8 X4 X8 k)

theorem r_208 : trip_k0_t1.sl.r_208 arg4 arg8 X4 X8 k = (cs3 (Rows.tv (b1 arg4 arg8 X4 X8 k)) (Rows.tv (b2 arg4 arg8 X4 X8 k))) := by
  unfold trip_k0_t1.sl.r_208
  simp only [r_160, r_200]
  exact Fold.pay315 (b1 arg4 arg8 X4 X8 k) (b2 arg4 arg8 X4 X8 k)

theorem r_209 : trip_k0_t1.sl.r_209 arg4 arg8 X4 X8 k = (ci3 (Rows.ti (b1 arg4 arg8 X4 X8 k)) (Rows.ti (b2 arg4 arg8 X4 X8 k))) := by
  unfold trip_k0_t1.sl.r_209
  simp only [r_161, r_201]
  exact Fold.pay317 (b1 arg4 arg8 X4 X8 k) (b2 arg4 arg8 X4 X8 k)

theorem r_210 : trip_k0_t1.sl.r_210 arg4 arg8 X4 X8 k = (cs4 (Rows.tv (b1 arg4 arg8 X4 X8 k)) (Rows.tv (b2 arg4 arg8 X4 X8 k))) := by
  unfold trip_k0_t1.sl.r_210
  simp only [r_160, r_200]
  exact Fold.pay318 (b1 arg4 arg8 X4 X8 k) (b2 arg4 arg8 X4 X8 k)

theorem r_211 : trip_k0_t1.sl.r_211 arg4 arg8 X4 X8 k = (ci4 (Rows.ti (b1 arg4 arg8 X4 X8 k)) (Rows.ti (b2 arg4 arg8 X4 X8 k))) := by
  unfold trip_k0_t1.sl.r_211
  simp only [r_161, r_201]
  exact Fold.pay320 (b1 arg4 arg8 X4 X8 k) (b2 arg4 arg8 X4 X8 k)

theorem r_212 : trip_k0_t1.sl.r_212 arg4 arg8 X4 X8 k = (cand (b1 arg4 arg8 X4 X8 k) (b2 arg4 arg8 X4 X8 k)) := by
  unfold trip_k0_t1.sl.r_212
  simp only [r_160, r_200, r_202, r_204, r_206, r_208, r_210, Fold.pay321, Fold.pay322, s426]
  exact Fold.pay323 (b1 arg4 arg8 X4 X8 k) (b2 arg4 arg8 X4 X8 k)

theorem r_213 : trip_k0_t1.sl.r_213 arg4 arg8 X4 X8 k = (cid (b1 arg4 arg8 X4 X8 k) (b2 arg4 arg8 X4 X8 k)) := by
  unfold trip_k0_t1.sl.r_213
  simp only [r_161, r_201, r_203, r_205, r_207, r_209, r_211]
  exact Fold.pay325 (b1 arg4 arg8 X4 X8 k) (b2 arg4 arg8 X4 X8 k)

theorem r_214 : trip_k0_t1.sl.r_214 arg4 arg8 X4 X8 k = (Cand.mx (Cand.st (cand (b1 arg4 arg8 X4 X8 k) (b2 arg4 arg8 X4 X8 k)) 0)) := by
  unfold trip_k0_t1.sl.r_214
  simp only [r_160, r_200, r_202, r_204, r_206, r_208, r_210, Fold.pay321, Fold.pay322, s426]
  exact Fold.pay326 (b1 arg4 arg8 X4 X8 k) (b2 arg4 arg8 X4 X8 k)

theorem r_215 : trip_k0_t1.sl.r_215 arg4 arg8 X4 X8 k = (Cand.ix (Cand.st (cand (b1 arg4 arg8 X4 X8 k) (b2 arg4 arg8 X4 X8 k)) 0)) := by
  unfold trip_k0_t1.sl.r_215
  simp only [r_160, r_200, r_202, r_204, r_206, r_208, r_210, Fold.pay306, Fold.pay309, Fold.pay313, Fold.pay312, Fold.pay316, Fold.pay319, Fold.pay321, Fold.pay322, s426]
  exact Fold.pay327 (b1 arg4 arg8 X4 X8 k) (b2 arg4 arg8 X4 X8 k)

theorem r_216 : trip_k0_t1.sl.r_216 arg4 arg8 X4 X8 k = (Cand.mx (Cand.st (cand (b1 arg4 arg8 X4 X8 k) (b2 arg4 arg8 X4 X8 k)) 1)) := by
  unfold trip_k0_t1.sl.r_216
  simp only [r_212, r_215, Fold.pay324, Fold.pay306, Fold.pay309, Fold.pay313, Fold.pay312, Fold.pay316, Fold.pay319, s426]
  exact Fold.pay329 (b1 arg4 arg8 X4 X8 k) (b2 arg4 arg8 X4 X8 k)

theorem r_217 : trip_k0_t1.sl.r_217 arg4 arg8 X4 X8 k = (Cand.ix (Cand.st (cand (b1 arg4 arg8 X4 X8 k) (b2 arg4 arg8 X4 X8 k)) 1)) := by
  unfold trip_k0_t1.sl.r_217
  simp only [r_212, r_215, Fold.pay324, Fold.pay306, Fold.pay309, Fold.pay313, Fold.pay312, Fold.pay316, Fold.pay319, s426]
  exact Fold.pay330 (b1 arg4 arg8 X4 X8 k) (b2 arg4 arg8 X4 X8 k)

theorem r_218 : trip_k0_t1.sl.r_218 arg4 arg8 X4 X8 k = (Cand.mx (Cand.st (cand (b1 arg4 arg8 X4 X8 k) (b2 arg4 arg8 X4 X8 k)) 2)) := by
  unfold trip_k0_t1.sl.r_218
  simp only [r_212, r_215, Fold.pay324, Fold.pay306, Fold.pay309, Fold.pay313, Fold.pay312, Fold.pay316, Fold.pay319, s426]
  exact Fold.pay332 (b1 arg4 arg8 X4 X8 k) (b2 arg4 arg8 X4 X8 k)

theorem r_219 : trip_k0_t1.sl.r_219 arg4 arg8 X4 X8 k = (Cand.ix (Cand.st (cand (b1 arg4 arg8 X4 X8 k) (b2 arg4 arg8 X4 X8 k)) 2)) := by
  unfold trip_k0_t1.sl.r_219
  simp only [r_212, r_215, Fold.pay324, Fold.pay306, Fold.pay309, Fold.pay313, Fold.pay312, Fold.pay316, Fold.pay319, s426]
  exact Fold.pay333 (b1 arg4 arg8 X4 X8 k) (b2 arg4 arg8 X4 X8 k)

theorem r_220 : trip_k0_t1.sl.r_220 arg4 arg8 X4 X8 k = (Cand.mx (Cand.st (cand (b1 arg4 arg8 X4 X8 k) (b2 arg4 arg8 X4 X8 k)) 3)) := by
  unfold trip_k0_t1.sl.r_220
  simp only [r_212, r_215, Fold.pay324, Fold.pay306, Fold.pay309, Fold.pay313, Fold.pay312, Fold.pay316, Fold.pay319, s426]
  exact Fold.pay335 (b1 arg4 arg8 X4 X8 k) (b2 arg4 arg8 X4 X8 k)

theorem r_221 : trip_k0_t1.sl.r_221 arg4 arg8 X4 X8 k = (Cand.ix (Cand.st (cand (b1 arg4 arg8 X4 X8 k) (b2 arg4 arg8 X4 X8 k)) 3)) := by
  unfold trip_k0_t1.sl.r_221
  simp only [r_212, r_215, Fold.pay324, Fold.pay306, Fold.pay309, Fold.pay313, Fold.pay312, Fold.pay316, Fold.pay319, s426]
  exact Fold.pay336 (b1 arg4 arg8 X4 X8 k) (b2 arg4 arg8 X4 X8 k)

theorem r_222 : trip_k0_t1.sl.r_222 arg4 arg8 X4 X8 k = (Cand.st (cand (b1 arg4 arg8 X4 X8 k) (b2 arg4 arg8 X4 X8 k)) 4) := by
  unfold trip_k0_t1.sl.r_222
  simp only [r_212, r_215, Fold.pay324, Fold.pay306, Fold.pay309, Fold.pay313, Fold.pay312, Fold.pay316, Fold.pay319, s426]
  exact Fold.pay337 (b1 arg4 arg8 X4 X8 k) (b2 arg4 arg8 X4 X8 k)

theorem r_223 : trip_k0_t1.sl.r_223 arg4 arg8 X4 X8 k = (Cand.mx (Cand.st (cand (b1 arg4 arg8 X4 X8 k) (b2 arg4 arg8 X4 X8 k)) 4)) := by
  unfold trip_k0_t1.sl.r_223
  simp only [r_212, r_215, Fold.pay324, Fold.pay306, Fold.pay309, Fold.pay313, Fold.pay312, Fold.pay316, Fold.pay319, s426]
  exact Fold.pay338 (b1 arg4 arg8 X4 X8 k) (b2 arg4 arg8 X4 X8 k)

theorem r_224 : trip_k0_t1.sl.r_224 arg4 arg8 X4 X8 k = (Cand.gt (Cand.st (cand (b1 arg4 arg8 X4 X8 k) (b2 arg4 arg8 X4 X8 k)) 4)) := by
  unfold trip_k0_t1.sl.r_224
  simp only [r_212, r_215, Fold.pay324, Fold.pay306, Fold.pay309, Fold.pay313, Fold.pay312, Fold.pay316, Fold.pay319, s426]
  exact Fold.pay339 (b1 arg4 arg8 X4 X8 k) (b2 arg4 arg8 X4 X8 k)

theorem r_225 : trip_k0_t1.sl.r_225 arg4 arg8 X4 X8 k = (Cand.ix (Cand.st (cand (b1 arg4 arg8 X4 X8 k) (b2 arg4 arg8 X4 X8 k)) 4)) := by
  unfold trip_k0_t1.sl.r_225
  simp only [r_224, Fold.pay324, Fold.pay306, Fold.pay309, Fold.pay313, Fold.pay312, Fold.pay316, Fold.pay319, Fold.pay340, s426]
  exact Fold.pay341 (b1 arg4 arg8 X4 X8 k) (b2 arg4 arg8 X4 X8 k)

theorem r_226 : trip_k0_t1.sl.r_226 arg4 arg8 X4 X8 k = (Cand.mx (Cand.st (cand (b1 arg4 arg8 X4 X8 k) (b2 arg4 arg8 X4 X8 k)) 5)) := by
  unfold trip_k0_t1.sl.r_226
  simp only [r_222, r_224, Fold.pay324, Fold.pay306, Fold.pay309, Fold.pay313, Fold.pay312, Fold.pay316, Fold.pay319, Fold.pay340, s426]
  exact Fold.pay343 (b1 arg4 arg8 X4 X8 k) (b2 arg4 arg8 X4 X8 k)

theorem r_227 : trip_k0_t1.sl.r_227 arg4 arg8 X4 X8 k = (Cand.ix (Cand.st (cand (b1 arg4 arg8 X4 X8 k) (b2 arg4 arg8 X4 X8 k)) 5)) := by
  unfold trip_k0_t1.sl.r_227
  simp only [r_222, r_224, Fold.pay324, Fold.pay306, Fold.pay309, Fold.pay313, Fold.pay312, Fold.pay316, Fold.pay319, Fold.pay340, s426]
  exact Fold.pay344 (b1 arg4 arg8 X4 X8 k) (b2 arg4 arg8 X4 X8 k)

theorem r_228 : trip_k0_t1.sl.r_228 arg4 arg8 X4 X8 k = (Cand.mx (Cand.st (cand (b1 arg4 arg8 X4 X8 k) (b2 arg4 arg8 X4 X8 k)) 6)) := by
  unfold trip_k0_t1.sl.r_228
  simp only [r_222, r_224, Fold.pay324, Fold.pay306, Fold.pay309, Fold.pay313, Fold.pay312, Fold.pay316, Fold.pay319, Fold.pay340, s426]
  exact Fold.pay346 (b1 arg4 arg8 X4 X8 k) (b2 arg4 arg8 X4 X8 k)

theorem r_229 : trip_k0_t1.sl.r_229 arg4 arg8 X4 X8 k = (Cand.ix (Cand.st (cand (b1 arg4 arg8 X4 X8 k) (b2 arg4 arg8 X4 X8 k)) 6)) := by
  unfold trip_k0_t1.sl.r_229
  simp only [r_222, r_224, Fold.pay324, Fold.pay306, Fold.pay309, Fold.pay313, Fold.pay312, Fold.pay316, Fold.pay319, Fold.pay340, s426]
  exact Fold.pay347 (b1 arg4 arg8 X4 X8 k) (b2 arg4 arg8 X4 X8 k)

theorem r_230 : trip_k0_t1.sl.r_230 arg4 arg8 X4 X8 k = (Cand.mx (Cand.st (cand (b1 arg4 arg8 X4 X8 k) (b2 arg4 arg8 X4 X8 k)) 7)) := by
  unfold trip_k0_t1.sl.r_230
  simp only [r_222, r_224, Fold.pay324, Fold.pay306, Fold.pay309, Fold.pay313, Fold.pay312, Fold.pay316, Fold.pay319, Fold.pay340, s426]
  exact Fold.pay349 (b1 arg4 arg8 X4 X8 k) (b2 arg4 arg8 X4 X8 k)

theorem r_231 : trip_k0_t1.sl.r_231 arg4 arg8 X4 X8 k = (Cand.ix (Cand.st (cand (b1 arg4 arg8 X4 X8 k) (b2 arg4 arg8 X4 X8 k)) 7)) := by
  unfold trip_k0_t1.sl.r_231
  simp only [r_222, r_224, Fold.pay324, Fold.pay306, Fold.pay309, Fold.pay313, Fold.pay312, Fold.pay316, Fold.pay319, Fold.pay340, s426]
  exact Fold.pay350 (b1 arg4 arg8 X4 X8 k) (b2 arg4 arg8 X4 X8 k)

theorem r_232 : trip_k0_t1.sl.r_232 arg4 arg8 X4 X8 k = (Cand.st (cand (b1 arg4 arg8 X4 X8 k) (b2 arg4 arg8 X4 X8 k)) 8) := by
  unfold trip_k0_t1.sl.r_232
  simp only [r_222, r_224, Fold.pay324, Fold.pay306, Fold.pay309, Fold.pay313, Fold.pay312, Fold.pay316, Fold.pay319, Fold.pay340, s426]
  exact Fold.pay351 (b1 arg4 arg8 X4 X8 k) (b2 arg4 arg8 X4 X8 k)

theorem r_233 : trip_k0_t1.sl.r_233 arg4 arg8 X4 X8 k = (Cand.mx (Cand.st (cand (b1 arg4 arg8 X4 X8 k) (b2 arg4 arg8 X4 X8 k)) 8)) := by
  unfold trip_k0_t1.sl.r_233
  simp only [r_222, r_224, Fold.pay324, Fold.pay306, Fold.pay309, Fold.pay313, Fold.pay312, Fold.pay316, Fold.pay319, Fold.pay340, s426]
  exact Fold.pay352 (b1 arg4 arg8 X4 X8 k) (b2 arg4 arg8 X4 X8 k)

theorem r_234 : trip_k0_t1.sl.r_234 arg4 arg8 X4 X8 k = (Cand.ix (Cand.st (cand (b1 arg4 arg8 X4 X8 k) (b2 arg4 arg8 X4 X8 k)) 8)) := by
  unfold trip_k0_t1.sl.r_234
  simp only [r_232, r_233, Fold.pay324, Fold.pay306, Fold.pay309, Fold.pay313, Fold.pay312, Fold.pay316, Fold.pay319, s426]
  exact Fold.pay353 (b1 arg4 arg8 X4 X8 k) (b2 arg4 arg8 X4 X8 k)

theorem r_235 : trip_k0_t1.sl.r_235 arg4 arg8 X4 X8 k = (Cand.mx (Cand.st (cand (b1 arg4 arg8 X4 X8 k) (b2 arg4 arg8 X4 X8 k)) 9)) := by
  unfold trip_k0_t1.sl.r_235
  simp only [r_232, r_233, Fold.pay324, Fold.pay306, Fold.pay309, Fold.pay313, Fold.pay312, Fold.pay316, Fold.pay319, s426]
  exact Fold.pay355 (b1 arg4 arg8 X4 X8 k) (b2 arg4 arg8 X4 X8 k)

theorem r_236 : trip_k0_t1.sl.r_236 arg4 arg8 X4 X8 k = (Cand.ix (Cand.st (cand (b1 arg4 arg8 X4 X8 k) (b2 arg4 arg8 X4 X8 k)) 9)) := by
  unfold trip_k0_t1.sl.r_236
  simp only [r_232, r_233, Fold.pay324, Fold.pay306, Fold.pay309, Fold.pay313, Fold.pay312, Fold.pay316, Fold.pay319, s426]
  exact Fold.pay356 (b1 arg4 arg8 X4 X8 k) (b2 arg4 arg8 X4 X8 k)

theorem r_237 : trip_k0_t1.sl.r_237 arg4 arg8 X4 X8 k = (Cand.mx (Cand.st (cand (b1 arg4 arg8 X4 X8 k) (b2 arg4 arg8 X4 X8 k)) 10)) := by
  unfold trip_k0_t1.sl.r_237
  simp only [r_232, r_233, Fold.pay324, Fold.pay306, Fold.pay309, Fold.pay313, Fold.pay312, Fold.pay316, Fold.pay319, s426]
  exact Fold.pay358 (b1 arg4 arg8 X4 X8 k) (b2 arg4 arg8 X4 X8 k)

theorem r_238 : trip_k0_t1.sl.r_238 arg4 arg8 X4 X8 k = (Cand.ix (Cand.st (cand (b1 arg4 arg8 X4 X8 k) (b2 arg4 arg8 X4 X8 k)) 10)) := by
  unfold trip_k0_t1.sl.r_238
  simp only [r_232, r_233, Fold.pay324, Fold.pay306, Fold.pay309, Fold.pay313, Fold.pay312, Fold.pay316, Fold.pay319, s426]
  exact Fold.pay359 (b1 arg4 arg8 X4 X8 k) (b2 arg4 arg8 X4 X8 k)

theorem r_239 : trip_k0_t1.sl.r_239 arg4 arg8 X4 X8 k = (Cand.st (cand (b1 arg4 arg8 X4 X8 k) (b2 arg4 arg8 X4 X8 k)) 11) := by
  unfold trip_k0_t1.sl.r_239
  simp only [r_232, r_233, Fold.pay324, Fold.pay306, Fold.pay309, Fold.pay313, Fold.pay312, Fold.pay316, Fold.pay319, s426]
  exact Fold.pay360 (b1 arg4 arg8 X4 X8 k) (b2 arg4 arg8 X4 X8 k)

theorem r_240 : trip_k0_t1.sl.r_240 arg4 arg8 X4 X8 k = (Cand.mx (Cand.st (cand (b1 arg4 arg8 X4 X8 k) (b2 arg4 arg8 X4 X8 k)) 11)) := by
  unfold trip_k0_t1.sl.r_240
  simp only [r_232, r_233, Fold.pay324, Fold.pay306, Fold.pay309, Fold.pay313, Fold.pay312, Fold.pay316, Fold.pay319, s426]
  exact Fold.pay361 (b1 arg4 arg8 X4 X8 k) (b2 arg4 arg8 X4 X8 k)

theorem r_241 : trip_k0_t1.sl.r_241 arg4 arg8 X4 X8 k = (Cand.ix (Cand.st (cand (b1 arg4 arg8 X4 X8 k) (b2 arg4 arg8 X4 X8 k)) 11)) := by
  unfold trip_k0_t1.sl.r_241
  simp only [r_232, r_233, Fold.pay324, Fold.pay306, Fold.pay309, Fold.pay313, Fold.pay312, Fold.pay316, Fold.pay319, s426]
  exact Fold.pay362 (b1 arg4 arg8 X4 X8 k) (b2 arg4 arg8 X4 X8 k)

theorem r_242 : trip_k0_t1.sl.r_242 arg4 arg8 X4 X8 k = (Cand.em (Cand.st (cand (b1 arg4 arg8 X4 X8 k) (b2 arg4 arg8 X4 X8 k)) 11)) := by
  unfold trip_k0_t1.sl.r_242
  simp only [r_232, r_233, Fold.pay324, Fold.pay306, Fold.pay309, Fold.pay313, Fold.pay312, Fold.pay316, Fold.pay319, s426]
  exact Fold.pay363 (b1 arg4 arg8 X4 X8 k) (b2 arg4 arg8 X4 X8 k)

theorem r_243 : trip_k0_t1.sl.r_243 arg4 arg8 X4 X8 k = (Cand.mx (Cand.st (cand (b1 arg4 arg8 X4 X8 k) (b2 arg4 arg8 X4 X8 k)) 12)) := by
  unfold trip_k0_t1.sl.r_243
  simp only [r_239, r_242, Fold.pay364, s426]
  exact Fold.pay366 (b1 arg4 arg8 X4 X8 k) (b2 arg4 arg8 X4 X8 k)

theorem r_244 : trip_k0_t1.sl.r_244 arg4 arg8 X4 X8 k = (Cand.ix (Cand.st (cand (b1 arg4 arg8 X4 X8 k) (b2 arg4 arg8 X4 X8 k)) 12)) := by
  unfold trip_k0_t1.sl.r_244
  simp only [r_239, r_242, Fold.pay324, Fold.pay306, Fold.pay309, Fold.pay313, Fold.pay312, Fold.pay316, Fold.pay319, Fold.pay364, s426]
  exact Fold.pay367 (b1 arg4 arg8 X4 X8 k) (b2 arg4 arg8 X4 X8 k)

theorem r_245 : trip_k0_t1.sl.r_245 arg4 arg8 X4 X8 k = (Cand.mx (Cand.st (cand (b1 arg4 arg8 X4 X8 k) (b2 arg4 arg8 X4 X8 k)) 13)) := by
  unfold trip_k0_t1.sl.r_245
  simp only [r_239, r_242, Fold.pay324, Fold.pay306, Fold.pay309, Fold.pay313, Fold.pay312, Fold.pay316, Fold.pay319, Fold.pay364, s426]
  exact Fold.pay369 (b1 arg4 arg8 X4 X8 k) (b2 arg4 arg8 X4 X8 k)

theorem r_246 : trip_k0_t1.sl.r_246 arg4 arg8 X4 X8 k = (Cand.ix (Cand.st (cand (b1 arg4 arg8 X4 X8 k) (b2 arg4 arg8 X4 X8 k)) 13)) := by
  unfold trip_k0_t1.sl.r_246
  simp only [r_239, r_242, Fold.pay324, Fold.pay306, Fold.pay309, Fold.pay313, Fold.pay312, Fold.pay316, Fold.pay319, Fold.pay364, s426]
  exact Fold.pay370 (b1 arg4 arg8 X4 X8 k) (b2 arg4 arg8 X4 X8 k)

theorem r_247 : trip_k0_t1.sl.r_247 arg4 arg8 X4 X8 k = (Cand.mx (Cand.st (cand (b1 arg4 arg8 X4 X8 k) (b2 arg4 arg8 X4 X8 k)) 14)) := by
  unfold trip_k0_t1.sl.r_247
  simp only [r_239, r_242, Fold.pay324, Fold.pay306, Fold.pay309, Fold.pay313, Fold.pay312, Fold.pay316, Fold.pay319, Fold.pay364, s426]
  exact Fold.pay372 (b1 arg4 arg8 X4 X8 k) (b2 arg4 arg8 X4 X8 k)

theorem r_248 : trip_k0_t1.sl.r_248 arg4 arg8 X4 X8 k = (Cand.ix (Cand.st (cand (b1 arg4 arg8 X4 X8 k) (b2 arg4 arg8 X4 X8 k)) 14)) := by
  unfold trip_k0_t1.sl.r_248
  simp only [r_239, r_242, Fold.pay324, Fold.pay306, Fold.pay309, Fold.pay313, Fold.pay312, Fold.pay316, Fold.pay319, Fold.pay364, s426]
  exact Fold.pay373 (b1 arg4 arg8 X4 X8 k) (b2 arg4 arg8 X4 X8 k)

theorem r_249 : trip_k0_t1.sl.r_249 arg4 arg8 X4 X8 k = (Cand.mx (Cand.st (cand (b1 arg4 arg8 X4 X8 k) (b2 arg4 arg8 X4 X8 k)) 15)) := by
  unfold trip_k0_t1.sl.r_249
  simp only [r_239, r_242, Fold.pay324, Fold.pay306, Fold.pay309, Fold.pay313, Fold.pay312, Fold.pay316, Fold.pay319, Fold.pay364, s426]
  exact Fold.pay375 (b1 arg4 arg8 X4 X8 k) (b2 arg4 arg8 X4 X8 k)

theorem v1587 : trip_k0_t1.sl.v1587 arg4 arg8 X4 X8 k = Cand.tv (cand (b1 arg4 arg8 X4 X8 k) (b2 arg4 arg8 X4 X8 k)) := by
  unfold trip_k0_t1.sl.v1587
  rw [r_214, r_216, r_218, r_220, r_223, r_226, r_228, r_230, r_233, r_235, r_237, r_240, r_243, r_245, r_247, r_249]
  rfl

theorem r_250 : trip_k0_t1.sl.r_250 arg4 arg8 X4 X8 k = (Cand.ix (Cand.st (cand (b1 arg4 arg8 X4 X8 k) (b2 arg4 arg8 X4 X8 k)) 15)) := by
  unfold trip_k0_t1.sl.r_250
  simp only [r_239, r_242, Fold.pay324, Fold.pay306, Fold.pay309, Fold.pay313, Fold.pay312, Fold.pay316, Fold.pay319, Fold.pay364, s426]
  exact Fold.pay376 (b1 arg4 arg8 X4 X8 k) (b2 arg4 arg8 X4 X8 k)

theorem r_251 : trip_k0_t1.sl.r_251 arg4 arg8 X4 X8 k = (gates (b1 arg4 arg8 X4 X8 k) (b2 arg4 arg8 X4 X8 k)) := by
  unfold trip_k0_t1.sl.r_251
  simp only [v1587]
  exact Fold.pay397 (b1 arg4 arg8 X4 X8 k) (b2 arg4 arg8 X4 X8 k)

theorem v735 : trip_k0_t1.sl.v735 arg4 arg8 X4 X8 k = Cand.ti (cand (a1 arg4 arg8 X4 X8 k) (a2 arg4 arg8 X4 X8 k)) := by
  unfold trip_k0_t1.sl.v735
  rw [r_91, r_94, r_96, r_98, r_102, r_104, r_106, r_108, r_112, r_114, r_116, r_118, r_120, r_121, r_122, r_123]
  rfl

theorem v742 : trip_k0_t1.sl.v742 arg4 arg8 X4 X8 k = Pick.pk (cid (a1 arg4 arg8 X4 X8 k) (a2 arg4 arg8 X4 X8 k)) (Pick.bp0 (Cand.ti (cand (a1 arg4 arg8 X4 X8 k) (a2 arg4 arg8 X4 X8 k)))) := by
  unfold trip_k0_t1.sl.v742 trip_k0_t1.sl.v741 trip_k0_t1.sl.v740 trip_k0_t1.sl.v738 trip_k0_t1.sl.v737 trip_k0_t1.sl.v736
  simp only [v735, r_89, Fold.pay126, Fold.pay110, Fold.pay113, Fold.pay116, Fold.pay119, Fold.pay122, s426]
  rfl

theorem v749 : trip_k0_t1.sl.v749 arg4 arg8 X4 X8 k = Pick.pk (cid (a1 arg4 arg8 X4 X8 k) (a2 arg4 arg8 X4 X8 k)) (Pick.bp1 (Cand.ti (cand (a1 arg4 arg8 X4 X8 k) (a2 arg4 arg8 X4 X8 k)))) := by
  unfold trip_k0_t1.sl.v749 trip_k0_t1.sl.v748 trip_k0_t1.sl.v747 trip_k0_t1.sl.v745 trip_k0_t1.sl.v744 trip_k0_t1.sl.v743
  simp only [v735, r_89, Fold.pay126, Fold.pay110, Fold.pay113, Fold.pay116, Fold.pay119, Fold.pay122, s426]
  rfl

theorem v756 : trip_k0_t1.sl.v756 arg4 arg8 X4 X8 k = Pick.pk (cid (a1 arg4 arg8 X4 X8 k) (a2 arg4 arg8 X4 X8 k)) (Pick.bp2 (Cand.ti (cand (a1 arg4 arg8 X4 X8 k) (a2 arg4 arg8 X4 X8 k)))) := by
  unfold trip_k0_t1.sl.v756 trip_k0_t1.sl.v755 trip_k0_t1.sl.v754 trip_k0_t1.sl.v752 trip_k0_t1.sl.v751 trip_k0_t1.sl.v750
  simp only [v735, r_89, Fold.pay126, Fold.pay110, Fold.pay113, Fold.pay116, Fold.pay119, Fold.pay122, s426]
  rfl

theorem v763 : trip_k0_t1.sl.v763 arg4 arg8 X4 X8 k = Pick.pk (cid (a1 arg4 arg8 X4 X8 k) (a2 arg4 arg8 X4 X8 k)) (Pick.bp3 (Cand.ti (cand (a1 arg4 arg8 X4 X8 k) (a2 arg4 arg8 X4 X8 k)))) := by
  unfold trip_k0_t1.sl.v763 trip_k0_t1.sl.v762 trip_k0_t1.sl.v761 trip_k0_t1.sl.v759 trip_k0_t1.sl.v758 trip_k0_t1.sl.v757
  simp only [v735, r_89, Fold.pay126, Fold.pay110, Fold.pay113, Fold.pay116, Fold.pay119, Fold.pay122, s426]
  rfl

theorem v770 : trip_k0_t1.sl.v770 arg4 arg8 X4 X8 k = Pick.pk (cid (a1 arg4 arg8 X4 X8 k) (a2 arg4 arg8 X4 X8 k)) (Pick.bp4 (Cand.ti (cand (a1 arg4 arg8 X4 X8 k) (a2 arg4 arg8 X4 X8 k)))) := by
  unfold trip_k0_t1.sl.v770 trip_k0_t1.sl.v769 trip_k0_t1.sl.v768 trip_k0_t1.sl.v766 trip_k0_t1.sl.v765 trip_k0_t1.sl.v764
  simp only [v735, r_89, Fold.pay126, Fold.pay110, Fold.pay113, Fold.pay116, Fold.pay119, Fold.pay122, s426]
  rfl

theorem v777 : trip_k0_t1.sl.v777 arg4 arg8 X4 X8 k = Pick.pk (cid (a1 arg4 arg8 X4 X8 k) (a2 arg4 arg8 X4 X8 k)) (Pick.bp5 (Cand.ti (cand (a1 arg4 arg8 X4 X8 k) (a2 arg4 arg8 X4 X8 k)))) := by
  unfold trip_k0_t1.sl.v777 trip_k0_t1.sl.v776 trip_k0_t1.sl.v775 trip_k0_t1.sl.v773 trip_k0_t1.sl.v772 trip_k0_t1.sl.v771
  simp only [v735, r_89, Fold.pay126, Fold.pay110, Fold.pay113, Fold.pay116, Fold.pay119, Fold.pay122, s426]
  rfl

theorem v784 : trip_k0_t1.sl.v784 arg4 arg8 X4 X8 k = Pick.pk (cid (a1 arg4 arg8 X4 X8 k) (a2 arg4 arg8 X4 X8 k)) (Pick.bp6 (Cand.ti (cand (a1 arg4 arg8 X4 X8 k) (a2 arg4 arg8 X4 X8 k)))) := by
  unfold trip_k0_t1.sl.v784 trip_k0_t1.sl.v783 trip_k0_t1.sl.v782 trip_k0_t1.sl.v780 trip_k0_t1.sl.v779 trip_k0_t1.sl.v778
  simp only [v735, r_89, Fold.pay126, Fold.pay110, Fold.pay113, Fold.pay116, Fold.pay119, Fold.pay122, s426]
  rfl

theorem v791 : trip_k0_t1.sl.v791 arg4 arg8 X4 X8 k = Pick.pk (cid (a1 arg4 arg8 X4 X8 k) (a2 arg4 arg8 X4 X8 k)) (Pick.bp7 (Cand.ti (cand (a1 arg4 arg8 X4 X8 k) (a2 arg4 arg8 X4 X8 k)))) := by
  unfold trip_k0_t1.sl.v791 trip_k0_t1.sl.v790 trip_k0_t1.sl.v789 trip_k0_t1.sl.v787 trip_k0_t1.sl.v786 trip_k0_t1.sl.v785
  simp only [v735, r_89, Fold.pay126, Fold.pay110, Fold.pay113, Fold.pay116, Fold.pay119, Fold.pay122, s426]
  rfl

theorem v798 : trip_k0_t1.sl.v798 arg4 arg8 X4 X8 k = Pick.pk (cid (a1 arg4 arg8 X4 X8 k) (a2 arg4 arg8 X4 X8 k)) (Pick.bp8 (Cand.ti (cand (a1 arg4 arg8 X4 X8 k) (a2 arg4 arg8 X4 X8 k)))) := by
  unfold trip_k0_t1.sl.v798 trip_k0_t1.sl.v797 trip_k0_t1.sl.v796 trip_k0_t1.sl.v794 trip_k0_t1.sl.v793 trip_k0_t1.sl.v792
  simp only [v735, r_89, Fold.pay126, Fold.pay110, Fold.pay113, Fold.pay116, Fold.pay119, Fold.pay122, s426]
  rfl

theorem v805 : trip_k0_t1.sl.v805 arg4 arg8 X4 X8 k = Pick.pk (cid (a1 arg4 arg8 X4 X8 k) (a2 arg4 arg8 X4 X8 k)) (Pick.bp9 (Cand.ti (cand (a1 arg4 arg8 X4 X8 k) (a2 arg4 arg8 X4 X8 k)))) := by
  unfold trip_k0_t1.sl.v805 trip_k0_t1.sl.v804 trip_k0_t1.sl.v803 trip_k0_t1.sl.v801 trip_k0_t1.sl.v800 trip_k0_t1.sl.v799
  simp only [v735, r_89, Fold.pay126, Fold.pay110, Fold.pay113, Fold.pay116, Fold.pay119, Fold.pay122, s426]
  rfl

theorem v812 : trip_k0_t1.sl.v812 arg4 arg8 X4 X8 k = Pick.pk (cid (a1 arg4 arg8 X4 X8 k) (a2 arg4 arg8 X4 X8 k)) (Pick.bp10 (Cand.ti (cand (a1 arg4 arg8 X4 X8 k) (a2 arg4 arg8 X4 X8 k)))) := by
  unfold trip_k0_t1.sl.v812 trip_k0_t1.sl.v811 trip_k0_t1.sl.v810 trip_k0_t1.sl.v808 trip_k0_t1.sl.v807 trip_k0_t1.sl.v806
  simp only [v735, r_89, Fold.pay126, Fold.pay110, Fold.pay113, Fold.pay116, Fold.pay119, Fold.pay122, s426]
  rfl

theorem v819 : trip_k0_t1.sl.v819 arg4 arg8 X4 X8 k = Pick.pk (cid (a1 arg4 arg8 X4 X8 k) (a2 arg4 arg8 X4 X8 k)) (Pick.bp11 (Cand.ti (cand (a1 arg4 arg8 X4 X8 k) (a2 arg4 arg8 X4 X8 k)))) := by
  unfold trip_k0_t1.sl.v819 trip_k0_t1.sl.v818 trip_k0_t1.sl.v817 trip_k0_t1.sl.v815 trip_k0_t1.sl.v814 trip_k0_t1.sl.v813
  simp only [v735, r_89, Fold.pay126, Fold.pay110, Fold.pay113, Fold.pay116, Fold.pay119, Fold.pay122, s426]
  rfl

theorem v826 : trip_k0_t1.sl.v826 arg4 arg8 X4 X8 k = Pick.pk (cid (a1 arg4 arg8 X4 X8 k) (a2 arg4 arg8 X4 X8 k)) (Pick.bp12 (Cand.ti (cand (a1 arg4 arg8 X4 X8 k) (a2 arg4 arg8 X4 X8 k)))) := by
  unfold trip_k0_t1.sl.v826 trip_k0_t1.sl.v825 trip_k0_t1.sl.v824 trip_k0_t1.sl.v822 trip_k0_t1.sl.v821 trip_k0_t1.sl.v820
  simp only [v735, r_89, Fold.pay126, Fold.pay110, Fold.pay113, Fold.pay116, Fold.pay119, Fold.pay122, s426]
  rfl

theorem v1588 : trip_k0_t1.sl.v1588 arg4 arg8 X4 X8 k = Cand.ti (cand (b1 arg4 arg8 X4 X8 k) (b2 arg4 arg8 X4 X8 k)) := by
  unfold trip_k0_t1.sl.v1588
  rw [r_215, r_217, r_219, r_221, r_225, r_227, r_229, r_231, r_234, r_236, r_238, r_241, r_244, r_246, r_248, r_250]
  rfl

theorem v1595 : trip_k0_t1.sl.v1595 arg4 arg8 X4 X8 k = Pick.pk (cid (b1 arg4 arg8 X4 X8 k) (b2 arg4 arg8 X4 X8 k)) (Pick.bp0 (Cand.ti (cand (b1 arg4 arg8 X4 X8 k) (b2 arg4 arg8 X4 X8 k)))) := by
  unfold trip_k0_t1.sl.v1595 trip_k0_t1.sl.v1594 trip_k0_t1.sl.v1593 trip_k0_t1.sl.v1591 trip_k0_t1.sl.v1590 trip_k0_t1.sl.v1589
  simp only [v1588, r_213, Fold.pay324, Fold.pay306, Fold.pay309, Fold.pay313, Fold.pay312, Fold.pay316, Fold.pay319, s426]
  rfl

theorem v1602 : trip_k0_t1.sl.v1602 arg4 arg8 X4 X8 k = Pick.pk (cid (b1 arg4 arg8 X4 X8 k) (b2 arg4 arg8 X4 X8 k)) (Pick.bp1 (Cand.ti (cand (b1 arg4 arg8 X4 X8 k) (b2 arg4 arg8 X4 X8 k)))) := by
  unfold trip_k0_t1.sl.v1602 trip_k0_t1.sl.v1601 trip_k0_t1.sl.v1600 trip_k0_t1.sl.v1598 trip_k0_t1.sl.v1597 trip_k0_t1.sl.v1596
  simp only [v1588, r_213, Fold.pay324, Fold.pay306, Fold.pay309, Fold.pay313, Fold.pay312, Fold.pay316, Fold.pay319, s426]
  rfl

theorem v1609 : trip_k0_t1.sl.v1609 arg4 arg8 X4 X8 k = Pick.pk (cid (b1 arg4 arg8 X4 X8 k) (b2 arg4 arg8 X4 X8 k)) (Pick.bp2 (Cand.ti (cand (b1 arg4 arg8 X4 X8 k) (b2 arg4 arg8 X4 X8 k)))) := by
  unfold trip_k0_t1.sl.v1609 trip_k0_t1.sl.v1608 trip_k0_t1.sl.v1607 trip_k0_t1.sl.v1605 trip_k0_t1.sl.v1604 trip_k0_t1.sl.v1603
  simp only [v1588, r_213, Fold.pay324, Fold.pay306, Fold.pay309, Fold.pay313, Fold.pay312, Fold.pay316, Fold.pay319, s426]
  rfl

theorem v1616 : trip_k0_t1.sl.v1616 arg4 arg8 X4 X8 k = Pick.pk (cid (b1 arg4 arg8 X4 X8 k) (b2 arg4 arg8 X4 X8 k)) (Pick.bp3 (Cand.ti (cand (b1 arg4 arg8 X4 X8 k) (b2 arg4 arg8 X4 X8 k)))) := by
  unfold trip_k0_t1.sl.v1616 trip_k0_t1.sl.v1615 trip_k0_t1.sl.v1614 trip_k0_t1.sl.v1612 trip_k0_t1.sl.v1611 trip_k0_t1.sl.v1610
  simp only [v1588, r_213, Fold.pay324, Fold.pay306, Fold.pay309, Fold.pay313, Fold.pay312, Fold.pay316, Fold.pay319, s426]
  rfl

theorem v1623 : trip_k0_t1.sl.v1623 arg4 arg8 X4 X8 k = Pick.pk (cid (b1 arg4 arg8 X4 X8 k) (b2 arg4 arg8 X4 X8 k)) (Pick.bp4 (Cand.ti (cand (b1 arg4 arg8 X4 X8 k) (b2 arg4 arg8 X4 X8 k)))) := by
  unfold trip_k0_t1.sl.v1623 trip_k0_t1.sl.v1622 trip_k0_t1.sl.v1621 trip_k0_t1.sl.v1619 trip_k0_t1.sl.v1618 trip_k0_t1.sl.v1617
  simp only [v1588, r_213, Fold.pay324, Fold.pay306, Fold.pay309, Fold.pay313, Fold.pay312, Fold.pay316, Fold.pay319, s426]
  rfl

theorem v1630 : trip_k0_t1.sl.v1630 arg4 arg8 X4 X8 k = Pick.pk (cid (b1 arg4 arg8 X4 X8 k) (b2 arg4 arg8 X4 X8 k)) (Pick.bp5 (Cand.ti (cand (b1 arg4 arg8 X4 X8 k) (b2 arg4 arg8 X4 X8 k)))) := by
  unfold trip_k0_t1.sl.v1630 trip_k0_t1.sl.v1629 trip_k0_t1.sl.v1628 trip_k0_t1.sl.v1626 trip_k0_t1.sl.v1625 trip_k0_t1.sl.v1624
  simp only [v1588, r_213, Fold.pay324, Fold.pay306, Fold.pay309, Fold.pay313, Fold.pay312, Fold.pay316, Fold.pay319, s426]
  rfl

theorem v1637 : trip_k0_t1.sl.v1637 arg4 arg8 X4 X8 k = Pick.pk (cid (b1 arg4 arg8 X4 X8 k) (b2 arg4 arg8 X4 X8 k)) (Pick.bp6 (Cand.ti (cand (b1 arg4 arg8 X4 X8 k) (b2 arg4 arg8 X4 X8 k)))) := by
  unfold trip_k0_t1.sl.v1637 trip_k0_t1.sl.v1636 trip_k0_t1.sl.v1635 trip_k0_t1.sl.v1633 trip_k0_t1.sl.v1632 trip_k0_t1.sl.v1631
  simp only [v1588, r_213, Fold.pay324, Fold.pay306, Fold.pay309, Fold.pay313, Fold.pay312, Fold.pay316, Fold.pay319, s426]
  rfl

theorem v1644 : trip_k0_t1.sl.v1644 arg4 arg8 X4 X8 k = Pick.pk (cid (b1 arg4 arg8 X4 X8 k) (b2 arg4 arg8 X4 X8 k)) (Pick.bp7 (Cand.ti (cand (b1 arg4 arg8 X4 X8 k) (b2 arg4 arg8 X4 X8 k)))) := by
  unfold trip_k0_t1.sl.v1644 trip_k0_t1.sl.v1643 trip_k0_t1.sl.v1642 trip_k0_t1.sl.v1640 trip_k0_t1.sl.v1639 trip_k0_t1.sl.v1638
  simp only [v1588, r_213, Fold.pay324, Fold.pay306, Fold.pay309, Fold.pay313, Fold.pay312, Fold.pay316, Fold.pay319, s426]
  rfl

theorem v1651 : trip_k0_t1.sl.v1651 arg4 arg8 X4 X8 k = Pick.pk (cid (b1 arg4 arg8 X4 X8 k) (b2 arg4 arg8 X4 X8 k)) (Pick.bp8 (Cand.ti (cand (b1 arg4 arg8 X4 X8 k) (b2 arg4 arg8 X4 X8 k)))) := by
  unfold trip_k0_t1.sl.v1651 trip_k0_t1.sl.v1650 trip_k0_t1.sl.v1649 trip_k0_t1.sl.v1647 trip_k0_t1.sl.v1646 trip_k0_t1.sl.v1645
  simp only [v1588, r_213, Fold.pay324, Fold.pay306, Fold.pay309, Fold.pay313, Fold.pay312, Fold.pay316, Fold.pay319, s426]
  rfl

theorem v1658 : trip_k0_t1.sl.v1658 arg4 arg8 X4 X8 k = Pick.pk (cid (b1 arg4 arg8 X4 X8 k) (b2 arg4 arg8 X4 X8 k)) (Pick.bp9 (Cand.ti (cand (b1 arg4 arg8 X4 X8 k) (b2 arg4 arg8 X4 X8 k)))) := by
  unfold trip_k0_t1.sl.v1658 trip_k0_t1.sl.v1657 trip_k0_t1.sl.v1656 trip_k0_t1.sl.v1654 trip_k0_t1.sl.v1653 trip_k0_t1.sl.v1652
  simp only [v1588, r_213, Fold.pay324, Fold.pay306, Fold.pay309, Fold.pay313, Fold.pay312, Fold.pay316, Fold.pay319, s426]
  rfl

theorem v1665 : trip_k0_t1.sl.v1665 arg4 arg8 X4 X8 k = Pick.pk (cid (b1 arg4 arg8 X4 X8 k) (b2 arg4 arg8 X4 X8 k)) (Pick.bp10 (Cand.ti (cand (b1 arg4 arg8 X4 X8 k) (b2 arg4 arg8 X4 X8 k)))) := by
  unfold trip_k0_t1.sl.v1665 trip_k0_t1.sl.v1664 trip_k0_t1.sl.v1663 trip_k0_t1.sl.v1661 trip_k0_t1.sl.v1660 trip_k0_t1.sl.v1659
  simp only [v1588, r_213, Fold.pay324, Fold.pay306, Fold.pay309, Fold.pay313, Fold.pay312, Fold.pay316, Fold.pay319, s426]
  rfl

theorem v1672 : trip_k0_t1.sl.v1672 arg4 arg8 X4 X8 k = Pick.pk (cid (b1 arg4 arg8 X4 X8 k) (b2 arg4 arg8 X4 X8 k)) (Pick.bp11 (Cand.ti (cand (b1 arg4 arg8 X4 X8 k) (b2 arg4 arg8 X4 X8 k)))) := by
  unfold trip_k0_t1.sl.v1672 trip_k0_t1.sl.v1671 trip_k0_t1.sl.v1670 trip_k0_t1.sl.v1668 trip_k0_t1.sl.v1667 trip_k0_t1.sl.v1666
  simp only [v1588, r_213, Fold.pay324, Fold.pay306, Fold.pay309, Fold.pay313, Fold.pay312, Fold.pay316, Fold.pay319, s426]
  rfl

theorem v1679 : trip_k0_t1.sl.v1679 arg4 arg8 X4 X8 k = Pick.pk (cid (b1 arg4 arg8 X4 X8 k) (b2 arg4 arg8 X4 X8 k)) (Pick.bp12 (Cand.ti (cand (b1 arg4 arg8 X4 X8 k) (b2 arg4 arg8 X4 X8 k)))) := by
  unfold trip_k0_t1.sl.v1679 trip_k0_t1.sl.v1678 trip_k0_t1.sl.v1677 trip_k0_t1.sl.v1675 trip_k0_t1.sl.v1674 trip_k0_t1.sl.v1673
  simp only [v1588, r_213, Fold.pay324, Fold.pay306, Fold.pay309, Fold.pay313, Fold.pay312, Fold.pay316, Fold.pay319, s426]
  rfl

theorem v828 : trip_k0_t1.sl.v828 arg4 arg8 X4 X8 k = Pick.bp13 (Cand.ti (cand (a1 arg4 arg8 X4 X8 k) (a2 arg4 arg8 X4 X8 k))) := by
  unfold trip_k0_t1.sl.v828 trip_k0_t1.sl.v827
  simp only [v735]
  rfl

theorem v1680 : trip_k0_t1.sl.v1680 arg4 arg8 X4 X8 k = extractStridedSlice S1x128 ![13, 0] (Cand.ti (cand (b1 arg4 arg8 X4 X8 k) (b2 arg4 arg8 X4 X8 k))) slices_S16x128_o13_0_S1x128 := by
  unfold trip_k0_t1.sl.v1680
  simp only [v1588]

/-- What a trip stores as gates. -/
theorem gates_piece (𝒱 : Variants) (c : Dev nD) (bd : Option 𝒱.V) (i : grid0.Coords) (arg1 : Memref sig .tc .vmem S256x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S16x128x64 .f32) (harg4 : arg4.IsWhole) (arg5 : Memref sig .tc .vmem S8x16x256 .i32) (harg5 : arg5.IsWhole) (arg6 : Memref sig .tc .vmem S8x16x256 .i32) (harg6 : arg6.IsWhole) (arg7 : Memref sig .tc .vmem S8x16x256 .f32) (harg7 : arg7.IsWhole) (arg8 : Memref sig .tc .vmem S1024x256 .f32) (harg8 : arg8.IsWhole) (X4 : BufTy.Contents (Elt Ideal) arg4.view.ty) (X8 : BufTy.Contents (Elt Ideal) arg8.view.ty) (k : Fin k0_t1_loop.trips) :
    (trip_k0_t1 (F := Ideal) 𝒱 c bd i arg1 harg1 arg2 harg2 arg3 harg3 arg4 harg4 arg5 harg5 arg6 harg6 arg7 harg7 arg8 harg8 X4 X8 k).2.2.1 = [⟨Rect.unit (s := S8x16x256) (k0_off5 k) S1x16x128.size (k0_off5_inb k), liftf (gates (b1 arg4 arg8 X4 X8 k) (b2 arg4 arg8 X4 X8 k))⟩, ⟨Rect.unit (s := S8x16x256) (k0_off3 k) S1x16x128.size (k0_off3_inb k), liftf (gates (a1 arg4 arg8 X4 X8 k) (a2 arg4 arg8 X4 X8 k))⟩] := by
  unfold trip_k0_t1
  dsimp only
  rw [r_251, r_125, Fold.pay2, Fold.pay200]

/-- What a trip stores as expert numbers. -/
theorem eids_piece (𝒱 : Variants) (c : Dev nD) (bd : Option 𝒱.V) (i : grid0.Coords) (arg1 : Memref sig .tc .vmem S256x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S16x128x64 .f32) (harg4 : arg4.IsWhole) (arg5 : Memref sig .tc .vmem S8x16x256 .i32) (harg5 : arg5.IsWhole) (arg6 : Memref sig .tc .vmem S8x16x256 .i32) (harg6 : arg6.IsWhole) (arg7 : Memref sig .tc .vmem S8x16x256 .f32) (harg7 : arg7.IsWhole) (arg8 : Memref sig .tc .vmem S1024x256 .f32) (harg8 : arg8.IsWhole) (X4 : BufTy.Contents (Elt Ideal) arg4.view.ty) (X8 : BufTy.Contents (Elt Ideal) arg8.view.ty) (k : Fin k0_t1_loop.trips) :
    (trip_k0_t1 (F := Ideal) 𝒱 c bd i arg1 harg1 arg2 harg2 arg3 harg3 arg4 harg4 arg5 harg5 arg6 harg6 arg7 harg7 arg8 harg8 X4 X8 k).1 = [⟨Rect.unit (s := S8x16x256) (k0_off5 k) S1x16x128.size (k0_off5_inb k), lift (eids (b1 arg4 arg8 X4 X8 k) (b2 arg4 arg8 X4 X8 k))⟩, ⟨Rect.unit (s := S8x16x256) (k0_off3 k) S1x16x128.size (k0_off3_inb k), lift (eids (a1 arg4 arg8 X4 X8 k) (a2 arg4 arg8 X4 X8 k))⟩] := by
  unfold trip_k0_t1
  dsimp only
  simp only [r_213, r_89, v1588, v735, v1680, v828, v1595, v1602, v1609, v1616, v1623, v1630, v1637, v1644, v1651, v1658, v1665, v1672, v1679, v742, v749, v756, v763, v770, v777, v784, v791, v798, v805, v812, v819, v826, Fold.pay126, Fold.pay110, Fold.pay113, Fold.pay116, Fold.pay119, Fold.pay122, Fold.pay324, Fold.pay306, Fold.pay309, Fold.pay313, Fold.pay312, Fold.pay316, Fold.pay319, s426, Fold.pay395, Fold.pay197]

/-- What a trip stores as row offsets. -/
theorem offs_piece (𝒱 : Variants) (c : Dev nD) (bd : Option 𝒱.V) (i : grid0.Coords) (arg1 : Memref sig .tc .vmem S256x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S16x128x64 .f32) (harg4 : arg4.IsWhole) (arg5 : Memref sig .tc .vmem S8x16x256 .i32) (harg5 : arg5.IsWhole) (arg6 : Memref sig .tc .vmem S8x16x256 .i32) (harg6 : arg6.IsWhole) (arg7 : Memref sig .tc .vmem S8x16x256 .f32) (harg7 : arg7.IsWhole) (arg8 : Memref sig .tc .vmem S1024x256 .f32) (harg8 : arg8.IsWhole) (X4 : BufTy.Contents (Elt Ideal) arg4.view.ty) (X8 : BufTy.Contents (Elt Ideal) arg8.view.ty) (k : Fin k0_t1_loop.trips) :
    (trip_k0_t1 (F := Ideal) 𝒱 c bd i arg1 harg1 arg2 harg2 arg3 harg3 arg4 harg4 arg5 harg5 arg6 harg6 arg7 harg7 arg8 harg8 X4 X8 k).2.1 = [⟨Rect.unit (s := S8x16x256) (k0_off5 k) S1x16x128.size (k0_off5_inb k), lift (offs (eids (b1 arg4 arg8 X4 X8 k) (b2 arg4 arg8 X4 X8 k)))⟩, ⟨Rect.unit (s := S8x16x256) (k0_off3 k) S1x16x128.size (k0_off3_inb k), lift (offs (eids (a1 arg4 arg8 X4 X8 k) (a2 arg4 arg8 X4 X8 k)))⟩] := by
  unfold trip_k0_t1
  dsimp only
  simp only [r_213, r_89, v1588, v735, v1680, v828, v1595, v1602, v1609, v1616, v1623, v1630, v1637, v1644, v1651, v1658, v1665, v1672, v1679, v742, v749, v756, v763, v770, v777, v784, v791, v798, v805, v812, v819, v826, Fold.pay126, Fold.pay110, Fold.pay113, Fold.pay116, Fold.pay119, Fold.pay122, Fold.pay324, Fold.pay306, Fold.pay309, Fold.pay313, Fold.pay312, Fold.pay316, Fold.pay319, s426, Fold.pay396, Fold.pay198]

end Cert.Proof.Top.Trip
-- ==== Proof.ScoreOut.lean ====
/-
  What the score kernel leaves in one block of each result: at head `y 0`, rank `y 1` and column `y 2`, the number, the
  row offset and the gate of the rank's best pair.
-/
module

public import proofs.«01_k».proof.Proof.Best
public import proofs.«01_k».proof.Proof.TopTrip
public import proofs.«01_k».proof.Proof.Gen.Kernel4Ideal.Frame
public import Idealize.ShloMosaic.Lib.VecWindow
public import Idealize.ShloMosaic.Lib.Pipeline.Value
public import Idealize.ShloMosaic.Lib.Pipeline.ValueKit.Tiles

@[expose] public section

noncomputable section

open Idealize.ShloMosaic Idealize.ShloMosaic.TcCoe
open Cert.Kernel4Ideal Cert.Kernel4Ideal.Gen

namespace Cert.Proof.ScoreOut

open Best Top

theorem off1_eq0 : ∀ k, k0_off1 k 0#32 = ![2 * k.val, 0, 0] := by decide +kernel
theorem off1_eq1 : ∀ k, k0_off1 k 1#32 = ![2 * k.val + 1, 0, 0] := by decide +kernel
theorem off2_eq0 : ∀ k, k0_off2 k 0#32 = ![(2 * k.val) * 64, 0] := by decide +kernel
theorem off2_eq1 : ∀ k, k0_off2 k 1#32 = ![(2 * k.val + 1) * 64, 0] := by decide +kernel
theorem off4_eq0 : ∀ k, k0_off4 k 0#32 = ![(2 * k.val) * 64, 128] := by decide +kernel
theorem off4_eq1 : ∀ k, k0_off4 k 1#32 = ![(2 * k.val + 1) * 64, 128] := by decide +kernel
theorem off3_eq : ∀ k, k0_off3 k = ![k.val, 0, 0] := by decide +kernel
theorem off5_eq : ∀ k, k0_off5 k = ![k.val, 0, 128] := by decide +kernel

theorem trips_eq : Scf.trips (0#32) (Scalar.addi 0#32 8#32) 1#32 = 8 := by decide +kernel

/-- The scores of column `col` against the keys of half-head `g`, by key number. -/
def scores (Q : Vec Ideal S1024x256 .f32) (x3 : Vec Ideal S16x128x64 .f32) (g : Fin 16) (col : Fin 256) (r : ℕ) : EReal :=
  if h : r < 128 then ∑ d : Fin 64, x3 (ix3 g ⟨r, h⟩ d) * Q (ix2 (⟨g.val * 64 + d.val, by omega⟩ : Fin 1024) col) else 0

/-- The first half-head of a head. -/
def half0 (k : Fin 8) : Fin 16 := ⟨2 * k.val, by omega⟩
/-- The second. -/
def half1 (k : Fin 8) : Fin 16 := ⟨2 * k.val + 1, by omega⟩

/-- A load of one half-head's keys. -/
theorem load_keys (m : Memref sig .tc .vmem S16x128x64 .f32) (hm : m.IsWhole) (x : Vec Ideal S16x128x64 .f32)
    (g : Fin 16) (off : Fin 3 → ℕ) (e : off = ![g.val, 0, 0]) (inb) (r : Fin 128) (d : Fin 64) :
    View.readAt (Elt Ideal) m.view (Rect.unit (s := S16x128x64) off S1x128x64.size inb).toLoadRect (hm.unread x)
        (ix3 0 r d) = x (ix3 g r d) := by
  subst e
  rw [View.readAt_eq_ld, hm.read_unread]
  exact View.ld_unit_apply_of x _ _ inb _ _ fun a => by
    fin_cases a <;> first | rfl | simp [ix3]

/-- A load of 64 rows and 128 lanes of the queries. -/
theorem load_query (m : Memref sig .tc .vmem S1024x256 .f32) (X : BufTy.Contents (Elt Ideal) m.view.ty)
    (Q : Vec Ideal S1024x256 .f32) (hX : m.view.read (Elt Ideal) X = Q)
    (g : Fin 16) (o : ℕ) (ho : o + 128 ≤ 256) (off : Fin 2 → ℕ) (e : off = ![g.val * 64, o]) (inb) (d : Fin 64) (l : Fin 128) :
    View.readAt (Elt Ideal) m.view (Rect.unit (s := S1024x256) off S64x128.size inb).toLoadRect X
        (ix2 d l) = Q (ix2 (⟨g.val * 64 + d.val, by omega⟩ : Fin 1024) (⟨o + l.val, by omega⟩ : Fin 256)) := by
  subst e
  rw [View.readAt_eq_ld, hX]
  exact View.ld_unit_apply_of Q _ _ inb _ _ fun a => by
    fin_cases a <;> first | rfl | simp [ix2]

/-- The product of keys and queries at an index. -/
theorem product (K : Vec Ideal S1x128x64 .f32) (Q : Vec Ideal S64x128 .f32) (r l : Fin 128) :
    k0_pay3 K Q (ix2 r l) = ∑ d : Fin 64, K (ix3 0 r d) * Q (ix2 d l) := by
  pointwise [k0_pay3]

theorem score_at (m4 : Memref sig .tc .vmem S16x128x64 .f32) (h4 : m4.IsWhole) (x : Vec Ideal S16x128x64 .f32)
    (m : Memref sig .tc .vmem S1024x256 .f32) (X : BufTy.Contents (Elt Ideal) m.view.ty)
    (Q : Vec Ideal S1024x256 .f32) (hX : m.view.read (Elt Ideal) X = Q)
    (g : Fin 16) (o : ℕ) (ho : o + 128 ≤ 256) (off1 : Fin 3 → ℕ) (e1 : off1 = ![g.val, 0, 0]) (inb1)
    (off : Fin 2 → ℕ) (e : off = ![g.val * 64, o]) (inb) (r l : Fin 128) :
    k0_pay3 (View.readAt (Elt Ideal) m4.view (Rect.unit (s := S16x128x64) off1 S1x128x64.size inb1).toLoadRect (h4.unread x))
      (View.readAt (Elt Ideal) m.view (Rect.unit (s := S1024x256) off S64x128.size inb).toLoadRect X) (ix2 r l)
      = scores Q x g (⟨o + l.val, by omega⟩ : Fin 256) r.val := by
  rw [product]
  unfold scores
  rw [dif_pos r.isLt]
  exact Finset.sum_congr rfl fun d _ => by rw [load_keys m4 h4 x g off1 e1 inb1, load_query m X Q hX g o ho off e inb]

/-- The expert numbers of a block. -/
def nums (Q : Vec Ideal S1024x256 .f32) (x3 : Vec Ideal S16x128x64 .f32) (y : S8x16x256.Idx) : BitVec 32 :=
  BitVec.ofNat 32 (num (scores Q x3 (half0 (y 0)) (y 2)) (scores Q x3 (half1 (y 0)) (y 2)) (y 1).val)

/-- The row offsets of a block. -/
def offsets (Q : Vec Ideal S1024x256 .f32) (x3 : Vec Ideal S16x128x64 .f32) (y : S8x16x256.Idx) : BitVec 32 :=
  IntOp.muli (IntOp.shrsi .vector (nums Q x3 y) 1#32) 8#32

/-- The gates of a block. -/
def weights (Q : Vec Ideal S1024x256 .f32) (x3 : Vec Ideal S16x128x64 .f32) (y : S8x16x256.Idx) : EReal :=
  wt (scores Q x3 (half0 (y 0)) (y 2)) (scores Q x3 (half1 (y 0)) (y 2)) (y 1).val

/-- Where a piece stands in its block. -/
theorem emb_eq (k : Fin 8) (o : ℕ) (ho : o + 128 ≤ 256) (off : Fin 3 → ℕ) (e : off = ![k.val, 0, o]) (inb) (x : S1x16x128.Idx) :
    (Rect.unit (s := S8x16x256) off S1x16x128.size inb).emb x = ix3 k (x 1 : Fin 16) (⟨o + (x 2).val, by have : (x 2).val < 128 := (x 2).isLt; omega⟩ : Fin 256) := by
  subst e
  funext a
  match a with
  | ⟨0, _⟩ => exact Fin.ext ((Rect.idx_unit_val _ _ inb x 0).trans (by
      have : (x 0).val < 1 := (x 0).isLt
      show k.val + (x 0).val = k.val; omega))
  | ⟨1, _⟩ => exact Fin.ext ((Rect.idx_unit_val _ _ inb x 1).trans (Nat.zero_add _))
  | ⟨2, _⟩ => exact Fin.ext (Rect.idx_unit_val _ _ inb x 2)

theorem lift_apply (e : IVec S16x128 32) (x : S1x16x128.Idx) : lift e x = e (ix2 (x 1 : Fin 16) (x 2 : Fin 128)) := by
  obtain ⟨a, b, d, rfl⟩ : ∃ (a : Fin 1) (b : Fin 16) (d : Fin 128), x = ix3 a b d := ⟨x 0, x 1, x 2, (ix3_eta x).symm⟩
  pointwise [lift]

theorem liftf_apply (e : FVec Ideal S16x128 .f32) (x : S1x16x128.Idx) : liftf e x = e (ix2 (x 1 : Fin 16) (x 2 : Fin 128)) := by
  obtain ⟨a, b, d, rfl⟩ : ∃ (a : Fin 1) (b : Fin 16) (d : Fin 128), x = ix3 a b d := ⟨x 0, x 1, x 2, (ix3_eta x).symm⟩
  pointwise [liftf]

theorem offs_apply (e : IVec S16x128 32) (t : Fin 16) (l : Fin 128) :
    offs e (ix2 t l) = IntOp.muli (IntOp.shrsi .vector (e (ix2 t l)) 1#32) 8#32 := by
  pointwise [offs]

section
variable (Q : Vec Ideal S1024x256 .f32) (x3 : Vec Ideal S16x128x64 .f32)
  (fin : ∀ g col r, ∃ x : ℝ, scores Q x3 g col r = (x : EReal))
  (s1 s2 : FVec Ideal S128x128 .f32) (k : Fin 8) (o : ℕ) (ho : o + 128 ≤ 256)
  (h1 : ∀ r l : Fin 128, s1 (ix2 r l) = scores Q x3 (half0 k) (⟨o + l.val, by omega⟩ : Fin 256) r.val)
  (h2 : ∀ r l : Fin 128, s2 (ix2 r l) = scores Q x3 (half1 k) (⟨o + l.val, by omega⟩ : Fin 256) r.val)
  (off : Fin 3 → ℕ) (e : off = ![k.val, 0, o]) (inb : ∀ a, off a + S1x16x128.size a ≤ S8x16x256.size a) (x : S1x16x128.Idx)

include fin ho h1 h2 e

theorem nums_at : lift (eids s1 s2) x = nums Q x3 ((Rect.unit (s := S8x16x256) off S1x16x128.size inb).emb x) := by
  rw [lift_apply, emb_eq k o ho off e inb x]
  exact eids_apply s1 s2 (x 2) _ _ (fun r => h1 r (x 2)) (fun r => h2 r (x 2)) (fin _ _) (fin _ _) (x 1)

theorem offsets_at : lift (offs (eids s1 s2)) x = offsets Q x3 ((Rect.unit (s := S8x16x256) off S1x16x128.size inb).emb x) := by
  rw [lift_apply]
  refine (offs_apply _ (x 1) (x 2)).trans ?_
  unfold offsets
  rw [← nums_at Q x3 fin s1 s2 k o ho h1 h2 off e inb x, lift_apply]

theorem weights_at : liftf (gates s1 s2) x = weights Q x3 ((Rect.unit (s := S8x16x256) off S1x16x128.size inb).emb x) := by
  rw [liftf_apply, emb_eq k o ho off e inb x]
  exact gates_apply s1 s2 (x 2) _ _ (fun r => h1 r (x 2)) (fun r => h2 r (x 2)) (fin _ _) (fin _ _) (x 1)

end

section
variable (c : Dev nD) (i : grid0.Coords) (arg1 : Memref sig .tc .vmem S256x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S16x128x64 .f32) (harg4 : arg4.IsWhole) (arg5 : Memref sig .tc .vmem S8x16x256 .i32) (harg5 : arg5.IsWhole) (arg6 : Memref sig .tc .vmem S8x16x256 .i32) (harg6 : arg6.IsWhole) (arg7 : Memref sig .tc .vmem S8x16x256 .f32) (harg7 : arg7.IsWhole) (arg8 : Memref sig .tc .vmem S1024x256 .f32) (harg8 : arg8.IsWhole)
  (x0 : Vec Ideal S256x1024 .f32) (x1 : Vec Ideal S1024x1024 .bf16) (x2 : Vec Ideal S1024x1024 .bf16) (x3 : Vec Ideal S16x128x64 .f32)

/-- The queries of a block, transposed. -/
abbrev query (x0 : Vec Ideal S256x1024 .f32) (x1 : Vec Ideal S1024x1024 .bf16) (x2 : Vec Ideal S1024x1024 .bf16) : Vec Ideal S1024x256 .f32 :=
  k0_pay1 (F := Ideal) x0 x1 x1 x2

/-- What the query buffer holds when the loop starts. -/
theorem held : arg8.view.read (Elt Ideal) (arg8.view.writes (Elt Ideal) arg8.view.junk
    (kernelRun0_A.sl.HS0_1 c arg1 harg1 arg2 harg2 arg3 harg3 x0 x1 x2)) = query x0 x1 x2 := by
  unfold kernelRun0_A.sl.HS0_1
  rw [View.read_writes_full]
  · rw [View.readAt_eq_ld, View.readAt_eq_ld, View.readAt_eq_ld, harg1.read_unread, harg2.read_unread, harg3.read_unread,
      View.ld_unit_lit, View.ld_unit_lit, View.ld_unit_lit]
    all_goals (intro a; fin_cases a <;> rfl)

section
variable (Q : Vec Ideal S1024x256 .f32) (X : BufTy.Contents (Elt Ideal) arg8.view.ty) (hX : arg8.view.read (Elt Ideal) X = Q)
  (fin : ∀ g col r, ∃ x : ℝ, scores Q x3 g col r = (x : EReal))

include hX in
theorem rows_at (k : Fin 8) (r l : Fin 128) :
    Trip.a1 arg4 arg8 (harg4.unread x3) X k (ix2 r l) = scores Q x3 (half0 k) (⟨0 + l.val, by omega⟩ : Fin 256) r.val
    ∧ Trip.a2 arg4 arg8 (harg4.unread x3) X k (ix2 r l) = scores Q x3 (half1 k) (⟨0 + l.val, by omega⟩ : Fin 256) r.val
    ∧ Trip.b1 arg4 arg8 (harg4.unread x3) X k (ix2 r l) = scores Q x3 (half0 k) (⟨128 + l.val, by omega⟩ : Fin 256) r.val
    ∧ Trip.b2 arg4 arg8 (harg4.unread x3) X k (ix2 r l) = scores Q x3 (half1 k) (⟨128 + l.val, by omega⟩ : Fin 256) r.val :=
  ⟨score_at arg4 harg4 x3 arg8 X Q hX (half0 k) 0 (by omega) _ (off1_eq0 k) _ _ (off2_eq0 k) _ r l,
   score_at arg4 harg4 x3 arg8 X Q hX (half1 k) 0 (by omega) _ (off1_eq1 k) _ _ (off2_eq1 k) _ r l,
   score_at arg4 harg4 x3 arg8 X Q hX (half0 k) 128 (by omega) _ (off1_eq0 k) _ _ (off4_eq0 k) _ r l,
   score_at arg4 harg4 x3 arg8 X Q hX (half1 k) 128 (by omega) _ (off1_eq1 k) _ _ (off4_eq1 k) _ r l⟩

include hX fin in
theorem nums_trips (n : ℕ) (hn : n ≤ 8) :
    ∀ p ∈ (pb_k0_t1 (F := Ideal) Variants.none c none i arg1 harg1 arg2 harg2 arg3 harg3 arg4 harg4 arg5 harg5 arg6 harg6 arg7 harg7 arg8 harg8 (harg4.unread x3) X n).1,
      ∀ x : p.1.shape.Idx, p.2 x = nums Q x3 (p.1.emb x) := by
  induction n with
  | zero => intro p hp; exact absurd hp (by simp [pb_k0_t1])
  | succ n ih =>
    intro p hp
    have hs := pb_k0_t1_succ (F := Ideal) Variants.none c none i arg1 harg1 arg2 harg2 arg3 harg3 arg4 harg4 arg5 harg5 arg6 harg6 arg7 harg7 arg8 harg8 (harg4.unread x3) X (⟨n, by omega⟩ : Fin 8)
    have hq := Trip.eids_piece Variants.none c none i arg1 harg1 arg2 harg2 arg3 harg3 arg4 harg4 arg5 harg5 arg6 harg6 arg7 harg7 arg8 harg8 (harg4.unread x3) X (⟨n, by omega⟩ : Fin 8)
    have R := rows_at arg4 harg4 arg8 x3 Q X hX (⟨n, by omega⟩ : Fin 8)
    rw [show (pb_k0_t1 (F := Ideal) Variants.none c none i arg1 harg1 arg2 harg2 arg3 harg3 arg4 harg4 arg5 harg5 arg6 harg6 arg7 harg7 arg8 harg8 (harg4.unread x3) X (n + 1)).1 = _ from congrArg (fun z => z.1) hs] at hp
    rcases List.mem_append.1 hp with hp | hp
    · rw [show (tripL_k0_t1 (F := Ideal) Variants.none c none i arg1 harg1 arg2 harg2 arg3 harg3 arg4 harg4 arg5 harg5 arg6 harg6 arg7 harg7 arg8 harg8 (harg4.unread x3) X (⟨n, by omega⟩ : Fin 8)).1 = _ from hq] at hp
      rcases List.mem_cons.1 hp with rfl | hp
      · intro x
        exact nums_at Q x3 fin _ _ (⟨n, by omega⟩ : Fin 8) 128 (by omega) (fun r l => (R r l).2.2.1) (fun r l => (R r l).2.2.2) _ (off5_eq (⟨n, by omega⟩ : Fin 8)) (k0_off5_inb (⟨n, by omega⟩ : Fin 8)) x
      · rcases List.mem_singleton.1 hp with rfl
        intro x
        exact nums_at Q x3 fin _ _ (⟨n, by omega⟩ : Fin 8) 0 (by omega) (fun r l => (R r l).1) (fun r l => (R r l).2.1) _ (off3_eq (⟨n, by omega⟩ : Fin 8)) (k0_off3_inb (⟨n, by omega⟩ : Fin 8)) x
    · exact ih (by omega) p hp

include hX fin in
theorem offsets_trips (n : ℕ) (hn : n ≤ 8) :
    ∀ p ∈ (pb_k0_t1 (F := Ideal) Variants.none c none i arg1 harg1 arg2 harg2 arg3 harg3 arg4 harg4 arg5 harg5 arg6 harg6 arg7 harg7 arg8 harg8 (harg4.unread x3) X n).2.1,
      ∀ x : p.1.shape.Idx, p.2 x = offsets Q x3 (p.1.emb x) := by
  induction n with
  | zero => intro p hp; exact absurd hp (by simp [pb_k0_t1])
  | succ n ih =>
    intro p hp
    have hs := pb_k0_t1_succ (F := Ideal) Variants.none c none i arg1 harg1 arg2 harg2 arg3 harg3 arg4 harg4 arg5 harg5 arg6 harg6 arg7 harg7 arg8 harg8 (harg4.unread x3) X (⟨n, by omega⟩ : Fin 8)
    have hq := Trip.offs_piece Variants.none c none i arg1 harg1 arg2 harg2 arg3 harg3 arg4 harg4 arg5 harg5 arg6 harg6 arg7 harg7 arg8 harg8 (harg4.unread x3) X (⟨n, by omega⟩ : Fin 8)
    have R := rows_at arg4 harg4 arg8 x3 Q X hX (⟨n, by omega⟩ : Fin 8)
    rw [show (pb_k0_t1 (F := Ideal) Variants.none c none i arg1 harg1 arg2 harg2 arg3 harg3 arg4 harg4 arg5 harg5 arg6 harg6 arg7 harg7 arg8 harg8 (harg4.unread x3) X (n + 1)).2.1 = _ from congrArg (fun z => z.2.1) hs] at hp
    rcases List.mem_append.1 hp with hp | hp
    · rw [show (tripL_k0_t1 (F := Ideal) Variants.none c none i arg1 harg1 arg2 harg2 arg3 harg3 arg4 harg4 arg5 harg5 arg6 harg6 arg7 harg7 arg8 harg8 (harg4.unread x3) X (⟨n, by omega⟩ : Fin 8)).2.1 = _ from hq] at hp
      rcases List.mem_cons.1 hp with rfl | hp
      · intro x
        exact offsets_at Q x3 fin _ _ (⟨n, by omega⟩ : Fin 8) 128 (by omega) (fun r l => (R r l).2.2.1) (fun r l => (R r l).2.2.2) _ (off5_eq (⟨n, by omega⟩ : Fin 8)) (k0_off5_inb (⟨n, by omega⟩ : Fin 8)) x
      · rcases List.mem_singleton.1 hp with rfl
        intro x
        exact offsets_at Q x3 fin _ _ (⟨n, by omega⟩ : Fin 8) 0 (by omega) (fun r l => (R r l).1) (fun r l => (R r l).2.1) _ (off3_eq (⟨n, by omega⟩ : Fin 8)) (k0_off3_inb (⟨n, by omega⟩ : Fin 8)) x
    · exact ih (by omega) p hp

include hX fin in
theorem weights_trips (n : ℕ) (hn : n ≤ 8) :
    ∀ p ∈ (pb_k0_t1 (F := Ideal) Variants.none c none i arg1 harg1 arg2 harg2 arg3 harg3 arg4 harg4 arg5 harg5 arg6 harg6 arg7 harg7 arg8 harg8 (harg4.unread x3) X n).2.2,
      ∀ x : p.1.shape.Idx, p.2 x = weights Q x3 (p.1.emb x) := by
  induction n with
  | zero => intro p hp; exact absurd hp (by simp [pb_k0_t1])
  | succ n ih =>
    intro p hp
    have hs := pb_k0_t1_succ (F := Ideal) Variants.none c none i arg1 harg1 arg2 harg2 arg3 harg3 arg4 harg4 arg5 harg5 arg6 harg6 arg7 harg7 arg8 harg8 (harg4.unread x3) X (⟨n, by omega⟩ : Fin 8)
    have hq := Trip.gates_piece Variants.none c none i arg1 harg1 arg2 harg2 arg3 harg3 arg4 harg4 arg5 harg5 arg6 harg6 arg7 harg7 arg8 harg8 (harg4.unread x3) X (⟨n, by omega⟩ : Fin 8)
    have R := rows_at arg4 harg4 arg8 x3 Q X hX (⟨n, by omega⟩ : Fin 8)
    rw [show (pb_k0_t1 (F := Ideal) Variants.none c none i arg1 harg1 arg2 harg2 arg3 harg3 arg4 harg4 arg5 harg5 arg6 harg6 arg7 harg7 arg8 harg8 (harg4.unread x3) X (n + 1)).2.2 = _ from congrArg (fun z => z.2.2) hs] at hp
    rcases List.mem_append.1 hp with hp | hp
    · rw [show (tripL_k0_t1 (F := Ideal) Variants.none c none i arg1 harg1 arg2 harg2 arg3 harg3 arg4 harg4 arg5 harg5 arg6 harg6 arg7 harg7 arg8 harg8 (harg4.unread x3) X (⟨n, by omega⟩ : Fin 8)).2.2 = _ from hq] at hp
      rcases List.mem_cons.1 hp with rfl | hp
      · intro x
        exact weights_at Q x3 fin _ _ (⟨n, by omega⟩ : Fin 8) 128 (by omega) (fun r l => (R r l).2.2.1) (fun r l => (R r l).2.2.2) _ (off5_eq (⟨n, by omega⟩ : Fin 8)) (k0_off5_inb (⟨n, by omega⟩ : Fin 8)) x
      · rcases List.mem_singleton.1 hp with rfl
        intro x
        exact weights_at Q x3 fin _ _ (⟨n, by omega⟩ : Fin 8) 0 (by omega) (fun r l => (R r l).1) (fun r l => (R r l).2.1) _ (off3_eq (⟨n, by omega⟩ : Fin 8)) (k0_off3_inb (⟨n, by omega⟩ : Fin 8)) x
    · exact ih (by omega) p hp

end

/-- Output 4's block. -/
theorem nums_out (fin : ∀ g col r, ∃ x : ℝ, scores (query x0 x1 x2) x3 g col r = (x : EReal)) (y : S8x16x256.Idx) :
    out0_A_4 (F := Ideal) c i arg1 harg1 arg2 harg2 arg3 harg3 arg4 harg4 arg5 harg5 arg6 harg6 arg7 harg7 arg8 harg8 x0 x1 x2 x3 y = nums (query x0 x1 x2) x3 y := by
  unfold out0_A_4
  rw [View.read_writes_eq_canon _ _ _ (cover0_A_4 c i arg1 harg1 arg2 harg2 arg3 harg3 arg4 harg4 arg5 harg5 arg6 harg6 arg7 harg7 arg8 harg8 x0 x1 x2 x3)]
  have hc := cover0_A_4 (F := Ideal) c i arg1 harg1 arg2 harg2 arg3 harg3 arg4 harg4 arg5 harg5 arg6 harg6 arg7 harg7 arg8 harg8 x0 x1 x2 x3 y
  refine View.canon_apply_of_pieces (nums (query x0 x1 x2) x3) _ ?_ y hc
  clear hc
  unfold kernelRun0_A
  dsimp only
  rw [trips_eq]
  exact nums_trips c i arg1 harg1 arg2 harg2 arg3 harg3 arg4 harg4 arg5 harg5 arg6 harg6 arg7 harg7 arg8 harg8 x3 (query x0 x1 x2) _ (held c arg1 harg1 arg2 harg2 arg3 harg3 arg8 x0 x1 x2) fin 8 (by omega)

/-- Output 5's block. -/
theorem offsets_out (fin : ∀ g col r, ∃ x : ℝ, scores (query x0 x1 x2) x3 g col r = (x : EReal)) (y : S8x16x256.Idx) :
    out0_A_5 (F := Ideal) c i arg1 harg1 arg2 harg2 arg3 harg3 arg4 harg4 arg5 harg5 arg6 harg6 arg7 harg7 arg8 harg8 x0 x1 x2 x3 y = offsets (query x0 x1 x2) x3 y := by
  unfold out0_A_5
  rw [View.read_writes_eq_canon _ _ _ (cover0_A_5 c i arg1 harg1 arg2 harg2 arg3 harg3 arg4 harg4 arg5 harg5 arg6 harg6 arg7 harg7 arg8 harg8 x0 x1 x2 x3)]
  have hc := cover0_A_5 (F := Ideal) c i arg1 harg1 arg2 harg2 arg3 harg3 arg4 harg4 arg5 harg5 arg6 harg6 arg7 harg7 arg8 harg8 x0 x1 x2 x3 y
  refine View.canon_apply_of_pieces (offsets (query x0 x1 x2) x3) _ ?_ y hc
  clear hc
  unfold kernelRun0_A
  dsimp only
  rw [trips_eq]
  exact offsets_trips c i arg1 harg1 arg2 harg2 arg3 harg3 arg4 harg4 arg5 harg5 arg6 harg6 arg7 harg7 arg8 harg8 x3 (query x0 x1 x2) _ (held c arg1 harg1 arg2 harg2 arg3 harg3 arg8 x0 x1 x2) fin 8 (by omega)

/-- Output 6's block. -/
theorem weights_out (fin : ∀ g col r, ∃ x : ℝ, scores (query x0 x1 x2) x3 g col r = (x : EReal)) (y : S8x16x256.Idx) :
    out0_A_6 (F := Ideal) c i arg1 harg1 arg2 harg2 arg3 harg3 arg4 harg4 arg5 harg5 arg6 harg6 arg7 harg7 arg8 harg8 x0 x1 x2 x3 y = weights (query x0 x1 x2) x3 y := by
  unfold out0_A_6
  rw [View.read_writes_eq_canon _ _ _ (cover0_A_6 c i arg1 harg1 arg2 harg2 arg3 harg3 arg4 harg4 arg5 harg5 arg6 harg6 arg7 harg7 arg8 harg8 x0 x1 x2 x3)]
  have hc := cover0_A_6 (F := Ideal) c i arg1 harg1 arg2 harg2 arg3 harg3 arg4 harg4 arg5 harg5 arg6 harg6 arg7 harg7 arg8 harg8 x0 x1 x2 x3 y
  refine View.canon_apply_of_pieces (weights (query x0 x1 x2) x3) _ ?_ y hc
  clear hc
  unfold kernelRun0_A
  dsimp only
  rw [trips_eq]
  exact weights_trips c i arg1 harg1 arg2 harg2 arg3 harg3 arg4 harg4 arg5 harg5 arg6 harg6 arg7 harg7 arg8 harg8 x3 (query x0 x1 x2) _ (held c arg1 harg1 arg2 harg2 arg3 harg3 arg8 x0 x1 x2) fin 8 (by omega)

end

end Cert.Proof.ScoreOut
-- ==== Proof.ScoreArray.lean ====
/-
  The score kernel's three arrays: the grid's 128 points each leave one block of each, so every element is the number, the
  row offset and the gate of its head, rank and row.
-/
module

public import proofs.«01_k».proof.Proof.ScoreSpec
public import proofs.«01_k».proof.Proof.ScoreOut
public import proofs.«01_k».proof.Proof.Gen.Kernel4Ideal.Value

@[expose] public section

set_option synthInstance.maxSize 4096
set_option synthInstance.maxHeartbeats 400000

noncomputable section

open Idealize.ShloMosaic Idealize.ShloMosaic.TcCoe
open Cert.Kernel4Ideal Cert.Kernel4Ideal.Gen

namespace Cert.Proof.ScoreArray

open ScoreOut

/-- For row block `n` there is a grid point whose windows are its blocks. -/
theorem point : ∀ (n : Fin 128), ∃ t : Fin cfg0.N,
    (win0_0.index t (0 : Fin 2) = n.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = n.val)
    ∧ (win0_5.index t (0 : Fin 3) = 0 ∧ win0_5.index t (1 : Fin 3) = 0 ∧ win0_5.index t (2 : Fin 3) = n.val)
    ∧ (win0_6.index t (0 : Fin 3) = 0 ∧ win0_6.index t (1 : Fin 3) = 0 ∧ win0_6.index t (2 : Fin 3) = n.val) :=
  (by decide +kernel : ∀ (n : Fin 128), ∃ t : Fin grid0.N, _)

variable (m : (ℓ : Loc nD τ sig) → Buf (Elt Ideal) ℓ) (c : Dev nD)

/-- The argument arrays: the rows, the query weights, the sub-keys. -/
abbrev h : FVec Ideal ⟨2, ![32768, 1024]⟩ .f32 := m ((c : Thread nD τ).loc main_arg0)
abbrev w : FVec Ideal ⟨2, ![1024, 1024]⟩ .f32 := m ((c : Thread nD τ).loc main_arg1)
abbrev sk : FVec Ideal ⟨4, ![8, 2, 128, 64]⟩ .f32 := m ((c : Thread nD τ).loc main_arg2)

/-- The high part of the weights as the region finds it: the weights, transposed. -/
theorem high (n x : Fin 1024) : (V m c main_v2 : Vec Ideal S1024x1024 .bf16) (ix2 n x) = w m c (ix2 x n) := by
  have e : (V m c main_v2 : Vec Ideal S1024x1024 .bf16)
      = (truncf (F := Ideal) .bf16 (transpose S1024x1024 [1, 0] (m ((c : Thread nD τ).loc main_arg1) : Vec Ideal S1024x1024 .f32) transposes_S1024x1024_S1024x1024_1_0) bitsLt_bf16_f32) := by
    unfold V hostOps0
    after_results
  rw [e]
  pointwise

/-- The low part: what the weights less themselves are. -/
theorem low (n x : Fin 1024) : (V m c main_v5 : Vec Ideal S1024x1024 .bf16) (ix2 n x) = w m c (ix2 x n) - w m c (ix2 x n) := by
  have e : (V m c main_v5 : Vec Ideal S1024x1024 .bf16)
      = (truncf (F := Ideal) .bf16 (subf (transpose S1024x1024 [1, 0] (m ((c : Thread nD τ).loc main_arg1) : Vec Ideal S1024x1024 .f32) transposes_S1024x1024_S1024x1024_1_0)
          (extf .f32 (truncf (F := Ideal) .bf16 (transpose S1024x1024 [1, 0] (m ((c : Thread nD τ).loc main_arg1) : Vec Ideal S1024x1024 .f32) transposes_S1024x1024_S1024x1024_1_0) bitsLt_bf16_f32) bitsLt_bf16_f32)) bitsLt_bf16_f32) := by
    unfold V hostOps0
    after_results
  rw [e]
  pointwise

/-- The keys: the sub-keys, a head's two sets in turn. -/
theorem keys (g : Fin 8) (p : Fin 2) (r : Fin 128) (d : Fin 64) :
    (V m c main_v1 : Vec Ideal S16x128x64 .f32) (ix3 (⟨2 * g.val + p.val, by omega⟩ : Fin 16) r d) = sk m c (ix4 g p r d) := by
  have e : (V m c main_v1 : Vec Ideal S16x128x64 .f32)
      = shapeCast S16x128x64 (m ((c : Thread nD τ).loc main_arg2) : Vec Ideal S8x2x128x64 .f32) shapeCasts_S8x2x128x64_S16x128x64 := by
    unfold V hostOps0
    after_results
    rfl
  rw [e]
  exact shapeCast_apply _ shapeCasts_S8x2x128x64_S16x128x64 _ (ix4 g p r d)
    (by rewrite [Shape.rowMajor_val_four, Shape.rowMajor_val_three]; show ((g.val * 2 + p.val) * 128 + r.val) * 64 + d.val = ((2 * g.val + p.val) * 128 + r.val) * 64 + d.val; omega)

section blocks
variable (t : Fin cfg0.N) (n : Fin 128)

/-- The four blocks a point reads. -/
abbrev rows : Vec Ideal S256x1024 .f32 := iblk m c 0 t
abbrev cols : Vec Ideal S1024x1024 .bf16 := iblk m c 1 t
abbrev lows : Vec Ideal S1024x1024 .bf16 := iblk m c 2 t
abbrev sets : Vec Ideal S16x128x64 .f32 := iblk m c 3 t

theorem block0 (h0 : win0_0.index t (0 : Fin 2) = n.val ∧ win0_0.index t (1 : Fin 2) = 0) (r : Fin 256) (l : Fin 1024) :
    rows m c t (ix2 r l) = h m c (ix2 ⟨256 * n + r, by omega⟩ l) := by
  obtain ⟨h0, h1⟩ := h0
  show V m c main_arg0 (((cfg0.win 0).blk t).view.emb (ix2 r l)) = _
  rw [V_main_arg0]
  refine congrArg (h m c) (funext fun a => Fin.ext ?_)
  match a with
  | ⟨0, _⟩ => show win0_0.index t (0 : Fin 2) * 256 + 1 * r.val = 256 * n.val + r.val; omega
  | ⟨1, _⟩ => show win0_0.index t (1 : Fin 2) * 1024 + 1 * l.val = l.val; omega

theorem block1 (h1 : win0_1.index t (0 : Fin 2) = 0 ∧ win0_1.index t (1 : Fin 2) = 0) (r l : Fin 1024) :
    cols m c t (ix2 r l) = w m c (ix2 l r) := by
  obtain ⟨h0, h1⟩ := h1
  rw [← high]
  show V m c main_v2 (((cfg0.win 1).blk t).view.emb (ix2 r l)) = _
  refine congrArg (V m c main_v2) (funext fun a => Fin.ext ?_)
  match a with
  | ⟨0, _⟩ => show win0_1.index t (0 : Fin 2) * 1024 + 1 * r.val = r.val; omega
  | ⟨1, _⟩ => show win0_1.index t (1 : Fin 2) * 1024 + 1 * l.val = l.val; omega

theorem block2 (h2 : win0_2.index t (0 : Fin 2) = 0 ∧ win0_2.index t (1 : Fin 2) = 0) (r l : Fin 1024) :
    lows m c t (ix2 r l) = w m c (ix2 l r) - w m c (ix2 l r) := by
  obtain ⟨h0, h1⟩ := h2
  rw [← low]
  show V m c main_v5 (((cfg0.win 2).blk t).view.emb (ix2 r l)) = _
  refine congrArg (V m c main_v5) (funext fun a => Fin.ext ?_)
  match a with
  | ⟨0, _⟩ => show win0_2.index t (0 : Fin 2) * 1024 + 1 * r.val = r.val; omega
  | ⟨1, _⟩ => show win0_2.index t (1 : Fin 2) * 1024 + 1 * l.val = l.val; omega

theorem block3 (h3 : win0_3.index t (0 : Fin 3) = 0 ∧ win0_3.index t (1 : Fin 3) = 0 ∧ win0_3.index t (2 : Fin 3) = 0)
    (g : Fin 8) (p : Fin 2) (r : Fin 128) (d : Fin 64) :
    sets m c t (ix3 (⟨2 * g.val + p.val, by omega⟩ : Fin 16) r d) = sk m c (ix4 g p r d) := by
  obtain ⟨h0, h1, h2⟩ := h3
  rw [← keys]
  show V m c main_v1 (((cfg0.win 3).blk t).view.emb (ix3 (⟨2 * g.val + p.val, by omega⟩ : Fin 16) r d)) = _
  refine congrArg (V m c main_v1) (funext fun a => Fin.ext ?_)
  match a with
  | ⟨0, _⟩ => show win0_3.index t (0 : Fin 3) * 16 + 1 * (2 * g.val + p.val) = 2 * g.val + p.val; omega
  | ⟨1, _⟩ => show win0_3.index t (1 : Fin 3) * 128 + 1 * r.val = r.val; omega
  | ⟨2, _⟩ => show win0_3.index t (2 : Fin 3) * 64 + 1 * d.val = d.val; omega

theorem place4 (h : win0_4.index t (0 : Fin 3) = 0 ∧ win0_4.index t (1 : Fin 3) = 0 ∧ win0_4.index t (2 : Fin 3) = n.val)
    (g : Fin 8) (r : Fin 16) (l : Fin 256) :
    ((cfg0.win 4).blk t).view.emb (ix3 g r l) = (ix3 g r (⟨256 * n + l, by omega⟩ : Fin 32768) : S8x16x32768.Idx) := by
  obtain ⟨h0, h1, h2⟩ := h
  refine funext fun a => Fin.ext ?_
  match a with
  | ⟨0, _⟩ => show win0_4.index t (0 : Fin 3) * 8 + 1 * g.val = g.val; omega
  | ⟨1, _⟩ => show win0_4.index t (1 : Fin 3) * 16 + 1 * r.val = r.val; omega
  | ⟨2, _⟩ => show win0_4.index t (2 : Fin 3) * 256 + 1 * l.val = 256 * n.val + l.val; omega

theorem place5 (h : win0_5.index t (0 : Fin 3) = 0 ∧ win0_5.index t (1 : Fin 3) = 0 ∧ win0_5.index t (2 : Fin 3) = n.val)
    (g : Fin 8) (r : Fin 16) (l : Fin 256) :
    ((cfg0.win 5).blk t).view.emb (ix3 g r l) = (ix3 g r (⟨256 * n + l, by omega⟩ : Fin 32768) : S8x16x32768.Idx) := by
  obtain ⟨h0, h1, h2⟩ := h
  refine funext fun a => Fin.ext ?_
  match a with
  | ⟨0, _⟩ => show win0_5.index t (0 : Fin 3) * 8 + 1 * g.val = g.val; omega
  | ⟨1, _⟩ => show win0_5.index t (1 : Fin 3) * 16 + 1 * r.val = r.val; omega
  | ⟨2, _⟩ => show win0_5.index t (2 : Fin 3) * 256 + 1 * l.val = 256 * n.val + l.val; omega

theorem place6 (h : win0_6.index t (0 : Fin 3) = 0 ∧ win0_6.index t (1 : Fin 3) = 0 ∧ win0_6.index t (2 : Fin 3) = n.val)
    (g : Fin 8) (r : Fin 16) (l : Fin 256) :
    ((cfg0.win 6).blk t).view.emb (ix3 g r l) = (ix3 g r (⟨256 * n + l, by omega⟩ : Fin 32768) : S8x16x32768.Idx) := by
  obtain ⟨h0, h1, h2⟩ := h
  refine funext fun a => Fin.ext ?_
  match a with
  | ⟨0, _⟩ => show win0_6.index t (0 : Fin 3) * 8 + 1 * g.val = g.val; omega
  | ⟨1, _⟩ => show win0_6.index t (1 : Fin 3) * 16 + 1 * r.val = r.val; omega
  | ⟨2, _⟩ => show win0_6.index t (2 : Fin 3) * 256 + 1 * l.val = 256 * n.val + l.val; omega

theorem query_apply (x0 : Vec Ideal S256x1024 .f32) (x1 x2 : Vec Ideal S1024x1024 .bf16) (n : Fin 1024) (l : Fin 256) :
    ScoreOut.query x0 x1 x2 (ix2 n l) = ∑ x, x1 (ix2 n x) * x0 (ix2 l x)
      + (∑ x, x1 (ix2 n x) * (x0 (ix2 l x) - x0 (ix2 l x)) + ∑ x, x2 (ix2 n x) * x0 (ix2 l x)) := by
  unfold ScoreOut.query
  pointwise [k0_pay1]

variable (H : ScoreSpec.Real (h m c) (w m c) (sk m c))
  (h0 : win0_0.index t (0 : Fin 2) = n.val ∧ win0_0.index t (1 : Fin 2) = 0)
  (h1 : win0_1.index t (0 : Fin 2) = 0 ∧ win0_1.index t (1 : Fin 2) = 0)
  (h2 : win0_2.index t (0 : Fin 2) = 0 ∧ win0_2.index t (1 : Fin 2) = 0)
  (h3 : win0_3.index t (0 : Fin 3) = 0 ∧ win0_3.index t (1 : Fin 3) = 0 ∧ win0_3.index t (2 : Fin 3) = 0)

include H h0 h1 h2 in
/-- At a point, a block's queries are the rows' queries: the low parts vanish. -/
theorem query_eq (k : Fin 1024) (l : Fin 256) :
    ScoreOut.query (rows m c t) (cols m c t) (lows m c t) (ix2 k l)
      = ScoreSpec.query (h m c) (w m c) (⟨256 * n + l, by omega⟩ : Fin 32768) k := by
  rw [query_apply]
  unfold ScoreSpec.query
  have e1 : ∀ x : Fin 1024, cols m c t (ix2 k x) * (rows m c t (ix2 l x) - rows m c t (ix2 l x)) = 0 := fun x => by
    rw [block0 m c t n h0, ScoreSpec.real_sub _ (H.rows _), mul_zero]
  have e2 : ∀ x : Fin 1024, lows m c t (ix2 k x) * rows m c t (ix2 l x) = 0 := fun x => by
    rw [block2 m c t h2, ScoreSpec.real_sub _ (H.weights _), zero_mul]
  rw [Finset.sum_eq_zero fun x _ => e1 x, Finset.sum_eq_zero fun x _ => e2 x, add_zero, add_zero]
  exact Finset.sum_congr rfl fun x _ => by rw [block0 m c t n h0, block1 m c t h1]

include H h0 h1 h2 h3 in
theorem score_eq (g : Fin 8) (p : Fin 2) (l : Fin 256) (r : ℕ) :
    scores (ScoreOut.query (rows m c t) (cols m c t) (lows m c t)) (sets m c t) (⟨2 * g.val + p.val, by omega⟩ : Fin 16) l r
      = ScoreSpec.score (h m c) (w m c) (sk m c) g p (⟨256 * n + l, by omega⟩ : Fin 32768) r := by
  unfold scores ScoreSpec.score
  split
  · refine Finset.sum_congr rfl fun d _ => ?_
    rw [block3 m c t h3]
    exact congrArg _ (query_eq m c t n H h0 h1 h2 _ l)
  · rfl

include H h0 h1 h2 h3 in
theorem score_fin (g : Fin 16) (l : Fin 256) (r : ℕ) :
    ∃ x : ℝ, scores (ScoreOut.query (rows m c t) (cols m c t) (lows m c t)) (sets m c t) g l r = (x : EReal) := by
  have e := score_eq m c t n H h0 h1 h2 h3 (⟨g.val / 2, by omega⟩ : Fin 8) (⟨g.val % 2, by omega⟩ : Fin 2) l r
  have hg : (⟨2 * (g.val / 2) + g.val % 2, by omega⟩ : Fin 16) = g := Fin.ext (by simp; omega)
  simp only [hg] at e
  rw [e]
  exact ScoreSpec.score_real _ _ _ H _ _ _ _

include H h0 h1 h2 h3 in
theorem nums_eq (g : Fin 8) (r : Fin 16) (l : Fin 256) :
    nums (ScoreOut.query (rows m c t) (cols m c t) (lows m c t)) (sets m c t) (ix3 g r l)
      = ScoreSpec.eid (h m c) (w m c) (sk m c) g r (⟨256 * n + l, by omega⟩ : Fin 32768) := by
  have e0 := funext fun k => score_eq m c t n H h0 h1 h2 h3 g 0 l k
  have e1 := funext fun k => score_eq m c t n H h0 h1 h2 h3 g 1 l k
  unfold ScoreSpec.eid
  rw [← e0, ← e1]
  rfl

include H h0 h1 h2 h3 in
theorem offsets_eq (g : Fin 8) (r : Fin 16) (l : Fin 256) :
    offsets (ScoreOut.query (rows m c t) (cols m c t) (lows m c t)) (sets m c t) (ix3 g r l)
      = ScoreSpec.off (h m c) (w m c) (sk m c) g r (⟨256 * n + l, by omega⟩ : Fin 32768) := by
  unfold offsets ScoreSpec.off
  rw [nums_eq m c t n H h0 h1 h2 h3]

include H h0 h1 h2 h3 in
theorem weights_eq (g : Fin 8) (r : Fin 16) (l : Fin 256) :
    weights (ScoreOut.query (rows m c t) (cols m c t) (lows m c t)) (sets m c t) (ix3 g r l)
      = ScoreSpec.gate (h m c) (w m c) (sk m c) g r (⟨256 * n + l, by omega⟩ : Fin 32768) := by
  have e0 := funext fun k => score_eq m c t n H h0 h1 h2 h3 g 0 l k
  have e1 := funext fun k => score_eq m c t n H h0 h1 h2 h3 g 1 l k
  unfold ScoreSpec.gate
  rw [← e0, ← e1]
  rfl

end blocks

variable (H : ScoreSpec.Real (h m c) (w m c) (sk m c))
include H

/-- Array 4 after the run, at an index. -/
theorem result4 (g : Fin 8) (r : Fin 16) (p : Fin 32768) :
    ((dats m 0 c).arrAt 4 cfg0.N : IVec S8x16x32768 32) (ix3 g r p) = ScoreSpec.eid (h m c) (w m c) (sk m c) g r p := by
  obtain ⟨t, h0, h1, h2, h3, h4, h5, h6⟩ := point ⟨p.val / 256, by omega⟩
  have B := congrFun (Cert.Kernel4Ideal.Value.blocks4 m c t (flush0_4 t)) (ix3 g r (⟨p.val % 256, Nat.mod_lt _ (by omega)⟩ : Fin 256))
  rw [Cert.Kernel4Ideal.Value.flushed4_A] at B
  have B' : (dats m 0 c).arrAt 4 cfg0.N (((cfg0.win 4).blk t).view.emb (ix3 g r (⟨p.val % 256, Nat.mod_lt _ (by omega)⟩ : Fin 256)))
    = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (rows m c t) (cols m c t) (lows m c t) (sets m c t) (ix3 g r (⟨p.val % 256, Nat.mod_lt _ (by omega)⟩ : Fin 256)) := B
  rw [place4 t _ h4] at B'
  have hp : (⟨256 * (p.val / 256) + p.val % 256, by omega⟩ : Fin 32768) = p := Fin.ext (by simp; omega)
  have F := (B'.trans (nums_out c _ _ _ _ _ _ _ _ _ _ _ _ _ _ _ _ _ _ _ _ _ (score_fin m c t _ H h0 h1 h2 h3) _)).trans (nums_eq m c t _ H h0 h1 h2 h3 g r _)
  simp only [hp] at F
  exact F

/-- Array 5 after the run, at an index. -/
theorem result5 (g : Fin 8) (r : Fin 16) (p : Fin 32768) :
    ((dats m 0 c).arrAt 5 cfg0.N : IVec S8x16x32768 32) (ix3 g r p) = ScoreSpec.off (h m c) (w m c) (sk m c) g r p := by
  obtain ⟨t, h0, h1, h2, h3, h4, h5, h6⟩ := point ⟨p.val / 256, by omega⟩
  have B := congrFun (Cert.Kernel4Ideal.Value.blocks5 m c t (flush0_5 t)) (ix3 g r (⟨p.val % 256, Nat.mod_lt _ (by omega)⟩ : Fin 256))
  rw [Cert.Kernel4Ideal.Value.flushed5_A] at B
  have B' : (dats m 0 c).arrAt 5 cfg0.N (((cfg0.win 5).blk t).view.emb (ix3 g r (⟨p.val % 256, Nat.mod_lt _ (by omega)⟩ : Fin 256)))
    = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (rows m c t) (cols m c t) (lows m c t) (sets m c t) (ix3 g r (⟨p.val % 256, Nat.mod_lt _ (by omega)⟩ : Fin 256)) := B
  rw [place5 t _ h5] at B'
  have hp : (⟨256 * (p.val / 256) + p.val % 256, by omega⟩ : Fin 32768) = p := Fin.ext (by simp; omega)
  have F := (B'.trans (offsets_out c _ _ _ _ _ _ _ _ _ _ _ _ _ _ _ _ _ _ _ _ _ (score_fin m c t _ H h0 h1 h2 h3) _)).trans (offsets_eq m c t _ H h0 h1 h2 h3 g r _)
  simp only [hp] at F
  exact F

/-- Array 6 after the run, at an index. -/
theorem result6 (g : Fin 8) (r : Fin 16) (p : Fin 32768) :
    ((dats m 0 c).arrAt 6 cfg0.N : FVec Ideal S8x16x32768 .f32) (ix3 g r p) = ScoreSpec.gate (h m c) (w m c) (sk m c) g r p := by
  obtain ⟨t, h0, h1, h2, h3, h4, h5, h6⟩ := point ⟨p.val / 256, by omega⟩
  have B := congrFun (Cert.Kernel4Ideal.Value.blocks6 m c t (flush0_6 t)) (ix3 g r (⟨p.val % 256, Nat.mod_lt _ (by omega)⟩ : Fin 256))
  rw [Cert.Kernel4Ideal.Value.flushed6_A] at B
  have B' : (dats m 0 c).arrAt 6 cfg0.N (((cfg0.win 6).blk t).view.emb (ix3 g r (⟨p.val % 256, Nat.mod_lt _ (by omega)⟩ : Fin 256)))
    = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (rows m c t) (cols m c t) (lows m c t) (sets m c t) (ix3 g r (⟨p.val % 256, Nat.mod_lt _ (by omega)⟩ : Fin 256)) := B
  rw [place6 t _ h6] at B'
  have hp : (⟨256 * (p.val / 256) + p.val % 256, by omega⟩ : Fin 32768) = p := Fin.ext (by simp; omega)
  have F := (B'.trans (weights_out c _ _ _ _ _ _ _ _ _ _ _ _ _ _ _ _ _ _ _ _ _ (score_fin m c t _ H h0 h1 h2 h3) _)).trans (weights_eq m c t _ H h0 h1 h2 h3 g r _)
  simp only [hp] at F
  exact F

end Cert.Proof.ScoreArray

end
-- ==== Proof.ScorePre.lean ====
/-
  The precondition of the scores read off its predicate: the rows, the query weights and the sub-keys are reals.
-/
module

public import proofs.«01_k».proof.Defs
public import proofs.«01_k».proof.Proof.ScoreArray

@[expose] public section

noncomputable section

open Idealize.ShloMosaic

namespace Cert.Proof.ScorePre

/-- The shape facts the predicate's operations take. -/
theorem facts : Cert.Pre_finite_scores.Facts where
  bcast_S_S32768x1024 := by decide
  bcast_S_S1024x1024 := by decide
  bcast_S_S8x2x128x64 := by decide

/-- A value whose absolute value is below +∞ is a real. -/
theorem finite (x : EReal) (h : FloatOps.cmpf (F := Ideal) (φ := .f32) .olt (max x (-x)) (Ideal.ofBits .f32 0x7F800000#32) = 1#1) :
    ∃ r : ℝ, x = (r : EReal) := by
  have w : Ideal.ofBits .f32 0x7F800000#32 = ⊤ := by simp [Ideal.ofBits, Ideal.ieee]
  rw [Ideal.cmpf_def, w] at h
  induction x using EReal.rec with
  | bot => simp [Ideal.cmp] at h
  | coe r => exact ⟨r, rfl⟩
  | top => simp [Ideal.cmp] at h

/-- What the predicate gives of the kernel's arrays. -/
theorem asked (m : (ℓ : Loc Kernel4Ideal.nD Kernel4Ideal.τ Kernel4Ideal.sig) → Buf (Elt Ideal) ℓ)
    (h : Cert.Pre_Kernel4Ideal_finite_scores (hPre_finite_scores := facts) m) (c : Dev Kernel4Ideal.nD) :
    ScoreSpec.Real (ScoreArray.h m c) (ScoreArray.w m c) (ScoreArray.sk m c) := by
  obtain ⟨h0, h1, h2⟩ := h c
  exact ⟨fun i => finite _ (congrFun h0 i), fun i => finite _ (congrFun h1 i), fun i => finite _ (congrFun h2 i)⟩

end Cert.Proof.ScorePre

end
-- ==== Proof.Scores.lean ====
/-
  The claims about the expert scores: the reference's frame, and the equality of the three arrays.
-/
module

public import proofs.«01_k».proof.Defs
public import proofs.«01_k».proof.Proof.ScoreRef
public import proofs.«01_k».proof.Proof.ScorePre
public import proofs.«01_k».proof.Proof.Gen.Reference4Ideal.Run
public import Idealize.ShloMosaic.Adequacy
public import Idealize.ShloMosaic.Init

@[expose] public section

noncomputable section

open Idealize.ShloMosaic Idealize.SL.Sem

namespace Cert.Proof.Scores

/-- The reference runs, leaves its arguments, and ends quiescent. -/
theorem frame_reference : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The kernel's three arrays and the reference's are equal, element by element, at finite arguments. -/
theorem algebraic : Cert.algebraic_Kernel4Ideal_Reference4Ideal_pre_finite_scores (hPre_finite_scores := ScorePre.facts) := by
  intro m ρ m' ρ' hpre hagree
  refine ⟨_, _, _, Cert.Kernel4Ideal.Value.run_blocks (F := Ideal) m ρ, ?_⟩
  refine (θ_run Cert.Reference4Ideal.defs _ _).mono (fun _ h c => ⟨(h c).1.trans ?_, (h c).2.1.trans ?_, (h c).2.2.1.trans ?_, (h c).2.2.2⟩)
    (Cert.Reference4Ideal.Value.run (F := Ideal) m' ρ')
  all_goals obtain ⟨e0, e1, e2⟩ := hagree c
  all_goals have H := ScorePre.asked m hpre c
  · rw [Cert.Reference4Ideal.Read.val_main_v37_eq, e0, e1, e2]
    refine funext fun i => ?_
    rw [show i = ix3 (i 0) (i 1) (i 2) from (ix3_eta i).symm]
    exact (ScoreRef.result0 _ _ _ (i 0) (i 2) (i 1)).trans (ScoreArray.result4 m c H (i 0) (i 1) (i 2)).symm
  · rw [Cert.Reference4Ideal.Read.val_main_v42_eq, e0, e1, e2]
    refine funext fun i => ?_
    rw [show i = ix3 (i 0) (i 1) (i 2) from (ix3_eta i).symm]
    exact (ScoreRef.result1 _ _ _ (i 0) (i 2) (i 1)).trans (ScoreArray.result5 m c H (i 0) (i 1) (i 2)).symm
  · rw [Cert.Reference4Ideal.Read.val_main_v43_eq, e0, e1, e2]
    refine funext fun i => ?_
    rw [show i = ix3 (i 0) (i 1) (i 2) from (ix3_eta i).symm]
    exact (ScoreRef.result2 _ _ _ (i 0) (i 2) (i 1)).trans (ScoreArray.result6 m c H (i 0) (i 1) (i 2)).symm

end Cert.Proof.Scores

end
-- ==== Proof.PrepSpec.lean ====
/-
  Queries, keys and values from the projected columns, in extended reals: a head's row normalized over its 96 lanes and
  turned by the rotary tables, once as the reference writes it and once over 128 lanes of which the last 32 are zero.
-/
module

public import proofs.«01_k».proof.Proof.Norm

@[expose] public section

noncomputable section

open Idealize.ShloMosaic

namespace Cert.Proof.PrepSpec

/-- The reciprocal of 96. -/
def inv96 : EReal := ((1 / 96 : ℝ) : EReal)

/-- The reciprocal root of a mean square: the sum of squares `q` times the reciprocal count `s`, plus the small constant. -/
def root (q s : EReal) : EReal := Ideal.rsqrt (q * s + Ideal.ofBits .f32 0x358637BD#32)

/-- A row over its root mean square, times the gain, at lane `k`. -/
def normed {n : ℕ} (s : EReal) (x g : Fin n → EReal) (k : Fin n) : EReal := x k * root (∑ j : Fin n, x j * x j) s * g k

/-- Dividing by 96 is multiplying by its reciprocal. -/
theorem div_96 (q : EReal) : Ideal.div q (Ideal.ofBits .f32 0x42C00000#32) = q * inv96 := by
  have h : Ideal.ofBits .f32 0x42C00000#32 = ((96 : ℝ) : EReal) := by
    simp [Ideal.ofBits, Ideal.ieee]
    rw [← EReal.coe_mul]; norm_num
  rw [h, Ideal.div, if_neg (by norm_num), inv96, one_div]
  rfl

/-- Dividing by 128 is multiplying by its reciprocal. -/
theorem div_128 (q : EReal) :
    Ideal.div q (Ideal.ofBits .f32 0x43000000#32) = q * Ideal.ofBits .f32 0x3C000000#32 := by
  have h : Ideal.ofBits .f32 0x43000000#32 = ((128 : ℝ) : EReal) := by
    simp [Ideal.ofBits, Ideal.ieee]
    rw [← EReal.coe_mul]; norm_num
  have h' : Ideal.ofBits .f32 0x3C000000#32 = ((128⁻¹ : ℝ) : EReal) := by
    simp [Ideal.ofBits, Ideal.ieee]
    rw [← EReal.coe_mul]; norm_num
  rw [h, h', Ideal.div, if_neg (by norm_num)]
  rfl

/-- Dividing by 256 is multiplying by its reciprocal. -/
theorem div_256 (q : EReal) :
    Ideal.div q (Ideal.ofBits .f32 0x43800000#32) = q * Ideal.ofBits .f32 0x3B800000#32 := by
  have h : Ideal.ofBits .f32 0x43800000#32 = ((256 : ℝ) : EReal) := by
    simp [Ideal.ofBits, Ideal.ieee]
    rw [← EReal.coe_mul]; norm_num
  have h' : Ideal.ofBits .f32 0x3B800000#32 = ((256⁻¹ : ℝ) : EReal) := by
    simp [Ideal.ofBits, Ideal.ieee]
    rw [← EReal.coe_mul]; norm_num
  rw [h, h', Ideal.div, if_neg (by norm_num)]
  rfl

/-- The word of zero and the word of one. -/
theorem zero_word : (FloatOps.ofBits (F := Ideal) .f32 0x00000000#32 : EReal) = 0 := Ideal.ofBits_zero_f32

theorem one_word : Ideal.ofBits .f32 0x3F800000#32 = 1 := by
  simp [Ideal.ofBits, Ideal.ieee]
  rw [← EReal.coe_mul]
  norm_num

/-- A row of 96 lanes among 128, the others zero. -/
def padded {n : ℕ} (z : Fin n → EReal) (l : Fin 128) : EReal := if h : l.val < n then z ⟨l.val, h⟩ else 0

/-- The cosine table of one position over 128 lanes: the 32 cosines at the lanes from 64 on, one elsewhere. -/
def cosines (t : Fin 32 → EReal) (l : Fin 128) : EReal :=
  if h : 64 ≤ l.val ∧ l.val < 96 then t ⟨l.val - 64, by omega⟩ else 1

/-- The table of negated sines: at the first eight of every sixteen rotary lanes. -/
def sinesA (t : Fin 32 → EReal) (l : Fin 128) : EReal :=
  if h : 64 ≤ l.val ∧ l.val < 96 then (if (l.val - 64) % 16 < 8 then -t ⟨l.val - 64, by omega⟩ else 0) else 0

/-- The table of sines: at the last eight of every sixteen rotary lanes. -/
def sinesB (t : Fin 32 → EReal) (l : Fin 128) : EReal :=
  if h : 64 ≤ l.val ∧ l.val < 96 then (if (l.val - 64) % 16 < 8 then 0 else t ⟨l.val - 64, by omega⟩) else 0

/-- A row of 128 lanes turned: times the cosines, plus the row rolled by eight lanes either way times the two sine tables. -/
def rolled (y C A B : Fin 128 → EReal) (l : Fin 128) : EReal :=
  y l * C l + y ⟨(l.val + 128 - 120) % 128, Nat.mod_lt _ (by omega)⟩ * A l + y ⟨(l.val + 128 - 8) % 128, Nat.mod_lt _ (by omega)⟩ * B l

/-- The rotary part of a row of 96 lanes with its halves exchanged in each sixteen lanes, the first negated. -/
def half (y : Fin 96 → EReal) (l : Fin 32) : EReal :=
  if h : l.val % 16 < 8 then -y ⟨64 + l.val + 8, by omega⟩ else y ⟨64 + l.val - 8, by omega⟩

/-- A row of 96 lanes turned: the first 64 as they are, the rotary lanes times the cosines plus the exchanged halves times
    the sines. -/
def turned (y : Fin 96 → EReal) (cos sin : Fin 32 → EReal) (l : Fin 96) : EReal :=
  if h : l.val < 64 then y l else y l * cos ⟨l.val - 64, by omega⟩ + half y ⟨l.val - 64, by omega⟩ * sin ⟨l.val - 64, by omega⟩

/-- A padded row's sum of squares is the row's. -/
theorem squares (z : Fin 96 → EReal) : ∑ j : Fin 128, padded z j * padded z j = ∑ j : Fin 96, z j * z j := by
  rw [show ∑ j : Fin 128, padded z j * padded z j = _ from Fin.sum_univ_add (fun j : Fin (96 + 32) => padded z j * padded z j)]
  rw [Finset.sum_eq_zero (s := Finset.univ (α := Fin 32)) fun i _ => ?_, add_zero]
  · refine Finset.sum_congr rfl fun j _ => ?_
    have h : (Fin.castAdd 32 j).val < 96 := j.isLt
    simp only [padded, dif_pos h]
    rfl
  · have h : ¬ (Fin.natAdd 96 i).val < 96 := by simp
    simp only [padded, dif_neg h, mul_zero]

/-- A padded row normalized is the row normalized, padded. -/
theorem normed_padded (s : EReal) (z g : Fin 96 → EReal) (l : Fin 128) :
    normed s (padded z) (padded g) l = padded (normed s z g) l := by
  unfold normed
  rw [squares]
  unfold padded
  by_cases h : l.val < 96
  · simp only [dif_pos h]
  · simp only [dif_neg h, zero_mul]

/-- A padded row turned over 128 lanes is the row turned, padded. -/
theorem rolled_padded (y : Fin 96 → EReal) (cos sin : Fin 32 → EReal) (l : Fin 128) :
    rolled (padded y) (cosines cos) (sinesA sin) (sinesB sin) l = padded (turned y cos sin) l := by
  have hl := l.isLt
  unfold rolled
  by_cases h : 64 ≤ l.val ∧ l.val < 96
  · have h96 : l.val < 96 := h.2
    have h64 : ¬ l.val < 64 := by omega
    by_cases hh : (l.val - 64) % 16 < 8
    · have e : (l.val + 128 - 120) % 128 = l.val + 8 := by omega
      have e' : l.val + 8 < 96 := by omega
      have i : 64 + (l.val - 64) + 8 = l.val + 8 := by omega
      simp only [cosines, sinesA, sinesB, padded, turned, half, dif_pos h, dif_pos h96, dif_neg h64, dif_pos hh, if_pos hh, mul_zero, add_zero, e, dif_pos e', i]
      rw [mul_neg, neg_mul]
    · have e : (l.val + 128 - 8) % 128 = l.val - 8 := by omega
      have e' : l.val - 8 < 96 := by omega
      have i : 64 + (l.val - 64) - 8 = l.val - 8 := by omega
      simp only [cosines, sinesA, sinesB, padded, turned, half, dif_pos h, dif_pos h96, dif_neg h64, dif_neg hh, if_neg hh, mul_zero, add_zero, e, dif_pos e', i]
  · simp only [cosines, sinesA, sinesB, dif_neg h, mul_zero, add_zero, mul_one]
    unfold padded
    by_cases h96 : l.val < 96
    · have h64 : l.val < 64 := by omega
      simp only [dif_pos h96, turned, dif_pos h64]
    · simp only [dif_neg h96]

/-- One row times the columns of a weight. -/
def times {n w : ℕ} (x : Fin n → EReal) (m : Fin n → Fin w → EReal) (j : Fin w) : EReal := ∑ k : Fin n, x k * m k j

end Cert.Proof.PrepSpec

end
-- ==== Proof.PrepConcat.lean ====
/-
  Rows of heads joined, cut and padded along their lanes, and the turn of a head's row as the reference writes it.
-/
module

public import proofs.«01_k».proof.Proof.PrepSpec
public import proofs.«01_k».proof.Proof.Gen.Reference5Ideal.Read
public import Idealize.ShloMosaic.Lib.Pipeline.ValueKit
public import Idealize.ShloMosaic.Lib.KernelVsHost

@[expose] public section

noncomputable section

open Idealize.ShloMosaic Cert.Reference5Ideal Cert.Reference5Ideal.Gen Cert.Reference5Ideal.Read

namespace Cert.Proof.PrepConcat

open PrepSpec

/-- Two arrays joined along the lanes. -/
theorem join {n₁ n₂ n : ℕ} (hn : n = n₁ + n₂) (x₁ : FVec Ideal ⟨4, ![8, 4096, 8, n₁]⟩ .f32) (x₂ : FVec Ideal ⟨4, ![8, 4096, 8, n₂]⟩ .f32)
    (h) (b : Fin 8) (p : Fin 4096) (q : Fin 8) (l : Fin n) :
    (concatenate (⟨4, ![8, 4096, 8, n]⟩ : Shape) 3 [⟨⟨4, ![8, 4096, 8, n₁]⟩, x₁⟩, ⟨⟨4, ![8, 4096, 8, n₂]⟩, x₂⟩] h
        : FVec Ideal ⟨4, ![8, 4096, 8, n]⟩ .f32) (ix4 b p q l)
      = if hl : l.val < n₁ then x₁ (ix4 b p q ⟨l.val, hl⟩) else x₂ (ix4 b p q ⟨l.val - n₁, by omega⟩) := by
  by_cases hl : l.val < n₁
  · rw [dif_pos hl]
    exact concatenate_pair_apply_left 3 x₁ x₂ h (ix4 b p q l) rfl (ix4 b p q ⟨l.val, hl⟩) fun a => by fin_cases a <;> rfl
  · rw [dif_neg hl]
    exact concatenate_pair_apply_right 3 x₁ x₂ h (ix4 b p q l) rfl rfl (ix4 b p q ⟨l.val - n₁, by omega⟩)
      (fun a ha => by fin_cases a <;> first | rfl | exact absurd rfl ha) (by
        show l.val - n₁ + n₁ = l.val
        omega)

/-- Lanes cut out of an array. -/
theorem cut {n₁ n : ℕ} (o : ℕ) (x : FVec Ideal ⟨4, ![8, 4096, 8, n]⟩ .f32) (h) (b : Fin 8) (p : Fin 4096) (q : Fin 8) (l : Fin n₁)
    (ho : o + l.val < n) :
    (extractStridedSlice (⟨4, ![8, 4096, 8, n₁]⟩ : Shape) ![0, 0, 0, o] x h : FVec Ideal ⟨4, ![8, 4096, 8, n₁]⟩ .f32) (ix4 b p q l)
      = x (ix4 b p q ⟨o + l.val, ho⟩) :=
  extractStridedSlice_apply _ x h (ix4 b p q l) (ix4 b p q ⟨o + l.val, ho⟩) fun a => by
    fin_cases a
    · show b.val = 0 + b.val; omega
    · show p.val = 0 + p.val; omega
    · show q.val = 0 + q.val; omega
    · rfl

/-- A head's lanes padded to 128. -/
theorem pad_lanes {n : ℕ} (hi : ℕ) (x : FVec Ideal ⟨4, ![8, 4096, 8, n]⟩ .f32) (v : FVec Ideal S_ .f32) (hv : ∀ i, v i = 0) (h hu)
    (b : Fin 8) (p : Fin 4096) (q : Fin 8) (l : Fin 128) :
    (pad (⟨4, ![8, 4096, 8, 128]⟩ : Shape) ![0, 0, 0, 0] ![0, 0, 0, hi] ![0, 0, 0, 0] x v h hu : FVec Ideal ⟨4, ![8, 4096, 8, 128]⟩ .f32) (ix4 b p q l)
      = padded (fun j : Fin n => x (ix4 b p q j)) l := by
  unfold padded
  by_cases hl : l.val < n
  · rw [dif_pos hl]
    exact pad_apply_of_inside _ _ _ x v h hu (ix4 b p q l) (ix4 b p q (⟨l.val, hl⟩ : Fin n)) fun a => by
      fin_cases a
      · show b.val = 0 + b.val * 1
        omega
      · show p.val = 0 + p.val * 1
        omega
      · show q.val = 0 + q.val * 1
        omega
      · show l.val = 0 + l.val * 1
        omega
  · rw [dif_neg hl]
    refine (pad_apply_of_not_inside _ _ _ x v h hu (ix4 b p q l) 3 ?_).trans (hv _)
    show ¬(0 ≤ l.val ∧ (l.val - 0) % (0 + 1) = 0 ∧ (l.val - 0) / (0 + 1) < n)
    omega

/-- Sixteen lanes with their halves exchanged, the first negated. -/
def flip (z : FVec Ideal S8x4096x8x16 .f32) : FVec Ideal S8x4096x8x16 .f32 :=
  concatenate S8x4096x8x16 3 [⟨S8x4096x8x8, Host.negf (extractStridedSlice S8x4096x8x8 ![0, 0, 0, 8] z slices_S8x4096x8x16_S8x4096x8x8_0_0_0_8)⟩,
    ⟨S8x4096x8x8, extractStridedSlice S8x4096x8x8 ![0, 0, 0, 0] z slices_S8x4096x8x16_S8x4096x8x8_0_0_0_0⟩]
    concatenates_S8x4096x8x8_S8x4096x8x8_S8x4096x8x16_d3

/-- The turn of an array of head rows. -/
def turn (y : FVec Ideal S8x4096x8x96 .f32) (C S : FVec Ideal S8x4096x8x32 .f32) : FVec Ideal S8x4096x8x96 .f32 :=
  concatenate S8x4096x8x96 3 [⟨S8x4096x8x64, extractStridedSlice S8x4096x8x64 ![0, 0, 0, 0] y slices_S8x4096x8x96_S8x4096x8x64_0_0_0_0⟩,
    ⟨S8x4096x8x32, addf (mulf (extractStridedSlice S8x4096x8x32 ![0, 0, 0, 64] y slices_S8x4096x8x96_S8x4096x8x32_0_0_0_64) C)
      (mulf (concatenate S8x4096x8x32 3
        [⟨S8x4096x8x16, flip (extractStridedSlice S8x4096x8x16 ![0, 0, 0, 64] y slices_S8x4096x8x96_S8x4096x8x16_0_0_0_64)⟩,
          ⟨S8x4096x8x16, flip (extractStridedSlice S8x4096x8x16 ![0, 0, 0, 80] y slices_S8x4096x8x96_S8x4096x8x16_0_0_0_80)⟩]
        concatenates_S8x4096x8x16_S8x4096x8x16_S8x4096x8x32_d3) S)⟩]
    concatenates_S8x4096x8x64_S8x4096x8x32_S8x4096x8x96_d3

theorem flip_apply (z : FVec Ideal S8x4096x8x16 .f32) (b : Fin 8) (p : Fin 4096) (q : Fin 8) (l : Fin 16) :
    flip z (ix4 b p q l) = if hl : l.val < 8 then -z (ix4 b p q ⟨8 + l.val, by omega⟩) else z (ix4 b p q ⟨0 + (l.val - 8), by omega⟩) := by
  unfold flip
  refine (join (n := 16) rfl _ _ _ b p q l).trans ?_
  by_cases hl : l.val < 8
  · rw [dif_pos hl, dif_pos hl]
    exact congrArg (fun t : EReal => -t) (cut 8 z slices_S8x4096x8x16_S8x4096x8x8_0_0_0_8 b p q ⟨l.val, hl⟩ (by show 8 + l.val < 16; omega))
  · rw [dif_neg hl, dif_neg hl]
    exact cut 0 z slices_S8x4096x8x16_S8x4096x8x8_0_0_0_0 b p q ⟨l.val - 8, by omega⟩ (by show 0 + (l.val - 8) < 16; omega)

theorem turn_apply (y : FVec Ideal S8x4096x8x96 .f32) (C S : FVec Ideal S8x4096x8x32 .f32) (b : Fin 8) (p : Fin 4096) (q : Fin 8) (l : Fin 96) :
    turn y C S (ix4 b p q l)
      = turned (fun j => y (ix4 b p q j)) (fun j => C (ix4 b p q j)) (fun j => S (ix4 b p q j)) l := by
  unfold turn
  refine (join (n := 96) rfl _ _ _ b p q l).trans ?_
  unfold turned
  by_cases hl : l.val < 64
  · rw [dif_pos hl, dif_pos hl]
    refine (cut 0 y slices_S8x4096x8x96_S8x4096x8x64_0_0_0_0 b p q ⟨l.val, hl⟩ (by show 0 + l.val < 96; omega)).trans ?_
    exact congrArg (fun t : Fin 96 => y (ix4 b p q t)) (Fin.ext (by show 0 + l.val = l.val; omega))
  · rw [dif_neg hl, dif_neg hl]
    have h1 := cut 64 y slices_S8x4096x8x96_S8x4096x8x32_0_0_0_64 b p q (⟨l.val - 64, by omega⟩ : Fin 32) (by show 64 + (l.val - 64) < 96; omega)
    have e1 : (⟨64 + (l.val - 64), by omega⟩ : Fin 96) = l := Fin.ext (by show 64 + (l.val - 64) = l.val; omega)
    have h2 := join (n := 32) rfl (flip (extractStridedSlice S8x4096x8x16 ![0, 0, 0, 64] y slices_S8x4096x8x96_S8x4096x8x16_0_0_0_64))
      (flip (extractStridedSlice S8x4096x8x16 ![0, 0, 0, 80] y slices_S8x4096x8x96_S8x4096x8x16_0_0_0_80))
      concatenates_S8x4096x8x16_S8x4096x8x16_S8x4096x8x32_d3 b p q (⟨l.val - 64, by omega⟩ : Fin 32)
    have h3 : (concatenate S8x4096x8x32 3
        [⟨S8x4096x8x16, flip (extractStridedSlice S8x4096x8x16 ![0, 0, 0, 64] y slices_S8x4096x8x96_S8x4096x8x16_0_0_0_64)⟩,
          ⟨S8x4096x8x16, flip (extractStridedSlice S8x4096x8x16 ![0, 0, 0, 80] y slices_S8x4096x8x96_S8x4096x8x16_0_0_0_80)⟩]
        concatenates_S8x4096x8x16_S8x4096x8x16_S8x4096x8x32_d3 : FVec Ideal S8x4096x8x32 .f32) (ix4 b p q (⟨l.val - 64, by omega⟩ : Fin 32))
        = half (fun j => y (ix4 b p q j)) ⟨l.val - 64, by omega⟩ := by
      refine h2.trans ?_
      unfold half
      have hlt := l.isLt
      by_cases h16 : l.val - 64 < 16
      · rw [dif_pos (show (⟨l.val - 64, by omega⟩ : Fin 32).val < 16 from h16), flip_apply]
        by_cases h8 : l.val - 64 < 8
        · rw [dif_pos (show (⟨l.val - 64, h16⟩ : Fin 16).val < 8 from h8), dif_pos (show (l.val - 64) % 16 < 8 by omega)]
          refine congrArg (fun t : EReal => -t) ((cut 64 y slices_S8x4096x8x96_S8x4096x8x16_0_0_0_64 b p q _ (by show 64 + (8 + (l.val - 64)) < 96; omega)).trans ?_)
          exact congrArg (fun t : Fin 96 => y (ix4 b p q t)) (Fin.ext (by show 64 + (8 + (l.val - 64)) = 64 + (l.val - 64) + 8; omega))
        · rw [dif_neg (show ¬ (⟨l.val - 64, h16⟩ : Fin 16).val < 8 from h8), dif_neg (show ¬ (l.val - 64) % 16 < 8 by omega)]
          refine (cut 64 y slices_S8x4096x8x96_S8x4096x8x16_0_0_0_64 b p q _ (by show 64 + (0 + (l.val - 64 - 8)) < 96; omega)).trans ?_
          exact congrArg (fun t : Fin 96 => y (ix4 b p q t)) (Fin.ext (by show 64 + (0 + (l.val - 64 - 8)) = 64 + (l.val - 64) - 8; omega))
      · rw [dif_neg (show ¬ (⟨l.val - 64, by omega⟩ : Fin 32).val < 16 from h16), flip_apply]
        by_cases h8 : l.val - 64 - 16 < 8
        · rw [dif_pos (show (⟨l.val - 64 - 16, by omega⟩ : Fin 16).val < 8 from h8), dif_pos (show (l.val - 64) % 16 < 8 by omega)]
          refine congrArg (fun t : EReal => -t) ((cut 80 y slices_S8x4096x8x96_S8x4096x8x16_0_0_0_80 b p q _ (by show 80 + (8 + (l.val - 64 - 16)) < 96; omega)).trans ?_)
          exact congrArg (fun t : Fin 96 => y (ix4 b p q t)) (Fin.ext (by show 80 + (8 + (l.val - 64 - 16)) = 64 + (l.val - 64) + 8; omega))
        · rw [dif_neg (show ¬ (⟨l.val - 64 - 16, by omega⟩ : Fin 16).val < 8 from h8), dif_neg (show ¬ (l.val - 64) % 16 < 8 by omega)]
          refine (cut 80 y slices_S8x4096x8x96_S8x4096x8x16_0_0_0_80 b p q _ (by show 80 + (0 + (l.val - 64 - 16 - 8)) < 96; omega)).trans ?_
          exact congrArg (fun t : Fin 96 => y (ix4 b p q t)) (Fin.ext (by show 80 + (0 + (l.val - 64 - 16 - 8)) = 64 + (l.val - 64) - 8; omega))
    exact congrArg₂ (fun s t : EReal => s * C (ix4 b p q (⟨l.val - 64, by omega⟩ : Fin 32)) + t * S (ix4 b p q (⟨l.val - 64, by omega⟩ : Fin 32)))
      (h1.trans (congrArg (fun t : Fin 96 => y (ix4 b p q t)) e1)) h3

end Cert.Proof.PrepConcat

end
-- ==== Proof.PrepBlock.lean ====
/-
  One block of the query/key/value preparation: every head of the block's 256 rows.
-/
module

public import proofs.«01_k».proof.Proof.PrepSpec
public import proofs.«01_k».proof.Proof.Gen.Kernel5Ideal.Frame
public import Idealize.ShloMosaic.Lib.Pipeline.ValueKit

@[expose] public section

noncomputable section

open Idealize.ShloMosaic Idealize.ShloMosaic.TcCoe
open Cert.Kernel5Ideal Cert.Kernel5Ideal.Gen

namespace Cert.Proof.PrepBlock

open PrepSpec

/-- The constant the sum of squares is multiplied by is the reciprocal of 96. -/
theorem named : (Named.named κ "inv_head" 0x3C2AAAAB#32 : Ideal .f32) = inv96 := rfl

/-- One head of the queries, from the head's rows and the gain. -/
theorem qhead (C A B u : FVec Ideal S256x128 .f32) (g : Vec Ideal S1x128 .f32) (r : Fin 256) (l : Fin 128) :
    k0_pay22 C A B u g (ix3 0 r l)
      = rolled (normed inv96 (fun l => u (ix2 r l)) (fun l => g (ix2 0 l))) (fun l => C (ix2 r l)) (fun l => A (ix2 r l))
          (fun l => B (ix2 r l)) l * Ideal.ofBits .f32 0x3DD105EC#32 := by
  unfold rolled normed root
  rw [← named]
  pointwise [k0_pay22]

/-- One head of the keys, from the head's rows and the gain. -/
theorem khead (C A B u : FVec Ideal S256x128 .f32) (g : Vec Ideal S1x128 .f32) (r : Fin 256) (l : Fin 128) :
    k0_pay28 C A B u (mulf u u) g (ix3 0 r l)
      = rolled (normed inv96 (fun l => u (ix2 r l)) (fun l => g (ix2 0 l))) (fun l => C (ix2 r l)) (fun l => A (ix2 r l))
          (fun l => B (ix2 r l)) l := by
  unfold rolled normed root
  rw [← named]
  pointwise [k0_pay28]

/-- The key/value row, normalized over its 128 latent lanes. -/
def latent (x0 : Vec Ideal S1x256x256 .f32) (x5 : Vec Ideal S1x128 .f32) (r : Fin 256) : Fin 128 → EReal :=
  normed (Ideal.ofBits .f32 0x3C000000#32) (fun k : Fin 128 => x0 (ix3 0 r ⟨k, by omega⟩)) (fun k => x5 (ix2 0 k))

/-- The query row, normalized over its 256 latent lanes. -/
def latentQ (x1 : Vec Ideal S1x256x256 .f32) (x6 : Vec Ideal S1x256 .f32) (r : Fin 256) : Fin 256 → EReal :=
  normed (Ideal.ofBits .f32 0x3B800000#32) (fun k : Fin 256 => x1 (ix3 0 r k)) (fun k => x6 (ix2 0 k))

theorem latent_eq (x0 : Vec Ideal S1x256x256 .f32) (x5 : Vec Ideal S1x128 .f32) (r : Fin 256) (k : Fin 128) :
    k0_pay3 x0 x5 (ix2 r k) = latent x0 x5 r k := by
  unfold latent normed root
  pointwise [k0_pay3, k0_pay2]

theorem keys (x0 : Vec Ideal S1x256x256 .f32) (x5 : Vec Ideal S1x128 .f32) (w : Vec Ideal S128x1024 .bf16) (r : Fin 256) (j : Fin 1024) :
    k0_pay4 x0 x5 w (ix2 r j) = times (latent x0 x5 r) (fun k j => w (ix2 k j)) j := by
  unfold times
  simp only [← latent_eq]
  pointwise [k0_pay4]

theorem queries (x1 : Vec Ideal S1x256x256 .f32) (x6 : Vec Ideal S1x256 .f32) (w : Vec Ideal S256x1024 .bf16) (r : Fin 256) (j : Fin 1024) :
    k0_pay8 x1 x6 w (ix2 r j) = times (latentQ x1 x6 r) (fun k j => w (ix2 k j)) j := by
  unfold times latentQ normed root
  pointwise [k0_pay8]

theorem lane_word : ∀ j : Fin 1024,
    BitVec.setWidth 32 (IntOp.cmpi CmpIPredicate.eq (IntOp.andi (BitVec.ofNat 32 j.val) 127#32) 64#32)
      = if j.val % 128 = 64 then 1#32 else 0#32 := by decide +kernel

/-- The lane after the head's 64 value lanes is one, the others zero. -/
theorem lane (j : Fin 1024) : FloatOps.sitofp (F := Ideal) .f32
    (BitVec.setWidth 32 (IntOp.cmpi CmpIPredicate.eq (IntOp.andi (BitVec.ofNat 32 j.val) 127#32) 64#32))
      = if j.val % 128 = 64 then (1 : EReal) else 0 := by
  rw [lane_word]
  split
  · show (((1#32).toInt : ℝ) : EReal) = 1
    simp
  · show (((0#32).toInt : ℝ) : EReal) = 0
    simp

theorem values (x0 : Vec Ideal S1x256x256 .f32) (x5 : Vec Ideal S1x128 .f32) (w : Vec Ideal S128x1024 .bf16) (r : Fin 256) (j : Fin 1024) :
    k0_pay5 x0 x5 w (ix3 0 r j) = times (latent x0 x5 r) (fun k j => w (ix2 k j)) j + if j.val % 128 = 64 then 1 else 0 := by
  unfold times
  simp only [← latent_eq, ← lane j]
  pointwise [k0_pay5]

/-- The rotary key's lanes, rolled to lane 64 on. -/
theorem rotary (x0 : Vec Ideal S1x256x256 .f32) (r : Fin 256) (l : Fin 128) :
    k0_pay7 (k0_pay6 x0) (ix2 r l) = x0 (ix3 0 r ⟨128 + (l.val + 128 - 64) % 128, by omega⟩) := by
  pointwise [k0_pay7, k0_pay6, k0_pay2]

/-! ## The heads' blocks side by side -/

/-- A block by its row, head and lane. -/
def asBlock (f : Fin 256 → Fin 8 → Fin 128 → EReal) (y : S1x256x1024.Idx) : Elt Ideal .bf16 :=
  f (y 1) ⟨(y 2).val / 128, by have : (y 2).val < 1024 := (y 2).isLt; omega⟩ ⟨(y 2).val % 128, Nat.mod_lt _ (by omega)⟩

/-- A head's part of the block, written at the lanes from `o` on. -/
theorem piece (f : Fin 256 → Fin 8 → Fin 128 → EReal) (P : FVec Ideal S1x256x128 .bf16) (h : Fin 8) (o : ℕ) (ho : o = 128 * h.val)
    (inb) (hP : ∀ r l, P (ix3 0 r l) = f r h l) (x : S1x256x128.Idx) :
    P x = asBlock f ((Rect.unit (s := S1x256x1024) ![0, 0, o] S1x256x128.size inb).emb x) := by
  subst ho
  have hx : x = ix3 (0 : Fin 1) (x 1) (x 2) := by
    refine funext fun a => ?_
    fin_cases a
    · exact Subsingleton.elim (α := Fin 1) _ _
    · rfl
    · rfl
  have h1 : (Rect.unit (s := S1x256x1024) ![0, 0, 128 * h.val] S1x256x128.size inb).emb x 1 = x 1 :=
    Fin.ext ((Rect.idx_unit_val _ _ inb x 1).trans (Nat.zero_add _))
  have h2 : ((Rect.unit (s := S1x256x1024) ![0, 0, 128 * h.val] S1x256x128.size inb).emb x 2).val = 128 * h.val + (x 2).val :=
    Rect.idx_unit_val _ _ inb x 2
  have hl : (x 2).val < 128 := (x 2).isLt
  refine (congrArg P hx).trans ((hP (x 1) (x 2)).trans ?_)
  refine congr (congr (congrArg f h1.symm) (Fin.ext ?_)) (Fin.ext ?_)
  · show h.val = _ / 128
    rw [h2]; omega
  · show (x 2).val = _ % 128
    rw [h2]; omega

/-- The lanes of one head. -/
theorem head (u : FVec Ideal S256x1024 .f32) (h : Fin 8) (o : ℕ) (ho : o = 128 * h.val) (hs : S256x1024.Slices ![0, o] S256x128)
    (r : Fin 256) (l : Fin 128) :
    extractStridedSlice S256x128 ![0, o] u hs (ix2 r l) = u (ix2 r ⟨128 * h + l, by omega⟩) := by
  subst ho
  exact extractStridedSlice_apply _ u hs _ _ fun a => by
    fin_cases a
    · exact (Nat.zero_add _).symm
    · rfl

section
variable (y : FVec Ideal S256x1024 .f32) (u C A B : FVec Ideal S256x128 .f32) (g : Vec Ideal S1x128 .f32)

/-- A head's query row, from the projected rows. -/
def qrow (r : Fin 256) (h : Fin 8) (l : Fin 128) : EReal :=
  rolled (normed inv96 (fun l => y (ix2 r ⟨128 * h + l, by omega⟩)) (fun l => g (ix2 0 l))) (fun l => C (ix2 r l))
    (fun l => A (ix2 r l)) (fun l => B (ix2 r l)) l * Ideal.ofBits .f32 0x3DD105EC#32

/-- A head's key row, from the projected rows and the rotary part. -/
def krow (r : Fin 256) (h : Fin 8) (l : Fin 128) : EReal :=
  rolled (normed inv96 (fun l => y (ix2 r ⟨128 * h + l, by omega⟩) + u (ix2 r l)) (fun l => g (ix2 0 l))) (fun l => C (ix2 r l))
    (fun l => A (ix2 r l)) (fun l => B (ix2 r l)) l

theorem qslice (h : Fin 8) (o : ℕ) (ho : o = 128 * h.val) (hs : S256x1024.Slices ![0, o] S256x128) (r : Fin 256) (l : Fin 128) :
    k0_pay22 C A B (extractStridedSlice S256x128 ![0, o] y hs) g (ix3 0 r l) = qrow y C A B g r h l := by
  rw [qhead]
  simp only [head y h o ho hs]
  rfl

theorem kslice (h : Fin 8) (o : ℕ) (ho : o = 128 * h.val) (hs : S256x1024.Slices ![0, o] S256x128) (r : Fin 256) (l : Fin 128) :
    k0_pay28 C A B (addf (extractStridedSlice S256x128 ![0, o] y hs) u)
        (mulf (addf (extractStridedSlice S256x128 ![0, o] y hs) u) (addf (extractStridedSlice S256x128 ![0, o] y hs) u)) g (ix3 0 r l)
      = krow y u C A B g r h l := by
  rw [khead]
  have e : (fun l => addf (extractStridedSlice S256x128 ![0, o] y hs) u (ix2 r l))
      = fun l : Fin 128 => y (ix2 r ⟨128 * h + l, by omega⟩) + u (ix2 r l) :=
    funext fun l => congrArg (· + u (ix2 r l)) (head y h o ho hs r l)
  rw [e]
  rfl

theorem q_canon (i : S1x256x1024.Idx) :
    View.canon (Val := Elt Ideal) (e := .bf16) [⟨r0_14, k0_pay1 (k0_pay44 y C A B g) (k0_pay45 (F := Ideal))⟩,
      ⟨r0_13, k0_pay40 y C A B g⟩,
      ⟨r0_12, k0_pay36 C A B (k0_pay33 y) (k0_pay34 y) (k0_pay35 (F := Ideal)) g⟩,
      ⟨r0_11, k0_pay31 B (k0_pay29 y g) (k0_pay30 y C A g)⟩,
      ⟨r0_10, k0_pay25 y C A B g⟩,
      ⟨r0_9, k0_pay22 C A B (k0_pay21 y) g⟩,
      ⟨r0_8, k0_pay19 C A B (k0_pay17 y) (k0_pay18 g)⟩,
      ⟨r0_7, k0_pay15 (k0_pay14 y C A B g)⟩] i = asBlock (qrow y C A B g) i := by
  refine View.canon_apply_of_pieces (Val := Elt Ideal) (e := .bf16) (asBlock (qrow y C A B g)) _ ?_ i (cover0_12 _ _ _ _ _ _ _ _ i)
  intro p hp
  simp only [List.mem_cons, List.not_mem_nil, or_false] at hp
  rcases hp with rfl | rfl | rfl | rfl | rfl | rfl | rfl | rfl
  · exact fun x => piece (qrow y C A B g) _ 7 896 rfl inb_S1x256x1024_S1x256x128_0_0_896
      (fun r l => qslice y C A B g 7 896 rfl slices_S256x1024_o0_896_S256x128 r l) x
  · exact fun x => piece (qrow y C A B g) _ 6 768 rfl inb_S1x256x1024_S1x256x128_0_0_768
      (fun r l => qslice y C A B g 6 768 rfl slices_S256x1024_o0_768_S256x128 r l) x
  · exact fun x => piece (qrow y C A B g) _ 5 640 rfl inb_S1x256x1024_S1x256x128_0_0_640
      (fun r l => qslice y C A B g 5 640 rfl slices_S256x1024_o0_640_S256x128 r l) x
  · exact fun x => piece (qrow y C A B g) _ 4 512 rfl inb_S1x256x1024_S1x256x128_0_0_512
      (fun r l => qslice y C A B g 4 512 rfl slices_S256x1024_o0_512_S256x128 r l) x
  · exact fun x => piece (qrow y C A B g) _ 3 384 rfl inb_S1x256x1024_S1x256x128_0_0_384
      (fun r l => qslice y C A B g 3 384 rfl slices_S256x1024_o0_384_S256x128 r l) x
  · exact fun x => piece (qrow y C A B g) _ 2 256 rfl inb_S1x256x1024_S1x256x128_0_0_256
      (fun r l => qslice y C A B g 2 256 rfl slices_S256x1024_o0_256_S256x128 r l) x
  · exact fun x => piece (qrow y C A B g) _ 1 128 rfl inb_S1x256x1024_S1x256x128_0_0_128
      (fun r l => qslice y C A B g 1 128 rfl slices_S256x1024_o0_128_S256x128 r l) x
  · exact fun x => piece (qrow y C A B g) _ 0 0 rfl inb_S1x256x1024_S1x256x128_0_0_0
      (fun r l => qslice y C A B g 0 0 rfl slices_S256x1024_o0_0_S256x128 r l) x

theorem k_canon (w : FVec Ideal S256x128 .f32) (i : S1x256x1024.Idx) :
    View.canon (Val := Elt Ideal) (e := .bf16) [⟨r0_14, k0_pay43 C A B (k0_pay41 y (k0_pay7 w)) (k0_pay42 y (k0_pay7 w)) g⟩,
      ⟨r0_13, k0_pay39 B (k0_pay37 y (k0_pay7 w) g) (k0_pay38 y (k0_pay7 w) C A g) 8#32⟩,
      ⟨r0_12, k0_pay32 y (k0_pay7 w) C A B g⟩,
      ⟨r0_11, k0_pay28 C A B (k0_pay26 y (k0_pay7 w)) (k0_pay27 y (k0_pay7 w)) g⟩,
      ⟨r0_10, k0_pay24 C A B (k0_pay23 y (k0_pay7 w) g)⟩,
      ⟨r0_9, k0_pay20 y (k0_pay7 w) C A B g⟩,
      ⟨r0_8, k0_pay16 y (k0_pay7 w) C A B g⟩,
      ⟨r0_7, k0_pay13 C A B (k0_pay12 y w) g⟩] i = asBlock (krow y (k0_pay7 w) C A B g) i := by
  refine View.canon_apply_of_pieces (Val := Elt Ideal) (e := .bf16) (asBlock (krow y (k0_pay7 w) C A B g)) _ ?_ i (cover0_13 _ _ _ _ _ _ _ _ i)
  intro p hp
  simp only [List.mem_cons, List.not_mem_nil, or_false] at hp
  rcases hp with rfl | rfl | rfl | rfl | rfl | rfl | rfl | rfl
  · exact fun x => piece (krow y (k0_pay7 w) C A B g) _ 7 896 rfl inb_S1x256x1024_S1x256x128_0_0_896
      (fun r l => kslice y (k0_pay7 w) C A B g 7 896 rfl slices_S256x1024_o0_896_S256x128 r l) x
  · exact fun x => piece (krow y (k0_pay7 w) C A B g) _ 6 768 rfl inb_S1x256x1024_S1x256x128_0_0_768
      (fun r l => kslice y (k0_pay7 w) C A B g 6 768 rfl slices_S256x1024_o0_768_S256x128 r l) x
  · exact fun x => piece (krow y (k0_pay7 w) C A B g) _ 5 640 rfl inb_S1x256x1024_S1x256x128_0_0_640
      (fun r l => kslice y (k0_pay7 w) C A B g 5 640 rfl slices_S256x1024_o0_640_S256x128 r l) x
  · exact fun x => piece (krow y (k0_pay7 w) C A B g) _ 4 512 rfl inb_S1x256x1024_S1x256x128_0_0_512
      (fun r l => kslice y (k0_pay7 w) C A B g 4 512 rfl slices_S256x1024_o0_512_S256x128 r l) x
  · exact fun x => piece (krow y (k0_pay7 w) C A B g) _ 3 384 rfl inb_S1x256x1024_S1x256x128_0_0_384
      (fun r l => kslice y (k0_pay7 w) C A B g 3 384 rfl slices_S256x1024_o0_384_S256x128 r l) x
  · exact fun x => piece (krow y (k0_pay7 w) C A B g) _ 2 256 rfl inb_S1x256x1024_S1x256x128_0_0_256
      (fun r l => kslice y (k0_pay7 w) C A B g 2 256 rfl slices_S256x1024_o0_256_S256x128 r l) x
  · exact fun x => piece (krow y (k0_pay7 w) C A B g) _ 1 128 rfl inb_S1x256x1024_S1x256x128_0_0_128
      (fun r l => kslice y (k0_pay7 w) C A B g 1 128 rfl slices_S256x1024_o0_128_S256x128 r l) x
  · exact fun x => piece (krow y (k0_pay7 w) C A B g) _ 0 0 rfl inb_S1x256x1024_S1x256x128_0_0_0
      (fun r l => kslice y (k0_pay7 w) C A B g 0 0 rfl slices_S256x1024_o0_0_S256x128 r l) x

end

section
variable (x0 x1 : Vec Ideal S1x256x256 .f32) (x2 x3 x4 : Vec Ideal S256x128 .f32) (x5 : Vec Ideal S1x128 .f32) (x6 : Vec Ideal S1x256 .f32)
  (x7 x8 : Vec Ideal S1x128 .f32) (x9 x10 : Vec Ideal S128x1024 .bf16) (x11 : Vec Ideal S256x1024 .bf16)

theorem load46 : k0_pay46 x0 x1 x2 x3 x4 x5 x6 x7 x8 x9 x10 x11 = k0_pay4 x0 x5 x9 := by
  unfold k0_pay46
  rw [View.ld_unit_lit inb_S1x256x256_S1x256x256_0_0_0 _ (by decide), View.ld_unit_lit inb_S1x128_S1x128_0_0 _ (by decide),
    View.ld_unit_lit inb_S128x1024_S128x1024_0_0 _ (by decide)]

theorem load47 : k0_pay47 x0 x1 x2 x3 x4 x5 x6 x7 x8 x9 x10 x11 = k0_pay6 x0 := by
  unfold k0_pay47
  rw [View.ld_unit_lit inb_S1x256x256_S1x256x256_0_0_0 _ (by decide)]

theorem load49 : k0_pay49 x0 x1 x2 x3 x4 x5 x6 x7 x8 x9 x10 x11 = k0_pay8 x1 x6 x11 := by
  unfold k0_pay49
  rw [View.ld_unit_lit inb_S1x256x256_S1x256x256_0_0_0 _ (by decide), View.ld_unit_lit inb_S1x256_S1x256_0_0 _ (by decide),
    View.ld_unit_lit inb_S256x1024_S256x1024_0_0 _ (by decide)]

theorem load50 (r : Fin 256) (l : Fin 128) : k0_pay50 x0 x1 x2 x3 x4 x5 x6 x7 x8 x9 x10 x11 (ix2 r l) = x2 (ix2 r l) := by
  unfold k0_pay50
  rw [View.ld_unit_lit inb_S256x128_S256x128_0_0 _ (by decide)]
  pointwise [k0_pay9]

theorem load51 (r : Fin 256) (l : Fin 128) : k0_pay51 x0 x1 x2 x3 x4 x5 x6 x7 x8 x9 x10 x11 (ix2 r l) = x3 (ix2 r l) := by
  unfold k0_pay51
  rw [View.ld_unit_lit inb_S256x128_S256x128_0_0 _ (by decide)]
  pointwise [k0_pay10]

theorem load52 (r : Fin 256) (l : Fin 128) : k0_pay52 x0 x1 x2 x3 x4 x5 x6 x7 x8 x9 x10 x11 (ix2 r l) = x4 (ix2 r l) := by
  unfold k0_pay52
  rw [View.ld_unit_lit inb_S256x128_S256x128_0_0 _ (by decide)]
  pointwise [k0_pay11]

/-- The block of queries. -/
theorem out12 (r : Fin 256) (j : Fin 1024) : out0_12 x0 x1 x2 x3 x4 x5 x6 x7 x8 x9 x10 x11 (ix3 0 r j)
    = rolled (normed inv96 (fun l => times (latentQ x1 x6 r) (fun k j => x11 (ix2 k j)) ⟨128 * (j.val / 128) + l, by omega⟩)
        (fun l => x7 (ix2 0 l))) (fun l => x2 (ix2 r l)) (fun l => x3 (ix2 r l)) (fun l => x4 (ix2 r l))
        ⟨j.val % 128, Nat.mod_lt _ (by omega)⟩ * Ideal.ofBits .f32 0x3DD105EC#32 := by
  unfold out0_12
  refine (q_canon _ _ _ _ _ _).trans ?_
  show qrow _ _ _ _ _ r ⟨j.val / 128, _⟩ ⟨j.val % 128, _⟩ = _
  unfold qrow
  simp only [load49, load50, load51, load52, queries]
  rw [View.ld_unit_lit inb_S1x128_S1x128_0_0 _ (by decide)]

/-- The block of keys. -/
theorem out13 (r : Fin 256) (j : Fin 1024) : out0_13 x0 x1 x2 x3 x4 x5 x6 x7 x8 x9 x10 x11 (ix3 0 r j)
    = rolled (normed inv96 (fun l => times (latent x0 x5 r) (fun k j => x9 (ix2 k j)) ⟨128 * (j.val / 128) + l, by omega⟩
          + x0 (ix3 0 r ⟨128 + (l.val + 128 - 64) % 128, by omega⟩))
        (fun l => x8 (ix2 0 l))) (fun l => x2 (ix2 r l)) (fun l => x3 (ix2 r l)) (fun l => x4 (ix2 r l))
        ⟨j.val % 128, Nat.mod_lt _ (by omega)⟩ := by
  unfold out0_13
  refine (k_canon (k0_pay46 x0 x1 x2 x3 x4 x5 x6 x7 x8 x9 x10 x11) (k0_pay50 x0 x1 x2 x3 x4 x5 x6 x7 x8 x9 x10 x11) (k0_pay51 x0 x1 x2 x3 x4 x5 x6 x7 x8 x9 x10 x11) (k0_pay52 x0 x1 x2 x3 x4 x5 x6 x7 x8 x9 x10 x11) _ (k0_pay47 x0 x1 x2 x3 x4 x5 x6 x7 x8 x9 x10 x11) _).trans ?_
  show krow _ _ _ _ _ _ r ⟨j.val / 128, _⟩ ⟨j.val % 128, _⟩ = _
  unfold krow
  simp only [load46, load47, load50, load51, load52, keys, rotary]
  rw [View.ld_unit_lit inb_S1x128_S1x128_0_0 _ (by decide)]

/-- The block of values. -/
theorem out14 (r : Fin 256) (j : Fin 1024) : out0_14 x0 x1 x2 x3 x4 x5 x6 x7 x8 x9 x10 x11 (ix3 0 r j)
    = times (latent x0 x5 r) (fun k j => x10 (ix2 k j)) j + if j.val % 128 = 64 then 1 else 0 := by
  unfold out0_14
  rw [View.canon_cons_unit_lit inb_S1x256x1024_S1x256x1024_0_0_0 _ _ (by decide),
    View.ld_unit_lit inb_S1x256x256_S1x256x256_0_0_0 _ (by decide), View.ld_unit_lit inb_S1x128_S1x128_0_0 _ (by decide),
    View.ld_unit_lit inb_S128x1024_S128x1024_0_0 _ (by decide)]
  exact values x0 x5 x10 r j

end

end Cert.Proof.PrepBlock

end
-- ==== Proof.PrepHost.lean ====
/-
  The arrays the host makes for the query/key/value preparation: the rotary tables and the gains padded to 128 lanes, and the
  weights with every head's columns padded to 128.
-/
module

public import proofs.«01_k».proof.Proof.PrepSpec
public import proofs.«01_k».proof.Proof.Gen.Kernel5Ideal.Value
public import Idealize.ShloMosaic.Lib.Pipeline.ValueKit
public import Idealize.ShloMosaic.Lib.KernelVsHost

@[expose] public section

noncomputable section

open Idealize.ShloMosaic Idealize.ShloMosaic.TcCoe
open Cert.Kernel5Ideal Cert.Kernel5Ideal.Gen

namespace Cert.Proof.PrepHost

open PrepSpec

/-! ## Padding by lanes -/

/-- A row of 96 padded to 128. -/
theorem pad_row (x : FVec Ideal S96 .f32) (v : FVec Ideal S_ .f32) (hv : ∀ i, v i = 0) (h hu) (l : Fin 128) :
    pad S128 ![0] ![32] ![0] x v h hu (ix1 l) = padded (fun j : Fin 96 => x (ix1 j)) l := by
  unfold padded
  by_cases hl : l.val < 96
  · rw [dif_pos hl]
    exact pad_apply_of_inside _ _ _ x v h hu (ix1 l) (ix1 (⟨l.val, hl⟩ : Fin 96)) fun a => by
      fin_cases a
      show l.val = 0 + l.val * 1
      omega
  · rw [dif_neg hl]
    refine (pad_apply_of_not_inside _ _ _ x v h hu (ix1 l) 0 ?_).trans (hv _)
    show ¬(0 ≤ l.val ∧ (l.val - 0) % (0 + 1) = 0 ∧ (l.val - 0) / (0 + 1) < 96)
    omega

/-- A table of 32 lanes placed at lanes 64 to 95 of 128. -/
theorem pad_table (x : FVec Ideal S4096x32 .f32) (v : FVec Ideal S_ .f32) (z : EReal) (hv : ∀ i, v i = z) (h hu) (p : Fin 4096) (l : Fin 128) :
    pad S4096x128 ![0, 64] ![0, 32] ![0, 0] x v h hu (ix2 p l)
      = if hl : 64 ≤ l.val ∧ l.val < 96 then x (ix2 p (⟨l.val - 64, by omega⟩ : Fin 32)) else z := by
  by_cases hl : 64 ≤ l.val ∧ l.val < 96
  · rw [dif_pos hl]
    exact pad_apply_of_inside _ _ _ x v h hu (ix2 p l) (ix2 p (⟨l.val - 64, by omega⟩ : Fin 32)) fun a => by
      fin_cases a
      · show p.val = 0 + p.val * 1
        omega
      · show l.val = 64 + (l.val - 64) * 1
        omega
  · rw [dif_neg hl]
    refine (pad_apply_of_not_inside _ _ _ x v h hu (ix2 p l) 1 ?_).trans (hv _)
    show ¬(64 ≤ l.val ∧ (l.val - 64) % (0 + 1) = 0 ∧ (l.val - 64) / (0 + 1) < 32)
    omega

/-- A head's columns padded to 128. -/
theorem pad_heads {a n : ℕ} (hi : ℕ) (x : FVec Ideal ⟨3, ![a, 8, n]⟩ .f32) (v : FVec Ideal S_ .f32) (hv : ∀ i, v i = 0) (h hu)
    (k : Fin a) (q : Fin 8) (l : Fin 128) :
    pad (⟨3, ![a, 8, 128]⟩ : Shape) ![0, 0, 0] ![0, 0, hi] ![0, 0, 0] x v h hu (ix3 k q l) = padded (fun j : Fin n => x (ix3 k q j)) l := by
  unfold padded
  by_cases hl : l.val < n
  · rw [dif_pos hl]
    exact pad_apply_of_inside _ _ _ x v h hu (ix3 k q l) (ix3 k q (⟨l.val, hl⟩ : Fin n)) fun a => by
      fin_cases a
      · show k.val = 0 + k.val * 1
        omega
      · show q.val = 0 + q.val * 1
        omega
      · show l.val = 0 + l.val * 1
        omega
  · rw [dif_neg hl]
    refine (pad_apply_of_not_inside _ _ _ x v h hu (ix3 k q l) 2 ?_).trans (hv _)
    show ¬(0 ≤ l.val ∧ (l.val - 0) % (0 + 1) = 0 ∧ (l.val - 0) / (0 + 1) < n)
    omega

theorem zero_int (i : S_.Idx) : (sitofp .f32 (constantI S_ 32 0#32) : FVec Ideal S_ .f32) i = 0 := by
  show (((0#32).toInt : ℝ) : EReal) = 0
  simp

theorem zero_const (i : S_.Idx) : (constant S_ .f32 0x00000000#32 : FVec Ideal S_ .f32) i = 0 := zero_word

theorem one_const (i : S_.Idx) : (constant S_ .f32 0x3F800000#32 : FVec Ideal S_ .f32) i = 1 := one_word

variable (m : (ℓ : Loc nD τ sig) → Buf (Elt Ideal) ℓ) (c : Dev nD)

/-- The ten argument arrays. -/
abbrev kv : FVec Ideal S8x4096x256 .f32 := m ((c : Thread nD τ).loc main_arg0)
abbrev cq : FVec Ideal S8x4096x256 .f32 := m ((c : Thread nD τ).loc main_arg1)
abbrev cos : FVec Ideal S4096x32 .f32 := m ((c : Thread nD τ).loc main_arg2)
abbrev sin : FVec Ideal S4096x32 .f32 := m ((c : Thread nD τ).loc main_arg3)
abbrev gckv : FVec Ideal S128 .f32 := m ((c : Thread nD τ).loc main_arg4)
abbrev wukv : FVec Ideal S128x1024 .f32 := m ((c : Thread nD τ).loc main_arg5)
abbrev gcq : FVec Ideal S256 .f32 := m ((c : Thread nD τ).loc main_arg6)
abbrev wuq : FVec Ideal S256x768 .f32 := m ((c : Thread nD τ).loc main_arg7)
abbrev gqn : FVec Ideal S96 .f32 := m ((c : Thread nD τ).loc main_arg8)
abbrev gkn : FVec Ideal S96 .f32 := m ((c : Thread nD τ).loc main_arg9)

theorem gainq (l : Fin 128) : (V m c main_v10 : Vec Ideal S1x128 .f32) (ix2 0 l) = padded (fun j : Fin 96 => gqn m c (ix1 j)) l := by
  have e : (V m c main_v10 : Vec Ideal S1x128 .f32)
      = shapeCast S1x128 (pad S128 ![0] ![32] ![0] (gqn m c)
          (sitofp .f32 (constantI S_ 32 0#32) : FVec Ideal S_ .f32) pads_S96_S128_0320 h_S_) shapeCasts_S128_S1x128 := by
    unfold V
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append]
    after_results
    rfl
  rw [e, ← pad_row (gqn m c) _ zero_int pads_S96_S128_0320 h_S_ l]
  exact shapeCast_apply _ shapeCasts_S128_S1x128 _ (ix1 l)
    (by rewrite [Shape.rowMajor_val_one, Shape.rowMajor_val_two]; show l.val = 0 * 128 + l.val; omega)

theorem gaink (l : Fin 128) : (V m c main_v12 : Vec Ideal S1x128 .f32) (ix2 0 l) = padded (fun j : Fin 96 => gkn m c (ix1 j)) l := by
  have e : (V m c main_v12 : Vec Ideal S1x128 .f32)
      = shapeCast S1x128 (pad S128 ![0] ![32] ![0] (gkn m c)
          (sitofp .f32 (constantI S_ 32 0#32) : FVec Ideal S_ .f32) pads_S96_S128_0320 h_S_) shapeCasts_S128_S1x128 := by
    unfold V
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append]
    after_results
    rfl
  rw [e, ← pad_row (gkn m c) _ zero_int pads_S96_S128_0320 h_S_ l]
  exact shapeCast_apply _ shapeCasts_S128_S1x128 _ (ix1 l)
    (by rewrite [Shape.rowMajor_val_one, Shape.rowMajor_val_two]; show l.val = 0 * 128 + l.val; omega)

theorem gainckv (l : Fin 128) : (V m c main_v7 : Vec Ideal S1x128 .f32) (ix2 0 l) = gckv m c (ix1 l) := by
  have e : (V m c main_v7 : Vec Ideal S1x128 .f32) = shapeCast S1x128 (gckv m c) shapeCasts_S128_S1x128 := by
    unfold V
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append]
    after_results
    rfl
  rw [e]
  pointwise

theorem gaincq (l : Fin 256) : (V m c main_v8 : Vec Ideal S1x256 .f32) (ix2 0 l) = gcq m c (ix1 l) := by
  have e : (V m c main_v8 : Vec Ideal S1x256 .f32) = shapeCast S1x256 (gcq m c) shapeCasts_S256_S1x256 := by
    unfold V
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append]
    after_results
    rfl
  rw [e]
  pointwise

/-- The table of cosines. -/
theorem tableC (p : Fin 4096) (l : Fin 128) :
    (V m c main_v0 : Vec Ideal S4096x128 .f32) (ix2 p l) = cosines (fun j => cos m c (ix2 p j)) l := by
  have e : (V m c main_v0 : Vec Ideal S4096x128 .f32)
      = pad S4096x128 ![0, 64] ![0, 32] ![0, 0] (cos m c) (constant S_ .f32 0x3F800000#32 : FVec Ideal S_ .f32)
          pads_S4096x32_S4096x128_000_64320 h_S_ := by
    unfold V
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append]
    after_results
    rfl
  rw [e]
  exact pad_table (cos m c) _ 1 one_const _ _ p l

/-- Where the literal mask is true. -/
theorem mask : ∀ j : Fin 32, lit0 j = if j.val % 16 < 8 then 1#1 else 0#1 := by decide +kernel

theorem mask_at (p : Fin 4096) (j : Fin 32) :
    broadcastInDim S4096x32 ![1] bcast_S32_S4096x32_1 (fun i : S32.Idx => lit0 (S32.rowMajor i)) (ix2 p j)
      = if j.val % 16 < 8 then 1#1 else 0#1 := by
  rw [← mask j]
  pointwise
  exact congrArg lit0 (Fin.ext (Shape.rowMajor_val_one _))

/-- The table of negated sines. -/
theorem tableA (p : Fin 4096) (l : Fin 128) :
    (V m c main_v3 : Vec Ideal S4096x128 .f32) (ix2 p l) = sinesA (fun j => sin m c (ix2 p j)) l := by
  have e : (V m c main_v3 : Vec Ideal S4096x128 .f32)
      = pad S4096x128 ![0, 64] ![0, 32] ![0, 0]
          (select (broadcastInDim S4096x32 ![1] bcast_S32_S4096x32_1 (fun i : S32.Idx => lit0 (S32.rowMajor i)))
            (Host.negf (sin m c))
            (broadcastInDim S4096x32 ![] bcast_S_S4096x32 (constant S_ .f32 0x00000000#32 : FVec Ideal S_ .f32)) : FVec Ideal S4096x32 .f32)
          (constant S_ .f32 0x00000000#32 : FVec Ideal S_ .f32) pads_S4096x32_S4096x128_000_64320 h_S_ := by
    unfold V
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append]
    after_results
    rfl
  rw [e]
  refine (pad_table _ _ 0 zero_const _ _ p l).trans ?_
  unfold sinesA
  by_cases hl : 64 ≤ l.val ∧ l.val < 96
  · rw [dif_pos hl, dif_pos hl]
    have hm := mask_at p ⟨l.val - 64, by omega⟩
    unfold select
    rw [hm]
    by_cases h8 : (l.val - 64) % 16 < 8
    · simp only [if_pos h8]; rfl
    · simp only [if_neg h8]; exact zero_word
  · rw [dif_neg hl, dif_neg hl]

/-- The table of sines. -/
theorem tableB (p : Fin 4096) (l : Fin 128) :
    (V m c main_v5 : Vec Ideal S4096x128 .f32) (ix2 p l) = sinesB (fun j => sin m c (ix2 p j)) l := by
  have e : (V m c main_v5 : Vec Ideal S4096x128 .f32)
      = pad S4096x128 ![0, 64] ![0, 32] ![0, 0]
          (select (broadcastInDim S4096x32 ![1] bcast_S32_S4096x32_1 (fun i : S32.Idx => lit0 (S32.rowMajor i)))
            (broadcastInDim S4096x32 ![] bcast_S_S4096x32 (constant S_ .f32 0x00000000#32 : FVec Ideal S_ .f32))
            (sin m c) : FVec Ideal S4096x32 .f32)
          (constant S_ .f32 0x00000000#32 : FVec Ideal S_ .f32) pads_S4096x32_S4096x128_000_64320 h_S_ := by
    unfold V
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append]
    after_results
    rfl
  rw [e]
  refine (pad_table _ _ 0 zero_const _ _ p l).trans ?_
  unfold sinesB
  by_cases hl : 64 ≤ l.val ∧ l.val < 96
  · rw [dif_pos hl, dif_pos hl]
    have hm := mask_at p ⟨l.val - 64, by omega⟩
    unfold select
    rw [hm]
    by_cases h8 : (l.val - 64) % 16 < 8
    · simp only [if_pos h8]; exact zero_word
    · simp only [if_neg h8]; rfl
  · rw [dif_neg hl, dif_neg hl]

/-! ## The weights -/

/-- The 64 columns from `o` on of every head, cut out, flattened and cut again: as they were. -/
theorem cut (o : ℕ) (ho : o + 64 ≤ 128) (x : FVec Ideal S128x1024 .f32) (hs : S128x8x128.Slices ![0, 0, o] S128x8x64)
    (k : Fin 128) (h : Fin 8) (j : Fin 64) :
    shapeCast S128x8x64 (shapeCast S128x512 (extractStridedSlice S128x8x64 ![0, 0, o]
        (shapeCast S128x8x128 x shapeCasts_S128x1024_S128x8x128) hs) shapeCasts_S128x8x64_S128x512) shapeCasts_S128x512_S128x8x64 (ix3 k h j)
      = x (ix2 k (⟨128 * h + (o + j), by omega⟩ : Fin 1024)) := by
  refine (shapeCast_apply _ shapeCasts_S128x512_S128x8x64 _ (ix2 k (⟨64 * h + j, by omega⟩ : Fin 512))
    (by rewrite [Shape.rowMajor_val_two, Shape.rowMajor_val_three]; show k.val * 512 + (64 * h.val + j.val) = (k.val * 8 + h.val) * 64 + j.val; omega)).trans ?_
  refine (shapeCast_apply _ shapeCasts_S128x8x64_S128x512 _ (ix3 k h j)
    (by rewrite [Shape.rowMajor_val_two, Shape.rowMajor_val_three]; show (k.val * 8 + h.val) * 64 + j.val = k.val * 512 + (64 * h.val + j.val); omega)).trans ?_
  refine (extractStridedSlice_apply _ _ hs _ (ix3 k h (⟨o + j, by omega⟩ : Fin 128)) fun a => by
    fin_cases a
    · exact (Nat.zero_add _).symm
    · exact (Nat.zero_add _).symm
    · rfl).trans ?_
  exact shapeCast_apply _ shapeCasts_S128x1024_S128x8x128 _ _
    (by rewrite [Shape.rowMajor_val_two, Shape.rowMajor_val_three]; show k.val * 1024 + (128 * h.val + (o + j.val)) = (k.val * 8 + h.val) * 128 + (o + j.val); omega)

/-- Every head's 128 columns side by side. -/
theorem flat {a : ℕ} (x : FVec Ideal ⟨3, ![a, 8, 128]⟩ .f32) (hc : (⟨3, ![a, 8, 128]⟩ : Shape).ShapeCasts ⟨2, ![a, 1024]⟩)
    (k : Fin a) (h : Fin 8) (l : Fin 128) :
    (truncf .bf16 (shapeCast ⟨2, ![a, 1024]⟩ x hc : FVec Ideal ⟨2, ![a, 1024]⟩ .f32) bitsLt_bf16_f32 : FVec Ideal ⟨2, ![a, 1024]⟩ .bf16)
        (ix2 k (⟨128 * h + l, by omega⟩ : Fin 1024)) = x (ix3 k h l) :=
  shapeCast_apply x hc _ (ix3 k h l)
    (by rewrite [Shape.rowMajor_val_two, Shape.rowMajor_val_three]; show (k.val * 8 + h.val) * 128 + l.val = k.val * 1024 + (128 * h.val + l.val); omega)

/-- The key columns of the weight. -/
theorem weightK (k : Fin 128) (h : Fin 8) (l : Fin 128) :
    (V m c main_v18 : Vec Ideal S128x1024 .bf16) (ix2 k (⟨128 * h + l, by omega⟩ : Fin 1024))
      = padded (fun j : Fin 64 => wukv m c (ix2 k (⟨128 * h + (0 + j), by omega⟩ : Fin 1024))) l := by
  have e : (V m c main_v18 : Vec Ideal S128x1024 .bf16)
      = truncf .bf16 (shapeCast S128x1024 (pad S128x8x128 ![0, 0, 0] ![0, 0, 64] ![0, 0, 0]
          (shapeCast S128x8x64 (shapeCast S128x512 (extractStridedSlice S128x8x64 ![0, 0, 0]
            (shapeCast S128x8x128 (wukv m c) shapeCasts_S128x1024_S128x8x128) slices_S128x8x128_S128x8x64_0_0_0)
              shapeCasts_S128x8x64_S128x512) shapeCasts_S128x512_S128x8x64)
          (sitofp .f32 (constantI S_ 32 0#32) : FVec Ideal S_ .f32) pads_S128x8x64_S128x8x128_000_000_0640 h_S_)
            shapeCasts_S128x8x128_S128x1024 : FVec Ideal S128x1024 .f32) bitsLt_bf16_f32 := by
    unfold V
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append]
    after_results
    rfl
  rw [e]
  refine (flat _ shapeCasts_S128x8x128_S128x1024 k h l).trans ?_
  refine (pad_heads 64 _ _ zero_int _ _ k h l).trans ?_
  exact congrFun (congrArg padded (funext fun j => cut 0 (by omega) (wukv m c) _ k h j)) l

/-- The value columns of the weight. -/
theorem weightV (k : Fin 128) (h : Fin 8) (l : Fin 128) :
    (V m c main_v24 : Vec Ideal S128x1024 .bf16) (ix2 k (⟨128 * h + l, by omega⟩ : Fin 1024))
      = padded (fun j : Fin 64 => wukv m c (ix2 k (⟨128 * h + (64 + j), by omega⟩ : Fin 1024))) l := by
  have e : (V m c main_v24 : Vec Ideal S128x1024 .bf16)
      = truncf .bf16 (shapeCast S128x1024 (pad S128x8x128 ![0, 0, 0] ![0, 0, 64] ![0, 0, 0]
          (shapeCast S128x8x64 (shapeCast S128x512 (extractStridedSlice S128x8x64 ![0, 0, 64]
            (shapeCast S128x8x128 (wukv m c) shapeCasts_S128x1024_S128x8x128) slices_S128x8x128_S128x8x64_0_0_64)
              shapeCasts_S128x8x64_S128x512) shapeCasts_S128x512_S128x8x64)
          (sitofp .f32 (constantI S_ 32 0#32) : FVec Ideal S_ .f32) pads_S128x8x64_S128x8x128_000_000_0640 h_S_)
            shapeCasts_S128x8x128_S128x1024 : FVec Ideal S128x1024 .f32) bitsLt_bf16_f32 := by
    unfold V
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append]
    after_results
    rfl
  rw [e]
  refine (flat _ shapeCasts_S128x8x128_S128x1024 k h l).trans ?_
  refine (pad_heads 64 _ _ zero_int _ _ k h l).trans ?_
  exact congrFun (congrArg padded (funext fun j => cut 64 (by omega) (wukv m c) _ k h j)) l

/-- The query columns of the weight. -/
theorem weightQ (k : Fin 256) (h : Fin 8) (l : Fin 128) :
    (V m c main_v28 : Vec Ideal S256x1024 .bf16) (ix2 k (⟨128 * h + l, by omega⟩ : Fin 1024))
      = padded (fun j : Fin 96 => wuq m c (ix2 k (⟨96 * h + j, by omega⟩ : Fin 768))) l := by
  have e : (V m c main_v28 : Vec Ideal S256x1024 .bf16)
      = truncf .bf16 (shapeCast S256x1024 (pad S256x8x128 ![0, 0, 0] ![0, 0, 32] ![0, 0, 0]
          (shapeCast S256x8x96 (wuq m c) shapeCasts_S256x768_S256x8x96)
          (sitofp .f32 (constantI S_ 32 0#32) : FVec Ideal S_ .f32) pads_S256x8x96_S256x8x128_000_000_0320 h_S_)
            shapeCasts_S256x8x128_S256x1024 : FVec Ideal S256x1024 .f32) bitsLt_bf16_f32 := by
    unfold V
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19, hostOps0_20,
      List.flatten_cons, List.flatten_nil, List.append_nil, List.cons_append, List.nil_append]
    after_results
    rfl
  rw [e]
  refine (flat _ shapeCasts_S256x8x128_S256x1024 k h l).trans ?_
  refine (pad_heads 32 _ _ zero_int _ _ k h l).trans ?_
  refine congrFun (congrArg padded (funext fun j => ?_)) l
  exact shapeCast_apply _ shapeCasts_S256x768_S256x8x96 _ _
    (by rewrite [Shape.rowMajor_val_two, Shape.rowMajor_val_three]; show k.val * 768 + (96 * h.val + j.val) = (k.val * 8 + h.val) * 96 + j.val; omega)

end Cert.Proof.PrepHost

end
-- ==== Proof.PrepArray.lean ====
/-
  The queries, keys and values: the grid's 128 points each leave one block of each array, so every element is the
  preparation of its position's row at its head and lane.
-/
module

public import proofs.«01_k».proof.Proof.PrepBlock
public import proofs.«01_k».proof.Proof.PrepHost

@[expose] public section

noncomputable section

open Idealize.ShloMosaic Idealize.ShloMosaic.TcCoe
open Cert.Kernel5Ideal Cert.Kernel5Ideal.Gen

namespace Cert.Proof.PrepArray

open PrepSpec PrepBlock PrepHost

/-- The key/value latent of a position, normalized. -/
def lat (kv : FVec Ideal ⟨3, ![8, 4096, 256]⟩ .f32) (g : FVec Ideal ⟨1, ![128]⟩ .f32) (b : Fin 8) (p : Fin 4096) : Fin 128 → EReal :=
  normed (Ideal.ofBits .f32 0x3C000000#32) (fun k : Fin 128 => kv (ix3 b p ⟨k, by omega⟩)) (fun k => g (ix1 k))

/-- The query latent of a position, normalized. -/
def latQ (cq : FVec Ideal ⟨3, ![8, 4096, 256]⟩ .f32) (g : FVec Ideal ⟨1, ![256]⟩ .f32) (b : Fin 8) (p : Fin 4096) : Fin 256 → EReal :=
  normed (Ideal.ofBits .f32 0x3B800000#32) (fun k : Fin 256 => cq (ix3 b p k)) (fun k => g (ix1 k))

/-- A head's query row before normalization. -/
def queryRow (cq : FVec Ideal ⟨3, ![8, 4096, 256]⟩ .f32) (g : FVec Ideal ⟨1, ![256]⟩ .f32) (w : FVec Ideal ⟨2, ![256, 768]⟩ .f32)
    (b : Fin 8) (p : Fin 4096) (h : Fin 8) : Fin 96 → EReal :=
  times (latQ cq g b p) (fun k j => w (ix2 k ⟨96 * h + j, by omega⟩))

/-- A head's key row before normalization: 64 projected lanes, then the position's 32 rotary lanes. -/
def keyRow (kv : FVec Ideal ⟨3, ![8, 4096, 256]⟩ .f32) (g : FVec Ideal ⟨1, ![128]⟩ .f32) (w : FVec Ideal ⟨2, ![128, 1024]⟩ .f32)
    (b : Fin 8) (p : Fin 4096) (h : Fin 8) (j : Fin 96) : EReal :=
  if hj : j.val < 64 then times (lat kv g b p) (fun k (j : Fin 64) => w (ix2 k ⟨128 * h + (0 + j), by omega⟩)) ⟨j.val, hj⟩
  else kv (ix3 b p ⟨64 + j, by omega⟩)

/-- A head's query lane: normalized, turned and scaled. -/
def query (cq : FVec Ideal ⟨3, ![8, 4096, 256]⟩ .f32) (cos sin : FVec Ideal ⟨2, ![4096, 32]⟩ .f32) (g : FVec Ideal ⟨1, ![256]⟩ .f32)
    (w : FVec Ideal ⟨2, ![256, 768]⟩ .f32) (gn : FVec Ideal ⟨1, ![96]⟩ .f32)
    (b : Fin 8) (p : Fin 4096) (h : Fin 8) (l : Fin 128) : EReal :=
  padded (turned (normed inv96 (queryRow cq g w b p h) (fun j => gn (ix1 j))) (fun j => cos (ix2 p j)) (fun j => sin (ix2 p j))) l
    * Ideal.ofBits .f32 0x3DD105EC#32

/-- A head's key lane: normalized and turned. -/
def key (kv : FVec Ideal ⟨3, ![8, 4096, 256]⟩ .f32) (cos sin : FVec Ideal ⟨2, ![4096, 32]⟩ .f32) (g : FVec Ideal ⟨1, ![128]⟩ .f32)
    (w : FVec Ideal ⟨2, ![128, 1024]⟩ .f32) (gn : FVec Ideal ⟨1, ![96]⟩ .f32)
    (b : Fin 8) (p : Fin 4096) (h : Fin 8) (l : Fin 128) : EReal :=
  padded (turned (normed inv96 (keyRow kv g w b p h) (fun j => gn (ix1 j))) (fun j => cos (ix2 p j)) (fun j => sin (ix2 p j))) l

/-- A head's value lane: 64 projected lanes, then a one. -/
def value (kv : FVec Ideal ⟨3, ![8, 4096, 256]⟩ .f32) (g : FVec Ideal ⟨1, ![128]⟩ .f32) (w : FVec Ideal ⟨2, ![128, 1024]⟩ .f32)
    (b : Fin 8) (p : Fin 4096) (h : Fin 8) (l : Fin 128) : EReal :=
  padded (times (lat kv g b p) (fun k (j : Fin 64) => w (ix2 k ⟨128 * h + (64 + j), by omega⟩))) l + if l.val = 64 then 1 else 0

/-- A product with padded columns is the padded product. -/
theorem times_padded {n w : ℕ} (x : Fin n → EReal) (m : Fin n → Fin w → EReal) (l : Fin 128) :
    ∑ k : Fin n, x k * padded (m k) l = padded (times x m) l := by
  unfold padded times
  by_cases h : l.val < w
  · simp only [dif_pos h]
  · simp only [dif_neg h, mul_zero, Finset.sum_const_zero]

set_option synthInstance.maxHeartbeats 400000 in
set_option synthInstance.maxSize 1024 in
/-- For batch `b` and row block `n` there is a grid point whose windows are that batch's blocks. -/
theorem point : ∀ (b : Fin 8) (n : Fin 16), ∃ t : Fin cfg0.N,
    (win0_0.index t (0 : Fin 3) = b.val ∧ win0_0.index t (1 : Fin 3) = n.val ∧ win0_0.index t (2 : Fin 3) = 0)
    ∧ (win0_1.index t (0 : Fin 3) = b.val ∧ win0_1.index t (1 : Fin 3) = n.val ∧ win0_1.index t (2 : Fin 3) = 0)
    ∧ (win0_2.index t (0 : Fin 2) = n.val ∧ win0_2.index t (1 : Fin 2) = 0)
    ∧ (win0_3.index t (0 : Fin 2) = n.val ∧ win0_3.index t (1 : Fin 2) = 0)
    ∧ (win0_4.index t (0 : Fin 2) = n.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 3) = b.val ∧ win0_12.index t (1 : Fin 3) = n.val ∧ win0_12.index t (2 : Fin 3) = 0)
    ∧ (win0_13.index t (0 : Fin 3) = b.val ∧ win0_13.index t (1 : Fin 3) = n.val ∧ win0_13.index t (2 : Fin 3) = 0)
    ∧ (win0_14.index t (0 : Fin 3) = b.val ∧ win0_14.index t (1 : Fin 3) = n.val ∧ win0_14.index t (2 : Fin 3) = 0) :=
  (by decide +kernel : ∀ (b : Fin 8) (n : Fin 16), ∃ t : Fin grid0.N, _)

variable (m : (ℓ : Loc nD τ sig) → Buf (Elt Ideal) ℓ) (c : Dev nD)

section blocks
variable (t : Fin cfg0.N) (b : Fin 8) (n : Fin 16)

theorem block0 (h : win0_0.index t (0 : Fin 3) = b.val ∧ win0_0.index t (1 : Fin 3) = n.val ∧ win0_0.index t (2 : Fin 3) = 0) (r : Fin 256) (l : Fin 256) :
    (iblk m c 0 t : Vec Ideal S1x256x256 .f32) (ix3 0 r l) = kv m c (ix3 b ⟨256 * n + r, by omega⟩ l) := by
  obtain ⟨h0, h1, h2⟩ := h
  show V m c main_arg0 (((cfg0.win 0).blk t).view.emb (ix3 (0 : Fin 1) r l)) = _
  rw [V_main_arg0]
  refine congrArg (kv m c) (funext fun a => Fin.ext ?_)
  match a with
  | ⟨0, _⟩ => show win0_0.index t (0 : Fin 3) * 1 + 1 * 0 = b.val; omega
  | ⟨1, _⟩ => show win0_0.index t (1 : Fin 3) * 256 + 1 * r.val = 256 * n.val + r.val; omega
  | ⟨2, _⟩ => show win0_0.index t (2 : Fin 3) * 256 + 1 * l.val = l.val; omega

theorem block1 (h : win0_1.index t (0 : Fin 3) = b.val ∧ win0_1.index t (1 : Fin 3) = n.val ∧ win0_1.index t (2 : Fin 3) = 0) (r : Fin 256) (l : Fin 256) :
    (iblk m c 1 t : Vec Ideal S1x256x256 .f32) (ix3 0 r l) = cq m c (ix3 b ⟨256 * n + r, by omega⟩ l) := by
  obtain ⟨h0, h1, h2⟩ := h
  show V m c main_arg1 (((cfg0.win 1).blk t).view.emb (ix3 (0 : Fin 1) r l)) = _
  rw [V_main_arg1]
  refine congrArg (cq m c) (funext fun a => Fin.ext ?_)
  match a with
  | ⟨0, _⟩ => show win0_1.index t (0 : Fin 3) * 1 + 1 * 0 = b.val; omega
  | ⟨1, _⟩ => show win0_1.index t (1 : Fin 3) * 256 + 1 * r.val = 256 * n.val + r.val; omega
  | ⟨2, _⟩ => show win0_1.index t (2 : Fin 3) * 256 + 1 * l.val = l.val; omega

theorem block2 (h : win0_2.index t (0 : Fin 2) = n.val ∧ win0_2.index t (1 : Fin 2) = 0) (r : Fin 256) (l : Fin 128) :
    (iblk m c 2 t : Vec Ideal S256x128 .f32) (ix2 r l) = cosines (fun j => cos m c (ix2 (⟨256 * n + r, by omega⟩ : Fin 4096) j)) l := by
  obtain ⟨h0, h1⟩ := h
  refine Eq.trans ?_ (tableC m c ⟨256 * n + r, by omega⟩ l)
  show V m c main_v0 (((cfg0.win 2).blk t).view.emb (ix2 r l)) = _
  refine congrArg (V m c main_v0) (funext fun a => Fin.ext ?_)
  match a with
  | ⟨0, _⟩ => show win0_2.index t (0 : Fin 2) * 256 + 1 * r.val = 256 * n.val + r.val; omega
  | ⟨1, _⟩ => show win0_2.index t (1 : Fin 2) * 128 + 1 * l.val = l.val; omega

theorem block3 (h : win0_3.index t (0 : Fin 2) = n.val ∧ win0_3.index t (1 : Fin 2) = 0) (r : Fin 256) (l : Fin 128) :
    (iblk m c 3 t : Vec Ideal S256x128 .f32) (ix2 r l) = sinesA (fun j => sin m c (ix2 (⟨256 * n + r, by omega⟩ : Fin 4096) j)) l := by
  obtain ⟨h0, h1⟩ := h
  refine Eq.trans ?_ (tableA m c ⟨256 * n + r, by omega⟩ l)
  show V m c main_v3 (((cfg0.win 3).blk t).view.emb (ix2 r l)) = _
  refine congrArg (V m c main_v3) (funext fun a => Fin.ext ?_)
  match a with
  | ⟨0, _⟩ => show win0_3.index t (0 : Fin 2) * 256 + 1 * r.val = 256 * n.val + r.val; omega
  | ⟨1, _⟩ => show win0_3.index t (1 : Fin 2) * 128 + 1 * l.val = l.val; omega

theorem block4 (h : win0_4.index t (0 : Fin 2) = n.val ∧ win0_4.index t (1 : Fin 2) = 0) (r : Fin 256) (l : Fin 128) :
    (iblk m c 4 t : Vec Ideal S256x128 .f32) (ix2 r l) = sinesB (fun j => sin m c (ix2 (⟨256 * n + r, by omega⟩ : Fin 4096) j)) l := by
  obtain ⟨h0, h1⟩ := h
  refine Eq.trans ?_ (tableB m c ⟨256 * n + r, by omega⟩ l)
  show V m c main_v5 (((cfg0.win 4).blk t).view.emb (ix2 r l)) = _
  refine congrArg (V m c main_v5) (funext fun a => Fin.ext ?_)
  match a with
  | ⟨0, _⟩ => show win0_4.index t (0 : Fin 2) * 256 + 1 * r.val = 256 * n.val + r.val; omega
  | ⟨1, _⟩ => show win0_4.index t (1 : Fin 2) * 128 + 1 * l.val = l.val; omega

theorem block5 (h : win0_5.index t (0 : Fin 2) = 0 ∧ win0_5.index t (1 : Fin 2) = 0) (l : Fin 128) :
    (iblk m c 5 t : Vec Ideal S1x128 .f32) (ix2 0 l) = gckv m c (ix1 l) := by
  obtain ⟨h0, h1⟩ := h
  refine Eq.trans ?_ (gainckv m c l)
  show V m c main_v7 (((cfg0.win 5).blk t).view.emb (ix2 (0 : Fin 1) l)) = _
  refine congrArg (V m c main_v7) (funext fun a => Fin.ext ?_)
  match a with
  | ⟨0, _⟩ => show win0_5.index t (0 : Fin 2) * 1 + 1 * 0 = 0; omega
  | ⟨1, _⟩ => show win0_5.index t (1 : Fin 2) * 128 + 1 * l.val = l.val; omega

theorem block6 (h : win0_6.index t (0 : Fin 2) = 0 ∧ win0_6.index t (1 : Fin 2) = 0) (l : Fin 256) :
    (iblk m c 6 t : Vec Ideal S1x256 .f32) (ix2 0 l) = gcq m c (ix1 l) := by
  obtain ⟨h0, h1⟩ := h
  refine Eq.trans ?_ (gaincq m c l)
  show V m c main_v8 (((cfg0.win 6).blk t).view.emb (ix2 (0 : Fin 1) l)) = _
  refine congrArg (V m c main_v8) (funext fun a => Fin.ext ?_)
  match a with
  | ⟨0, _⟩ => show win0_6.index t (0 : Fin 2) * 1 + 1 * 0 = 0; omega
  | ⟨1, _⟩ => show win0_6.index t (1 : Fin 2) * 256 + 1 * l.val = l.val; omega

theorem block7 (h : win0_7.index t (0 : Fin 2) = 0 ∧ win0_7.index t (1 : Fin 2) = 0) (l : Fin 128) :
    (iblk m c 7 t : Vec Ideal S1x128 .f32) (ix2 0 l) = padded (fun j : Fin 96 => gqn m c (ix1 j)) l := by
  obtain ⟨h0, h1⟩ := h
  refine Eq.trans ?_ (gainq m c l)
  show V m c main_v10 (((cfg0.win 7).blk t).view.emb (ix2 (0 : Fin 1) l)) = _
  refine congrArg (V m c main_v10) (funext fun a => Fin.ext ?_)
  match a with
  | ⟨0, _⟩ => show win0_7.index t (0 : Fin 2) * 1 + 1 * 0 = 0; omega
  | ⟨1, _⟩ => show win0_7.index t (1 : Fin 2) * 128 + 1 * l.val = l.val; omega

theorem block8 (h : win0_8.index t (0 : Fin 2) = 0 ∧ win0_8.index t (1 : Fin 2) = 0) (l : Fin 128) :
    (iblk m c 8 t : Vec Ideal S1x128 .f32) (ix2 0 l) = padded (fun j : Fin 96 => gkn m c (ix1 j)) l := by
  obtain ⟨h0, h1⟩ := h
  refine Eq.trans ?_ (gaink m c l)
  show V m c main_v12 (((cfg0.win 8).blk t).view.emb (ix2 (0 : Fin 1) l)) = _
  refine congrArg (V m c main_v12) (funext fun a => Fin.ext ?_)
  match a with
  | ⟨0, _⟩ => show win0_8.index t (0 : Fin 2) * 1 + 1 * 0 = 0; omega
  | ⟨1, _⟩ => show win0_8.index t (1 : Fin 2) * 128 + 1 * l.val = l.val; omega

theorem block9 (h : win0_9.index t (0 : Fin 2) = 0 ∧ win0_9.index t (1 : Fin 2) = 0) (k : Fin 128) (q : Fin 8) (l : Fin 128) :
    (iblk m c 9 t : Vec Ideal S128x1024 .bf16) (ix2 k (⟨128 * q + l, by omega⟩ : Fin 1024))
      = padded (fun j : Fin 64 => wukv m c (ix2 k (⟨128 * q + (0 + j), by omega⟩ : Fin 1024))) l := by
  obtain ⟨h0, h1⟩ := h
  refine Eq.trans ?_ (weightK m c k q l)
  show V m c main_v18 (((cfg0.win 9).blk t).view.emb (ix2 k (⟨128 * q + l, by omega⟩ : Fin 1024))) = _
  refine congrArg (V m c main_v18) (funext fun a => Fin.ext ?_)
  match a with
  | ⟨0, _⟩ => show win0_9.index t (0 : Fin 2) * 128 + 1 * k.val = k.val; omega
  | ⟨1, _⟩ => show win0_9.index t (1 : Fin 2) * 1024 + 1 * (128 * q.val + l.val) = 128 * q.val + l.val; omega

theorem block10 (h : win0_10.index t (0 : Fin 2) = 0 ∧ win0_10.index t (1 : Fin 2) = 0) (k : Fin 128) (q : Fin 8) (l : Fin 128) :
    (iblk m c 10 t : Vec Ideal S128x1024 .bf16) (ix2 k (⟨128 * q + l, by omega⟩ : Fin 1024))
      = padded (fun j : Fin 64 => wukv m c (ix2 k (⟨128 * q + (64 + j), by omega⟩ : Fin 1024))) l := by
  obtain ⟨h0, h1⟩ := h
  refine Eq.trans ?_ (weightV m c k q l)
  show V m c main_v24 (((cfg0.win 10).blk t).view.emb (ix2 k (⟨128 * q + l, by omega⟩ : Fin 1024))) = _
  refine congrArg (V m c main_v24) (funext fun a => Fin.ext ?_)
  match a with
  | ⟨0, _⟩ => show win0_10.index t (0 : Fin 2) * 128 + 1 * k.val = k.val; omega
  | ⟨1, _⟩ => show win0_10.index t (1 : Fin 2) * 1024 + 1 * (128 * q.val + l.val) = 128 * q.val + l.val; omega

theorem block11 (h : win0_11.index t (0 : Fin 2) = 0 ∧ win0_11.index t (1 : Fin 2) = 0) (k : Fin 256) (q : Fin 8) (l : Fin 128) :
    (iblk m c 11 t : Vec Ideal S256x1024 .bf16) (ix2 k (⟨128 * q + l, by omega⟩ : Fin 1024))
      = padded (fun j : Fin 96 => wuq m c (ix2 k (⟨96 * q + j, by omega⟩ : Fin 768))) l := by
  obtain ⟨h0, h1⟩ := h
  refine Eq.trans ?_ (weightQ m c k q l)
  show V m c main_v28 (((cfg0.win 11).blk t).view.emb (ix2 k (⟨128 * q + l, by omega⟩ : Fin 1024))) = _
  refine congrArg (V m c main_v28) (funext fun a => Fin.ext ?_)
  match a with
  | ⟨0, _⟩ => show win0_11.index t (0 : Fin 2) * 256 + 1 * k.val = k.val; omega
  | ⟨1, _⟩ => show win0_11.index t (1 : Fin 2) * 1024 + 1 * (128 * q.val + l.val) = 128 * q.val + l.val; omega

/-- The index of array 12 a point's block places `(0, r, l)` at. -/
theorem place12 (h : win0_12.index t (0 : Fin 3) = b.val ∧ win0_12.index t (1 : Fin 3) = n.val ∧ win0_12.index t (2 : Fin 3) = 0) (r : Fin 256) (l : Fin 1024) :
    ((cfg0.win 12).blk t).view.emb (ix3 (0 : Fin 1) r l) = (ix3 b (⟨256 * n + r, by omega⟩ : Fin 4096) l : S8x4096x1024.Idx) := by
  obtain ⟨h0, h1, h2⟩ := h
  refine funext fun a => Fin.ext ?_
  match a with
  | ⟨0, _⟩ => show win0_12.index t (0 : Fin 3) * 1 + 1 * 0 = b.val; omega
  | ⟨1, _⟩ => show win0_12.index t (1 : Fin 3) * 256 + 1 * r.val = 256 * n.val + r.val; omega
  | ⟨2, _⟩ => show win0_12.index t (2 : Fin 3) * 1024 + 1 * l.val = l.val; omega

/-- The index of array 13 a point's block places `(0, r, l)` at. -/
theorem place13 (h : win0_13.index t (0 : Fin 3) = b.val ∧ win0_13.index t (1 : Fin 3) = n.val ∧ win0_13.index t (2 : Fin 3) = 0) (r : Fin 256) (l : Fin 1024) :
    ((cfg0.win 13).blk t).view.emb (ix3 (0 : Fin 1) r l) = (ix3 b (⟨256 * n + r, by omega⟩ : Fin 4096) l : S8x4096x1024.Idx) := by
  obtain ⟨h0, h1, h2⟩ := h
  refine funext fun a => Fin.ext ?_
  match a with
  | ⟨0, _⟩ => show win0_13.index t (0 : Fin 3) * 1 + 1 * 0 = b.val; omega
  | ⟨1, _⟩ => show win0_13.index t (1 : Fin 3) * 256 + 1 * r.val = 256 * n.val + r.val; omega
  | ⟨2, _⟩ => show win0_13.index t (2 : Fin 3) * 1024 + 1 * l.val = l.val; omega

/-- The index of array 14 a point's block places `(0, r, l)` at. -/
theorem place14 (h : win0_14.index t (0 : Fin 3) = b.val ∧ win0_14.index t (1 : Fin 3) = n.val ∧ win0_14.index t (2 : Fin 3) = 0) (r : Fin 256) (l : Fin 1024) :
    ((cfg0.win 14).blk t).view.emb (ix3 (0 : Fin 1) r l) = (ix3 b (⟨256 * n + r, by omega⟩ : Fin 4096) l : S8x4096x1024.Idx) := by
  obtain ⟨h0, h1, h2⟩ := h
  refine funext fun a => Fin.ext ?_
  match a with
  | ⟨0, _⟩ => show win0_14.index t (0 : Fin 3) * 1 + 1 * 0 = b.val; omega
  | ⟨1, _⟩ => show win0_14.index t (1 : Fin 3) * 256 + 1 * r.val = 256 * n.val + r.val; omega
  | ⟨2, _⟩ => show win0_14.index t (2 : Fin 3) * 1024 + 1 * l.val = l.val; omega

theorem lat_eq (h0 : win0_0.index t (0 : Fin 3) = b.val ∧ win0_0.index t (1 : Fin 3) = n.val ∧ win0_0.index t (2 : Fin 3) = 0) (h5 : win0_5.index t (0 : Fin 2) = 0 ∧ win0_5.index t (1 : Fin 2) = 0)
    (r : Fin 256) :
    latent (iblk m c 0 t) (iblk m c 5 t) r = lat (kv m c) (gckv m c) b ⟨256 * n + r, by omega⟩ := by
  unfold latent lat
  have e0 := funext fun k : Fin 128 => block0 m c t b n h0 r ⟨k, by omega⟩
  have e5 := funext fun k => block5 m c t h5 k
  exact congr (congrArg (normed (Ideal.ofBits .f32 0x3C000000#32)) e0) e5

theorem latQ_eq (h1 : win0_1.index t (0 : Fin 3) = b.val ∧ win0_1.index t (1 : Fin 3) = n.val ∧ win0_1.index t (2 : Fin 3) = 0) (h6 : win0_6.index t (0 : Fin 2) = 0 ∧ win0_6.index t (1 : Fin 2) = 0)
    (r : Fin 256) :
    latentQ (iblk m c 1 t) (iblk m c 6 t) r = latQ (cq m c) (gcq m c) b ⟨256 * n + r, by omega⟩ := by
  unfold latentQ latQ
  have e1 := funext fun k : Fin 256 => block1 m c t b n h1 r k
  have e6 := funext fun k => block6 m c t h6 k
  exact congr (congrArg (normed (Ideal.ofBits .f32 0x3B800000#32)) e1) e6

/-- A head's rows turned in the block are the padded turned rows. -/
theorem turned_eq (h2 : win0_2.index t (0 : Fin 2) = n.val ∧ win0_2.index t (1 : Fin 2) = 0) (h3 : win0_3.index t (0 : Fin 2) = n.val ∧ win0_3.index t (1 : Fin 2) = 0)
    (h4 : win0_4.index t (0 : Fin 2) = n.val ∧ win0_4.index t (1 : Fin 2) = 0) (u g : Fin 128 → EReal) (z gn : Fin 96 → EReal)
    (hu : u = padded z) (hg : g = padded gn) (r : Fin 256) (l : Fin 128) :
    rolled (normed inv96 u g) (fun l => (iblk m c 2 t : Vec Ideal S256x128 .f32) (ix2 r l))
        (fun l => (iblk m c 3 t : Vec Ideal S256x128 .f32) (ix2 r l)) (fun l => (iblk m c 4 t : Vec Ideal S256x128 .f32) (ix2 r l)) l
      = padded (turned (normed inv96 z gn) (fun j => cos m c (ix2 (⟨256 * n + r, by omega⟩ : Fin 4096) j))
          (fun j => sin m c (ix2 (⟨256 * n + r, by omega⟩ : Fin 4096) j))) l := by
  have e := funext fun l => normed_padded inv96 z gn l
  have e2 := funext fun l => block2 m c t n h2 r l
  have e3 := funext fun l => block3 m c t n h3 r l
  have e4 := funext fun l => block4 m c t n h4 r l
  subst hu hg
  rw [e, e2, e3, e4]
  exact rolled_padded _ _ _ l

end blocks

/-- The queries after the run, at an index. -/
theorem result12 (b : Fin 8) (p : Fin 4096) (j : Fin 1024) :
    ((dats m 0 c).arrAt 12 cfg0.N : FVec Ideal S8x4096x1024 .bf16) (ix3 b p j)
      = query (cq m c) (cos m c) (sin m c) (gcq m c) (wuq m c) (gqn m c) b p ⟨j.val / 128, by omega⟩ ⟨j.val % 128, Nat.mod_lt _ (by omega)⟩ := by
  obtain ⟨t, h0, h1, h2, h3, h4, h5, h6, h7, h8, h9, h10, h11, h12, h13, h14⟩ := point b ⟨p.val / 256, by omega⟩
  have B := congrFun (Cert.Kernel5Ideal.Value.blocks12 m c t (flush0_12 t)) (ix3 (0 : Fin 1) (⟨p.val % 256, Nat.mod_lt _ (by omega)⟩ : Fin 256) j)
  rw [Cert.Kernel5Ideal.Value.flushed12] at B
  have B' : (dats m 0 c).arrAt 12 cfg0.N (((cfg0.win 12).blk t).view.emb (ix3 (0 : Fin 1) (⟨p.val % 256, Nat.mod_lt _ (by omega)⟩ : Fin 256) j))
    = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 (0 : Fin 1) (⟨p.val % 256, Nat.mod_lt _ (by omega)⟩ : Fin 256) j) := B
  rw [place12 t b _ h12] at B'
  have hp : (⟨256 * (p.val / 256) + p.val % 256, by omega⟩ : Fin 4096) = p := Fin.ext (by simp; omega)
  have F := B'.trans (out12 _ _ _ _ _ _ _ _ _ _ _ _ _ j)
  have hz : (fun l : Fin 128 => times (latentQ (iblk m c 1 t) (iblk m c 6 t) (⟨p.val % 256, Nat.mod_lt _ (by omega)⟩ : Fin 256))
        (fun k j => (iblk m c 11 t : Vec Ideal S256x1024 .bf16) (ix2 k j)) (⟨128 * (j.val / 128) + l, by omega⟩ : Fin 1024))
      = padded (queryRow (cq m c) (gcq m c) (wuq m c) b ⟨256 * (p.val / 256) + p.val % 256, by omega⟩ ⟨j.val / 128, by omega⟩) := by
    funext l
    rw [latQ_eq m c t b _ h1 h6]
    refine Eq.trans ?_ (times_padded _ _ l)
    exact Finset.sum_congr rfl fun k _ => congrArg _ (block11 m c t h11 k ⟨j.val / 128, by omega⟩ l)
  rw [turned_eq m c t _ h2 h3 h4 _ _ _ _ hz (funext fun l => block7 m c t h7 l)] at F
  simp only [hp] at F
  exact F

/-- The keys after the run, at an index: the lanes after the rotary ones are zero in every position. -/
theorem result13 (hk : ∀ (b : Fin 8) (p : Fin 4096) (l : Fin 256), 160 ≤ l.val → kv m c (ix3 b p l) = 0)
    (b : Fin 8) (p : Fin 4096) (j : Fin 1024) :
    ((dats m 0 c).arrAt 13 cfg0.N : FVec Ideal S8x4096x1024 .bf16) (ix3 b p j)
      = key (kv m c) (cos m c) (sin m c) (gckv m c) (wukv m c) (gkn m c) b p ⟨j.val / 128, by omega⟩ ⟨j.val % 128, Nat.mod_lt _ (by omega)⟩ := by
  obtain ⟨t, h0, h1, h2, h3, h4, h5, h6, h7, h8, h9, h10, h11, h12, h13, h14⟩ := point b ⟨p.val / 256, by omega⟩
  have B := congrFun (Cert.Kernel5Ideal.Value.blocks13 m c t (flush0_13 t)) (ix3 (0 : Fin 1) (⟨p.val % 256, Nat.mod_lt _ (by omega)⟩ : Fin 256) j)
  rw [Cert.Kernel5Ideal.Value.flushed13] at B
  have B' : (dats m 0 c).arrAt 13 cfg0.N (((cfg0.win 13).blk t).view.emb (ix3 (0 : Fin 1) (⟨p.val % 256, Nat.mod_lt _ (by omega)⟩ : Fin 256) j))
    = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 (0 : Fin 1) (⟨p.val % 256, Nat.mod_lt _ (by omega)⟩ : Fin 256) j) := B
  rw [place13 t b _ h13] at B'
  have hp : (⟨256 * (p.val / 256) + p.val % 256, by omega⟩ : Fin 4096) = p := Fin.ext (by simp; omega)
  have F := B'.trans (out13 _ _ _ _ _ _ _ _ _ _ _ _ _ j)
  have hz : (fun l : Fin 128 => times (latent (iblk m c 0 t) (iblk m c 5 t) (⟨p.val % 256, Nat.mod_lt _ (by omega)⟩ : Fin 256))
        (fun k j => (iblk m c 9 t : Vec Ideal S128x1024 .bf16) (ix2 k j)) (⟨128 * (j.val / 128) + l, by omega⟩ : Fin 1024)
          + (iblk m c 0 t : Vec Ideal S1x256x256 .f32) (ix3 0 (⟨p.val % 256, Nat.mod_lt _ (by omega)⟩ : Fin 256) ⟨128 + (l.val + 128 - 64) % 128, by omega⟩))
      = padded (keyRow (kv m c) (gckv m c) (wukv m c) b ⟨256 * (p.val / 256) + p.val % 256, by omega⟩ ⟨j.val / 128, by omega⟩) := by
    funext l
    rw [lat_eq m c t b _ h0 h5, block0 m c t b _ h0]
    have e : times (lat (kv m c) (gckv m c) b ⟨256 * (p.val / 256) + p.val % 256, by omega⟩)
        (fun k j => (iblk m c 9 t : Vec Ideal S128x1024 .bf16) (ix2 k j)) (⟨128 * (j.val / 128) + l, by omega⟩ : Fin 1024)
        = padded (times (lat (kv m c) (gckv m c) b ⟨256 * (p.val / 256) + p.val % 256, by omega⟩)
            (fun k (i : Fin 64) => wukv m c (ix2 k (⟨128 * (j.val / 128) + (0 + i), by omega⟩ : Fin 1024)))) l := by
      refine Eq.trans ?_ (times_padded _ _ l)
      exact Finset.sum_congr rfl fun k _ => congrArg _ (block9 m c t h9 k ⟨j.val / 128, by omega⟩ l)
    rw [e]
    unfold keyRow
    generalize lat (kv m c) (gckv m c) b ⟨256 * (p.val / 256) + p.val % 256, _⟩ = x
    unfold padded
    by_cases h64 : l.val < 64
    · have h96 : l.val < 96 := by omega
      rw [dif_pos h64, dif_pos h96, hk _ _ _ (by show 160 ≤ 128 + (l.val + 128 - 64) % 128; omega), add_zero]
      show _ = (if hj : l.val < 64 then _ else _)
      rw [dif_pos h64]
    · rw [dif_neg h64, zero_add]
      by_cases h96 : l.val < 96
      · rw [dif_pos h96]
        show _ = (if hj : l.val < 64 then _ else _)
        rw [dif_neg h64]
        refine congrArg (kv m c) (congrArg (ix3 b _) (Fin.ext ?_))
        show 128 + (l.val + 128 - 64) % 128 = 64 + l.val
        omega
      · rw [dif_neg h96]
        exact hk _ _ _ (by show 160 ≤ 128 + (l.val + 128 - 64) % 128; omega)
  rw [turned_eq m c t _ h2 h3 h4 _ _ _ _ hz (funext fun l => block8 m c t h8 l)] at F
  simp only [hp] at F
  exact F

/-- The values after the run, at an index. -/
theorem result14 (b : Fin 8) (p : Fin 4096) (j : Fin 1024) :
    ((dats m 0 c).arrAt 14 cfg0.N : FVec Ideal S8x4096x1024 .bf16) (ix3 b p j)
      = value (kv m c) (gckv m c) (wukv m c) b p ⟨j.val / 128, by omega⟩ ⟨j.val % 128, Nat.mod_lt _ (by omega)⟩ := by
  obtain ⟨t, h0, h1, h2, h3, h4, h5, h6, h7, h8, h9, h10, h11, h12, h13, h14⟩ := point b ⟨p.val / 256, by omega⟩
  have B := congrFun (Cert.Kernel5Ideal.Value.blocks14 m c t (flush0_14 t)) (ix3 (0 : Fin 1) (⟨p.val % 256, Nat.mod_lt _ (by omega)⟩ : Fin 256) j)
  rw [Cert.Kernel5Ideal.Value.flushed14] at B
  have B' : (dats m 0 c).arrAt 14 cfg0.N (((cfg0.win 14).blk t).view.emb (ix3 (0 : Fin 1) (⟨p.val % 256, Nat.mod_lt _ (by omega)⟩ : Fin 256) j))
    = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 (0 : Fin 1) (⟨p.val % 256, Nat.mod_lt _ (by omega)⟩ : Fin 256) j) := B
  rw [place14 t b _ h14] at B'
  have hp : (⟨256 * (p.val / 256) + p.val % 256, by omega⟩ : Fin 4096) = p := Fin.ext (by simp; omega)
  have F := B'.trans (out14 _ _ _ _ _ _ _ _ _ _ _ _ _ j)
  have hj : j = (⟨128 * (⟨j.val / 128, by omega⟩ : Fin 8).val + (⟨j.val % 128, Nat.mod_lt _ (by omega)⟩ : Fin 128).val, by omega⟩ : Fin 1024) :=
    Fin.ext (by simp; omega)
  have e : times (latent (iblk m c 0 t) (iblk m c 5 t) (⟨p.val % 256, Nat.mod_lt _ (by omega)⟩ : Fin 256))
        (fun k j => (iblk m c 10 t : Vec Ideal S128x1024 .bf16) (ix2 k j)) j
      = padded (times (lat (kv m c) (gckv m c) b ⟨256 * (p.val / 256) + p.val % 256, by omega⟩)
          (fun k (i : Fin 64) => wukv m c (ix2 k (⟨128 * (j.val / 128) + (64 + i), by omega⟩ : Fin 1024)))) ⟨j.val % 128, Nat.mod_lt _ (by omega)⟩ := by
    rw [lat_eq m c t b _ h0 h5]
    refine Eq.trans ?_ (times_padded _ _ _)
    refine Finset.sum_congr rfl fun k _ => congrArg _ ?_
    exact (congrArg (fun j => (iblk m c 10 t : Vec Ideal S128x1024 .bf16) (ix2 k j)) hj).trans
      (block10 m c t h10 k ⟨j.val / 128, by omega⟩ ⟨j.val % 128, Nat.mod_lt _ (by omega)⟩)
  rw [e] at F
  simp only [hp] at F
  exact F

end Cert.Proof.PrepArray

end
-- ==== Proof.PrepRef.lean ====
/-
  The reference's queries, keys and values: each latent normalized, the products with the weights, each head's row normalized,
  turned and padded.
-/
module

public import proofs.«01_k».proof.Proof.PrepConcat
public import proofs.«01_k».proof.Proof.PrepArray

@[expose] public section

noncomputable section

open Idealize.ShloMosaic Cert.Reference5Ideal Cert.Reference5Ideal.Gen Cert.Reference5Ideal.Read

namespace Cert.Proof.PrepRef

open PrepSpec PrepConcat PrepArray

variable (x0 x1 : FVec Ideal ⟨3, ![8, 4096, 256]⟩ .f32) (x2 x3 : FVec Ideal ⟨2, ![4096, 32]⟩ .f32)
  (x4 : FVec Ideal ⟨1, ![128]⟩ .f32) (x5 : FVec Ideal ⟨2, ![128, 1024]⟩ .f32)
  (x6 : FVec Ideal ⟨1, ![256]⟩ .f32) (x7 : FVec Ideal ⟨2, ![256, 768]⟩ .f32) (x8 x9 : FVec Ideal ⟨1, ![96]⟩ .f32)

/-- The padding is zero. -/
theorem pad0 (i : S_.Idx) : val_main_call0_v0 (F := Ideal) i = 0 := PrepHost.zero_int i
theorem pad1 (i : S_.Idx) : val_main_call1_v0 (F := Ideal) i = 0 := PrepHost.zero_int i
theorem pad2 (i : S_.Idx) : val_main_call2_v0 (F := Ideal) i = 0 := PrepHost.zero_int i

/-- The query latent: the reciprocal root of a position's mean square. -/
theorem queryLat_root (b : Fin 8) (p : Fin 4096) (i : S8x4096x1.Idx) (h0 : (i 0).val = b.val) (h1 : (i 1).val = p.val) :
    val_main_v7 (F := Ideal) x1 i = root (∑ j : Fin 256, x1 (ix3 b p j) * x1 (ix3 b p j)) (Ideal.ofBits .f32 0x3B800000#32) := by
  rw [val_main_v7_apply, val_main_v6_apply, val_main_v4_apply, val_main_v2_apply, val_main_v1_apply, val_main_v3_apply, val_main_v5_apply,
    val_main_cst_apply, val_main_cst_0_apply, val_main_cst_1_apply]
  rw [Ideal.hostUnary_rsqrt_def, Ideal.hostDivf_def, Ideal.addf_def]
  unfold root
  rw [← div_256]
  have e : FloatOps.ofBits (F := Ideal) .f32 0x00000000#32
        + ∑ k : Fin 256, val_main_v0 (F := Ideal) x1 (idx_main_v1 (idx_main_v2 i) k)
      = ∑ j : Fin 256, x1 (ix3 b p j) * x1 (ix3 b p j) := by
    refine (congrArg (· + _) Ideal.ofBits_zero_f32).trans ((zero_add _).trans (Finset.sum_congr rfl fun k _ => ?_))
    have hx : idx_main_v1 (idx_main_v2 i) k = ix3 b p k := funext fun a => Fin.ext (by
      match a with
      | ⟨0, _⟩ => exact h0
      | ⟨1, _⟩ => exact h1
      | ⟨2, _⟩ => rfl)
    rw [val_main_v0_apply, hx]
    rfl
  rw [e]
  rfl

/-- The query latent, normalized. -/
theorem queryLat_apply (b : Fin 8) (p : Fin 4096) (k : Fin 256) :
    val_main_v12 (F := Ideal) x1 x6 (ix3 b p k) = latQ x1 x6 b p k := by
  rw [val_main_v12_apply, val_main_v9_apply, val_main_v8_apply, queryLat_root x1 b p _ rfl rfl, val_main_v11_apply, val_main_v10_apply]
  have hg : idx_main_v10 (idx_main_v11 (ix3 b p k)) = ix1 k := funext fun a => Fin.ext (by
    match a with
    | ⟨0, _⟩ => rfl)
  rw [hg]
  rfl

/-- The query product at a column. -/
theorem queryLat_product (b : Fin 8) (p : Fin 4096) (j : Fin 768) (i : S8x4096x768.Idx) (h0 : (i 0).val = b.val) (h1 : (i 1).val = p.val)
    (h2 : (i 2).val = j.val) :
    val_main_v13 (F := Ideal) x1 x6 x7 i = ∑ k : Fin 256, latQ x1 x6 b p k * x7 (ix2 k j) := by
  rw [val_main_v13_apply]
  refine Finset.sum_congr rfl fun k _ => ?_
  have hl : lidx_main_v13 i k = ix3 b p k := funext fun a => Fin.ext (by
    match a with
    | ⟨0, _⟩ => exact h0
    | ⟨1, _⟩ => exact h1
    | ⟨2, _⟩ => rfl)
  have hr : ridx_main_v13 i k = ix2 k j := funext fun a => Fin.ext (by
    match a with
    | ⟨0, _⟩ => rfl
    | ⟨1, _⟩ => exact h2)
  rw [hl, hr, queryLat_apply]

/-- A head's query row. -/
theorem query_row (b : Fin 8) (p : Fin 4096) (h : Fin 8) (j : Fin 96) :
    val_main_v14 (F := Ideal) x1 x6 x7 (ix4 b p h j) = queryRow x1 x6 x7 b p h j := by
  rw [val_main_v14_apply]
  have hb := b.isLt; have hp := p.isLt; have hh := h.isLt; have hj := j.isLt
  exact queryLat_product x1 x6 x7 b p ⟨96 * h + j, by omega⟩ _
    (by show (((b.val * 4096 + p.val) * 8 + h.val) * 96 + j.val) / 3145728 = b.val; omega)
    (by show (((b.val * 4096 + p.val) * 8 + h.val) * 96 + j.val) / 768 % 4096 = p.val; omega)
    (by show (((b.val * 4096 + p.val) * 8 + h.val) * 96 + j.val) % 768 = 96 * h.val + j.val; omega)

/-- A query: the reciprocal root of a head row's mean square. -/
theorem query_root (b : Fin 8) (p : Fin 4096) (h : Fin 8) (i : S8x4096x8x1.Idx) (h0 : (i 0).val = b.val) (h1 : (i 1).val = p.val)
    (h2 : (i 2).val = h.val) :
    val_main_v22 (F := Ideal) x1 x6 x7 i = root (∑ j : Fin 96, queryRow x1 x6 x7 b p h j * queryRow x1 x6 x7 b p h j) inv96 := by
  rw [val_main_v22_apply, val_main_v21_apply, val_main_v19_apply, val_main_v17_apply, val_main_v16_apply, val_main_v18_apply, val_main_v20_apply,
    val_main_cst_2_apply, val_main_cst_3_apply, val_main_cst_4_apply]
  rw [Ideal.hostUnary_rsqrt_def, Ideal.hostDivf_def, Ideal.addf_def]
  unfold root
  rw [← div_96]
  have e : FloatOps.ofBits (F := Ideal) .f32 0x00000000#32
        + ∑ k : Fin 96, val_main_v15 (F := Ideal) x1 x6 x7 (idx_main_v16 (idx_main_v17 i) k)
      = ∑ j : Fin 96, queryRow x1 x6 x7 b p h j * queryRow x1 x6 x7 b p h j := by
    refine (congrArg (· + _) Ideal.ofBits_zero_f32).trans ((zero_add _).trans (Finset.sum_congr rfl fun k _ => ?_))
    have hx : idx_main_v16 (idx_main_v17 i) k = ix4 b p h k := funext fun a => Fin.ext (by
      match a with
      | ⟨0, _⟩ => exact h0
      | ⟨1, _⟩ => exact h1
      | ⟨2, _⟩ => exact h2
      | ⟨3, _⟩ => rfl)
    rw [val_main_v15_apply, hx, query_row]
    rfl
  rw [e]
  rfl

/-- A query, normalized. -/
theorem query_normed (b : Fin 8) (p : Fin 4096) (h : Fin 8) (j : Fin 96) :
    val_main_v27 (F := Ideal) x1 x6 x7 x8 (ix4 b p h j) = normed inv96 (queryRow x1 x6 x7 b p h) (fun j => x8 (ix1 j)) j := by
  rw [val_main_v27_apply, val_main_v24_apply, val_main_v23_apply, query_root x1 x6 x7 b p h _ rfl rfl rfl, val_main_v26_apply, val_main_v25_apply, query_row]
  have hg : idx_main_v25 (idx_main_v26 (ix4 b p h j)) = ix1 j := funext fun a => Fin.ext (by
    match a with
    | ⟨0, _⟩ => rfl)
  rw [hg]
  rfl

/-- The key/value latent: the reciprocal root of a position's mean square. -/
theorem keyLat_root (b : Fin 8) (p : Fin 4096) (i : S8x4096x1.Idx) (h0 : (i 0).val = b.val) (h1 : (i 1).val = p.val) :
    val_main_v59 (F := Ideal) x0 i = root (∑ j : Fin 128, x0 (ix3 b p ⟨j, by omega⟩) * x0 (ix3 b p ⟨j, by omega⟩)) (Ideal.ofBits .f32 0x3C000000#32) := by
  rw [val_main_v59_apply, val_main_v58_apply, val_main_v56_apply, val_main_v54_apply, val_main_v53_apply, val_main_v55_apply, val_main_v57_apply,
    val_main_cst_5_apply, val_main_cst_6_apply, val_main_cst_7_apply]
  rw [Ideal.hostUnary_rsqrt_def, Ideal.hostDivf_def, Ideal.addf_def]
  unfold root
  rw [← div_128]
  have e : FloatOps.ofBits (F := Ideal) .f32 0x00000000#32
        + ∑ k : Fin 128, val_main_v52 (F := Ideal) x0 (idx_main_v53 (idx_main_v54 i) k)
      = ∑ j : Fin 128, x0 (ix3 b p ⟨j, by omega⟩) * x0 (ix3 b p ⟨j, by omega⟩) := by
    refine (congrArg (· + _) Ideal.ofBits_zero_f32).trans ((zero_add _).trans (Finset.sum_congr rfl fun k _ => ?_))
    have hx : idx_main_v51 (idx_main_v53 (idx_main_v54 i) k) = ix3 b p ⟨k, by omega⟩ := funext fun a => Fin.ext (by
      match a with
      | ⟨0, _⟩ => exact h0
      | ⟨1, _⟩ => exact h1
      | ⟨2, _⟩ => rfl)
    rw [val_main_v52_apply, val_main_v51_apply, hx]
    rfl
  rw [e]
  rfl

/-- The key/value latent, normalized. -/
theorem keyLat_apply (b : Fin 8) (p : Fin 4096) (k : Fin 128) :
    val_main_v64 (F := Ideal) x0 x4 (ix3 b p k) = lat x0 x4 b p k := by
  rw [val_main_v64_apply, val_main_v61_apply, val_main_v60_apply, keyLat_root x0 b p _ rfl rfl, val_main_v63_apply, val_main_v62_apply, val_main_v51_apply]
  have hg : idx_main_v62 (idx_main_v63 (ix3 b p k)) = ix1 k := funext fun a => Fin.ext (by
    match a with
    | ⟨0, _⟩ => rfl)
  have hx : idx_main_v51 (ix3 b p k) = ix3 b p ⟨k, by omega⟩ := funext fun a => Fin.ext (by
    match a with
    | ⟨0, _⟩ => rfl
    | ⟨1, _⟩ => rfl
    | ⟨2, _⟩ => rfl)
  rw [hg, hx]
  rfl

/-- The key/value product at a column. -/
theorem keyLat_product (b : Fin 8) (p : Fin 4096) (j : Fin 1024) (i : S8x4096x1024.Idx) (h0 : (i 0).val = b.val) (h1 : (i 1).val = p.val)
    (h2 : (i 2).val = j.val) :
    val_main_v65 (F := Ideal) x0 x4 x5 i = ∑ k : Fin 128, lat x0 x4 b p k * x5 (ix2 k j) := by
  rw [val_main_v65_apply]
  refine Finset.sum_congr rfl fun k _ => ?_
  have hl : lidx_main_v65 i k = ix3 b p k := funext fun a => Fin.ext (by
    match a with
    | ⟨0, _⟩ => exact h0
    | ⟨1, _⟩ => exact h1
    | ⟨2, _⟩ => rfl)
  have hr : ridx_main_v65 i k = ix2 k j := funext fun a => Fin.ext (by
    match a with
    | ⟨0, _⟩ => rfl
    | ⟨1, _⟩ => exact h2)
  rw [hl, hr, keyLat_apply]

/-- A head's 128 columns of the key/value product. -/
theorem columns (b : Fin 8) (p : Fin 4096) (h : Fin 8) (j : Fin 128) :
    val_main_v66 (F := Ideal) x0 x4 x5 (ix4 b p h j) = ∑ k : Fin 128, lat x0 x4 b p k * x5 (ix2 k ⟨128 * h + j, by omega⟩) := by
  rw [val_main_v66_apply]
  have hb := b.isLt; have hp := p.isLt; have hh := h.isLt; have hj := j.isLt
  exact keyLat_product x0 x4 x5 b p ⟨128 * h + j, by omega⟩ _
    (by show (((b.val * 4096 + p.val) * 8 + h.val) * 128 + j.val) / 4194304 = b.val; omega)
    (by show (((b.val * 4096 + p.val) * 8 + h.val) * 128 + j.val) / 1024 % 4096 = p.val; omega)
    (by show (((b.val * 4096 + p.val) * 8 + h.val) * 128 + j.val) % 1024 = 128 * h.val + j.val; omega)

/-- The rotary lanes of a key. -/
theorem rotary (b : Fin 8) (p : Fin 4096) (h : Fin 8) (j : Fin 32) :
    val_main_v69 (F := Ideal) x0 (ix4 b p h j) = x0 (ix3 b p ⟨128 + j, by omega⟩) := by
  rw [val_main_v69_apply, val_main_v68_apply, val_main_v67_apply]
  refine congrArg x0 (funext fun a => Fin.ext ?_)
  match a with
  | ⟨0, _⟩ => rfl
  | ⟨1, _⟩ => rfl
  | ⟨2, _⟩ => rfl

/-- A head's key row. -/
theorem key_row (b : Fin 8) (p : Fin 4096) (h : Fin 8) (j : Fin 96) :
    val_main_v71 (F := Ideal) x0 x4 x5 (ix4 b p h j) = keyRow x0 x4 x5 b p h j := by
  unfold val_main_v71
  refine (join (n := 96) rfl _ _ _ b p h j).trans ?_
  unfold keyRow
  by_cases hj : j.val < 64
  · rw [dif_pos hj, dif_pos hj, val_main_v70_apply]
    have hx : idx_main_v70 (ix4 b p h (⟨j.val, hj⟩ : Fin 64)) = ix4 b p h (⟨0 + j.val, by omega⟩ : Fin 128) := funext fun a => Fin.ext (by
      match a with
      | ⟨0, _⟩ => rfl
      | ⟨1, _⟩ => rfl
      | ⟨2, _⟩ => rfl
      | ⟨3, _⟩ => show j.val = 0 + j.val; omega)
    rw [hx, columns]
    rfl
  · rw [dif_neg hj, dif_neg hj, rotary]
    exact congrArg (fun t : Fin 256 => x0 (ix3 b p t)) (Fin.ext (by show 128 + (j.val - 64) = 64 + j.val; omega))

/-- A key: the reciprocal root of a head row's mean square. -/
theorem key_root (b : Fin 8) (p : Fin 4096) (h : Fin 8) (i : S8x4096x8x1.Idx) (h0 : (i 0).val = b.val) (h1 : (i 1).val = p.val)
    (h2 : (i 2).val = h.val) :
    val_main_v79 (F := Ideal) x0 x4 x5 i = root (∑ j : Fin 96, keyRow x0 x4 x5 b p h j * keyRow x0 x4 x5 b p h j) inv96 := by
  rw [val_main_v79_apply, val_main_v78_apply, val_main_v76_apply, val_main_v74_apply, val_main_v73_apply, val_main_v75_apply, val_main_v77_apply,
    val_main_cst_8_apply, val_main_cst_9_apply, val_main_cst_10_apply]
  rw [Ideal.hostUnary_rsqrt_def, Ideal.hostDivf_def, Ideal.addf_def]
  unfold root
  rw [← div_96]
  have e : FloatOps.ofBits (F := Ideal) .f32 0x00000000#32
        + ∑ k : Fin 96, val_main_v72 (F := Ideal) x0 x4 x5 (idx_main_v73 (idx_main_v74 i) k)
      = ∑ j : Fin 96, keyRow x0 x4 x5 b p h j * keyRow x0 x4 x5 b p h j := by
    refine (congrArg (· + _) Ideal.ofBits_zero_f32).trans ((zero_add _).trans (Finset.sum_congr rfl fun k _ => ?_))
    have hx : idx_main_v73 (idx_main_v74 i) k = ix4 b p h k := funext fun a => Fin.ext (by
      match a with
      | ⟨0, _⟩ => exact h0
      | ⟨1, _⟩ => exact h1
      | ⟨2, _⟩ => exact h2
      | ⟨3, _⟩ => rfl)
    rw [val_main_v72_apply, hx, key_row]
    rfl
  rw [e]
  rfl

/-- A key, normalized. -/
theorem key_normed (b : Fin 8) (p : Fin 4096) (h : Fin 8) (j : Fin 96) :
    val_main_v84 (F := Ideal) x0 x4 x5 x9 (ix4 b p h j) = normed inv96 (keyRow x0 x4 x5 b p h) (fun j => x9 (ix1 j)) j := by
  rw [val_main_v84_apply, val_main_v81_apply, val_main_v80_apply, key_root x0 x4 x5 b p h _ rfl rfl rfl, val_main_v83_apply, val_main_v82_apply, key_row]
  have hg : idx_main_v82 (idx_main_v83 (ix4 b p h j)) = ix1 j := funext fun a => Fin.ext (by
    match a with
    | ⟨0, _⟩ => rfl)
  rw [hg]
  rfl

/-- The tables over batches and heads. -/
theorem cos_query (b : Fin 8) (p : Fin 4096) (h : Fin 8) (j : Fin 32) :
    val_main_v43 (F := Ideal) x2 (ix4 b p h j) = x2 (ix2 p j) := by
  rw [val_main_v43_apply, val_main_v42_apply, val_main_v41_apply]
  refine congrArg x2 (funext fun a => Fin.ext ?_)
  match a with
  | ⟨0, _⟩ => rfl
  | ⟨1, _⟩ => rfl

theorem sin_query (b : Fin 8) (p : Fin 4096) (h : Fin 8) (j : Fin 32) :
    val_main_v47 (F := Ideal) x3 (ix4 b p h j) = x3 (ix2 p j) := by
  rw [val_main_v47_apply, val_main_v46_apply, val_main_v45_apply]
  refine congrArg x3 (funext fun a => Fin.ext ?_)
  match a with
  | ⟨0, _⟩ => rfl
  | ⟨1, _⟩ => rfl

theorem cos_key (b : Fin 8) (p : Fin 4096) (h : Fin 8) (j : Fin 32) :
    val_main_v100 (F := Ideal) x2 (ix4 b p h j) = x2 (ix2 p j) := by
  rw [val_main_v100_apply, val_main_v99_apply, val_main_v98_apply]
  refine congrArg x2 (funext fun a => Fin.ext ?_)
  match a with
  | ⟨0, _⟩ => rfl
  | ⟨1, _⟩ => rfl

theorem sin_key (b : Fin 8) (p : Fin 4096) (h : Fin 8) (j : Fin 32) :
    val_main_v104 (F := Ideal) x3 (ix4 b p h j) = x3 (ix2 p j) := by
  rw [val_main_v104_apply, val_main_v103_apply, val_main_v102_apply]
  refine congrArg x3 (funext fun a => Fin.ext ?_)
  match a with
  | ⟨0, _⟩ => rfl
  | ⟨1, _⟩ => rfl

/-- A query turned. -/
theorem query_turned (b : Fin 8) (p : Fin 4096) (h : Fin 8) (j : Fin 96) :
    val_main_v50 (F := Ideal) x1 x2 x3 x6 x7 x8 (ix4 b p h j)
      = turned (normed inv96 (queryRow x1 x6 x7 b p h) (fun j => x8 (ix1 j))) (fun j => x2 (ix2 p j)) (fun j => x3 (ix2 p j)) j := by
  have e : val_main_v50 (F := Ideal) x1 x2 x3 x6 x7 x8
      = turn (val_main_v27 (F := Ideal) x1 x6 x7 x8) (val_main_v43 (F := Ideal) x2) (val_main_v47 (F := Ideal) x3) := rfl
  rw [e, turn_apply]
  simp only [query_normed, cos_query, sin_query]

/-- A key turned. -/
theorem key_turned (b : Fin 8) (p : Fin 4096) (h : Fin 8) (j : Fin 96) :
    val_main_v107 (F := Ideal) x0 x2 x3 x4 x5 x9 (ix4 b p h j)
      = turned (normed inv96 (keyRow x0 x4 x5 b p h) (fun j => x9 (ix1 j))) (fun j => x2 (ix2 p j)) (fun j => x3 (ix2 p j)) j := by
  have e : val_main_v107 (F := Ideal) x0 x2 x3 x4 x5 x9
      = turn (val_main_v84 (F := Ideal) x0 x4 x5 x9) (val_main_v100 (F := Ideal) x2) (val_main_v104 (F := Ideal) x3) := rfl
  rw [e, turn_apply]
  simp only [key_normed, cos_key, sin_key]

/-- A value's 64 lanes and its one. -/
theorem value_row (b : Fin 8) (p : Fin 4096) (h : Fin 8) (j : Fin 65) :
    val_main_v110 (F := Ideal) x0 x4 x5 (ix4 b p h j)
      = if hj : j.val < 64 then times (lat x0 x4 b p) (fun k (j : Fin 64) => x5 (ix2 k ⟨128 * h + (64 + j), by omega⟩)) ⟨j.val, hj⟩ else 1 := by
  unfold val_main_v110
  refine (join (n := 65) rfl _ _ _ b p h j).trans ?_
  by_cases hj : j.val < 64
  · rw [dif_pos hj, dif_pos hj, val_main_v108_apply]
    have hx : idx_main_v108 (ix4 b p h (⟨j.val, hj⟩ : Fin 64)) = ix4 b p h (⟨64 + j.val, by omega⟩ : Fin 128) := funext fun a => Fin.ext (by
      match a with
      | ⟨0, _⟩ => rfl
      | ⟨1, _⟩ => rfl
      | ⟨2, _⟩ => rfl
      | ⟨3, _⟩ => rfl)
    rw [hx, columns]
    rfl
  · rw [dif_neg hj, dif_neg hj, val_main_v109_apply, val_main_cst_11_apply]
    exact one_word

/-- The padded queries. -/
theorem query_padded (b : Fin 8) (p : Fin 4096) (h : Fin 8) (l : Fin 128) :
    val_main_v113 (F := Ideal) x1 x2 x3 x6 x7 x8 (ix4 b p h l) = query x1 x2 x3 x6 x7 x8 b p h l := by
  unfold val_main_v113
  refine (pad_lanes 32 _ _ pad0 _ _ b p h l).trans ?_
  unfold query padded
  by_cases hl : l.val < 96
  · rw [dif_pos hl, dif_pos hl]
    beta_reduce
    rw [val_main_v112_apply, query_turned, val_main_v111_apply, val_main_cst_12_apply]
    rfl
  · rw [dif_neg hl, dif_neg hl, zero_mul]

/-- The padded keys. -/
theorem key_padded (b : Fin 8) (p : Fin 4096) (h : Fin 8) (l : Fin 128) :
    val_main_v116 (F := Ideal) x0 x2 x3 x4 x5 x9 (ix4 b p h l) = key x0 x2 x3 x4 x5 x9 b p h l := by
  unfold val_main_v116
  refine (pad_lanes 32 _ _ pad1 _ _ b p h l).trans ?_
  unfold key padded
  by_cases hl : l.val < 96
  · rw [dif_pos hl, dif_pos hl]
    exact key_turned x0 x2 x3 x4 x5 x9 b p h ⟨l.val, hl⟩
  · rw [dif_neg hl, dif_neg hl]

/-- The padded values. -/
theorem value_padded (b : Fin 8) (p : Fin 4096) (h : Fin 8) (l : Fin 128) :
    val_main_v119 (F := Ideal) x0 x4 x5 (ix4 b p h l) = value x0 x4 x5 b p h l := by
  unfold val_main_v119
  refine (pad_lanes 63 _ _ pad2 _ _ b p h l).trans ?_
  unfold value padded
  by_cases hl : l.val < 64
  · rw [dif_pos (show l.val < 65 by omega), dif_pos hl]
    beta_reduce
    rw [value_row, dif_pos (show (⟨l.val, by omega⟩ : Fin 65).val < 64 from hl),
      if_neg (by omega), add_zero]
  · rw [dif_neg hl, zero_add]
    by_cases h64 : l.val = 64
    · rw [dif_pos (show l.val < 65 by omega), if_pos h64]
      beta_reduce
      rw [value_row, dif_neg (show ¬ (⟨l.val, by omega⟩ : Fin 65).val < 64 from hl)]
    · rw [dif_neg (show ¬ l.val < 65 by omega), if_neg h64]

/-- The queries at a column. -/
theorem query_result (b : Fin 8) (p : Fin 4096) (j : Fin 1024) :
    val_main_v115 (F := Ideal) x1 x2 x3 x6 x7 x8 (ix3 b p j) = query x1 x2 x3 x6 x7 x8 b p ⟨j.val / 128, by omega⟩ ⟨j.val % 128, Nat.mod_lt _ (by omega)⟩ := by
  rw [val_main_v115_apply, val_main_v114_apply]
  have hb := b.isLt; have hp := p.isLt; have hj := j.isLt
  have hx : idx_main_v114 (ix3 b p j) = ix4 b p (⟨j.val / 128, by omega⟩ : Fin 8) (⟨j.val % 128, Nat.mod_lt _ (by omega)⟩ : Fin 128) :=
    funext fun a => Fin.ext (by
      match a with
      | ⟨0, _⟩ => show ((b.val * 4096 + p.val) * 1024 + j.val) / 4194304 = b.val; omega
      | ⟨1, _⟩ => show ((b.val * 4096 + p.val) * 1024 + j.val) / 1024 % 4096 = p.val; omega
      | ⟨2, _⟩ => show ((b.val * 4096 + p.val) * 1024 + j.val) / 128 % 8 = j.val / 128; omega
      | ⟨3, _⟩ => show ((b.val * 4096 + p.val) * 1024 + j.val) % 128 = j.val % 128; omega)
  rw [hx, query_padded]
  rfl

/-- The keys at a column. -/
theorem key_result (b : Fin 8) (p : Fin 4096) (j : Fin 1024) :
    val_main_v118 (F := Ideal) x0 x2 x3 x4 x5 x9 (ix3 b p j) = key x0 x2 x3 x4 x5 x9 b p ⟨j.val / 128, by omega⟩ ⟨j.val % 128, Nat.mod_lt _ (by omega)⟩ := by
  rw [val_main_v118_apply, val_main_v117_apply]
  have hb := b.isLt; have hp := p.isLt; have hj := j.isLt
  have hx : idx_main_v117 (ix3 b p j) = ix4 b p (⟨j.val / 128, by omega⟩ : Fin 8) (⟨j.val % 128, Nat.mod_lt _ (by omega)⟩ : Fin 128) :=
    funext fun a => Fin.ext (by
      match a with
      | ⟨0, _⟩ => show ((b.val * 4096 + p.val) * 1024 + j.val) / 4194304 = b.val; omega
      | ⟨1, _⟩ => show ((b.val * 4096 + p.val) * 1024 + j.val) / 1024 % 4096 = p.val; omega
      | ⟨2, _⟩ => show ((b.val * 4096 + p.val) * 1024 + j.val) / 128 % 8 = j.val / 128; omega
      | ⟨3, _⟩ => show ((b.val * 4096 + p.val) * 1024 + j.val) % 128 = j.val % 128; omega)
  rw [hx, key_padded]
  rfl

/-- The values at a column. -/
theorem value_result (b : Fin 8) (p : Fin 4096) (j : Fin 1024) :
    val_main_v121 (F := Ideal) x0 x4 x5 (ix3 b p j) = value x0 x4 x5 b p ⟨j.val / 128, by omega⟩ ⟨j.val % 128, Nat.mod_lt _ (by omega)⟩ := by
  rw [val_main_v121_apply, val_main_v120_apply]
  have hb := b.isLt; have hp := p.isLt; have hj := j.isLt
  have hx : idx_main_v120 (ix3 b p j) = ix4 b p (⟨j.val / 128, by omega⟩ : Fin 8) (⟨j.val % 128, Nat.mod_lt _ (by omega)⟩ : Fin 128) :=
    funext fun a => Fin.ext (by
      match a with
      | ⟨0, _⟩ => show ((b.val * 4096 + p.val) * 1024 + j.val) / 4194304 = b.val; omega
      | ⟨1, _⟩ => show ((b.val * 4096 + p.val) * 1024 + j.val) / 1024 % 4096 = p.val; omega
      | ⟨2, _⟩ => show ((b.val * 4096 + p.val) * 1024 + j.val) / 128 % 8 = j.val / 128; omega
      | ⟨3, _⟩ => show ((b.val * 4096 + p.val) * 1024 + j.val) % 128 = j.val % 128; omega)
  rw [hx, value_padded]
  rfl

end Cert.Proof.PrepRef

end
-- ==== Proof.PrepPre.lean ====
/-
  The precondition of the query/key/value preparation read off its predicate: the unused lanes of the key/value columns are
  zero.
-/
module

public import proofs.«01_k».proof.Defs
public import proofs.«01_k».proof.Proof.PrepArray

@[expose] public section

noncomputable section

open Idealize.ShloMosaic

namespace Cert.Proof.PrepPre

/-- The shape facts the predicate's operations take. -/
theorem facts : Cert.Pre_zero_lanes.Facts where
  slices_S8x4096x256_S8x4096x96_0_0_160 := by decide
  bcast_S_S8x4096x96 := by decide

/-- A value that compares equal to the word of zero is zero. -/
theorem zero (x : EReal) (h : FloatOps.cmpf (F := Ideal) (φ := .f32) .oeq x (Ideal.ofBits .f32 0x00000000#32) = 1#1) : x = 0 := by
  rw [Ideal.cmpf_def, Ideal.ofBits_zero_f32] at h
  by_contra hx
  simp [Ideal.cmp, hx] at h

/-- What the predicate gives of the key/value columns. -/
theorem asked (m : (ℓ : Loc Kernel5Ideal.nD Kernel5Ideal.τ Kernel5Ideal.sig) → Buf (Elt Ideal) ℓ)
    (h : Cert.Pre_Kernel5Ideal_zero_lanes (hPre_zero_lanes := facts) m) (c : Dev Kernel5Ideal.nD)
    (b : Fin 8) (p : Fin 4096) (l : Fin 256) (hl : 160 ≤ l.val) : PrepHost.kv m c (ix3 b p l) = 0 := by
  have h0 := zero _ (congrFun (h c) (ix3 b p (⟨l.val - 160, by omega⟩ : Fin 96)))
  refine Eq.trans (Eq.symm ?_) h0
  exact extractStridedSlice_apply ![0, 0, 160] (PrepHost.kv m c) _ (ix3 b p (⟨l.val - 160, by omega⟩ : Fin 96)) (ix3 b p l) fun a => by
    fin_cases a
    · show b.val = 0 + b.val; omega
    · show p.val = 0 + p.val; omega
    · show l.val = 160 + (l.val - 160); omega

end Cert.Proof.PrepPre

end
-- ==== Proof.Prep.lean ====
/-
  The claims about the query/key/value preparation: the reference's frame, the named reciprocal of the head width, and the
  equality of the three arrays.
-/
module

public import proofs.«01_k».proof.Defs
public import proofs.«01_k».proof.Proof.PrepRef
public import proofs.«01_k».proof.Proof.PrepPre
public import proofs.«01_k».proof.Proof.Gen.Reference5Ideal.Run
public import Idealize.ShloMosaic.Adequacy
public import Idealize.ShloMosaic.Init

@[expose] public section

noncomputable section

open Idealize.ShloMosaic Idealize.SL.Sem

namespace Cert.Proof.Prep

/-- The reference runs, leaves its arguments, and ends quiescent. -/
theorem frame_reference : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The one named constant: the reciprocal of the head width. -/
theorem preserves : Cert.preserves_Kernel5_Kernel5Ideal :=
  IdealRules.named_const.statement Cert.Kernel5Ideal.κ "inv_head" .f32 0x3C2AAAAB#32 ((1 / 96 : ℝ) : EReal) rfl

/-- The kernel's three arrays and the reference's are equal, element by element, where the unused lanes are zero. -/
theorem algebraic : Cert.algebraic_Kernel5Ideal_Reference5Ideal_pre_zero_lanes (hPre_zero_lanes := PrepPre.facts) := by
  intro m ρ m' ρ' hpre hagree
  refine ⟨_, _, _, Cert.Kernel5Ideal.Value.run_blocks (F := Ideal) m ρ, ?_⟩
  refine (θ_run Cert.Reference5Ideal.defs _ _).mono (fun _ h c => ⟨(h c).1.trans ?_, (h c).2.1.trans ?_, (h c).2.2.1.trans ?_, (h c).2.2.2⟩)
    (Cert.Reference5Ideal.Value.run (F := Ideal) m' ρ')
  all_goals obtain ⟨e0, e1, e2, e3, e4, e5, e6, e7, e8, e9⟩ := hagree c
  · rw [Cert.Reference5Ideal.Read.val_main_v115_eq, e1, e2, e3, e6, e7, e8]
    refine funext fun i => ?_
    rw [show i = ix3 (i 0) (i 1) (i 2) from (ix3_eta i).symm]
    exact (PrepRef.query_result _ _ _ _ _ _ (i 0) (i 1) (i 2)).trans (PrepArray.result12 m c (i 0) (i 1) (i 2)).symm
  · rw [Cert.Reference5Ideal.Read.val_main_v118_eq, e0, e2, e3, e4, e5, e9]
    refine funext fun i => ?_
    rw [show i = ix3 (i 0) (i 1) (i 2) from (ix3_eta i).symm]
    exact (PrepRef.key_result _ _ _ _ _ _ (i 0) (i 1) (i 2)).trans (PrepArray.result13 m c (PrepPre.asked m hpre c) (i 0) (i 1) (i 2)).symm
  · rw [Cert.Reference5Ideal.Read.val_main_v121_eq, e0, e4, e5]
    refine funext fun i => ?_
    rw [show i = ix3 (i 0) (i 1) (i 2) from (ix3_eta i).symm]
    exact (PrepRef.value_result _ _ _ (i 0) (i 1) (i 2)).trans (PrepArray.result14 m c (i 0) (i 1) (i 2)).symm

end Cert.Proof.Prep

end
-- ==== Proof.Adaln.lean ====
/-
  The modulation from the condition: one product of the condition's rows, each times its logistic, with the weight of each
  layer, and the layer's bias. The grid's 24 points each leave 512 columns of one layer.
-/
module

public import proofs.«01_k».proof.Defs
public import proofs.«01_k».proof.Proof.MergeRef
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Adequacy
public import Idealize.ShloMosaic.Init

@[expose] public section

noncomputable section

open Idealize.ShloMosaic Idealize.ShloMosaic.TcCoe Idealize.SL.Sem

namespace Cert.Proof.Adaln

/-- The modulation of layer `l` for the condition's row `n` at column `j`. -/
def modulation (x : FVec Ideal ⟨2, ![16, 1024]⟩ .f32) (w : FVec Ideal ⟨3, ![2, 1024, 6144]⟩ .f32)
    (b : FVec Ideal ⟨2, ![2, 6144]⟩ .f32) (l : Fin 2) (n : Fin 16) (j : Fin 6144) : EReal :=
  (∑ k : Fin 1024, (x (ix2 n k) * Ideal.logistic (x (ix2 n k))) * w (ix3 l k j)) + b (ix2 l j)

section kernel
open Cert.Kernel6Ideal Cert.Kernel6Ideal.Gen

/-- One block: the rows' product with the block's columns, and its bias. -/
theorem payload (x0 : Vec Ideal S16x1024 .f32) (x1 : Vec Ideal S1x1024x512 .f32) (x2 : Vec Ideal S1x1x512 .f32)
    (n : Fin 16) (j : Fin 512) :
    k0_pay1 x0 x1 x2 (ix3 0 n j)
      = (∑ k : Fin 1024, (x0 (ix2 n k) * Ideal.logistic (x0 (ix2 n k))) * x1 (ix3 0 k j)) + x2 (ix3 0 0 j) := by
  pointwise [k0_pay1]

theorem out3 (x0 : Vec Ideal S16x1024 .f32) (x1 : Vec Ideal S1x1024x512 .f32) (x2 : Vec Ideal S1x1x512 .f32)
    (n : Fin 16) (j : Fin 512) :
    out0_3 x0 x1 x2 (ix3 0 n j)
      = (∑ k : Fin 1024, (x0 (ix2 n k) * Ideal.logistic (x0 (ix2 n k))) * x1 (ix3 0 k j)) + x2 (ix3 0 0 j) := by
  unfold out0_3
  rw [View.canon_cons_unit_lit inb_S1x16x512_S1x16x512_0_0_0 _ _ (by decide),
    View.ld_unit_lit inb_S16x1024_S16x1024_0_0 _ (by decide), View.ld_unit_lit inb_S1x1024x512_S1x1024x512_0_0_0 _ (by decide),
    View.ld_unit_lit inb_S1x1x512_S1x1x512_0_0_0 _ (by decide)]
  exact payload x0 x1 x2 n j

/-- For layer `l` and column block `n` there is a grid point whose windows are that layer's blocks. -/
theorem point : ∀ (l : Fin 2) (n : Fin 12), ∃ t : Fin cfg0.N,
    (win0_0.index t (0 : Fin 2) = 0 ∧ win0_0.index t (1 : Fin 2) = 0)
    ∧ (win0_1.index t (0 : Fin 3) = l.val ∧ win0_1.index t (1 : Fin 3) = 0 ∧ win0_1.index t (2 : Fin 3) = n.val)
    ∧ (win0_2.index t (0 : Fin 3) = l.val ∧ win0_2.index t (1 : Fin 3) = 0 ∧ win0_2.index t (2 : Fin 3) = n.val)
    ∧ (win0_3.index t (0 : Fin 3) = l.val ∧ win0_3.index t (1 : Fin 3) = 0 ∧ win0_3.index t (2 : Fin 3) = n.val) :=
  (by decide +kernel : ∀ (l : Fin 2) (n : Fin 12), ∃ t : Fin grid0.N, _)

variable (m : (ℓ : Loc nD τ sig) → Buf (Elt Ideal) ℓ) (c : Dev nD)

/-- The three argument arrays. -/
abbrev x : FVec Ideal ⟨2, ![16, 1024]⟩ .f32 := m ((c : Thread nD τ).loc main_arg0)
abbrev w : FVec Ideal ⟨3, ![2, 1024, 6144]⟩ .f32 := m ((c : Thread nD τ).loc main_arg1)
abbrev b : FVec Ideal ⟨2, ![2, 6144]⟩ .f32 := m ((c : Thread nD τ).loc main_arg2)

set_option maxRecDepth 65536 in
/-- The bias as the region finds it: the argument with a row axis between. -/
theorem bias (l : Fin 2) (j : Fin 6144) : (V m c main_v0 : Vec Ideal S2x1x6144 .f32) (ix3 l 0 j) = b m c (ix2 l j) := by
  have e : (V m c main_v0 : Vec Ideal S2x1x6144 .f32)
      = shapeCast S2x1x6144 (m ((c : Thread nD τ).loc main_arg2) : Vec Ideal S2x6144 .f32) shapeCasts_S2x6144_S2x1x6144 := by
    unfold V hostOps0
    after_results
    rfl
  rw [e]
  pointwise

section blocks
variable (t : Fin cfg0.N) (l : Fin 2) (n : Fin 12)

theorem block0 (h : win0_0.index t (0 : Fin 2) = 0 ∧ win0_0.index t (1 : Fin 2) = 0) (r : Fin 16) (k : Fin 1024) :
    (iblk m c 0 t : Vec Ideal S16x1024 .f32) (ix2 r k) = x m c (ix2 r k) := by
  obtain ⟨h0, h1⟩ := h
  show V m c main_arg0 (((cfg0.win 0).blk t).view.emb (ix2 r k)) = _
  rw [V_main_arg0]
  refine congrArg (x m c) (funext fun a => Fin.ext ?_)
  match a with
  | ⟨0, _⟩ => show win0_0.index t (0 : Fin 2) * 16 + 1 * r.val = r.val; omega
  | ⟨1, _⟩ => show win0_0.index t (1 : Fin 2) * 1024 + 1 * k.val = k.val; omega

theorem block1 (h : win0_1.index t (0 : Fin 3) = l.val ∧ win0_1.index t (1 : Fin 3) = 0 ∧ win0_1.index t (2 : Fin 3) = n.val)
    (k : Fin 1024) (j : Fin 512) :
    (iblk m c 1 t : Vec Ideal S1x1024x512 .f32) (ix3 0 k j) = w m c (ix3 l k ⟨512 * n + j, by omega⟩) := by
  obtain ⟨h0, h1, h2⟩ := h
  show V m c main_arg1 (((cfg0.win 1).blk t).view.emb (ix3 (0 : Fin 1) k j)) = _
  rw [V_main_arg1]
  refine congrArg (w m c) (funext fun a => Fin.ext ?_)
  match a with
  | ⟨0, _⟩ => show win0_1.index t (0 : Fin 3) * 1 + 1 * 0 = l.val; omega
  | ⟨1, _⟩ => show win0_1.index t (1 : Fin 3) * 1024 + 1 * k.val = k.val; omega
  | ⟨2, _⟩ => show win0_1.index t (2 : Fin 3) * 512 + 1 * j.val = 512 * n.val + j.val; omega

theorem block2 (h : win0_2.index t (0 : Fin 3) = l.val ∧ win0_2.index t (1 : Fin 3) = 0 ∧ win0_2.index t (2 : Fin 3) = n.val)
    (j : Fin 512) :
    (iblk m c 2 t : Vec Ideal S1x1x512 .f32) (ix3 0 0 j) = b m c (ix2 l ⟨512 * n + j, by omega⟩) := by
  obtain ⟨h0, h1, h2⟩ := h
  refine Eq.trans ?_ (bias m c l ⟨512 * n + j, by omega⟩)
  show V m c main_v0 (((cfg0.win 2).blk t).view.emb (ix3 (0 : Fin 1) (0 : Fin 1) j)) = _
  refine congrArg (V m c main_v0) (funext fun a => Fin.ext ?_)
  match a with
  | ⟨0, _⟩ => show win0_2.index t (0 : Fin 3) * 1 + 1 * 0 = l.val; omega
  | ⟨1, _⟩ => show win0_2.index t (1 : Fin 3) * 1 + 1 * 0 = 0; omega
  | ⟨2, _⟩ => show win0_2.index t (2 : Fin 3) * 512 + 1 * j.val = 512 * n.val + j.val; omega

/-- The index of the array a point's block places `(0, r, j)` at. -/
theorem place3 (h : win0_3.index t (0 : Fin 3) = l.val ∧ win0_3.index t (1 : Fin 3) = 0 ∧ win0_3.index t (2 : Fin 3) = n.val)
    (r : Fin 16) (j : Fin 512) :
    ((cfg0.win 3).blk t).view.emb (ix3 (0 : Fin 1) r j) = (ix3 l r (⟨512 * n + j, by omega⟩ : Fin 6144) : S2x16x6144.Idx) := by
  obtain ⟨h0, h1, h2⟩ := h
  refine funext fun a => Fin.ext ?_
  match a with
  | ⟨0, _⟩ => show win0_3.index t (0 : Fin 3) * 1 + 1 * 0 = l.val; omega
  | ⟨1, _⟩ => show win0_3.index t (1 : Fin 3) * 16 + 1 * r.val = r.val; omega
  | ⟨2, _⟩ => show win0_3.index t (2 : Fin 3) * 512 + 1 * j.val = 512 * n.val + j.val; omega

end blocks

/-- Every element of the kernel's array is the modulation. -/
theorem result3 (l : Fin 2) (r : Fin 16) (j : Fin 6144) :
    (dats m 0 c).arrAt 3 cfg0.N (ix3 l r j : S2x16x6144.Idx) = modulation (x m c) (w m c) (b m c) l r j := by
  obtain ⟨t, h0, h1, h2, h3⟩ := point l ⟨j.val / 512, by omega⟩
  have B := congrFun (Cert.Kernel6Ideal.Value.blocks3 m c t (flush0_3 t)) (ix3 (0 : Fin 1) r (⟨j.val % 512, Nat.mod_lt _ (by omega)⟩ : Fin 512))
  rw [Cert.Kernel6Ideal.Value.flushed3] at B
  have B' : (dats m 0 c).arrAt 3 cfg0.N (((cfg0.win 3).blk t).view.emb (ix3 (0 : Fin 1) r (⟨j.val % 512, Nat.mod_lt _ (by omega)⟩ : Fin 512)))
    = out0_3 (iblk m c 0 t) (iblk m c 1 t) (iblk m c 2 t) (ix3 (0 : Fin 1) r (⟨j.val % 512, Nat.mod_lt _ (by omega)⟩ : Fin 512)) := B
  rw [place3 t l _ h3, out3, block2 m c t l _ h2] at B'
  simp only [block0 m c t h0, block1 m c t l _ h1] at B'
  have hj : (⟨512 * (j.val / 512) + j.val % 512, by omega⟩ : Fin 6144) = j := Fin.ext (by simp; omega)
  simp only [hj] at B'
  exact B'

end kernel

section reference
open Cert.Reference6Ideal Cert.Reference6Ideal.Gen Cert.Reference6Ideal.Read

/-- The reference's gated row. -/
theorem silu_apply (x : FVec Ideal ⟨2, ![16, 1024]⟩ .f32) (i : S16x1024.Idx) :
    val_main_v0 (F := Ideal) x i = x i * Ideal.logistic (x i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply, MergeRef.one]
  rfl

/-- Every element of the reference's array is the modulation. -/
theorem result (x : FVec Ideal ⟨2, ![16, 1024]⟩ .f32) (w : FVec Ideal ⟨3, ![2, 1024, 6144]⟩ .f32)
    (b : FVec Ideal ⟨2, ![2, 6144]⟩ .f32) (l : Fin 2) (r : Fin 16) (j : Fin 6144) :
    val_main_v5 (F := Ideal) x w b (ix3 l r j) = modulation x w b l r j := by
  rw [val_main_v5_apply, val_main_v4_apply, val_main_v3_apply, val_main_v2_apply, val_main_v1_apply]
  refine congrArg₂ (fun p q : EReal => p + q) (Finset.sum_congr rfl fun k _ => ?_) (congrArg b (funext fun a => Fin.ext (by
    match a with
    | ⟨0, _⟩ => rfl
    | ⟨1, _⟩ => rfl)))
  rw [silu_apply, mul_comm]
  have hx : ridx_main_v1 (idx_main_v2 (ix3 l r j)) k = ix2 r k := funext fun a => Fin.ext (by
    match a with
    | ⟨0, _⟩ => rfl
    | ⟨1, _⟩ => rfl)
  have hw : lidx_main_v1 (idx_main_v2 (ix3 l r j)) k = ix3 l k j := funext fun a => Fin.ext (by
    match a with
    | ⟨0, _⟩ => rfl
    | ⟨1, _⟩ => rfl
    | ⟨2, _⟩ => rfl)
  rw [hx, hw]

end reference

/-- The reference runs, leaves its arguments, and ends quiescent. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's array and the reference's are equal, element by element. -/
theorem algebraic : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨(h c).1.trans ?_, (h c).2⟩)
    (Cert.Reference6Ideal.Value.run (F := Ideal) m' ρ')
  obtain ⟨e0, e1, e2⟩ := hagree c
  rw [Cert.Reference6Ideal.Read.val_main_v5_eq, e0, e1, e2]
  refine funext fun i => ?_
  rw [show i = ix3 (i 0) (i 1) (i 2) from (ix3_eta i).symm]
  exact (result _ _ _ (i 0) (i 1) (i 2)).trans (result3 m c (i 0) (i 1) (i 2)).symm

end Cert.Proof.Adaln

end
-- ==== Proof.Fourier.lean ====
/-
  The Fourier transform of the context: the rows' transform by one pair of tables, then each channel group's by another. The
  kernel multiplies by the group tables laid out block by block on a diagonal; the reference sums within a group.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Adequacy
public import Idealize.ShloMosaic.Init

@[expose] public section

noncomputable section

open Idealize.ShloMosaic Idealize.ShloMosaic.TcCoe Idealize.SL.Sem

namespace Cert.Proof.Fourier

/-- The scale, 1/128. -/
abbrev scale : EReal := FloatOps.ofBits (F := Ideal) .f32 0x3C000000#32

section spec
variable (z : FVec Ideal ⟨3, ![8, 256, 256]⟩ .f32) (cn sn : FVec Ideal ⟨2, ![256, 256]⟩ .f32) (c s : FVec Ideal ⟨2, ![64, 64]⟩ .f32)

/-- Row `t` of a table times channel `k` of batch `b`. -/
def rows (a : FVec Ideal ⟨2, ![256, 256]⟩ .f32) (b : Fin 8) (t : Fin 256) (k : Fin 256) : EReal :=
  ∑ u : Fin 256, a (ix2 t u) * z (ix3 b u k)

/-- The real part of the transform at row `t`, group `g` and place `e` of it. -/
def transform (b : Fin 8) (t : Fin 256) (g : Fin 4) (e : Fin 64) : EReal :=
  ((∑ d : Fin 64, rows z cn b t ⟨64 * g + d, by omega⟩ * c (ix2 d e))
    + ∑ d : Fin 64, -rows z sn b t ⟨64 * g + d, by omega⟩ * s (ix2 d e)) * scale

end spec

/-- A sum over the channels against a column that is zero outside one group is the sum over that group. -/
theorem sum_group (f M : Fin 256 → EReal) (C : Fin 64 → EReal) (g : Fin 4)
    (hM : ∀ (h : Fin 4) (d : Fin 64), M ⟨64 * h + d, by omega⟩ = (if h = g then 1 else 0) * C d) :
    ∑ k : Fin 256, f k * M k = ∑ d : Fin 64, f ⟨64 * g + d, by omega⟩ * C d := by
  have e : ∑ k : Fin 256, f k * M k
      = ∑ p : Fin 4 × Fin 64, f ⟨64 * p.1 + p.2, by omega⟩ * M ⟨64 * p.1 + p.2, by omega⟩ := by
    refine (Fintype.sum_equiv (finProdFinEquiv (m := 4) (n := 64)) _ _ fun p => ?_).symm
    have hp : (finProdFinEquiv (m := 4) (n := 64) p : Fin 256) = ⟨64 * p.1 + p.2, by omega⟩ :=
      Fin.ext (Nat.add_comm _ _)
    exact (congrArg (fun k : Fin 256 => f k * M k) hp).symm
  rw [e, Fintype.sum_prod_type, Finset.sum_eq_single g]
  · refine Finset.sum_congr rfl fun d _ => ?_
    rw [hM, if_pos rfl, one_mul]
  · intro h _ hg
    refine Finset.sum_eq_zero fun d _ => ?_
    rw [hM, if_neg hg, zero_mul, mul_zero]
  · exact fun h => absurd (Finset.mem_univ g) h

section kernel
open Cert.Kernel7Ideal Cert.Kernel7Ideal.Gen

section block
variable (x0 : Vec Ideal S1x256x256 .f32) (x1 x2 x3 x4 : Vec Ideal S256x256 .f32) (t j : Fin 256)

/-- One block, from the batch's rows and the four tables. -/
theorem payload :
    k0_pay1 x0 x1 x2 x3 x4 (ix3 0 t j)
      = ((∑ k : Fin 256, (∑ u : Fin 256, x1 (ix2 t u) * x0 (ix3 0 u k)) * x3 (ix2 k j))
        + ∑ k : Fin 256, (-∑ u : Fin 256, x2 (ix2 t u) * x0 (ix3 0 u k)) * x4 (ix2 k j)) * scale := by
  pointwise [k0_pay1]
  simp only [zero_sub]

theorem out5 :
    out0_5 x0 x1 x2 x3 x4 (ix3 0 t j)
      = ((∑ k : Fin 256, (∑ u : Fin 256, x1 (ix2 t u) * x0 (ix3 0 u k)) * x3 (ix2 k j))
        + ∑ k : Fin 256, (-∑ u : Fin 256, x2 (ix2 t u) * x0 (ix3 0 u k)) * x4 (ix2 k j)) * scale := by
  unfold out0_5
  rw [View.canon_cons_unit_lit inb_S1x256x256_S1x256x256_0_0_0 _ _ (by decide),
    View.ld_unit_lit inb_S1x256x256_S1x256x256_0_0_0 _ (by decide), View.ld_unit_lit inb_S256x256_S256x256_0_0 _ (by decide),
    View.ld_unit_lit inb_S256x256_S256x256_0_0 _ (by decide), View.ld_unit_lit inb_S256x256_S256x256_0_0 _ (by decide),
    View.ld_unit_lit inb_S256x256_S256x256_0_0 _ (by decide)]
  exact payload x0 x1 x2 x3 x4 t j

end block

/-- For batch `b` there is a grid point whose windows are that batch's blocks and the whole tables. -/
theorem point : ∀ b : Fin 8, ∃ t : Fin cfg0.N,
    (win0_0.index t (0 : Fin 3) = b.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = b.val ∧ win0_5.index t (1 : Fin 3) = 0 ∧ win0_5.index t (2 : Fin 3) = 0) :=
  (by decide +kernel : ∀ b : Fin 8, ∃ t : Fin grid0.N, _)

/-- The four by four identity the host makes. -/
abbrev eye : FVec Ideal S4x4 .f32 :=
  uitofp .f32 (cmpi .eq (addi (iotaInDim S4x4 32 0) (broadcastInDim S4x4 ![] bcast_S_S4x4 (constantI S_ 32 0#32)))
    (iotaInDim S4x4 32 1))

theorem eye_apply (h g : Fin 4) : eye (ix2 h g) = if h = g then (1 : EReal) else 0 := by
  have e : eye (ix2 h g) = FloatOps.uitofp (F := Ideal) .f32 (IntOp.cmpi .eq (BitVec.ofNat 32 h.val + 0#32) (BitVec.ofNat 32 g.val)) := rfl
  have hb : ∀ h g : Fin 4, IntOp.cmpi .eq (BitVec.ofNat 32 h.val + 0#32) (BitVec.ofNat 32 g.val) = if h = g then 1#1 else 0#1 := by
    decide
  rw [e, hb]
  split
  · simp [FloatOps.uitofp]
  · simp [FloatOps.uitofp]

/-- A group table laid out block by block on the diagonal. -/
abbrev kron (a : FVec Ideal S64x64 .f32) : FVec Ideal S256x256 .f32 :=
  shapeCast S256x256
    (mulf (broadcastInDim S4x64x4x64 ![0, 1, 2, 3] bcast_S4x1x4x1_S4x64x4x64_0_1_2_3 (broadcastInDim S4x1x4x1 ![0, 2] bcast_S4x4_S4x1x4x1_0_2 eye))
      (broadcastInDim S4x64x4x64 ![0, 1, 2, 3] bcast_S1x64x1x64_S4x64x4x64_0_1_2_3 (broadcastInDim S1x64x1x64 ![1, 3] bcast_S64x64_S1x64x1x64_1_3 a)))
    shapeCasts_S4x64x4x64_S256x256

theorem kron_apply (a : FVec Ideal S64x64 .f32) (h g : Fin 4) (d e : Fin 64) :
    kron a (ix2 (⟨64 * h + d, by omega⟩ : Fin 256) (⟨64 * g + e, by omega⟩ : Fin 256)) = (if h = g then 1 else 0) * a (ix2 d e) := by
  rw [← eye_apply]
  refine (shapeCast_apply _ shapeCasts_S4x64x4x64_S256x256 _ (ix4 h d g e)
    (by rewrite [Shape.rowMajor_val_two, Shape.rowMajor_val_four]
        show ((h.val * 64 + d.val) * 4 + g.val) * 64 + e.val = (64 * h.val + d.val) * 256 + (64 * g.val + e.val); omega)).trans ?_
  refine congrArg₂ (fun p q : EReal => p * q) ?_ ?_
  · refine (broadcastInDim_apply _ bcast_S4x1x4x1_S4x64x4x64_0_1_2_3 _ (ix4 h d g e) (ix4 h 0 g 0) (fun a => by
      match a with
      | ⟨0, _⟩ => rfl
      | ⟨1, _⟩ => rfl
      | ⟨2, _⟩ => rfl
      | ⟨3, _⟩ => rfl)).trans ?_
    exact broadcastInDim_apply _ bcast_S4x4_S4x1x4x1_0_2 _ (ix4 h 0 g 0) (ix2 h g) (fun a => by
      match a with
      | ⟨0, _⟩ => rfl
      | ⟨1, _⟩ => rfl)
  · refine (broadcastInDim_apply _ bcast_S1x64x1x64_S4x64x4x64_0_1_2_3 _ (ix4 h d g e) (ix4 0 d 0 e) (fun a => by
      match a with
      | ⟨0, _⟩ => rfl
      | ⟨1, _⟩ => rfl
      | ⟨2, _⟩ => rfl
      | ⟨3, _⟩ => rfl)).trans ?_
    exact broadcastInDim_apply _ bcast_S64x64_S1x64x1x64_1_3 _ (ix4 0 d 0 e) (ix2 d e) (fun a => by
      match a with
      | ⟨0, _⟩ => rfl
      | ⟨1, _⟩ => rfl)

variable (m : (ℓ : Loc nD τ sig) → Buf (Elt Ideal) ℓ) (c : Dev nD)

/-- The five argument arrays. -/
abbrev z : FVec Ideal ⟨3, ![8, 256, 256]⟩ .f32 := m ((c : Thread nD τ).loc main_arg0)
abbrev cn : FVec Ideal ⟨2, ![256, 256]⟩ .f32 := m ((c : Thread nD τ).loc main_arg1)
abbrev sn : FVec Ideal ⟨2, ![256, 256]⟩ .f32 := m ((c : Thread nD τ).loc main_arg2)
abbrev cg : FVec Ideal ⟨2, ![64, 64]⟩ .f32 := m ((c : Thread nD τ).loc main_arg3)
abbrev sg : FVec Ideal ⟨2, ![64, 64]⟩ .f32 := m ((c : Thread nD τ).loc main_arg4)

theorem table6 : (V m c main_v6 : Vec Ideal S256x256 .f32) = kron (cg m c) := by
  unfold V
  simp only [hostOps0, hostOps0_1, hostOps0_2, List.flatten_cons, List.flatten_nil, List.append_nil, List.cons_append, List.nil_append]
  after_results
  rfl

theorem table7 : (V m c main_v7 : Vec Ideal S256x256 .f32) = kron (sg m c) := by
  unfold V
  simp only [hostOps0, hostOps0_1, hostOps0_2, List.flatten_cons, List.flatten_nil, List.append_nil, List.cons_append, List.nil_append]
  after_results
  rfl

section blocks
variable (t : Fin cfg0.N) (b : Fin 8)

theorem block0 (h : win0_0.index t (0 : Fin 3) = b.val ∧ win0_0.index t (1 : Fin 3) = 0 ∧ win0_0.index t (2 : Fin 3) = 0) (u k : Fin 256) :
    (iblk m c 0 t : Vec Ideal S1x256x256 .f32) (ix3 0 u k) = z m c (ix3 b u k) := by
  obtain ⟨h0, h1, h2⟩ := h
  show V m c main_arg0 (((cfg0.win 0).blk t).view.emb (ix3 (0 : Fin 1) u k)) = _
  rw [V_main_arg0]
  refine congrArg (z m c) (funext fun a => Fin.ext ?_)
  match a with
  | ⟨0, _⟩ => show win0_0.index t (0 : Fin 3) * 1 + 1 * 0 = b.val; omega
  | ⟨1, _⟩ => show win0_0.index t (1 : Fin 3) * 256 + 1 * u.val = u.val; omega
  | ⟨2, _⟩ => show win0_0.index t (2 : Fin 3) * 256 + 1 * k.val = k.val; omega

theorem block1 (h : win0_1.index t (0 : Fin 2) = 0 ∧ win0_1.index t (1 : Fin 2) = 0) (u k : Fin 256) :
    (iblk m c 1 t : Vec Ideal S256x256 .f32) (ix2 u k) = cn m c (ix2 u k) := by
  obtain ⟨h0, h1⟩ := h
  show V m c main_arg1 (((cfg0.win 1).blk t).view.emb (ix2 u k)) = _
  rw [V_main_arg1]
  refine congrArg (cn m c) (funext fun a => Fin.ext ?_)
  match a with
  | ⟨0, _⟩ => show win0_1.index t (0 : Fin 2) * 256 + 1 * u.val = u.val; omega
  | ⟨1, _⟩ => show win0_1.index t (1 : Fin 2) * 256 + 1 * k.val = k.val; omega

theorem block2 (h : win0_2.index t (0 : Fin 2) = 0 ∧ win0_2.index t (1 : Fin 2) = 0) (u k : Fin 256) :
    (iblk m c 2 t : Vec Ideal S256x256 .f32) (ix2 u k) = sn m c (ix2 u k) := by
  obtain ⟨h0, h1⟩ := h
  show V m c main_arg2 (((cfg0.win 2).blk t).view.emb (ix2 u k)) = _
  rw [V_main_arg2]
  refine congrArg (sn m c) (funext fun a => Fin.ext ?_)
  match a with
  | ⟨0, _⟩ => show win0_2.index t (0 : Fin 2) * 256 + 1 * u.val = u.val; omega
  | ⟨1, _⟩ => show win0_2.index t (1 : Fin 2) * 256 + 1 * k.val = k.val; omega

theorem block3 (h : win0_3.index t (0 : Fin 2) = 0 ∧ win0_3.index t (1 : Fin 2) = 0) (u k : Fin 256) :
    (iblk m c 3 t : Vec Ideal S256x256 .f32) (ix2 u k) = kron (cg m c) (ix2 u k) := by
  obtain ⟨h0, h1⟩ := h
  rw [← table6]
  show V m c main_v6 (((cfg0.win 3).blk t).view.emb (ix2 u k)) = _
  refine congrArg (V m c main_v6) (funext fun a => Fin.ext ?_)
  match a with
  | ⟨0, _⟩ => show win0_3.index t (0 : Fin 2) * 256 + 1 * u.val = u.val; omega
  | ⟨1, _⟩ => show win0_3.index t (1 : Fin 2) * 256 + 1 * k.val = k.val; omega

theorem block4 (h : win0_4.index t (0 : Fin 2) = 0 ∧ win0_4.index t (1 : Fin 2) = 0) (u k : Fin 256) :
    (iblk m c 4 t : Vec Ideal S256x256 .f32) (ix2 u k) = kron (sg m c) (ix2 u k) := by
  obtain ⟨h0, h1⟩ := h
  rw [← table7]
  show V m c main_v7 (((cfg0.win 4).blk t).view.emb (ix2 u k)) = _
  refine congrArg (V m c main_v7) (funext fun a => Fin.ext ?_)
  match a with
  | ⟨0, _⟩ => show win0_4.index t (0 : Fin 2) * 256 + 1 * u.val = u.val; omega
  | ⟨1, _⟩ => show win0_4.index t (1 : Fin 2) * 256 + 1 * k.val = k.val; omega

/-- The index of the array a point's block places `(0, r, j)` at. -/
theorem place5 (h : win0_5.index t (0 : Fin 3) = b.val ∧ win0_5.index t (1 : Fin 3) = 0 ∧ win0_5.index t (2 : Fin 3) = 0) (r j : Fin 256) :
    ((cfg0.win 5).blk t).view.emb (ix3 (0 : Fin 1) r j) = (ix3 b r j : S8x256x256.Idx) := by
  obtain ⟨h0, h1, h2⟩ := h
  refine funext fun a => Fin.ext ?_
  match a with
  | ⟨0, _⟩ => show win0_5.index t (0 : Fin 3) * 1 + 1 * 0 = b.val; omega
  | ⟨1, _⟩ => show win0_5.index t (1 : Fin 3) * 256 + 1 * r.val = r.val; omega
  | ⟨2, _⟩ => show win0_5.index t (2 : Fin 3) * 256 + 1 * j.val = j.val; omega

end blocks

/-- Every element of the kernel's array is the transform. -/
theorem result5 (b : Fin 8) (r : Fin 256) (g : Fin 4) (e : Fin 64) :
    (dats m 0 c).arrAt 5 cfg0.N (ix3 b r (⟨64 * g + e, by omega⟩ : Fin 256) : S8x256x256.Idx)
      = transform (z m c) (cn m c) (sn m c) (cg m c) (sg m c) b r g e := by
  obtain ⟨t, h0, h1, h2, h3, h4, h5⟩ := point b
  have B := congrFun (Cert.Kernel7Ideal.Value.blocks5 m c t (flush0_5 t)) (ix3 (0 : Fin 1) r (⟨64 * g + e, by omega⟩ : Fin 256))
  rw [Cert.Kernel7Ideal.Value.flushed5] at B
  have B' : (dats m 0 c).arrAt 5 cfg0.N (((cfg0.win 5).blk t).view.emb (ix3 (0 : Fin 1) r (⟨64 * g + e, by omega⟩ : Fin 256)))
    = out0_5 (iblk m c 0 t) (iblk m c 1 t) (iblk m c 2 t) (iblk m c 3 t) (iblk m c 4 t) (ix3 (0 : Fin 1) r (⟨64 * g + e, by omega⟩ : Fin 256)) := B
  rw [place5 t b h5, out5] at B'
  simp only [block0 m c t b h0, block1 m c t h1, block2 m c t h2, block3 m c t h3, block4 m c t h4] at B'
  refine B'.trans ?_
  refine congrArg (fun q : EReal => q * scale) (congrArg₂ (fun p q : EReal => p + q) ?_ ?_)
  · exact sum_group (fun k => rows (z m c) (cn m c) b r k) (fun k => kron (cg m c) (ix2 k (⟨64 * g + e, by omega⟩ : Fin 256)))
      (fun d => cg m c (ix2 d e)) g (fun h d => kron_apply (cg m c) h g d e)
  · exact sum_group (fun k => -rows (z m c) (sn m c) b r k) (fun k => kron (sg m c) (ix2 k (⟨64 * g + e, by omega⟩ : Fin 256)))
      (fun d => sg m c (ix2 d e)) g (fun h d => kron_apply (sg m c) h g d e)

end kernel

section reference
open Cert.Reference7Ideal Cert.Reference7Ideal.Gen Cert.Reference7Ideal.Read

variable (z : FVec Ideal ⟨3, ![8, 256, 256]⟩ .f32) (cn sn : FVec Ideal ⟨2, ![256, 256]⟩ .f32) (c s : FVec Ideal ⟨2, ![64, 64]⟩ .f32)

/-- The channels cut in four groups. -/
theorem groups (b : Fin 8) (u : Fin 256) (g : Fin 4) (d : Fin 64) :
    val_main_v0 (F := Ideal) z (ix4 b u g d) = z (ix3 b u ⟨64 * g + d, by omega⟩) := by
  rw [val_main_v0_apply]
  refine congrArg z (funext fun a => Fin.ext ?_)
  match a with
  | ⟨0, _⟩ => show (((b.val * 256 + u.val) * 4 + g.val) * 64 + d.val) / 65536 = b.val; omega
  | ⟨1, _⟩ => show (((b.val * 256 + u.val) * 4 + g.val) * 64 + d.val) / 256 % 256 = u.val; omega
  | ⟨2, _⟩ => show (((b.val * 256 + u.val) * 4 + g.val) * 64 + d.val) % 256 = 64 * g.val + d.val; omega

theorem real (b : Fin 8) (t : Fin 256) (g : Fin 4) (d : Fin 64) :
    val_main_v2 (F := Ideal) z cn (ix4 b t g d) = rows z cn b t ⟨64 * g + d, by omega⟩ := by
  rw [val_main_v2_apply, val_main_v1_apply]
  refine Finset.sum_congr rfl fun u _ => ?_
  rw [mul_comm, ← groups z b u g d]
  refine congrArg₂ (fun p q : EReal => p * q) (congrArg cn (funext fun a => Fin.ext ?_)) (congrArg (val_main_v0 (F := Ideal) z) (funext fun a => Fin.ext ?_))
  · match a with
    | ⟨0, _⟩ => rfl
    | ⟨1, _⟩ => rfl
  · match a with
    | ⟨0, _⟩ => rfl
    | ⟨1, _⟩ => rfl
    | ⟨2, _⟩ => rfl
    | ⟨3, _⟩ => rfl

theorem imaginary (b : Fin 8) (t : Fin 256) (g : Fin 4) (d : Fin 64) :
    val_main_v5 (F := Ideal) z sn (ix4 b t g d) = -rows z sn b t ⟨64 * g + d, by omega⟩ := by
  rw [val_main_v5_apply]
  exact congrArg (fun q : EReal => -q) (real z sn b t g d)

/-- Every element of the reference's array is the transform. -/
theorem result (b : Fin 8) (t : Fin 256) (g : Fin 4) (e : Fin 64) :
    val_main_v11 (F := Ideal) z cn sn c s (ix3 b t (⟨64 * g + e, by omega⟩ : Fin 256)) = transform z cn sn c s b t g e := by
  rw [val_main_v11_apply]
  have hi : idx_main_v11 (ix3 b t (⟨64 * g + e, by omega⟩ : Fin 256)) = ix4 b t g e := funext fun a => Fin.ext (by
    match a with
    | ⟨0, _⟩ => show ((b.val * 256 + t.val) * 256 + (64 * g.val + e.val)) / 65536 = b.val; omega
    | ⟨1, _⟩ => show ((b.val * 256 + t.val) * 256 + (64 * g.val + e.val)) / 256 % 256 = t.val; omega
    | ⟨2, _⟩ => show ((b.val * 256 + t.val) * 256 + (64 * g.val + e.val)) / 64 % 4 = g.val; omega
    | ⟨3, _⟩ => show ((b.val * 256 + t.val) * 256 + (64 * g.val + e.val)) % 64 = e.val; omega)
  rw [hi, val_main_v10_apply, val_main_v9_apply, val_main_cst_apply, val_main_v8_apply, val_main_v6_apply, val_main_v7_apply]
  refine congrArg (fun q : EReal => q * scale) (congrArg₂ (fun p q : EReal => p + q) (Finset.sum_congr rfl fun d _ => ?_)
    (Finset.sum_congr rfl fun d _ => ?_))
  · refine congrArg₂ (fun p q : EReal => p * q) ((congrArg (val_main_v2 (F := Ideal) z cn) (funext fun a => Fin.ext ?_)).trans (real z cn b t g d))
      (congrArg c (funext fun a => Fin.ext ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
  · refine congrArg₂ (fun p q : EReal => p * q) ((congrArg (val_main_v5 (F := Ideal) z sn) (funext fun a => Fin.ext ?_)).trans (imaginary z sn b t g d))
      (congrArg s (funext fun a => Fin.ext ?_))
    · match a with
      | ⟨0, _⟩ => rfl
      | ⟨1, _⟩ => rfl
      | ⟨2, _⟩ => rfl
      | ⟨3, _⟩ => rfl
    · match a with
      | ⟨0, _⟩ => rfl
      | ⟨1, _⟩ => rfl

end reference

/-- The reference runs, leaves its arguments, and ends quiescent. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel's array and the reference's are equal, element by element. -/
theorem algebraic : Cert.algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨(h c).1.trans ?_, (h c).2⟩)
    (Cert.Reference7Ideal.Value.run (F := Ideal) m' ρ')
  obtain ⟨e0, e1, e2, e3, e4⟩ := hagree c
  rw [Cert.Reference7Ideal.Read.val_main_v11_eq, e0, e1, e2, e3, e4]
  refine funext fun i => ?_
  have hl : (i 2).val < 256 := (i 2).isLt
  have hj : (i 2 : Fin 256) = ⟨64 * ((i 2).val / 64) + (i 2).val % 64, by omega⟩ := Fin.ext (by
    show (i 2).val = 64 * ((i 2).val / 64) + (i 2).val % 64; omega)
  rw [show i = ix3 (i 0) (i 1) (⟨64 * ((i 2).val / 64) + (i 2).val % 64, by omega⟩ : Fin 256) from
    (ix3_eta i).symm.trans (congrArg (fun j : Fin 256 => ix3 (i 0) (i 1) j) hj)]
  exact (result _ _ _ _ _ (i 0) (i 1) ⟨(i 2).val / 64, by omega⟩ ⟨(i 2).val % 64, Nat.mod_lt _ (by omega)⟩).trans
    (result5 m c (i 0) (i 1) ⟨(i 2).val / 64, by omega⟩ ⟨(i 2).val % 64, Nat.mod_lt _ (by omega)⟩).symm

end Cert.Proof.Fourier

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_ones_lane
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_zero_lanes
public import proofs.«01_k».proof.Proof.Attention
public import proofs.«01_k».proof.Proof.Inproj
public import proofs.«01_k».proof.Proof.Merge
public import proofs.«01_k».proof.Proof.Scores
public import proofs.«01_k».proof.Proof.Prep
public import proofs.«01_k».proof.Proof.Adaln
public import proofs.«01_k».proof.Proof.Fourier
public import Idealize.ShloMosaic.Adequacy
public import Idealize.ShloMosaic.Init

@[expose] public section

noncomputable section

namespace Cert.Proof

open Idealize.ShloMosaic Idealize.SL.Sem Cert.Kernel

/-- Every claim: the frames, the idealizations, and the equality of the results of the seven calls. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Pre.facts, ScorePre.facts, PrepPre.facts,
    fun m ρ _ => Cert.Kernel.Gen.frame m ρ, fun m ρ _ => Cert.KernelIdeal.Gen.frame m ρ,
    fun m ρ _ => Cert.KernelIdeal.Gen.frame m ρ, Attention.frame_reference,
    fun m ρ _ => Attention.frame_reference m ρ trivial,
    fun m ρ _ => Cert.Kernel2.Gen.frame m ρ, fun m ρ _ => Cert.Kernel2Ideal.Gen.frame m ρ, Inproj.frame_reference,
    fun m ρ _ => Cert.Kernel3.Gen.frame m ρ, fun m ρ _ => Cert.Kernel3Ideal.Gen.frame m ρ, Merge.frame_reference,
    fun m ρ _ => Cert.Kernel4.Gen.frame m ρ, fun m ρ _ => Cert.Kernel4Ideal.Gen.frame m ρ,
    fun m ρ _ => Cert.Kernel4Ideal.Gen.frame m ρ, Scores.frame_reference, fun m ρ _ => Scores.frame_reference m ρ trivial,
    fun m ρ _ => Cert.Kernel5.Gen.frame m ρ, fun m ρ _ => Cert.Kernel5Ideal.Gen.frame m ρ,
    fun m ρ _ => Cert.Kernel5Ideal.Gen.frame m ρ, Prep.frame_reference, fun m ρ _ => Prep.frame_reference m ρ trivial,
    fun m ρ _ => Cert.Kernel6.Gen.frame m ρ, fun m ρ _ => Cert.Kernel6Ideal.Gen.frame m ρ, Adaln.frame_reference,
    fun m ρ _ => Cert.Kernel7.Gen.frame m ρ, fun m ρ _ => Cert.Kernel7Ideal.Gen.frame m ρ, Fourier.frame_reference,
    trivial, Attention.algebraic, trivial, Inproj.algebraic, trivial, Merge.algebraic,
    trivial, Scores.algebraic, Prep.preserves, Prep.algebraic, trivial, Adaln.algebraic, trivial, Fourier.algebraic⟩

end Cert.Proof

end
